-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamAdaKernel (m : (ℓ : Loc Cert.AdamAdaKernel.nD Cert.AdamAdaKernel.τ Cert.AdamAdaKernel.sig) → Buf (Elt Bits) ℓ) : Prop :=
  True

def Pre_AdamAdaKernelIdeal (m : (ℓ : Loc Cert.AdamAdaKernelIdeal.nD Cert.AdamAdaKernelIdeal.τ Cert.AdamAdaKernelIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10)
      ∧ r.2.mem ((c.tc : Thread Cert.InKernel.nD Cert.InKernel.τ).loc Cert.InKernel.main_arg11) = m ((c.tc : Thread Cert.InKernel.nD Cert.InKernel.τ).loc Cert.InKernel.main_arg11))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10)
      ∧ r.2.mem ((c.tc : Thread Cert.InKernelIdeal.nD Cert.InKernelIdeal.τ).loc Cert.InKernelIdeal.main_arg11) = m ((c.tc : Thread Cert.InKernelIdeal.nD Cert.InKernelIdeal.τ).loc Cert.InKernelIdeal.main_arg11))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10)
      ∧ r.2.mem ((c.tc : Thread Cert.InReferenceIdeal.nD Cert.InReferenceIdeal.τ).loc Cert.InReferenceIdeal.main_arg11) = m ((c.tc : Thread Cert.InReferenceIdeal.nD Cert.InReferenceIdeal.τ).loc Cert.InReferenceIdeal.main_arg11))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2)
      ∧ r.2.mem ((c.tc : Thread Cert.DwKernel.nD Cert.DwKernel.τ).loc Cert.DwKernel.main_arg3) = m ((c.tc : Thread Cert.DwKernel.nD Cert.DwKernel.τ).loc Cert.DwKernel.main_arg3)
      ∧ r.2.mem ((c.tc : Thread Cert.DwKernel.nD Cert.DwKernel.τ).loc Cert.DwKernel.main_arg4) = m ((c.tc : Thread Cert.DwKernel.nD Cert.DwKernel.τ).loc Cert.DwKernel.main_arg4)
      ∧ r.2.mem ((c.tc : Thread Cert.DwKernel.nD Cert.DwKernel.τ).loc Cert.DwKernel.main_arg5) = m ((c.tc : Thread Cert.DwKernel.nD Cert.DwKernel.τ).loc Cert.DwKernel.main_arg5)
      ∧ r.2.mem ((c.tc : Thread Cert.DwKernel.nD Cert.DwKernel.τ).loc Cert.DwKernel.main_arg6) = m ((c.tc : Thread Cert.DwKernel.nD Cert.DwKernel.τ).loc Cert.DwKernel.main_arg6)
      ∧ r.2.mem ((c.tc : Thread Cert.DwKernel.nD Cert.DwKernel.τ).loc Cert.DwKernel.main_arg7) = m ((c.tc : Thread Cert.DwKernel.nD Cert.DwKernel.τ).loc Cert.DwKernel.main_arg7)
      ∧ r.2.mem ((c.tc : Thread Cert.DwKernel.nD Cert.DwKernel.τ).loc Cert.DwKernel.main_arg8) = m ((c.tc : Thread Cert.DwKernel.nD Cert.DwKernel.τ).loc Cert.DwKernel.main_arg8))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
      ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
      ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4)
      ∧ r.2.mem ((c.tc : Thread Cert.DwKernelIdeal.nD Cert.DwKernelIdeal.τ).loc Cert.DwKernelIdeal.main_arg5) = m ((c.tc : Thread Cert.DwKernelIdeal.nD Cert.DwKernelIdeal.τ).loc Cert.DwKernelIdeal.main_arg5)
      ∧ r.2.mem ((c.tc : Thread Cert.DwKernelIdeal.nD Cert.DwKernelIdeal.τ).loc Cert.DwKernelIdeal.main_arg6) = m ((c.tc : Thread Cert.DwKernelIdeal.nD Cert.DwKernelIdeal.τ).loc Cert.DwKernelIdeal.main_arg6)
      ∧ r.2.mem ((c.tc : Thread Cert.DwKernelIdeal.nD Cert.DwKernelIdeal.τ).loc Cert.DwKernelIdeal.main_arg7) = m ((c.tc : Thread Cert.DwKernelIdeal.nD Cert.DwKernelIdeal.τ).loc Cert.DwKernelIdeal.main_arg7)
      ∧ r.2.mem ((c.tc : Thread Cert.DwKernelIdeal.nD Cert.DwKernelIdeal.τ).loc Cert.DwKernelIdeal.main_arg8) = m ((c.tc : Thread Cert.DwKernelIdeal.nD Cert.DwKernelIdeal.τ).loc Cert.DwKernelIdeal.main_arg8))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2)
      ∧ r.2.mem ((c.tc : Thread Cert.DwReferenceIdeal.nD Cert.DwReferenceIdeal.τ).loc Cert.DwReferenceIdeal.main_arg3) = m ((c.tc : Thread Cert.DwReferenceIdeal.nD Cert.DwReferenceIdeal.τ).loc Cert.DwReferenceIdeal.main_arg3)
      ∧ r.2.mem ((c.tc : Thread Cert.DwReferenceIdeal.nD Cert.DwReferenceIdeal.τ).loc Cert.DwReferenceIdeal.main_arg4) = m ((c.tc : Thread Cert.DwReferenceIdeal.nD Cert.DwReferenceIdeal.τ).loc Cert.DwReferenceIdeal.main_arg4)
      ∧ r.2.mem ((c.tc : Thread Cert.DwReferenceIdeal.nD Cert.DwReferenceIdeal.τ).loc Cert.DwReferenceIdeal.main_arg5) = m ((c.tc : Thread Cert.DwReferenceIdeal.nD Cert.DwReferenceIdeal.τ).loc Cert.DwReferenceIdeal.main_arg5)
      ∧ r.2.mem ((c.tc : Thread Cert.DwReferenceIdeal.nD Cert.DwReferenceIdeal.τ).loc Cert.DwReferenceIdeal.main_arg6) = m ((c.tc : Thread Cert.DwReferenceIdeal.nD Cert.DwReferenceIdeal.τ).loc Cert.DwReferenceIdeal.main_arg6)
      ∧ r.2.mem ((c.tc : Thread Cert.DwReferenceIdeal.nD Cert.DwReferenceIdeal.τ).loc Cert.DwReferenceIdeal.main_arg7) = m ((c.tc : Thread Cert.DwReferenceIdeal.nD Cert.DwReferenceIdeal.τ).loc Cert.DwReferenceIdeal.main_arg7)
      ∧ r.2.mem ((c.tc : Thread Cert.DwReferenceIdeal.nD Cert.DwReferenceIdeal.τ).loc Cert.DwReferenceIdeal.main_arg8) = m ((c.tc : Thread Cert.DwReferenceIdeal.nD Cert.DwReferenceIdeal.τ).loc Cert.DwReferenceIdeal.main_arg8))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamAdaKernel [hAdamAdaKernel : Cert.AdamAdaKernel.Facts] : Prop :=
  ∀ (m : (ℓ : Loc Cert.AdamAdaKernel.nD Cert.AdamAdaKernel.τ Cert.AdamAdaKernel.sig) → Buf (Elt Bits) ℓ) (g : Dev Cert.AdamAdaKernel.nD → PrngReg), Pre_AdamAdaKernel m →
    θ_run (Cert.AdamAdaKernel.defs (F := Bits)) (onTc (τ := Cert.AdamAdaKernel.τ) (Cert.AdamAdaKernel.main (F := Bits))) ⟨m, fun _ => 0, g⟩ (fun r => (∀ c : Dev Cert.AdamAdaKernel.nD,
      r.2.mem ((c.tc : Thread Cert.AdamAdaKernel.nD Cert.AdamAdaKernel.τ).loc Cert.AdamAdaKernel.main_arg0) = m ((c.tc : Thread Cert.AdamAdaKernel.nD Cert.AdamAdaKernel.τ).loc Cert.AdamAdaKernel.main_arg0)
      ∧ r.2.mem ((c.tc : Thread Cert.AdamAdaKernel.nD Cert.AdamAdaKernel.τ).loc Cert.AdamAdaKernel.main_arg1) = m ((c.tc : Thread Cert.AdamAdaKernel.nD Cert.AdamAdaKernel.τ).loc Cert.AdamAdaKernel.main_arg1)
      ∧ r.2.mem ((c.tc : Thread Cert.AdamAdaKernel.nD Cert.AdamAdaKernel.τ).loc Cert.AdamAdaKernel.main_arg2) = m ((c.tc : Thread Cert.AdamAdaKernel.nD Cert.AdamAdaKernel.τ).loc Cert.AdamAdaKernel.main_arg2)
      ∧ r.2.mem ((c.tc : Thread Cert.AdamAdaKernel.nD Cert.AdamAdaKernel.τ).loc Cert.AdamAdaKernel.main_arg3) = m ((c.tc : Thread Cert.AdamAdaKernel.nD Cert.AdamAdaKernel.τ).loc Cert.AdamAdaKernel.main_arg3))
      ∧ r.2.sem = fun _ => 0)

def quiescent_AdamAdaKernelIdeal [hAdamAdaKernelIdeal : Cert.AdamAdaKernelIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg), Pre_AdamAdaKernelIdeal m →
    θ_run (Cert.AdamAdaKernelIdeal.defs (F := Ideal)) (onTc (τ := Cert.AdamAdaKernelIdeal.τ) (Cert.AdamAdaKernelIdeal.main (F := Ideal))) ⟨m, fun _ => 0, g⟩ (fun r => (∀ c : Dev Cert.AdamAdaKernelIdeal.nD,
      r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
      ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
      ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
      ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3)
      ∧ r.2.mem ((c.tc : Thread Cert.AdamSmallKernel.nD Cert.AdamSmallKernel.τ).loc Cert.AdamSmallKernel.main_arg4) = m ((c.tc : Thread Cert.AdamSmallKernel.nD Cert.AdamSmallKernel.τ).loc Cert.AdamSmallKernel.main_arg4)
      ∧ r.2.mem ((c.tc : Thread Cert.AdamSmallKernel.nD Cert.AdamSmallKernel.τ).loc Cert.AdamSmallKernel.main_arg5) = m ((c.tc : Thread Cert.AdamSmallKernel.nD Cert.AdamSmallKernel.τ).loc Cert.AdamSmallKernel.main_arg5)
      ∧ r.2.mem ((c.tc : Thread Cert.AdamSmallKernel.nD Cert.AdamSmallKernel.τ).loc Cert.AdamSmallKernel.main_arg6) = m ((c.tc : Thread Cert.AdamSmallKernel.nD Cert.AdamSmallKernel.τ).loc Cert.AdamSmallKernel.main_arg6)
      ∧ r.2.mem ((c.tc : Thread Cert.AdamSmallKernel.nD Cert.AdamSmallKernel.τ).loc Cert.AdamSmallKernel.main_arg7) = m ((c.tc : Thread Cert.AdamSmallKernel.nD Cert.AdamSmallKernel.τ).loc Cert.AdamSmallKernel.main_arg7)
      ∧ r.2.mem ((c.tc : Thread Cert.AdamSmallKernel.nD Cert.AdamSmallKernel.τ).loc Cert.AdamSmallKernel.main_arg8) = m ((c.tc : Thread Cert.AdamSmallKernel.nD Cert.AdamSmallKernel.τ).loc Cert.AdamSmallKernel.main_arg8)
      ∧ r.2.mem ((c.tc : Thread Cert.AdamSmallKernel.nD Cert.AdamSmallKernel.τ).loc Cert.AdamSmallKernel.main_arg9) = m ((c.tc : Thread Cert.AdamSmallKernel.nD Cert.AdamSmallKernel.τ).loc Cert.AdamSmallKernel.main_arg9)
      ∧ r.2.mem ((c.tc : Thread Cert.AdamSmallKernel.nD Cert.AdamSmallKernel.τ).loc Cert.AdamSmallKernel.main_arg10) = m ((c.tc : Thread Cert.AdamSmallKernel.nD Cert.AdamSmallKernel.τ).loc Cert.AdamSmallKernel.main_arg10)
      ∧ r.2.mem ((c.tc : Thread Cert.AdamSmallKernel.nD Cert.AdamSmallKernel.τ).loc Cert.AdamSmallKernel.main_arg11) = m ((c.tc : Thread Cert.AdamSmallKernel.nD Cert.AdamSmallKernel.τ).loc Cert.AdamSmallKernel.main_arg11)
      ∧ r.2.mem ((c.tc : Thread Cert.AdamSmallKernel.nD Cert.AdamSmallKernel.τ).loc Cert.AdamSmallKernel.main_arg12) = m ((c.tc : Thread Cert.AdamSmallKernel.nD Cert.AdamSmallKernel.τ).loc Cert.AdamSmallKernel.main_arg12)
      ∧ r.2.mem ((c.tc : Thread Cert.AdamSmallKernel.nD Cert.AdamSmallKernel.τ).loc Cert.AdamSmallKernel.main_arg13) = m ((c.tc : Thread Cert.AdamSmallKernel.nD Cert.AdamSmallKernel.τ).loc Cert.AdamSmallKernel.main_arg13)
      ∧ r.2.mem ((c.tc : Thread Cert.AdamSmallKernel.nD Cert.AdamSmallKernel.τ).loc Cert.AdamSmallKernel.main_arg14) = m ((c.tc : Thread Cert.AdamSmallKernel.nD Cert.AdamSmallKernel.τ).loc Cert.AdamSmallKernel.main_arg14)
      ∧ r.2.mem ((c.tc : Thread Cert.AdamSmallKernel.nD Cert.AdamSmallKernel.τ).loc Cert.AdamSmallKernel.main_arg15) = m ((c.tc : Thread Cert.AdamSmallKernel.nD Cert.AdamSmallKernel.τ).loc Cert.AdamSmallKernel.main_arg15)
      ∧ r.2.mem ((c.tc : Thread Cert.AdamSmallKernel.nD Cert.AdamSmallKernel.τ).loc Cert.AdamSmallKernel.main_arg16) = m ((c.tc : Thread Cert.AdamSmallKernel.nD Cert.AdamSmallKernel.τ).loc Cert.AdamSmallKernel.main_arg16)
      ∧ r.2.mem ((c.tc : Thread Cert.AdamSmallKernel.nD Cert.AdamSmallKernel.τ).loc Cert.AdamSmallKernel.main_arg17) = m ((c.tc : Thread Cert.AdamSmallKernel.nD Cert.AdamSmallKernel.τ).loc Cert.AdamSmallKernel.main_arg17)
      ∧ r.2.mem ((c.tc : Thread Cert.AdamSmallKernel.nD Cert.AdamSmallKernel.τ).loc Cert.AdamSmallKernel.main_arg18) = m ((c.tc : Thread Cert.AdamSmallKernel.nD Cert.AdamSmallKernel.τ).loc Cert.AdamSmallKernel.main_arg18)
      ∧ r.2.mem ((c.tc : Thread Cert.AdamSmallKernel.nD Cert.AdamSmallKernel.τ).loc Cert.AdamSmallKernel.main_arg19) = m ((c.tc : Thread Cert.AdamSmallKernel.nD Cert.AdamSmallKernel.τ).loc Cert.AdamSmallKernel.main_arg19)
      ∧ r.2.mem ((c.tc : Thread Cert.AdamSmallKernel.nD Cert.AdamSmallKernel.τ).loc Cert.AdamSmallKernel.main_arg20) = m ((c.tc : Thread Cert.AdamSmallKernel.nD Cert.AdamSmallKernel.τ).loc Cert.AdamSmallKernel.main_arg20)
      ∧ r.2.mem ((c.tc : Thread Cert.AdamSmallKernel.nD Cert.AdamSmallKernel.τ).loc Cert.AdamSmallKernel.main_arg21) = m ((c.tc : Thread Cert.AdamSmallKernel.nD Cert.AdamSmallKernel.τ).loc Cert.AdamSmallKernel.main_arg21)
      ∧ r.2.mem ((c.tc : Thread Cert.AdamSmallKernel.nD Cert.AdamSmallKernel.τ).loc Cert.AdamSmallKernel.main_arg22) = m ((c.tc : Thread Cert.AdamSmallKernel.nD Cert.AdamSmallKernel.τ).loc Cert.AdamSmallKernel.main_arg22)
      ∧ r.2.mem ((c.tc : Thread Cert.AdamSmallKernel.nD Cert.AdamSmallKernel.τ).loc Cert.AdamSmallKernel.main_arg23) = m ((c.tc : Thread Cert.AdamSmallKernel.nD Cert.AdamSmallKernel.τ).loc Cert.AdamSmallKernel.main_arg23)
      ∧ r.2.mem ((c.tc : Thread Cert.AdamSmallKernel.nD Cert.AdamSmallKernel.τ).loc Cert.AdamSmallKernel.main_arg24) = m ((c.tc : Thread Cert.AdamSmallKernel.nD Cert.AdamSmallKernel.τ).loc Cert.AdamSmallKernel.main_arg24)
      ∧ r.2.mem ((c.tc : Thread Cert.AdamSmallKernel.nD Cert.AdamSmallKernel.τ).loc Cert.AdamSmallKernel.main_arg25) = m ((c.tc : Thread Cert.AdamSmallKernel.nD Cert.AdamSmallKernel.τ).loc Cert.AdamSmallKernel.main_arg25)
      ∧ r.2.mem ((c.tc : Thread Cert.AdamSmallKernel.nD Cert.AdamSmallKernel.τ).loc Cert.AdamSmallKernel.main_arg26) = m ((c.tc : Thread Cert.AdamSmallKernel.nD Cert.AdamSmallKernel.τ).loc Cert.AdamSmallKernel.main_arg26)
      ∧ r.2.mem ((c.tc : Thread Cert.AdamSmallKernel.nD Cert.AdamSmallKernel.τ).loc Cert.AdamSmallKernel.main_arg27) = m ((c.tc : Thread Cert.AdamSmallKernel.nD Cert.AdamSmallKernel.τ).loc Cert.AdamSmallKernel.main_arg27)
      ∧ r.2.mem ((c.tc : Thread Cert.AdamSmallKernel.nD Cert.AdamSmallKernel.τ).loc Cert.AdamSmallKernel.main_arg28) = m ((c.tc : Thread Cert.AdamSmallKernel.nD Cert.AdamSmallKernel.τ).loc Cert.AdamSmallKernel.main_arg28)
      ∧ r.2.mem ((c.tc : Thread Cert.AdamSmallKernel.nD Cert.AdamSmallKernel.τ).loc Cert.AdamSmallKernel.main_arg29) = m ((c.tc : Thread Cert.AdamSmallKernel.nD Cert.AdamSmallKernel.τ).loc Cert.AdamSmallKernel.main_arg29)
      ∧ r.2.mem ((c.tc : Thread Cert.AdamSmallKernel.nD Cert.AdamSmallKernel.τ).loc Cert.AdamSmallKernel.main_arg30) = m ((c.tc : Thread Cert.AdamSmallKernel.nD Cert.AdamSmallKernel.τ).loc Cert.AdamSmallKernel.main_arg30)
      ∧ r.2.mem ((c.tc : Thread Cert.AdamSmallKernel.nD Cert.AdamSmallKernel.τ).loc Cert.AdamSmallKernel.main_arg31) = m ((c.tc : Thread Cert.AdamSmallKernel.nD Cert.AdamSmallKernel.τ).loc Cert.AdamSmallKernel.main_arg31)
      ∧ r.2.mem ((c.tc : Thread Cert.AdamSmallKernel.nD Cert.AdamSmallKernel.τ).loc Cert.AdamSmallKernel.main_arg32) = m ((c.tc : Thread Cert.AdamSmallKernel.nD Cert.AdamSmallKernel.τ).loc Cert.AdamSmallKernel.main_arg32)
      ∧ r.2.mem ((c.tc : Thread Cert.AdamSmallKernel.nD Cert.AdamSmallKernel.τ).loc Cert.AdamSmallKernel.main_arg33) = m ((c.tc : Thread Cert.AdamSmallKernel.nD Cert.AdamSmallKernel.τ).loc Cert.AdamSmallKernel.main_arg33)
      ∧ r.2.mem ((c.tc : Thread Cert.AdamSmallKernel.nD Cert.AdamSmallKernel.τ).loc Cert.AdamSmallKernel.main_arg34) = m ((c.tc : Thread Cert.AdamSmallKernel.nD Cert.AdamSmallKernel.τ).loc Cert.AdamSmallKernel.main_arg34)
      ∧ r.2.mem ((c.tc : Thread Cert.AdamSmallKernel.nD Cert.AdamSmallKernel.τ).loc Cert.AdamSmallKernel.main_arg35) = m ((c.tc : Thread Cert.AdamSmallKernel.nD Cert.AdamSmallKernel.τ).loc Cert.AdamSmallKernel.main_arg35))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
      ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
      ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
      ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
      ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
      ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
      ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
      ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
      ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
      ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
      ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
      ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
      ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
      ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
      ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
      ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
      ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
      ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
      ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
      ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
      ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
      ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
      ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
      ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
      ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
      ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
      ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
      ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
      ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31)
      ∧ r.2.mem ((c.tc : Thread Cert.AdamSmallKernelIdeal.nD Cert.AdamSmallKernelIdeal.τ).loc Cert.AdamSmallKernelIdeal.main_arg32) = m ((c.tc : Thread Cert.AdamSmallKernelIdeal.nD Cert.AdamSmallKernelIdeal.τ).loc Cert.AdamSmallKernelIdeal.main_arg32)
      ∧ r.2.mem ((c.tc : Thread Cert.AdamSmallKernelIdeal.nD Cert.AdamSmallKernelIdeal.τ).loc Cert.AdamSmallKernelIdeal.main_arg33) = m ((c.tc : Thread Cert.AdamSmallKernelIdeal.nD Cert.AdamSmallKernelIdeal.τ).loc Cert.AdamSmallKernelIdeal.main_arg33)
      ∧ r.2.mem ((c.tc : Thread Cert.AdamSmallKernelIdeal.nD Cert.AdamSmallKernelIdeal.τ).loc Cert.AdamSmallKernelIdeal.main_arg34) = m ((c.tc : Thread Cert.AdamSmallKernelIdeal.nD Cert.AdamSmallKernelIdeal.τ).loc Cert.AdamSmallKernelIdeal.main_arg34)
      ∧ r.2.mem ((c.tc : Thread Cert.AdamSmallKernelIdeal.nD Cert.AdamSmallKernelIdeal.τ).loc Cert.AdamSmallKernelIdeal.main_arg35) = m ((c.tc : Thread Cert.AdamSmallKernelIdeal.nD Cert.AdamSmallKernelIdeal.τ).loc Cert.AdamSmallKernelIdeal.main_arg35))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31)
      ∧ r.2.mem ((c.tc : Thread Cert.AdamSmallReferenceIdeal.nD Cert.AdamSmallReferenceIdeal.τ).loc Cert.AdamSmallReferenceIdeal.main_arg32) = m ((c.tc : Thread Cert.AdamSmallReferenceIdeal.nD Cert.AdamSmallReferenceIdeal.τ).loc Cert.AdamSmallReferenceIdeal.main_arg32)
      ∧ r.2.mem ((c.tc : Thread Cert.AdamSmallReferenceIdeal.nD Cert.AdamSmallReferenceIdeal.τ).loc Cert.AdamSmallReferenceIdeal.main_arg33) = m ((c.tc : Thread Cert.AdamSmallReferenceIdeal.nD Cert.AdamSmallReferenceIdeal.τ).loc Cert.AdamSmallReferenceIdeal.main_arg33)
      ∧ r.2.mem ((c.tc : Thread Cert.AdamSmallReferenceIdeal.nD Cert.AdamSmallReferenceIdeal.τ).loc Cert.AdamSmallReferenceIdeal.main_arg34) = m ((c.tc : Thread Cert.AdamSmallReferenceIdeal.nD Cert.AdamSmallReferenceIdeal.τ).loc Cert.AdamSmallReferenceIdeal.main_arg34)
      ∧ r.2.mem ((c.tc : Thread Cert.AdamSmallReferenceIdeal.nD Cert.AdamSmallReferenceIdeal.τ).loc Cert.AdamSmallReferenceIdeal.main_arg35) = m ((c.tc : Thread Cert.AdamSmallReferenceIdeal.nD Cert.AdamSmallReferenceIdeal.τ).loc Cert.AdamSmallReferenceIdeal.main_arg35))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3)
      ∧ r.2.mem ((c.tc : Thread Cert.CtxKernel.nD Cert.CtxKernel.τ).loc Cert.CtxKernel.main_arg4) = m ((c.tc : Thread Cert.CtxKernel.nD Cert.CtxKernel.τ).loc Cert.CtxKernel.main_arg4)
      ∧ r.2.mem ((c.tc : Thread Cert.CtxKernel.nD Cert.CtxKernel.τ).loc Cert.CtxKernel.main_arg5) = m ((c.tc : Thread Cert.CtxKernel.nD Cert.CtxKernel.τ).loc Cert.CtxKernel.main_arg5)
      ∧ r.2.mem ((c.tc : Thread Cert.CtxKernel.nD Cert.CtxKernel.τ).loc Cert.CtxKernel.main_arg6) = m ((c.tc : Thread Cert.CtxKernel.nD Cert.CtxKernel.τ).loc Cert.CtxKernel.main_arg6))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
      ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5)
      ∧ r.2.mem ((c.tc : Thread Cert.CtxKernelIdeal.nD Cert.CtxKernelIdeal.τ).loc Cert.CtxKernelIdeal.main_arg6) = m ((c.tc : Thread Cert.CtxKernelIdeal.nD Cert.CtxKernelIdeal.τ).loc Cert.CtxKernelIdeal.main_arg6))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5)
      ∧ r.2.mem ((c.tc : Thread Cert.CtxReferenceIdeal.nD Cert.CtxReferenceIdeal.τ).loc Cert.CtxReferenceIdeal.main_arg6) = m ((c.tc : Thread Cert.CtxReferenceIdeal.nD Cert.CtxReferenceIdeal.τ).loc Cert.CtxReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)
      ∧ m' ((c.tc : Thread Cert.InReferenceIdeal.nD Cert.InReferenceIdeal.τ).loc Cert.InReferenceIdeal.main_arg11) = m ((c.tc : Thread Cert.InKernelIdeal.nD Cert.InKernelIdeal.τ).loc Cert.InKernelIdeal.main_arg11)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)) (v2 : (c : Dev Cert.InKernelIdeal.nD) → Buf (Elt Ideal) ((c.tc : Thread Cert.InKernelIdeal.nD Cert.InKernelIdeal.τ).loc Cert.InKernelIdeal.main_v3_2)) (v3 : (c : Dev Cert.InKernelIdeal.nD) → Buf (Elt Ideal) ((c.tc : Thread Cert.InKernelIdeal.nD Cert.InKernelIdeal.τ).loc Cert.InKernelIdeal.main_v3_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_v3_2) = v2 c
          ∧ r.2.mem ((c.tc : Thread Cert.InKernelIdeal.nD Cert.InKernelIdeal.τ).loc Cert.InKernelIdeal.main_v3_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10)
          ∧ r.2.mem ((c.tc : Thread Cert.InKernelIdeal.nD Cert.InKernelIdeal.τ).loc Cert.InKernelIdeal.main_arg11) = m ((c.tc : Thread Cert.InKernelIdeal.nD Cert.InKernelIdeal.τ).loc Cert.InKernelIdeal.main_arg11))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v51) = v0 c
          ∧ r.2.mem ((c.tc : Thread Cert.InReferenceIdeal.nD Cert.InReferenceIdeal.τ).loc Cert.InReferenceIdeal.main_v26) = v1 c
          ∧ r.2.mem ((c.tc : Thread Cert.InReferenceIdeal.nD Cert.InReferenceIdeal.τ).loc Cert.InReferenceIdeal.main_v29) = v2 c
          ∧ r.2.mem ((c.tc : Thread Cert.InReferenceIdeal.nD Cert.InReferenceIdeal.τ).loc Cert.InReferenceIdeal.main_v52) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10)
          ∧ r.2.mem ((c.tc : Thread Cert.InReferenceIdeal.nD Cert.InReferenceIdeal.τ).loc Cert.InReferenceIdeal.main_arg11) = m' ((c.tc : Thread Cert.InReferenceIdeal.nD Cert.InReferenceIdeal.τ).loc Cert.InReferenceIdeal.main_arg11))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v1_0)) (v1 : (c : Dev Cert.OutKernelIdeal.nD) → Buf (Elt Ideal) ((c.tc : Thread Cert.OutKernelIdeal.nD Cert.OutKernelIdeal.τ).loc Cert.OutKernelIdeal.main_v1_1)) (v2 : (c : Dev Cert.OutKernelIdeal.nD) → Buf (Elt Ideal) ((c.tc : Thread Cert.OutKernelIdeal.nD Cert.OutKernelIdeal.τ).loc Cert.OutKernelIdeal.main_v1_2)) (v3 : (c : Dev Cert.OutKernelIdeal.nD) → Buf (Elt Ideal) ((c.tc : Thread Cert.OutKernelIdeal.nD Cert.OutKernelIdeal.τ).loc Cert.OutKernelIdeal.main_v1_3)) (v4 : (c : Dev Cert.OutKernelIdeal.nD) → Buf (Elt Ideal) ((c.tc : Thread Cert.OutKernelIdeal.nD Cert.OutKernelIdeal.τ).loc Cert.OutKernelIdeal.main_v1_4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1_0) = v0 c
          ∧ r.2.mem ((c.tc : Thread Cert.OutKernelIdeal.nD Cert.OutKernelIdeal.τ).loc Cert.OutKernelIdeal.main_v1_1) = v1 c
          ∧ r.2.mem ((c.tc : Thread Cert.OutKernelIdeal.nD Cert.OutKernelIdeal.τ).loc Cert.OutKernelIdeal.main_v1_2) = v2 c
          ∧ r.2.mem ((c.tc : Thread Cert.OutKernelIdeal.nD Cert.OutKernelIdeal.τ).loc Cert.OutKernelIdeal.main_v1_3) = v3 c
          ∧ r.2.mem ((c.tc : Thread Cert.OutKernelIdeal.nD Cert.OutKernelIdeal.τ).loc Cert.OutKernelIdeal.main_v1_4) = v4 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v30) = v0 c
          ∧ r.2.mem ((c.tc : Thread Cert.OutReferenceIdeal.nD Cert.OutReferenceIdeal.τ).loc Cert.OutReferenceIdeal.main_v19) = v1 c
          ∧ r.2.mem ((c.tc : Thread Cert.OutReferenceIdeal.nD Cert.OutReferenceIdeal.τ).loc Cert.OutReferenceIdeal.main_v31) = v2 c
          ∧ r.2.mem ((c.tc : Thread Cert.OutReferenceIdeal.nD Cert.OutReferenceIdeal.τ).loc Cert.OutReferenceIdeal.main_v24) = v3 c
          ∧ r.2.mem ((c.tc : Thread Cert.OutReferenceIdeal.nD Cert.OutReferenceIdeal.τ).loc Cert.OutReferenceIdeal.main_v26) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)
      ∧ m' ((c.tc : Thread Cert.DwReferenceIdeal.nD Cert.DwReferenceIdeal.τ).loc Cert.DwReferenceIdeal.main_arg3) = m ((c.tc : Thread Cert.DwKernelIdeal.nD Cert.DwKernelIdeal.τ).loc Cert.DwKernelIdeal.main_arg3)
      ∧ m' ((c.tc : Thread Cert.DwReferenceIdeal.nD Cert.DwReferenceIdeal.τ).loc Cert.DwReferenceIdeal.main_arg4) = m ((c.tc : Thread Cert.DwKernelIdeal.nD Cert.DwKernelIdeal.τ).loc Cert.DwKernelIdeal.main_arg4)
      ∧ m' ((c.tc : Thread Cert.DwReferenceIdeal.nD Cert.DwReferenceIdeal.τ).loc Cert.DwReferenceIdeal.main_arg5) = m ((c.tc : Thread Cert.DwKernelIdeal.nD Cert.DwKernelIdeal.τ).loc Cert.DwKernelIdeal.main_arg5)
      ∧ m' ((c.tc : Thread Cert.DwReferenceIdeal.nD Cert.DwReferenceIdeal.τ).loc Cert.DwReferenceIdeal.main_arg6) = m ((c.tc : Thread Cert.DwKernelIdeal.nD Cert.DwKernelIdeal.τ).loc Cert.DwKernelIdeal.main_arg6)
      ∧ m' ((c.tc : Thread Cert.DwReferenceIdeal.nD Cert.DwReferenceIdeal.τ).loc Cert.DwReferenceIdeal.main_arg7) = m ((c.tc : Thread Cert.DwKernelIdeal.nD Cert.DwKernelIdeal.τ).loc Cert.DwKernelIdeal.main_arg7)
      ∧ m' ((c.tc : Thread Cert.DwReferenceIdeal.nD Cert.DwReferenceIdeal.τ).loc Cert.DwReferenceIdeal.main_arg8) = m ((c.tc : Thread Cert.DwKernelIdeal.nD Cert.DwKernelIdeal.τ).loc Cert.DwKernelIdeal.main_arg8)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
          ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3)
          ∧ r.2.mem ((c.tc : Thread Cert.DwKernelIdeal.nD Cert.DwKernelIdeal.τ).loc Cert.DwKernelIdeal.main_arg4) = m ((c.tc : Thread Cert.DwKernelIdeal.nD Cert.DwKernelIdeal.τ).loc Cert.DwKernelIdeal.main_arg4)
          ∧ r.2.mem ((c.tc : Thread Cert.DwKernelIdeal.nD Cert.DwKernelIdeal.τ).loc Cert.DwKernelIdeal.main_arg5) = m ((c.tc : Thread Cert.DwKernelIdeal.nD Cert.DwKernelIdeal.τ).loc Cert.DwKernelIdeal.main_arg5)
          ∧ r.2.mem ((c.tc : Thread Cert.DwKernelIdeal.nD Cert.DwKernelIdeal.τ).loc Cert.DwKernelIdeal.main_arg6) = m ((c.tc : Thread Cert.DwKernelIdeal.nD Cert.DwKernelIdeal.τ).loc Cert.DwKernelIdeal.main_arg6)
          ∧ r.2.mem ((c.tc : Thread Cert.DwKernelIdeal.nD Cert.DwKernelIdeal.τ).loc Cert.DwKernelIdeal.main_arg7) = m ((c.tc : Thread Cert.DwKernelIdeal.nD Cert.DwKernelIdeal.τ).loc Cert.DwKernelIdeal.main_arg7)
          ∧ r.2.mem ((c.tc : Thread Cert.DwKernelIdeal.nD Cert.DwKernelIdeal.τ).loc Cert.DwKernelIdeal.main_arg8) = m ((c.tc : Thread Cert.DwKernelIdeal.nD Cert.DwKernelIdeal.τ).loc Cert.DwKernelIdeal.main_arg8))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v23) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2)
          ∧ r.2.mem ((c.tc : Thread Cert.DwReferenceIdeal.nD Cert.DwReferenceIdeal.τ).loc Cert.DwReferenceIdeal.main_arg3) = m' ((c.tc : Thread Cert.DwReferenceIdeal.nD Cert.DwReferenceIdeal.τ).loc Cert.DwReferenceIdeal.main_arg3)
          ∧ r.2.mem ((c.tc : Thread Cert.DwReferenceIdeal.nD Cert.DwReferenceIdeal.τ).loc Cert.DwReferenceIdeal.main_arg4) = m' ((c.tc : Thread Cert.DwReferenceIdeal.nD Cert.DwReferenceIdeal.τ).loc Cert.DwReferenceIdeal.main_arg4)
          ∧ r.2.mem ((c.tc : Thread Cert.DwReferenceIdeal.nD Cert.DwReferenceIdeal.τ).loc Cert.DwReferenceIdeal.main_arg5) = m' ((c.tc : Thread Cert.DwReferenceIdeal.nD Cert.DwReferenceIdeal.τ).loc Cert.DwReferenceIdeal.main_arg5)
          ∧ r.2.mem ((c.tc : Thread Cert.DwReferenceIdeal.nD Cert.DwReferenceIdeal.τ).loc Cert.DwReferenceIdeal.main_arg6) = m' ((c.tc : Thread Cert.DwReferenceIdeal.nD Cert.DwReferenceIdeal.τ).loc Cert.DwReferenceIdeal.main_arg6)
          ∧ r.2.mem ((c.tc : Thread Cert.DwReferenceIdeal.nD Cert.DwReferenceIdeal.τ).loc Cert.DwReferenceIdeal.main_arg7) = m' ((c.tc : Thread Cert.DwReferenceIdeal.nD Cert.DwReferenceIdeal.τ).loc Cert.DwReferenceIdeal.main_arg7)
          ∧ r.2.mem ((c.tc : Thread Cert.DwReferenceIdeal.nD Cert.DwReferenceIdeal.τ).loc Cert.DwReferenceIdeal.main_arg8) = m' ((c.tc : Thread Cert.DwReferenceIdeal.nD Cert.DwReferenceIdeal.τ).loc Cert.DwReferenceIdeal.main_arg8))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v47) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamAdaKernel_AdamAdaKernelIdeal : Prop :=
  True

def algebraic_AdamAdaKernelIdeal_AdamAdaReferenceIdeal [hAdamAdaKernelIdeal : Cert.AdamAdaKernelIdeal.Facts] [hAdamAdaReferenceIdeal : Cert.AdamAdaReferenceIdeal.Facts] : Prop :=
  ∀ (m : (ℓ : Loc Cert.AdamAdaKernelIdeal.nD Cert.AdamAdaKernelIdeal.τ Cert.AdamAdaKernelIdeal.sig) → Buf (Elt Ideal) ℓ) (g : Dev Cert.AdamAdaKernelIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaKernelIdeal m →
    (∀ c : Dev Cert.AdamAdaKernelIdeal.nD,
      m' ((c.tc : Thread Cert.AdamAdaReferenceIdeal.nD Cert.AdamAdaReferenceIdeal.τ).loc Cert.AdamAdaReferenceIdeal.main_arg0) = m ((c.tc : Thread Cert.AdamAdaKernelIdeal.nD Cert.AdamAdaKernelIdeal.τ).loc Cert.AdamAdaKernelIdeal.main_arg0)
      ∧ m' ((c.tc : Thread Cert.AdamAdaReferenceIdeal.nD Cert.AdamAdaReferenceIdeal.τ).loc Cert.AdamAdaReferenceIdeal.main_arg1) = m ((c.tc : Thread Cert.AdamAdaKernelIdeal.nD Cert.AdamAdaKernelIdeal.τ).loc Cert.AdamAdaKernelIdeal.main_arg1)
      ∧ m' ((c.tc : Thread Cert.AdamAdaReferenceIdeal.nD Cert.AdamAdaReferenceIdeal.τ).loc Cert.AdamAdaReferenceIdeal.main_arg2) = m ((c.tc : Thread Cert.AdamAdaKernelIdeal.nD Cert.AdamAdaKernelIdeal.τ).loc Cert.AdamAdaKernelIdeal.main_arg2)
      ∧ m' ((c.tc : Thread Cert.AdamAdaReferenceIdeal.nD Cert.AdamAdaReferenceIdeal.τ).loc Cert.AdamAdaReferenceIdeal.main_arg3) = m ((c.tc : Thread Cert.AdamAdaKernelIdeal.nD Cert.AdamAdaKernelIdeal.τ).loc Cert.AdamAdaKernelIdeal.main_arg3)) →
    ∃ (v0 : (c : Dev Cert.AdamAdaKernelIdeal.nD) → Buf (Elt Ideal) ((c.tc : Thread Cert.AdamAdaKernelIdeal.nD Cert.AdamAdaKernelIdeal.τ).loc Cert.AdamAdaKernelIdeal.main_v0_0)) (v1 : (c : Dev Cert.AdamAdaKernelIdeal.nD) → Buf (Elt Ideal) ((c.tc : Thread Cert.AdamAdaKernelIdeal.nD Cert.AdamAdaKernelIdeal.τ).loc Cert.AdamAdaKernelIdeal.main_v0_1)) (v2 : (c : Dev Cert.AdamAdaKernelIdeal.nD) → Buf (Elt Ideal) ((c.tc : Thread Cert.AdamAdaKernelIdeal.nD Cert.AdamAdaKernelIdeal.τ).loc Cert.AdamAdaKernelIdeal.main_v0_2)),
      θ_run (Cert.AdamAdaKernelIdeal.defs (F := Ideal)) (onTc (τ := Cert.AdamAdaKernelIdeal.τ) (Cert.AdamAdaKernelIdeal.main (F := Ideal))) ⟨m, fun _ => 0, g⟩ (fun r => ∀ c : Dev Cert.AdamAdaKernelIdeal.nD,
          r.2.mem ((c.tc : Thread Cert.AdamAdaKernelIdeal.nD Cert.AdamAdaKernelIdeal.τ).loc Cert.AdamAdaKernelIdeal.main_v0_0) = v0 c
          ∧ r.2.mem ((c.tc : Thread Cert.AdamAdaKernelIdeal.nD Cert.AdamAdaKernelIdeal.τ).loc Cert.AdamAdaKernelIdeal.main_v0_1) = v1 c
          ∧ r.2.mem ((c.tc : Thread Cert.AdamAdaKernelIdeal.nD Cert.AdamAdaKernelIdeal.τ).loc Cert.AdamAdaKernelIdeal.main_v0_2) = v2 c
          ∧ r.2.mem ((c.tc : Thread Cert.AdamAdaKernelIdeal.nD Cert.AdamAdaKernelIdeal.τ).loc Cert.AdamAdaKernelIdeal.main_arg0) = m ((c.tc : Thread Cert.AdamAdaKernelIdeal.nD Cert.AdamAdaKernelIdeal.τ).loc Cert.AdamAdaKernelIdeal.main_arg0)
          ∧ r.2.mem ((c.tc : Thread Cert.AdamAdaKernelIdeal.nD Cert.AdamAdaKernelIdeal.τ).loc Cert.AdamAdaKernelIdeal.main_arg1) = m ((c.tc : Thread Cert.AdamAdaKernelIdeal.nD Cert.AdamAdaKernelIdeal.τ).loc Cert.AdamAdaKernelIdeal.main_arg1)
          ∧ r.2.mem ((c.tc : Thread Cert.AdamAdaKernelIdeal.nD Cert.AdamAdaKernelIdeal.τ).loc Cert.AdamAdaKernelIdeal.main_arg2) = m ((c.tc : Thread Cert.AdamAdaKernelIdeal.nD Cert.AdamAdaKernelIdeal.τ).loc Cert.AdamAdaKernelIdeal.main_arg2)
          ∧ r.2.mem ((c.tc : Thread Cert.AdamAdaKernelIdeal.nD Cert.AdamAdaKernelIdeal.τ).loc Cert.AdamAdaKernelIdeal.main_arg3) = m ((c.tc : Thread Cert.AdamAdaKernelIdeal.nD Cert.AdamAdaKernelIdeal.τ).loc Cert.AdamAdaKernelIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v23) = v0 c
          ∧ r.2.mem ((c.tc : Thread Cert.AdamAdaReferenceIdeal.nD Cert.AdamAdaReferenceIdeal.τ).loc Cert.AdamAdaReferenceIdeal.main_v4) = v1 c
          ∧ r.2.mem ((c.tc : Thread Cert.AdamAdaReferenceIdeal.nD Cert.AdamAdaReferenceIdeal.τ).loc Cert.AdamAdaReferenceIdeal.main_v10) = v2 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)
      ∧ m' ((c.tc : Thread Cert.AdamSmallReferenceIdeal.nD Cert.AdamSmallReferenceIdeal.τ).loc Cert.AdamSmallReferenceIdeal.main_arg4) = m ((c.tc : Thread Cert.AdamSmallKernelIdeal.nD Cert.AdamSmallKernelIdeal.τ).loc Cert.AdamSmallKernelIdeal.main_arg4)
      ∧ m' ((c.tc : Thread Cert.AdamSmallReferenceIdeal.nD Cert.AdamSmallReferenceIdeal.τ).loc Cert.AdamSmallReferenceIdeal.main_arg5) = m ((c.tc : Thread Cert.AdamSmallKernelIdeal.nD Cert.AdamSmallKernelIdeal.τ).loc Cert.AdamSmallKernelIdeal.main_arg5)
      ∧ m' ((c.tc : Thread Cert.AdamSmallReferenceIdeal.nD Cert.AdamSmallReferenceIdeal.τ).loc Cert.AdamSmallReferenceIdeal.main_arg6) = m ((c.tc : Thread Cert.AdamSmallKernelIdeal.nD Cert.AdamSmallKernelIdeal.τ).loc Cert.AdamSmallKernelIdeal.main_arg6)
      ∧ m' ((c.tc : Thread Cert.AdamSmallReferenceIdeal.nD Cert.AdamSmallReferenceIdeal.τ).loc Cert.AdamSmallReferenceIdeal.main_arg7) = m ((c.tc : Thread Cert.AdamSmallKernelIdeal.nD Cert.AdamSmallKernelIdeal.τ).loc Cert.AdamSmallKernelIdeal.main_arg7)
      ∧ m' ((c.tc : Thread Cert.AdamSmallReferenceIdeal.nD Cert.AdamSmallReferenceIdeal.τ).loc Cert.AdamSmallReferenceIdeal.main_arg8) = m ((c.tc : Thread Cert.AdamSmallKernelIdeal.nD Cert.AdamSmallKernelIdeal.τ).loc Cert.AdamSmallKernelIdeal.main_arg8)
      ∧ m' ((c.tc : Thread Cert.AdamSmallReferenceIdeal.nD Cert.AdamSmallReferenceIdeal.τ).loc Cert.AdamSmallReferenceIdeal.main_arg9) = m ((c.tc : Thread Cert.AdamSmallKernelIdeal.nD Cert.AdamSmallKernelIdeal.τ).loc Cert.AdamSmallKernelIdeal.main_arg9)
      ∧ m' ((c.tc : Thread Cert.AdamSmallReferenceIdeal.nD Cert.AdamSmallReferenceIdeal.τ).loc Cert.AdamSmallReferenceIdeal.main_arg10) = m ((c.tc : Thread Cert.AdamSmallKernelIdeal.nD Cert.AdamSmallKernelIdeal.τ).loc Cert.AdamSmallKernelIdeal.main_arg10)
      ∧ m' ((c.tc : Thread Cert.AdamSmallReferenceIdeal.nD Cert.AdamSmallReferenceIdeal.τ).loc Cert.AdamSmallReferenceIdeal.main_arg11) = m ((c.tc : Thread Cert.AdamSmallKernelIdeal.nD Cert.AdamSmallKernelIdeal.τ).loc Cert.AdamSmallKernelIdeal.main_arg11)
      ∧ m' ((c.tc : Thread Cert.AdamSmallReferenceIdeal.nD Cert.AdamSmallReferenceIdeal.τ).loc Cert.AdamSmallReferenceIdeal.main_arg12) = m ((c.tc : Thread Cert.AdamSmallKernelIdeal.nD Cert.AdamSmallKernelIdeal.τ).loc Cert.AdamSmallKernelIdeal.main_arg12)
      ∧ m' ((c.tc : Thread Cert.AdamSmallReferenceIdeal.nD Cert.AdamSmallReferenceIdeal.τ).loc Cert.AdamSmallReferenceIdeal.main_arg13) = m ((c.tc : Thread Cert.AdamSmallKernelIdeal.nD Cert.AdamSmallKernelIdeal.τ).loc Cert.AdamSmallKernelIdeal.main_arg13)
      ∧ m' ((c.tc : Thread Cert.AdamSmallReferenceIdeal.nD Cert.AdamSmallReferenceIdeal.τ).loc Cert.AdamSmallReferenceIdeal.main_arg14) = m ((c.tc : Thread Cert.AdamSmallKernelIdeal.nD Cert.AdamSmallKernelIdeal.τ).loc Cert.AdamSmallKernelIdeal.main_arg14)
      ∧ m' ((c.tc : Thread Cert.AdamSmallReferenceIdeal.nD Cert.AdamSmallReferenceIdeal.τ).loc Cert.AdamSmallReferenceIdeal.main_arg15) = m ((c.tc : Thread Cert.AdamSmallKernelIdeal.nD Cert.AdamSmallKernelIdeal.τ).loc Cert.AdamSmallKernelIdeal.main_arg15)
      ∧ m' ((c.tc : Thread Cert.AdamSmallReferenceIdeal.nD Cert.AdamSmallReferenceIdeal.τ).loc Cert.AdamSmallReferenceIdeal.main_arg16) = m ((c.tc : Thread Cert.AdamSmallKernelIdeal.nD Cert.AdamSmallKernelIdeal.τ).loc Cert.AdamSmallKernelIdeal.main_arg16)
      ∧ m' ((c.tc : Thread Cert.AdamSmallReferenceIdeal.nD Cert.AdamSmallReferenceIdeal.τ).loc Cert.AdamSmallReferenceIdeal.main_arg17) = m ((c.tc : Thread Cert.AdamSmallKernelIdeal.nD Cert.AdamSmallKernelIdeal.τ).loc Cert.AdamSmallKernelIdeal.main_arg17)
      ∧ m' ((c.tc : Thread Cert.AdamSmallReferenceIdeal.nD Cert.AdamSmallReferenceIdeal.τ).loc Cert.AdamSmallReferenceIdeal.main_arg18) = m ((c.tc : Thread Cert.AdamSmallKernelIdeal.nD Cert.AdamSmallKernelIdeal.τ).loc Cert.AdamSmallKernelIdeal.main_arg18)
      ∧ m' ((c.tc : Thread Cert.AdamSmallReferenceIdeal.nD Cert.AdamSmallReferenceIdeal.τ).loc Cert.AdamSmallReferenceIdeal.main_arg19) = m ((c.tc : Thread Cert.AdamSmallKernelIdeal.nD Cert.AdamSmallKernelIdeal.τ).loc Cert.AdamSmallKernelIdeal.main_arg19)
      ∧ m' ((c.tc : Thread Cert.AdamSmallReferenceIdeal.nD Cert.AdamSmallReferenceIdeal.τ).loc Cert.AdamSmallReferenceIdeal.main_arg20) = m ((c.tc : Thread Cert.AdamSmallKernelIdeal.nD Cert.AdamSmallKernelIdeal.τ).loc Cert.AdamSmallKernelIdeal.main_arg20)
      ∧ m' ((c.tc : Thread Cert.AdamSmallReferenceIdeal.nD Cert.AdamSmallReferenceIdeal.τ).loc Cert.AdamSmallReferenceIdeal.main_arg21) = m ((c.tc : Thread Cert.AdamSmallKernelIdeal.nD Cert.AdamSmallKernelIdeal.τ).loc Cert.AdamSmallKernelIdeal.main_arg21)
      ∧ m' ((c.tc : Thread Cert.AdamSmallReferenceIdeal.nD Cert.AdamSmallReferenceIdeal.τ).loc Cert.AdamSmallReferenceIdeal.main_arg22) = m ((c.tc : Thread Cert.AdamSmallKernelIdeal.nD Cert.AdamSmallKernelIdeal.τ).loc Cert.AdamSmallKernelIdeal.main_arg22)
      ∧ m' ((c.tc : Thread Cert.AdamSmallReferenceIdeal.nD Cert.AdamSmallReferenceIdeal.τ).loc Cert.AdamSmallReferenceIdeal.main_arg23) = m ((c.tc : Thread Cert.AdamSmallKernelIdeal.nD Cert.AdamSmallKernelIdeal.τ).loc Cert.AdamSmallKernelIdeal.main_arg23)
      ∧ m' ((c.tc : Thread Cert.AdamSmallReferenceIdeal.nD Cert.AdamSmallReferenceIdeal.τ).loc Cert.AdamSmallReferenceIdeal.main_arg24) = m ((c.tc : Thread Cert.AdamSmallKernelIdeal.nD Cert.AdamSmallKernelIdeal.τ).loc Cert.AdamSmallKernelIdeal.main_arg24)
      ∧ m' ((c.tc : Thread Cert.AdamSmallReferenceIdeal.nD Cert.AdamSmallReferenceIdeal.τ).loc Cert.AdamSmallReferenceIdeal.main_arg25) = m ((c.tc : Thread Cert.AdamSmallKernelIdeal.nD Cert.AdamSmallKernelIdeal.τ).loc Cert.AdamSmallKernelIdeal.main_arg25)
      ∧ m' ((c.tc : Thread Cert.AdamSmallReferenceIdeal.nD Cert.AdamSmallReferenceIdeal.τ).loc Cert.AdamSmallReferenceIdeal.main_arg26) = m ((c.tc : Thread Cert.AdamSmallKernelIdeal.nD Cert.AdamSmallKernelIdeal.τ).loc Cert.AdamSmallKernelIdeal.main_arg26)
      ∧ m' ((c.tc : Thread Cert.AdamSmallReferenceIdeal.nD Cert.AdamSmallReferenceIdeal.τ).loc Cert.AdamSmallReferenceIdeal.main_arg27) = m ((c.tc : Thread Cert.AdamSmallKernelIdeal.nD Cert.AdamSmallKernelIdeal.τ).loc Cert.AdamSmallKernelIdeal.main_arg27)
      ∧ m' ((c.tc : Thread Cert.AdamSmallReferenceIdeal.nD Cert.AdamSmallReferenceIdeal.τ).loc Cert.AdamSmallReferenceIdeal.main_arg28) = m ((c.tc : Thread Cert.AdamSmallKernelIdeal.nD Cert.AdamSmallKernelIdeal.τ).loc Cert.AdamSmallKernelIdeal.main_arg28)
      ∧ m' ((c.tc : Thread Cert.AdamSmallReferenceIdeal.nD Cert.AdamSmallReferenceIdeal.τ).loc Cert.AdamSmallReferenceIdeal.main_arg29) = m ((c.tc : Thread Cert.AdamSmallKernelIdeal.nD Cert.AdamSmallKernelIdeal.τ).loc Cert.AdamSmallKernelIdeal.main_arg29)
      ∧ m' ((c.tc : Thread Cert.AdamSmallReferenceIdeal.nD Cert.AdamSmallReferenceIdeal.τ).loc Cert.AdamSmallReferenceIdeal.main_arg30) = m ((c.tc : Thread Cert.AdamSmallKernelIdeal.nD Cert.AdamSmallKernelIdeal.τ).loc Cert.AdamSmallKernelIdeal.main_arg30)
      ∧ m' ((c.tc : Thread Cert.AdamSmallReferenceIdeal.nD Cert.AdamSmallReferenceIdeal.τ).loc Cert.AdamSmallReferenceIdeal.main_arg31) = m ((c.tc : Thread Cert.AdamSmallKernelIdeal.nD Cert.AdamSmallKernelIdeal.τ).loc Cert.AdamSmallKernelIdeal.main_arg31)
      ∧ m' ((c.tc : Thread Cert.AdamSmallReferenceIdeal.nD Cert.AdamSmallReferenceIdeal.τ).loc Cert.AdamSmallReferenceIdeal.main_arg32) = m ((c.tc : Thread Cert.AdamSmallKernelIdeal.nD Cert.AdamSmallKernelIdeal.τ).loc Cert.AdamSmallKernelIdeal.main_arg32)
      ∧ m' ((c.tc : Thread Cert.AdamSmallReferenceIdeal.nD Cert.AdamSmallReferenceIdeal.τ).loc Cert.AdamSmallReferenceIdeal.main_arg33) = m ((c.tc : Thread Cert.AdamSmallKernelIdeal.nD Cert.AdamSmallKernelIdeal.τ).loc Cert.AdamSmallKernelIdeal.main_arg33)
      ∧ m' ((c.tc : Thread Cert.AdamSmallReferenceIdeal.nD Cert.AdamSmallReferenceIdeal.τ).loc Cert.AdamSmallReferenceIdeal.main_arg34) = m ((c.tc : Thread Cert.AdamSmallKernelIdeal.nD Cert.AdamSmallKernelIdeal.τ).loc Cert.AdamSmallKernelIdeal.main_arg34)
      ∧ m' ((c.tc : Thread Cert.AdamSmallReferenceIdeal.nD Cert.AdamSmallReferenceIdeal.τ).loc Cert.AdamSmallReferenceIdeal.main_arg35) = m ((c.tc : Thread Cert.AdamSmallKernelIdeal.nD Cert.AdamSmallKernelIdeal.τ).loc Cert.AdamSmallKernelIdeal.main_arg35)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)) (v3 : (c : Dev Cert.AdamSmallKernelIdeal.nD) → Buf (Elt Ideal) ((c.tc : Thread Cert.AdamSmallKernelIdeal.nD Cert.AdamSmallKernelIdeal.τ).loc Cert.AdamSmallKernelIdeal.main_v0_3)) (v4 : (c : Dev Cert.AdamSmallKernelIdeal.nD) → Buf (Elt Ideal) ((c.tc : Thread Cert.AdamSmallKernelIdeal.nD Cert.AdamSmallKernelIdeal.τ).loc Cert.AdamSmallKernelIdeal.main_v0_4)) (v5 : (c : Dev Cert.AdamSmallKernelIdeal.nD) → Buf (Elt Ideal) ((c.tc : Thread Cert.AdamSmallKernelIdeal.nD Cert.AdamSmallKernelIdeal.τ).loc Cert.AdamSmallKernelIdeal.main_v0_5)) (v6 : (c : Dev Cert.AdamSmallKernelIdeal.nD) → Buf (Elt Ideal) ((c.tc : Thread Cert.AdamSmallKernelIdeal.nD Cert.AdamSmallKernelIdeal.τ).loc Cert.AdamSmallKernelIdeal.main_v0_6)) (v7 : (c : Dev Cert.AdamSmallKernelIdeal.nD) → Buf (Elt Ideal) ((c.tc : Thread Cert.AdamSmallKernelIdeal.nD Cert.AdamSmallKernelIdeal.τ).loc Cert.AdamSmallKernelIdeal.main_v0_7)) (v8 : (c : Dev Cert.AdamSmallKernelIdeal.nD) → Buf (Elt Ideal) ((c.tc : Thread Cert.AdamSmallKernelIdeal.nD Cert.AdamSmallKernelIdeal.τ).loc Cert.AdamSmallKernelIdeal.main_v0_8)) (v9 : (c : Dev Cert.AdamSmallKernelIdeal.nD) → Buf (Elt Ideal) ((c.tc : Thread Cert.AdamSmallKernelIdeal.nD Cert.AdamSmallKernelIdeal.τ).loc Cert.AdamSmallKernelIdeal.main_v0_9)) (v10 : (c : Dev Cert.AdamSmallKernelIdeal.nD) → Buf (Elt Ideal) ((c.tc : Thread Cert.AdamSmallKernelIdeal.nD Cert.AdamSmallKernelIdeal.τ).loc Cert.AdamSmallKernelIdeal.main_v0_10)) (v11 : (c : Dev Cert.AdamSmallKernelIdeal.nD) → Buf (Elt Ideal) ((c.tc : Thread Cert.AdamSmallKernelIdeal.nD Cert.AdamSmallKernelIdeal.τ).loc Cert.AdamSmallKernelIdeal.main_v0_11)) (v12 : (c : Dev Cert.AdamSmallKernelIdeal.nD) → Buf (Elt Ideal) ((c.tc : Thread Cert.AdamSmallKernelIdeal.nD Cert.AdamSmallKernelIdeal.τ).loc Cert.AdamSmallKernelIdeal.main_v0_12)) (v13 : (c : Dev Cert.AdamSmallKernelIdeal.nD) → Buf (Elt Ideal) ((c.tc : Thread Cert.AdamSmallKernelIdeal.nD Cert.AdamSmallKernelIdeal.τ).loc Cert.AdamSmallKernelIdeal.main_v0_13)) (v14 : (c : Dev Cert.AdamSmallKernelIdeal.nD) → Buf (Elt Ideal) ((c.tc : Thread Cert.AdamSmallKernelIdeal.nD Cert.AdamSmallKernelIdeal.τ).loc Cert.AdamSmallKernelIdeal.main_v0_14)) (v15 : (c : Dev Cert.AdamSmallKernelIdeal.nD) → Buf (Elt Ideal) ((c.tc : Thread Cert.AdamSmallKernelIdeal.nD Cert.AdamSmallKernelIdeal.τ).loc Cert.AdamSmallKernelIdeal.main_v0_15)) (v16 : (c : Dev Cert.AdamSmallKernelIdeal.nD) → Buf (Elt Ideal) ((c.tc : Thread Cert.AdamSmallKernelIdeal.nD Cert.AdamSmallKernelIdeal.τ).loc Cert.AdamSmallKernelIdeal.main_v0_16)) (v17 : (c : Dev Cert.AdamSmallKernelIdeal.nD) → Buf (Elt Ideal) ((c.tc : Thread Cert.AdamSmallKernelIdeal.nD Cert.AdamSmallKernelIdeal.τ).loc Cert.AdamSmallKernelIdeal.main_v0_17)) (v18 : (c : Dev Cert.AdamSmallKernelIdeal.nD) → Buf (Elt Ideal) ((c.tc : Thread Cert.AdamSmallKernelIdeal.nD Cert.AdamSmallKernelIdeal.τ).loc Cert.AdamSmallKernelIdeal.main_v0_18)) (v19 : (c : Dev Cert.AdamSmallKernelIdeal.nD) → Buf (Elt Ideal) ((c.tc : Thread Cert.AdamSmallKernelIdeal.nD Cert.AdamSmallKernelIdeal.τ).loc Cert.AdamSmallKernelIdeal.main_v0_19)) (v20 : (c : Dev Cert.AdamSmallKernelIdeal.nD) → Buf (Elt Ideal) ((c.tc : Thread Cert.AdamSmallKernelIdeal.nD Cert.AdamSmallKernelIdeal.τ).loc Cert.AdamSmallKernelIdeal.main_v0_20)) (v21 : (c : Dev Cert.AdamSmallKernelIdeal.nD) → Buf (Elt Ideal) ((c.tc : Thread Cert.AdamSmallKernelIdeal.nD Cert.AdamSmallKernelIdeal.τ).loc Cert.AdamSmallKernelIdeal.main_v0_21)) (v22 : (c : Dev Cert.AdamSmallKernelIdeal.nD) → Buf (Elt Ideal) ((c.tc : Thread Cert.AdamSmallKernelIdeal.nD Cert.AdamSmallKernelIdeal.τ).loc Cert.AdamSmallKernelIdeal.main_v0_22)) (v23 : (c : Dev Cert.AdamSmallKernelIdeal.nD) → Buf (Elt Ideal) ((c.tc : Thread Cert.AdamSmallKernelIdeal.nD Cert.AdamSmallKernelIdeal.τ).loc Cert.AdamSmallKernelIdeal.main_v0_23)) (v24 : (c : Dev Cert.AdamSmallKernelIdeal.nD) → Buf (Elt Ideal) ((c.tc : Thread Cert.AdamSmallKernelIdeal.nD Cert.AdamSmallKernelIdeal.τ).loc Cert.AdamSmallKernelIdeal.main_v0_24)) (v25 : (c : Dev Cert.AdamSmallKernelIdeal.nD) → Buf (Elt Ideal) ((c.tc : Thread Cert.AdamSmallKernelIdeal.nD Cert.AdamSmallKernelIdeal.τ).loc Cert.AdamSmallKernelIdeal.main_v0_25)) (v26 : (c : Dev Cert.AdamSmallKernelIdeal.nD) → Buf (Elt Ideal) ((c.tc : Thread Cert.AdamSmallKernelIdeal.nD Cert.AdamSmallKernelIdeal.τ).loc Cert.AdamSmallKernelIdeal.main_v0_26)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_v0_3) = v3 c
          ∧ r.2.mem ((c.tc : Thread Cert.AdamSmallKernelIdeal.nD Cert.AdamSmallKernelIdeal.τ).loc Cert.AdamSmallKernelIdeal.main_v0_4) = v4 c
          ∧ r.2.mem ((c.tc : Thread Cert.AdamSmallKernelIdeal.nD Cert.AdamSmallKernelIdeal.τ).loc Cert.AdamSmallKernelIdeal.main_v0_5) = v5 c
          ∧ r.2.mem ((c.tc : Thread Cert.AdamSmallKernelIdeal.nD Cert.AdamSmallKernelIdeal.τ).loc Cert.AdamSmallKernelIdeal.main_v0_6) = v6 c
          ∧ r.2.mem ((c.tc : Thread Cert.AdamSmallKernelIdeal.nD Cert.AdamSmallKernelIdeal.τ).loc Cert.AdamSmallKernelIdeal.main_v0_7) = v7 c
          ∧ r.2.mem ((c.tc : Thread Cert.AdamSmallKernelIdeal.nD Cert.AdamSmallKernelIdeal.τ).loc Cert.AdamSmallKernelIdeal.main_v0_8) = v8 c
          ∧ r.2.mem ((c.tc : Thread Cert.AdamSmallKernelIdeal.nD Cert.AdamSmallKernelIdeal.τ).loc Cert.AdamSmallKernelIdeal.main_v0_9) = v9 c
          ∧ r.2.mem ((c.tc : Thread Cert.AdamSmallKernelIdeal.nD Cert.AdamSmallKernelIdeal.τ).loc Cert.AdamSmallKernelIdeal.main_v0_10) = v10 c
          ∧ r.2.mem ((c.tc : Thread Cert.AdamSmallKernelIdeal.nD Cert.AdamSmallKernelIdeal.τ).loc Cert.AdamSmallKernelIdeal.main_v0_11) = v11 c
          ∧ r.2.mem ((c.tc : Thread Cert.AdamSmallKernelIdeal.nD Cert.AdamSmallKernelIdeal.τ).loc Cert.AdamSmallKernelIdeal.main_v0_12) = v12 c
          ∧ r.2.mem ((c.tc : Thread Cert.AdamSmallKernelIdeal.nD Cert.AdamSmallKernelIdeal.τ).loc Cert.AdamSmallKernelIdeal.main_v0_13) = v13 c
          ∧ r.2.mem ((c.tc : Thread Cert.AdamSmallKernelIdeal.nD Cert.AdamSmallKernelIdeal.τ).loc Cert.AdamSmallKernelIdeal.main_v0_14) = v14 c
          ∧ r.2.mem ((c.tc : Thread Cert.AdamSmallKernelIdeal.nD Cert.AdamSmallKernelIdeal.τ).loc Cert.AdamSmallKernelIdeal.main_v0_15) = v15 c
          ∧ r.2.mem ((c.tc : Thread Cert.AdamSmallKernelIdeal.nD Cert.AdamSmallKernelIdeal.τ).loc Cert.AdamSmallKernelIdeal.main_v0_16) = v16 c
          ∧ r.2.mem ((c.tc : Thread Cert.AdamSmallKernelIdeal.nD Cert.AdamSmallKernelIdeal.τ).loc Cert.AdamSmallKernelIdeal.main_v0_17) = v17 c
          ∧ r.2.mem ((c.tc : Thread Cert.AdamSmallKernelIdeal.nD Cert.AdamSmallKernelIdeal.τ).loc Cert.AdamSmallKernelIdeal.main_v0_18) = v18 c
          ∧ r.2.mem ((c.tc : Thread Cert.AdamSmallKernelIdeal.nD Cert.AdamSmallKernelIdeal.τ).loc Cert.AdamSmallKernelIdeal.main_v0_19) = v19 c
          ∧ r.2.mem ((c.tc : Thread Cert.AdamSmallKernelIdeal.nD Cert.AdamSmallKernelIdeal.τ).loc Cert.AdamSmallKernelIdeal.main_v0_20) = v20 c
          ∧ r.2.mem ((c.tc : Thread Cert.AdamSmallKernelIdeal.nD Cert.AdamSmallKernelIdeal.τ).loc Cert.AdamSmallKernelIdeal.main_v0_21) = v21 c
          ∧ r.2.mem ((c.tc : Thread Cert.AdamSmallKernelIdeal.nD Cert.AdamSmallKernelIdeal.τ).loc Cert.AdamSmallKernelIdeal.main_v0_22) = v22 c
          ∧ r.2.mem ((c.tc : Thread Cert.AdamSmallKernelIdeal.nD Cert.AdamSmallKernelIdeal.τ).loc Cert.AdamSmallKernelIdeal.main_v0_23) = v23 c
          ∧ r.2.mem ((c.tc : Thread Cert.AdamSmallKernelIdeal.nD Cert.AdamSmallKernelIdeal.τ).loc Cert.AdamSmallKernelIdeal.main_v0_24) = v24 c
          ∧ r.2.mem ((c.tc : Thread Cert.AdamSmallKernelIdeal.nD Cert.AdamSmallKernelIdeal.τ).loc Cert.AdamSmallKernelIdeal.main_v0_25) = v25 c
          ∧ r.2.mem ((c.tc : Thread Cert.AdamSmallKernelIdeal.nD Cert.AdamSmallKernelIdeal.τ).loc Cert.AdamSmallKernelIdeal.main_v0_26) = v26 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
          ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
          ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
          ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
          ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
          ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
          ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
          ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
          ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
          ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
          ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
          ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
          ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
          ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
          ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
          ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
          ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
          ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
          ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
          ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
          ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
          ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
          ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
          ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
          ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
          ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
          ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
          ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
          ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31)
          ∧ r.2.mem ((c.tc : Thread Cert.AdamSmallKernelIdeal.nD Cert.AdamSmallKernelIdeal.τ).loc Cert.AdamSmallKernelIdeal.main_arg32) = m ((c.tc : Thread Cert.AdamSmallKernelIdeal.nD Cert.AdamSmallKernelIdeal.τ).loc Cert.AdamSmallKernelIdeal.main_arg32)
          ∧ r.2.mem ((c.tc : Thread Cert.AdamSmallKernelIdeal.nD Cert.AdamSmallKernelIdeal.τ).loc Cert.AdamSmallKernelIdeal.main_arg33) = m ((c.tc : Thread Cert.AdamSmallKernelIdeal.nD Cert.AdamSmallKernelIdeal.τ).loc Cert.AdamSmallKernelIdeal.main_arg33)
          ∧ r.2.mem ((c.tc : Thread Cert.AdamSmallKernelIdeal.nD Cert.AdamSmallKernelIdeal.τ).loc Cert.AdamSmallKernelIdeal.main_arg34) = m ((c.tc : Thread Cert.AdamSmallKernelIdeal.nD Cert.AdamSmallKernelIdeal.τ).loc Cert.AdamSmallKernelIdeal.main_arg34)
          ∧ r.2.mem ((c.tc : Thread Cert.AdamSmallKernelIdeal.nD Cert.AdamSmallKernelIdeal.τ).loc Cert.AdamSmallKernelIdeal.main_arg35) = m ((c.tc : Thread Cert.AdamSmallKernelIdeal.nD Cert.AdamSmallKernelIdeal.τ).loc Cert.AdamSmallKernelIdeal.main_arg35))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_v47) = v3 c
          ∧ r.2.mem ((c.tc : Thread Cert.AdamSmallReferenceIdeal.nD Cert.AdamSmallReferenceIdeal.τ).loc Cert.AdamSmallReferenceIdeal.main_v28) = v4 c
          ∧ r.2.mem ((c.tc : Thread Cert.AdamSmallReferenceIdeal.nD Cert.AdamSmallReferenceIdeal.τ).loc Cert.AdamSmallReferenceIdeal.main_v34) = v5 c
          ∧ r.2.mem ((c.tc : Thread Cert.AdamSmallReferenceIdeal.nD Cert.AdamSmallReferenceIdeal.τ).loc Cert.AdamSmallReferenceIdeal.main_v71) = v6 c
          ∧ r.2.mem ((c.tc : Thread Cert.AdamSmallReferenceIdeal.nD Cert.AdamSmallReferenceIdeal.τ).loc Cert.AdamSmallReferenceIdeal.main_v52) = v7 c
          ∧ r.2.mem ((c.tc : Thread Cert.AdamSmallReferenceIdeal.nD Cert.AdamSmallReferenceIdeal.τ).loc Cert.AdamSmallReferenceIdeal.main_v58) = v8 c
          ∧ r.2.mem ((c.tc : Thread Cert.AdamSmallReferenceIdeal.nD Cert.AdamSmallReferenceIdeal.τ).loc Cert.AdamSmallReferenceIdeal.main_v95) = v9 c
          ∧ r.2.mem ((c.tc : Thread Cert.AdamSmallReferenceIdeal.nD Cert.AdamSmallReferenceIdeal.τ).loc Cert.AdamSmallReferenceIdeal.main_v76) = v10 c
          ∧ r.2.mem ((c.tc : Thread Cert.AdamSmallReferenceIdeal.nD Cert.AdamSmallReferenceIdeal.τ).loc Cert.AdamSmallReferenceIdeal.main_v82) = v11 c
          ∧ r.2.mem ((c.tc : Thread Cert.AdamSmallReferenceIdeal.nD Cert.AdamSmallReferenceIdeal.τ).loc Cert.AdamSmallReferenceIdeal.main_v119) = v12 c
          ∧ r.2.mem ((c.tc : Thread Cert.AdamSmallReferenceIdeal.nD Cert.AdamSmallReferenceIdeal.τ).loc Cert.AdamSmallReferenceIdeal.main_v100) = v13 c
          ∧ r.2.mem ((c.tc : Thread Cert.AdamSmallReferenceIdeal.nD Cert.AdamSmallReferenceIdeal.τ).loc Cert.AdamSmallReferenceIdeal.main_v106) = v14 c
          ∧ r.2.mem ((c.tc : Thread Cert.AdamSmallReferenceIdeal.nD Cert.AdamSmallReferenceIdeal.τ).loc Cert.AdamSmallReferenceIdeal.main_v143) = v15 c
          ∧ r.2.mem ((c.tc : Thread Cert.AdamSmallReferenceIdeal.nD Cert.AdamSmallReferenceIdeal.τ).loc Cert.AdamSmallReferenceIdeal.main_v124) = v16 c
          ∧ r.2.mem ((c.tc : Thread Cert.AdamSmallReferenceIdeal.nD Cert.AdamSmallReferenceIdeal.τ).loc Cert.AdamSmallReferenceIdeal.main_v130) = v17 c
          ∧ r.2.mem ((c.tc : Thread Cert.AdamSmallReferenceIdeal.nD Cert.AdamSmallReferenceIdeal.τ).loc Cert.AdamSmallReferenceIdeal.main_v167) = v18 c
          ∧ r.2.mem ((c.tc : Thread Cert.AdamSmallReferenceIdeal.nD Cert.AdamSmallReferenceIdeal.τ).loc Cert.AdamSmallReferenceIdeal.main_v148) = v19 c
          ∧ r.2.mem ((c.tc : Thread Cert.AdamSmallReferenceIdeal.nD Cert.AdamSmallReferenceIdeal.τ).loc Cert.AdamSmallReferenceIdeal.main_v154) = v20 c
          ∧ r.2.mem ((c.tc : Thread Cert.AdamSmallReferenceIdeal.nD Cert.AdamSmallReferenceIdeal.τ).loc Cert.AdamSmallReferenceIdeal.main_v191) = v21 c
          ∧ r.2.mem ((c.tc : Thread Cert.AdamSmallReferenceIdeal.nD Cert.AdamSmallReferenceIdeal.τ).loc Cert.AdamSmallReferenceIdeal.main_v172) = v22 c
          ∧ r.2.mem ((c.tc : Thread Cert.AdamSmallReferenceIdeal.nD Cert.AdamSmallReferenceIdeal.τ).loc Cert.AdamSmallReferenceIdeal.main_v178) = v23 c
          ∧ r.2.mem ((c.tc : Thread Cert.AdamSmallReferenceIdeal.nD Cert.AdamSmallReferenceIdeal.τ).loc Cert.AdamSmallReferenceIdeal.main_v215) = v24 c
          ∧ r.2.mem ((c.tc : Thread Cert.AdamSmallReferenceIdeal.nD Cert.AdamSmallReferenceIdeal.τ).loc Cert.AdamSmallReferenceIdeal.main_v196) = v25 c
          ∧ r.2.mem ((c.tc : Thread Cert.AdamSmallReferenceIdeal.nD Cert.AdamSmallReferenceIdeal.τ).loc Cert.AdamSmallReferenceIdeal.main_v202) = v26 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31)
          ∧ r.2.mem ((c.tc : Thread Cert.AdamSmallReferenceIdeal.nD Cert.AdamSmallReferenceIdeal.τ).loc Cert.AdamSmallReferenceIdeal.main_arg32) = m' ((c.tc : Thread Cert.AdamSmallReferenceIdeal.nD Cert.AdamSmallReferenceIdeal.τ).loc Cert.AdamSmallReferenceIdeal.main_arg32)
          ∧ r.2.mem ((c.tc : Thread Cert.AdamSmallReferenceIdeal.nD Cert.AdamSmallReferenceIdeal.τ).loc Cert.AdamSmallReferenceIdeal.main_arg33) = m' ((c.tc : Thread Cert.AdamSmallReferenceIdeal.nD Cert.AdamSmallReferenceIdeal.τ).loc Cert.AdamSmallReferenceIdeal.main_arg33)
          ∧ r.2.mem ((c.tc : Thread Cert.AdamSmallReferenceIdeal.nD Cert.AdamSmallReferenceIdeal.τ).loc Cert.AdamSmallReferenceIdeal.main_arg34) = m' ((c.tc : Thread Cert.AdamSmallReferenceIdeal.nD Cert.AdamSmallReferenceIdeal.τ).loc Cert.AdamSmallReferenceIdeal.main_arg34)
          ∧ r.2.mem ((c.tc : Thread Cert.AdamSmallReferenceIdeal.nD Cert.AdamSmallReferenceIdeal.τ).loc Cert.AdamSmallReferenceIdeal.main_arg35) = m' ((c.tc : Thread Cert.AdamSmallReferenceIdeal.nD Cert.AdamSmallReferenceIdeal.τ).loc Cert.AdamSmallReferenceIdeal.main_arg35))

def preserves_CtxKernel_CtxKernelIdeal : Prop :=
  True

def algebraic_CtxKernelIdeal_CtxReferenceIdeal [hCtxKernelIdeal : Cert.CtxKernelIdeal.Facts] [hCtxReferenceIdeal : Cert.CtxReferenceIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
      ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)
      ∧ m' ((c.tc : Thread Cert.CtxReferenceIdeal.nD Cert.CtxReferenceIdeal.τ).loc Cert.CtxReferenceIdeal.main_arg5) = m ((c.tc : Thread Cert.CtxKernelIdeal.nD Cert.CtxKernelIdeal.τ).loc Cert.CtxKernelIdeal.main_arg5)
      ∧ m' ((c.tc : Thread Cert.CtxReferenceIdeal.nD Cert.CtxReferenceIdeal.τ).loc Cert.CtxReferenceIdeal.main_arg6) = m ((c.tc : Thread Cert.CtxKernelIdeal.nD Cert.CtxKernelIdeal.τ).loc Cert.CtxKernelIdeal.main_arg6)) →
    ∃ (v0 : (c : Dev Cert.CtxKernelIdeal.nD) → Buf (Elt Ideal) ((c.tc : Thread Cert.CtxKernelIdeal.nD Cert.CtxKernelIdeal.τ).loc Cert.CtxKernelIdeal.main_v3_0)) (v1 : (c : Dev Cert.CtxKernelIdeal.nD) → Buf (Elt Ideal) ((c.tc : Thread Cert.CtxKernelIdeal.nD Cert.CtxKernelIdeal.τ).loc Cert.CtxKernelIdeal.main_v3_1)) (v2 : (c : Dev Cert.CtxKernelIdeal.nD) → Buf (Elt Ideal) ((c.tc : Thread Cert.CtxKernelIdeal.nD Cert.CtxKernelIdeal.τ).loc Cert.CtxKernelIdeal.main_v3_2)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v3_0) = v0 c
          ∧ r.2.mem ((c.tc : Thread Cert.CtxKernelIdeal.nD Cert.CtxKernelIdeal.τ).loc Cert.CtxKernelIdeal.main_v3_1) = v1 c
          ∧ r.2.mem ((c.tc : Thread Cert.CtxKernelIdeal.nD Cert.CtxKernelIdeal.τ).loc Cert.CtxKernelIdeal.main_v3_2) = v2 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
          ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
          ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5)
          ∧ r.2.mem ((c.tc : Thread Cert.CtxKernelIdeal.nD Cert.CtxKernelIdeal.τ).loc Cert.CtxKernelIdeal.main_arg6) = m ((c.tc : Thread Cert.CtxKernelIdeal.nD Cert.CtxKernelIdeal.τ).loc Cert.CtxKernelIdeal.main_arg6))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v23) = v0 c
          ∧ r.2.mem ((c.tc : Thread Cert.CtxReferenceIdeal.nD Cert.CtxReferenceIdeal.τ).loc Cert.CtxReferenceIdeal.main_v26) = v1 c
          ∧ r.2.mem ((c.tc : Thread Cert.CtxReferenceIdeal.nD Cert.CtxReferenceIdeal.τ).loc Cert.CtxReferenceIdeal.main_v31) = v2 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5)
          ∧ r.2.mem ((c.tc : Thread Cert.CtxReferenceIdeal.nD Cert.CtxReferenceIdeal.τ).loc Cert.CtxReferenceIdeal.main_arg6) = m' ((c.tc : Thread Cert.CtxReferenceIdeal.nD Cert.CtxReferenceIdeal.τ).loc Cert.CtxReferenceIdeal.main_arg6))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hDwKernel : Cert.DwKernel.Facts) (hDwKernelIdeal : Cert.DwKernelIdeal.Facts) (hDwReferenceIdeal : Cert.DwReferenceIdeal.Facts) (hGateKernel : Cert.GateKernel.Facts) (hGateKernelIdeal : Cert.GateKernelIdeal.Facts) (hGateReferenceIdeal : Cert.GateReferenceIdeal.Facts) (hAdamInKernel : Cert.AdamInKernel.Facts) (hAdamInKernelIdeal : Cert.AdamInKernelIdeal.Facts) (hAdamInReferenceIdeal : Cert.AdamInReferenceIdeal.Facts) (hAdamOutKernel : Cert.AdamOutKernel.Facts) (hAdamOutKernelIdeal : Cert.AdamOutKernelIdeal.Facts) (hAdamOutReferenceIdeal : Cert.AdamOutReferenceIdeal.Facts) (hAdamAdaKernel : Cert.AdamAdaKernel.Facts) (hAdamAdaKernelIdeal : Cert.AdamAdaKernelIdeal.Facts) (hAdamAdaReferenceIdeal : Cert.AdamAdaReferenceIdeal.Facts) (hAdamSmallKernel : Cert.AdamSmallKernel.Facts) (hAdamSmallKernelIdeal : Cert.AdamSmallKernelIdeal.Facts) (hAdamSmallReferenceIdeal : Cert.AdamSmallReferenceIdeal.Facts) (hCtxKernel : Cert.CtxKernel.Facts) (hCtxKernelIdeal : Cert.CtxKernelIdeal.Facts) (hCtxReferenceIdeal : Cert.CtxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamAdaKernel (hAdamAdaKernel := hAdamAdaKernel)
    ∧ quiescent_AdamAdaKernelIdeal (hAdamAdaKernelIdeal := hAdamAdaKernelIdeal)
    ∧ quiescent_AdamAdaReferenceIdeal (hAdamAdaReferenceIdeal := hAdamAdaReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_CtxKernel (hCtxKernel := hCtxKernel)
    ∧ quiescent_CtxKernelIdeal (hCtxKernelIdeal := hCtxKernelIdeal)
    ∧ quiescent_CtxReferenceIdeal (hCtxReferenceIdeal := hCtxReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_DwKernel_DwKernelIdeal
    ∧ algebraic_DwKernelIdeal_DwReferenceIdeal (hDwKernelIdeal := hDwKernelIdeal) (hDwReferenceIdeal := hDwReferenceIdeal)
    ∧ preserves_GateKernel_GateKernelIdeal
    ∧ algebraic_GateKernelIdeal_GateReferenceIdeal (hGateKernelIdeal := hGateKernelIdeal) (hGateReferenceIdeal := hGateReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamAdaKernel_AdamAdaKernelIdeal
    ∧ algebraic_AdamAdaKernelIdeal_AdamAdaReferenceIdeal (hAdamAdaKernelIdeal := hAdamAdaKernelIdeal) (hAdamAdaReferenceIdeal := hAdamAdaReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_CtxKernel_CtxKernelIdeal
    ∧ algebraic_CtxKernelIdeal_CtxReferenceIdeal (hCtxKernelIdeal := hCtxKernelIdeal) (hCtxReferenceIdeal := hCtxReferenceIdeal)
-- ==== Kernel.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x1024 : Shape := ⟨2, ![4096, 1024]⟩
abbrev S4x128x1 : Shape := ⟨3, ![4, 128, 1]⟩
abbrev S4096x1536 : Shape := ⟨2, ![4096, 1536]⟩
abbrev S512x512 : Shape := ⟨2, ![512, 512]⟩
abbrev S512x1536 : Shape := ⟨2, ![512, 1536]⟩
abbrev S128x512 : Shape := ⟨2, ![128, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x384 : Shape := ⟨2, ![128, 384]⟩
abbrev S3x128x128 : Shape := ⟨3, ![3, 128, 128]⟩
abbrev S1x384 : Shape := ⟨2, ![1, 384]⟩
abbrev S128x256 : Shape := ⟨2, ![128, 256]⟩
abbrev S2x128x128 : Shape := ⟨3, ![2, 128, 128]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S4096x1024, .f32⟩
  | .hbm, ⟨5, _⟩ => ⟨S4x128x1, .f32⟩
  | .hbm, ⟨6, _⟩ => ⟨S4x128x128, .f32⟩
  | .hbm, ⟨7, _⟩ => ⟨S4096x1536, .bf16⟩
  | .hbm, ⟨8, _⟩ => ⟨S1x512, .f32⟩
  | .hbm, ⟨9, _⟩ => ⟨S4x128x128, .f32⟩
  | .hbm, ⟨10, _⟩ => ⟨S4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S4x128x128, .f32⟩
  | .local _ .vmem, ⟨8, _⟩ => ⟨S4x128x128, .f32⟩
  | .local _ .vmem, ⟨9, _⟩ => ⟨S512x512, .f32⟩
  | .local _ .vmem, ⟨10, _⟩ => ⟨S512x512, .f32⟩
  | .local _ .vmem, ⟨11, _⟩ => ⟨S512x1536, .bf16⟩
  | .local _ .vmem, ⟨12, _⟩ => ⟨S512x1536, .bf16⟩
  | .local _ .vmem, ⟨13, _⟩ => ⟨S1x512, .f32⟩
  | .local _ .vmem, ⟨14, _⟩ => ⟨S4x128x128, .f32⟩
  | .local _ .vmem, ⟨15, _⟩ => ⟨S4x128x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x1024 : Shape := ⟨2, ![4096, 1024]⟩
abbrev S4096x512 : Shape := ⟨2, ![4096, 512]⟩
abbrev S1x4096x512 : Shape := ⟨3, ![1, 4096, 512]⟩
abbrev S512 : Shape := ⟨1, ![512]⟩
abbrev S_ : Shape := ⟨0, ![]⟩
abbrev S1x32x128x4x128 : Shape := ⟨5, ![1, 32, 128, 4, 128]⟩
abbrev S1x32x128x4 : Shape := ⟨4, ![1, 32, 128, 4]⟩
abbrev S1x32x128x4x1 : Shape := ⟨5, ![1, 32, 128, 4, 1]⟩
abbrev S1x1x1x4x128 : Shape := ⟨5, ![1, 1, 1, 4, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S32x128x4 : Shape := ⟨3, ![32, 128, 4]⟩
abbrev S4096x1536 : Shape := ⟨2, ![4096, 1536]⟩
abbrev S4x128x1 : Shape := ⟨3, ![4, 128, 1]⟩

abbrev nBuf : Space → Nat
  | .hbm => 173
  | .vmem => 0
  | .smem => 0
  | _ => 0

abbrev hbmTy0_0 (i : Nat) : BufTy := match i % 128 with
  | 0 => ⟨S4096x3584, .f32⟩
  | 1 => ⟨S1x512, .f32⟩
  | 2 => ⟨S4x128x128, .f32⟩
  | 3 => ⟨S4x128, .f32⟩
  | 4 => ⟨S4096x1024, .f32⟩
  | 5 => ⟨S4096x512, .f32⟩
  | 6 => ⟨S4096x512, .f32⟩
  | 7 => ⟨S4096x512, .f32⟩
  | 8 => ⟨S1x4096x512, .f32⟩
  | 9 => ⟨S1x4096x512, .f32⟩
  | 10 => ⟨S1x4096x512, .f32⟩
  | 11 => ⟨S512, .f32⟩
  | 12 => ⟨S_, .f32⟩
  | 13 => ⟨S1x4096x512, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S_, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x32x128x4x128, .f32⟩
  | 37 => ⟨S4x128, .f32⟩
  | 38 => ⟨S1x32x128x4x128, .f32⟩
  | 39 => ⟨S_, .f32⟩
  | 40 => ⟨S1x32x128x4, .f32⟩
  | 41 => ⟨S1x32x128x4x1, .f32⟩
  | 42 => ⟨S_, .f32⟩
  | 43 => ⟨S1x32x128x4x1, .f32⟩
  | 44 => ⟨S1x32x128x4x1, .f32⟩
  | 45 => ⟨S_, .f32⟩
  | 46 => ⟨S1x32x128x4x1, .f32⟩
  | 47 => ⟨S1x32x128x4x1, .f32⟩
  | 48 => ⟨S1x32x128x4x1, .f32⟩
  | 49 => ⟨S1x32x128x4x1, .f32⟩
  | 50 => ⟨S_, .f32⟩
  | 51 => ⟨S1x32x128x4x1, .f32⟩
  | 52 => ⟨S1x32x128x4x1, .f32⟩
  | 53 => ⟨S1x32x128x4x128, .f32⟩
  | 54 => ⟨S1x32x128x4x128, .f32⟩
  | 55 => ⟨S1x1x1x4x128, .f32⟩
  | 56 => ⟨S1x32x128x4x128, .f32⟩
  | 57 => ⟨S1x32x128x4x128, .f32⟩
  | 58 => ⟨S4x1x32x128x128, .f32⟩
  | 59 => ⟨S1x32x128x4x128, .f32⟩
  | 60 => ⟨S128x4, .f32⟩
  | 61 => ⟨S128x4x1, .f32⟩
  | 62 => ⟨S1x1x128x4x1, .f32⟩
  | 63 => ⟨S1x32x128x4x128, .f32⟩
  | 64 => ⟨S1x32x128x4x128, .f32⟩
  | 65 => ⟨S1x4096x512, .f32⟩
  | 66 => ⟨S1x4096x512, .f32⟩
  | 67 => ⟨S1x4096x512, .f32⟩
  | 68 => ⟨S1x4096x512, .f32⟩
  | 69 => ⟨S_, .f32⟩
  | 70 => ⟨S1x4096x512, .f32⟩
  | 71 => ⟨S1x4096x512, .f32⟩
  | 72 => ⟨S_, .f32⟩
  | 73 => ⟨S1x4096x512, .f32⟩
  | 74 => ⟨S1x4096x512, .f32⟩
  | 75 => ⟨S_, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S4096x512, .f32⟩
  | 82 => ⟨S4096x512, .f32⟩
  | 83 => ⟨S1x4096x512, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S1x4096x512, .f32⟩
  | 90 => ⟨S1x4096x512, .f32⟩
  | 91 => ⟨S1x4096x512, .f32⟩
  | 92 => ⟨S1x32x128x4x128, .f32⟩
  | 93 => ⟨S_, .f32⟩
  | 94 => ⟨S1x128x4, .f32⟩
  | 95 => ⟨S1x1x128x4x1, .f32⟩
  | 96 => ⟨S_, .f32⟩
  | 97 => ⟨S128x4, .f32⟩
  | 98 => ⟨S128x4x1, .f32⟩
  | 99 => ⟨S_, .f32⟩
  | 100 => ⟨S128x4, .f32⟩
  | 101 => ⟨S4x128, .f32⟩
  | 102 => ⟨S4x1x32x128x128, .f32⟩
  | 103 => ⟨S4x128x128, .f32⟩
  | 104 => ⟨S4x1x32x128x128, .f32⟩
  | 105 => ⟨S1x32x128x4x128, .f32⟩
  | 106 => ⟨S1x32x128x4x128, .f32⟩
  | 107 => ⟨S_, .f32⟩
  | 108 => ⟨S1x4x128, .f32⟩
  | 109 => ⟨S1x1x1x4x128, .f32⟩
  | 110 => ⟨S1x32x128x4x128, .f32⟩
  | 111 => ⟨S1x32x128x4x128, .f32⟩
  | 112 => ⟨S_, .f32⟩
  | 113 => ⟨S4x128, .f32⟩
  | 114 => ⟨S1x32x128x4x128, .f32⟩
  | 115 => ⟨S_, .f32⟩
  | 116 => ⟨S1x32x128x4, .f32⟩
  | 117 => ⟨S1x32x128x4x1, .f32⟩
  | 118 => ⟨S1x32x128x4x128, .f32⟩
  | 119 => ⟨S1x32x128x4x128, .f32⟩
  | 120 => ⟨S1x32x128x4x1, .f32⟩
  | 121 => ⟨S_, .f32⟩
  | 122 => ⟨S1x32x128x4x1, .f32⟩
  | 123 => ⟨S1x32x128x4x1, .f32⟩
  | 124 => ⟨S_, .f32⟩
  | 125 => ⟨S32x128x4, .f32⟩
  | 126 => ⟨S1x32x128x4, .f32⟩
  | 127 => ⟨S1x32x128x4x128, .f32⟩
  | _ => ⟨S4096x3584, .f32⟩

abbrev hbmTy0_1 (i : Nat) : BufTy := match i % 128 with
  | 0 => ⟨S1x32x128x4x128, .f32⟩
  | 1 => ⟨S1x32x128x4x128, .f32⟩
  | 2 => ⟨S1x32x128x4x128, .f32⟩
  | 3 => ⟨S1x32x128x4x128, .f32⟩
  | 4 => ⟨S512, .f32⟩
  | 5 => ⟨S1x4096x512, .f32⟩
  | 6 => ⟨S1x4096x512, .f32⟩
  | 7 => ⟨S1x4096x512, .f32⟩
  | 8 => ⟨S_, .f32⟩
  | 9 => ⟨S1x4096x512, .f32⟩
  | 10 => ⟨S1x4096x512, .f32⟩
  | 11 => ⟨S1x4096x512, .f32⟩
  | 12 => ⟨S_, .f32⟩
  | 13 => ⟨S1x4096x512, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S_, .f32⟩
  | 23 => ⟨S1x4096x512, .f32⟩
  | 24 => ⟨S1x4096x512, .f32⟩
  | 25 => ⟨S1x4096x512, .f32⟩
  | 26 => ⟨S_, .f32⟩
  | 27 => ⟨S1x4096x512, .f32⟩
  | 28 => ⟨S1x4096x512, .f32⟩
  | 29 => ⟨S1x4096x512, .f32⟩
  | 30 => ⟨S_, .f32⟩
  | 31 => ⟨S1x4096x512, .f32⟩
  | 32 => ⟨S1x4096x512, .f32⟩
  | 33 => ⟨S1x4096x512, .f32⟩
  | 34 => ⟨S1x512, .f32⟩
  | 35 => ⟨S_, .f32⟩
  | 36 => ⟨S4096x512, .f32⟩
  | 37 => ⟨S_, .f32⟩
  | 38 => ⟨S4096x512, .f32⟩
  | 39 => ⟨S_, .f32⟩
  | 40 => ⟨S4096x512, .f32⟩
  | 41 => ⟨S4096x1536, .f32⟩
  | 42 => ⟨S4096x1536, .bf16⟩
  | 43 => ⟨S4x128x1, .f32⟩
  | 44 => ⟨S4x128x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_v54_2 : Ref sig .tc := ⟨.hbm, 74, rfl⟩
abbrev main_call0_cst_1 : Ref sig .tc := ⟨.hbm, 75, rfl⟩
abbrev main_call0_v6 : Ref sig .tc := ⟨.hbm, 76, rfl⟩
abbrev main_call0_v7 : Ref sig .tc := ⟨.hbm, 77, rfl⟩
abbrev main_v54_1 : Ref sig .tc := ⟨.hbm, 78, rfl⟩
abbrev main_v54_0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_7 : Ref sig .tc := ⟨.hbm, 93, rfl⟩
abbrev main_v65 : Ref sig .tc := ⟨.hbm, 94, rfl⟩
abbrev main_v66 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_11 : Ref sig .tc := ⟨.hbm, 112, rfl⟩
abbrev main_v80 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_13 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_16 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_20 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_cst_22 : Ref sig .tc := ⟨.hbm, 165, rfl⟩
abbrev main_v122 : Ref sig .tc := ⟨.hbm, 166, rfl⟩
abbrev main_cst_23 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩

abbrev nD : Nat := 1
abbrev τ : Topo := Topo.v7x

variable {F : FTy → Type} [FloatOps F]
-- ==== InKernel.lean ====
abbrev S4096x1536 : Shape := ⟨2, ![4096, 1536]⟩
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S1024x4x896 : Shape := ⟨3, ![1024, 4, 896]⟩
abbrev S4x1024x896 : Shape := ⟨3, ![4, 1024, 896]⟩
abbrev S512x1536 : Shape := ⟨2, ![512, 1536]⟩
abbrev S512x512 : Shape := ⟨2, ![512, 512]⟩
abbrev S512x1024 : Shape := ⟨2, ![512, 1024]⟩
abbrev S512x896 : Shape := ⟨2, ![512, 896]⟩
abbrev S1x1024x896 : Shape := ⟨3, ![1, 1024, 896]⟩
abbrev S1024x896 : Shape := ⟨2, ![1024, 896]⟩
abbrev S512x640 : Shape := ⟨2, ![512, 640]⟩
abbrev S1x1024x640 : Shape := ⟨3, ![1, 1024, 640]⟩
abbrev S1024x640 : Shape := ⟨2, ![1024, 640]⟩
abbrev S512x256 : Shape := ⟨2, ![512, 256]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S512x128 : Shape := ⟨2, ![512, 128]⟩
abbrev S1x1024x128 : Shape := ⟨3, ![1, 1024, 128]⟩
abbrev S1024x128 : Shape := ⟨2, ![1024, 128]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩
abbrev S1024 : Shape := ⟨1, ![1024]⟩

abbrev nBuf : Space → Nat
  | .hbm => 19
  | .vmem => 24
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x3584, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x3584, .bf16⟩
  | .hbm, ⟨13, _⟩ => ⟨S1024x4x896, .bf16⟩
  | .hbm, ⟨14, _⟩ => ⟨S4x1024x896, .bf16⟩
  | .hbm, ⟨15, _⟩ => ⟨S4096x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x1024x896, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InReferenceIdeal.lean ====
abbrev S4096x1536 : Shape := ⟨2, ![4096, 1536]⟩
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x3584, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x3584, .bf16⟩
  | .hbm, ⟨13, _⟩ => ⟨S4096x3584, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x3584, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== OutKernel.lean ====
abbrev S4096x512 : Shape := ⟨2, ![4096, 512]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩
abbrev S512x512 : Shape := ⟨2, ![512, 512]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S8x128, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutReferenceIdeal.lean ====
abbrev S4096x512 : Shape := ⟨2, ![4096, 512]⟩
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S1024 : Shape := ⟨1, ![1024]⟩
abbrev S8x128 : Shape := ⟨2, ![8, 128]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S4096x1024, .f32⟩
  | .hbm, ⟨43, _⟩ => ⟨S4096x512, .f32⟩
  | .hbm, ⟨44, _⟩ => ⟨S4096x512, .f32⟩
  | .hbm, ⟨45, _⟩ => ⟨S8x128, .f32⟩
  | .hbm, ⟨46, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== DwKernel.lean ====
abbrev S4096x1024 : Shape := ⟨2, ![4096, 1024]⟩
abbrev S4096x1536 : Shape := ⟨2, ![4096, 1536]⟩
abbrev S4096x512 : Shape := ⟨2, ![4096, 512]⟩
abbrev S256x1024 : Shape := ⟨2, ![256, 1024]⟩
abbrev S256x512 : Shape := ⟨2, ![256, 512]⟩
abbrev S4x1024x896 : Shape := ⟨3, ![4, 1024, 896]⟩
abbrev S256x1536 : Shape := ⟨2, ![256, 1536]⟩
abbrev S1024x256 : Shape := ⟨2, ![1024, 256]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩
abbrev S256x128 : Shape := ⟨2, ![256, 128]⟩
abbrev S1x1024x384 : Shape := ⟨3, ![1, 1024, 384]⟩
abbrev S1024x384 : Shape := ⟨2, ![1024, 384]⟩
abbrev S256x384 : Shape := ⟨2, ![256, 384]⟩
abbrev S1x1024x896 : Shape := ⟨3, ![1, 1024, 896]⟩
abbrev S1024x896 : Shape := ⟨2, ![1024, 896]⟩
abbrev S256x896 : Shape := ⟨2, ![256, 896]⟩
abbrev S1x1024x640 : Shape := ⟨3, ![1, 1024, 640]⟩
abbrev S1024x640 : Shape := ⟨2, ![1024, 640]⟩
abbrev S256x640 : Shape := ⟨2, ![256, 640]⟩
abbrev S1x1024x256 : Shape := ⟨3, ![1, 1024, 256]⟩
abbrev S256x256 : Shape := ⟨2, ![256, 256]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S256x1024, .bf16⟩
  | .hbm, ⟨7, _⟩ => ⟨S256x512, .f32⟩
  | .hbm, ⟨8, _⟩ => ⟨S256x512, .f32⟩
  | .hbm, ⟨9, _⟩ => ⟨S4x1024x896, .f32⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x512, .f32⟩
  | .local _ .vmem, ⟨14, _⟩ => ⟨S256x512, .f32⟩
  | .local _ .vmem, ⟨15, _⟩ => ⟨S4x1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DwReferenceIdeal.lean ====
abbrev S4096x1024 : Shape := ⟨2, ![4096, 1024]⟩
abbrev S4096x1536 : Shape := ⟨2, ![4096, 1536]⟩
abbrev S4096x512 : Shape := ⟨2, ![4096, 512]⟩
abbrev S256x1024 : Shape := ⟨2, ![256, 1024]⟩
abbrev S256x512 : Shape := ⟨2, ![256, 512]⟩
abbrev S4096x3584 : Shape := ⟨2, ![4096, 3584]⟩
abbrev S_ : Shape := ⟨0, ![]⟩
abbrev S1024x3584 : Shape := ⟨2, ![1024, 3584]⟩
abbrev S1024x1024 : Shape := ⟨2, ![1024, 1024]⟩
abbrev S3584x1024 : Shape := ⟨2, ![3584, 1024]⟩
abbrev S1024x896 : Shape := ⟨2, ![1024, 896]⟩
abbrev S1x1024x896 : Shape := ⟨3, ![1, 1024, 896]⟩
abbrev S4x1024x896 : Shape := ⟨3, ![4, 1024, 896]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S256x1024, .bf16⟩
  | .hbm, ⟨7, _⟩ => ⟨S256x512, .f32⟩
  | .hbm, ⟨8, _⟩ => ⟨S256x512, .f32⟩
  | .hbm, ⟨9, _⟩ => ⟨S4096x3584, .bf16⟩
  | .hbm, ⟨10, _⟩ => ⟨S4096x3584, .f32⟩
  | .hbm, ⟨11, _⟩ => ⟨S256x1024, .f32⟩
  | .hbm, ⟨12, _⟩ => ⟨S_, .f32⟩
  | .hbm, ⟨13, _⟩ => ⟨S1024x3584, .f32⟩
  | .hbm, ⟨14, _⟩ => ⟨S4096x1024, .f32⟩
  | .hbm, ⟨15, _⟩ => ⟨S4096x3584, .f32⟩
  | .hbm, ⟨16, _⟩ => ⟨S256x1024, .f32⟩
  | .hbm, ⟨17, _⟩ => ⟨S1024x1024, .f32⟩
  | .hbm, ⟨18, _⟩ => ⟨S256x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x3584, .f32⟩
  | .hbm, ⟨23, _⟩ => ⟨S3584x1024, .f32⟩
  | .hbm, ⟨24, _⟩ => ⟨S1024x3584, .f32⟩
  | .hbm, ⟨25, _⟩ => ⟨S1024x3584, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S1x1024x896, .f32⟩
  | .hbm, ⟨31, _⟩ => ⟨S1x1024x896, .f32⟩
  | .hbm, ⟨32, _⟩ => ⟨S1x1024x896, .f32⟩
  | .hbm, ⟨33, _⟩ => ⟨S1x1024x896, .f32⟩
  | .hbm, ⟨34, _⟩ => ⟨S4x1024x896, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== GateKernel.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4x128x1 : Shape := ⟨3, ![4, 128, 1]⟩
abbrev S4096x512 : Shape := ⟨2, ![4096, 512]⟩
abbrev S512x512 : Shape := ⟨2, ![512, 512]⟩
abbrev S128x512 : Shape := ⟨2, ![128, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S4x128x1, .f32⟩
  | .hbm, ⟨5, _⟩ => ⟨S4x128x128, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S4x128x128, .f32⟩
  | .local _ .vmem, ⟨8, _⟩ => ⟨S4x128x128, .f32⟩
  | .local _ .vmem, ⟨9, _⟩ => ⟨S512x512, .f32⟩
  | .local _ .vmem, ⟨10, _⟩ => ⟨S512x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateReferenceIdeal.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S1x4096x512 : Shape := ⟨3, ![1, 4096, 512]⟩
abbrev S512 : Shape := ⟨1, ![512]⟩
abbrev S_ : Shape := ⟨0, ![]⟩
abbrev S1x32x128x4x128 : Shape := ⟨5, ![1, 32, 128, 4, 128]⟩
abbrev S1x32x128x4 : Shape := ⟨4, ![1, 32, 128, 4]⟩
abbrev S1x32x128x4x1 : Shape := ⟨5, ![1, 32, 128, 4, 1]⟩
abbrev S1x1x1x4x128 : Shape := ⟨5, ![1, 1, 1, 4, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1x4096x512, .f32⟩
  | .hbm, ⟨8, _⟩ => ⟨S1x4096x512, .f32⟩
  | .hbm, ⟨9, _⟩ => ⟨S1x4096x512, .f32⟩
  | .hbm, ⟨10, _⟩ => ⟨S512, .f32⟩
  | .hbm, ⟨11, _⟩ => ⟨S_, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S_, .f32⟩
  | .hbm, ⟨16, _⟩ => ⟨S1x4096x512, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S_, .f32⟩
  | .hbm, ⟨21, _⟩ => ⟨S1x4096x512, .f32⟩
  | .hbm, ⟨22, _⟩ => ⟨S1x4096x512, .f32⟩
  | .hbm, ⟨23, _⟩ => ⟨S1x4096x512, .f32⟩
  | .hbm, ⟨24, _⟩ => ⟨S_, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S1x32x128x4x128, .f32⟩
  | .hbm, ⟨30, _⟩ => ⟨S4x128, .f32⟩
  | .hbm, ⟨31, _⟩ => ⟨S1x32x128x4x128, .f32⟩
  | .hbm, ⟨32, _⟩ => ⟨S_, .f32⟩
  | .hbm, ⟨33, _⟩ => ⟨S1x32x128x4, .f32⟩
  | .hbm, ⟨34, _⟩ => ⟨S1x32x128x4x1, .f32⟩
  | .hbm, ⟨35, _⟩ => ⟨S_, .f32⟩
  | .hbm, ⟨36, _⟩ => ⟨S1x32x128x4x1, .f32⟩
  | .hbm, ⟨37, _⟩ => ⟨S1x32x128x4x1, .f32⟩
  | .hbm, ⟨38, _⟩ => ⟨S_, .f32⟩
  | .hbm, ⟨39, _⟩ => ⟨S1x32x128x4x1, .f32⟩
  | .hbm, ⟨40, _⟩ => ⟨S1x32x128x4x1, .f32⟩
  | .hbm, ⟨41, _⟩ => ⟨S1x32x128x4x1, .f32⟩
  | .hbm, ⟨42, _⟩ => ⟨S1x32x128x4x128, .f32⟩
  | .hbm, ⟨43, _⟩ => ⟨S1x32x128x4x128, .f32⟩
  | .hbm, ⟨44, _⟩ => ⟨S1x1x1x4x128, .f32⟩
  | .hbm, ⟨45, _⟩ => ⟨S1x32x128x4x128, .f32⟩
  | .hbm, ⟨46, _⟩ => ⟨S1x32x128x4x128, .f32⟩
  | .hbm, ⟨47, _⟩ => ⟨S4x1x32x128x128, .f32⟩
  | .hbm, ⟨48, _⟩ => ⟨S1x32x128x4x128, .f32⟩
  | .hbm, ⟨49, _⟩ => ⟨S128x4, .f32⟩
  | .hbm, ⟨50, _⟩ => ⟨S128x4x1, .f32⟩
  | .hbm, ⟨51, _⟩ => ⟨S1x1x128x4x1, .f32⟩
  | .hbm, ⟨52, _⟩ => ⟨S1x32x128x4x128, .f32⟩
  | .hbm, ⟨53, _⟩ => ⟨S1x32x128x4x128, .f32⟩
  | .hbm, ⟨54, _⟩ => ⟨S1x4096x512, .f32⟩
  | .hbm, ⟨55, _⟩ => ⟨S1x4096x512, .f32⟩
  | .hbm, ⟨56, _⟩ => ⟨S1x4096x512, .f32⟩
  | .hbm, ⟨57, _⟩ => ⟨S1x4096x512, .f32⟩
  | .hbm, ⟨58, _⟩ => ⟨S_, .f32⟩
  | .hbm, ⟨59, _⟩ => ⟨S1x4096x512, .f32⟩
  | .hbm, ⟨60, _⟩ => ⟨S1x4096x512, .f32⟩
  | .hbm, ⟨61, _⟩ => ⟨S_, .f32⟩
  | .hbm, ⟨62, _⟩ => ⟨S1x4096x512, .f32⟩
  | .hbm, ⟨63, _⟩ => ⟨S1x4096x512, .f32⟩
  | .hbm, ⟨64, _⟩ => ⟨S1x4096x512, .f32⟩
  | .hbm, ⟨65, _⟩ => ⟨S1x4096x512, .f32⟩
  | .hbm, ⟨66, _⟩ => ⟨S4096x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== AdamInKernel.lean ====
abbrev S1024x896 : Shape := ⟨2, ![1024, 896]⟩
abbrev S256x896 : Shape := ⟨2, ![256, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutKernel.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaKernel.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S1x1024 : Shape := ⟨2, ![1, 1024]⟩
abbrev S1x3072 : Shape := ⟨2, ![1, 3072]⟩
abbrev S1x512 : Shape := ⟨2, ![1, 512]⟩
abbrev S512x128 : Shape := ⟨2, ![512, 128]⟩
abbrev S4x128 : Shape := ⟨2, ![4, 128]⟩
abbrev S1x64 : Shape := ⟨2, ![1, 64]⟩
abbrev S120x31 : Shape := ⟨2, ![120, 31]⟩

abbrev nBuf : Space → Nat
  | .hbm => 63
  | .vmem => 63
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S4x128, .f32⟩
  | .hbm, ⟨21, _⟩ => ⟨S4x128, .f32⟩
  | .hbm, ⟨22, _⟩ => ⟨S4x128, .f32⟩
  | .hbm, ⟨23, _⟩ => ⟨S4x128, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S120x31, .f32⟩
  | .hbm, ⟨33, _⟩ => ⟨S120x31, .f32⟩
  | .hbm, ⟨34, _⟩ => ⟨S120x31, .f32⟩
  | .hbm, ⟨35, _⟩ => ⟨S120x31, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x3072, .f32⟩
  | .hbm, ⟨40, _⟩ => ⟨S1x3072, .f32⟩
  | .hbm, ⟨41, _⟩ => ⟨S1x3072, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S512x128, .f32⟩
  | .hbm, ⟨49, _⟩ => ⟨S512x128, .f32⟩
  | .hbm, ⟨50, _⟩ => ⟨S512x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S120x31, .f32⟩
  | .hbm, ⟨61, _⟩ => ⟨S120x31, .f32⟩
  | .hbm, ⟨62, _⟩ => ⟨S120x31, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S4x128, .f32⟩
  | .local _ .vmem, ⟨21, _⟩ => ⟨S4x128, .f32⟩
  | .local _ .vmem, ⟨22, _⟩ => ⟨S4x128, .f32⟩
  | .local _ .vmem, ⟨23, _⟩ => ⟨S4x128, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S120x31, .f32⟩
  | .local _ .vmem, ⟨33, _⟩ => ⟨S120x31, .f32⟩
  | .local _ .vmem, ⟨34, _⟩ => ⟨S120x31, .f32⟩
  | .local _ .vmem, ⟨35, _⟩ => ⟨S120x31, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x3072, .f32⟩
  | .local _ .vmem, ⟨40, _⟩ => ⟨S1x3072, .f32⟩
  | .local _ .vmem, ⟨41, _⟩ => ⟨S1x3072, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S4x128, .f32⟩
  | .local _ .vmem, ⟨52, _⟩ => ⟨S4x128, .f32⟩
  | .local _ .vmem, ⟨53, _⟩ => ⟨S4x128, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S120x31, .f32⟩
  | .local _ .vmem, ⟨61, _⟩ => ⟨S120x31, .f32⟩
  | .local _ .vmem, ⟨62, _⟩ => ⟨S120x31, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0_0 : Ref sig .tc := ⟨.hbm, 36, rfl⟩
abbrev main_v0_1 : Ref sig .tc := ⟨.hbm, 37, rfl⟩
abbrev main_v0_2 : Ref sig .tc := ⟨.hbm, 38, rfl⟩
abbrev main_v0_3 : Ref sig .tc := ⟨.hbm, 39, rfl⟩
abbrev main_v0_4 : Ref sig .tc := ⟨.hbm, 40, rfl⟩
abbrev main_v0_5 : Ref sig .tc := ⟨.hbm, 41, rfl⟩
abbrev main_v0_6 : Ref sig .tc := ⟨.hbm, 42, rfl⟩
abbrev main_v0_7 : Ref sig .tc := ⟨.hbm, 43, rfl⟩
abbrev main_v0_8 : Ref sig .tc := ⟨.hbm, 44, rfl⟩
abbrev main_v0_9 : Ref sig .tc := ⟨.hbm, 45, rfl⟩
abbrev main_v0_10 : Ref sig .tc := ⟨.hbm, 46, rfl⟩
abbrev main_v0_11 : Ref sig .tc := ⟨.hbm, 47, rfl⟩
abbrev main_v0_12 : Ref sig .tc := ⟨.hbm, 48, rfl⟩
abbrev main_v0_13 : Ref sig .tc := ⟨.hbm, 49, rfl⟩
abbrev main_v0_14 : Ref sig .tc := ⟨.hbm, 50, rfl⟩
abbrev main_v0_15 : Ref sig .tc := ⟨.hbm, 51, rfl⟩
abbrev main_v0_16 : Ref sig .tc := ⟨.hbm, 52, rfl⟩
abbrev main_v0_17 : Ref sig .tc := ⟨.hbm, 53, rfl⟩
abbrev main_v0_18 : Ref sig .tc := ⟨.hbm, 54, rfl⟩
abbrev main_v0_19 : Ref sig .tc := ⟨.hbm, 55, rfl⟩
abbrev main_v0_20 : Ref sig .tc := ⟨.hbm, 56, rfl⟩
abbrev main_v0_21 : Ref sig .tc := ⟨.hbm, 57, rfl⟩
abbrev main_v0_22 : Ref sig .tc := ⟨.hbm, 58, rfl⟩
abbrev main_v0_23 : Ref sig .tc := ⟨.hbm, 59, rfl⟩
abbrev main_v0_24 : Ref sig .tc := ⟨.hbm, 60, rfl⟩
abbrev main_v0_25 : Ref sig .tc := ⟨.hbm, 61, rfl⟩
abbrev main_v0_26 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S120x31 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S120x31 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S120x31 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S120x31 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x3072 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x3072 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x3072 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S512x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S512x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S512x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S4x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x64 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S120x31 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S120x31 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S120x31 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== AdamSmallReferenceIdeal.lean ====
abbrev S1x1024 : Shape := ⟨2, ![1, 1024]⟩
abbrev S1x3072 : Shape := ⟨2, ![1, 3072]⟩
abbrev S1x512 : Shape := ⟨2, ![1, 512]⟩
abbrev S512x128 : Shape := ⟨2, ![512, 128]⟩
abbrev S4x128 : Shape := ⟨2, ![4, 128]⟩
abbrev S1x64 : Shape := ⟨2, ![1, 64]⟩
abbrev S120x31 : Shape := ⟨2, ![120, 31]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x3072, .f32⟩
  | 5 => ⟨S1x3072, .f32⟩
  | 6 => ⟨S1x3072, .f32⟩
  | 7 => ⟨S1x3072, .f32⟩
  | 8 => ⟨S1x1024, .f32⟩
  | 9 => ⟨S1x1024, .f32⟩
  | 10 => ⟨S1x1024, .f32⟩
  | 11 => ⟨S1x1024, .f32⟩
  | 12 => ⟨S1x512, .f32⟩
  | 13 => ⟨S1x512, .f32⟩
  | 14 => ⟨S1x512, .f32⟩
  | 15 => ⟨S1x512, .f32⟩
  | 16 => ⟨S512x128, .f32⟩
  | 17 => ⟨S512x128, .f32⟩
  | 18 => ⟨S512x128, .f32⟩
  | 19 => ⟨S512x128, .f32⟩
  | 20 => ⟨S4x128, .f32⟩
  | 21 => ⟨S4x128, .f32⟩
  | 22 => ⟨S4x128, .f32⟩
  | 23 => ⟨S4x128, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S120x31, .f32⟩
  | 33 => ⟨S120x31, .f32⟩
  | 34 => ⟨S120x31, .f32⟩
  | 35 => ⟨S120x31, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x3072, .f32⟩
  | 71 => ⟨S1x3072, .f32⟩
  | 72 => ⟨S_, .f32⟩
  | 73 => ⟨S1x3072, .f32⟩
  | 74 => ⟨S1x3072, .f32⟩
  | 75 => ⟨S1x3072, .f32⟩
  | 76 => ⟨S_, .f32⟩
  | 77 => ⟨S1x3072, .f32⟩
  | 78 => ⟨S1x3072, .f32⟩
  | 79 => ⟨S1x3072, .f32⟩
  | 80 => ⟨S_, .f32⟩
  | 81 => ⟨S1x3072, .f32⟩
  | 82 => ⟨S1x3072, .f32⟩
  | 83 => ⟨S1x3072, .f32⟩
  | 84 => ⟨S_, .f32⟩
  | 85 => ⟨S1x3072, .f32⟩
  | 86 => ⟨S1x3072, .f32⟩
  | 87 => ⟨S_, .f32⟩
  | 88 => ⟨S1x3072, .f32⟩
  | 89 => ⟨S1x3072, .f32⟩
  | 90 => ⟨S1x3072, .f32⟩
  | 91 => ⟨S_, .f32⟩
  | 92 => ⟨S1x3072, .f32⟩
  | 93 => ⟨S1x3072, .f32⟩
  | 94 => ⟨S1x3072, .f32⟩
  | 95 => ⟨S_, .f32⟩
  | 96 => ⟨S1x3072, .f32⟩
  | 97 => ⟨S1x3072, .f32⟩
  | 98 => ⟨S1x3072, .f32⟩
  | 99 => ⟨S_, .f32⟩
  | 100 => ⟨S1x3072, .f32⟩
  | 101 => ⟨S1x3072, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x1024, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S_, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S512x128, .f32⟩
  | 47 => ⟨S_, .f32⟩
  | 48 => ⟨S512x128, .f32⟩
  | 49 => ⟨S512x128, .f32⟩
  | 50 => ⟨S512x128, .f32⟩
  | 51 => ⟨S_, .f32⟩
  | 52 => ⟨S512x128, .f32⟩
  | 53 => ⟨S512x128, .f32⟩
  | 54 => ⟨S512x128, .f32⟩
  | 55 => ⟨S_, .f32⟩
  | 56 => ⟨S512x128, .f32⟩
  | 57 => ⟨S512x128, .f32⟩
  | 58 => ⟨S_, .f32⟩
  | 59 => ⟨S512x128, .f32⟩
  | 60 => ⟨S512x128, .f32⟩
  | 61 => ⟨S512x128, .f32⟩
  | 62 => ⟨S_, .f32⟩
  | 63 => ⟨S512x128, .f32⟩
  | 64 => ⟨S512x128, .f32⟩
  | 65 => ⟨S512x128, .f32⟩
  | 66 => ⟨S_, .f32⟩
  | 67 => ⟨S512x128, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S_, .f32⟩
  | 74 => ⟨S4x128, .f32⟩
  | 75 => ⟨S4x128, .f32⟩
  | 76 => ⟨S_, .f32⟩
  | 77 => ⟨S4x128, .f32⟩
  | 78 => ⟨S4x128, .f32⟩
  | 79 => ⟨S4x128, .f32⟩
  | 80 => ⟨S_, .f32⟩
  | 81 => ⟨S4x128, .f32⟩
  | 82 => ⟨S4x128, .f32⟩
  | 83 => ⟨S4x128, .f32⟩
  | 84 => ⟨S_, .f32⟩
  | 85 => ⟨S4x128, .f32⟩
  | 86 => ⟨S4x128, .f32⟩
  | 87 => ⟨S4x128, .f32⟩
  | 88 => ⟨S_, .f32⟩
  | 89 => ⟨S4x128, .f32⟩
  | 90 => ⟨S4x128, .f32⟩
  | 91 => ⟨S_, .f32⟩
  | 92 => ⟨S4x128, .f32⟩
  | 93 => ⟨S4x128, .f32⟩
  | 94 => ⟨S4x128, .f32⟩
  | 95 => ⟨S_, .f32⟩
  | 96 => ⟨S4x128, .f32⟩
  | 97 => ⟨S4x128, .f32⟩
  | 98 => ⟨S4x128, .f32⟩
  | 99 => ⟨S_, .f32⟩
  | 100 => ⟨S4x128, .f32⟩
  | 101 => ⟨S4x128, .f32⟩
  | 102 => ⟨S4x128, .f32⟩
  | 103 => ⟨S_, .f32⟩
  | 104 => ⟨S4x128, .f32⟩
  | 105 => ⟨S4x128, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S1x1024, .f32⟩

abbrev hbmTy0_2 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S_, .f32⟩
  | 45 => ⟨S120x31, .f32⟩
  | 46 => ⟨S120x31, .f32⟩
  | 47 => ⟨S_, .f32⟩
  | 48 => ⟨S120x31, .f32⟩
  | 49 => ⟨S120x31, .f32⟩
  | 50 => ⟨S120x31, .f32⟩
  | 51 => ⟨S_, .f32⟩
  | 52 => ⟨S120x31, .f32⟩
  | 53 => ⟨S120x31, .f32⟩
  | 54 => ⟨S120x31, .f32⟩
  | 55 => ⟨S_, .f32⟩
  | 56 => ⟨S120x31, .f32⟩
  | 57 => ⟨S120x31, .f32⟩
  | 58 => ⟨S120x31, .f32⟩
  | 59 => ⟨S_, .f32⟩
  | 60 => ⟨S120x31, .f32⟩
  | 61 => ⟨S120x31, .f32⟩
  | 62 => ⟨S_, .f32⟩
  | 63 => ⟨S120x31, .f32⟩
  | 64 => ⟨S120x31, .f32⟩
  | 65 => ⟨S120x31, .f32⟩
  | 66 => ⟨S_, .f32⟩
  | 67 => ⟨S120x31, .f32⟩
  | 68 => ⟨S120x31, .f32⟩
  | 69 => ⟨S120x31, .f32⟩
  | 70 => ⟨S_, .f32⟩
  | 71 => ⟨S120x31, .f32⟩
  | 72 => ⟨S120x31, .f32⟩
  | 73 => ⟨S120x31, .f32⟩
  | 74 => ⟨S_, .f32⟩
  | 75 => ⟨S120x31, .f32⟩
  | 76 => ⟨S120x31, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== CtxKernel.lean ====
abbrev S256x512 : Shape := ⟨2, ![256, 512]⟩
abbrev S1024x3584 : Shape := ⟨2, ![1024, 3584]⟩
abbrev S256x1024 : Shape := ⟨2, ![256, 1024]⟩
abbrev S1x1024 : Shape := ⟨2, ![1, 1024]⟩
abbrev S1024x4x896 : Shape := ⟨3, ![1024, 4, 896]⟩
abbrev S4x1024x896 : Shape := ⟨3, ![4, 1024, 896]⟩
abbrev S1x1024x512 : Shape := ⟨3, ![1, 1024, 512]⟩
abbrev S1024x512 : Shape := ⟨2, ![1024, 512]⟩
abbrev S256x128 : Shape := ⟨2, ![256, 128]⟩
abbrev S1x1024x128 : Shape := ⟨3, ![1, 1024, 128]⟩
abbrev S1024x128 : Shape := ⟨2, ![1024, 128]⟩
abbrev S256x384 : Shape := ⟨2, ![256, 384]⟩
abbrev S1x1024x384 : Shape := ⟨3, ![1, 1024, 384]⟩
abbrev S1024x384 : Shape := ⟨2, ![1024, 384]⟩
abbrev S256 : Shape := ⟨1, ![256]⟩
abbrev S256x1 : Shape := ⟨2, ![256, 1]⟩
abbrev S1024 : Shape := ⟨1, ![1024]⟩

abbrev nBuf : Space → Nat
  | .hbm => 13
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x3584, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3584, .bf16⟩
  | .hbm, ⟨8, _⟩ => ⟨S1024x4x896, .bf16⟩
  | .hbm, ⟨9, _⟩ => ⟨S4x1024x896, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S4x1024x896, .bf16⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== CtxReferenceIdeal.lean ====
abbrev S256x512 : Shape := ⟨2, ![256, 512]⟩
abbrev S1024x3584 : Shape := ⟨2, ![1024, 3584]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x3584, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S1024x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S256x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S1024, .f32⟩
  | .hbm, ⟨45, _⟩ => ⟨S1x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Spec.lean ====
/- The gradient of one group of one chunk of the gated unit, over the extended reals, in coordinates: 128 rows `p` of 128
   columns `c`. `V` is the group's part of the second input after gelu, `U` the first after gelu, `A` the gate before silu,
   `D` the cotangent of the result, `s` the gains, `w` the mixing matrix, `b` the bias of each row. -/
module

public import Idealize.ShloMosaic.Lib.Pointwise

@[expose] public section

noncomputable section

namespace Cert.Spec

open Idealize.ShloMosaic

/-- The argument over the square root of two. -/
def arg (x : EReal) : EReal := x * Ideal.ofBits .f32 0x3F3504F3#32
/-- One plus the error function of that. -/
def cdf (x : EReal) : EReal := 1 + Ideal.erf (arg x)
/-- Half the argument. -/
def half (x : EReal) : EReal := Ideal.ofBits .f32 0x3F000000#32 * x
/-- gelu. -/
def gelu (x : EReal) : EReal := half x * cdf x
/-- The bell at the argument. -/
def bell (x : EReal) : EReal := Ideal.exp (0 - arg x * arg x)
/-- The cotangent of gelu's argument. -/
def geluB (x ct : EReal) : EReal :=
  Ideal.ofBits .f32 0x3F906EBB#32 * (half x * ct) * bell x * Ideal.ofBits .f32 0x3F3504F3#32
    + Ideal.ofBits .f32 0x3F000000#32 * (ct * cdf x)
/-- The logistic function's derivative. -/
def sigD (a : EReal) : EReal := Ideal.logistic a * (1 - Ideal.logistic a)

variable (V U A D w : Fin 128 → Fin 128 → EReal) (s b : Fin 128 → EReal)

/-- The row's mean square plus the small constant. -/
def ms (p : Fin 128) : EReal := Ideal.div (∑ c, V p c * V p c) (Ideal.ofBits .f32 0x43000000#32) + Ideal.ofBits .f32 0x358637BD#32
/-- Its reciprocal square root. -/
def rs (p : Fin 128) : EReal := Ideal.rsqrt (ms V p)
/-- The derivative of the reciprocal square root there. -/
def rsD (p : Fin 128) : EReal := Ideal.ofBits .f32 0xBF000000#32 * Ideal.div (rs V p) (ms V p)
/-- The row normalised. -/
def nrm (p c : Fin 128) : EReal := V p c * rs V p
/-- The row normalised and scaled. -/
def vn (p c : Fin 128) : EReal := nrm V p c * s c
/-- The rows mixed, plus the bias. -/
def mix (p c : Fin 128) : EReal := (∑ q, w p q * vn V s q c) + b p
/-- The cotangent before the gate. -/
def pre (p c : Fin 128) : EReal := D p c * (A p c * Ideal.logistic (A p c))
/-- The cotangent of the mixed rows. -/
def dmix (p c : Fin 128) : EReal := U p c * pre A D p c
/-- The cotangent of `U`. -/
def du (p c : Fin 128) : EReal := pre A D p c * mix V w s b p c
/-- The cotangent of the gated gate. -/
def dga (p c : Fin 128) : EReal := U p c * mix V w s b p c * D p c
/-- The cotangent of the gate. -/
def da (p c : Fin 128) : EReal := dga V U D w s b p c * Ideal.logistic (A p c) + A p c * dga V U D w s b p c * sigD (A p c)
/-- The cotangent of the matrix. -/
def dw (p q : Fin 128) : EReal := ∑ c, dmix U A D p c * vn V s q c
/-- The cotangent of the scaled rows. -/
def dvn (q c : Fin 128) : EReal := ∑ p, w p q * dmix U A D p c
/-- The cotangent of the gains. -/
def ds (c : Fin 128) : EReal := ∑ p, nrm V p c * dvn U A D w p c
/-- The cotangent of the normalised rows. -/
def dnrm (p c : Fin 128) : EReal := dvn U A D w p c * s c
/-- The cotangent of the row's reciprocal root mean square. -/
def drs (p : Fin 128) : EReal := ∑ c, V p c * dnrm U A D w s p c
/-- The cotangent of each square in the row. -/
def dsq (p : Fin 128) : EReal := Ideal.div (drs V U A D w s p * rsD V p) (Ideal.ofBits .f32 0x43000000#32)
/-- The cotangent of `V`. -/
def dv (p c : Fin 128) : EReal := dnrm U A D w s p c * rs V p + V p c * dsq V U A D w s p + dsq V U A D w s p * V p c

/-! ## The whole arrays: chunk `n` of 32, group `g` of 4 -/

/-- Row `p` of chunk `n`. -/
def row (n : Fin 32) (p : Fin 128) : Fin 4096 := ⟨128 * n.val + p.val, by omega⟩

section

variable (z : (⟨2, ![4096, 3584]⟩ : Shape).Idx → EReal) (sg : (⟨2, ![1, 512]⟩ : Shape).Idx → EReal)
  (ws : (⟨3, ![4, 128, 128]⟩ : Shape).Idx → EReal) (bs : (⟨2, ![4, 128]⟩ : Shape).Idx → EReal)
  (dc : (⟨2, ![4096, 1024]⟩ : Shape).Idx → EReal)

/-- The first input. -/
def zu (n : Fin 32) (g : Fin 4) (p c : Fin 128) : EReal := z (ix2 (row n p) ⟨128 * g.val + c.val, by omega⟩)
/-- The second input. -/
def zv (n : Fin 32) (g : Fin 4) (p c : Fin 128) : EReal := z (ix2 (row n p) ⟨512 + (128 * g.val + c.val), by omega⟩)
/-- The gate. -/
def zg (n : Fin 32) (g : Fin 4) (p c : Fin 128) : EReal := z (ix2 (row n p) ⟨1024 + (128 * g.val + c.val), by omega⟩)
/-- The cotangent of the result. -/
def ct (n : Fin 32) (g : Fin 4) (p c : Fin 128) : EReal := dc (ix2 (row n p) ⟨128 * g.val + c.val, by omega⟩)
/-- The first input after gelu. -/
def gu (n : Fin 32) (g : Fin 4) (p c : Fin 128) : EReal := gelu (zu z n g p c)
/-- The second input after gelu. -/
def gv (n : Fin 32) (g : Fin 4) (p c : Fin 128) : EReal := gelu (zv z n g p c)
/-- The gains. -/
def gs (g : Fin 4) (c : Fin 128) : EReal := sg (ix2 0 ⟨128 * g.val + c.val, by omega⟩)
/-- The matrices. -/
def gw (g : Fin 4) (p q : Fin 128) : EReal := ws (ix3 g p q)
/-- The biases. -/
def gb (g : Fin 4) (p : Fin 128) : EReal := bs (ix2 g p)

/-- The cotangents of the three inputs. -/
def dZ (n : Fin 32) (g : Fin 4) (p c : Fin 128) : Fin 3 → EReal
  | 0 => geluB (zu z n g p c) (du (gv z n g) (zg z n g) (ct dc n g) (gw ws g) (gs sg g) (gb bs g) p c)
  | 1 => geluB (zv z n g p c) (dv (gv z n g) (gu z n g) (zg z n g) (ct dc n g) (gw ws g) (gs sg g) p c)
  | 2 => da (gv z n g) (gu z n g) (zg z n g) (ct dc n g) (gw ws g) (gs sg g) (gb bs g) p c
/-- The cotangent of the gains. -/
def dS (g : Fin 4) (c : Fin 128) : EReal := ∑ n : Fin 32, ds (gv z n g) (gu z n g) (zg z n g) (ct dc n g) (gw ws g) c
/-- The cotangent of the matrices. -/
def dW (g : Fin 4) (p q : Fin 128) : EReal := ∑ n : Fin 32, dw (gv z n g) (gu z n g) (zg z n g) (ct dc n g) (gs sg g) p q
/-- The cotangent of the biases. -/
def dB (g : Fin 4) (p : Fin 128) : EReal := ∑ c : Fin 128, ∑ n : Fin 32, dmix (gu z n g) (zg z n g) (ct dc n g) p c

end

end Cert.Spec

end
-- ==== Proof.Entry.lean ====
/- The reference's intermediate arrays, read at an entry. Its arrays come in two layouts: rows by columns, and chunk, row in
   the chunk, group, column in the group. -/
module

public import proofs.«01_k».proof.Proof.Gen.ReferenceIdeal.Read
public import proofs.«01_k».proof.Proof.Spec

@[expose] public section

set_option maxHeartbeats 1000000

noncomputable section

open Idealize.ShloMosaic Idealize.ShloMosaic.TcCoe Idealize.SL.Sem

namespace Cert.ReferenceIdeal.Entry

open Cert.ReferenceIdeal Cert.ReferenceIdeal.Gen Cert.ReferenceIdeal.Read

variable (z : S4096x3584.Idx → EReal) (sg : S1x512.Idx → EReal) (ws : S4x128x128.Idx → EReal) (bs : S4x128.Idx → EReal)
  (dc : S4096x1024.Idx → EReal)

/-- Row `p` of chunk `n`, column `c` of group `g`, in the layout by rows. -/
abbrev flat (n : Fin 32) (g : Fin 4) (p c : Fin 128) : S1x4096x512.Idx := ix3 0 (Spec.row n p) ⟨128 * g.val + c.val, by omega⟩

/-- The layouts' reading of each other. -/
theorem flat_idx (n : Fin 32) (g : Fin 4) (p c : Fin 128) : idx_main_v27 (ix5 0 n p g c) = flat n g p c := by
  funext a
  match a with
  | ⟨0, _⟩ => rfl
  | ⟨1, _⟩ => exact Fin.ext (by show ((((0 * 32 + n.val) * 128 + p.val) * 4 + g.val) * 128 + c.val) / 512 % 4096 = 128 * n.val + p.val; omega)
  | ⟨2, _⟩ => exact Fin.ext (by show ((((0 * 32 + n.val) * 128 + p.val) * 4 + g.val) * 128 + c.val) % 512 = 128 * g.val + c.val; omega)
theorem five_idx (n : Fin 32) (g : Fin 4) (p c : Fin 128) : idx_main_v52 (flat n g p c) = ix5 0 n p g c := by
  funext a
  match a with
  | ⟨0, _⟩ => rfl
  | ⟨1, _⟩ => exact Fin.ext (by show ((0 * 4096 + (128 * n.val + p.val)) * 512 + (128 * g.val + c.val)) / 65536 % 32 = n.val; omega)
  | ⟨2, _⟩ => exact Fin.ext (by show ((0 * 4096 + (128 * n.val + p.val)) * 512 + (128 * g.val + c.val)) / 512 % 128 = p.val; omega)
  | ⟨3, _⟩ => exact Fin.ext (by show ((0 * 4096 + (128 * n.val + p.val)) * 512 + (128 * g.val + c.val)) / 128 % 4 = g.val; omega)
  | ⟨4, _⟩ => exact Fin.ext (by show ((0 * 4096 + (128 * n.val + p.val)) * 512 + (128 * g.val + c.val)) % 128 = c.val; omega)

/-! ## Sums over several axes -/

/-- A sum over the indices with a property is the sum over what parametrises them. -/
theorem sum_fibre {ι κ : Type} [Fintype ι] [Fintype κ] (P : ι → Prop) [DecidablePred P] (f : ι → EReal) (e : κ → ι) (back : ι → κ)
    (h1 : ∀ k, P (e k)) (h2 : ∀ k, back (e k) = k) (h3 : ∀ i, P i → e (back i) = i) :
    ∑ i ∈ Finset.univ.filter P, f i = ∑ k, f (e k) :=
  Finset.sum_bij' (fun i _ => back i) (fun k _ => e k) (fun _ _ => Finset.mem_univ _) (fun k _ => Finset.mem_filter.2 ⟨Finset.mem_univ _, h1 k⟩)
    (fun i hi => h3 i (Finset.mem_filter.1 hi).2) (fun k _ => h2 k) (fun i hi => congrArg f (h3 i (Finset.mem_filter.1 hi).2).symm)

/-- Over the first and last of five axes, both of length one. -/
theorem sum04 (h : S1x32x128x4x1.ReducesTo [0, 4] S32x128x4) (f : S1x32x128x4x1.Idx → EReal) (n : Fin 32) (p : Fin 128) (g : Fin 4) :
    Ideal.hostReduceAdd h f 0 (ix3 n p g) = f (ix5 0 n p g 0) := by
  unfold Ideal.hostReduceAdd
  rw [zero_add, sum_fibre _ f (fun _ : Fin 1 => ix5 0 n p g 0) (fun _ => 0) (fun _ => by
    funext a; match a with | ⟨0, _⟩ => rfl | ⟨1, _⟩ => rfl | ⟨2, _⟩ => rfl) (fun _ => Subsingleton.elim _ _) (fun i hi => by
    funext a
    match a with
    | ⟨0, _⟩ => exact Subsingleton.elim (α := Fin 1) _ _
    | ⟨1, _⟩ => exact (congrFun hi 0).symm
    | ⟨2, _⟩ => exact (congrFun hi 1).symm
    | ⟨3, _⟩ => exact (congrFun hi 2).symm
    | ⟨4, _⟩ => exact Subsingleton.elim (α := Fin 1) _ _)]
  exact Fin.sum_univ_one _

/-- Over the chunks and the columns. -/
theorem sum14 (h : S1x32x128x4x128.ReducesTo [1, 4] S1x128x4) (f : S1x32x128x4x128.Idx → EReal) (p : Fin 128) (g : Fin 4) :
    Ideal.hostReduceAdd h f 0 (ix3 0 p g) = ∑ c : Fin 128, ∑ n : Fin 32, f (ix5 0 n p g c) := by
  unfold Ideal.hostReduceAdd
  rw [zero_add, sum_fibre _ f (fun k : Fin 128 × Fin 32 => ix5 0 k.2 p g k.1) (fun i => (i 4, i 1)) (fun _ => by
    funext a; match a with | ⟨0, _⟩ => rfl | ⟨1, _⟩ => rfl | ⟨2, _⟩ => rfl) (fun _ => rfl) (fun i hi => by
    funext a
    match a with
    | ⟨0, _⟩ => exact Subsingleton.elim (α := Fin 1) _ _
    | ⟨1, _⟩ => rfl
    | ⟨2, _⟩ => exact (congrFun hi 1).symm
    | ⟨3, _⟩ => exact (congrFun hi 2).symm
    | ⟨4, _⟩ => rfl)]
  exact Fintype.sum_prod_type _

/-- Over the chunks and the rows. -/
theorem sum12 (h : S1x32x128x4x128.ReducesTo [1, 2] S1x4x128) (f : S1x32x128x4x128.Idx → EReal) (g : Fin 4) (c : Fin 128) :
    Ideal.hostReduceAdd h f 0 (ix3 0 g c) = ∑ n : Fin 32, ∑ p : Fin 128, f (ix5 0 n p g c) := by
  unfold Ideal.hostReduceAdd
  rw [zero_add, sum_fibre _ f (fun k : Fin 32 × Fin 128 => ix5 0 k.1 k.2 g c) (fun i => (i 1, i 2)) (fun _ => by
    funext a; match a with | ⟨0, _⟩ => rfl | ⟨1, _⟩ => rfl | ⟨2, _⟩ => rfl) (fun _ => rfl) (fun i hi => by
    funext a
    match a with
    | ⟨0, _⟩ => exact Subsingleton.elim (α := Fin 1) _ _
    | ⟨1, _⟩ => rfl
    | ⟨2, _⟩ => rfl
    | ⟨3, _⟩ => exact (congrFun hi 1).symm
    | ⟨4, _⟩ => exact (congrFun hi 2).symm)]
  exact Fintype.sum_prod_type _

/-- Over three axes of length one. -/
theorem sum014 (h : S1x1x128x4x1.ReducesTo [0, 1, 4] S128x4) (f : S1x1x128x4x1.Idx → EReal) (p : Fin 128) (g : Fin 4) :
    Ideal.hostReduceAdd h f 0 (ix2 p g) = f (ix5 0 0 p g 0) := by
  unfold Ideal.hostReduceAdd
  rw [zero_add, sum_fibre _ f (fun _ : Fin 1 => ix5 0 0 p g 0) (fun _ => 0) (fun _ => by
    funext a; match a with | ⟨0, _⟩ => rfl | ⟨1, _⟩ => rfl) (fun _ => Subsingleton.elim _ _) (fun i hi => by
    funext a
    match a with
    | ⟨0, _⟩ => exact Subsingleton.elim (α := Fin 1) _ _
    | ⟨1, _⟩ => exact Subsingleton.elim (α := Fin 1) _ _
    | ⟨2, _⟩ => exact (congrFun hi 0).symm
    | ⟨3, _⟩ => exact (congrFun hi 1).symm
    | ⟨4, _⟩ => exact Subsingleton.elim (α := Fin 1) _ _)]
  exact Fin.sum_univ_one _

/-- Over the first three axes, each of length one. -/
theorem sum012 (h : S1x1x1x4x128.ReducesTo [0, 1, 2] S4x128) (f : S1x1x1x4x128.Idx → EReal) (g : Fin 4) (c : Fin 128) :
    Ideal.hostReduceAdd h f 0 (ix2 g c) = f (ix5 0 0 0 g c) := by
  unfold Ideal.hostReduceAdd
  rw [zero_add, sum_fibre _ f (fun _ : Fin 1 => ix5 0 0 0 g c) (fun _ => 0) (fun _ => by
    funext a; match a with | ⟨0, _⟩ => rfl | ⟨1, _⟩ => rfl) (fun _ => Subsingleton.elim _ _) (fun i hi => by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact (congrFun hi 0).symm
    | ⟨4, _⟩ => exact (congrFun hi 1).symm)]
  exact Fin.sum_univ_one _

/-- The product that contracts the unit axis, the chunks and the columns. -/
abbrev D3 := dot_S4x1x32x128x128_S1x32x128x4x128_S4x128x128_123_014_4_2_0_3

theorem dot3 (x : S4x1x32x128x128.Idx → EReal) (y : S1x32x128x4x128.Idx → EReal) (g : Fin 4) (p q : Fin 128) :
    ∑ k : D3.contr.Idx, x (D3.lhsIdx (ix3 g p q) k) * y (D3.rhsIdx (ix3 g p q) k)
      = ∑ n : Fin 32, ∑ c : Fin 128, x (ix5 g 0 n c p) * y (ix5 0 n q g c) := by
  refine Eq.trans ?_ (Fintype.sum_prod_type (fun k : Fin 32 × Fin 128 => x (ix5 g 0 k.1 k.2 p) * y (ix5 0 k.1 q g k.2)))
  refine Finset.sum_bij' (fun k _ => (k ⟨1, by decide⟩, k ⟨2, by decide⟩)) (fun k _ => fun a => match a with | ⟨0, _⟩ => (0 : Fin 1) | ⟨1, _⟩ => k.1 | ⟨2, _⟩ => k.2)
    (fun _ _ => Finset.mem_univ _) (fun _ _ => Finset.mem_univ _) (fun k _ => ?_) (fun _ _ => rfl) (fun k _ => ?_)
  · funext a
    match a with
    | ⟨0, _⟩ => exact Subsingleton.elim (α := Fin 1) _ _
    | ⟨1, _⟩ => rfl
    | ⟨2, _⟩ => rfl
  · congr 2
    · funext a
      match a with
      | ⟨0, _⟩ => rfl
      | ⟨1, _⟩ => exact Subsingleton.elim (α := Fin 1) _ _
      | ⟨2, _⟩ => rfl
      | ⟨3, _⟩ => rfl
      | ⟨4, _⟩ => rfl
    · funext a
      match a with
      | ⟨0, _⟩ => exact Subsingleton.elim (α := Fin 1) _ _
      | ⟨1, _⟩ => rfl
      | ⟨2, _⟩ => rfl
      | ⟨3, _⟩ => rfl
      | ⟨4, _⟩ => rfl

/-- One minus the error function at the negated argument is one plus it at the argument. -/
theorem cdf_eq (x : EReal) : Ideal.erfc (-x * Ideal.ofBits .f32 0x3F3504F3#32) = Spec.cdf x := by
  rw [EReal.neg_mul, Ideal.erfc_neg]; rfl

theorem v3_flat (n : Fin 32) (g : Fin 4) (p c : Fin 128) : val_main_v3 (F := Ideal) z (flat n g p c) = Spec.zu z n g p c := by
  pointwise [val_main_v3, val_main_v0, Spec.zu]
theorem v4_flat (n : Fin 32) (g : Fin 4) (p c : Fin 128) : val_main_v4 (F := Ideal) z (flat n g p c) = Spec.zv z n g p c := by
  pointwise [val_main_v4, val_main_v1, Spec.zv]
theorem v5_flat (n : Fin 32) (g : Fin 4) (p c : Fin 128) : val_main_v5 (F := Ideal) z (flat n g p c) = Spec.zg z n g p c := by
  pointwise [val_main_v5, val_main_v2, Spec.zg]
theorem v58_flat (n : Fin 32) (g : Fin 4) (p c : Fin 128) : val_main_v58 (F := Ideal) dc (flat n g p c) = Spec.ct dc n g p c := by
  pointwise [val_main_v58, val_main_v57, Spec.ct]
theorem v16_flat (n : Fin 32) (g : Fin 4) (p c : Fin 128) : val_main_v16 (F := Ideal) z (flat n g p c) = Spec.gu z n g p c := by
  pointwise [val_main_v16, val_main_v8, val_main_v7, val_main_cst, val_main_v12, val_main_v11, val_main_v9, val_main_v10, val_main_cst_0, v3_flat, cdf_eq, Spec.gu, Spec.gelu, Spec.half]
theorem v26_flat (n : Fin 32) (g : Fin 4) (p c : Fin 128) : val_main_v26 (F := Ideal) z (flat n g p c) = Spec.gv z n g p c := by
  pointwise [val_main_v26, val_main_v18, val_main_v17, val_main_cst_1, val_main_v22, val_main_v21, val_main_v19, val_main_v20, val_main_cst_2, v4_flat, cdf_eq, Spec.gv, Spec.gelu, Spec.half]
theorem v27_five (n : Fin 32) (g : Fin 4) (p c : Fin 128) : val_main_v27 (F := Ideal) z (ix5 0 n p g c) = Spec.gv z n g p c :=
  (val_main_v27_apply (F := Ideal) z _).trans ((congrArg _ (flat_idx n g p c)).trans (v26_flat z n g p c))

/-! ## The rows' scale and the mixed rows -/

theorem v35_entry (n : Fin 32) (g : Fin 4) (p : Fin 128) (q : Fin 1) : val_main_v35 (F := Ideal) z (ix5 0 n p g q) = Spec.ms (Spec.gv z n g) p := by
  pointwise [val_main_v35, val_main_v33, val_main_v34, val_main_v32, val_main_v31, val_main_v30, val_main_v29, val_main_cst_3, val_main_cst_4, val_main_cst_5, v27_five, Spec.ms]
theorem v36_entry (n : Fin 32) (g : Fin 4) (p : Fin 128) (q : Fin 1) : val_main_v36 (F := Ideal) z (ix5 0 n p g q) = Spec.rs (Spec.gv z n g) p := by
  pointwise [val_main_v36, v35_entry, Spec.rs]
theorem v39_entry (n : Fin 32) (g : Fin 4) (p : Fin 128) (q : Fin 1) : val_main_v39 (F := Ideal) z (ix5 0 n p g q) = Spec.rsD (Spec.gv z n g) p := by
  pointwise [val_main_v39, val_main_v38, val_main_cst_6, val_main_v37, v35_entry, v36_entry, Spec.rsD]
theorem v41_entry (n : Fin 32) (g : Fin 4) (p c : Fin 128) : val_main_v41 (F := Ideal) z (ix5 0 n p g c) = Spec.nrm (Spec.gv z n g) p c := by
  pointwise [val_main_v41, val_main_v40, v36_entry, v27_five, Spec.nrm]
theorem v28_entry (g : Fin 4) (c : Fin 128) : val_main_v28 (F := Ideal) sg (ix2 g c) = Spec.gs sg g c := by
  pointwise [val_main_v28, val_main_v6, Spec.gs, Nat.mul_comm]
theorem v44_entry (n : Fin 32) (g : Fin 4) (p c : Fin 128) : val_main_v44 (F := Ideal) z sg (ix5 0 n p g c) = Spec.vn (Spec.gv z n g) (Spec.gs sg g) p c := by
  pointwise [val_main_v44, val_main_v43, val_main_v42, v41_entry, v28_entry, Spec.vn]
theorem v51_entry (n : Fin 32) (g : Fin 4) (p c : Fin 128) :
    val_main_v51 (F := Ideal) z sg ws bs (ix5 0 n p g c) = Spec.mix (Spec.gv z n g) (Spec.gw ws g) (Spec.gs sg g) (Spec.gb bs g) p c := by
  pointwise [val_main_v51, val_main_v46, val_main_v45, val_main_v50, val_main_v49, val_main_v48, val_main_v47, v44_entry, Spec.mix, Spec.gw, Spec.gb]
  simp only [mul_comm]
theorem v52_flat (n : Fin 32) (g : Fin 4) (p c : Fin 128) :
    val_main_v52 (F := Ideal) z sg ws bs (flat n g p c) = Spec.mix (Spec.gv z n g) (Spec.gw ws g) (Spec.gs sg g) (Spec.gb bs g) p c :=
  (val_main_v52_apply (F := Ideal) z sg ws bs _).trans ((congrArg _ (five_idx n g p c)).trans (v51_entry z sg ws bs n g p c))

/-! ## The cotangents around the gate -/

theorem v54_2_flat (n : Fin 32) (g : Fin 4) (p c : Fin 128) : val_main_v54_2 (F := Ideal) z (flat n g p c) = Ideal.logistic (Spec.zg z n g p c) := by
  pointwise [val_main_v54_2, val_main_call0_v4, val_main_call0_cst_0, val_main_call0_v3, val_main_call0_v2, val_main_call0_cst, val_main_call0_v1, val_main_call0_v0, v5_flat, Ideal.logistic]
theorem v54_1_flat (n : Fin 32) (g : Fin 4) (p c : Fin 128) : val_main_v54_1 (F := Ideal) z (flat n g p c) = Spec.sigD (Spec.zg z n g p c) := by
  pointwise [val_main_v54_1, v54_2_flat, val_main_call0_v7, val_main_call0_v6, val_main_call0_cst_1, Spec.sigD]
theorem v60_flat (n : Fin 32) (g : Fin 4) (p c : Fin 128) : val_main_v60 (F := Ideal) z dc (flat n g p c) = Spec.pre (Spec.zg z n g) (Spec.ct dc n g) p c := by
  pointwise [val_main_v60, val_main_v54_0, v54_2_flat, v5_flat, v58_flat, Spec.pre]
theorem v62_flat (n : Fin 32) (g : Fin 4) (p c : Fin 128) :
    val_main_v62 (F := Ideal) z dc (flat n g p c) = Spec.dmix (Spec.gu z n g) (Spec.zg z n g) (Spec.ct dc n g) p c := by
  pointwise [val_main_v62, v60_flat, v16_flat, Spec.dmix]
theorem v63_flat (n : Fin 32) (g : Fin 4) (p c : Fin 128) :
    val_main_v63 (F := Ideal) z sg ws bs dc (flat n g p c) = Spec.du (Spec.gv z n g) (Spec.zg z n g) (Spec.ct dc n g) (Spec.gw ws g) (Spec.gs sg g) (Spec.gb bs g) p c := by
  pointwise [val_main_v63, v60_flat, v52_flat, Spec.du]
theorem v59_flat (n : Fin 32) (g : Fin 4) (p c : Fin 128) :
    val_main_v59 (F := Ideal) z sg ws bs dc (flat n g p c) = Spec.dga (Spec.gv z n g) (Spec.gu z n g) (Spec.ct dc n g) (Spec.gw ws g) (Spec.gs sg g) (Spec.gb bs g) p c := by
  pointwise [val_main_v59, val_main_v53, v16_flat, v52_flat, v58_flat, Spec.dga]
theorem v61_flat (n : Fin 32) (g : Fin 4) (p c : Fin 128) :
    val_main_v61 (F := Ideal) z sg ws bs dc (flat n g p c) = Spec.da (Spec.gv z n g) (Spec.gu z n g) (Spec.zg z n g) (Spec.ct dc n g) (Spec.gw ws g) (Spec.gs sg g) (Spec.gb bs g) p c := by
  pointwise [val_main_v61, val_main_call1_v0, val_main_call1_v1, val_main_call1_v2, v59_flat, v54_2_flat, v54_1_flat, v5_flat, Spec.da]
theorem v64_entry (n : Fin 32) (g : Fin 4) (p c : Fin 128) :
    val_main_v64 (F := Ideal) z dc (ix5 0 n p g c) = Spec.dmix (Spec.gu z n g) (Spec.zg z n g) (Spec.ct dc n g) p c :=
  (val_main_v64_apply (F := Ideal) z dc _).trans ((congrArg _ (flat_idx n g p c)).trans (v62_flat z dc n g p c))

/-! ## The cotangents through the mixing and the normalisation -/

theorem v74_entry (n : Fin 32) (g : Fin 4) (q c : Fin 128) :
    val_main_v74 (F := Ideal) z ws dc (ix5 0 n q g c) = Spec.dvn (Spec.gu z n g) (Spec.zg z n g) (Spec.ct dc n g) (Spec.gw ws g) q c := by
  pointwise [val_main_v74, val_main_v73, val_main_v71, v64_entry, Spec.dvn, Spec.gw]
  simp only [mul_comm]
theorem v79_entry (n : Fin 32) (g : Fin 4) (p c : Fin 128) :
    val_main_v79 (F := Ideal) z sg ws dc (ix5 0 n p g c) = Spec.dnrm (Spec.gu z n g) (Spec.zg z n g) (Spec.ct dc n g) (Spec.gw ws g) (Spec.gs sg g) p c := by
  pointwise [val_main_v79, val_main_v78, val_main_v42, v74_entry, v28_entry, Spec.dnrm]
theorem v83_entry (n : Fin 32) (g : Fin 4) (p : Fin 128) (q : Fin 1) :
    val_main_v83 (F := Ideal) z sg ws dc (ix5 0 n p g q) = Spec.drs (Spec.gv z n g) (Spec.gu z n g) (Spec.zg z n g) (Spec.ct dc n g) (Spec.gw ws g) (Spec.gs sg g) p := by
  pointwise [val_main_v83, val_main_v82, val_main_cst_12, val_main_v81, v79_entry, v27_five, Spec.drs]
theorem v88_entry (n : Fin 32) (g : Fin 4) (p : Fin 128) (q : Fin 1) :
    val_main_v88 (F := Ideal) z sg ws dc (ix5 0 n p g q) = Spec.dsq (Spec.gv z n g) (Spec.gu z n g) (Spec.zg z n g) (Spec.ct dc n g) (Spec.gw ws g) (Spec.gs sg g) p := by
  pointwise [val_main_v88, val_main_v87, val_main_v86, val_main_cst_13, v83_entry, v39_entry, Spec.dsq]
theorem v89_entry (n : Fin 32) (g : Fin 4) (p : Fin 128) :
    val_main_v89 (F := Ideal) z sg ws dc (ix3 n p g) = Spec.dsq (Spec.gv z n g) (Spec.gu z n g) (Spec.zg z n g) (Spec.ct dc n g) (Spec.gw ws g) (Spec.gs sg g) p := by
  pointwise [val_main_v89, val_main_cst_14]
  rw [sum04, v88_entry]
theorem v91_entry (n : Fin 32) (g : Fin 4) (p c : Fin 128) :
    val_main_v91 (F := Ideal) z sg ws dc (ix5 0 n p g c) = Spec.dsq (Spec.gv z n g) (Spec.gu z n g) (Spec.zg z n g) (Spec.ct dc n g) (Spec.gw ws g) (Spec.gs sg g) p := by
  pointwise [val_main_v91, val_main_v90, v89_entry]
theorem v95_entry (n : Fin 32) (g : Fin 4) (p c : Fin 128) :
    val_main_v95 (F := Ideal) z sg ws dc (ix5 0 n p g c) = Spec.dv (Spec.gv z n g) (Spec.gu z n g) (Spec.zg z n g) (Spec.ct dc n g) (Spec.gw ws g) (Spec.gs sg g) p c := by
  pointwise [val_main_v95, val_main_v93, val_main_v85, val_main_v84, val_main_v92, val_main_v94, v91_entry, v79_entry, v36_entry, v27_five, Spec.dv]
theorem v97_flat (n : Fin 32) (g : Fin 4) (p c : Fin 128) :
    val_main_v97 (F := Ideal) z sg ws dc (flat n g p c) = Spec.dv (Spec.gv z n g) (Spec.gu z n g) (Spec.zg z n g) (Spec.ct dc n g) (Spec.gw ws g) (Spec.gs sg g) p c :=
  (val_main_v97_apply (F := Ideal) z sg ws dc _).trans ((congrArg _ (five_idx n g p c)).trans (v95_entry z sg ws dc n g p c))

/-! ## The derivative of gelu -/

/-- The constant two over the square root of pi, negated. -/
theorem negC : Ideal.ofBits .f32 0xBF906EBB#32 = -Ideal.ofBits .f32 0x3F906EBB#32 := by
  simp [Ideal.ofBits, Ideal.ieee]

theorem bell_eq (x : EReal) :
    Ideal.exp (-((-x * Ideal.ofBits .f32 0x3F3504F3#32) * (-x * Ideal.ofBits .f32 0x3F3504F3#32))) = Spec.bell x := by
  rw [EReal.neg_mul, neg_mul_neg, Spec.bell, zero_sub]; rfl

theorem geluB_eq (x ct : EReal) :
    -((Ideal.ofBits .f32 0xBF906EBB#32 * (Spec.half x * ct)) * Spec.bell x * Ideal.ofBits .f32 0x3F3504F3#32)
      + Ideal.ofBits .f32 0x3F000000#32 * (ct * Spec.cdf x) = Spec.geluB x ct := by
  rw [negC, EReal.neg_mul, EReal.neg_mul, EReal.neg_mul, neg_neg]; rfl

theorem v119_flat (n : Fin 32) (g : Fin 4) (p c : Fin 128) :
    val_main_v119 (F := Ideal) z sg ws bs dc (flat n g p c) = Spec.dZ z sg ws bs dc n g p c 0 := by
  refine Eq.trans ?_ (geluB_eq _ _)
  pointwise [val_main_v119, val_main_v118, val_main_v117, val_main_cst_20, val_main_v116, val_main_v115, val_main_v114, val_main_cst_19, val_main_v113,
    val_main_v112, val_main_v111, val_main_cst_18, val_main_v110, val_main_v109, val_main_v8, val_main_v7, val_main_cst, val_main_v12, val_main_v15, val_main_v14, val_main_v13, val_main_v11, val_main_v9, val_main_v10, val_main_cst_0, v3_flat,
    v63_flat, cdf_eq, bell_eq, Spec.half]
theorem v108_flat (n : Fin 32) (g : Fin 4) (p c : Fin 128) :
    val_main_v108 (F := Ideal) z sg ws dc (flat n g p c) = Spec.dZ z sg ws bs dc n g p c 1 := by
  refine Eq.trans ?_ (geluB_eq _ _)
  pointwise [val_main_v108, val_main_v107, val_main_v106, val_main_cst_17, val_main_v105, val_main_v104, val_main_v103, val_main_cst_16, val_main_v102,
    val_main_v101, val_main_v100, val_main_cst_15, val_main_v99, val_main_v98, val_main_v18, val_main_v17, val_main_cst_1, val_main_v22, val_main_v25, val_main_v24, val_main_v23, val_main_v21, val_main_v19, val_main_v20, val_main_cst_2, v4_flat,
    v97_flat, cdf_eq, bell_eq, Spec.half]

/-! ## The four results -/

/-- Three arrays side by side, read at a column of the first, the second and the third. -/
theorem cat0 (y1 y2 y3 : S4096x512.Idx → EReal) (h) (r : Fin 4096) (l : Fin 512) (L : Fin 1536) (hL : L.val = l.val) :
    concatenate S4096x1536 1 [⟨S4096x512, y1⟩, ⟨S4096x512, y2⟩, ⟨S4096x512, y3⟩] h (ix2 r L) = y1 (ix2 r l) :=
  concatenate_apply_piece (t := S4096x1536) 1 [⟨S4096x512, y1⟩, ⟨S4096x512, y2⟩, ⟨S4096x512, y3⟩] h (ix2 r L) 0 (by show 0 < 3; decide) S4096x512 y1 rfl rfl 0 rfl (ix2 r l)
    (fun b hb => match b with | ⟨0, _⟩ => rfl | ⟨1, _⟩ => absurd rfl hb) (by show 0 + l.val = L.val; omega)
theorem cat1 (y1 y2 y3 : S4096x512.Idx → EReal) (h) (r : Fin 4096) (l : Fin 512) (L : Fin 1536) (hL : L.val = 512 + l.val) :
    concatenate S4096x1536 1 [⟨S4096x512, y1⟩, ⟨S4096x512, y2⟩, ⟨S4096x512, y3⟩] h (ix2 r L) = y2 (ix2 r l) :=
  concatenate_apply_piece (t := S4096x1536) 1 [⟨S4096x512, y1⟩, ⟨S4096x512, y2⟩, ⟨S4096x512, y3⟩] h (ix2 r L) 1 (by show 1 < 3; decide) S4096x512 y2 rfl rfl 512 rfl (ix2 r l)
    (fun b hb => match b with | ⟨0, _⟩ => rfl | ⟨1, _⟩ => absurd rfl hb) (by show 512 + l.val = L.val; omega)
theorem cat2 (y1 y2 y3 : S4096x512.Idx → EReal) (h) (r : Fin 4096) (l : Fin 512) (L : Fin 1536) (hL : L.val = 1024 + l.val) :
    concatenate S4096x1536 1 [⟨S4096x512, y1⟩, ⟨S4096x512, y2⟩, ⟨S4096x512, y3⟩] h (ix2 r L) = y3 (ix2 r l) :=
  concatenate_apply_piece (t := S4096x1536) 1 [⟨S4096x512, y1⟩, ⟨S4096x512, y2⟩, ⟨S4096x512, y3⟩] h (ix2 r L) 2 (by show 2 < 3; decide) S4096x512 y3 rfl rfl 1024 rfl (ix2 r l)
    (fun b hb => match b with | ⟨0, _⟩ => rfl | ⟨1, _⟩ => absurd rfl hb) (by show 1024 + l.val = L.val; omega)

/-- The sums over the axis of length one before that. -/
theorem v123_entry (r : Fin 4096) (l : Fin 512) : val_main_v123 (F := Ideal) z sg ws bs dc (ix2 r l) = val_main_v119 (F := Ideal) z sg ws bs dc (ix3 0 r l) := by
  pointwise [val_main_v123, val_main_cst_23]
  exact Fin.sum_univ_one _
theorem v122_entry (r : Fin 4096) (l : Fin 512) : val_main_v122 (F := Ideal) z sg ws dc (ix2 r l) = val_main_v108 (F := Ideal) z sg ws dc (ix3 0 r l) := by
  pointwise [val_main_v122, val_main_cst_22]
  exact Fin.sum_univ_one _
theorem v121_entry (r : Fin 4096) (l : Fin 512) : val_main_v121 (F := Ideal) z sg ws bs dc (ix2 r l) = val_main_v61 (F := Ideal) z sg ws bs dc (ix3 0 r l) := by
  pointwise [val_main_v121, val_main_cst_21]
  exact Fin.sum_univ_one _

/-- Column `c` of group `g` of part `k` is read from that part. -/
theorem v124_entry (n : Fin 32) (g : Fin 4) (p c : Fin 128) : ∀ k : Fin 3,
    val_main_v124 (F := Ideal) z sg ws bs dc (ix2 (Spec.row n p) ⟨512 * k.val + (128 * g.val + c.val), by omega⟩) = Spec.dZ z sg ws bs dc n g p c k
  | 0 => (cat0 _ _ _ _ _ ⟨128 * g.val + c.val, by omega⟩ _ (Nat.zero_add _)).trans ((v123_entry z sg ws bs dc _ _).trans (v119_flat z sg ws bs dc n g p c))
  | 1 => (cat1 _ _ _ _ _ ⟨128 * g.val + c.val, by omega⟩ _ rfl).trans ((v122_entry z sg ws dc _ _).trans (v108_flat z sg ws bs dc n g p c))
  | 2 => (cat2 _ _ _ _ _ ⟨128 * g.val + c.val, by omega⟩ _ rfl).trans ((v121_entry z sg ws bs dc _ _).trans (v61_flat z sg ws bs dc n g p c))

theorem v125_entry (r : Fin 4096) (l : Fin 1536) :
    val_main_v125 (F := Ideal) z sg ws bs dc (ix2 r l)
      = Spec.dZ z sg ws bs dc ⟨r.val / 128, by omega⟩ ⟨l.val % 512 / 128, by omega⟩ ⟨r.val % 128, by omega⟩ ⟨l.val % 512 % 128, by omega⟩ ⟨l.val / 512, by omega⟩ := by
  rw [← v124_entry]
  refine congrArg (val_main_v124 (F := Ideal) z sg ws bs dc) ?_
  funext a
  match a with
  | ⟨0, _⟩ => exact Fin.ext (by show r.val = 128 * (r.val / 128) + r.val % 128; omega)
  | ⟨1, _⟩ => exact Fin.ext (by show l.val = 512 * (l.val / 512) + (128 * (l.val % 512 / 128) + l.val % 512 % 128); omega)

theorem v120_entry (a : Fin 1) (l : Fin 512) :
    val_main_v120 (F := Ideal) z ws dc (ix2 a l) = Spec.dS z ws dc ⟨l.val / 128, by omega⟩ ⟨l.val % 128, by omega⟩ := by
  pointwise [val_main_v120, val_main_v96, val_main_v80, val_main_cst_11, val_main_v77, val_main_v76, val_main_cst_10, val_main_v75, sum012, sum12, v41_entry, v74_entry, Spec.dS, Spec.ds]

theorem v72_entry (g : Fin 4) (p q : Fin 128) :
    val_main_v72 (F := Ideal) z sg dc (ix3 g p q) = Spec.dW z sg dc g p q := by
  unfold val_main_v72
  simp only [Host.dotGeneral]
  rw [Ideal.dotGeneral_apply]
  refine (dot3 (val_main_v71 (F := Ideal) z dc) (val_main_v44 (F := Ideal) z sg) g p q).trans ?_
  pointwise [val_main_v71, v64_entry, v44_entry, Spec.dW, Spec.dw]

theorem v127_entry (g : Fin 4) (p q : Fin 128) :
    val_main_v127 (F := Ideal) z dc (ix3 g p q) = Spec.dB z dc g p := by
  pointwise [val_main_v127, val_main_v126, val_main_v70, val_main_v69, val_main_cst_9, val_main_v68, val_main_v67, val_main_cst_8, val_main_v66, val_main_v65, val_main_cst_7, sum014, sum14, v64_entry, Spec.dB]
  exact Fin.sum_univ_one _

end Cert.ReferenceIdeal.Entry

end
-- ==== Proof.Chunk.lean ====
/- The gradient of one chunk of the gated unit, operation by operation: 128 rows of the three 512-column inputs, in four
   groups of 128 columns. Each definition is one intermediate value of the kernel's body, at any float arithmetic, so
   that the four chunks of a block, which the generated payloads cut in four different ways, are four uses of one text. -/
module

public import proofs.«01_k».proof.Proof.Gen.KernelIdeal.Frame

@[expose] public section

noncomputable section

namespace Cert.KernelIdeal.Chunk

open Cert.KernelIdeal Cert.KernelIdeal.Gen Idealize.ShloMosaic

variable {F : FTy → Type} [FloatOps F]

/-! ## Elementwise: the erf form of gelu and its derivative -/

/-- Half of the argument. -/
def half (x : FVec F S128x512 .f32) : FVec F S128x512 .f32 := mulf (broadcast S128x512 (Scalar.ofBits .f32 0x3F000000#32)) x
/-- The argument divided by the square root of two (a product with the rounded constant). -/
def arg (x : FVec F S128x512 .f32) : FVec F S128x512 .f32 := mulf x (broadcast S128x512 (Scalar.ofBits .f32 0x3F3504F3#32))
/-- The bell `exp (-y²)` of that argument. -/
def bell (x : FVec F S128x512 .f32) : FVec F S128x512 .f32 :=
  exp (subf (broadcast S128x512 (Scalar.ofBits .f32 0x00000000#32)) (mulf (arg x) (arg x)))
/-- One plus the error function of that argument. -/
def cdf (x : FVec F S128x512 .f32) : FVec F S128x512 .f32 :=
  addf (broadcast S128x512 (Scalar.ofBits .f32 0x3F800000#32)) (erf (arg x))
/-- gelu. -/
def gelu (x : FVec F S128x512 .f32) : FVec F S128x512 .f32 := mulf (half x) (cdf x)
/-- The cotangent of gelu's argument, of the cotangent `ct` of its result. -/
def geluB (x ct : FVec F S128x512 .f32) : FVec F S128x512 .f32 :=
  addf (mulf (mulf (mulf (broadcast S128x512 (Scalar.ofBits .f32 0x3F906EBB#32)) (mulf (half x) ct)) (bell x))
      (broadcast S128x512 (Scalar.ofBits .f32 0x3F3504F3#32)))
    (mulf (broadcast S128x512 (Scalar.ofBits .f32 0x3F000000#32)) (mulf ct (cdf x)))

/-! ## Group `g` of the operands -/

theorem slices_col : ∀ g : Fin 4, S128x512.Slices ![0, 128 * g.val] S128x128 := by decide
theorem slices_gain : ∀ g : Fin 4, S1x512.Slices ![0, 128 * g.val] S1x128 := by decide
theorem slices_mat : ∀ g : Fin 4, S4x128x128.Slices ![g.val, 0, 0] S1x128x128 := by decide

/-- The group's 128 columns. -/
def col (g : Fin 4) (x : FVec F S128x512 .f32) : FVec F S128x128 .f32 := extractStridedSlice S128x128 ![0, 128 * g.val] x (slices_col g)
/-- The group's gains. -/
def gain (g : Fin 4) (s : FVec F S1x512 .f32) : FVec F S1x128 .f32 := extractStridedSlice S1x128 ![0, 128 * g.val] s (slices_gain g)
/-- The group's matrix. -/
def mat (g : Fin 4) (w : FVec F S4x128x128 .f32) : FVec F S128x128 .f32 :=
  shapeCast S128x128 (extractStridedSlice S1x128x128 ![g.val, 0, 0] w (slices_mat g)) shapeCasts_S1x128x128_S128x128

/-! ## One group, forward: `v` the second input after gelu, `u` the first after gelu, `a` the gate, `s` gains, `w` matrix, `b` bias -/

/-- The rows' mean square plus the small constant. -/
def meanSq (v : FVec F S128x128 .f32) : FVec F S128x1 .f32 :=
  addf (divf (shapeCast S128x1 (multiReduction .add [1] S128 (mulf v v) 0x00000000#32 reduces_S128x128_S128 (.inl rfl) rfl) shapeCasts_S128_S128x1)
      (broadcast S128x1 (Scalar.ofBits .f32 0x43000000#32)))
    (broadcast S128x1 (Scalar.ofBits .f32 0x358637BD#32))
/-- Its reciprocal square root. -/
def rs (v : FVec F S128x128 .f32) : FVec F S128x1 .f32 := rsqrt (meanSq v)
/-- The derivative of the reciprocal square root there. -/
def rsD (v : FVec F S128x128 .f32) : FVec F S128x1 .f32 :=
  mulf (broadcast S128x1 (Scalar.ofBits .f32 0xBF000000#32)) (divf (rs v) (meanSq v))
/-- The rows normalised. -/
def nrm (v : FVec F S128x128 .f32) : FVec F S128x128 .f32 := mulf v (broadcastTo S128x128 (rs v) broadcasts_S128x1_S128x128)
/-- The rows normalised and scaled. -/
def vn (v : FVec F S128x128 .f32) (s : FVec F S1x128 .f32) : FVec F S128x128 .f32 :=
  mulf (nrm v) (broadcastTo S128x128 s broadcasts_S1x128_S128x128)
/-- The rows mixed by the group's matrix, plus its bias. -/
def mix (v : FVec F S128x128 .f32) (s : FVec F S1x128 .f32) (w b : FVec F S128x128 .f32) : FVec F S128x128 .f32 :=
  addf (matmul dot_S128x128_S128x128_S128x128_1_0_0_1_n_n none (truncf .bf16 w bitsLt_bf16_f32) (truncf .bf16 (vn v s) bitsLt_bf16_f32)
    (constant S128x128 .f32 0x00000000#32)) b
/-- The logistic function's derivative at the gate. -/
def sigD (a : FVec F S128x128 .f32) : FVec F S128x128 .f32 :=
  mulf (logistic a) (subf (broadcast S128x128 (Scalar.ofBits .f32 0x3F800000#32)) (logistic a))

/-! ## … and backward, `d` the cotangent of the group's result -/

/-- The cotangent before the gate. -/
def pre (a d : FVec F S128x128 .f32) : FVec F S128x128 .f32 := mulf d (mulf a (logistic a))
/-- The cotangent of the mixed rows. -/
def dmix (u a d : FVec F S128x128 .f32) : FVec F S128x128 .f32 := mulf u (pre a d)
/-- The cotangent of `u`. -/
def du (v : FVec F S128x128 .f32) (s : FVec F S1x128 .f32) (w b a d : FVec F S128x128 .f32) : FVec F S128x128 .f32 :=
  mulf (pre a d) (mix v s w b)
/-- The cotangent of the gated part of the gate. -/
def dga (v : FVec F S128x128 .f32) (s : FVec F S1x128 .f32) (w b u d : FVec F S128x128 .f32) : FVec F S128x128 .f32 :=
  mulf (mulf u (mix v s w b)) d
/-- The cotangent of the gate `a`. -/
def da (v : FVec F S128x128 .f32) (s : FVec F S1x128 .f32) (w b u a d : FVec F S128x128 .f32) : FVec F S128x128 .f32 :=
  addf (mulf (dga v s w b u d) (logistic a)) (mulf (mulf a (dga v s w b u d)) (sigD a))
/-- The cotangent of the matrix. -/
def dw (v : FVec F S128x128 .f32) (s : FVec F S1x128 .f32) (u a d : FVec F S128x128 .f32) : FVec F S128x128 .f32 :=
  matmul dot_S128x128_S128x128_S128x128_1_1_0_0_n_n none (truncf .bf16 (dmix u a d) bitsLt_bf16_f32) (truncf .bf16 (vn v s) bitsLt_bf16_f32)
    (constant S128x128 .f32 0x00000000#32)
/-- The cotangent of the scaled rows. -/
def dvn (w u a d : FVec F S128x128 .f32) : FVec F S128x128 .f32 :=
  matmul dot_S128x128_S128x128_S128x128_0_0_1_1_n_n none (truncf .bf16 w bitsLt_bf16_f32) (truncf .bf16 (dmix u a d) bitsLt_bf16_f32)
    (constant S128x128 .f32 0x00000000#32)
/-- The cotangent of the gains. -/
def ds (v w u a d : FVec F S128x128 .f32) : FVec F S1x128 .f32 :=
  shapeCast S1x128 (multiReduction .add [0] S128 (mulf (nrm v) (dvn w u a d)) 0x00000000#32 reduces_S128x128_S128_2 (.inl rfl) rfl) shapeCasts_S128_S1x128
/-- The cotangent of the normalised rows. -/
def dnrm (s : FVec F S1x128 .f32) (w u a d : FVec F S128x128 .f32) : FVec F S128x128 .f32 :=
  mulf (dvn w u a d) (broadcastTo S128x128 s broadcasts_S1x128_S128x128)
/-- The cotangent of the rows' reciprocal root mean square. -/
def drs (v : FVec F S128x128 .f32) (s : FVec F S1x128 .f32) (w u a d : FVec F S128x128 .f32) : FVec F S128x1 .f32 :=
  shapeCast S128x1 (multiReduction .add [1] S128 (mulf v (dnrm s w u a d)) 0x00000000#32 reduces_S128x128_S128 (.inl rfl) rfl) shapeCasts_S128_S128x1
/-- The cotangent of each square. -/
def dsq (v : FVec F S128x128 .f32) (s : FVec F S1x128 .f32) (w u a d : FVec F S128x128 .f32) : FVec F S128x128 .f32 :=
  broadcastTo S128x128 (shapeCast S128x1 (multiReduction .add [1] S128
    (divf (mulf (drs v s w u a d) (rsD v)) (broadcast S128x1 (Scalar.ofBits .f32 0x43000000#32)))
    0x00000000#32 reduces_S128x1_S128 (.inl rfl) rfl) shapeCasts_S128_S128x1) broadcasts_S128x1_S128x128
/-- The cotangent of `v`. -/
def dv (v : FVec F S128x128 .f32) (s : FVec F S1x128 .f32) (w u a d : FVec F S128x128 .f32) : FVec F S128x128 .f32 :=
  addf (addf (mulf (dnrm s w u a d) (broadcastTo S128x128 (rs v) broadcasts_S128x1_S128x128)) (mulf v (dsq v s w u a d)))
    (mulf (dsq v s w u a d) v)

/-! ## The four groups put together: each padded with zeros to the whole, and the four added, last group first -/

/-- Four column groups side by side. -/
def cols (x : Fin 4 → FVec F S128x128 .f32) : FVec F S128x512 .f32 :=
  addf (addf (addf
    (concatenate S128x512 1 [⟨S128x384, broadcast S128x384 (Scalar.ofBits (F := F) .f32 0x00000000#32)⟩, ⟨S128x128, x 3⟩] concatenates_S128x384_S128x128_S128x512_d1)
    (concatenate S128x512 1 [⟨S128x384, concatenate S128x384 1 [⟨S128x256, broadcast S128x256 (Scalar.ofBits (F := F) .f32 0x00000000#32)⟩, ⟨S128x128, x 2⟩] concatenates_S128x256_S128x128_S128x384_d1⟩,
      ⟨S128x128, broadcast S128x128 (Scalar.ofBits (F := F) .f32 0x00000000#32)⟩] concatenates_S128x384_S128x128_S128x512_d1))
    (concatenate S128x512 1 [⟨S128x256, concatenate S128x256 1 [⟨S128x128, broadcast S128x128 (Scalar.ofBits (F := F) .f32 0x00000000#32)⟩, ⟨S128x128, x 1⟩] concatenates_S128x128_S128x128_S128x256_d1⟩,
      ⟨S128x256, broadcast S128x256 (Scalar.ofBits (F := F) .f32 0x00000000#32)⟩] concatenates_S128x256_S128x256_S128x512_d1))
    (concatenate S128x512 1 [⟨S128x128, x 0⟩, ⟨S128x384, broadcast S128x384 (Scalar.ofBits (F := F) .f32 0x00000000#32)⟩] concatenates_S128x128_S128x384_S128x512_d1)
/-- Four gain groups side by side. -/
def gains (x : Fin 4 → FVec F S1x128 .f32) : FVec F S1x512 .f32 :=
  addf (addf (addf
    (concatenate S1x512 1 [⟨S1x384, broadcast S1x384 (Scalar.ofBits (F := F) .f32 0x00000000#32)⟩, ⟨S1x128, x 3⟩] concatenates_S1x384_S1x128_S1x512_d1)
    (concatenate S1x512 1 [⟨S1x384, concatenate S1x384 1 [⟨S1x256, broadcast S1x256 (Scalar.ofBits (F := F) .f32 0x00000000#32)⟩, ⟨S1x128, x 2⟩] concatenates_S1x256_S1x128_S1x384_d1⟩,
      ⟨S1x128, broadcast S1x128 (Scalar.ofBits (F := F) .f32 0x00000000#32)⟩] concatenates_S1x384_S1x128_S1x512_d1))
    (concatenate S1x512 1 [⟨S1x256, concatenate S1x256 1 [⟨S1x128, broadcast S1x128 (Scalar.ofBits (F := F) .f32 0x00000000#32)⟩, ⟨S1x128, x 1⟩] concatenates_S1x128_S1x128_S1x256_d1⟩,
      ⟨S1x256, broadcast S1x256 (Scalar.ofBits (F := F) .f32 0x00000000#32)⟩] concatenates_S1x256_S1x256_S1x512_d1))
    (concatenate S1x512 1 [⟨S1x128, x 0⟩, ⟨S1x384, broadcast S1x384 (Scalar.ofBits (F := F) .f32 0x00000000#32)⟩] concatenates_S1x128_S1x384_S1x512_d1)
/-- Four matrices stacked. -/
def mats (x : Fin 4 → FVec F S128x128 .f32) : FVec F S4x128x128 .f32 :=
  addf (addf (addf
    (concatenate S4x128x128 0 [⟨S3x128x128, broadcast S3x128x128 (Scalar.ofBits (F := F) .f32 0x00000000#32)⟩,
      ⟨S1x128x128, shapeCast S1x128x128 (x 3) shapeCasts_S128x128_S1x128x128⟩] concatenates_S3x128x128_S1x128x128_S4x128x128_d0)
    (concatenate S4x128x128 0 [⟨S3x128x128, concatenate S3x128x128 0 [⟨S2x128x128, broadcast S2x128x128 (Scalar.ofBits (F := F) .f32 0x00000000#32)⟩,
        ⟨S1x128x128, shapeCast S1x128x128 (x 2) shapeCasts_S128x128_S1x128x128⟩] concatenates_S2x128x128_S1x128x128_S3x128x128_d0⟩,
      ⟨S1x128x128, broadcast S1x128x128 (Scalar.ofBits (F := F) .f32 0x00000000#32)⟩] concatenates_S3x128x128_S1x128x128_S4x128x128_d0))
    (concatenate S4x128x128 0 [⟨S2x128x128, concatenate S2x128x128 0 [⟨S1x128x128, broadcast S1x128x128 (Scalar.ofBits (F := F) .f32 0x00000000#32)⟩,
        ⟨S1x128x128, shapeCast S1x128x128 (x 1) shapeCasts_S128x128_S1x128x128⟩] concatenates_S1x128x128_S1x128x128_S2x128x128_d0⟩,
      ⟨S2x128x128, broadcast S2x128x128 (Scalar.ofBits (F := F) .f32 0x00000000#32)⟩] concatenates_S2x128x128_S2x128x128_S4x128x128_d0))
    (concatenate S4x128x128 0 [⟨S1x128x128, shapeCast S1x128x128 (x 0) shapeCasts_S128x128_S1x128x128⟩,
      ⟨S3x128x128, broadcast S3x128x128 (Scalar.ofBits (F := F) .f32 0x00000000#32)⟩] concatenates_S1x128x128_S3x128x128_S4x128x128_d0)

/-! ## The chunk's six results, of its four slabs `au av ag d` and the weights -/

variable (au av ag d : FVec F S128x512 .f32) (s : FVec F S1x512 .f32) (w b : FVec F S4x128x128 .f32)

/-- The cotangent of the first input. -/
def dAu : FVec F S128x512 .bf16 :=
  truncf .bf16 (geluB au (cols fun g => du (col g (gelu av)) (gain g s) (mat g w) (mat g b) (col g ag) (col g d))) bitsLt_bf16_f32
/-- The cotangent of the second input. -/
def dAv : FVec F S128x512 .bf16 :=
  truncf .bf16 (geluB av (cols fun g => dv (col g (gelu av)) (gain g s) (mat g w) (col g (gelu au)) (col g ag) (col g d))) bitsLt_bf16_f32
/-- The cotangent of the gate. -/
def dAg : FVec F S128x512 .bf16 :=
  truncf .bf16 (cols fun g => da (col g (gelu av)) (gain g s) (mat g w) (mat g b) (col g (gelu au)) (col g ag) (col g d)) bitsLt_bf16_f32
/-- The chunk's part of the cotangent of the gains. -/
def dS : FVec F S1x512 .f32 := gains fun g => ds (col g (gelu av)) (mat g w) (col g (gelu au)) (col g ag) (col g d)
/-- The chunk's part of the cotangent of the matrices. -/
def dW : FVec F S4x128x128 .f32 := mats fun g => dw (col g (gelu av)) (gain g s) (col g (gelu au)) (col g ag) (col g d)
/-- The chunk's part of the cotangent of the biases. -/
def dB : FVec F S4x128x128 .f32 := mats fun g => dmix (col g (gelu au)) (col g ag) (col g d)

/-- The biases' part summed over its columns, in every column. -/
def laneSum (x : FVec F S4x128x128 .f32) : FVec F S4x128x128 .f32 :=
  broadcastTo S4x128x128 (shapeCast S4x128x1 (shapeCast S4x128x1 (multiReduction .add [2] S4x128 x 0x00000000#32 reduces_S4x128x128_S4x128 (.inl rfl) rfl)
    shapeCasts_S4x128_S4x128x1) shapeCasts_S4x128x1_S4x128x1) broadcasts_S4x128x1_S4x128x128

end Cert.KernelIdeal.Chunk

end
-- ==== Proof.Block.lean ====
/- What one grid point of the kernel computes: four chunks of 128 rows of a 512-row block. The first result's block is
   written in twelve slabs; the three others are running sums over the chunks. -/
module

public import proofs.«01_k».proof.Proof.Chunk
public import Idealize.ShloMosaic.Lib.Pointwise.Index

@[expose] public section

noncomputable section

namespace Cert.KernelIdeal.Chunk

open Cert.KernelIdeal Cert.KernelIdeal.Gen Idealize.ShloMosaic

variable {F : FTy → Type} [FloatOps F]

theorem slices_rows : ∀ k : Fin 4, S512x512.Slices ![128 * k.val, 0] S128x512 := by decide

/-- Chunk `k`: rows `128 k` to `128 k + 127` of a block. -/
def rows (k : Fin 4) (x : FVec F S512x512 .f32) : FVec F S128x512 .f32 := extractStridedSlice S128x512 ![128 * k.val, 0] x (slices_rows k)

variable (x0 x1 x2 : FVec F S512x512 .f32) (x3 : FVec F S1x512 .f32) (x4 x5 : FVec F S4x128x128 .f32) (x6 : FVec F S512x512 .f32)

/-- Slab `q` (the three inputs in order) of chunk `k` of the first result. -/
def slab (k : Fin 4) : Fin 3 → FVec F S128x512 .bf16
  | 0 => dAu (rows k x0) (rows k x1) (rows k x2) (rows k x6) x3 x4 (shapeCast S4x128x128 x5 shapeCasts_S4x128x128_S4x128x128)
  | 1 => dAv (rows k x0) (rows k x1) (rows k x2) (rows k x6) x3 x4
  | 2 => dAg (rows k x0) (rows k x1) (rows k x2) (rows k x6) x3 x4 (shapeCast S4x128x128 x5 shapeCasts_S4x128x128_S4x128x128)

/-- The first result's block: entry `(r, l)` is entry `(r mod 128, l mod 512)` of slab `l / 512` of chunk `r / 128`. -/
def block : FVec F S512x1536 .bf16 := fun j =>
  slab x0 x1 x2 x3 x4 x5 x6 ⟨(j 0).val / 128, Nat.div_lt_of_lt_mul (j 0).isLt⟩ ⟨(j 1).val / 512, Nat.div_lt_of_lt_mul (j 1).isLt⟩
    (ix2 (n0 := 128) (n1 := 512) ⟨(j 0).val % 128, Nat.mod_lt _ (by decide)⟩ ⟨(j 1).val % 512, Nat.mod_lt _ (by decide)⟩)

/-- A running sum of the gains' kind, one term further. -/
def accS (x y : FVec F S1x512 .f32) : FVec F S1x512 .f32 := addf (shapeCast S1x512 x shapeCasts_S1x512_S1x512) y
/-- A running sum of the matrices' kind, one term further. -/
def accM (x y : FVec F S4x128x128 .f32) : FVec F S4x128x128 .f32 := addf (shapeCast S4x128x128 x shapeCasts_S4x128x128_S4x128x128) y
/-- The gains' zero. -/
def zeroS : FVec F S1x512 .f32 := broadcast S1x512 (Scalar.ofBits .f32 0x00000000#32)
/-- The matrices' zero. -/
def zeroM : FVec F S4x128x128 .f32 := broadcast S4x128x128 (Scalar.ofBits .f32 0x00000000#32)

/-- The gains' running sum after this block, of the one before. -/
def stepS (z : FVec F S1x512 .f32) : FVec F S1x512 .f32 :=
  let f (k : Fin 4) := dS (rows k x0) (rows k x1) (rows k x2) (rows k x6) x4
  accS (accS (accS (accS z (f 0)) (f 1)) (f 2)) (f 3)
/-- The matrices' running sum after this block, of the one before. -/
def stepW (z : FVec F S4x128x128 .f32) : FVec F S4x128x128 .f32 :=
  let f (k : Fin 4) := dW (rows k x0) (rows k x1) (rows k x2) (rows k x6) x3
  accM (accM (accM (accM z (f 0)) (f 1)) (f 2)) (f 3)
/-- The biases' running sum after this block, of the one before. -/
def stepB (z : FVec F S4x128x128 .f32) : FVec F S4x128x128 .f32 :=
  let f (k : Fin 4) := dB (rows k x0) (rows k x2) (rows k x6)
  accM (accM (accM (accM z (f 0)) (f 1)) (f 2)) (f 3)

end Cert.KernelIdeal.Chunk

end
-- ==== Proof.Cases.lean ====
/- Each case of the kernel's body (the first grid point, the inner ones, the last) leaves in each result's buffer the block's
   value: the stores found by the generated run, read back. -/
module

public import proofs.«01_k».proof.Proof.Gen.KernelIdeal.Value
public import proofs.«01_k».proof.Proof.Block
public import Idealize.ShloMosaic.Lib.Tactic
public import Idealize.ShloMosaic.Lib.Pipeline.ValueKit.Acc

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Chunk

variable {F : FTy → Type} [FloatOps F]

theorem hz2 : ∀ a : Fin 2, (![0, 0] : Fin 2 → Nat) a = 0 := by decide
theorem hz3 : ∀ a : Fin 3, (![0, 0, 0] : Fin 3 → Nat) a = 0 := by decide

theorem inb_slab : ∀ (k : Fin 4) (q : Fin 3) (a : Fin 2), (![128 * k.val, 512 * q.val] : Fin 2 → Nat) a + S128x512.size a ≤ S512x1536.size a := by
  decide

/-- The store of slab `q` of chunk `k`. -/
abbrev piece (s : Fin 4 → Fin 3 → FVec F S128x512 .bf16) (k : Fin 4) (q : Fin 3) : View.Piece (Elt F) S512x1536 .bf16 :=
  ⟨Rect.unit ![128 * k.val, 512 * q.val] S128x512.size (inb_slab k q), s k q⟩

/-- The twelve stores, last first. -/
abbrev pieces (s : Fin 4 → Fin 3 → FVec F S128x512 .bf16) : List (View.Piece (Elt F) S512x1536 .bf16) :=
  [piece s 3 2, piece s 3 1, piece s 3 0, piece s 2 2, piece s 2 1, piece s 2 0, piece s 1 2, piece s 1 1, piece s 1 0, piece s 0 2, piece s 0 1, piece s 0 0]

/-- Entry `x` of slab `q` of chunk `k` is the block's entry at its place. -/
theorem block_piece (x0 x1 x2 : Vec F S512x512 .f32) (x3 : Vec F S1x512 .f32) (x4 x5 : Vec F S4x128x128 .f32) (x6 : Vec F S512x512 .f32)
    (k : Fin 4) (q : Fin 3) (x : S128x512.Idx) :
    slab x0 x1 x2 x3 x4 x5 x6 k q x = block x0 x1 x2 x3 x4 x5 x6 ((Rect.unit (s := S512x1536) ![128 * k.val, 512 * q.val] S128x512.size (inb_slab k q)).emb x) := by
  have h0 : (((Rect.unit (s := S512x1536) ![128 * k.val, 512 * q.val] S128x512.size (inb_slab k q)).emb x) 0).val = 128 * k.val + (x 0).val :=
    congrArg (128 * k.val + ·) (Nat.one_mul _)
  have h1 : (((Rect.unit (s := S512x1536) ![128 * k.val, 512 * q.val] S128x512.size (inb_slab k q)).emb x) 1).val = 512 * q.val + (x 1).val :=
    congrArg (512 * q.val + ·) (Nat.one_mul _)
  have e0 : (x 0).val < 128 := (x 0).isLt
  have e1 : (x 1).val < 512 := (x 1).isLt
  generalize (Rect.unit (s := S512x1536) ![128 * k.val, 512 * q.val] S128x512.size (inb_slab k q)).emb x = y at h0 h1
  unfold block
  have hk : (⟨(y 0).val / 128, Nat.div_lt_of_lt_mul (y 0).isLt⟩ : Fin 4) = k := Fin.ext (by show (y 0).val / 128 = _; omega)
  have hq : (⟨(y 1).val / 512, Nat.div_lt_of_lt_mul (y 1).isLt⟩ : Fin 3) = q := Fin.ext (by show (y 1).val / 512 = _; omega)
  rw [hk, hq]
  congr 1
  funext a
  apply Fin.ext
  match a with
  | ⟨0, _⟩ => show (x 0).val = (y 0).val % 128; omega
  | ⟨1, _⟩ => show (x 1).val = (y 1).val % 512; omega

/-- Twelve stores that are the twelve slabs leave the block. -/
theorem canon_pieces (x0 x1 x2 : Vec F S512x512 .f32) (x3 : Vec F S1x512 .f32) (x4 x5 : Vec F S4x128x128 .f32) (x6 : Vec F S512x512 .f32)
    (L : List (View.Piece (Elt F) S512x1536 .bf16)) (hL : L = pieces (slab x0 x1 x2 x3 x4 x5 x6)) (hc : ∀ y, ∃ pc ∈ L, y ∈ pc.1.set) :
    View.canon L = block x0 x1 x2 x3 x4 x5 x6 := by
  subst hL
  funext y
  refine View.canon_apply_of_pieces _ _ (fun p hp x => ?_) y (hc y)
  simp only [List.mem_cons, List.not_mem_nil, or_false] at hp
  rcases hp with rfl | rfl | rfl | rfl | rfl | rfl | rfl | rfl | rfl | rfl | rfl | rfl
  · exact block_piece x0 x1 x2 x3 x4 x5 x6 3 2 x
  · exact block_piece x0 x1 x2 x3 x4 x5 x6 3 1 x
  · exact block_piece x0 x1 x2 x3 x4 x5 x6 3 0 x
  · exact block_piece x0 x1 x2 x3 x4 x5 x6 2 2 x
  · exact block_piece x0 x1 x2 x3 x4 x5 x6 2 1 x
  · exact block_piece x0 x1 x2 x3 x4 x5 x6 2 0 x
  · exact block_piece x0 x1 x2 x3 x4 x5 x6 1 2 x
  · exact block_piece x0 x1 x2 x3 x4 x5 x6 1 1 x
  · exact block_piece x0 x1 x2 x3 x4 x5 x6 1 0 x
  · exact block_piece x0 x1 x2 x3 x4 x5 x6 0 2 x
  · exact block_piece x0 x1 x2 x3 x4 x5 x6 0 1 x
  · exact block_piece x0 x1 x2 x3 x4 x5 x6 0 0 x

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole)
  (arg4 : Memref sig .tc .vmem S1x512 .f32) (harg4 : arg4.IsWhole) (arg5 : Memref sig .tc .vmem S4x128x128 .f32) (harg5 : arg5.IsWhole) (arg6 : Memref sig .tc .vmem S4x128x128 .f32) (harg6 : arg6.IsWhole) (arg7 : Memref sig .tc .vmem S512x512 .f32) (harg7 : arg7.IsWhole)
  (arg8 : Memref sig .tc .vmem S512x1536 .bf16) (harg8 : arg8.IsWhole) (arg9 : Memref sig .tc .vmem S1x512 .f32) (harg9 : arg9.IsWhole) (arg10 : Memref sig .tc .vmem S4x128x128 .f32) (harg10 : arg10.IsWhole) (arg11 : Memref sig .tc .vmem S4x128x128 .f32) (harg11 : arg11.IsWhole)
  (x0 x1 x2 : Vec F S512x512 .f32) (x3 : Vec F S1x512 .f32) (x4 x5 : Vec F S4x128x128 .f32) (x6 : Vec F S512x512 .f32)

/-- The first grid point leaves the block of the first result. -/
theorem out_A_7 (hc0 : cond0_0 i) (hc1 : ¬cond0_1 i) :
    out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 = block x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6)]
  refine canon_pieces x0 x1 x2 x3 x4 x5 x6 _ ?_ (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6)
  unfold kernelRun0_A
  dsimp only
  sl_unfold_words
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- The first grid point leaves the gains' sum. -/
theorem out_A_8 (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 = stepS x0 x1 x2 x4 x6 zeroS := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_lit (S := S1x512) _ _ _ hz2]
  simp only [View.readCov_cons_unit_lit' (S := S1x512) _ _ _ _ _ hz2 hz2, View.readCov_unit_lit' (S := S1x512) _ _ _ hz2]
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- The first grid point leaves the matrices' sum. -/
theorem out_A_9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 = stepW x0 x1 x2 x3 x6 zeroM := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- The first grid point leaves the biases' sum. -/
theorem out_A_10 (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 = stepB x0 x2 x6 zeroM := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- An inner grid point leaves the block of the first result. -/
theorem out_B_7 (hc0 : ¬cond0_0 i) (hc1 : ¬cond0_1 i) (xo8 : Vec F S1x512 .f32) (xo9 xo10 : Vec F S4x128x128 .f32) :
    out0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = block x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  refine canon_pieces x0 x1 x2 x3 x4 x5 x6 _ ?_ (cover0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)
  unfold kernelRun0_B
  dsimp only
  sl_unfold_words
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- An inner grid point leaves the gains' sum. -/
theorem out_B_8 (hc0 : ¬cond0_0 i) (hc1 : ¬cond0_1 i) (xo8 : Vec F S1x512 .f32) (xo9 xo10 : Vec F S4x128x128 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = stepS x0 x1 x2 x4 x6 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_B
  dsimp only
  sl_unfold_words
  rw [View.canon_cons_unit_lit (S := S1x512) _ _ _ hz2]
  simp only [View.readCov_cons_unit_lit' (S := S1x512) _ _ _ _ _ hz2 hz2, View.readCov_unit_lit' (S := S1x512) _ _ _ hz2]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

/-- An inner grid point leaves the matrices' sum. -/
theorem out_B_9 (hc0 : ¬cond0_0 i) (hc1 : ¬cond0_1 i) (xo8 : Vec F S1x512 .f32) (xo9 xo10 : Vec F S4x128x128 .f32) :
    out0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = stepW x0 x1 x2 x3 x6 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_B
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

/-- An inner grid point leaves the biases' sum. -/
theorem out_B_10 (hc0 : ¬cond0_0 i) (hc1 : ¬cond0_1 i) (xo8 : Vec F S1x512 .f32) (xo9 xo10 : Vec F S4x128x128 .f32) :
    out0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = stepB x0 x2 x6 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_B
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

/-- The last grid point leaves the block of the first result. -/
theorem out_C_7 (hc0 : ¬cond0_0 i) (hc1 : cond0_1 i) (xo8 : Vec F S1x512 .f32) (xo9 xo10 : Vec F S4x128x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = block x0 x1 x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  refine canon_pieces x0 x1 x2 x3 x4 x5 x6 _ ?_ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)
  unfold kernelRun0_C
  dsimp only
  sl_unfold_words
  simp only [View.readAt_eq_ld, harg1.read_unread, harg2.read_unread, harg3.read_unread, harg4.read_unread, harg5.read_unread, harg6.read_unread, harg7.read_unread,
    View.ld_unit_lit' (S := S1x512) _ _ hz2, View.ld_unit_lit' (S := S4x128x128) _ _ hz3]
  simp only [View.ld_unit]
  sl_kernel_rfl

/-- The last grid point leaves the gains' sum. -/
theorem out_C_8 (hc0 : ¬cond0_0 i) (hc1 : cond0_1 i) (xo8 : Vec F S1x512 .f32) (xo9 xo10 : Vec F S4x128x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = stepS x0 x1 x2 x4 x6 xo8 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_C
  dsimp only
  sl_unfold_words
  rw [View.canon_cons_unit_lit (S := S1x512) _ _ _ hz2]
  simp only [View.readCov_cons_unit_lit' (S := S1x512) _ _ _ _ _ hz2 hz2, View.readCov_unit_lit' (S := S1x512) _ _ _ hz2]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

/-- The last grid point leaves the matrices' sum. -/
theorem out_C_9 (hc0 : ¬cond0_0 i) (hc1 : cond0_1 i) (xo8 : Vec F S1x512 .f32) (xo9 xo10 : Vec F S4x128x128 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = stepW x0 x1 x2 x3 x6 xo9 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_C
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

/-- The last grid point leaves the biases' sum. -/
theorem out_C_10 (hc0 : ¬cond0_0 i) (hc1 : cond0_1 i) (xo8 : Vec F S1x512 .f32) (xo9 xo10 : Vec F S4x128x128 .f32) :
    out0_C_10 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10 = laneSum (shapeCast S4x128x128 (stepB x0 x2 x6 xo10) shapeCasts_S4x128x128_S4x128x128) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 hc0 hc1 x0 x1 x2 x3 x4 x5 x6 xo8 xo9 xo10)]
  unfold kernelRun0_C
  dsimp only
  sl_unfold_words
  rw [View.canon_cons_unit_lit (S := S4x128x128) _ _ _ hz3]
  simp only [View.readCov_cons_unit_lit' (S := S4x128x128) _ _ _ _ _ hz3 hz3, View.readCov_unit_lit' (S := S4x128x128) _ _ _ hz3]
  simp only [View.readAt_eq_ld, harg1.read_unread, harg2.read_unread, harg3.read_unread, harg4.read_unread, harg5.read_unread, harg6.read_unread, harg7.read_unread, harg9.read_unread, harg10.read_unread, harg11.read_unread,
    View.ld_unit_lit' (S := S1x512) _ _ hz2, View.ld_unit_lit' (S := S4x128x128) _ _ hz3]
  simp only [View.ld_unit]
  sl_kernel_rfl

end Cert.KernelIdeal.Value

end
-- ==== Proof.Acc.lean ====
/- What the results' buffers hold after each grid point: the first result's block of the point, and three running sums. -/
module

public import proofs.«01_k».proof.Proof.Cases

@[expose] public section

noncomputable section

open Idealize.ShloMosaic Idealize.ShloMosaic.TcCoe Idealize.SL.Sem

namespace Cert.KernelIdeal.Value

open Cert.KernelIdeal Cert.KernelIdeal.Gen Cert.KernelIdeal.Chunk

variable {F : FTy → Type} [FloatOps F]
variable (m : (ℓ : Loc nD τ sig) → Buf (Elt F) ℓ)

/-- The gains' running sum after point `n`. -/
def sumS (c : Dev nD) : (n : ℕ) → n < cfg0.N → FVec F S1x512 .f32
  | 0, h => stepS (iblk m c 0 ⟨0, h⟩) (iblk m c 1 ⟨0, h⟩) (iblk m c 2 ⟨0, h⟩) (iblk m c 4 ⟨0, h⟩) (iblk m c 6 ⟨0, h⟩) zeroS
  | n + 1, h => stepS (iblk m c 0 ⟨n + 1, h⟩) (iblk m c 1 ⟨n + 1, h⟩) (iblk m c 2 ⟨n + 1, h⟩) (iblk m c 4 ⟨n + 1, h⟩) (iblk m c 6 ⟨n + 1, h⟩)
      (sumS c n (Nat.lt_of_succ_lt h))

/-- The matrices' running sum after point `n`. -/
def sumW (c : Dev nD) : (n : ℕ) → n < cfg0.N → FVec F S4x128x128 .f32
  | 0, h => stepW (iblk m c 0 ⟨0, h⟩) (iblk m c 1 ⟨0, h⟩) (iblk m c 2 ⟨0, h⟩) (iblk m c 3 ⟨0, h⟩) (iblk m c 6 ⟨0, h⟩) zeroM
  | n + 1, h => stepW (iblk m c 0 ⟨n + 1, h⟩) (iblk m c 1 ⟨n + 1, h⟩) (iblk m c 2 ⟨n + 1, h⟩) (iblk m c 3 ⟨n + 1, h⟩) (iblk m c 6 ⟨n + 1, h⟩)
      (sumW c n (Nat.lt_of_succ_lt h))

/-- The biases' running sum after point `n`, before its columns are summed. -/
def sumB (c : Dev nD) : (n : ℕ) → n < cfg0.N → FVec F S4x128x128 .f32
  | 0, h => stepB (iblk m c 0 ⟨0, h⟩) (iblk m c 2 ⟨0, h⟩) (iblk m c 6 ⟨0, h⟩) zeroM
  | n + 1, h => stepB (iblk m c 0 ⟨n + 1, h⟩) (iblk m c 2 ⟨n + 1, h⟩) (iblk m c 6 ⟨n + 1, h⟩) (sumB c n (Nat.lt_of_succ_lt h))

/-- After every point the first result's buffer holds the point's block. -/
theorem outs7 (c : Dev nD) (t : Fin cfg0.N) : (outsAt0 m c t.val t.isLt).1
    = block (iblk m c 0 t) (iblk m c 1 t) (iblk m c 2 t) (iblk m c 3 t) (iblk m c 4 t) (iblk m c 5 t) (iblk m c 6 t) := by
  by_cases h0 : t.val % 8 = 0
  · have h1 : ¬t.val % 8 = 7 := by omega
    rw [outsAt0_A m c t h0 h1, out_A_7]
  · by_cases h1 : t.val % 8 = 7
    · rw [outsAt0_C m c t h0 h1, out_C_7]
    · rw [outsAt0_B m c t h0 h1, out_B_7]

/-- After point `n` the gains' buffer holds the running sum. -/
theorem outs8 (c : Dev nD) : ∀ (n : ℕ) (h : n < cfg0.N), (outsAt0 m c n h).2.1 = sumS m c n h
  | 0, h => by
    rw [outsAt0_A m c ⟨0, h⟩ rfl (by dsimp only; omega), out_A_8]
    rfl
  | n + 1, h => by
    have hN : cfg0.N = 8 := N_0
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1, out_C_8]
      exact congrArg (stepS _ _ _ _ _) (outs8 c n _)
    · rw [outsAt0_B m c ⟨n + 1, h⟩ h0 h1, out_B_8]
      exact congrArg (stepS _ _ _ _ _) (outs8 c n _)

/-- After point `n` the matrices' buffer holds the running sum. -/
theorem outs9 (c : Dev nD) : ∀ (n : ℕ) (h : n < cfg0.N), (outsAt0 m c n h).2.2.1 = sumW m c n h
  | 0, h => by
    rw [outsAt0_A m c ⟨0, h⟩ rfl (by dsimp only; omega), out_A_9]
    rfl
  | n + 1, h => by
    have hN : cfg0.N = 8 := N_0
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1, out_C_9]
      exact congrArg (stepW _ _ _ _ _) (outs9 c n _)
    · rw [outsAt0_B m c ⟨n + 1, h⟩ h0 h1, out_B_9]
      exact congrArg (stepW _ _ _ _ _) (outs9 c n _)

/-- After every point but the last the biases' buffer holds the running sum. -/
theorem outs10 (c : Dev nD) : ∀ (n : ℕ) (h : n < cfg0.N), n ≠ 7 → (outsAt0 m c n h).2.2.2 = sumB m c n h
  | 0, h, _ => by
    rw [outsAt0_A m c ⟨0, h⟩ rfl (by dsimp only; omega), out_A_10]
    rfl
  | n + 1, h, hn => by
    have hN : cfg0.N = 8 := N_0
    have h0 : ¬(⟨n + 1, h⟩ : Fin cfg0.N).val % 8 = 0 := by dsimp only; omega
    have h1 : ¬(⟨n + 1, h⟩ : Fin cfg0.N).val % 8 = 7 := by dsimp only; omega
    rw [outsAt0_B m c ⟨n + 1, h⟩ h0 h1, out_B_10]
    exact congrArg (stepB _ _ _) (outs10 c n _ (by omega))

/-- After the last point it holds the whole sum's row sums, each in every column. -/
theorem outs10_last (c : Dev nD) (h : 7 < cfg0.N) : (outsAt0 m c 7 h).2.2.2 = laneSum (sumB m c 7 h) := by
  rw [outsAt0_C m c ⟨7, h⟩ (by dsimp only; omega) rfl, out_C_10, shapeCast_self]
  exact congrArg (fun z => laneSum (stepB _ _ _ z)) (outs10 m c 6 _ (by omega))

end Cert.KernelIdeal.Value

end
-- ==== Proof.Input.lean ====
/- What a grid point's input blocks hold, entry by entry, of the program's arguments. -/
module

public import proofs.«01_k».proof.Proof.Gen.KernelIdeal.Value
public import Idealize.ShloMosaic.Lib.Pointwise
public import Idealize.ShloMosaic.Lib.StableHlo.ReadAt

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]
variable (m : (ℓ : Loc nD τ sig) → Buf (Elt F) ℓ)

theorem lt_N (t : Fin cfg0.N) : t.val < 8 := lt_of_lt_of_eq t.isLt N_0

theorem index0 : ∀ t : Fin cfg0.N, win0_0.index t 0 = t.val ∧ win0_0.index t 1 = 0 := by decide +kernel
theorem index1 : ∀ t : Fin cfg0.N, win0_1.index t 0 = t.val ∧ win0_1.index t 1 = 1 := by decide +kernel
theorem index2 : ∀ t : Fin cfg0.N, win0_2.index t 0 = t.val ∧ win0_2.index t 1 = 2 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 ∧ win0_4.index t 2 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = t.val ∧ win0_6.index t 1 = 0 := by decide +kernel

/-- Entry `(r, l)` of point `t`'s block of the first input: row `512 t + r`, column `l.val`. -/
theorem iblk0_apply (c : Dev nD) (t : Fin cfg0.N) (r l : Fin 512) :
    (iblk m c 0 t : Vec F S512x512 .f32) (ix2 r l)
      = m ((c : Thread nD τ).loc main_arg0) (ix2 (n0 := 4096) (n1 := 3584) ⟨512 * t.val + r.val, by have := lt_N t; omega⟩ ⟨l.val, by omega⟩) := by
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * l.val = l.val; rw [(index0 t).2]; omega

/-- Entry `(r, l)` of point `t`'s block of the second input: row `512 t + r`, column `512 + l.val`. -/
theorem iblk1_apply (c : Dev nD) (t : Fin cfg0.N) (r l : Fin 512) :
    (iblk m c 1 t : Vec F S512x512 .f32) (ix2 r l)
      = m ((c : Thread nD τ).loc main_arg0) (ix2 (n0 := 4096) (n1 := 3584) ⟨512 * t.val + r.val, by have := lt_N t; omega⟩ ⟨512 + l.val, by omega⟩) := by
  rw [← V_main_arg0 m c]
  unfold iblk
  rw [View.read_apply]
  show V m c main_arg0 _ = V m c main_arg0 _
  congr 1
  funext a
  apply Fin.ext
  match a with
  | ⟨0, _⟩ => show win0_1.index t 0 * 512 + 1 * r.val = 512 * t.val + r.val; rw [(index1 t).1]; omega
  | ⟨1, _⟩ => show win0_1.index t 1 * 512 + 1 * l.val = 512 + l.val; rw [(index1 t).2]; omega

/-- Entry `(r, l)` of point `t`'s block of the gate: row `512 t + r`, column `1024 + l.val`. -/
theorem iblk2_apply (c : Dev nD) (t : Fin cfg0.N) (r l : Fin 512) :
    (iblk m c 2 t : Vec F S512x512 .f32) (ix2 r l)
      = m ((c : Thread nD τ).loc main_arg0) (ix2 (n0 := 4096) (n1 := 3584) ⟨512 * t.val + r.val, by have := lt_N t; omega⟩ ⟨1024 + l.val, by omega⟩) := by
  rw [← V_main_arg0 m c]
  unfold iblk
  rw [View.read_apply]
  show V m c main_arg0 _ = V m c main_arg0 _
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * l.val = 1024 + l.val; rw [(index2 t).2]; omega

/-- Entry `(r, l)` of point `t`'s block of the cotangent: row `512 t + r`, column `l.val`. -/
theorem iblk6_apply (c : Dev nD) (t : Fin cfg0.N) (r l : Fin 512) :
    (iblk m c 6 t : Vec F S512x512 .f32) (ix2 r l)
      = m ((c : Thread nD τ).loc main_arg4) (ix2 (n0 := 4096) (n1 := 1024) ⟨512 * t.val + r.val, by have := lt_N t; omega⟩ ⟨l.val, by omega⟩) := by
  rw [← V_main_arg4 m c]
  unfold iblk
  rw [View.read_apply]
  show V m c main_arg4 _ = V m c main_arg4 _
  congr 1
  funext a
  apply Fin.ext
  match a with
  | ⟨0, _⟩ => show win0_6.index t 0 * 512 + 1 * r.val = 512 * t.val + r.val; rw [(index6 t).1]; omega
  | ⟨1, _⟩ => show win0_6.index t 1 * 512 + 1 * l.val = l.val; rw [(index6 t).2]; omega

/-- The gains' block is the gains. -/
theorem iblk3_eq (c : Dev nD) (t : Fin cfg0.N) : (iblk m c 3 t : Vec F S1x512 .f32) = m ((c : Thread nD τ).loc main_arg1) := by
  rw [← V_main_arg1 m c]
  funext j
  unfold iblk
  rw [View.read_apply]
  show V m c main_arg1 _ = V m c main_arg1 _
  congr 1
  funext a
  apply Fin.ext
  match a with
  | ⟨0, _⟩ => show win0_3.index t 0 * 1 + 1 * (j 0).val = (j 0).val; rw [(index3 t).1]; omega
  | ⟨1, _⟩ => show win0_3.index t 1 * 512 + 1 * (j 1).val = (j 1).val; rw [(index3 t).2]; omega

/-- The mixing matrices' block is the matrices. -/
theorem iblk4_eq (c : Dev nD) (t : Fin cfg0.N) : (iblk m c 4 t : Vec F S4x128x128 .f32) = m ((c : Thread nD τ).loc main_arg2) := by
  rw [← V_main_arg2 m c]
  funext j
  unfold iblk
  rw [View.read_apply]
  show V m c main_arg2 _ = V m c main_arg2 _
  congr 1
  funext a
  apply Fin.ext
  match a with
  | ⟨0, _⟩ => show win0_4.index t 0 * 4 + 1 * (j 0).val = (j 0).val; rw [(index4 t).1]; omega
  | ⟨1, _⟩ => show win0_4.index t 1 * 128 + 1 * (j 1).val = (j 1).val; rw [(index4 t).2.1]; omega
  | ⟨2, _⟩ => show win0_4.index t 2 * 128 + 1 * (j 2).val = (j 2).val; rw [(index4 t).2.2]; omega

/-- The host repeats each bias along the columns. -/
theorem V_bias (c : Dev nD) (g : Fin 4) (p q : Fin 128) :
    (V m c main_v1 : Vec F S4x128x128 .f32) (ix3 g p q) = m ((c : Thread nD τ).loc main_arg3) (ix2 g p) := by
  unfold V
  after_reads_at

/-- The biases' block: the bias of group `g`'s row `p` in every column. -/
theorem iblk5_apply (c : Dev nD) (t : Fin cfg0.N) (g : Fin 4) (p q : Fin 128) :
    (iblk m c 5 t : Vec F S4x128x128 .f32) (ix3 g p q) = m ((c : Thread nD τ).loc main_arg3) (ix2 g p) := by
  rw [← V_bias m c g p q]
  unfold iblk
  rw [View.read_apply]
  show V m c main_v1 _ = V m c main_v1 _
  congr 1
  funext a
  apply Fin.ext
  match a with
  | ⟨0, _⟩ => show win0_5.index t 0 * 4 + 1 * g.val = g.val; rw [(index5 t).1]; omega
  | ⟨1, _⟩ => show win0_5.index t 1 * 128 + 1 * p.val = p.val; rw [(index5 t).2.1]; omega
  | ⟨2, _⟩ => show win0_5.index t 2 * 128 + 1 * q.val = q.val; rw [(index5 t).2.2]; omega

end Cert.KernelIdeal.Value

end
-- ==== Proof.ChunkRead.lean ====
/- The chunk's intermediate values over the extended reals, read at an index: each is its namesake of `Spec`. -/
module

public import proofs.«01_k».proof.Proof.Spec
public import proofs.«01_k».proof.Proof.Block

@[expose] public section

noncomputable section

namespace Cert.KernelIdeal.Chunk

open Cert.KernelIdeal Cert.KernelIdeal.Gen Idealize.ShloMosaic

theorem gelu_apply (x : FVec Ideal S128x512 .f32) (j : S128x512.Idx) : gelu x j = Spec.gelu (x j) := by
  pointwise [gelu, half, cdf, arg, Spec.gelu, Spec.half, Spec.cdf, Spec.arg]
  rfl

theorem geluB_apply (x ct : FVec Ideal S128x512 .f32) (j : S128x512.Idx) : geluB x ct j = Spec.geluB (x j) (ct j) := by
  pointwise [geluB, half, cdf, arg, bell, Spec.geluB, Spec.bell, Spec.half, Spec.cdf, Spec.arg]
  rfl

variable (v u a d : FVec Ideal S128x128 .f32) (s : FVec Ideal S1x128 .f32) (w b : FVec Ideal S128x128 .f32)

/-- A group's slab as a function of row and column. -/
abbrev fn (x : FVec Ideal S128x128 .f32) : Fin 128 → Fin 128 → EReal := fun p c => x (ix2 p c)
/-- A group's gains as a function of the column. -/
abbrev fn1 (x : FVec Ideal S1x128 .f32) : Fin 128 → EReal := fun c => x (ix2 0 c)

theorem meanSq_apply (p : Fin 128) (q : Fin 1) : meanSq v (ix2 p q) = Spec.ms (fn v) p := by
  pointwise [meanSq, Spec.ms]

theorem rs_apply (p : Fin 128) (q : Fin 1) : rs v (ix2 p q) = Spec.rs (fn v) p := by
  pointwise [rs, meanSq_apply, Spec.rs]

theorem rsD_apply (p : Fin 128) (q : Fin 1) : rsD v (ix2 p q) = Spec.rsD (fn v) p := by
  pointwise [rsD, meanSq_apply, rs_apply, Spec.rsD]

theorem nrm_apply (p c : Fin 128) : nrm v (ix2 p c) = Spec.nrm (fn v) p c := by
  pointwise [nrm, rs_apply, Spec.nrm]

theorem vn_apply (p c : Fin 128) : vn v s (ix2 p c) = Spec.vn (fn v) (fn1 s) p c := by
  pointwise [vn, nrm_apply, Spec.vn]

theorem mix_apply (b' : Fin 128 → EReal) (hb : ∀ p c, b (ix2 p c) = b' p) (p c : Fin 128) :
    mix v s w b (ix2 p c) = Spec.mix (fn v) (fn w) (fn1 s) b' p c := by
  pointwise [mix, vn_apply, hb, Spec.mix]

theorem pre_apply (p c : Fin 128) : pre a d (ix2 p c) = Spec.pre (fn a) (fn d) p c := by
  pointwise [pre, Spec.pre]

theorem dmix_apply (p c : Fin 128) : dmix u a d (ix2 p c) = Spec.dmix (fn u) (fn a) (fn d) p c := by
  pointwise [dmix, pre_apply, Spec.dmix]

theorem du_apply (b' : Fin 128 → EReal) (hb : ∀ p c, b (ix2 p c) = b' p) (p c : Fin 128) :
    du v s w b a d (ix2 p c) = Spec.du (fn v) (fn a) (fn d) (fn w) (fn1 s) b' p c := by
  pointwise [du, pre_apply, mix_apply v s w b b' hb, Spec.du]

theorem da_apply (b' : Fin 128 → EReal) (hb : ∀ p c, b (ix2 p c) = b' p) (p c : Fin 128) :
    da v s w b u a d (ix2 p c) = Spec.da (fn v) (fn u) (fn a) (fn d) (fn w) (fn1 s) b' p c := by
  pointwise [da, dga, sigD, mix_apply v s w b b' hb, Spec.da, Spec.dga, Spec.sigD]

theorem dw_apply (p q : Fin 128) : dw v s u a d (ix2 p q) = Spec.dw (fn v) (fn u) (fn a) (fn d) (fn1 s) p q := by
  pointwise [dw, dmix_apply, vn_apply, Spec.dw]

theorem dvn_apply (q c : Fin 128) : dvn w u a d (ix2 q c) = Spec.dvn (fn u) (fn a) (fn d) (fn w) q c := by
  pointwise [dvn, dmix_apply, Spec.dvn]

theorem ds_apply (z : Fin 1) (c : Fin 128) : ds v w u a d (ix2 z c) = Spec.ds (fn v) (fn u) (fn a) (fn d) (fn w) c := by
  pointwise [ds, nrm_apply, dvn_apply, Spec.ds]

theorem dnrm_apply (p c : Fin 128) : dnrm s w u a d (ix2 p c) = Spec.dnrm (fn u) (fn a) (fn d) (fn w) (fn1 s) p c := by
  pointwise [dnrm, dvn_apply, Spec.dnrm]

theorem drs_apply (p : Fin 128) (z : Fin 1) : drs v s w u a d (ix2 p z) = Spec.drs (fn v) (fn u) (fn a) (fn d) (fn w) (fn1 s) p := by
  pointwise [drs, dnrm_apply, Spec.drs]

theorem dsq_apply (p c : Fin 128) : dsq v s w u a d (ix2 p c) = Spec.dsq (fn v) (fn u) (fn a) (fn d) (fn w) (fn1 s) p := by
  pointwise [dsq, drs_apply, rsD_apply, Spec.dsq]
  exact Fin.sum_univ_one _

theorem dv_apply (p c : Fin 128) : dv v s w u a d (ix2 p c) = Spec.dv (fn v) (fn u) (fn a) (fn d) (fn w) (fn1 s) p c := by
  pointwise [dv, dnrm_apply, rs_apply, dsq_apply, Spec.dv]

theorem cols_apply (x : Fin 4 → FVec Ideal S128x128 .f32) (p : Fin 128) (l : Fin 512) :
    cols x (ix2 p l) = x ⟨l.val / 128, by omega⟩ (ix2 p ⟨l.val % 128, by omega⟩) := by
  pointwise [cols]
  have hl : l.val < 512 := l.isLt
  have key : ∀ (g : Fin 4) (c : Fin 128), l.val = 128 * g.val + c.val →
      x ⟨l.val / 128, by omega⟩ (ix2 p ⟨l.val % 128, by omega⟩) = x g (ix2 p c) := fun g c h => by
    rw [show (⟨l.val / 128, by omega⟩ : Fin 4) = g from Fin.ext (by show l.val / 128 = _; omega),
      show (⟨l.val % 128, by omega⟩ : Fin 128) = c from Fin.ext (by show l.val % 128 = _; omega)]
  by_cases h1 : l.val < 128
  · have h2 : l.val < 256 := by omega
    have h3 : l.val < 384 := by omega
    simp only [h1, h2, h3, ↓reduceDIte, zero_add, add_zero]
    exact (key 0 ⟨l.val, h1⟩ (by show l.val = 128 * 0 + l.val; omega)).symm
  by_cases h2 : l.val < 256
  · have h3 : l.val < 384 := by omega
    simp only [h1, h2, h3, ↓reduceDIte, zero_add, add_zero]
    exact (key 1 ⟨l.val - 128, by omega⟩ (by show l.val = 128 * 1 + (l.val - 128); omega)).symm
  by_cases h3 : l.val < 384
  · simp only [h1, h2, h3, ↓reduceDIte, zero_add, add_zero]
    exact (key 2 ⟨l.val - 256, by omega⟩ (by show l.val = 128 * 2 + (l.val - 256); omega)).symm
  · simp only [h1, h2, h3, ↓reduceDIte, zero_add, add_zero]
    exact (key 3 ⟨l.val - 384, by omega⟩ (by show l.val = 128 * 3 + (l.val - 384); omega)).symm

theorem gains_apply (x : Fin 4 → FVec Ideal S1x128 .f32) (z : Fin 1) (l : Fin 512) :
    gains x (ix2 z l) = x ⟨l.val / 128, by omega⟩ (ix2 0 ⟨l.val % 128, by omega⟩) := by
  pointwise [gains]
  have hl : l.val < 512 := l.isLt
  have key : ∀ (g : Fin 4) (c : Fin 128), l.val = 128 * g.val + c.val →
      x ⟨l.val / 128, by omega⟩ (ix2 0 ⟨l.val % 128, by omega⟩) = x g (ix2 0 c) := fun g c h => by
    rw [show (⟨l.val / 128, by omega⟩ : Fin 4) = g from Fin.ext (by show l.val / 128 = _; omega),
      show (⟨l.val % 128, by omega⟩ : Fin 128) = c from Fin.ext (by show l.val % 128 = _; omega)]
  by_cases h1 : l.val < 128
  · have h2 : l.val < 256 := by omega
    have h3 : l.val < 384 := by omega
    simp only [h1, h2, h3, ↓reduceDIte, zero_add, add_zero]
    exact (key 0 ⟨l.val, h1⟩ (by show l.val = 128 * 0 + l.val; omega)).symm
  by_cases h2 : l.val < 256
  · have h3 : l.val < 384 := by omega
    simp only [h1, h2, h3, ↓reduceDIte, zero_add, add_zero]
    exact (key 1 ⟨l.val - 128, by omega⟩ (by show l.val = 128 * 1 + (l.val - 128); omega)).symm
  by_cases h3 : l.val < 384
  · simp only [h1, h2, h3, ↓reduceDIte, zero_add, add_zero]
    exact (key 2 ⟨l.val - 256, by omega⟩ (by show l.val = 128 * 2 + (l.val - 256); omega)).symm
  · simp only [h1, h2, h3, ↓reduceDIte, zero_add, add_zero]
    exact (key 3 ⟨l.val - 384, by omega⟩ (by show l.val = 128 * 3 + (l.val - 384); omega)).symm

theorem cols_at (x : Fin 4 → FVec Ideal S128x128 .f32) (p : Fin 128) (g : Fin 4) (c : Fin 128) :
    cols x (ix2 p ⟨128 * g.val + c.val, by omega⟩) = x g (ix2 p c) := by
  rw [cols_apply, show (⟨(128 * g.val + c.val) / 128, by omega⟩ : Fin 4) = g from Fin.ext (by show (128 * g.val + c.val) / 128 = _; omega),
    show (⟨(128 * g.val + c.val) % 128, by omega⟩ : Fin 128) = c from Fin.ext (by show (128 * g.val + c.val) % 128 = _; omega)]

theorem gains_at (x : Fin 4 → FVec Ideal S1x128 .f32) (z : Fin 1) (g : Fin 4) (c : Fin 128) :
    gains x (ix2 z ⟨128 * g.val + c.val, by omega⟩) = x g (ix2 0 c) := by
  rw [gains_apply, show (⟨(128 * g.val + c.val) / 128, by omega⟩ : Fin 4) = g from Fin.ext (by show (128 * g.val + c.val) / 128 = _; omega),
    show (⟨(128 * g.val + c.val) % 128, by omega⟩ : Fin 128) = c from Fin.ext (by show (128 * g.val + c.val) % 128 = _; omega)]

theorem mats_apply (x : Fin 4 → FVec Ideal S128x128 .f32) (g : Fin 4) (p q : Fin 128) : mats x (ix3 g p q) = x g (ix2 p q) := by
  pointwise [mats]
  fin_cases g <;> simp

end Cert.KernelIdeal.Chunk

end
-- ==== Proof.Result.lean ====
/- The kernel's four results over the extended reals, entry by entry. -/
module

public import proofs.«01_k».proof.Proof.Acc
public import proofs.«01_k».proof.Proof.Input
public import proofs.«01_k».proof.Proof.ChunkRead

@[expose] public section

noncomputable section

open Idealize.ShloMosaic Idealize.ShloMosaic.TcCoe Idealize.SL.Sem

namespace Cert.KernelIdeal.Value

open Cert.KernelIdeal Cert.KernelIdeal.Gen Cert.KernelIdeal.Chunk

variable (m : (ℓ : Loc nD τ sig) → Buf (Elt Ideal) ℓ)

/-- The arguments. -/
abbrev argZ (c : Dev nD) : S4096x3584.Idx → EReal := m ((c : Thread nD τ).loc main_arg0)
abbrev argS (c : Dev nD) : S1x512.Idx → EReal := m ((c : Thread nD τ).loc main_arg1)
abbrev argW (c : Dev nD) : S4x128x128.Idx → EReal := m ((c : Thread nD τ).loc main_arg2)
abbrev argB (c : Dev nD) : S4x128.Idx → EReal := m ((c : Thread nD τ).loc main_arg3)
abbrev argD (c : Dev nD) : S4096x1024.Idx → EReal := m ((c : Thread nD τ).loc main_arg4)

/-- Chunk `k` of point `t` among all the chunks. -/
def chunk (t : Fin cfg0.N) (k : Fin 4) : Fin 32 := ⟨4 * t.val + k.val, by have := lt_N t; omega⟩

section

variable (c : Dev nD) (t : Fin cfg0.N) (k g : Fin 4)

/-- Group `g` of chunk `k` of the point's block of the first input. -/
theorem rows0_apply (p q : Fin 128) :
    rows (F := Ideal) k (iblk m c 0 t) (ix2 p ⟨128 * g.val + q.val, by omega⟩) = Spec.zu (argZ m c) (chunk t k) g p q := by
  pointwise [rows, iblk0_apply, Spec.zu, Spec.row, chunk]
  exact congrArg (fun r => (argZ m c) (ix2 r _)) (Fin.ext (by show 512 * t.val + (128 * k.val + p.val) = 128 * (4 * t.val + k.val) + p.val; omega))

/-- Group `g` of chunk `k` of the point's block of the second input. -/
theorem rows1_apply (p q : Fin 128) :
    rows (F := Ideal) k (iblk m c 1 t) (ix2 p ⟨128 * g.val + q.val, by omega⟩) = Spec.zv (argZ m c) (chunk t k) g p q := by
  pointwise [rows, iblk1_apply, Spec.zv, Spec.row, chunk]
  exact congrArg (fun r => (argZ m c) (ix2 r _)) (Fin.ext (by show 512 * t.val + (128 * k.val + p.val) = 128 * (4 * t.val + k.val) + p.val; omega))

/-- Group `g` of chunk `k` of the point's block of the gate. -/
theorem rows2_apply (p q : Fin 128) :
    rows (F := Ideal) k (iblk m c 2 t) (ix2 p ⟨128 * g.val + q.val, by omega⟩) = Spec.zg (argZ m c) (chunk t k) g p q := by
  pointwise [rows, iblk2_apply, Spec.zg, Spec.row, chunk]
  exact congrArg (fun r => (argZ m c) (ix2 r _)) (Fin.ext (by show 512 * t.val + (128 * k.val + p.val) = 128 * (4 * t.val + k.val) + p.val; omega))

/-- Group `g` of chunk `k` of the point's block of the cotangent. -/
theorem rows6_apply (p q : Fin 128) :
    rows (F := Ideal) k (iblk m c 6 t) (ix2 p ⟨128 * g.val + q.val, by omega⟩) = Spec.ct (argD m c) (chunk t k) g p q := by
  pointwise [rows, iblk6_apply, Spec.ct, Spec.row, chunk]
  exact congrArg (fun r => (argD m c) (ix2 r _)) (Fin.ext (by show 512 * t.val + (128 * k.val + p.val) = 128 * (4 * t.val + k.val) + p.val; omega))

theorem fn_gu : fn (col g (gelu (rows (F := Ideal) k (iblk m c 0 t)))) = Spec.gu (argZ m c) (chunk t k) g := by
  funext p q
  pointwise [fn, col, gelu_apply, rows0_apply, Spec.gu]

theorem fn_gv : fn (col g (gelu (rows (F := Ideal) k (iblk m c 1 t)))) = Spec.gv (argZ m c) (chunk t k) g := by
  funext p q
  pointwise [fn, col, gelu_apply, rows1_apply, Spec.gv]

theorem fn_zg : fn (col g (rows (F := Ideal) k (iblk m c 2 t))) = Spec.zg (argZ m c) (chunk t k) g := by
  funext p q
  pointwise [fn, col, rows2_apply]

theorem fn_ct : fn (col g (rows (F := Ideal) k (iblk m c 6 t))) = Spec.ct (argD m c) (chunk t k) g := by
  funext p q
  pointwise [fn, col, rows6_apply]

theorem fn_gs : fn1 (gain g (iblk m c 3 t : FVec Ideal S1x512 .f32)) = Spec.gs (argS m c) g := by
  rw [iblk3_eq]
  funext q
  pointwise [fn1, gain, Spec.gs]

theorem fn_gw : fn (mat g (iblk m c 4 t : FVec Ideal S4x128x128 .f32)) = Spec.gw (argW m c) g := by
  rw [iblk4_eq]
  funext p q
  pointwise [fn, mat, Spec.gw]

/-- The biases' block. -/
abbrev x5 (m : (ℓ : Loc nD τ sig) → Buf (Elt Ideal) ℓ) (c : Dev nD) (t : Fin cfg0.N) : FVec Ideal S4x128x128 .f32 := iblk m c 5 t

theorem mat_gb (p q : Fin 128) : mat (F := Ideal) g (shapeCast S4x128x128 (x5 m c t) shapeCasts_S4x128x128_S4x128x128) (ix2 p q)
    = Spec.gb (argB m c) g p := by
  rw [shapeCast_self]
  pointwise [mat, x5, iblk5_apply, Spec.gb]

/-- Slab `q` of chunk `k` of the first result's block. -/
theorem slab_apply (p l : Fin 128) : ∀ q : Fin 3,
    slab (F := Ideal) (iblk m c 0 t) (iblk m c 1 t) (iblk m c 2 t) (iblk m c 3 t) (iblk m c 4 t) (iblk m c 5 t) (iblk m c 6 t) k q
        (ix2 p ⟨128 * g.val + l.val, by omega⟩)
      = Spec.dZ (argZ m c) (argS m c) (argW m c) (argB m c) (argD m c) (chunk t k) g p l q
  | 0 => by
    show dAu (F := Ideal) _ _ _ _ _ _ _ _ = _
    unfold dAu
    rw [show ∀ x : FVec Ideal S128x512 .f32, truncf .bf16 x bitsLt_bf16_f32 = x from fun _ => rfl, geluB_apply, cols_at,
      du_apply _ _ _ _ _ _ (Spec.gb (argB m c) g) (mat_gb m c t g), fn_gv, fn_zg, fn_ct, fn_gw, fn_gs, rows0_apply]
    rfl
  | 1 => by
    show dAv (F := Ideal) _ _ _ _ _ _ _ = _
    unfold dAv
    rw [show ∀ x : FVec Ideal S128x512 .f32, truncf .bf16 x bitsLt_bf16_f32 = x from fun _ => rfl, geluB_apply, cols_at,
      dv_apply, fn_gv, fn_gu, fn_zg, fn_ct, fn_gw, fn_gs, rows1_apply]
    rfl
  | 2 => by
    show dAg (F := Ideal) _ _ _ _ _ _ _ _ = _
    unfold dAg
    rw [show ∀ x : FVec Ideal S128x512 .f32, truncf .bf16 x bitsLt_bf16_f32 = x from fun _ => rfl, cols_at,
      da_apply _ _ _ _ _ _ _ (Spec.gb (argB m c) g) (mat_gb m c t g), fn_gv, fn_gu, fn_zg, fn_ct, fn_gw, fn_gs]
    rfl

/-- The chunk's part of the gains' cotangent. -/
theorem dS_apply (l : Fin 128) : dS (F := Ideal) (rows k (iblk m c 0 t)) (rows k (iblk m c 1 t)) (rows k (iblk m c 2 t)) (rows k (iblk m c 6 t)) (iblk m c 4 t)
      (ix2 0 ⟨128 * g.val + l.val, by omega⟩)
    = Spec.ds (Spec.gv (argZ m c) (chunk t k) g) (Spec.gu (argZ m c) (chunk t k) g) (Spec.zg (argZ m c) (chunk t k) g) (Spec.ct (argD m c) (chunk t k) g)
        (Spec.gw (argW m c) g) l := by
  unfold dS
  rw [gains_at, ds_apply, fn_gv, fn_gu, fn_zg, fn_ct, fn_gw]

/-- The chunk's part of the matrices' cotangent. -/
theorem dW_apply (p q : Fin 128) : dW (F := Ideal) (rows k (iblk m c 0 t)) (rows k (iblk m c 1 t)) (rows k (iblk m c 2 t)) (rows k (iblk m c 6 t)) (iblk m c 3 t)
      (ix3 g p q)
    = Spec.dw (Spec.gv (argZ m c) (chunk t k) g) (Spec.gu (argZ m c) (chunk t k) g) (Spec.zg (argZ m c) (chunk t k) g) (Spec.ct (argD m c) (chunk t k) g)
        (Spec.gs (argS m c) g) p q := by
  unfold dW
  rw [mats_apply, dw_apply, fn_gv, fn_gu, fn_zg, fn_ct, fn_gs]

/-- The chunk's part of the biases' cotangent, before its columns are summed. -/
theorem dB_apply (p q : Fin 128) : dB (F := Ideal) (rows k (iblk m c 0 t)) (rows k (iblk m c 2 t)) (rows k (iblk m c 6 t)) (ix3 g p q)
    = Spec.dmix (Spec.gu (argZ m c) (chunk t k) g) (Spec.zg (argZ m c) (chunk t k) g) (Spec.ct (argD m c) (chunk t k) g) p q := by
  unfold dB
  rw [mats_apply, dmix_apply, fn_gu, fn_zg, fn_ct]

end

end Cert.KernelIdeal.Value

end
-- ==== Proof.Final.lean ====
/- The kernel's run, read: the four result arrays entry by entry over the extended reals, and the arguments unchanged. -/
module

public import proofs.«01_k».proof.Proof.Result

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Chunk

variable (m : (ℓ : Loc nD τ sig) → Buf (Elt Ideal) ℓ) (ρ : Dev nD → PrngReg) (c : Dev nD)

/-! ## The running sums are the sums over the chunks -/

/-- A running sum that starts at zero and takes four chunks a point ends as the sum over the thirty-two chunks. -/
theorem sum_chunks (f : Fin 32 → EReal) (S : (n : ℕ) → n < cfg0.N → EReal)
    (hz : ∀ h, S 0 h = 0 + f (chunk ⟨0, h⟩ 0) + f (chunk ⟨0, h⟩ 1) + f (chunk ⟨0, h⟩ 2) + f (chunk ⟨0, h⟩ 3))
    (hs : ∀ n h, S (n + 1) h = S n (Nat.lt_of_succ_lt h) + f (chunk ⟨n + 1, h⟩ 0) + f (chunk ⟨n + 1, h⟩ 1) + f (chunk ⟨n + 1, h⟩ 2) + f (chunk ⟨n + 1, h⟩ 3))
    (h : 7 < cfg0.N) : S 7 h = ∑ n, f n := by
  have hN : cfg0.N = 8 := N_0
  have hf : ∀ n (k : Fin 4) (h : n < cfg0.N), f (chunk ⟨n, h⟩ k) = if h : 4 * n + k.val < 32 then f ⟨4 * n + k.val, h⟩ else 0 := fun n k h => by
    rw [dif_pos (by omega)]; rfl
  have key : ∀ n (h : n < cfg0.N), S n h = ∑ i ∈ Finset.range (4 * (n + 1)), if h : i < 32 then f ⟨i, h⟩ else 0 := by
    intro n
    induction n with
    | zero =>
      intro h
      rw [hz, hf, hf, hf, hf]
      simp only [Finset.sum_range_succ, Finset.sum_range_zero, Nat.mul_one, Nat.reduceMul, Nat.reduceAdd]
      rfl
    | succ n ih =>
      intro h
      rw [hs, ih, hf, hf, hf, hf, show 4 * (n + 1 + 1) = 4 * (n + 1) + 1 + 1 + 1 + 1 from by omega]
      simp only [Finset.sum_range_succ]
      rfl
  rw [key 7 h, Finset.sum_range]
  exact Finset.sum_congr rfl fun i _ => dif_pos i.isLt

theorem accS_apply (x y : FVec Ideal S1x512 .f32) (j : S1x512.Idx) : accS x y j = x j + y j := by
  unfold accS; rw [shapeCast_self]; rfl

theorem accM_apply (x y : FVec Ideal S4x128x128 .f32) (j : S4x128x128.Idx) : accM x y j = x j + y j := by
  unfold accM; rw [shapeCast_self]; rfl

theorem zeroS_apply (j : S1x512.Idx) : zeroS (F := Ideal) j = 0 := by pointwise [zeroS]

theorem zeroM_apply (j : S4x128x128.Idx) : zeroM (F := Ideal) j = 0 := by pointwise [zeroM]

/-- The gains' sum after the last point. -/
theorem sumS_last (h : 7 < cfg0.N) (g : Fin 4) (l : Fin 128) : sumS m c 7 h (ix2 0 ⟨128 * g.val + l.val, by omega⟩)
    = Spec.dS (argZ m c) (argW m c) (argD m c) g l := by
  refine sum_chunks _ (fun n h => sumS m c n h (ix2 0 ⟨128 * g.val + l.val, by omega⟩)) (fun h => ?_) (fun n h => ?_) h
  · simp only [sumS, stepS, accS_apply, dS_apply, zeroS_apply]
  · simp only [sumS, stepS, accS_apply, dS_apply]

/-- The matrices' sum after the last point. -/
theorem sumW_last (h : 7 < cfg0.N) (g : Fin 4) (p q : Fin 128) : sumW m c 7 h (ix3 g p q)
    = Spec.dW (argZ m c) (argS m c) (argD m c) g p q := by
  refine sum_chunks _ (fun n h => sumW m c n h (ix3 g p q)) (fun h => ?_) (fun n h => ?_) h
  · simp only [sumW, stepW, accM_apply, dW_apply, zeroM_apply]
  · simp only [sumW, stepW, accM_apply, dW_apply]

/-- The biases' sum after the last point, its columns summed. -/
theorem sumB_last (h : 7 < cfg0.N) (g : Fin 4) (p q : Fin 128) : laneSum (sumB m c 7 h) (ix3 g p q)
    = Spec.dB (argZ m c) (argD m c) g p := by
  pointwise [laneSum]
  refine Finset.sum_congr rfl fun l _ => ?_
  refine sum_chunks _ (fun n h => sumB m c n h (ix3 g p l)) (fun h => ?_) (fun n h => ?_) h
  · simp only [sumB, stepB, accM_apply, dB_apply, zeroM_apply]
  · simp only [sumB, stepB, accM_apply, dB_apply]

/-! ## The result arrays -/

/-- The first result: entry `(r, l)` in row `r mod 128` of chunk `r / 128`. -/
def res7 : Buf (Elt Ideal) ((c : Thread nD τ).loc main_v2_0) := fun j : S4096x1536.Idx =>
  Spec.dZ (argZ m c) (argS m c) (argW m c) (argB m c) (argD m c)
    ⟨(j 0).val / 128, Nat.div_lt_of_lt_mul (j 0).isLt⟩ ⟨(j 1).val % 512 / 128, by omega⟩
    ⟨(j 0).val % 128, Nat.mod_lt _ (by decide)⟩ ⟨(j 1).val % 512 % 128, Nat.mod_lt _ (by decide)⟩ ⟨(j 1).val / 512, Nat.div_lt_of_lt_mul (j 1).isLt⟩

/-- The gains' cotangent. -/
def res8 : Buf (Elt Ideal) ((c : Thread nD τ).loc main_v2_1) := fun j : S1x512.Idx =>
  Spec.dS (argZ m c) (argW m c) (argD m c) ⟨(j 1).val / 128, Nat.div_lt_of_lt_mul (j 1).isLt⟩ ⟨(j 1).val % 128, Nat.mod_lt _ (by decide)⟩

/-- The matrices' cotangent. -/
def res9 : Buf (Elt Ideal) ((c : Thread nD τ).loc main_v2_2) := fun j : S4x128x128.Idx =>
  Spec.dW (argZ m c) (argS m c) (argD m c) (j 0) (j 1) (j 2)

/-- The biases' cotangent, the same in every column. -/
def res10 : Buf (Elt Ideal) ((c : Thread nD τ).loc main_v2_3) := fun j : S4x128x128.Idx =>
  Spec.dB (argZ m c) (argD m c) (j 0) (j 1)

theorem index7 : ∀ t : Fin cfg0.N, win0_7.index t 0 = t.val ∧ win0_7.index t 1 = 0 := by decide +kernel
theorem size7 : ∀ t : Fin cfg0.N, win0_7.xsize (grid0.coords t) 0 = 512 ∧ win0_7.xsize (grid0.coords t) 1 = 1536 := by decide +kernel

/-- A block's entry is the first result's entry at its place. -/
theorem block_apply (t : Fin cfg0.N) (r : Fin 512) (l : Fin 1536) :
    block (F := Ideal) (iblk m c 0 t) (iblk m c 1 t) (iblk m c 2 t) (iblk m c 3 t) (iblk m c 4 t) (iblk m c 5 t) (iblk m c 6 t) (ix2 r l)
      = res7 m c (ix2 (n0 := 4096) (n1 := 1536) ⟨512 * t.val + r.val, by have := lt_N t; omega⟩ l) := by
  show slab (F := Ideal) _ _ _ _ _ _ _ ⟨r.val / 128, _⟩ ⟨l.val / 512, _⟩ (ix2 ⟨r.val % 128, _⟩ ⟨l.val % 512, _⟩) = _
  have e : (⟨l.val % 512, Nat.mod_lt _ (by decide)⟩ : Fin 512) = ⟨128 * (l.val % 512 / 128) + l.val % 512 % 128, by omega⟩ :=
    Fin.ext (by show l.val % 512 = 128 * (l.val % 512 / 128) + l.val % 512 % 128; omega)
  rw [e]
  refine (slab_apply m c t ⟨r.val / 128, by omega⟩ ⟨l.val % 512 / 128, by omega⟩ ⟨r.val % 128, by omega⟩ ⟨l.val % 512 % 128, by omega⟩ ⟨l.val / 512, by omega⟩).trans ?_
  have := lt_N t
  have h1 : chunk t ⟨r.val / 128, by omega⟩ = ⟨(512 * t.val + r.val) / 128, by omega⟩ :=
    Fin.ext (by show 4 * t.val + r.val / 128 = (512 * t.val + r.val) / 128; omega)
  have h2 : (⟨r.val % 128, by omega⟩ : Fin 128) = ⟨(512 * t.val + r.val) % 128, by omega⟩ :=
    Fin.ext (by show r.val % 128 = (512 * t.val + r.val) % 128; omega)
  rw [h1, h2]
  rfl

theorem flushed7_eq (t : Fin cfg0.N) (hf : (cfg0.win 7).flush t = true) :
    (dats m 0 c).flushed 7 t = ((cfg0.win 7).blk t).view.read (Elt Ideal) (res7 m c) := by
  rw [flushed7, outs7]
  funext j
  rw [View.read_apply]
  refine (congrArg (block (F := Ideal) _ _ _ _ _ _ _) (eq_ix2 (n0 := 512) (n1 := 1536) j)).trans ((block_apply m c t (j 0) (j 1)).trans ?_)
  show res7 m c _ = res7 m c _
  congr 1
  funext a
  apply Fin.ext
  match a with
  | ⟨0, _⟩ => show 512 * t.val + (j 0).val = win0_7.index t 0 * 512 + 1 * (j 0).val; rw [(index7 t).1]; omega
  | ⟨1, _⟩ => show (j 1).val = win0_7.index t 1 * 1536 + 1 * (j 1).val; rw [(index7 t).2]; omega

theorem cover7 (i : S4096x1536.Idx) (t : Fin cfg0.N) (ht : t.val = (i 0).val / 512) : i ∈ ((View.whole main_v2_0).slice (win0_7.rect t)).set := by
  rw [View.set_slice_whole, Rect.mem_set_unit]
  intro a
  have h0 : (i 0 : Nat) < 4096 := (i 0).isLt
  have h1 : (i 1 : Nat) < 1536 := (i 1).isLt
  match a with
  | ⟨0, _⟩ => show win0_7.index t 0 * 512 ≤ (i 0 : Nat) ∧ (i 0 : Nat) < win0_7.index t 0 * 512 + win0_7.xsize (grid0.coords t) 0
              rw [(index7 t).1, (size7 t).1]; omega
  | ⟨1, _⟩ => show win0_7.index t 1 * 1536 ≤ (i 1 : Nat) ∧ (i 1 : Nat) < win0_7.index t 1 * 1536 + win0_7.xsize (grid0.coords t) 1
              rw [(index7 t).2, (size7 t).2]; omega

/-- The first result array. -/
theorem final7 : (dats m 0 c).arrAt 7 cfg0.N = res7 m c :=
  (dats m 0 c).arrAt_eq_of_cover 7 (res7 m c) (flushed7_eq m c) fun i =>
    ⟨⟨((i : S4096x1536.Idx) 0).val / 512, by rw [show cfg0.N = 8 from N_0]; exact Nat.div_lt_of_lt_mul ((i : S4096x1536.Idx) 0).isLt⟩, flush0_7 _, cover7 i _ rfl⟩

theorem index8 : ∀ t : Fin cfg0.N, win0_8.index t 0 = 0 ∧ win0_8.index t 1 = 0 := by decide +kernel
theorem size8 : ∀ t : Fin cfg0.N, win0_8.xsize (grid0.coords t) 0 = 1 ∧ win0_8.xsize (grid0.coords t) 1 = 512 := by decide +kernel

theorem last8 (t : Fin cfg0.N) (h7 : t.val = 7) : ((outsAt0 m c t.val t.isLt).2.1 : S1x512.Idx → EReal) = res8 m c := by
  obtain ⟨n, h⟩ := t
  obtain rfl : n = 7 := h7
  funext j
  rw [outs8 m c 7 h, eq_ix2 (n0 := 1) (n1 := 512) j]
  have e0 : (j 0 : Fin 1) = (0 : Fin 1) := Fin.ext (by have : (j 0).val < 1 := (j 0).isLt; show (j 0).val = 0; omega)
  have e : (j 1 : Fin 512) = ⟨128 * ((j 1).val / 128) + (j 1).val % 128, by have : (j 1).val < 512 := (j 1).isLt; omega⟩ :=
    Fin.ext (by show (j 1).val = 128 * ((j 1).val / 128) + (j 1).val % 128; omega)
  refine (congrArg (sumS m c 7 h) (congrArg₂ ix2 e0 e)).trans ?_
  exact sumS_last m c h ⟨(j 1).val / 128, Nat.div_lt_of_lt_mul (j 1).isLt⟩ ⟨(j 1).val % 128, Nat.mod_lt _ (by decide)⟩

theorem flushed8_eq (t : Fin cfg0.N) (hf : (cfg0.win 8).flush t = true) :
    (dats m 0 c).flushed 8 t = ((cfg0.win 8).blk t).view.read (Elt Ideal) (res8 m c) := by
  have h7 : t.val = 7 := by have := (flush0_8 t).mp hf; have := lt_N t; omega
  rw [flushed8]
  funext j
  rw [View.read_apply]
  refine (congrFun (last8 m c t h7) j).trans ?_
  show res8 m c _ = res8 m c _
  congr 1
  funext a
  apply Fin.ext
  match a with
  | ⟨0, _⟩ => show (j 0).val = win0_8.index t 0 * 1 + 1 * (j 0).val; rw [(index8 t).1]; omega
  | ⟨1, _⟩ => show (j 1).val = win0_8.index t 1 * 512 + 1 * (j 1).val; rw [(index8 t).2]; omega

theorem cover8 (i : S1x512.Idx) (t : Fin cfg0.N) : i ∈ ((View.whole main_v2_1).slice (win0_8.rect t)).set := by
  rw [View.set_slice_whole, Rect.mem_set_unit]
  intro a
  have h0 : (i 0 : Nat) < 1 := (i 0).isLt
  have h1 : (i 1 : Nat) < 512 := (i 1).isLt
  match a with
  | ⟨0, _⟩ => show win0_8.index t 0 * 1 ≤ (i 0 : Nat) ∧ (i 0 : Nat) < win0_8.index t 0 * 1 + win0_8.xsize (grid0.coords t) 0
              rw [(index8 t).1, (size8 t).1]; omega
  | ⟨1, _⟩ => show win0_8.index t 1 * 512 ≤ (i 1 : Nat) ∧ (i 1 : Nat) < win0_8.index t 1 * 512 + win0_8.xsize (grid0.coords t) 1
              rw [(index8 t).2, (size8 t).2]; omega

theorem final8 : (dats m 0 c).arrAt 8 cfg0.N = res8 m c :=
  (dats m 0 c).arrAt_eq_of_cover 8 (res8 m c) (flushed8_eq m c) fun i =>
    ⟨⟨7, by rw [show cfg0.N = 8 from N_0]; decide⟩, (flush0_8 _).mpr rfl, cover8 i _⟩

theorem index9 : ∀ t : Fin cfg0.N, win0_9.index t 0 = 0 ∧ win0_9.index t 1 = 0 ∧ win0_9.index t 2 = 0 := by decide +kernel
theorem size9 : ∀ t : Fin cfg0.N, win0_9.xsize (grid0.coords t) 0 = 4 ∧ win0_9.xsize (grid0.coords t) 1 = 128 ∧ win0_9.xsize (grid0.coords t) 2 = 128 := by decide +kernel

theorem last9 (t : Fin cfg0.N) (h7 : t.val = 7) : ((outsAt0 m c t.val t.isLt).2.2.1 : S4x128x128.Idx → EReal) = res9 m c := by
  obtain ⟨n, h⟩ := t
  obtain rfl : n = 7 := h7
  funext j
  rw [outs9 m c 7 h, eq_ix3 (n0 := 4) (n1 := 128) (n2 := 128) j]
  exact sumW_last m c h _ _ _

theorem flushed9_eq (t : Fin cfg0.N) (hf : (cfg0.win 9).flush t = true) :
    (dats m 0 c).flushed 9 t = ((cfg0.win 9).blk t).view.read (Elt Ideal) (res9 m c) := by
  have h7 : t.val = 7 := by have := (flush0_9 t).mp hf; have := lt_N t; omega
  rw [flushed9]
  funext j
  rw [View.read_apply]
  refine (congrFun (last9 m c t h7) j).trans ?_
  show res9 m c _ = res9 m c _
  congr 1
  funext a
  apply Fin.ext
  match a with
  | ⟨0, _⟩ => show (j 0).val = win0_9.index t 0 * 4 + 1 * (j 0).val; rw [(index9 t).1]; omega
  | ⟨1, _⟩ => show (j 1).val = win0_9.index t 1 * 128 + 1 * (j 1).val; rw [(index9 t).2.1]; omega
  | ⟨2, _⟩ => show (j 2).val = win0_9.index t 2 * 128 + 1 * (j 2).val; rw [(index9 t).2.2]; omega

theorem cover9 (i : S4x128x128.Idx) (t : Fin cfg0.N) : i ∈ ((View.whole main_v2_2).slice (win0_9.rect t)).set := by
  rw [View.set_slice_whole, Rect.mem_set_unit]
  intro a
  have h0 : (i 0 : Nat) < 4 := (i 0).isLt
  have h1 : (i 1 : Nat) < 128 := (i 1).isLt
  have h2 : (i 2 : Nat) < 128 := (i 2).isLt
  match a with
  | ⟨0, _⟩ => show win0_9.index t 0 * 4 ≤ (i 0 : Nat) ∧ (i 0 : Nat) < win0_9.index t 0 * 4 + win0_9.xsize (grid0.coords t) 0
              rw [(index9 t).1, (size9 t).1]; omega
  | ⟨1, _⟩ => show win0_9.index t 1 * 128 ≤ (i 1 : Nat) ∧ (i 1 : Nat) < win0_9.index t 1 * 128 + win0_9.xsize (grid0.coords t) 1
              rw [(index9 t).2.1, (size9 t).2.1]; omega
  | ⟨2, _⟩ => show win0_9.index t 2 * 128 ≤ (i 2 : Nat) ∧ (i 2 : Nat) < win0_9.index t 2 * 128 + win0_9.xsize (grid0.coords t) 2
              rw [(index9 t).2.2, (size9 t).2.2]; omega

theorem final9 : (dats m 0 c).arrAt 9 cfg0.N = res9 m c :=
  (dats m 0 c).arrAt_eq_of_cover 9 (res9 m c) (flushed9_eq m c) fun i =>
    ⟨⟨7, by rw [show cfg0.N = 8 from N_0]; decide⟩, (flush0_9 _).mpr rfl, cover9 i _⟩

theorem index10 : ∀ t : Fin cfg0.N, win0_10.index t 0 = 0 ∧ win0_10.index t 1 = 0 ∧ win0_10.index t 2 = 0 := by decide +kernel
theorem size10 : ∀ t : Fin cfg0.N, win0_10.xsize (grid0.coords t) 0 = 4 ∧ win0_10.xsize (grid0.coords t) 1 = 128 ∧ win0_10.xsize (grid0.coords t) 2 = 128 := by decide +kernel

theorem last10 (t : Fin cfg0.N) (h7 : t.val = 7) : ((outsAt0 m c t.val t.isLt).2.2.2 : S4x128x128.Idx → EReal) = res10 m c := by
  obtain ⟨n, h⟩ := t
  obtain rfl : n = 7 := h7
  funext j
  rw [outs10_last m c h, eq_ix3 (n0 := 4) (n1 := 128) (n2 := 128) j]
  exact sumB_last m c h _ _ _

theorem flushed10_eq (t : Fin cfg0.N) (hf : (cfg0.win 10).flush t = true) :
    (dats m 0 c).flushed 10 t = ((cfg0.win 10).blk t).view.read (Elt Ideal) (res10 m c) := by
  have h7 : t.val = 7 := by have := (flush0_10 t).mp hf; have := lt_N t; omega
  rw [flushed10]
  funext j
  rw [View.read_apply]
  refine (congrFun (last10 m c t h7) j).trans ?_
  show res10 m c _ = res10 m c _
  congr 1
  funext a
  apply Fin.ext
  match a with
  | ⟨0, _⟩ => show (j 0).val = win0_10.index t 0 * 4 + 1 * (j 0).val; rw [(index10 t).1]; omega
  | ⟨1, _⟩ => show (j 1).val = win0_10.index t 1 * 128 + 1 * (j 1).val; rw [(index10 t).2.1]; omega
  | ⟨2, _⟩ => show (j 2).val = win0_10.index t 2 * 128 + 1 * (j 2).val; rw [(index10 t).2.2]; omega

theorem cover10 (i : S4x128x128.Idx) (t : Fin cfg0.N) : i ∈ ((View.whole main_v2_3).slice (win0_10.rect t)).set := by
  rw [View.set_slice_whole, Rect.mem_set_unit]
  intro a
  have h0 : (i 0 : Nat) < 4 := (i 0).isLt
  have h1 : (i 1 : Nat) < 128 := (i 1).isLt
  have h2 : (i 2 : Nat) < 128 := (i 2).isLt
  match a with
  | ⟨0, _⟩ => show win0_10.index t 0 * 4 ≤ (i 0 : Nat) ∧ (i 0 : Nat) < win0_10.index t 0 * 4 + win0_10.xsize (grid0.coords t) 0
              rw [(index10 t).1, (size10 t).1]; omega
  | ⟨1, _⟩ => show win0_10.index t 1 * 128 ≤ (i 1 : Nat) ∧ (i 1 : Nat) < win0_10.index t 1 * 128 + win0_10.xsize (grid0.coords t) 1
              rw [(index10 t).2.1, (size10 t).2.1]; omega
  | ⟨2, _⟩ => show win0_10.index t 2 * 128 ≤ (i 2 : Nat) ∧ (i 2 : Nat) < win0_10.index t 2 * 128 + win0_10.xsize (grid0.coords t) 2
              rw [(index10 t).2.2, (size10 t).2.2]; omega

theorem final10 : (dats m 0 c).arrAt 10 cfg0.N = res10 m c :=
  (dats m 0 c).arrAt_eq_of_cover 10 (res10 m c) (flushed10_eq m c) fun i =>
    ⟨⟨7, by rw [show cfg0.N = 8 from N_0]; decide⟩, (flush0_10 _).mpr rfl, cover10 i _⟩

/-- The run, read: the four result arrays, the arguments unchanged. -/
theorem run : θ_run defs (onTc (τ := τ) (main (F := Ideal))) ⟨m, fun _ => 0, ρ⟩ fun r => ∀ c : Dev nD,
      r.2.mem ((c : Thread nD τ).loc main_v2_0) = res7 m c
      ∧ r.2.mem ((c : Thread nD τ).loc main_v2_1) = res8 m c
      ∧ r.2.mem ((c : Thread nD τ).loc main_v2_2) = res9 m c
      ∧ r.2.mem ((c : Thread nD τ).loc main_v2_3) = res10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final7 m c), (h c).2.1.trans (final8 m c), (h c).2.2.1.trans (final9 m c),
    (h c).2.2.2.1.trans (final10 m c), (h c).2.2.2.2⟩) (run_blocks m ρ)

end Cert.KernelIdeal.Value

end
-- ==== Proof.Equation.lean ====
/- The reference's run read at the formulas of `Spec`, and the equation of the two programs. -/
module

public import proofs.«01_k».proof.Defs
public import proofs.«01_k».proof.Proof.Entry
public import proofs.«01_k».proof.Proof.Final
public import Idealize.ShloMosaic.Adequacy
public import Idealize.ShloMosaic.Init

@[expose] public section

noncomputable section

open Idealize.ShloMosaic Idealize.ShloMosaic.TcCoe Idealize.SL.Sem

namespace Cert.ReferenceIdeal.Entry

open Cert.ReferenceIdeal Cert.ReferenceIdeal.Gen Cert.ReferenceIdeal.Read

/-- The formulas as arrays. -/
abbrev arrZ (z : S4096x3584.Idx → EReal) (sg : S1x512.Idx → EReal) (ws : S4x128x128.Idx → EReal) (bs : S4x128.Idx → EReal) (dc : S4096x1024.Idx → EReal) :
    S4096x1536.Idx → EReal := fun j =>
  Spec.dZ z sg ws bs dc ⟨(j 0).val / 128, by have : (j 0).val < 4096 := (j 0).isLt; omega⟩ ⟨(j 1).val % 512 / 128, by omega⟩ ⟨(j 0).val % 128, by omega⟩
    ⟨(j 1).val % 512 % 128, by omega⟩ ⟨(j 1).val / 512, by have : (j 1).val < 1536 := (j 1).isLt; omega⟩
abbrev arrS (z : S4096x3584.Idx → EReal) (ws : S4x128x128.Idx → EReal) (dc : S4096x1024.Idx → EReal) : S1x512.Idx → EReal := fun j =>
  Spec.dS z ws dc ⟨(j 1).val / 128, by have : (j 1).val < 512 := (j 1).isLt; omega⟩ ⟨(j 1).val % 128, by omega⟩
abbrev arrW (z : S4096x3584.Idx → EReal) (sg : S1x512.Idx → EReal) (dc : S4096x1024.Idx → EReal) : S4x128x128.Idx → EReal := fun j =>
  Spec.dW z sg dc (j 0) (j 1) (j 2)
abbrev arrB (z : S4096x3584.Idx → EReal) (dc : S4096x1024.Idx → EReal) : S4x128x128.Idx → EReal := fun j => Spec.dB z dc (j 0) (j 1)

/-- The reference's run ends with the formulas' arrays of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v125) = arrZ (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v120) = arrS (m ((c : Thread nD τ).loc main_arg0)) (m ((c : Thread nD τ).loc main_arg2)) (m ((c : Thread nD τ).loc main_arg4))
      ∧ r.2.mem ((c : Thread nD τ).loc main_v72) = arrW (m ((c : Thread nD τ).loc main_arg0)) (m ((c : Thread nD τ).loc main_arg1)) (m ((c : Thread nD τ).loc main_arg4))
      ∧ r.2.mem ((c : Thread nD τ).loc main_v127) = arrB (m ((c : Thread nD τ).loc main_arg0)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans ((val_main_v125_eq m c).trans (funext fun j => by
        rw [eq_ix2 (n0 := 4096) (n1 := 1536) j]; exact v125_entry _ _ _ _ _ _ _)),
      (h c).2.1.trans ((val_main_v120_eq m c).trans (funext fun j => by
        rw [eq_ix2 (n0 := 1) (n1 := 512) j]; exact v120_entry _ _ _ _ _)),
      (h c).2.2.1.trans ((val_main_v72_eq m c).trans (funext fun j => by
        rw [eq_ix3 (n0 := 4) (n1 := 128) (n2 := 128) j]; exact v72_entry _ _ _ _ _ _)),
      (h c).2.2.2.1.trans ((val_main_v127_eq _ _).trans (funext fun j => by
        rw [eq_ix3 (n0 := 4) (n1 := 128) (n2 := 128) j]; exact v127_entry _ _ _ _ _)),
      (h c).2.2.2.2⟩) (Cert.ReferenceIdeal.Value.run m ρ)

end Cert.ReferenceIdeal.Entry

namespace Cert.Proof

/-- From agreeing arguments the two programs end with equal results. -/
theorem algebraic : Cert.algebraic_KernelIdeal_ReferenceIdeal (hKernelIdeal := Cert.KernelIdeal.Gen.facts) (hReferenceIdeal := Cert.ReferenceIdeal.Gen.facts) :=
  fun m ρ m' ρ' _ hag =>
    ⟨Cert.KernelIdeal.Value.res7 m, Cert.KernelIdeal.Value.res8 m, Cert.KernelIdeal.Value.res9 m, Cert.KernelIdeal.Value.res10 m,
      Cert.KernelIdeal.Value.run m ρ,
      (θ_run _ _ _).mono (fun _ h c => by
        obtain ⟨e0, e1, e2, e3, e4⟩ := hag c
        obtain ⟨h0, h1, h2, h3, h4⟩ := h c
        rw [e0, e1, e2, e3, e4] at h0
        rw [e0, e2, e4] at h1
        rw [e0, e1, e4] at h2
        rw [e0, e4] at h3
        exact ⟨h0, h1, h2, h3, h4⟩) (Cert.ReferenceIdeal.Entry.run m' ρ')⟩

/-- The reference's run leaves the arguments as they are; it declares no semaphore. -/
theorem reference_frame : Cert.quiescent_ReferenceIdeal (hReferenceIdeal := Cert.ReferenceIdeal.Gen.facts) := fun m ρ _ =>
  (θ_run _ _ _).mono (fun r h => ⟨fun c => (h c).2.2.2.2, Idealize.ShloMosaic.sem_eq_zero_of_no_sems (by decide) r.2⟩) (Cert.ReferenceIdeal.Value.run m ρ)

end Cert.Proof

end
-- ==== Proof.InSpec.lean ====
/- The gradient of the input projection and the normalisation before it, over the extended reals, in coordinates: rows `r`, 1024
   columns `n` of the rows `x`, of the cotangent `y` that comes past them, of the scale `s` and the gains `g`; the projection's
   cotangent in five groups of columns `z`, `q`, `k`, `v`, `b`, and the weight `w`, of 3584 columns. -/
module

public import Idealize.ShloMosaic.Lib.Pointwise

@[expose] public section

noncomputable section

namespace Cert.InSpec

open Idealize.ShloMosaic

/-- Column `l` of the first group among all the columns. -/
def colZ (l : Fin 1536) : Fin 3584 := ⟨l.val, by omega⟩
/-- Column `l` of group `o` of the later ones among all the columns. -/
def colQ (o : Fin 4) (l : Fin 512) : Fin 3584 := ⟨1536 + 512 * o.val + l.val, by omega⟩

/-- A sum over all the columns, group by group. -/
theorem sum_cols (f : Fin 3584 → EReal) : ∑ l, f l
    = (∑ l, f (colZ l)) + (∑ l, f (colQ 0 l)) + (∑ l, f (colQ 1 l)) + (∑ l, f (colQ 2 l)) + ∑ l, f (colQ 3 l) := by
  have h3 := Fin.sum_univ_add (a := 3072) (b := 512) f
  have h2 := Fin.sum_univ_add (a := 2560) (b := 512) fun l => f (Fin.castAdd 512 l)
  have h1 := Fin.sum_univ_add (a := 2048) (b := 512) fun l => f (Fin.castAdd 512 (Fin.castAdd 512 l))
  have h0 := Fin.sum_univ_add (a := 1536) (b := 512) fun l => f (Fin.castAdd 512 (Fin.castAdd 512 (Fin.castAdd 512 l)))
  refine h3.trans ?_
  refine congrArg₂ (· + ·) ?_ rfl
  refine h2.trans ?_
  refine congrArg₂ (· + ·) ?_ rfl
  refine h1.trans ?_
  refine congrArg₂ (· + ·) ?_ rfl
  exact h0

/-- Column `l` of block `j` of 896 among all the columns. -/
def colW (j : Fin 4) (l : Fin 896) : Fin 3584 := ⟨896 * j.val + l.val, by omega⟩

section

variable {R : ℕ} (z : Fin R → Fin 1536 → EReal) (q k v b : Fin R → Fin 512 → EReal) (w : Fin 1024 → Fin 3584 → EReal)

/-- The cotangent of the projection's input. -/
def dh (r : Fin R) (n : Fin 1024) : EReal :=
  (∑ l, z r l * w n (colZ l)) + (∑ l, q r l * w n (colQ 0 l)) + (∑ l, k r l * w n (colQ 1 l)) + (∑ l, v r l * w n (colQ 2 l))
    + ∑ l, b r l * w n (colQ 3 l)

end

variable {R : ℕ} (d x y : Fin R → Fin 1024 → EReal) (s g : Fin 1024 → EReal)

/-- The row's mean square plus the small constant. -/
def ms (r : Fin R) : EReal := Ideal.div (∑ n, x r n * x r n) (Ideal.ofBits .f32 0x44800000#32) + Ideal.ofBits .f32 0x358637BD#32
/-- Its reciprocal square root. -/
def rs (r : Fin R) : EReal := Ideal.rsqrt (ms x r)
/-- The derivative of the reciprocal square root there. -/
def rsD (r : Fin R) : EReal := Ideal.ofBits .f32 0xBF000000#32 * Ideal.div (rs x r) (ms x r)
/-- The row normalised. -/
def nrm (r : Fin R) (n : Fin 1024) : EReal := x r n * rs x r
/-- The row normalised, times the gains. -/
def nrmG (r : Fin R) (n : Fin 1024) : EReal := nrm x r n * g n
/-- The shift's cotangent. -/
def dshift (n : Fin 1024) : EReal := ∑ r, d r n
/-- The scale's cotangent. -/
def dscale (n : Fin 1024) : EReal := ∑ r, nrmG x g r n * d r n
/-- The cotangent of the scaled rows. -/
def dng (r : Fin R) (n : Fin 1024) : EReal := d r n * (1 + s n)
/-- The gains' cotangent. -/
def dgain (n : Fin 1024) : EReal := ∑ r, nrm x r n * dng d s r n
/-- The cotangent of the normalised rows. -/
def dn (r : Fin R) (n : Fin 1024) : EReal := dng d s r n * g n
/-- The cotangent of the row's reciprocal root mean square. -/
def drs (r : Fin R) : EReal := ∑ n, x r n * dn d s g r n
/-- The cotangent of each square in the row. -/
def dsq (r : Fin R) : EReal := Ideal.div (drs d x s g r * rsD x r) (Ideal.ofBits .f32 0x44800000#32)
/-- The cotangent of the rows, plus the one that comes past them. -/
def gx (r : Fin R) (n : Fin 1024) : EReal :=
  y r n + (dn d s g r n * rs x r + x r n * dsq d x s g r + dsq d x s g r * x r n)

end Cert.InSpec

end
-- ==== Proof.InEntry.lean ====
/- The reference of the input projection's gradient, read at an entry. -/
module

public import proofs.«01_k».proof.Proof.Gen.InReferenceIdeal.Read
public import proofs.«01_k».proof.Proof.InSpec

@[expose] public section

set_option maxHeartbeats 1000000

noncomputable section

open Idealize.ShloMosaic Idealize.ShloMosaic.TcCoe Idealize.SL.Sem

namespace Cert.InReferenceIdeal.Entry

open Cert.InReferenceIdeal Cert.InReferenceIdeal.Gen Cert.InReferenceIdeal.Read

/-- An array as a function of row and column. -/
abbrev fn {R C : ℕ} (x : Shape.Idx ⟨2, ![R, C]⟩ → EReal) : Fin R → Fin C → EReal := fun r c => x (ix2 r c)

/-! Five arrays side by side, read at a column of each. -/

section

variable (y0 : S4096x1536.Idx → EReal) (y1 y2 y3 y4 : S4096x512.Idx → EReal)

theorem cat0 (h) (r : Fin 4096) (l : Fin 1536) :
    concatenate S4096x3584 1 [⟨S4096x1536, y0⟩, ⟨S4096x512, y1⟩, ⟨S4096x512, y2⟩, ⟨S4096x512, y3⟩, ⟨S4096x512, y4⟩] h (ix2 r (InSpec.colZ l)) = y0 (ix2 r l) :=
  concatenate_apply_piece (t := S4096x3584) 1 [⟨S4096x1536, y0⟩, ⟨S4096x512, y1⟩, ⟨S4096x512, y2⟩, ⟨S4096x512, y3⟩, ⟨S4096x512, y4⟩] h (ix2 r (InSpec.colZ l)) 0
    (by show 0 < 5; decide) S4096x1536 y0 rfl rfl 0 rfl (ix2 r l)
    (fun b hb => match b with | ⟨0, _⟩ => rfl | ⟨1, _⟩ => absurd rfl hb) (by show 0 + l.val = l.val; omega)
theorem cat1 (h) (r : Fin 4096) (l : Fin 512) :
    concatenate S4096x3584 1 [⟨S4096x1536, y0⟩, ⟨S4096x512, y1⟩, ⟨S4096x512, y2⟩, ⟨S4096x512, y3⟩, ⟨S4096x512, y4⟩] h (ix2 r (InSpec.colQ 0 l)) = y1 (ix2 r l) :=
  concatenate_apply_piece (t := S4096x3584) 1 [⟨S4096x1536, y0⟩, ⟨S4096x512, y1⟩, ⟨S4096x512, y2⟩, ⟨S4096x512, y3⟩, ⟨S4096x512, y4⟩] h (ix2 r (InSpec.colQ 0 l)) 1
    (by show 1 < 5; decide) S4096x512 y1 rfl rfl 1536 rfl (ix2 r l)
    (fun b hb => match b with | ⟨0, _⟩ => rfl | ⟨1, _⟩ => absurd rfl hb) (by show 1536 + l.val = 1536 + 512 * 0 + l.val; omega)
theorem cat2 (h) (r : Fin 4096) (l : Fin 512) :
    concatenate S4096x3584 1 [⟨S4096x1536, y0⟩, ⟨S4096x512, y1⟩, ⟨S4096x512, y2⟩, ⟨S4096x512, y3⟩, ⟨S4096x512, y4⟩] h (ix2 r (InSpec.colQ 1 l)) = y2 (ix2 r l) :=
  concatenate_apply_piece (t := S4096x3584) 1 [⟨S4096x1536, y0⟩, ⟨S4096x512, y1⟩, ⟨S4096x512, y2⟩, ⟨S4096x512, y3⟩, ⟨S4096x512, y4⟩] h (ix2 r (InSpec.colQ 1 l)) 2
    (by show 2 < 5; decide) S4096x512 y2 rfl rfl 2048 rfl (ix2 r l)
    (fun b hb => match b with | ⟨0, _⟩ => rfl | ⟨1, _⟩ => absurd rfl hb) (by show 2048 + l.val = 1536 + 512 * 1 + l.val; omega)
theorem cat3 (h) (r : Fin 4096) (l : Fin 512) :
    concatenate S4096x3584 1 [⟨S4096x1536, y0⟩, ⟨S4096x512, y1⟩, ⟨S4096x512, y2⟩, ⟨S4096x512, y3⟩, ⟨S4096x512, y4⟩] h (ix2 r (InSpec.colQ 2 l)) = y3 (ix2 r l) :=
  concatenate_apply_piece (t := S4096x3584) 1 [⟨S4096x1536, y0⟩, ⟨S4096x512, y1⟩, ⟨S4096x512, y2⟩, ⟨S4096x512, y3⟩, ⟨S4096x512, y4⟩] h (ix2 r (InSpec.colQ 2 l)) 3
    (by show 3 < 5; decide) S4096x512 y3 rfl rfl 2560 rfl (ix2 r l)
    (fun b hb => match b with | ⟨0, _⟩ => rfl | ⟨1, _⟩ => absurd rfl hb) (by show 2560 + l.val = 1536 + 512 * 2 + l.val; omega)
theorem cat4 (h) (r : Fin 4096) (l : Fin 512) :
    concatenate S4096x3584 1 [⟨S4096x1536, y0⟩, ⟨S4096x512, y1⟩, ⟨S4096x512, y2⟩, ⟨S4096x512, y3⟩, ⟨S4096x512, y4⟩] h (ix2 r (InSpec.colQ 3 l)) = y4 (ix2 r l) :=
  concatenate_apply_piece (t := S4096x3584) 1 [⟨S4096x1536, y0⟩, ⟨S4096x512, y1⟩, ⟨S4096x512, y2⟩, ⟨S4096x512, y3⟩, ⟨S4096x512, y4⟩] h (ix2 r (InSpec.colQ 3 l)) 4
    (by show 4 < 5; decide) S4096x512 y4 rfl rfl 3072 rfl (ix2 r l)
    (fun b hb => match b with | ⟨0, _⟩ => rfl | ⟨1, _⟩ => absurd rfl hb) (by show 3072 + l.val = 1536 + 512 * 3 + l.val; omega)

end

/-- A sum from the constant zero. -/
theorem zero_sum (x : EReal) : FloatOps.ofBits (F := Ideal) .f32 0x00000000#32 + x = x := by
  show Ideal.ofBits .f32 0x00000000#32 + x = x
  rw [Ideal.ofBits_zero_f32, zero_add]

variable (x0 : S4096x1536.Idx → EReal) (x1 x2 x3 x4 : S4096x512.Idx → EReal) (x5 : S1024x3584.Idx → EReal) (x6 x7 : S4096x1024.Idx → EReal)
  (x9 x10 x11 : S1x1024.Idx → EReal)

/-- The cotangent of the projection's input. -/
abbrev D : Fin 4096 → Fin 1024 → EReal := InSpec.dh (fn x0) (fn x1) (fn x2) (fn x3) (fn x4) (fn x5)

theorem v24_entry (r : Fin 4096) (n : Fin 1024) : val_main_v24 (F := Ideal) x0 x1 x2 x3 x4 x5 (ix2 r n) = D x0 x1 x2 x3 x4 x5 r n := by
  rw [val_main_v24_apply, InSpec.sum_cols]
  have el : ∀ k, lidx_main_v24 (ix2 r n) k = ix2 r k := fun k => funext fun a => match a with | ⟨0, _⟩ => rfl | ⟨1, _⟩ => rfl
  have er : ∀ k, ridx_main_v24 (ix2 r n) k = ix2 n k := fun k => funext fun a => match a with | ⟨0, _⟩ => rfl | ⟨1, _⟩ => rfl
  have hv : ∀ k, val_main_v1 (F := Ideal) x0 x1 x2 x3 x4 (ix2 r k) = val_main_v0 (F := Ideal) x0 x1 x2 x3 x4 (ix2 r k) := fun _ => rfl
  simp only [el, er, hv, val_main_v0, cat0, cat1, cat2, cat3, cat4]
  rfl

theorem v8_entry (r : Fin 4096) (z : Fin 1) : val_main_v8 (F := Ideal) x6 (ix2 r z) = InSpec.ms (fn x6) r := by
  have e4 : idx_main_v4 (ix2 r z) = ix1 r := funext fun a => match a with | ⟨0, _⟩ => rfl
  have e3 : ∀ k, idx_main_v3 (ix1 r) k = ix2 r k := fun k => funext fun a => match a with | ⟨0, _⟩ => rfl | ⟨1, _⟩ => rfl
  rw [val_main_v8_apply, val_main_v6_apply, val_main_v4_apply, e4, val_main_v3_apply, val_main_v5_apply, val_main_v7_apply]
  simp only [e3, val_main_v2_apply, val_main_cst_apply, zero_sum, val_main_cst_0_apply, val_main_cst_1_apply]
  rfl

theorem v9_entry (r : Fin 4096) (z : Fin 1) : val_main_v9 (F := Ideal) x6 (ix2 r z) = InSpec.rs (fn x6) r := by
  rw [val_main_v9_apply, v8_entry]
  rfl

theorem v12_entry (r : Fin 4096) (z : Fin 1) : val_main_v12 (F := Ideal) x6 (ix2 r z) = InSpec.rsD (fn x6) r := by
  rw [val_main_v12_apply, val_main_v10_apply, val_main_v11_apply, val_main_cst_2_apply, v8_entry, v9_entry]
  rfl

theorem v14_entry (r : Fin 4096) (n : Fin 1024) : val_main_v14 (F := Ideal) x6 (ix2 r n) = InSpec.nrm (fn x6) r n := by
  have e : idx_main_v13 (ix2 r n) = ix2 r 0 := funext fun a => match a with | ⟨0, _⟩ => rfl | ⟨1, _⟩ => rfl
  rw [val_main_v14_apply, val_main_v13_apply, e, v9_entry]
  rfl

theorem v16_entry (r : Fin 4096) (n : Fin 1024) : val_main_v16 (F := Ideal) x6 x10 (ix2 r n) = InSpec.nrmG (fn x6) (fn x10 0) r n := by
  have e : idx_main_v15 (ix2 r n) = ix2 0 n := funext fun a => match a with | ⟨0, _⟩ => rfl | ⟨1, _⟩ => rfl
  rw [val_main_v16_apply, v14_entry, val_main_v15_apply, e]
  rfl

theorem v18_entry (z : Fin 1) (n : Fin 1024) : val_main_v18 (F := Ideal) x9 (ix2 z n) = 1 + x9 (ix2 z n) := by
  rw [val_main_v18_apply, val_main_v17_apply, val_main_cst_3_apply]
  show Ideal.ofBits .f32 0x3F800000#32 + _ = _
  rw [Ideal.ofBits_one_f32]

theorem v31_entry (r : Fin 4096) (n : Fin 1024) : val_main_v31 (F := Ideal) x0 x1 x2 x3 x4 x5 x9 (ix2 r n) = InSpec.dng (D x0 x1 x2 x3 x4 x5) (fn x9 0) r n := by
  have e : idx_main_v30 (ix2 r n) = ix2 0 n := funext fun a => match a with | ⟨0, _⟩ => rfl | ⟨1, _⟩ => rfl
  rw [val_main_v31_apply, v24_entry, val_main_v30_apply, e, v18_entry]
  rfl

theorem v36_entry (r : Fin 4096) (n : Fin 1024) :
    val_main_v36 (F := Ideal) x0 x1 x2 x3 x4 x5 x9 x10 (ix2 r n) = InSpec.dn (D x0 x1 x2 x3 x4 x5) (fn x9 0) (fn x10 0) r n := by
  have e : idx_main_v35 (ix2 r n) = ix2 0 n := funext fun a => match a with | ⟨0, _⟩ => rfl | ⟨1, _⟩ => rfl
  rw [val_main_v36_apply, v31_entry, val_main_v35_apply, e]
  rfl

theorem v39_entry (r : Fin 4096) (z : Fin 1) :
    val_main_v39 (F := Ideal) x0 x1 x2 x3 x4 x5 x6 x9 x10 (ix2 r z) = InSpec.drs (D x0 x1 x2 x3 x4 x5) (fn x6) (fn x9 0) (fn x10 0) r := by
  have e39 : idx_main_v39 (ix2 r z) = ix1 r := funext fun a => match a with
    | ⟨0, _⟩ => Fin.ext (by show r.val * 1 + z.val = r.val; have := z.isLt; omega)
  have e38 : ∀ k, idx_main_v38 (ix1 r) k = ix2 r k := fun k => funext fun a => match a with | ⟨0, _⟩ => rfl | ⟨1, _⟩ => rfl
  rw [val_main_v39_apply, e39, val_main_v38_apply]
  simp only [e38, val_main_v37_apply, v36_entry, val_main_cst_7_apply, zero_sum]
  rfl

theorem v46_entry (r : Fin 4096) (n : Fin 1024) :
    val_main_v46 (F := Ideal) x0 x1 x2 x3 x4 x5 x6 x9 x10 (ix2 r n) = InSpec.dsq (D x0 x1 x2 x3 x4 x5) (fn x6) (fn x9 0) (fn x10 0) r := by
  have e46 : idx_main_v46 (ix2 r n) = ix1 r := funext fun a => match a with | ⟨0, _⟩ => rfl
  have e45 : ∀ k, idx_main_v45 (ix1 r) k = ix2 r k := fun k => funext fun a => match a with | ⟨0, _⟩ => rfl | ⟨1, _⟩ => rfl
  rw [val_main_v46_apply, e46, val_main_v45_apply]
  simp only [e45, val_main_cst_9_apply, zero_sum]
  rw [Fin.sum_univ_one, val_main_v44_apply, val_main_v42_apply, v39_entry, v12_entry, val_main_v43_apply, val_main_cst_8_apply]
  rfl

/-- The cotangent of the rows. -/
theorem v51_entry (r : Fin 4096) (n : Fin 1024) : val_main_v51 (F := Ideal) x0 x1 x2 x3 x4 x5 x6 x7 x9 x10 (ix2 r n)
    = InSpec.gx (D x0 x1 x2 x3 x4 x5) (fn x6) (fn x7) (fn x9 0) (fn x10 0) r n := by
  have e : idx_main_v40 (ix2 r n) = ix2 r 0 := funext fun a => match a with | ⟨0, _⟩ => rfl | ⟨1, _⟩ => rfl
  rw [val_main_v51_apply, val_main_v50_apply, val_main_v48_apply, val_main_v41_apply, val_main_v47_apply, val_main_v49_apply, v46_entry, v36_entry,
    val_main_v40_apply, e, v9_entry]
  rfl

/-- The shift's cotangent. -/
theorem v26_entry (z : Fin 1) (n : Fin 1024) : val_main_v26 (F := Ideal) x0 x1 x2 x3 x4 x5 (ix2 z n) = InSpec.dshift (D x0 x1 x2 x3 x4 x5) n := by
  have e2 : idx_main_v26 (ix2 z n) = ix1 n := funext fun a => match a with
    | ⟨0, _⟩ => Fin.ext (by show z.val * 1024 + n.val = n.val; have := z.isLt; omega)
  have e3 : ∀ r, idx_main_v25 (ix1 n) r = ix2 r n := fun r => funext fun a => match a with | ⟨0, _⟩ => rfl | ⟨1, _⟩ => rfl
  rw [val_main_v26_apply, e2, val_main_v25_apply]
  simp only [e3, v24_entry, val_main_cst_4_apply, zero_sum]
  rfl

/-- The scale's cotangent. -/
theorem v29_entry (z : Fin 1) (n : Fin 1024) : val_main_v29 (F := Ideal) x0 x1 x2 x3 x4 x5 x6 x10 (ix2 z n) = InSpec.dscale (D x0 x1 x2 x3 x4 x5) (fn x6) (fn x10 0) n := by
  have e2 : idx_main_v29 (ix2 z n) = ix1 n := funext fun a => match a with
    | ⟨0, _⟩ => Fin.ext (by show z.val * 1024 + n.val = n.val; have := z.isLt; omega)
  have e3 : ∀ r, idx_main_v28 (ix1 n) r = ix2 r n := fun r => funext fun a => match a with | ⟨0, _⟩ => rfl | ⟨1, _⟩ => rfl
  rw [val_main_v29_apply, e2, val_main_v28_apply]
  simp only [e3, val_main_v27_apply, v16_entry, v24_entry, val_main_cst_5_apply, zero_sum]
  rfl

/-- The gains' cotangent, without the earlier one. -/
theorem v34_entry (z : Fin 1) (n : Fin 1024) : val_main_v34 (F := Ideal) x0 x1 x2 x3 x4 x5 x6 x9 (ix2 z n) = InSpec.dgain (D x0 x1 x2 x3 x4 x5) (fn x6) (fn x9 0) n := by
  have e2 : idx_main_v34 (ix2 z n) = ix1 n := funext fun a => match a with
    | ⟨0, _⟩ => Fin.ext (by show z.val * 1024 + n.val = n.val; have := z.isLt; omega)
  have e3 : ∀ r, idx_main_v33 (ix1 n) r = ix2 r n := fun r => funext fun a => match a with | ⟨0, _⟩ => rfl | ⟨1, _⟩ => rfl
  rw [val_main_v34_apply, e2, val_main_v33_apply]
  simp only [e3, val_main_v32_apply, v14_entry, v31_entry, val_main_cst_6_apply, zero_sum]
  rfl

/-- The gains' cotangent. -/
theorem v52_entry (z : Fin 1) (n : Fin 1024) : val_main_v52 (F := Ideal) x0 x1 x2 x3 x4 x5 x6 x9 x11 (ix2 z n)
    = fn x11 0 n + InSpec.dgain (D x0 x1 x2 x3 x4 x5) (fn x6) (fn x9 0) n := by
  obtain rfl : z = 0 := Subsingleton.elim _ _
  rw [val_main_v52_apply, v34_entry]
  rfl

end Cert.InReferenceIdeal.Entry

end
-- ==== Proof.InBlock.lean ====
/- What one grid point of the input projection's gradient computes, operation by operation: a block of 512 rows. -/
module

public import proofs.«01_k».proof.Proof.Gen.InKernelIdeal.Frame
public import Idealize.ShloMosaic.Lib.Pointwise.Index

@[expose] public section

noncomputable section

namespace Cert.InKernelIdeal.Block

open Cert.InKernelIdeal Cert.InKernelIdeal.Gen Idealize.ShloMosaic

variable {F : FTy → Type} [FloatOps F]

/-! ## The product of the rows with the weight

The weight lies in four blocks of 896 columns.  The five groups of columns and the four blocks cut one another into eight pieces. -/

theorem slices_z896 : S512x1536.Slices ![0, 0] S512x896 := by decide
theorem slices_z640 : S512x1536.Slices ![0, 896] S512x640 := by decide
theorem slices_q256_0 : S512x512.Slices ![0, 0] S512x256 := by decide
theorem slices_q256_256 : S512x512.Slices ![0, 256] S512x256 := by decide
theorem slices_q128_0 : S512x512.Slices ![0, 0] S512x128 := by decide
theorem slices_q384_128 : S512x512.Slices ![0, 128] S512x384 := by decide
theorem slices_w0_0 : S4x1024x896.Slices ![0, 0, 0] S1x1024x896 := by decide
theorem slices_w1_0 : S4x1024x896.Slices ![1, 0, 0] S1x1024x640 := by decide
theorem slices_w1_640 : S4x1024x896.Slices ![1, 0, 640] S1x1024x256 := by decide
theorem slices_w2_0 : S4x1024x896.Slices ![2, 0, 0] S1x1024x256 := by decide
theorem slices_w2_256 : S4x1024x896.Slices ![2, 0, 256] S1x1024x512 := by decide
theorem slices_w2_768 : S4x1024x896.Slices ![2, 0, 768] S1x1024x128 := by decide
theorem slices_w3_0 : S4x1024x896.Slices ![3, 0, 0] S1x1024x384 := by decide
theorem slices_w3_384 : S4x1024x896.Slices ![3, 0, 384] S1x1024x512 := by decide

section

variable (z : FVec F S512x1536 .bf16) (q k v b : FVec F S512x512 .bf16) (w : FVec F S4x1024x896 .bf16)

/-- The products of the eight pieces: some of a group's columns with the weight's columns of the same numbers. -/
def prodZ0 : FVec F S512x1024 .f32 :=
  matmul dot_S512x896_S1024x896_S512x1024_1_1_0_0_n_n none (extractStridedSlice S512x896 ![0, 0] z slices_z896)
    (shapeCast S1024x896 (extractStridedSlice S1x1024x896 ![0, 0, 0] w slices_w0_0) shapeCasts_S1x1024x896_S1024x896) (constant S512x1024 .f32 0x00000000#32)
def prodZ1 : FVec F S512x1024 .f32 :=
  matmul dot_S512x640_S1024x640_S512x1024_1_1_0_0_n_n none (extractStridedSlice S512x640 ![0, 896] z slices_z640)
    (shapeCast S1024x640 (extractStridedSlice S1x1024x640 ![1, 0, 0] w slices_w1_0) shapeCasts_S1x1024x640_S1024x640) (constant S512x1024 .f32 0x00000000#32)
def prodQ0 : FVec F S512x1024 .f32 :=
  matmul dot_S512x256_S1024x256_S512x1024_1_1_0_0_n_n none (extractStridedSlice S512x256 ![0, 0] q slices_q256_0)
    (shapeCast S1024x256 (extractStridedSlice S1x1024x256 ![1, 0, 640] w slices_w1_640) shapeCasts_S1x1024x256_S1024x256) (constant S512x1024 .f32 0x00000000#32)
def prodQ1 : FVec F S512x1024 .f32 :=
  matmul dot_S512x256_S1024x256_S512x1024_1_1_0_0_n_n none (extractStridedSlice S512x256 ![0, 256] q slices_q256_256)
    (shapeCast S1024x256 (extractStridedSlice S1x1024x256 ![2, 0, 0] w slices_w2_0) shapeCasts_S1x1024x256_S1024x256) (constant S512x1024 .f32 0x00000000#32)
def prodK : FVec F S512x1024 .f32 :=
  matmul dot_S512x512_S1024x512_S512x1024_1_1_0_0_n_n none k
    (shapeCast S1024x512 (extractStridedSlice S1x1024x512 ![2, 0, 256] w slices_w2_256) shapeCasts_S1x1024x512_S1024x512) (constant S512x1024 .f32 0x00000000#32)
def prodV0 : FVec F S512x1024 .f32 :=
  matmul dot_S512x128_S1024x128_S512x1024_1_1_0_0_n_n none (extractStridedSlice S512x128 ![0, 0] v slices_q128_0)
    (shapeCast S1024x128 (extractStridedSlice S1x1024x128 ![2, 0, 768] w slices_w2_768) shapeCasts_S1x1024x128_S1024x128) (constant S512x1024 .f32 0x00000000#32)
def prodV1 : FVec F S512x1024 .f32 :=
  matmul dot_S512x384_S1024x384_S512x1024_1_1_0_0_n_n none (extractStridedSlice S512x384 ![0, 128] v slices_q384_128)
    (shapeCast S1024x384 (extractStridedSlice S1x1024x384 ![3, 0, 0] w slices_w3_0) shapeCasts_S1x1024x384_S1024x384) (constant S512x1024 .f32 0x00000000#32)
def prodB : FVec F S512x1024 .f32 :=
  matmul dot_S512x512_S1024x512_S512x1024_1_1_0_0_n_n none b
    (shapeCast S1024x512 (extractStridedSlice S1x1024x512 ![3, 0, 384] w slices_w3_384) shapeCasts_S1x1024x512_S1024x512) (constant S512x1024 .f32 0x00000000#32)
/-- The cotangent of the projection's input. -/
def dh : FVec F S512x1024 .f32 :=
  addf (addf (addf (addf (addf (addf (addf (prodZ0 z w) (prodZ1 z w)) (prodQ0 q w)) (prodQ1 q w)) (prodK k w)) (prodV0 v w)) (prodV1 v w)) (prodB b w)

end

/-! ## The normalisation before it -/

section

variable (d x y : FVec F S512x1024 .f32) (s g : FVec F S1x1024 .f32)

/-- Each row's mean square plus the small constant. -/
def ms : FVec F S512x1 .f32 :=
  addf
    (divf (shapeCast S512x1 (multiReduction .add [1] S512 (mulf x x) 0x00000000#32 reduces_S512x1024_S512 (.inl rfl) rfl) shapeCasts_S512_S512x1)
      (broadcast S512x1 (Scalar.ofBits .f32 0x44800000#32)))
    (broadcast S512x1 (Scalar.ofBits .f32 0x358637BD#32))
/-- Its reciprocal square root. -/
def rs : FVec F S512x1 .f32 := rsqrt (ms x)
/-- The derivative of the reciprocal square root there. -/
def rsD : FVec F S512x1 .f32 := mulf (broadcast S512x1 (Scalar.ofBits .f32 0xBF000000#32)) (divf (rs x) (ms x))
/-- The rows normalised. -/
def nrm : FVec F S512x1024 .f32 := mulf x (broadcastTo S512x1024 (rs x) broadcasts_S512x1_S512x1024)
/-- The rows normalised, times the gains. -/
def nrmG : FVec F S512x1024 .f32 := mulf (nrm x) (broadcastTo S512x1024 g broadcasts_S1x1024_S512x1024)
/-- One plus the scale. -/
def oneS : FVec F S1x1024 .f32 := addf (broadcast S1x1024 (Scalar.ofBits .f32 0x3F800000#32)) s
/-- The rows' sum. -/
def total : FVec F S1x1024 .f32 :=
  shapeCast S1x1024 (multiReduction .add [0] S1024 d 0x00000000#32 reduces_S512x1024_S1024 (.inl rfl) rfl) shapeCasts_S1024_S1x1024
/-- The part of the scale's cotangent. -/
def dscale : FVec F S1x1024 .f32 := total (mulf (nrmG x g) d)
/-- The cotangent of the scaled rows. -/
def dng : FVec F S512x1024 .f32 := mulf d (broadcastTo S512x1024 (oneS s) broadcasts_S1x1024_S512x1024)
/-- The part of the gains' cotangent. -/
def dgain : FVec F S1x1024 .f32 := total (mulf (nrm x) (dng d s))
/-- The cotangent of the normalised rows. -/
def dn : FVec F S512x1024 .f32 := mulf (dng d s) (broadcastTo S512x1024 g broadcasts_S1x1024_S512x1024)
/-- The cotangent of each row's reciprocal root mean square. -/
def drs : FVec F S512x1 .f32 :=
  shapeCast S512x1 (multiReduction .add [1] S512 (mulf x (dn d s g)) 0x00000000#32 reduces_S512x1024_S512 (.inl rfl) rfl) shapeCasts_S512_S512x1
/-- The cotangent of each square in a row. -/
def dsq : FVec F S512x1024 .f32 :=
  broadcastTo S512x1024
    (shapeCast S512x1
      (multiReduction .add [1] S512 (divf (mulf (drs d x s g) (rsD x)) (broadcast S512x1 (Scalar.ofBits .f32 0x44800000#32))) 0x00000000#32
        reduces_S512x1_S512 (.inl rfl) rfl)
      shapeCasts_S512_S512x1)
    broadcasts_S512x1_S512x1024
/-- The cotangent of the rows, plus the one that comes past them. -/
def gx : FVec F S512x1024 .f32 :=
  addf y
    (addf
      (addf (mulf (dn d s g) (broadcastTo S512x1024 (rs x) broadcasts_S512x1_S512x1024)) (mulf x (dsq d x s g)))
      (mulf (dsq d x s g) x))

end

/-! ## The block of 512 rows -/

variable (x0 : FVec F S512x1536 .bf16) (x1 x2 x3 x4 : FVec F S512x512 .bf16) (x5 : FVec F S4x1024x896 .bf16) (x6 x7 : FVec F S512x1024 .f32)
  (x9 x10 : FVec F S1x1024 .f32)

/-- The rows' cotangent. -/
def gxW : FVec F S512x1024 .f32 := gx (dh x0 x1 x2 x3 x4 x5) x6 x7 x9 x10

/-! ## The running sums -/

/-- Their zero. -/
def zero : FVec F S1x1024 .f32 := broadcast S1x1024 (Scalar.ofBits .f32 0x00000000#32)
/-- A running sum after one more part. -/
def step (z p : FVec F S1x1024 .f32) : FVec F S1x1024 .f32 := addf (shapeCast S1x1024 z shapeCasts_S1x1024_S1x1024) p
/-- The shift's cotangent after this block, of the one before. -/
def stepS (z : FVec F S1x1024 .f32) : FVec F S1x1024 .f32 := step z (total (dh x0 x1 x2 x3 x4 x5))
/-- The scale's cotangent after this block, of the one before. -/
def stepC (z : FVec F S1x1024 .f32) : FVec F S1x1024 .f32 := step z (dscale (dh x0 x1 x2 x3 x4 x5) x6 x10)
/-- The gains' cotangent after this block, of the one before. -/
def stepG (z : FVec F S1x1024 .f32) : FVec F S1x1024 .f32 := step z (dgain (dh x0 x1 x2 x3 x4 x5) x6 x9)

end Cert.InKernelIdeal.Block

end
-- ==== Proof.InCases.lean ====
/- Each case of the body of the input projection's gradient (the first grid point, the others) leaves in each result's buffer
   the block's value: the stores found by the generated run, read back. -/
module

public import proofs.«01_k».proof.Proof.Gen.InKernelIdeal.Value
public import proofs.«01_k».proof.Proof.InBlock
public import Idealize.ShloMosaic.Lib.Tactic
public import Idealize.ShloMosaic.Lib.Pipeline.ValueKit.Acc
public import Idealize.ShloMosaic.Lib.Pipeline.ReadBack

@[expose] public section

set_option maxRecDepth 16384

noncomputable section

open Idealize.ShloMosaic Idealize.ShloMosaic.TcCoe Idealize.SL.Sem

namespace Cert.InKernelIdeal.Value

open Cert.InKernelIdeal Cert.InKernelIdeal.Gen Cert.InKernelIdeal.Block

variable {F : FTy → Type} [FloatOps F]

theorem hz2 : ∀ a : Fin 2, (![0, 0] : Fin 2 → Nat) a = 0 := by decide

variable (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x1024x896 .bf16) (harg6 : arg6.IsWhole) (arg7 : Memref sig .tc .vmem S512x1024 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole)
  (arg13 : Memref sig .tc .vmem S512x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole)
  (x0 : Vec F S512x1536 .bf16) (x1 x2 x3 x4 : Vec F S512x512 .bf16) (x5 : Vec F S4x1024x896 .bf16) (x6 x7 : Vec F S512x1024 .f32)
  (x8 x9 x10 x11 : Vec F S1x1024 .f32)

/-- The first grid point leaves the rows' cotangent. -/
theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = gxW x0 x1 x2 x3 x4 x5 x6 x7 x9 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_lit' (S := S1x1024) _ _ hz2, View.ld_unit_lit' (S := S512x512) _ _ hz2, View.ld_unit_lit' (S := S512x1024) _ _ hz2]
  simp only [View.ld_unit]
  sl_kernel_rfl

/-- The first grid point leaves the shift's cotangent so far. -/
theorem out_A_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = stepS x0 x1 x2 x3 x4 x5 zero := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_lit' (S := S1x1024) _ _ hz2, View.ld_unit_lit' (S := S512x512) _ _ hz2, View.ld_unit_lit' (S := S512x1024) _ _ hz2]
  simp only [View.ld_unit]
  sl_kernel_rfl

/-- The first grid point leaves the scale's cotangent so far. -/
theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = stepC x0 x1 x2 x3 x4 x5 x6 x10 zero := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_lit' (S := S1x1024) _ _ hz2, View.ld_unit_lit' (S := S512x512) _ _ hz2, View.ld_unit_lit' (S := S512x1024) _ _ hz2]
  simp only [View.ld_unit]
  sl_kernel_rfl

/-- The first grid point leaves the gains' cotangent so far. -/
theorem out_A_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = stepG x0 x1 x2 x3 x4 x5 x6 x9 x11 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_lit' (S := S1x1024) _ _ hz2, View.ld_unit_lit' (S := S512x512) _ _ hz2, View.ld_unit_lit' (S := S512x1024) _ _ hz2]
  simp only [View.ld_unit]
  sl_kernel_rfl

/-- A later grid point leaves the rows' cotangent. -/
theorem out_B_12 (hc0 : ¬cond0_0 i) (xo13 xo14 xo15 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15 = gxW x0 x1 x2 x3 x4 x5 x6 x7 x9 x10 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15)]
  unfold kernelRun0_B
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread,
    View.ld_unit_lit' (S := S1x1024) _ _ hz2, View.ld_unit_lit' (S := S512x512) _ _ hz2, View.ld_unit_lit' (S := S512x1024) _ _ hz2]
  simp only [View.ld_unit]
  sl_kernel_rfl

/-- A later grid point leaves the shift's cotangent so far. -/
theorem out_B_13 (hc0 : ¬cond0_0 i) (xo13 xo14 xo15 : Vec F S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15 = stepS x0 x1 x2 x3 x4 x5 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15)]
  unfold kernelRun0_B
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread,
    View.ld_unit_lit' (S := S1x1024) _ _ hz2, View.ld_unit_lit' (S := S512x512) _ _ hz2, View.ld_unit_lit' (S := S512x1024) _ _ hz2]
  simp only [View.ld_unit]
  sl_kernel_rfl

/-- A later grid point leaves the scale's cotangent so far. -/
theorem out_B_14 (hc0 : ¬cond0_0 i) (xo13 xo14 xo15 : Vec F S1x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15 = stepC x0 x1 x2 x3 x4 x5 x6 x10 xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15)]
  unfold kernelRun0_B
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread,
    View.ld_unit_lit' (S := S1x1024) _ _ hz2, View.ld_unit_lit' (S := S512x512) _ _ hz2, View.ld_unit_lit' (S := S512x1024) _ _ hz2]
  simp only [View.ld_unit]
  sl_kernel_rfl

/-- A later grid point leaves the gains' cotangent so far. -/
theorem out_B_15 (hc0 : ¬cond0_0 i) (xo13 xo14 xo15 : Vec F S1x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15 = stepG x0 x1 x2 x3 x4 x5 x6 x9 xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 xo14 xo15)]
  unfold kernelRun0_B
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, harg15.read_unread, harg16.read_unread,
    View.ld_unit_lit' (S := S1x1024) _ _ hz2, View.ld_unit_lit' (S := S512x512) _ _ hz2, View.ld_unit_lit' (S := S512x1024) _ _ hz2]
  simp only [View.ld_unit]
  sl_kernel_rfl

end Cert.InKernelIdeal.Value

end
-- ==== Proof.InAcc.lean ====
/- What the results' buffers hold after each grid point: a block of the point, and three running sums. -/
module

public import proofs.«01_k».proof.Proof.InCases

@[expose] public section

noncomputable section

open Idealize.ShloMosaic Idealize.ShloMosaic.TcCoe Idealize.SL.Sem

namespace Cert.InKernelIdeal.Value

open Cert.InKernelIdeal Cert.InKernelIdeal.Gen Cert.InKernelIdeal.Block

variable {F : FTy → Type} [FloatOps F]
variable (m : (ℓ : Loc nD τ sig) → Buf (Elt F) ℓ)

/-- The shift's cotangent after point `n`. -/
def sumS (c : Dev nD) : (n : ℕ) → n < cfg0.N → FVec F S1x1024 .f32
  | 0, h => stepS (iblk m c 0 ⟨0, h⟩) (iblk m c 1 ⟨0, h⟩) (iblk m c 2 ⟨0, h⟩) (iblk m c 3 ⟨0, h⟩) (iblk m c 4 ⟨0, h⟩) (iblk m c 5 ⟨0, h⟩) zero
  | n + 1, h => stepS (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (sumS c n (Nat.lt_of_succ_lt h))

/-- The scale's cotangent after point `n`. -/
def sumC (c : Dev nD) : (n : ℕ) → n < cfg0.N → FVec F S1x1024 .f32
  | 0, h => stepC (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 10 ⟨0, h⟩) zero
  | n + 1, h => stepC (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 10 ⟨n + 1, h⟩)
      (sumC c n (Nat.lt_of_succ_lt h))

/-- The gains' cotangent after point `n`. -/
def sumG (c : Dev nD) : (n : ℕ) → n < cfg0.N → FVec F S1x1024 .f32
  | 0, h => stepG (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 9 ⟨0, h⟩) (iblk m c 11 ⟨0, h⟩)
  | n + 1, h => stepG (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 9 ⟨n + 1, h⟩)
      (sumG c n (Nat.lt_of_succ_lt h))

/-- After every point the first result's buffer holds the point's cotangent of the rows. -/
theorem outs12 (c : Dev nD) (t : Fin cfg0.N) : (outsAt0 m c t.val t.isLt).1
    = gxW (iblk m c 0 t) (iblk m c 1 t) (iblk m c 2 t) (iblk m c 3 t) (iblk m c 4 t) (iblk m c 5 t) (iblk m c 6 t) (iblk m c 7 t) (iblk m c 9 t) (iblk m c 10 t) := by
  by_cases h0 : t.val % 8 = 0
  · rw [outsAt0_A m c t h0, out_A_12]
  · rw [outsAt0_B m c t h0, out_B_12]

/-- After point `n` the next result's buffer holds the shift's cotangent so far. -/
theorem outs13 (c : Dev nD) : ∀ (n : ℕ) (h : n < cfg0.N), (outsAt0 m c n h).2.1 = sumS m c n h
  | 0, h => by
    rw [outsAt0_A m c ⟨0, h⟩ rfl, out_A_13]
    rfl
  | n + 1, h => by
    have hN : cfg0.N = 8 := N_0
    rw [outsAt0_B m c ⟨n + 1, h⟩ (by dsimp only; omega), out_B_13]
    exact congrArg (stepS _ _ _ _ _ _) (outs13 c n _)

/-- After point `n` the next result's buffer holds the scale's cotangent so far. -/
theorem outs14 (c : Dev nD) : ∀ (n : ℕ) (h : n < cfg0.N), (outsAt0 m c n h).2.2.1 = sumC m c n h
  | 0, h => by
    rw [outsAt0_A m c ⟨0, h⟩ rfl, out_A_14]
    rfl
  | n + 1, h => by
    have hN : cfg0.N = 8 := N_0
    rw [outsAt0_B m c ⟨n + 1, h⟩ (by dsimp only; omega), out_B_14]
    exact congrArg (stepC _ _ _ _ _ _ _ _) (outs14 c n _)

/-- After point `n` the next result's buffer holds the gains' cotangent so far. -/
theorem outs15 (c : Dev nD) : ∀ (n : ℕ) (h : n < cfg0.N), (outsAt0 m c n h).2.2.2 = sumG m c n h
  | 0, h => by
    rw [outsAt0_A m c ⟨0, h⟩ rfl, out_A_15]
    rfl
  | n + 1, h => by
    have hN : cfg0.N = 8 := N_0
    rw [outsAt0_B m c ⟨n + 1, h⟩ (by dsimp only; omega), out_B_15]
    exact congrArg (stepG _ _ _ _ _ _ _ _) (outs15 c n _)

end Cert.InKernelIdeal.Value

end
-- ==== Proof.Tiles.lean ====
/- Sums over 4096 rows taken eight tiles of 512 rows at a time, and a constant factor taken out of a sum, over the extended
   reals. -/
module

public import Idealize.ShloMosaic.Lib.Pointwise

@[expose] public section

noncomputable section

namespace Cert.Tiles

open Idealize.ShloMosaic

/-- Row `p` of tile `t` among all the rows. -/
def row (t : Fin 8) (p : Fin 512) : Fin 4096 := ⟨512 * t.val + p.val, by omega⟩

/-- The sum over the tiles of the sums over a tile's rows is the sum over the rows. -/
theorem sum_rows (f : Fin 4096 → EReal) : ∑ t, ∑ p, f (row t p) = ∑ r, f r := by
  rw [← Fintype.sum_prod_type' (fun t p => f (row t p))]
  refine Finset.sum_bij' (fun i _ => row i.1 i.2) (fun r _ => (⟨r.val / 512, by omega⟩, ⟨r.val % 512, by omega⟩)) (fun _ _ => Finset.mem_univ _)
    (fun _ _ => Finset.mem_univ _) (fun i _ => ?_) (fun r _ => ?_) (fun _ _ => rfl)
  · obtain ⟨t, p⟩ := i
    refine Prod.ext (Fin.ext ?_) (Fin.ext ?_)
    · show (512 * t.val + p.val) / 512 = t.val; omega
    · show (512 * t.val + p.val) % 512 = p.val; omega
  · exact Fin.ext (by show 512 * (r.val / 512) + r.val % 512 = r.val; omega)

/-- A running sum from `z` that takes one term a point ends at `z` plus the sum over the eight points. -/
theorem sum_points {N : ℕ} (hN : N = 8) (z : EReal) (f : Fin 8 → EReal) (S : (n : ℕ) → n < N → EReal)
    (hz : ∀ h, S 0 h = z + f ⟨0, by omega⟩) (hs : ∀ n (h : n + 1 < N), S (n + 1) h = S n (Nat.lt_of_succ_lt h) + f ⟨n + 1, by omega⟩)
    (h : 7 < N) : S 7 h = z + ∑ t, f t := by
  have key : ∀ n (h : n < N), S n h = z + ∑ i ∈ Finset.range (n + 1), if h : i < 8 then f ⟨i, h⟩ else 0 := by
    intro n
    induction n with
    | zero =>
      intro h
      rw [hz, Finset.sum_range_succ, Finset.sum_range_zero, zero_add, dif_pos (by omega)]
    | succ n ih =>
      intro h
      rw [hs, ih, Finset.sum_range_succ _ (n + 1), dif_pos (by omega), add_assoc]
  rw [key 7 h, Finset.sum_range]
  exact congrArg (z + ·) (Finset.sum_congr rfl fun i _ => dif_pos i.isLt)

/-- A finite nonnegative factor of every term is a factor of the sum. -/
theorem mul_sum {ι : Type} [Fintype ι] (c : EReal) (h0 : 0 ≤ c) (ht : c ≠ ⊤) (f : ι → EReal) : ∑ i, c * f i = c * ∑ i, f i := by
  classical
  have key : ∀ s : Finset ι, ∑ i ∈ s, c * f i = c * ∑ i ∈ s, f i := fun s => by
    induction s using Finset.induction_on with
    | empty => simp
    | insert i s hi ih => rw [Finset.sum_insert hi, Finset.sum_insert hi, ih, EReal.left_distrib_of_nonneg_of_ne_top h0 ht]
  exact key Finset.univ

end Cert.Tiles

end
-- ==== Proof.InInput.lean ====
/- What a grid point's input blocks of the input projection's gradient hold, entry by entry, of the program's arguments. -/
module

public import proofs.«01_k».proof.Proof.Gen.InKernelIdeal.Value
public import proofs.«01_k».proof.Proof.Tiles
public import proofs.«01_k».proof.Proof.InSpec
public import Idealize.ShloMosaic.Lib.StableHlo.ReadAt

@[expose] public section

noncomputable section

open Idealize.ShloMosaic Idealize.ShloMosaic.TcCoe Idealize.SL.Sem

namespace Cert.InKernelIdeal.Value

open Cert.InKernelIdeal Cert.InKernelIdeal.Gen

variable (m : (ℓ : Loc nD τ sig) → Buf (Elt Ideal) ℓ)

theorem lt_N (t : Fin cfg0.N) : t.val < 8 := lt_of_lt_of_eq t.isLt N_0

/-- Point `t` as a tile. -/
abbrev tile (t : Fin cfg0.N) : Fin 8 := ⟨t.val, lt_N t⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 := by decide +kernel
theorem index5 : ∀ t : Fin cfg0.N, win0_5.index t 0 = 0 ∧ win0_5.index t 1 = 0 ∧ win0_5.index t 2 = 0 := by decide +kernel

/-- Entry `(p, l)` of point `t`'s block of the first group: row `p` of the tile, column `l`. -/
theorem iblk0_apply (c : Dev nD) (t : Fin cfg0.N) (p : Fin 512) (l : Fin 1536) :
    (iblk m c 0 t : Vec Ideal S512x1536 .bf16) (ix2 p l) = m ((c : Thread nD τ).loc main_arg0) (ix2 (n0 := 4096) (n1 := 1536) (Tiles.row (tile t) p) l) := by
  rw [← V_main_arg0 m c]
  unfold iblk
  rw [View.read_apply]
  show V m c main_arg0 _ = V m c main_arg0 _
  congr 1
  funext a
  apply Fin.ext
  match a with
  | ⟨0, _⟩ => show win0_0.index t 0 * 512 + 1 * p.val = 512 * t.val + p.val; rw [(index0 t).1]; omega
  | ⟨1, _⟩ => show win0_0.index t 1 * 1536 + 1 * l.val = l.val; rw [(index0 t).2]; omega

/-- Entry `(p, l)` of point `t`'s block of the second group: row `p` of the tile, column `l`. -/
theorem iblk1_apply (c : Dev nD) (t : Fin cfg0.N) (p : Fin 512) (l : Fin 512) :
    (iblk m c 1 t : Vec Ideal S512x512 .bf16) (ix2 p l) = m ((c : Thread nD τ).loc main_arg1) (ix2 (n0 := 4096) (n1 := 512) (Tiles.row (tile t) p) l) := by
  rw [← V_main_arg1 m c]
  unfold iblk
  rw [View.read_apply]
  show V m c main_arg1 _ = V m c main_arg1 _
  congr 1
  funext a
  apply Fin.ext
  match a with
  | ⟨0, _⟩ => show win0_1.index t 0 * 512 + 1 * p.val = 512 * t.val + p.val; rw [(index1 t).1]; omega
  | ⟨1, _⟩ => show win0_1.index t 1 * 512 + 1 * l.val = l.val; rw [(index1 t).2]; omega

/-- Entry `(p, l)` of point `t`'s block of the third group: row `p` of the tile, column `l`. -/
theorem iblk2_apply (c : Dev nD) (t : Fin cfg0.N) (p : Fin 512) (l : Fin 512) :
    (iblk m c 2 t : Vec Ideal S512x512 .bf16) (ix2 p l) = m ((c : Thread nD τ).loc main_arg2) (ix2 (n0 := 4096) (n1 := 512) (Tiles.row (tile t) p) l) := by
  rw [← V_main_arg2 m c]
  unfold iblk
  rw [View.read_apply]
  show V m c main_arg2 _ = V m c main_arg2 _
  congr 1
  funext a
  apply Fin.ext
  match a with
  | ⟨0, _⟩ => show win0_2.index t 0 * 512 + 1 * p.val = 512 * t.val + p.val; rw [(index2 t).1]; omega
  | ⟨1, _⟩ => show win0_2.index t 1 * 512 + 1 * l.val = l.val; rw [(index2 t).2]; omega

/-- Entry `(p, l)` of point `t`'s block of the fourth group: row `p` of the tile, column `l`. -/
theorem iblk3_apply (c : Dev nD) (t : Fin cfg0.N) (p : Fin 512) (l : Fin 512) :
    (iblk m c 3 t : Vec Ideal S512x512 .bf16) (ix2 p l) = m ((c : Thread nD τ).loc main_arg3) (ix2 (n0 := 4096) (n1 := 512) (Tiles.row (tile t) p) l) := by
  rw [← V_main_arg3 m c]
  unfold iblk
  rw [View.read_apply]
  show V m c main_arg3 _ = V m c main_arg3 _
  congr 1
  funext a
  apply Fin.ext
  match a with
  | ⟨0, _⟩ => show win0_3.index t 0 * 512 + 1 * p.val = 512 * t.val + p.val; rw [(index3 t).1]; omega
  | ⟨1, _⟩ => show win0_3.index t 1 * 512 + 1 * l.val = l.val; rw [(index3 t).2]; omega

/-- Entry `(p, l)` of point `t`'s block of the fifth group: row `p` of the tile, column `l`. -/
theorem iblk4_apply (c : Dev nD) (t : Fin cfg0.N) (p : Fin 512) (l : Fin 512) :
    (iblk m c 4 t : Vec Ideal S512x512 .bf16) (ix2 p l) = m ((c : Thread nD τ).loc main_arg4) (ix2 (n0 := 4096) (n1 := 512) (Tiles.row (tile t) p) l) := by
  rw [← V_main_arg4 m c]
  unfold iblk
  rw [View.read_apply]
  show V m c main_arg4 _ = V m c main_arg4 _
  congr 1
  funext a
  apply Fin.ext
  match a with
  | ⟨0, _⟩ => show win0_4.index t 0 * 512 + 1 * p.val = 512 * t.val + p.val; rw [(index4 t).1]; omega
  | ⟨1, _⟩ => show win0_4.index t 1 * 512 + 1 * l.val = l.val; rw [(index4 t).2]; omega

/-- Entry `(p, l)` of point `t`'s block of the rows: row `p` of the tile, column `l`. -/
theorem iblk6_apply (c : Dev nD) (t : Fin cfg0.N) (p : Fin 512) (l : Fin 1024) :
    (iblk m c 6 t : Vec Ideal S512x1024 .f32) (ix2 p l) = m ((c : Thread nD τ).loc main_arg6) (ix2 (n0 := 4096) (n1 := 1024) (Tiles.row (tile t) p) l) := by
  rw [← V_main_arg6 m c]
  unfold iblk
  rw [View.read_apply]
  show V m c main_arg6 _ = V m c main_arg6 _
  congr 1
  funext a
  apply Fin.ext
  match a with
  | ⟨0, _⟩ => show win0_6.index t 0 * 512 + 1 * p.val = 512 * t.val + p.val; rw [(index6 t).1]; omega
  | ⟨1, _⟩ => show win0_6.index t 1 * 1024 + 1 * l.val = l.val; rw [(index6 t).2]; omega

/-- Entry `(p, l)` of point `t`'s block of the cotangent past the rows: row `p` of the tile, column `l`. -/
theorem iblk7_apply (c : Dev nD) (t : Fin cfg0.N) (p : Fin 512) (l : Fin 1024) :
    (iblk m c 7 t : Vec Ideal S512x1024 .f32) (ix2 p l) = m ((c : Thread nD τ).loc main_arg7) (ix2 (n0 := 4096) (n1 := 1024) (Tiles.row (tile t) p) l) := by
  rw [← V_main_arg7 m c]
  unfold iblk
  rw [View.read_apply]
  show V m c main_arg7 _ = V m c main_arg7 _
  congr 1
  funext a
  apply Fin.ext
  match a with
  | ⟨0, _⟩ => show win0_7.index t 0 * 512 + 1 * p.val = 512 * t.val + p.val; rw [(index7 t).1]; omega
  | ⟨1, _⟩ => show win0_7.index t 1 * 1024 + 1 * l.val = l.val; rw [(index7 t).2]; omega

/-- The scale has one block, itself. -/
theorem iblk9_apply (c : Dev nD) (t : Fin cfg0.N) (z : Fin 1) (l : Fin 1024) :
    (iblk m c 9 t : Vec Ideal S1x1024 .f32) (ix2 z l) = m ((c : Thread nD τ).loc main_arg9) (ix2 (n0 := 1) (n1 := 1024) z l) := by
  rw [← V_main_arg9 m c]
  unfold iblk
  rw [View.read_apply]
  show V m c main_arg9 _ = V m c main_arg9 _
  congr 1
  funext a
  apply Fin.ext
  match a with
  | ⟨0, _⟩ => show win0_9.index t 0 * 1 + 1 * z.val = z.val; rw [(index9 t).1]; omega
  | ⟨1, _⟩ => show win0_9.index t 1 * 1024 + 1 * l.val = l.val; rw [(index9 t).2]; omega

/-- The gains has one block, itself. -/
theorem iblk10_apply (c : Dev nD) (t : Fin cfg0.N) (z : Fin 1) (l : Fin 1024) :
    (iblk m c 10 t : Vec Ideal S1x1024 .f32) (ix2 z l) = m ((c : Thread nD τ).loc main_arg10) (ix2 (n0 := 1) (n1 := 1024) z l) := by
  rw [← V_main_arg10 m c]
  unfold iblk
  rw [View.read_apply]
  show V m c main_arg10 _ = V m c main_arg10 _
  congr 1
  funext a
  apply Fin.ext
  match a with
  | ⟨0, _⟩ => show win0_10.index t 0 * 1 + 1 * z.val = z.val; rw [(index10 t).1]; omega
  | ⟨1, _⟩ => show win0_10.index t 1 * 1024 + 1 * l.val = l.val; rw [(index10 t).2]; omega

/-- The gains' earlier cotangent has one block, itself. -/
theorem iblk11_apply (c : Dev nD) (t : Fin cfg0.N) (z : Fin 1) (l : Fin 1024) :
    (iblk m c 11 t : Vec Ideal S1x1024 .f32) (ix2 z l) = m ((c : Thread nD τ).loc main_arg11) (ix2 (n0 := 1) (n1 := 1024) z l) := by
  rw [← V_main_arg11 m c]
  unfold iblk
  rw [View.read_apply]
  show V m c main_arg11 _ = V m c main_arg11 _
  congr 1
  funext a
  apply Fin.ext
  match a with
  | ⟨0, _⟩ => show win0_11.index t 0 * 1 + 1 * z.val = z.val; rw [(index11 t).1]; omega
  | ⟨1, _⟩ => show win0_11.index t 1 * 1024 + 1 * l.val = l.val; rw [(index11 t).2]; omega

/-- The host changes the weight's format, which over the extended reals changes nothing, and cuts its columns into four blocks. -/
theorem V_weight (c : Dev nD) (j : Fin 4) (n : Fin 1024) (l : Fin 896) :
    (V m c main_v2 : Vec Ideal S4x1024x896 .bf16) (ix3 j n l) = m ((c : Thread nD τ).loc main_arg5) (ix2 (n0 := 1024) (n1 := 3584) n (InSpec.colW j l)) := by
  unfold V
  after_reads_at
  exact congrArg (fun k : Fin 3584 => m ((c : Thread nD τ).loc main_arg5) (ix2 (n0 := 1024) (n1 := 3584) n k))
    (Fin.ext (by show j.val * 896 + l.val = 896 * j.val + l.val; omega))

/-- The weight's block is the weight. -/
theorem iblk5_apply (c : Dev nD) (t : Fin cfg0.N) (j : Fin 4) (n : Fin 1024) (l : Fin 896) :
    (iblk m c 5 t : Vec Ideal S4x1024x896 .bf16) (ix3 j n l) = m ((c : Thread nD τ).loc main_arg5) (ix2 (n0 := 1024) (n1 := 3584) n (InSpec.colW j l)) := by
  rw [← V_weight m c j n l]
  unfold iblk
  rw [View.read_apply]
  show V m c main_v2 _ = V m c main_v2 _
  congr 1
  funext a
  apply Fin.ext
  match a with
  | ⟨0, _⟩ => show win0_5.index t 0 * 4 + 1 * j.val = j.val; rw [(index5 t).1]; omega
  | ⟨1, _⟩ => show win0_5.index t 1 * 1024 + 1 * n.val = n.val; rw [(index5 t).2.1]; omega
  | ⟨2, _⟩ => show win0_5.index t 2 * 896 + 1 * l.val = l.val; rw [(index5 t).2.2]; omega

end Cert.InKernelIdeal.Value

end
-- ==== Proof.InRead.lean ====
/- A block's values of the input projection's gradient over the extended reals, read at an entry: each is its namesake of
   `InSpec`. -/
module

public import proofs.«01_k».proof.Proof.InSpec
public import proofs.«01_k».proof.Proof.InBlock

@[expose] public section

noncomputable section

namespace Cert.InKernelIdeal.Block

open Cert.InKernelIdeal Cert.InKernelIdeal.Gen Idealize.ShloMosaic

/-- A block as a function of row and column. -/
abbrev fn {n0 n1 : ℕ} (x : (⟨2, ![n0, n1]⟩ : Shape).Idx → EReal) : Fin n0 → Fin n1 → EReal := fun p l => x (ix2 p l)

/-- The weight's four blocks of 896 columns as one function of row and column. -/
abbrev fnW (w : S4x1024x896.Idx → EReal) : Fin 1024 → Fin 3584 → EReal := fun n k =>
  w (ix3 (n0 := 4) (n1 := 1024) (n2 := 896) ⟨k.val / 896, Nat.div_lt_of_lt_mul k.isLt⟩ n ⟨k.val % 896, Nat.mod_lt _ (by decide)⟩)

/-- Its entry at a column of a block. -/
theorem fnW_eq (w : S4x1024x896.Idx → EReal) (n : Fin 1024) (k : Fin 3584) (j : Fin 4) (l : Fin 896) (h : k.val = 896 * j.val + l.val) :
    fnW w n k = w (ix3 j n l) := by
  have hl := l.isLt
  have e0 : (⟨k.val / 896, Nat.div_lt_of_lt_mul k.isLt⟩ : Fin 4) = j := Fin.ext (by show k.val / 896 = j.val; omega)
  have e1 : (⟨k.val % 896, Nat.mod_lt _ (by decide)⟩ : Fin 896) = l := Fin.ext (by show k.val % 896 = l.val; omega)
  show w (ix3 _ n _) = _
  rw [e0, e1]

/-! ## The product -/

section

variable (z : FVec Ideal S512x1536 .bf16) (q k v b : FVec Ideal S512x512 .bf16) (w : FVec Ideal S4x1024x896 .bf16) (r : Fin 512) (n : Fin 1024)

theorem prodZ0_apply : prodZ0 z w (ix2 r n) = ∑ l : Fin 896, z (ix2 r ⟨0 + l.val, by omega⟩) * fnW w n (InSpec.colZ ⟨0 + l.val, by omega⟩) := by
  have e : ∀ l : Fin 896, fnW w n (InSpec.colZ ⟨0 + l.val, by omega⟩) = w (ix3 0 n ⟨0 + l.val, by omega⟩) := fun l =>
    fnW_eq w n _ _ _ (by have := l.isLt; show _ = 896 * 0 + (0 + l.val); simp only [InSpec.colZ, InSpec.colQ, Fin.isValue, Fin.val_zero, Fin.val_one, Fin.val_two]; omega)
  simp only [e]
  pointwise [prodZ0]
theorem prodZ1_apply : prodZ1 z w (ix2 r n) = ∑ l : Fin 640, z (ix2 r ⟨896 + l.val, by omega⟩) * fnW w n (InSpec.colZ ⟨896 + l.val, by omega⟩) := by
  have e : ∀ l : Fin 640, fnW w n (InSpec.colZ ⟨896 + l.val, by omega⟩) = w (ix3 1 n ⟨0 + l.val, by omega⟩) := fun l =>
    fnW_eq w n _ _ _ (by have := l.isLt; show _ = 896 * 1 + (0 + l.val); simp only [InSpec.colZ, InSpec.colQ, Fin.isValue, Fin.val_zero, Fin.val_one, Fin.val_two]; omega)
  simp only [e]
  pointwise [prodZ1]
theorem prodQ0_apply : prodQ0 q w (ix2 r n) = ∑ l : Fin 256, q (ix2 r ⟨0 + l.val, by omega⟩) * fnW w n (InSpec.colQ 0 ⟨0 + l.val, by omega⟩) := by
  have e : ∀ l : Fin 256, fnW w n (InSpec.colQ 0 ⟨0 + l.val, by omega⟩) = w (ix3 1 n ⟨640 + l.val, by omega⟩) := fun l =>
    fnW_eq w n _ _ _ (by have := l.isLt; show _ = 896 * 1 + (640 + l.val); simp only [InSpec.colZ, InSpec.colQ, Fin.isValue, Fin.val_zero, Fin.val_one, Fin.val_two]; omega)
  simp only [e]
  pointwise [prodQ0]
theorem prodQ1_apply : prodQ1 q w (ix2 r n) = ∑ l : Fin 256, q (ix2 r ⟨256 + l.val, by omega⟩) * fnW w n (InSpec.colQ 0 ⟨256 + l.val, by omega⟩) := by
  have e : ∀ l : Fin 256, fnW w n (InSpec.colQ 0 ⟨256 + l.val, by omega⟩) = w (ix3 2 n ⟨0 + l.val, by omega⟩) := fun l =>
    fnW_eq w n _ _ _ (by have := l.isLt; show _ = 896 * 2 + (0 + l.val); simp only [InSpec.colZ, InSpec.colQ, Fin.isValue, Fin.val_zero, Fin.val_one, Fin.val_two]; omega)
  simp only [e]
  pointwise [prodQ1]
theorem prodK_apply : prodK k w (ix2 r n) = ∑ l : Fin 512, k (ix2 r ⟨0 + l.val, by omega⟩) * fnW w n (InSpec.colQ 1 ⟨0 + l.val, by omega⟩) := by
  have e : ∀ l : Fin 512, fnW w n (InSpec.colQ 1 ⟨0 + l.val, by omega⟩) = w (ix3 2 n ⟨256 + l.val, by omega⟩) := fun l =>
    fnW_eq w n _ _ _ (by have := l.isLt; show _ = 896 * 2 + (256 + l.val); simp only [InSpec.colZ, InSpec.colQ, Fin.isValue, Fin.val_zero, Fin.val_one, Fin.val_two]; omega)
  simp only [e]
  pointwise [prodK]
theorem prodV0_apply : prodV0 v w (ix2 r n) = ∑ l : Fin 128, v (ix2 r ⟨0 + l.val, by omega⟩) * fnW w n (InSpec.colQ 2 ⟨0 + l.val, by omega⟩) := by
  have e : ∀ l : Fin 128, fnW w n (InSpec.colQ 2 ⟨0 + l.val, by omega⟩) = w (ix3 2 n ⟨768 + l.val, by omega⟩) := fun l =>
    fnW_eq w n _ _ _ (by have := l.isLt; show _ = 896 * 2 + (768 + l.val); simp only [InSpec.colZ, InSpec.colQ, Fin.isValue, Fin.val_zero, Fin.val_one, Fin.val_two]; omega)
  simp only [e]
  pointwise [prodV0]
theorem prodV1_apply : prodV1 v w (ix2 r n) = ∑ l : Fin 384, v (ix2 r ⟨128 + l.val, by omega⟩) * fnW w n (InSpec.colQ 2 ⟨128 + l.val, by omega⟩) := by
  have e : ∀ l : Fin 384, fnW w n (InSpec.colQ 2 ⟨128 + l.val, by omega⟩) = w (ix3 3 n ⟨0 + l.val, by omega⟩) := fun l =>
    fnW_eq w n _ _ _ (by have := l.isLt; show _ = 896 * 3 + (0 + l.val); simp only [InSpec.colZ, InSpec.colQ, Fin.isValue, Fin.val_zero, Fin.val_one, Fin.val_two]; omega)
  simp only [e]
  pointwise [prodV1]
theorem prodB_apply : prodB b w (ix2 r n) = ∑ l : Fin 512, b (ix2 r ⟨0 + l.val, by omega⟩) * fnW w n (InSpec.colQ 3 ⟨0 + l.val, by omega⟩) := by
  have e : ∀ l : Fin 512, fnW w n (InSpec.colQ 3 ⟨0 + l.val, by omega⟩) = w (ix3 3 n ⟨384 + l.val, by omega⟩) := fun l =>
    fnW_eq w n _ _ _ (by have := l.isLt; show _ = 896 * 3 + (384 + l.val); simp only [InSpec.colZ, InSpec.colQ, Fin.isValue, Fin.val_zero, Fin.val_one, Fin.val_two]; omega)
  simp only [e]
  pointwise [prodB]

/-- A sum over a group's columns, its pieces one after the other. -/
theorem sum_pieces {A B N : ℕ} (h : A + B = N) (f : Fin N → EReal) :
    (∑ l : Fin A, f ⟨0 + l.val, by omega⟩) + (∑ l : Fin B, f ⟨A + l.val, by omega⟩) = ∑ l, f l := by
  subst h
  refine Eq.symm ((Fin.sum_univ_add f).trans (congrArg₂ (· + ·) ?_ rfl))
  exact Finset.sum_congr rfl fun l _ => congrArg f (Fin.ext (by show l.val = 0 + l.val; omega))

theorem sum_piece {N : ℕ} (f : Fin N → EReal) : (∑ l : Fin N, f ⟨0 + l.val, by omega⟩) = ∑ l, f l :=
  Finset.sum_congr rfl fun l _ => congrArg f (Fin.ext (by show 0 + l.val = l.val; omega))

theorem dh_apply : dh z q k v b w (ix2 r n) = InSpec.dh (fn z) (fn q) (fn k) (fn v) (fn b) (fnW w) r n := by
  show prodZ0 z w (ix2 r n) + prodZ1 z w (ix2 r n) + prodQ0 q w (ix2 r n) + prodQ1 q w (ix2 r n) + prodK k w (ix2 r n) + prodV0 v w (ix2 r n)
    + prodV1 v w (ix2 r n) + prodB b w (ix2 r n) = _
  rw [prodZ0_apply, prodZ1_apply, prodQ0_apply, prodQ1_apply, prodK_apply, prodV0_apply, prodV1_apply, prodB_apply]
  rw [sum_pieces (A := 896) (B := 640) (N := 1536) rfl fun l => z (ix2 r l) * fnW w n (InSpec.colZ l),
    sum_piece fun l => k (ix2 r l) * fnW w n (InSpec.colQ 1 l), sum_piece fun l => b (ix2 r l) * fnW w n (InSpec.colQ 3 l),
    add_assoc (∑ l, z (ix2 r l) * fnW w n (InSpec.colZ l)), sum_pieces (A := 256) (B := 256) (N := 512) rfl fun l => q (ix2 r l) * fnW w n (InSpec.colQ 0 l),
    add_assoc _ (∑ l : Fin 128, _), sum_pieces (A := 128) (B := 384) (N := 512) rfl fun l => v (ix2 r l) * fnW w n (InSpec.colQ 2 l)]
  rfl

end

section

variable (d x y : FVec Ideal S512x1024 .f32) (s g : FVec Ideal S1x1024 .f32)

theorem ms_apply (r : Fin 512) (z : Fin 1) : ms x (ix2 r z) = InSpec.ms (fn x) r := by
  pointwise [ms, InSpec.ms]
theorem rs_apply (r : Fin 512) (z : Fin 1) : rs x (ix2 r z) = InSpec.rs (fn x) r := by
  pointwise [rs, ms_apply, InSpec.rs]
theorem rsD_apply (r : Fin 512) (z : Fin 1) : rsD x (ix2 r z) = InSpec.rsD (fn x) r := by
  pointwise [rsD, rs_apply, ms_apply, InSpec.rsD]
theorem nrm_apply (r : Fin 512) (n : Fin 1024) : nrm x (ix2 r n) = InSpec.nrm (fn x) r n := by
  pointwise [nrm, rs_apply, InSpec.nrm]
theorem nrmG_apply (r : Fin 512) (n : Fin 1024) : nrmG x g (ix2 r n) = InSpec.nrmG (fn x) (fn g 0) r n := by
  pointwise [nrmG, nrm_apply, InSpec.nrmG]
theorem total_apply (z : Fin 1) (n : Fin 1024) : total d (ix2 z n) = ∑ r, fn d r n := by
  pointwise [total]
theorem dscale_apply (z : Fin 1) (n : Fin 1024) : dscale d x g (ix2 z n) = InSpec.dscale (fn d) (fn x) (fn g 0) n := by
  pointwise [dscale, total_apply, nrmG_apply, InSpec.dscale]
theorem dng_apply (r : Fin 512) (n : Fin 1024) : dng d s (ix2 r n) = InSpec.dng (fn d) (fn s 0) r n := by
  pointwise [dng, oneS, InSpec.dng]
theorem dgain_apply (z : Fin 1) (n : Fin 1024) : dgain d x s (ix2 z n) = InSpec.dgain (fn d) (fn x) (fn s 0) n := by
  pointwise [dgain, total_apply, nrm_apply, dng_apply, InSpec.dgain]
theorem dn_apply (r : Fin 512) (n : Fin 1024) : dn d s g (ix2 r n) = InSpec.dn (fn d) (fn s 0) (fn g 0) r n := by
  pointwise [dn, dng_apply, InSpec.dn]
theorem drs_apply (r : Fin 512) (z : Fin 1) : drs d x s g (ix2 r z) = InSpec.drs (fn d) (fn x) (fn s 0) (fn g 0) r := by
  pointwise [drs, dn_apply, InSpec.drs]
theorem dsq_apply (r : Fin 512) (n : Fin 1024) : dsq d x s g (ix2 r n) = InSpec.dsq (fn d) (fn x) (fn s 0) (fn g 0) r := by
  pointwise [dsq, drs_apply, rsD_apply, InSpec.dsq, Fin.sum_univ_one]
theorem gx_apply (r : Fin 512) (n : Fin 1024) : gx d x y s g (ix2 r n) = InSpec.gx (fn d) (fn x) (fn y) (fn s 0) (fn g 0) r n := by
  pointwise [gx, dn_apply, rs_apply, dsq_apply, InSpec.gx]

end

/-! ## The block of 512 rows -/

variable (x0 : FVec Ideal S512x1536 .bf16) (x1 x2 x3 x4 : FVec Ideal S512x512 .bf16) (x5 : FVec Ideal S4x1024x896 .bf16) (x6 x7 : FVec Ideal S512x1024 .f32)
  (x9 x10 : FVec Ideal S1x1024 .f32)

/-- The cotangent of the projection's input, of the whole block. -/
abbrev dhS : Fin 512 → Fin 1024 → EReal := InSpec.dh (fn x0) (fn x1) (fn x2) (fn x3) (fn x4) (fnW x5)

theorem dh_fn : fn (dh x0 x1 x2 x3 x4 x5) = dhS x0 x1 x2 x3 x4 x5 := funext fun r => funext fun n => dh_apply x0 x1 x2 x3 x4 x5 r n

theorem gxW_apply (p : Fin 512) (n : Fin 1024) : gxW x0 x1 x2 x3 x4 x5 x6 x7 x9 x10 (ix2 p n)
    = InSpec.gx (dhS x0 x1 x2 x3 x4 x5) (fn x6) (fn x7) (fn x9 0) (fn x10 0) p n := by
  unfold gxW
  rw [gx_apply, dh_fn]

theorem step_apply (z p : FVec Ideal S1x1024 .f32) (u : Fin 1) (n : Fin 1024) : step z p (ix2 u n) = z (ix2 u n) + p (ix2 u n) := by
  unfold step
  rw [shapeCast_self]
  rfl

theorem stepS_apply (z : FVec Ideal S1x1024 .f32) (u : Fin 1) (n : Fin 1024) :
    stepS x0 x1 x2 x3 x4 x5 z (ix2 u n) = z (ix2 u n) + InSpec.dshift (dhS x0 x1 x2 x3 x4 x5) n := by
  unfold stepS InSpec.dshift
  rw [step_apply, total_apply, dh_fn]

theorem stepC_apply (z : FVec Ideal S1x1024 .f32) (u : Fin 1) (n : Fin 1024) :
    stepC x0 x1 x2 x3 x4 x5 x6 x10 z (ix2 u n) = z (ix2 u n) + InSpec.dscale (dhS x0 x1 x2 x3 x4 x5) (fn x6) (fn x10 0) n := by
  unfold stepC
  rw [step_apply, dscale_apply, dh_fn]

theorem stepG_apply (z : FVec Ideal S1x1024 .f32) (u : Fin 1) (n : Fin 1024) :
    stepG x0 x1 x2 x3 x4 x5 x6 x9 z (ix2 u n) = z (ix2 u n) + InSpec.dgain (dhS x0 x1 x2 x3 x4 x5) (fn x6) (fn x9 0) n := by
  unfold stepG
  rw [step_apply, dgain_apply, dh_fn]

end Cert.InKernelIdeal.Block

end
-- ==== Proof.InFinal.lean ====
/- The run of the input projection's gradient, read: the four result arrays entry by entry over the extended reals, and the
   arguments unchanged. -/
module

public import proofs.«01_k».proof.Proof.InAcc
public import proofs.«01_k».proof.Proof.InInput
public import proofs.«01_k».proof.Proof.InRead

@[expose] public section

noncomputable section

open Idealize.ShloMosaic Idealize.ShloMosaic.TcCoe Idealize.SL.Sem
open Idealize.ShloMosaic.Pipeline (Dat)

namespace Cert.InKernelIdeal.Value

open Cert.InKernelIdeal Cert.InKernelIdeal.Gen Cert.InKernelIdeal.Block

variable (m : (ℓ : Loc nD τ sig) → Buf (Elt Ideal) ℓ) (ρ : Dev nD → PrngReg) (c : Dev nD)

/-- The arguments as functions of row and column. -/
abbrev argZ : Fin 4096 → Fin 1536 → EReal := fun r k => m ((c : Thread nD τ).loc main_arg0) (ix2 (n0 := 4096) (n1 := 1536) r k)
abbrev argQ : Fin 4096 → Fin 512 → EReal := fun r k => m ((c : Thread nD τ).loc main_arg1) (ix2 (n0 := 4096) (n1 := 512) r k)
abbrev argK : Fin 4096 → Fin 512 → EReal := fun r k => m ((c : Thread nD τ).loc main_arg2) (ix2 (n0 := 4096) (n1 := 512) r k)
abbrev argV : Fin 4096 → Fin 512 → EReal := fun r k => m ((c : Thread nD τ).loc main_arg3) (ix2 (n0 := 4096) (n1 := 512) r k)
abbrev argB : Fin 4096 → Fin 512 → EReal := fun r k => m ((c : Thread nD τ).loc main_arg4) (ix2 (n0 := 4096) (n1 := 512) r k)
abbrev argW : Fin 1024 → Fin 3584 → EReal := fun r k => m ((c : Thread nD τ).loc main_arg5) (ix2 (n0 := 1024) (n1 := 3584) r k)
abbrev argX : Fin 4096 → Fin 1024 → EReal := fun r k => m ((c : Thread nD τ).loc main_arg6) (ix2 (n0 := 4096) (n1 := 1024) r k)
abbrev argY : Fin 4096 → Fin 1024 → EReal := fun r k => m ((c : Thread nD τ).loc main_arg7) (ix2 (n0 := 4096) (n1 := 1024) r k)
abbrev argS : Fin 1024 → EReal := fun n => m ((c : Thread nD τ).loc main_arg9) (ix2 (n0 := 1) (n1 := 1024) 0 n)
abbrev argG : Fin 1024 → EReal := fun n => m ((c : Thread nD τ).loc main_arg10) (ix2 (n0 := 1) (n1 := 1024) 0 n)
abbrev argP : Fin 1024 → EReal := fun n => m ((c : Thread nD τ).loc main_arg11) (ix2 (n0 := 1) (n1 := 1024) 0 n)

/-- The cotangent of the projection's input. -/
abbrev argD : Fin 4096 → Fin 1024 → EReal := InSpec.dh (argZ m c) (argQ m c) (argK m c) (argV m c) (argB m c) (argW m c)

section

variable (t : Fin cfg0.N)

theorem fn0 : fn (iblk m c 0 t : Vec Ideal S512x1536 .bf16) = fun p => argZ m c (Tiles.row (tile t) p) := funext fun p => funext fun l => iblk0_apply m c t p l
theorem fn1 : fn (iblk m c 1 t : Vec Ideal S512x512 .bf16) = fun p => argQ m c (Tiles.row (tile t) p) := funext fun p => funext fun l => iblk1_apply m c t p l
theorem fn2 : fn (iblk m c 2 t : Vec Ideal S512x512 .bf16) = fun p => argK m c (Tiles.row (tile t) p) := funext fun p => funext fun l => iblk2_apply m c t p l
theorem fn3 : fn (iblk m c 3 t : Vec Ideal S512x512 .bf16) = fun p => argV m c (Tiles.row (tile t) p) := funext fun p => funext fun l => iblk3_apply m c t p l
theorem fn4 : fn (iblk m c 4 t : Vec Ideal S512x512 .bf16) = fun p => argB m c (Tiles.row (tile t) p) := funext fun p => funext fun l => iblk4_apply m c t p l
theorem fn6 : fn (iblk m c 6 t : Vec Ideal S512x1024 .f32) = fun p => argX m c (Tiles.row (tile t) p) := funext fun p => funext fun l => iblk6_apply m c t p l
theorem fn7 : fn (iblk m c 7 t : Vec Ideal S512x1024 .f32) = fun p => argY m c (Tiles.row (tile t) p) := funext fun p => funext fun l => iblk7_apply m c t p l
theorem fn5 : fnW (iblk m c 5 t : Vec Ideal S4x1024x896 .bf16) = argW m c := funext fun n => funext fun k =>
  (iblk5_apply m c t _ n _).trans (congrArg (argW m c n) (Fin.ext (by show 896 * (k.val / 896) + k.val % 896 = k.val; omega)))
theorem fn9 : fn (iblk m c 9 t : Vec Ideal S1x1024 .f32) 0 = argS m c := funext fun l => iblk9_apply m c t 0 l
theorem fn10 : fn (iblk m c 10 t : Vec Ideal S1x1024 .f32) 0 = argG m c := funext fun l => iblk10_apply m c t 0 l
theorem fn11 : fn (iblk m c 11 t : Vec Ideal S1x1024 .f32) 0 = argP m c := funext fun l => iblk11_apply m c t 0 l

/-- The point's cotangent of the projection's input is its tile of the whole. -/
theorem dhS_eq : dhS (iblk m c 0 t) (iblk m c 1 t) (iblk m c 2 t) (iblk m c 3 t) (iblk m c 4 t) (iblk m c 5 t) = fun p => argD m c (Tiles.row (tile t) p) := by
  unfold dhS
  rw [fn0, fn1, fn2, fn3, fn4, fn5]
  rfl

end

/-! ## The running sums are the sums over the tiles -/

theorem zero_apply (j : S1x1024.Idx) : zero (F := Ideal) j = 0 := by pointwise [zero]

/-- The rows of tile `t`. -/
abbrev onTile {α : Type} (t : Fin 8) (x : Fin 4096 → α) : Fin 512 → α := fun p => x (Tiles.row t p)

/-- The shift's cotangent after the last point. -/
theorem sumS_last (h : 7 < cfg0.N) (u : Fin 1) (n : Fin 1024) : sumS m c 7 h (ix2 u n) = InSpec.dshift (argD m c) n := by
  refine (Tiles.sum_points (N_0) 0 (fun t => InSpec.dshift (onTile t (argD m c)) n) (fun k h => sumS m c k h (ix2 u n)) (fun h => ?_) (fun k h => ?_) h).trans ?_
  · simp only [sumS, stepS_apply, zero_apply, dhS_eq]
  · simp only [sumS, stepS_apply, dhS_eq]
  · rw [zero_add]
    exact Tiles.sum_rows fun r => argD m c r n

/-- The scale's cotangent after the last point. -/
theorem sumC_last (h : 7 < cfg0.N) (u : Fin 1) (n : Fin 1024) : sumC m c 7 h (ix2 u n) = InSpec.dscale (argD m c) (argX m c) (argG m c) n := by
  refine (Tiles.sum_points (N_0) 0 (fun t => InSpec.dscale (onTile t (argD m c)) (onTile t (argX m c)) (argG m c) n) (fun k h => sumC m c k h (ix2 u n)) (fun h => ?_) (fun k h => ?_) h).trans ?_
  · simp only [sumC, stepC_apply, zero_apply, dhS_eq, fn6, fn10]
  · simp only [sumC, stepC_apply, dhS_eq, fn6, fn10]
  · rw [zero_add]
    exact Tiles.sum_rows fun r => InSpec.nrmG (argX m c) (argG m c) r n * argD m c r n

/-- The gains' cotangent after the last point. -/
theorem sumG_last (h : 7 < cfg0.N) (u : Fin 1) (n : Fin 1024) : sumG m c 7 h (ix2 u n) = argP m c n + InSpec.dgain (argD m c) (argX m c) (argS m c) n := by
  refine (Tiles.sum_points (N_0) (argP m c n) (fun t => InSpec.dgain (onTile t (argD m c)) (onTile t (argX m c)) (argS m c) n) (fun k h => sumG m c k h (ix2 u n)) (fun h => ?_) (fun k h => ?_) h).trans ?_
  · simp only [sumG, stepG_apply, dhS_eq, fn6, fn9]
    obtain rfl : u = 0 := Subsingleton.elim _ _
    rw [iblk11_apply]
  · simp only [sumG, stepG_apply, dhS_eq, fn6, fn9]
  · exact congrArg (argP m c n + ·) (Tiles.sum_rows fun r => InSpec.nrm (argX m c) r n * InSpec.dng (argD m c) (argS m c) r n)

/-! ## The result arrays -/

/-- The rows' cotangent. -/
def res12 : Buf (Elt Ideal) ((c : Thread nD τ).loc main_v3_0) := fun j : S4096x1024.Idx =>
  InSpec.gx (argD m c) (argX m c) (argY m c) (argS m c) (argG m c) (j 0) (j 1)

/-- The shift's cotangent. -/
def res13 : Buf (Elt Ideal) ((c : Thread nD τ).loc main_v3_1) := fun j : S1x1024.Idx => InSpec.dshift (argD m c) (j 1)

/-- The scale's cotangent. -/
def res14 : Buf (Elt Ideal) ((c : Thread nD τ).loc main_v3_2) := fun j : S1x1024.Idx => InSpec.dscale (argD m c) (argX m c) (argG m c) (j 1)

/-- The gains' cotangent, with the earlier one. -/
def res15 : Buf (Elt Ideal) ((c : Thread nD τ).loc main_v3_3) := fun j : S1x1024.Idx =>
  argP m c (j 1) + InSpec.dgain (argD m c) (argX m c) (argS m c) (j 1)

theorem index12 : ∀ t : Fin cfg0.N, win0_12.index t 0 = t.val ∧ win0_12.index t 1 = 0 := by decide +kernel
theorem size12 : ∀ t : Fin cfg0.N, win0_12.xsize (grid0.coords t) 0 = 512 ∧ win0_12.xsize (grid0.coords t) 1 = 1024 := by decide +kernel

theorem block12_apply (t : Fin cfg0.N) (p : Fin 512) (l : Fin 1024) :
    gxW (F := Ideal) (iblk m c 0 t) (iblk m c 1 t) (iblk m c 2 t) (iblk m c 3 t) (iblk m c 4 t) (iblk m c 5 t) (iblk m c 6 t) (iblk m c 7 t) (iblk m c 9 t) (iblk m c 10 t) (ix2 p l)
      = res12 m c (ix2 (n0 := 4096) (n1 := 1024) (Tiles.row (tile t) p) l) := by
  rw [gxW_apply, dhS_eq, fn6, fn7, fn9, fn10]
  rfl

theorem flushed12_eq (t : Fin cfg0.N) (hf : (cfg0.win 12).flush t = true) :
    (dats m 0 c).flushed 12 t = ((cfg0.win 12).blk t).view.read (Elt Ideal) (res12 m c) := by
  rw [flushed12, outs12]
  funext j
  rw [View.read_apply]
  refine (congrArg (gxW (F := Ideal) _ _ _ _ _ _ _ _ _ _) (eq_ix2 (n0 := 512) (n1 := 1024) j)).trans ((block12_apply m c t (j 0) (j 1)).trans ?_)
  show res12 m c _ = res12 m c _
  congr 1
  funext a
  apply Fin.ext
  match a with
  | ⟨0, _⟩ => show 512 * t.val + (j 0).val = win0_12.index t 0 * 512 + 1 * (j 0).val; rw [(index12 t).1]; omega
  | ⟨1, _⟩ => show (j 1).val = win0_12.index t 1 * 1024 + 1 * (j 1).val; rw [(index12 t).2]; omega

theorem cover12 (i : S4096x1024.Idx) (t : Fin cfg0.N) (ht : t.val = (i 0).val / 512) : i ∈ ((View.whole main_v3_0).slice (win0_12.rect t)).set := by
  rw [View.set_slice_whole, Rect.mem_set_unit]
  intro a
  have h0 : (i 0 : Nat) < 4096 := (i 0).isLt
  have h1 : (i 1 : Nat) < 1024 := (i 1).isLt
  match a with
  | ⟨0, _⟩ => show win0_12.index t 0 * 512 ≤ (i 0 : Nat) ∧ (i 0 : Nat) < win0_12.index t 0 * 512 + win0_12.xsize (grid0.coords t) 0
              rw [(index12 t).1, (size12 t).1]; omega
  | ⟨1, _⟩ => show win0_12.index t 1 * 1024 ≤ (i 1 : Nat) ∧ (i 1 : Nat) < win0_12.index t 1 * 1024 + win0_12.xsize (grid0.coords t) 1
              rw [(index12 t).2, (size12 t).2]; omega

theorem final12 : (dats m 0 c).arrAt 12 cfg0.N = res12 m c :=
  (dats m 0 c).arrAt_eq_of_cover 12 (res12 m c) (flushed12_eq m c) fun i =>
    ⟨⟨((i : S4096x1024.Idx) 0).val / 512, by rw [show cfg0.N = 8 from N_0]; exact Nat.div_lt_of_lt_mul ((i : S4096x1024.Idx) 0).isLt⟩, flush0_12 _, cover12 i _ rfl⟩

theorem index13 : ∀ t : Fin cfg0.N, win0_13.index t 0 = 0 ∧ win0_13.index t 1 = 0 := by decide +kernel
theorem size13 : ∀ t : Fin cfg0.N, win0_13.xsize (grid0.coords t) 0 = 1 ∧ win0_13.xsize (grid0.coords t) 1 = 1024 := by decide +kernel

theorem last13 (t : Fin cfg0.N) (h7 : t.val = 7) : ((outsAt0 m c t.val t.isLt).2.1 : S1x1024.Idx → EReal) = res13 m c := by
  obtain ⟨n, h⟩ := t
  obtain rfl : n = 7 := h7
  funext j
  rw [outs13 m c 7 h]
  rw [eq_ix2 (n0 := 1) (n1 := 1024) j]
  exact sumS_last m c h _ _

theorem flushed13_eq (t : Fin cfg0.N) (hf : (cfg0.win 13).flush t = true) :
    (dats m 0 c).flushed 13 t = ((cfg0.win 13).blk t).view.read (Elt Ideal) (res13 m c) := by
  have h7 : t.val = 7 := by have := (flush0_13 t).mp hf; have := lt_N t; omega
  rw [flushed13]
  funext j
  rw [View.read_apply]
  refine (congrFun (last13 m c t h7) j).trans ?_
  show res13 m c _ = res13 m c _
  congr 1
  funext a
  apply Fin.ext
  match a with
  | ⟨0, _⟩ => show (j 0).val = win0_13.index t 0 * 1 + 1 * (j 0).val; rw [(index13 t).1]; omega
  | ⟨1, _⟩ => show (j 1).val = win0_13.index t 1 * 1024 + 1 * (j 1).val; rw [(index13 t).2]; omega

theorem cover13 (i : S1x1024.Idx) (t : Fin cfg0.N) : i ∈ ((View.whole main_v3_1).slice (win0_13.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_13.index t 0 * 1 ≤ (i 0 : Nat) ∧ (i 0 : Nat) < win0_13.index t 0 * 1 + win0_13.xsize (grid0.coords t) 0
              rw [(index13 t).1, (size13 t).1]; omega
  | ⟨1, _⟩ => show win0_13.index t 1 * 1024 ≤ (i 1 : Nat) ∧ (i 1 : Nat) < win0_13.index t 1 * 1024 + win0_13.xsize (grid0.coords t) 1
              rw [(index13 t).2, (size13 t).2]; omega

theorem final13 : (dats m 0 c).arrAt 13 cfg0.N = res13 m c :=
  (dats m 0 c).arrAt_eq_of_cover 13 (res13 m c) (flushed13_eq m c) fun i =>
    ⟨⟨7, by rw [show cfg0.N = 8 from N_0]; decide⟩, (flush0_13 _).mpr rfl, cover13 i _⟩

theorem index14 : ∀ t : Fin cfg0.N, win0_14.index t 0 = 0 ∧ win0_14.index t 1 = 0 := by decide +kernel
theorem size14 : ∀ t : Fin cfg0.N, win0_14.xsize (grid0.coords t) 0 = 1 ∧ win0_14.xsize (grid0.coords t) 1 = 1024 := by decide +kernel

theorem last14 (t : Fin cfg0.N) (h7 : t.val = 7) : ((outsAt0 m c t.val t.isLt).2.2.1 : S1x1024.Idx → EReal) = res14 m c := by
  obtain ⟨n, h⟩ := t
  obtain rfl : n = 7 := h7
  funext j
  rw [outs14 m c 7 h]
  rw [eq_ix2 (n0 := 1) (n1 := 1024) j]
  exact sumC_last m c h _ _

theorem flushed14_eq (t : Fin cfg0.N) (hf : (cfg0.win 14).flush t = true) :
    (dats m 0 c).flushed 14 t = ((cfg0.win 14).blk t).view.read (Elt Ideal) (res14 m c) := by
  have h7 : t.val = 7 := by have := (flush0_14 t).mp hf; have := lt_N t; omega
  rw [flushed14]
  funext j
  rw [View.read_apply]
  refine (congrFun (last14 m c t h7) j).trans ?_
  show res14 m c _ = res14 m c _
  congr 1
  funext a
  apply Fin.ext
  match a with
  | ⟨0, _⟩ => show (j 0).val = win0_14.index t 0 * 1 + 1 * (j 0).val; rw [(index14 t).1]; omega
  | ⟨1, _⟩ => show (j 1).val = win0_14.index t 1 * 1024 + 1 * (j 1).val; rw [(index14 t).2]; omega

theorem cover14 (i : S1x1024.Idx) (t : Fin cfg0.N) : i ∈ ((View.whole main_v3_2).slice (win0_14.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_14.index t 0 * 1 ≤ (i 0 : Nat) ∧ (i 0 : Nat) < win0_14.index t 0 * 1 + win0_14.xsize (grid0.coords t) 0
              rw [(index14 t).1, (size14 t).1]; omega
  | ⟨1, _⟩ => show win0_14.index t 1 * 1024 ≤ (i 1 : Nat) ∧ (i 1 : Nat) < win0_14.index t 1 * 1024 + win0_14.xsize (grid0.coords t) 1
              rw [(index14 t).2, (size14 t).2]; omega

theorem final14 : (dats m 0 c).arrAt 14 cfg0.N = res14 m c :=
  (dats m 0 c).arrAt_eq_of_cover 14 (res14 m c) (flushed14_eq m c) fun i =>
    ⟨⟨7, by rw [show cfg0.N = 8 from N_0]; decide⟩, (flush0_14 _).mpr rfl, cover14 i _⟩

theorem index15 : ∀ t : Fin cfg0.N, win0_15.index t 0 = 0 ∧ win0_15.index t 1 = 0 := by decide +kernel
theorem size15 : ∀ t : Fin cfg0.N, win0_15.xsize (grid0.coords t) 0 = 1 ∧ win0_15.xsize (grid0.coords t) 1 = 1024 := by decide +kernel

theorem last15 (t : Fin cfg0.N) (h7 : t.val = 7) : ((outsAt0 m c t.val t.isLt).2.2.2 : S1x1024.Idx → EReal) = res15 m c := by
  obtain ⟨n, h⟩ := t
  obtain rfl : n = 7 := h7
  funext j
  rw [outs15 m c 7 h]
  rw [eq_ix2 (n0 := 1) (n1 := 1024) j]
  exact sumG_last m c h _ _

theorem flushed15_eq (t : Fin cfg0.N) (hf : (cfg0.win 15).flush t = true) :
    (dats m 0 c).flushed 15 t = ((cfg0.win 15).blk t).view.read (Elt Ideal) (res15 m c) := by
  have h7 : t.val = 7 := by have := (flush0_15 t).mp hf; have := lt_N t; omega
  rw [flushed15]
  funext j
  rw [View.read_apply]
  refine (congrFun (last15 m c t h7) j).trans ?_
  show res15 m c _ = res15 m c _
  congr 1
  funext a
  apply Fin.ext
  match a with
  | ⟨0, _⟩ => show (j 0).val = win0_15.index t 0 * 1 + 1 * (j 0).val; rw [(index15 t).1]; omega
  | ⟨1, _⟩ => show (j 1).val = win0_15.index t 1 * 1024 + 1 * (j 1).val; rw [(index15 t).2]; omega

theorem cover15 (i : S1x1024.Idx) (t : Fin cfg0.N) : i ∈ ((View.whole main_v3_3).slice (win0_15.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_15.index t 0 * 1 ≤ (i 0 : Nat) ∧ (i 0 : Nat) < win0_15.index t 0 * 1 + win0_15.xsize (grid0.coords t) 0
              rw [(index15 t).1, (size15 t).1]; omega
  | ⟨1, _⟩ => show win0_15.index t 1 * 1024 ≤ (i 1 : Nat) ∧ (i 1 : Nat) < win0_15.index t 1 * 1024 + win0_15.xsize (grid0.coords t) 1
              rw [(index15 t).2, (size15 t).2]; omega

theorem final15 : (dats m 0 c).arrAt 15 cfg0.N = res15 m c :=
  (dats m 0 c).arrAt_eq_of_cover 15 (res15 m c) (flushed15_eq m c) fun i =>
    ⟨⟨7, by rw [show cfg0.N = 8 from N_0]; decide⟩, (flush0_15 _).mpr rfl, cover15 i _⟩

/-- The run, read: the four result arrays, the arguments unchanged. -/
theorem run : θ_run defs (onTc (τ := τ) (main (F := Ideal))) ⟨m, fun _ => 0, ρ⟩ fun r => ∀ c : Dev nD,
      r.2.mem ((c : Thread nD τ).loc main_v3_0) = res12 m c
      ∧ r.2.mem ((c : Thread nD τ).loc main_v3_1) = res13 m c
      ∧ r.2.mem ((c : Thread nD τ).loc main_v3_2) = res14 m c
      ∧ r.2.mem ((c : Thread nD τ).loc main_v3_3) = res15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final12 m c), (h c).2.1.trans (final13 m c), (h c).2.2.1.trans (final14 m c),
    (h c).2.2.2.1.trans (final15 m c), (h c).2.2.2.2⟩) (run_blocks m ρ)

end Cert.InKernelIdeal.Value

end
-- ==== Proof.InEquation.lean ====
/- The reference's run of the input projection's gradient read at the formulas of `InSpec`, and the equation of the two programs. -/
module

public import proofs.«01_k».proof.Defs
public import proofs.«01_k».proof.Proof.InEntry
public import proofs.«01_k».proof.Proof.InFinal
public import Idealize.ShloMosaic.Adequacy
public import Idealize.ShloMosaic.Init

@[expose] public section

noncomputable section

open Idealize.ShloMosaic Idealize.ShloMosaic.TcCoe Idealize.SL.Sem

namespace Cert.InReferenceIdeal.Entry

open Cert.InReferenceIdeal Cert.InReferenceIdeal.Gen Cert.InReferenceIdeal.Read

section

variable (x0 : S4096x1536.Idx → EReal) (x1 x2 x3 x4 : S4096x512.Idx → EReal) (x5 : S1024x3584.Idx → EReal)

/-- The formulas as arrays. -/
abbrev arrX (x6 x7 : S4096x1024.Idx → EReal) (x9 x10 : S1x1024.Idx → EReal) : S4096x1024.Idx → EReal := fun j =>
  InSpec.gx (D x0 x1 x2 x3 x4 x5) (fn x6) (fn x7) (fn x9 0) (fn x10 0) (j 0) (j 1)
abbrev arrS : S1x1024.Idx → EReal := fun j => InSpec.dshift (D x0 x1 x2 x3 x4 x5) (j 1)
abbrev arrC (x6 : S4096x1024.Idx → EReal) (x10 : S1x1024.Idx → EReal) : S1x1024.Idx → EReal := fun j =>
  InSpec.dscale (D x0 x1 x2 x3 x4 x5) (fn x6) (fn x10 0) (j 1)
abbrev arrG (x6 : S4096x1024.Idx → EReal) (x9 x11 : S1x1024.Idx → EReal) : S1x1024.Idx → EReal := fun j =>
  fn x11 0 (j 1) + InSpec.dgain (D x0 x1 x2 x3 x4 x5) (fn x6) (fn x9 0) (j 1)

end

/-- The reference's run ends with the formulas' arrays of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v51) = arrX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))
      ∧ r.2.mem ((c : Thread nD τ).loc main_v26) = arrS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v29) = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))
      ∧ r.2.mem ((c : Thread nD τ).loc main_v52) = arrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c =>
    ⟨(h c).1.trans ((val_main_v51_eq m c).trans (funext fun j => by
        rw [eq_ix2 (n0 := 4096) (n1 := 1024) j]; exact v51_entry _ _ _ _ _ _ _ _ _ _ _ _)),
      (h c).2.1.trans ((val_main_v26_eq _ _ _ _ _ _).trans (funext fun j => by
        rw [eq_ix2 (n0 := 1) (n1 := 1024) j]; exact v26_entry _ _ _ _ _ _ _ _)),
      (h c).2.2.1.trans ((val_main_v29_eq _ _ _ _ _ _ _ _).trans (funext fun j => by
        rw [eq_ix2 (n0 := 1) (n1 := 1024) j]; exact v29_entry _ _ _ _ _ _ _ _ _ _)),
      (h c).2.2.2.1.trans ((val_main_v52_eq _ _ _ _ _ _ _ _ _).trans (funext fun j => by
        rw [eq_ix2 (n0 := 1) (n1 := 1024) j]; exact v52_entry _ _ _ _ _ _ _ _ _ _ _)),
      (h c).2.2.2.2⟩) (Cert.InReferenceIdeal.Value.run m ρ)

end Cert.InReferenceIdeal.Entry

namespace Cert.Proof

/-- From agreeing arguments the two programs of the input projection's gradient end with equal results. -/
theorem algebraic_in : Cert.algebraic_InKernelIdeal_InReferenceIdeal (hInKernelIdeal := Cert.InKernelIdeal.Gen.facts) (hInReferenceIdeal := Cert.InReferenceIdeal.Gen.facts) :=
  fun m ρ m' ρ' _ hag =>
    ⟨Cert.InKernelIdeal.Value.res12 m, Cert.InKernelIdeal.Value.res13 m, Cert.InKernelIdeal.Value.res14 m, Cert.InKernelIdeal.Value.res15 m,
      Cert.InKernelIdeal.Value.run m ρ,
      (θ_run _ _ _).mono (fun _ h c => by
        obtain ⟨e0, e1, e2, e3, e4, e5, e6, e7, e8, e9, e10, e11⟩ := hag c
        obtain ⟨h0, h1, h2, h3, h4⟩ := h c
        rw [e0, e1, e2, e3, e4, e5, e6, e7, e9, e10] at h0
        rw [e0, e1, e2, e3, e4, e5] at h1
        rw [e0, e1, e2, e3, e4, e5, e6, e10] at h2
        rw [e0, e1, e2, e3, e4, e5, e6, e9, e11] at h3
        exact ⟨h0, h1, h2, h3, h4⟩) (Cert.InReferenceIdeal.Entry.run m' ρ')⟩

/-- The reference's run leaves the arguments as they are; it declares no semaphore. -/
theorem reference_frame_in : Cert.quiescent_InReferenceIdeal (hInReferenceIdeal := Cert.InReferenceIdeal.Gen.facts) := fun m ρ _ =>
  (θ_run _ _ _).mono (fun r h => ⟨fun c => (h c).2.2.2.2, Idealize.ShloMosaic.sem_eq_zero_of_no_sems (by decide) r.2⟩) (Cert.InReferenceIdeal.Value.run m ρ)

end Cert.Proof

end
-- ==== Proof.OutSpec.lean ====
/- The output projection's loss and gradient over the extended reals, in coordinates: rows `r`, 512 columns `k` of each of the
   two inputs `a` and `b`, 1024 columns `n` of the residual `x`, the target `t` and the gate `g`, and the weight `w`. -/
module

public import Idealize.ShloMosaic.Lib.Pointwise

@[expose] public section

noncomputable section

namespace Cert.OutSpec

open Idealize.ShloMosaic

/-- Column `k` of the first input among the columns of both. -/
def lo (k : Fin 512) : Fin 1024 := ⟨k.val, by omega⟩
/-- Column `k` of the second input among the columns of both. -/
def hi (k : Fin 512) : Fin 1024 := ⟨512 + k.val, by omega⟩

variable {R : ℕ} (a b : Fin R → Fin 512 → EReal) (x t : Fin R → Fin 1024 → EReal) (g : Fin 1024 → EReal) (w : Fin 1024 → Fin 1024 → EReal)

/-- The two inputs mixed. -/
def mix (r : Fin R) (n : Fin 1024) : EReal := (∑ k, a r k * w (lo k) n) + ∑ k, b r k * w (hi k) n
/-- The gated residual minus the target. -/
def err (r : Fin R) (n : Fin 1024) : EReal := x r n + g n * mix a b w r n - t r n
/-- The row's mean square. -/
def rowLoss (r : Fin R) : EReal := Ideal.div (∑ n, err a b x t g w r n * err a b x t g w r n) (Ideal.ofBits .f32 0x44800000#32)
/-- The loss. -/
def loss : EReal := Ideal.ofBits .f32 0x3F000000#32 * ∑ r, rowLoss a b x t g w r
/-- The cotangent of the result. -/
def dy (r : Fin R) (n : Fin 1024) : EReal := err a b x t g w r n * Ideal.ofBits .f32 0x3A800000#32
/-- The cotangent of the mixed inputs. -/
def dmix (r : Fin R) (n : Fin 1024) : EReal := g n * dy a b x t g w r n
/-- The cotangents of the two inputs, side by side. -/
def dcat (r : Fin R) (k : Fin 1024) : EReal := ∑ n, dmix a b x t g w r n * w k n
/-- The gate's cotangent. -/
def dgate (n : Fin 1024) : EReal := ∑ r, dy a b x t g w r n * mix a b w r n
/-- The weight's cotangent: row `k` of half `h`. -/
def dw (h : Fin 2) (k : Fin 512) (n : Fin 1024) : EReal := ∑ r, (match h with | 0 => a | 1 => b) r k * dmix a b x t g w r n

/-- One half is finite and not negative. -/
theorem half_eq : Ideal.ofBits .f32 0x3F000000#32 = ((1 / 2 : ℝ) : EReal) := by
  simp [Ideal.ofBits, Ideal.ieee]
  rw [← EReal.coe_mul]
  norm_num

end Cert.OutSpec

end
-- ==== Proof.OutEntry.lean ====
/- The output projection's reference, read at an entry. -/
module

public import proofs.«01_k».proof.Proof.Gen.OutReferenceIdeal.Read
public import proofs.«01_k».proof.Proof.OutSpec

@[expose] public section

set_option maxHeartbeats 1000000

noncomputable section

open Idealize.ShloMosaic Idealize.ShloMosaic.TcCoe Idealize.SL.Sem

namespace Cert.OutReferenceIdeal.Entry

open Cert.OutReferenceIdeal Cert.OutReferenceIdeal.Gen Cert.OutReferenceIdeal.Read Cert.OutSpec

/-- A sum over the columns of both inputs. -/
theorem sum_halves (f : Fin 1024 → EReal) : ∑ k, f k = (∑ k, f (lo k)) + ∑ k, f (hi k) :=
  Fin.sum_univ_add (a := 512) (b := 512) f

/-- The constants, and what the reference scales the error by. -/
theorem scale_eq : Ideal.ofBits .f32 0x3A800000#32 = ((1 / 1024 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num
theorem scaled (e : EReal) : Ideal.div (Ideal.ofBits .f32 0x3F000000#32 * 1) (Ideal.ofBits .f32 0x44800000#32) * (Ideal.ofBits .f32 0x40000000#32 * e)
    = e * Ideal.ofBits .f32 0x3A800000#32 := by
  rw [← mul_assoc, mul_comm]
  congr 1
  rw [half_eq, two_eq, width_eq, scale_eq, mul_one]
  rw [Ideal.div_coe (by norm_num), ← EReal.coe_mul, ← EReal.coe_mul]
  norm_num

variable (x0 x1 : S4096x512.Idx → EReal) (x2 x3 : S4096x1024.Idx → EReal) (x4 : S1x1024.Idx → EReal) (x5 : S1024x1024.Idx → EReal)

/-- An array as a function of row and column. -/
abbrev fn {R C : ℕ} (x : Shape.Idx ⟨2, ![R, C]⟩ → EReal) : Fin R → Fin C → EReal := fun r c => x (ix2 r c)

/-- Two arrays side by side, read at a column of the first and of the second. -/
theorem cat_lo (y1 y2 : S4096x512.Idx → EReal) (h) (r : Fin 4096) (l : Fin 512) :
    concatenate S4096x1024 1 [⟨S4096x512, y1⟩, ⟨S4096x512, y2⟩] h (ix2 r (lo l)) = y1 (ix2 r l) :=
  concatenate_apply_piece (t := S4096x1024) 1 [⟨S4096x512, y1⟩, ⟨S4096x512, y2⟩] h (ix2 r (lo l)) 0 (by show 0 < 2; decide) S4096x512 y1 rfl rfl 0 rfl (ix2 r l)
    (fun b hb => match b with | ⟨0, _⟩ => rfl | ⟨1, _⟩ => absurd rfl hb) (by show 0 + l.val = l.val; omega)
theorem cat_hi (y1 y2 : S4096x512.Idx → EReal) (h) (r : Fin 4096) (l : Fin 512) :
    concatenate S4096x1024 1 [⟨S4096x512, y1⟩, ⟨S4096x512, y2⟩] h (ix2 r (hi l)) = y2 (ix2 r l) :=
  concatenate_apply_piece (t := S4096x1024) 1 [⟨S4096x512, y1⟩, ⟨S4096x512, y2⟩] h (ix2 r (hi l)) 1 (by show 1 < 2; decide) S4096x512 y2 rfl rfl 512 rfl (ix2 r l)
    (fun b hb => match b with | ⟨0, _⟩ => rfl | ⟨1, _⟩ => absurd rfl hb) (by show 512 + l.val = 512 + l.val; omega)

/-- A column is one of the first input's or one of the second's. -/
theorem halves (k : Fin 1024) : (∃ l, k = lo l) ∨ ∃ l, k = hi l := by
  by_cases hk : k.val < 512
  · exact .inl ⟨⟨k.val, hk⟩, rfl⟩
  · exact .inr ⟨⟨k.val - 512, by omega⟩, Fin.ext (by show k.val = 512 + (k.val - 512); omega)⟩

/-- A sum from the constant zero. -/
theorem zero_sum (x : EReal) : FloatOps.ofBits (F := Ideal) .f32 0x00000000#32 + x = x := by
  show Ideal.ofBits .f32 0x00000000#32 + x = x
  rw [Ideal.ofBits_zero_f32, zero_add]

/-- A sum over the indices of a list is the sum over its length. -/
theorem sum_list (f : S4096.Idx → EReal) : ∑ j, f j = ∑ r : Fin 4096, f (ix1 r) :=
  (Fintype.sum_equiv (⟨fun r => ix1 r, fun j => j 0, fun _ => rfl, fun j => funext fun a => match a with | ⟨0, _⟩ => rfl⟩ : Fin 4096 ≃ S4096.Idx) _ _ fun _ => rfl).symm

theorem v1_entry (r : Fin 4096) (n : Fin 1024) : val_main_v1 (F := Ideal) x0 x1 x5 (ix2 r n) = mix (fn x0) (fn x1) (fn x5) r n := by
  rw [val_main_v1_apply, sum_halves]
  have el : ∀ k, lidx_main_v1 (ix2 r n) k = ix2 r k := fun k => funext fun a => match a with | ⟨0, _⟩ => rfl | ⟨1, _⟩ => rfl
  have er : ∀ k, ridx_main_v1 (ix2 r n) k = ix2 k n := fun k => funext fun a => match a with | ⟨0, _⟩ => rfl | ⟨1, _⟩ => rfl
  simp only [el, er, val_main_v0, cat_lo, cat_hi]
  rfl

theorem v5_entry (r : Fin 4096) (n : Fin 1024) :
    val_main_v5 (F := Ideal) x0 x1 x2 x3 x4 x5 (ix2 r n) = err (fn x0) (fn x1) (fn x2) (fn x3) (fn x4 0) (fn x5) r n := by
  have e1 := v1_entry x0 x1 x5 r n
  have e2 : idx_main_v2 (ix2 r n) = ix2 0 n := funext fun a => match a with | ⟨0, _⟩ => rfl | ⟨1, _⟩ => rfl
  rw [val_main_v5_apply, val_main_v4_apply, val_main_v3_apply, val_main_v2_apply, e1, e2]
  rfl

/-- The cotangent of the result. -/
theorem v19_entry (r : Fin 4096) (n : Fin 1024) :
    val_main_v19 (F := Ideal) x0 x1 x2 x3 x4 x5 (ix2 r n) = dy (fn x0) (fn x1) (fn x2) (fn x3) (fn x4 0) (fn x5) r n := by
  rw [val_main_v19_apply, val_main_v8_apply, v5_entry]
  refine Eq.trans ?_ (scaled _)
  congr 1
  · pointwise [val_main_v18, val_main_v17, val_main_v16, val_main_v15, val_main_v14, val_main_cst_4, val_main_cst_5, val_main_cst_6]

theorem v21_entry (r : Fin 4096) (n : Fin 1024) :
    val_main_v21 (F := Ideal) x0 x1 x2 x3 x4 x5 (ix2 r n) = dmix (fn x0) (fn x1) (fn x2) (fn x3) (fn x4 0) (fn x5) r n := by
  have e2 : idx_main_v20 (ix2 r n) = ix2 0 n := funext fun a => match a with | ⟨0, _⟩ => rfl | ⟨1, _⟩ => rfl
  rw [val_main_v21_apply, v19_entry, val_main_v20_apply, e2]
  rfl

/-- The gate's cotangent. -/
theorem v24_entry (z : Fin 1) (n : Fin 1024) :
    val_main_v24 (F := Ideal) x0 x1 x2 x3 x4 x5 (ix2 z n) = dgate (fn x0) (fn x1) (fn x2) (fn x3) (fn x4 0) (fn x5) n := by
  have e2 : idx_main_v24 (ix2 z n) = ix1 n := funext fun a => match a with
    | ⟨0, _⟩ => Fin.ext (by show z.val * 1024 + n.val = n.val; have := z.isLt; omega)
  have e3 : ∀ r, idx_main_v23 (ix1 n) r = ix2 r n := fun r => funext fun a => match a with | ⟨0, _⟩ => rfl | ⟨1, _⟩ => rfl
  rw [val_main_v24_apply, e2, val_main_v23_apply]
  simp only [e3, val_main_v22_apply, v19_entry, v1_entry]
  exact zero_sum _

/-- The weight's cotangent. -/
theorem v26_entry (k n : Fin 1024) :
    val_main_v26 (F := Ideal) x0 x1 x2 x3 x4 x5 (ix2 k n)
      = dw (fn x0) (fn x1) (fn x2) (fn x3) (fn x4 0) (fn x5) ⟨k.val / 512, by omega⟩ ⟨k.val % 512, by omega⟩ n := by
  have e2 : idx_main_v26 (ix2 k n) = ix2 n k := funext fun a => match a with | ⟨0, _⟩ => rfl | ⟨1, _⟩ => rfl
  rw [val_main_v26_apply, e2, val_main_v25_apply]
  have el : ∀ r, lidx_main_v25 (ix2 n k) r = ix2 r n := fun k => funext fun a => match a with | ⟨0, _⟩ => rfl | ⟨1, _⟩ => rfl
  have er : ∀ r, ridx_main_v25 (ix2 n k) r = ix2 r k := fun k => funext fun a => match a with | ⟨0, _⟩ => rfl | ⟨1, _⟩ => rfl
  simp only [el, er, v21_entry, val_main_v0]
  rcases halves k with ⟨l, rfl⟩ | ⟨l, rfl⟩
  · have h0 : (⟨(lo l).val / 512, by omega⟩ : Fin 2) = 0 := Fin.ext (by show l.val / 512 = 0; omega)
    have h1 : (⟨(lo l).val % 512, by omega⟩ : Fin 512) = l := Fin.ext (by show l.val % 512 = l.val; omega)
    rw [h0, h1]
    simp only [cat_lo]
    exact Finset.sum_congr rfl fun r _ => mul_comm _ _
  · have h0 : (⟨(hi l).val / 512, by omega⟩ : Fin 2) = 1 := Fin.ext (by show (512 + l.val) / 512 = 1; omega)
    have h1 : (⟨(hi l).val % 512, by omega⟩ : Fin 512) = l := Fin.ext (by show (512 + l.val) % 512 = l.val; omega)
    rw [h0, h1]
    simp only [cat_hi]
    exact Finset.sum_congr rfl fun r _ => mul_comm _ _

/-- The cotangents of the inputs. -/
theorem v27_entry (r : Fin 4096) (k : Fin 1024) :
    val_main_v27 (F := Ideal) x0 x1 x2 x3 x4 x5 (ix2 r k) = dcat (fn x0) (fn x1) (fn x2) (fn x3) (fn x4 0) (fn x5) r k := by
  rw [val_main_v27_apply]
  have el : ∀ n, lidx_main_v27 (ix2 r k) n = ix2 r n := fun k => funext fun a => match a with | ⟨0, _⟩ => rfl | ⟨1, _⟩ => rfl
  have er : ∀ n, ridx_main_v27 (ix2 r k) n = ix2 k n := fun k => funext fun a => match a with | ⟨0, _⟩ => rfl | ⟨1, _⟩ => rfl
  simp only [el, er, v21_entry]
  rfl
theorem v31_entry (r : Fin 4096) (k : Fin 1024) :
    val_main_v31 (F := Ideal) x0 x1 x2 x3 x4 x5 (ix2 r k) = dcat (fn x0) (fn x1) (fn x2) (fn x3) (fn x4 0) (fn x5) r k := by
  unfold val_main_v31
  rcases halves k with ⟨l, rfl⟩ | ⟨l, rfl⟩
  · rw [cat_lo, val_main_v28_apply, ← v27_entry]
    exact congrArg _ (funext fun a => match a with | ⟨0, _⟩ => rfl | ⟨1, _⟩ => rfl)
  · rw [cat_hi, val_main_v29_apply, ← v27_entry]
    exact congrArg _ (funext fun a => match a with | ⟨0, _⟩ => rfl | ⟨1, _⟩ => rfl)

/-- The loss. -/
theorem v30_entry (j : S8x128.Idx) :
    val_main_v30 (F := Ideal) x0 x1 x2 x3 x4 x5 j = loss (fn x0) (fn x1) (fn x2) (fn x3) (fn x4 0) (fn x5) := by
  have e3 : ∀ r n, idx_main_v9 (ix1 r) n = ix2 r n := fun r n => funext fun a => match a with | ⟨0, _⟩ => rfl | ⟨1, _⟩ => rfl
  rw [val_main_v30_apply, val_main_v13_apply, val_main_v12_apply, sum_list]
  simp only [val_main_v11_apply, val_main_v9_apply, val_main_v6_apply, e3, v5_entry, val_main_cst_0_apply, val_main_cst_2_apply, zero_sum]
  rfl

end Cert.OutReferenceIdeal.Entry

end
-- ==== Proof.OutBlock.lean ====
/- What one grid point of the output projection computes, operation by operation: a block of 512 rows, the inner products
   taken over the two 512-row halves of the weight. -/
module

public import proofs.«01_k».proof.Proof.Gen.OutKernelIdeal.Frame
public import Idealize.ShloMosaic.Lib.Pointwise.Index

@[expose] public section

noncomputable section

namespace Cert.OutKernelIdeal.Block

open Cert.OutKernelIdeal Cert.OutKernelIdeal.Gen Idealize.ShloMosaic

variable {F : FTy → Type} [FloatOps F]

theorem slices_half : ∀ h : Fin 2, S1024x1024.Slices ![512 * h.val, 0] S512x1024 := by decide

/-- Half `h` of the rows of a square array: rows `512 h` to `512 h + 511`. -/
def half {e : FTy} (h : Fin 2) (x : FVec F S1024x1024 e) : FVec F S512x1024 e :=
  extractStridedSlice S512x1024 ![512 * h.val, 0] x (slices_half h)

variable (x0 x1 : FVec F S512x512 .f32) (x2 x3 : FVec F S512x1024 .f32) (x4 : FVec F S1x1024 .f32) (x5 : FVec F S1024x1024 .bf16)

/-- A 512-column input in the product's format. -/
def low (x : FVec F S512x512 .f32) : FVec F S512x512 .bf16 := truncf .bf16 x bitsLt_bf16_f32
/-- An input times its half of the weight. -/
def prod (h : Fin 2) (x : FVec F S512x512 .f32) : FVec F S512x1024 .f32 :=
  matmul dot_S512x512_S512x1024_S512x1024_1_0_0_1_n_n none (low x) (shapeCast S512x1024 (half h x5) shapeCasts_S512x1024_S512x1024)
    (constant S512x1024 .f32 0x00000000#32)
/-- The two inputs mixed. -/
def mix : FVec F S512x1024 .f32 := addf (prod x5 0 x0) (prod x5 1 x1)
/-- The gated residual minus the target. -/
def err : FVec F S512x1024 .f32 :=
  subf (addf x2 (mulf (broadcastTo S512x1024 x4 broadcasts_S1x1024_S512x1024) (mix x0 x1 x5))) x3
/-- The block's part of the loss. -/
def part : F .f32 :=
  Scalar.mulf (Scalar.ofBits .f32 0x3F000000#32)
    (extractAt ![0, 0]
      (shapeCast S1x1
        (multiReduction .add [1] S1
          (shapeCast S1x512
            (divf
              (multiReduction .add [1] S512 (mulf (err x0 x1 x2 x3 x4 x5) (err x0 x1 x2 x3 x4 x5)) 0x00000000#32 reduces_S512x1024_S512 (.inl rfl) rfl)
              (broadcast S512 (Scalar.ofBits .f32 0x44800000#32)))
            shapeCasts_S512_S1x512)
          0x00000000#32 reduces_S1x512_S1 (.inl rfl) rfl)
        shapeCasts_S1_S1x1)
      inpos_S1x1_p0_0)
/-- The cotangent of the result. -/
def dy : FVec F S512x1024 .f32 := mulf (err x0 x1 x2 x3 x4 x5) (broadcast S512x1024 (Scalar.ofBits .f32 0x3A800000#32))
/-- The block's part of the gate's cotangent. -/
def dgate : FVec F S1x1024 .f32 :=
  shapeCast S1x1024
    (multiReduction .add [0] S1024 (mulf (dy x0 x1 x2 x3 x4 x5) (mix x0 x1 x5)) 0x00000000#32 reduces_S512x1024_S1024 (.inl rfl) rfl)
    shapeCasts_S1024_S1x1024
/-- The cotangent of the mixed inputs, in the product's format. -/
def dmix : FVec F S512x1024 .bf16 :=
  truncf .bf16 (mulf (broadcastTo S512x1024 x4 broadcasts_S1x1024_S512x1024) (dy x0 x1 x2 x3 x4 x5)) bitsLt_bf16_f32
/-- The cotangents of the two inputs, side by side. -/
def dcat : FVec F S512x1024 .f32 :=
  matmul dot_S512x1024_S1024x1024_S512x1024_1_1_0_0_n_n none (dmix x0 x1 x2 x3 x4 x5) (shapeCast S1024x1024 x5 shapeCasts_S1024x1024_S1024x1024)
    (constant S512x1024 .f32 0x00000000#32)
/-- The block's part of the cotangent of half `h` of the weight. -/
def dw (h : Fin 2) : FVec F S512x1024 .f32 :=
  matmul dot_S512x512_S512x1024_S512x1024_0_0_1_1_n_n none (low (match h with | 0 => x0 | 1 => x1)) (dmix x0 x1 x2 x3 x4 x5)
    (constant S512x1024 .f32 0x00000000#32)

/-! ## The running sums -/

/-- The loss's zero. -/
def zeroL : FVec F S8x128 .f32 := broadcast S8x128 (Scalar.ofBits .f32 0x00000000#32)
/-- The gate's zero. -/
def zeroG : FVec F S1x1024 .f32 := broadcast S1x1024 (Scalar.ofBits .f32 0x00000000#32)
/-- The weight's zero. -/
def zeroW : FVec F S1024x1024 .f32 := broadcast S1024x1024 (Scalar.ofBits .f32 0x00000000#32)

/-- The loss after this block, of the one before. -/
def stepL (z : FVec F S8x128 .f32) : FVec F S8x128 .f32 :=
  addf (shapeCast S8x128 z shapeCasts_S8x128_S8x128) (broadcast S8x128 (part x0 x1 x2 x3 x4 x5))
/-- The gate's cotangent after this block, of the one before. -/
def stepG (z : FVec F S1x1024 .f32) : FVec F S1x1024 .f32 :=
  addf (shapeCast S1x1024 z shapeCasts_S1x1024_S1x1024) (dgate x0 x1 x2 x3 x4 x5)
/-- Half `h` of the weight's cotangent after this block, of the whole before. -/
def stepH (h : Fin 2) (z : FVec F S1024x1024 .f32) : FVec F S512x1024 .f32 :=
  addf (shapeCast S512x1024 (half h z) shapeCasts_S512x1024_S512x1024) (dw x0 x1 x2 x3 x4 x5 h)
/-- The weight's cotangent after this block, of the one before: row `r` is row `r mod 512` of half `r / 512`. -/
def stepW (z : FVec F S1024x1024 .f32) : FVec F S1024x1024 .f32 := fun j =>
  stepH x0 x1 x2 x3 x4 x5 ⟨(j 0).val / 512, Nat.div_lt_of_lt_mul (j 0).isLt⟩ z
    (ix2 (n0 := 512) (n1 := 1024) ⟨(j 0).val % 512, Nat.mod_lt _ (by decide)⟩ (j 1))

end Cert.OutKernelIdeal.Block

end
-- ==== Proof.OutCases.lean ====
/- Each case of the output projection's body (the first grid point, the others) leaves in each result's buffer the block's
   value: the stores found by the generated run, read back. -/
module

public import proofs.«01_k».proof.Proof.Gen.OutKernelIdeal.Value
public import proofs.«01_k».proof.Proof.OutBlock
public import Idealize.ShloMosaic.Lib.Tactic
public import Idealize.ShloMosaic.Lib.Pipeline.ValueKit.Acc
public import Idealize.ShloMosaic.Lib.Pipeline.ReadBack

@[expose] public section

set_option maxRecDepth 16384

noncomputable section

open Idealize.ShloMosaic Idealize.ShloMosaic.TcCoe Idealize.SL.Sem

namespace Cert.OutKernelIdeal.Value

open Cert.OutKernelIdeal Cert.OutKernelIdeal.Gen Cert.OutKernelIdeal.Block

variable {F : FTy → Type} [FloatOps F]

theorem hz2 : ∀ a : Fin 2, (![0, 0] : Fin 2 → Nat) a = 0 := by decide

theorem inb_half : ∀ (h : Fin 2) (a : Fin 2), (![512 * h.val, 0] : Fin 2 → Nat) a + S512x1024.size a ≤ S1024x1024.size a := by
  decide

/-- The store of half `h`. -/
abbrev piece (s : Fin 2 → FVec F S512x1024 .f32) (h : Fin 2) : View.Piece (Elt F) S1024x1024 .f32 :=
  ⟨Rect.unit ![512 * h.val, 0] S512x1024.size (inb_half h), s h⟩

/-- Entry `x` of half `h` is the array's entry at its place. -/
theorem step_piece (x0 x1 : FVec F S512x512 .f32) (x2 x3 : FVec F S512x1024 .f32) (x4 : FVec F S1x1024 .f32) (x5 : FVec F S1024x1024 .bf16)
    (z : FVec F S1024x1024 .f32) (h : Fin 2) (x : S512x1024.Idx) :
    stepH x0 x1 x2 x3 x4 x5 h z x = stepW x0 x1 x2 x3 x4 x5 z ((Rect.unit (s := S1024x1024) ![512 * h.val, 0] S512x1024.size (inb_half h)).emb x) := by
  have h0 : (((Rect.unit (s := S1024x1024) ![512 * h.val, 0] S512x1024.size (inb_half h)).emb x) 0).val = 512 * h.val + (x 0).val :=
    congrArg (512 * h.val + ·) (Nat.one_mul _)
  have h1 : (((Rect.unit (s := S1024x1024) ![512 * h.val, 0] S512x1024.size (inb_half h)).emb x) 1).val = 0 + (x 1).val :=
    congrArg (0 + ·) (Nat.one_mul _)
  have e0 : (x 0).val < 512 := (x 0).isLt
  generalize (Rect.unit (s := S1024x1024) ![512 * h.val, 0] S512x1024.size (inb_half h)).emb x = y at h0 h1
  unfold stepW
  have hk : (⟨(y 0).val / 512, Nat.div_lt_of_lt_mul (y 0).isLt⟩ : Fin 2) = h := Fin.ext (by show (y 0).val / 512 = _; omega)
  rw [hk]
  congr 1
  funext a
  apply Fin.ext
  match a with
  | ⟨0, _⟩ => show (x 0).val = (y 0).val % 512; omega
  | ⟨1, _⟩ => show (x 1).val = (y 1).val; omega

theorem mem_half (y : S1024x1024.Idx) : y ∈ (Rect.unit (s := S1024x1024) ![512 * ((y 0).val / 512), 0] S512x1024.size
    (inb_half ⟨(y 0).val / 512, Nat.div_lt_of_lt_mul (y 0).isLt⟩)).set := by
  rw [Rect.mem_set_unit]
  intro a
  have h0 : (y 0 : Nat) < 1024 := (y 0).isLt
  have h1 : (y 1 : Nat) < 1024 := (y 1).isLt
  match a with
  | ⟨0, _⟩ => show 512 * ((y 0).val / 512) ≤ (y 0 : Nat) ∧ (y 0 : Nat) < 512 * ((y 0).val / 512) + 512; omega
  | ⟨1, _⟩ => show 0 ≤ (y 1 : Nat) ∧ (y 1 : Nat) < 0 + 1024; omega

/-- Stores of the two halves, over any earlier ones, leave the array. -/
theorem canon_halves (x0 x1 : FVec F S512x512 .f32) (x2 x3 : FVec F S512x1024 .f32) (x4 : FVec F S1x1024 .f32) (x5 : FVec F S1024x1024 .bf16)
    (z : FVec F S1024x1024 .f32) (L L' : List (View.Piece (Elt F) S1024x1024 .f32))
    (hL : L = [piece (fun h => stepH x0 x1 x2 x3 x4 x5 h z) 1, piece (fun h => stepH x0 x1 x2 x3 x4 x5 h z) 0] ++ L') :
    View.canon L = stepW x0 x1 x2 x3 x4 x5 z := by
  subst hL
  funext y
  refine View.canon_append_of_piecesOf (stepW x0 x1 x2 x3 x4 x5 z) L' [piece (fun h => stepH x0 x1 x2 x3 x4 x5 h z) 1, piece (fun h => stepH x0 x1 x2 x3 x4 x5 h z) 0]
    (And.intro (fun x => step_piece x0 x1 x2 x3 x4 x5 z 1 x) (And.intro (fun x => step_piece x0 x1 x2 x3 x4 x5 z 0 x) trivial)) y ?_
  have hy := mem_half y
  have h0 : (y 0 : Nat) < 1024 := (y 0).isLt
  by_cases h : (y 0 : Nat) < 512
  · have e : (⟨(y 0).val / 512, Nat.div_lt_of_lt_mul (y 0).isLt⟩ : Fin 2) = 0 := Fin.ext (by show (y 0).val / 512 = 0; omega)
    refine ⟨_, List.mem_cons_of_mem _ List.mem_cons_self, ?_⟩
    have key : ∀ k : Fin 2, k = 0 → y ∈ (Rect.unit (s := S1024x1024) ![512 * k.val, 0] S512x1024.size (inb_half k)).set →
        y ∈ (Rect.unit (s := S1024x1024) ![512 * (0 : Fin 2).val, 0] S512x1024.size (inb_half 0)).set := fun k hk hm => hk ▸ hm
    exact key _ e hy
  · have e : (⟨(y 0).val / 512, Nat.div_lt_of_lt_mul (y 0).isLt⟩ : Fin 2) = 1 := Fin.ext (by show (y 0).val / 512 = 1; omega)
    refine ⟨_, List.mem_cons_self, ?_⟩
    have key : ∀ k : Fin 2, k = 1 → y ∈ (Rect.unit (s := S1024x1024) ![512 * k.val, 0] S512x1024.size (inb_half k)).set →
        y ∈ (Rect.unit (s := S1024x1024) ![512 * (1 : Fin 2).val, 0] S512x1024.size (inb_half 1)).set := fun k hk hm => hk ▸ hm
    exact key _ e hy

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x1024 .f32) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S1024x1024 .bf16) (harg6 : arg6.IsWhole) (arg7 : Memref sig .tc .vmem S8x128 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole) (arg11 : Memref sig .tc .vmem S1024x1024 .f32) (harg11 : arg11.IsWhole)
  (x0 x1 : Vec F S512x512 .f32) (x2 x3 : Vec F S512x1024 .f32) (x4 : Vec F S1x1024 .f32) (x5 : Vec F S1024x1024 .bf16)

/-- The first grid point leaves the loss. -/
theorem out_A_6 (hc0 : cond0_0 i) :
    out0_A_6 c i arg1 harg1 arg2 harg2 arg3 harg3 arg4 harg4 arg5 harg5 arg6 harg6 arg7 harg7 arg8 harg8 arg9 harg9 arg10 harg10 arg11 harg11 hc0 x0 x1 x2 x3 x4 x5 = stepL x0 x1 x2 x3 x4 x5 zeroL := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_lit (S := S8x128) _ _ _ hz2]
  simp only [View.readCov_cons_unit_lit' (S := S8x128) _ _ _ _ _ hz2 hz2, View.readCov_unit_lit' (S := S8x128) _ _ _ hz2]
  simp only [View.readAt_eq_ld, harg1.read_unread, harg2.read_unread, harg3.read_unread, harg4.read_unread, harg5.read_unread, harg6.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- The first grid point leaves the result's cotangent. -/
theorem out_A_7 (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5 = dy x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- The first grid point leaves the inputs' cotangents. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 = dcat x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- The first grid point leaves the gate's cotangent so far. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 = stepG x0 x1 x2 x3 x4 x5 zeroG := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_lit (S := S1x1024) _ _ _ hz2]
  simp only [View.readCov_cons_unit_lit' (S := S1x1024) _ _ _ _ _ hz2 hz2, View.readCov_unit_lit' (S := S1x1024) _ _ _ hz2]
  simp only [View.readAt_eq_ld, harg1.read_unread, harg2.read_unread, harg3.read_unread, harg4.read_unread, harg5.read_unread, harg6.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- The first grid point leaves the weight's cotangent so far. -/
theorem out_A_10 (hc0 : cond0_0 i) :
    out0_A_10 c i arg1 harg1 arg2 harg2 arg3 harg3 arg4 harg4 arg5 harg5 arg6 harg6 arg7 harg7 arg8 harg8 arg9 harg9 arg10 harg10 arg11 harg11 hc0 x0 x1 x2 x3 x4 x5 = stepW x0 x1 x2 x3 x4 x5 zeroW := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5)]
  refine canon_halves x0 x1 x2 x3 x4 x5 zeroW _ [(⟨Rect.unit ![0, 0] S1024x1024.size inb_S1024x1024_S1024x1024_0_0, zeroW⟩ : View.Piece (Elt F) S1024x1024 .f32)] ?_
  unfold kernelRun0_A
  dsimp only
  sl_unfold_words
  simp only [↓View.readCov_skip _ _ _ _ _ (by decide : LoadRect.disj (Rect.unit (s := S1024x1024) ![0, 0] S512x1024.size inb_S1024x1024_S512x1024_0_0) (Rect.unit (s := S1024x1024) ![512, 0] S512x1024.size inb_S1024x1024_S512x1024_512_0).toLoadRect = true), View.readCov_fill (s := S1024x1024) _ _ _ _ _ hz2]
  simp only [View.readAt_eq_ld, harg1.read_unread, harg2.read_unread, harg3.read_unread, harg4.read_unread, harg5.read_unread, harg6.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- A later grid point leaves the loss. -/
theorem out_B_6 (hc0 : ¬cond0_0 i) (xo6 : Vec F S8x128 .f32) (xo9 : Vec F S1x1024 .f32) (xo10 : Vec F S1024x1024 .f32) :
    out0_B_6 c i arg1 harg1 arg2 harg2 arg3 harg3 arg4 harg4 arg5 harg5 arg6 harg6 arg7 harg7 arg8 harg8 arg9 harg9 arg10 harg10 arg11 harg11 hc0 x0 x1 x2 x3 x4 x5 xo6 xo9 xo10 = stepL x0 x1 x2 x3 x4 x5 xo6 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo6 xo9 xo10)]
  unfold kernelRun0_B
  dsimp only
  sl_unfold_words
  rw [View.canon_cons_unit_lit (S := S8x128) _ _ _ hz2]
  simp only [View.readAt_eq_ld, harg1.read_unread, harg2.read_unread, harg3.read_unread, harg4.read_unread, harg5.read_unread, harg6.read_unread, harg7.read_unread, harg10.read_unread, harg11.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- A later grid point leaves the result's cotangent. -/
theorem out_B_7 (hc0 : ¬cond0_0 i) (xo6 : Vec F S8x128 .f32) (xo9 : Vec F S1x1024 .f32) (xo10 : Vec F S1024x1024 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 xo6 xo9 xo10 = dy x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xo6 xo9 xo10)]
  unfold kernelRun0_B
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread, harg7.read_unread, harg10.read_unread, harg11.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- A later grid point leaves the inputs' cotangents. -/
theorem out_B_8 (hc0 : ¬cond0_0 i) (xo6 : Vec F S8x128 .f32) (xo9 : Vec F S1x1024 .f32) (xo10 : Vec F S1024x1024 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 xo6 xo9 xo10 = dcat x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xo6 xo9 xo10)]
  unfold kernelRun0_B
  dsimp only
  sl_unfold_words
  rw [View.canon_cons_unit_lit (S := S512x1024) _ _ _ hz2]
  simp only [View.readAt_eq_ld, harg1.read_unread, harg2.read_unread, harg3.read_unread, harg4.read_unread, harg5.read_unread, harg6.read_unread, harg7.read_unread, harg10.read_unread, harg11.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- A later grid point leaves the gate's cotangent so far. -/
theorem out_B_9 (hc0 : ¬cond0_0 i) (xo6 : Vec F S8x128 .f32) (xo9 : Vec F S1x1024 .f32) (xo10 : Vec F S1024x1024 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 xo6 xo9 xo10 = stepG x0 x1 x2 x3 x4 x5 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xo6 xo9 xo10)]
  unfold kernelRun0_B
  dsimp only
  sl_unfold_words
  rw [View.canon_cons_unit_lit (S := S1x1024) _ _ _ hz2]
  simp only [View.readAt_eq_ld, harg1.read_unread, harg2.read_unread, harg3.read_unread, harg4.read_unread, harg5.read_unread, harg6.read_unread, harg7.read_unread, harg10.read_unread, harg11.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

/-- A later grid point leaves the weight's cotangent so far. -/
theorem out_B_10 (hc0 : ¬cond0_0 i) (xo6 : Vec F S8x128 .f32) (xo9 : Vec F S1x1024 .f32) (xo10 : Vec F S1024x1024 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 xo6 xo9 xo10 = stepW x0 x1 x2 x3 x4 x5 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 xo6 xo9 xo10)]
  refine canon_halves x0 x1 x2 x3 x4 x5 xo10 _ [] ?_
  unfold kernelRun0_B
  dsimp only
  sl_unfold_words
  simp only [View.readAt_eq_ld, harg1.read_unread, harg2.read_unread, harg3.read_unread, harg4.read_unread, harg5.read_unread, harg6.read_unread, harg7.read_unread, harg10.read_unread, harg11.read_unread,
    View.ld_unit_lit' (S := S512x512) _ _ hz2, View.ld_unit_lit' (S := S512x1024) _ _ hz2, View.ld_unit_lit' (S := S1x1024) _ _ hz2, View.ld_unit_lit' (S := S8x128) _ _ hz2, View.ld_unit_lit' (S := S1024x1024) _ _ hz2]
  simp only [View.ld_unit]
  sl_kernel_rfl

end Cert.OutKernelIdeal.Value

end
-- ==== Proof.OutAcc.lean ====
/- What the results' buffers hold after each grid point: two blocks of the point, and three running sums. -/
module

public import proofs.«01_k».proof.Proof.OutCases

@[expose] public section

noncomputable section

open Idealize.ShloMosaic Idealize.ShloMosaic.TcCoe Idealize.SL.Sem

namespace Cert.OutKernelIdeal.Value

open Cert.OutKernelIdeal Cert.OutKernelIdeal.Gen Cert.OutKernelIdeal.Block

variable {F : FTy → Type} [FloatOps F]
variable (m : (ℓ : Loc nD τ sig) → Buf (Elt F) ℓ)

/-- The loss after point `n`. -/
def sumL (c : Dev nD) : (n : ℕ) → n < cfg0.N → FVec F S8x128 .f32
  | 0, h => stepL (iblk m c 0 ⟨0, h⟩) (iblk m c 1 ⟨0, h⟩) (iblk m c 2 ⟨0, h⟩) (iblk m c 3 ⟨0, h⟩) (iblk m c 4 ⟨0, h⟩) (iblk m c 5 ⟨0, h⟩) zeroL
  | n + 1, h => stepL (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (sumL c n (Nat.lt_of_succ_lt h))

/-- The gate's cotangent after point `n`. -/
def sumG (c : Dev nD) : (n : ℕ) → n < cfg0.N → FVec F S1x1024 .f32
  | 0, h => stepG (iblk m c 0 ⟨0, h⟩) (iblk m c 1 ⟨0, h⟩) (iblk m c 2 ⟨0, h⟩) (iblk m c 3 ⟨0, h⟩) (iblk m c 4 ⟨0, h⟩) (iblk m c 5 ⟨0, h⟩) zeroG
  | n + 1, h => stepG (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (sumG c n (Nat.lt_of_succ_lt h))

/-- The weight's cotangent after point `n`. -/
def sumW (c : Dev nD) : (n : ℕ) → n < cfg0.N → FVec F S1024x1024 .f32
  | 0, h => stepW (iblk m c 0 ⟨0, h⟩) (iblk m c 1 ⟨0, h⟩) (iblk m c 2 ⟨0, h⟩) (iblk m c 3 ⟨0, h⟩) (iblk m c 4 ⟨0, h⟩) (iblk m c 5 ⟨0, h⟩) zeroW
  | n + 1, h => stepW (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (sumW c n (Nat.lt_of_succ_lt h))

/-- After every point the second result's buffer holds the point's cotangent of the result. -/
theorem outs7 (c : Dev nD) (t : Fin cfg0.N) : (outsAt0 m c t.val t.isLt).2.1
    = dy (iblk m c 0 t) (iblk m c 1 t) (iblk m c 2 t) (iblk m c 3 t) (iblk m c 4 t) (iblk m c 5 t) := by
  by_cases h0 : t.val % 8 = 0
  · rw [outsAt0_A m c t h0, out_A_7]
  · rw [outsAt0_B m c t h0, out_B_7]

/-- After every point the third result's buffer holds the point's cotangents of the inputs. -/
theorem outs8 (c : Dev nD) (t : Fin cfg0.N) : (outsAt0 m c t.val t.isLt).2.2.1
    = dcat (iblk m c 0 t) (iblk m c 1 t) (iblk m c 2 t) (iblk m c 3 t) (iblk m c 4 t) (iblk m c 5 t) := by
  by_cases h0 : t.val % 8 = 0
  · rw [outsAt0_A m c t h0, out_A_8]
  · rw [outsAt0_B m c t h0, out_B_8]

/-- After point `n` the first result's buffer holds the loss so far. -/
theorem outs6 (c : Dev nD) : ∀ (n : ℕ) (h : n < cfg0.N), (outsAt0 m c n h).1 = sumL m c n h
  | 0, h => by
    rw [outsAt0_A m c ⟨0, h⟩ rfl, out_A_6]
    rfl
  | n + 1, h => by
    have hN : cfg0.N = 8 := N_0
    rw [outsAt0_B m c ⟨n + 1, h⟩ (by dsimp only; omega), out_B_6]
    exact congrArg (stepL _ _ _ _ _ _) (outs6 c n _)

/-- After point `n` the fourth result's buffer holds the gate's cotangent so far. -/
theorem outs9 (c : Dev nD) : ∀ (n : ℕ) (h : n < cfg0.N), (outsAt0 m c n h).2.2.2.1 = sumG m c n h
  | 0, h => by
    rw [outsAt0_A m c ⟨0, h⟩ rfl, out_A_9]
    rfl
  | n + 1, h => by
    have hN : cfg0.N = 8 := N_0
    rw [outsAt0_B m c ⟨n + 1, h⟩ (by dsimp only; omega), out_B_9]
    exact congrArg (stepG _ _ _ _ _ _) (outs9 c n _)

/-- After point `n` the last result's buffer holds the weight's cotangent so far. -/
theorem outs10 (c : Dev nD) : ∀ (n : ℕ) (h : n < cfg0.N), (outsAt0 m c n h).2.2.2.2 = sumW m c n h
  | 0, h => by
    rw [outsAt0_A m c ⟨0, h⟩ rfl, out_A_10]
    rfl
  | n + 1, h => by
    have hN : cfg0.N = 8 := N_0
    rw [outsAt0_B m c ⟨n + 1, h⟩ (by dsimp only; omega), out_B_10]
    exact congrArg (stepW _ _ _ _ _ _) (outs10 c n _)

end Cert.OutKernelIdeal.Value

end
-- ==== Proof.OutInput.lean ====
/- What a grid point's input blocks of the output projection hold, entry by entry, of the program's arguments. -/
module

public import proofs.«01_k».proof.Proof.Gen.OutKernelIdeal.Value
public import proofs.«01_k».proof.Proof.Tiles
public import Idealize.ShloMosaic.Lib.StableHlo.ReadAt

@[expose] public section

noncomputable section

open Idealize.ShloMosaic Idealize.ShloMosaic.TcCoe Idealize.SL.Sem

namespace Cert.OutKernelIdeal.Value

open Cert.OutKernelIdeal Cert.OutKernelIdeal.Gen

variable (m : (ℓ : Loc nD τ sig) → Buf (Elt Ideal) ℓ)

theorem lt_N (t : Fin cfg0.N) : t.val < 8 := lt_of_lt_of_eq t.isLt N_0

/-- Point `t` as a tile. -/
abbrev tile (t : Fin cfg0.N) : Fin 8 := ⟨t.val, lt_N t⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel

/-- Entry `(p, l)` of point `t`'s block of the first input: row `p` of the tile, column `l`. -/
theorem iblk0_apply (c : Dev nD) (t : Fin cfg0.N) (p : Fin 512) (l : Fin 512) :
    (iblk m c 0 t : Vec Ideal S512x512 .f32) (ix2 p l) = m ((c : Thread nD τ).loc main_arg0) (ix2 (n0 := 4096) (n1 := 512) (Tiles.row (tile t) p) l) := by
  rw [← V_main_arg0 m c]
  unfold iblk
  rw [View.read_apply]
  show V m c main_arg0 _ = V m c main_arg0 _
  congr 1
  funext a
  apply Fin.ext
  match a with
  | ⟨0, _⟩ => show win0_0.index t 0 * 512 + 1 * p.val = 512 * t.val + p.val; rw [(index0 t).1]; omega
  | ⟨1, _⟩ => show win0_0.index t 1 * 512 + 1 * l.val = l.val; rw [(index0 t).2]; omega

/-- Entry `(p, l)` of point `t`'s block of the second input: row `p` of the tile, column `l`. -/
theorem iblk1_apply (c : Dev nD) (t : Fin cfg0.N) (p : Fin 512) (l : Fin 512) :
    (iblk m c 1 t : Vec Ideal S512x512 .f32) (ix2 p l) = m ((c : Thread nD τ).loc main_arg1) (ix2 (n0 := 4096) (n1 := 512) (Tiles.row (tile t) p) l) := by
  rw [← V_main_arg1 m c]
  unfold iblk
  rw [View.read_apply]
  show V m c main_arg1 _ = V m c main_arg1 _
  congr 1
  funext a
  apply Fin.ext
  match a with
  | ⟨0, _⟩ => show win0_1.index t 0 * 512 + 1 * p.val = 512 * t.val + p.val; rw [(index1 t).1]; omega
  | ⟨1, _⟩ => show win0_1.index t 1 * 512 + 1 * l.val = l.val; rw [(index1 t).2]; omega

/-- Entry `(p, l)` of point `t`'s block of the residual: row `p` of the tile, column `l`. -/
theorem iblk2_apply (c : Dev nD) (t : Fin cfg0.N) (p : Fin 512) (l : Fin 1024) :
    (iblk m c 2 t : Vec Ideal S512x1024 .f32) (ix2 p l) = m ((c : Thread nD τ).loc main_arg2) (ix2 (n0 := 4096) (n1 := 1024) (Tiles.row (tile t) p) l) := by
  rw [← V_main_arg2 m c]
  unfold iblk
  rw [View.read_apply]
  show V m c main_arg2 _ = V m c main_arg2 _
  congr 1
  funext a
  apply Fin.ext
  match a with
  | ⟨0, _⟩ => show win0_2.index t 0 * 512 + 1 * p.val = 512 * t.val + p.val; rw [(index2 t).1]; omega
  | ⟨1, _⟩ => show win0_2.index t 1 * 1024 + 1 * l.val = l.val; rw [(index2 t).2]; omega

/-- Entry `(p, l)` of point `t`'s block of the target: row `p` of the tile, column `l`. -/
theorem iblk3_apply (c : Dev nD) (t : Fin cfg0.N) (p : Fin 512) (l : Fin 1024) :
    (iblk m c 3 t : Vec Ideal S512x1024 .f32) (ix2 p l) = m ((c : Thread nD τ).loc main_arg3) (ix2 (n0 := 4096) (n1 := 1024) (Tiles.row (tile t) p) l) := by
  rw [← V_main_arg3 m c]
  unfold iblk
  rw [View.read_apply]
  show V m c main_arg3 _ = V m c main_arg3 _
  congr 1
  funext a
  apply Fin.ext
  match a with
  | ⟨0, _⟩ => show win0_3.index t 0 * 512 + 1 * p.val = 512 * t.val + p.val; rw [(index3 t).1]; omega
  | ⟨1, _⟩ => show win0_3.index t 1 * 1024 + 1 * l.val = l.val; rw [(index3 t).2]; omega

/-- The gate's block is the gate. -/
theorem iblk4_apply (c : Dev nD) (t : Fin cfg0.N) (z : Fin 1) (l : Fin 1024) :
    (iblk m c 4 t : Vec Ideal S1x1024 .f32) (ix2 z l) = m ((c : Thread nD τ).loc main_arg4) (ix2 (n0 := 1) (n1 := 1024) z l) := by
  rw [← V_main_arg4 m c]
  unfold iblk
  rw [View.read_apply]
  show V m c main_arg4 _ = V m c main_arg4 _
  congr 1
  funext a
  apply Fin.ext
  match a with
  | ⟨0, _⟩ => show win0_4.index t 0 * 1 + 1 * z.val = z.val; rw [(index4 t).1]; omega
  | ⟨1, _⟩ => show win0_4.index t 1 * 1024 + 1 * l.val = l.val; rw [(index4 t).2]; omega

/-- The host changes the weight's format, which over the extended reals changes nothing. -/
theorem V_weight (c : Dev nD) (k n : Fin 1024) :
    (V m c main_v0 : Vec Ideal S1024x1024 .bf16) (ix2 k n) = m ((c : Thread nD τ).loc main_arg5) (ix2 (n0 := 1024) (n1 := 1024) k n) := by
  unfold V
  after_reads_at

/-- The weight's block is the weight. -/
theorem iblk5_apply (c : Dev nD) (t : Fin cfg0.N) (k n : Fin 1024) :
    (iblk m c 5 t : Vec Ideal S1024x1024 .bf16) (ix2 k n) = m ((c : Thread nD τ).loc main_arg5) (ix2 (n0 := 1024) (n1 := 1024) k n) := by
  rw [← V_weight m c k n]
  unfold iblk
  rw [View.read_apply]
  show V m c main_v0 _ = V m c main_v0 _
  congr 1
  funext a
  apply Fin.ext
  match a with
  | ⟨0, _⟩ => show win0_5.index t 0 * 1024 + 1 * k.val = k.val; rw [(index5 t).1]; omega
  | ⟨1, _⟩ => show win0_5.index t 1 * 1024 + 1 * n.val = n.val; rw [(index5 t).2]; omega

end Cert.OutKernelIdeal.Value

end
-- ==== Proof.OutRead.lean ====
/- A block's values of the output projection over the extended reals, read at an entry: each is its namesake of `OutSpec`. -/
module

public import proofs.«01_k».proof.Proof.OutSpec
public import proofs.«01_k».proof.Proof.OutBlock

@[expose] public section

noncomputable section

namespace Cert.OutKernelIdeal.Block

open Cert.OutKernelIdeal Cert.OutKernelIdeal.Gen Idealize.ShloMosaic

/-- A block as a function of row and column. -/
abbrev fn {n0 n1 : ℕ} (x : (⟨2, ![n0, n1]⟩ : Shape).Idx → EReal) : Fin n0 → Fin n1 → EReal := fun p l => x (ix2 p l)

variable (x0 x1 : FVec Ideal S512x512 .f32) (x2 x3 : FVec Ideal S512x1024 .f32) (x4 : FVec Ideal S1x1024 .f32) (x5 : FVec Ideal S1024x1024 .bf16)

theorem half_apply {e : FTy} (h : Fin 2) (x : FVec Ideal S1024x1024 e) (k : Fin 512) (n : Fin 1024) :
    half h x (ix2 k n) = x (ix2 ⟨512 * h.val + k.val, by omega⟩ n) := by
  pointwise [half]

theorem mix_apply (p : Fin 512) (n : Fin 1024) : mix x0 x1 x5 (ix2 p n) = OutSpec.mix (fn x0) (fn x1) (fn x5) p n := by
  pointwise [mix, prod, low, half_apply, OutSpec.mix, OutSpec.lo, OutSpec.hi]

theorem err_apply (p : Fin 512) (n : Fin 1024) :
    err x0 x1 x2 x3 x4 x5 (ix2 p n) = OutSpec.err (fn x0) (fn x1) (fn x2) (fn x3) (fn x4 0) (fn x5) p n := by
  pointwise [err, mix_apply, OutSpec.err]

theorem part_eq : part x0 x1 x2 x3 x4 x5 = OutSpec.loss (fn x0) (fn x1) (fn x2) (fn x3) (fn x4 0) (fn x5) := by
  pointwise [part, err_apply, OutSpec.loss, OutSpec.rowLoss]

theorem dy_apply (p : Fin 512) (n : Fin 1024) :
    dy x0 x1 x2 x3 x4 x5 (ix2 p n) = OutSpec.dy (fn x0) (fn x1) (fn x2) (fn x3) (fn x4 0) (fn x5) p n := by
  pointwise [dy, err_apply, OutSpec.dy]

theorem dgate_apply (z : Fin 1) (n : Fin 1024) :
    dgate x0 x1 x2 x3 x4 x5 (ix2 z n) = OutSpec.dgate (fn x0) (fn x1) (fn x2) (fn x3) (fn x4 0) (fn x5) n := by
  pointwise [dgate, dy_apply, mix_apply, OutSpec.dgate]

theorem dmix_apply (p : Fin 512) (n : Fin 1024) :
    dmix x0 x1 x2 x3 x4 x5 (ix2 p n) = OutSpec.dmix (fn x0) (fn x1) (fn x2) (fn x3) (fn x4 0) (fn x5) p n := by
  pointwise [dmix, dy_apply, OutSpec.dmix]

theorem dcat_apply (p : Fin 512) (k : Fin 1024) :
    dcat x0 x1 x2 x3 x4 x5 (ix2 p k) = OutSpec.dcat (fn x0) (fn x1) (fn x2) (fn x3) (fn x4 0) (fn x5) p k := by
  pointwise [dcat, dmix_apply, OutSpec.dcat]

theorem dw_apply (h : Fin 2) (k : Fin 512) (n : Fin 1024) :
    dw x0 x1 x2 x3 x4 x5 h (ix2 k n) = OutSpec.dw (fn x0) (fn x1) (fn x2) (fn x3) (fn x4 0) (fn x5) h k n := by
  match h with
  | 0 => pointwise [dw, low, dmix_apply, OutSpec.dw]
  | 1 => pointwise [dw, low, dmix_apply, OutSpec.dw]

theorem stepL_apply (z : FVec Ideal S8x128 .f32) (j : S8x128.Idx) :
    stepL x0 x1 x2 x3 x4 x5 z j = z j + OutSpec.loss (fn x0) (fn x1) (fn x2) (fn x3) (fn x4 0) (fn x5) := by
  unfold stepL
  rw [shapeCast_self, ← part_eq]
  rfl

theorem stepG_apply (z : FVec Ideal S1x1024 .f32) (u : Fin 1) (n : Fin 1024) :
    stepG x0 x1 x2 x3 x4 x5 z (ix2 u n) = z (ix2 u n) + OutSpec.dgate (fn x0) (fn x1) (fn x2) (fn x3) (fn x4 0) (fn x5) n := by
  unfold stepG
  rw [shapeCast_self, ← dgate_apply x0 x1 x2 x3 x4 x5 u n]
  rfl

theorem stepW_apply (z : FVec Ideal S1024x1024 .f32) (k n : Fin 1024) :
    stepW x0 x1 x2 x3 x4 x5 z (ix2 k n) = z (ix2 k n)
      + OutSpec.dw (fn x0) (fn x1) (fn x2) (fn x3) (fn x4 0) (fn x5) ⟨k.val / 512, by omega⟩ ⟨k.val % 512, by omega⟩ n := by
  show stepH x0 x1 x2 x3 x4 x5 ⟨k.val / 512, _⟩ z (ix2 ⟨k.val % 512, _⟩ n) = _
  unfold stepH
  rw [shapeCast_self, ← dw_apply x0 x1 x2 x3 x4 x5]
  show half _ z _ + _ = _
  rw [half_apply]
  refine congrArg (fun r => z (ix2 r n) + _) (Fin.ext ?_)
  show 512 * (k.val / 512) + k.val % 512 = k.val
  omega

end Cert.OutKernelIdeal.Block

end
-- ==== Proof.OutFinal.lean ====
/- The output projection's run, read: the five result arrays entry by entry over the extended reals, and the arguments unchanged. -/
module

public import proofs.«01_k».proof.Proof.OutAcc
public import proofs.«01_k».proof.Proof.OutInput
public import proofs.«01_k».proof.Proof.OutRead

@[expose] public section

noncomputable section

open Idealize.ShloMosaic Idealize.ShloMosaic.TcCoe Idealize.SL.Sem
open Idealize.ShloMosaic.Pipeline (Dat)

namespace Cert.OutKernelIdeal.Value

open Cert.OutKernelIdeal Cert.OutKernelIdeal.Gen Cert.OutKernelIdeal.Block

variable (m : (ℓ : Loc nD τ sig) → Buf (Elt Ideal) ℓ) (ρ : Dev nD → PrngReg) (c : Dev nD)

/-- The arguments as functions of row and column. -/
abbrev argA : Fin 4096 → Fin 512 → EReal := fun r k => m ((c : Thread nD τ).loc main_arg0) (ix2 (n0 := 4096) (n1 := 512) r k)
abbrev argB : Fin 4096 → Fin 512 → EReal := fun r k => m ((c : Thread nD τ).loc main_arg1) (ix2 (n0 := 4096) (n1 := 512) r k)
abbrev argX : Fin 4096 → Fin 1024 → EReal := fun r n => m ((c : Thread nD τ).loc main_arg2) (ix2 (n0 := 4096) (n1 := 1024) r n)
abbrev argT : Fin 4096 → Fin 1024 → EReal := fun r n => m ((c : Thread nD τ).loc main_arg3) (ix2 (n0 := 4096) (n1 := 1024) r n)
abbrev argG : Fin 1024 → EReal := fun n => m ((c : Thread nD τ).loc main_arg4) (ix2 (n0 := 1) (n1 := 1024) 0 n)
abbrev argW : Fin 1024 → Fin 1024 → EReal := fun k n => m ((c : Thread nD τ).loc main_arg5) (ix2 (n0 := 1024) (n1 := 1024) k n)

section

variable (t : Fin cfg0.N)

theorem fn0 : fn (iblk m c 0 t : Vec Ideal S512x512 .f32) = fun p => argA m c (Tiles.row (tile t) p) := funext fun p => funext fun l => iblk0_apply m c t p l
theorem fn1 : fn (iblk m c 1 t : Vec Ideal S512x512 .f32) = fun p => argB m c (Tiles.row (tile t) p) := funext fun p => funext fun l => iblk1_apply m c t p l
theorem fn2 : fn (iblk m c 2 t : Vec Ideal S512x1024 .f32) = fun p => argX m c (Tiles.row (tile t) p) := funext fun p => funext fun l => iblk2_apply m c t p l
theorem fn3 : fn (iblk m c 3 t : Vec Ideal S512x1024 .f32) = fun p => argT m c (Tiles.row (tile t) p) := funext fun p => funext fun l => iblk3_apply m c t p l
theorem fn4 : fn (iblk m c 4 t : Vec Ideal S1x1024 .f32) 0 = argG m c := funext fun l => iblk4_apply m c t 0 l
theorem fn5 : fn (iblk m c 5 t : Vec Ideal S1024x1024 .bf16) = argW m c := funext fun k => funext fun n => iblk5_apply m c t k n

end

/-! ## The running sums are the sums over the tiles -/

theorem zeroL_apply (j : S8x128.Idx) : zeroL (F := Ideal) j = 0 := by pointwise [zeroL]
theorem zeroG_apply (j : S1x1024.Idx) : zeroG (F := Ideal) j = 0 := by pointwise [zeroG]
theorem zeroW_apply (j : S1024x1024.Idx) : zeroW (F := Ideal) j = 0 := by pointwise [zeroW]

/-- The rows of tile `t`. -/
abbrev onTile {α : Type} (t : Fin 8) (x : Fin 4096 → α) : Fin 512 → α := fun p => x (Tiles.row t p)

/-- The loss after the last point. -/
theorem sumL_last (h : 7 < cfg0.N) (j : S8x128.Idx) : sumL m c 7 h j
    = OutSpec.loss (argA m c) (argB m c) (argX m c) (argT m c) (argG m c) (argW m c) := by
  refine (Tiles.sum_points (N_0) 0 (fun t => OutSpec.loss (onTile t (argA m c)) (onTile t (argB m c)) (onTile t (argX m c)) (onTile t (argT m c)) (argG m c) (argW m c))
    (fun n h => sumL m c n h j) (fun h => ?_) (fun n h => ?_) h).trans ?_
  · simp only [sumL, stepL_apply, zeroL_apply, fn0, fn1, fn2, fn3, fn4, fn5]
  · simp only [sumL, stepL_apply, fn0, fn1, fn2, fn3, fn4, fn5]
  · rw [zero_add]
    unfold OutSpec.loss
    rw [Tiles.mul_sum _ (by rw [OutSpec.half_eq]; exact EReal.coe_nonneg.2 (by norm_num)) (by rw [OutSpec.half_eq]; exact EReal.coe_ne_top _)]
    exact congrArg (_ * ·) (Tiles.sum_rows (OutSpec.rowLoss (argA m c) (argB m c) (argX m c) (argT m c) (argG m c) (argW m c)))

/-- The gate's cotangent after the last point. -/
theorem sumG_last (h : 7 < cfg0.N) (z : Fin 1) (n : Fin 1024) : sumG m c 7 h (ix2 z n)
    = OutSpec.dgate (argA m c) (argB m c) (argX m c) (argT m c) (argG m c) (argW m c) n := by
  refine (Tiles.sum_points (N_0) 0 (fun t => OutSpec.dgate (onTile t (argA m c)) (onTile t (argB m c)) (onTile t (argX m c)) (onTile t (argT m c)) (argG m c) (argW m c) n)
    (fun k h => sumG m c k h (ix2 z n)) (fun h => ?_) (fun k h => ?_) h).trans ?_
  · simp only [sumG, stepG_apply, zeroG_apply, fn0, fn1, fn2, fn3, fn4, fn5]
  · simp only [sumG, stepG_apply, fn0, fn1, fn2, fn3, fn4, fn5]
  · rw [zero_add]
    exact Tiles.sum_rows fun r => OutSpec.dy (argA m c) (argB m c) (argX m c) (argT m c) (argG m c) (argW m c) r n * OutSpec.mix (argA m c) (argB m c) (argW m c) r n

/-- The weight's cotangent after the last point. -/
theorem sumW_last (h : 7 < cfg0.N) (k n : Fin 1024) : sumW m c 7 h (ix2 k n)
    = OutSpec.dw (argA m c) (argB m c) (argX m c) (argT m c) (argG m c) (argW m c) ⟨k.val / 512, by omega⟩ ⟨k.val % 512, by omega⟩ n := by
  refine (Tiles.sum_points (N_0) 0 (fun t => OutSpec.dw (onTile t (argA m c)) (onTile t (argB m c)) (onTile t (argX m c)) (onTile t (argT m c)) (argG m c) (argW m c)
      ⟨k.val / 512, by omega⟩ ⟨k.val % 512, by omega⟩ n)
    (fun l h => sumW m c l h (ix2 k n)) (fun h => ?_) (fun l h => ?_) h).trans ?_
  · simp only [sumW, stepW_apply, zeroW_apply, fn0, fn1, fn2, fn3, fn4, fn5]
  · simp only [sumW, stepW_apply, fn0, fn1, fn2, fn3, fn4, fn5]
  · rw [zero_add]
    have key : ∀ h k, ∑ t, OutSpec.dw (onTile t (argA m c)) (onTile t (argB m c)) (onTile t (argX m c)) (onTile t (argT m c)) (argG m c) (argW m c) h k n
        = OutSpec.dw (argA m c) (argB m c) (argX m c) (argT m c) (argG m c) (argW m c) h k n := fun h k => by
      match h with
      | 0 => exact Tiles.sum_rows fun r => argA m c r k * OutSpec.dmix (argA m c) (argB m c) (argX m c) (argT m c) (argG m c) (argW m c) r n
      | 1 => exact Tiles.sum_rows fun r => argB m c r k * OutSpec.dmix (argA m c) (argB m c) (argX m c) (argT m c) (argG m c) (argW m c) r n
    exact key _ _

/-! ## The result arrays -/

/-- The loss, the same in every entry. -/
def res6 : Buf (Elt Ideal) ((c : Thread nD τ).loc main_v1_0) := fun j : S8x128.Idx =>
  OutSpec.loss (argA m c) (argB m c) (argX m c) (argT m c) (argG m c) (argW m c)

/-- The cotangent of the result. -/
def res7 : Buf (Elt Ideal) ((c : Thread nD τ).loc main_v1_1) := fun j : S4096x1024.Idx =>
  OutSpec.dy (argA m c) (argB m c) (argX m c) (argT m c) (argG m c) (argW m c) (j 0) (j 1)

/-- The cotangents of the two inputs, side by side. -/
def res8 : Buf (Elt Ideal) ((c : Thread nD τ).loc main_v1_2) := fun j : S4096x1024.Idx =>
  OutSpec.dcat (argA m c) (argB m c) (argX m c) (argT m c) (argG m c) (argW m c) (j 0) (j 1)

/-- The gate's cotangent. -/
def res9 : Buf (Elt Ideal) ((c : Thread nD τ).loc main_v1_3) := fun j : S1x1024.Idx =>
  OutSpec.dgate (argA m c) (argB m c) (argX m c) (argT m c) (argG m c) (argW m c) (j 1)

/-- The weight's cotangent. -/
def res10 : Buf (Elt Ideal) ((c : Thread nD τ).loc main_v1_4) := fun j : S1024x1024.Idx =>
  OutSpec.dw (argA m c) (argB m c) (argX m c) (argT m c) (argG m c) (argW m c) ⟨(j 0).val / 512, Nat.div_lt_of_lt_mul (j 0).isLt⟩ ⟨(j 0).val % 512, Nat.mod_lt _ (by decide)⟩ (j 1)

theorem index6 : ∀ t : Fin cfg0.N, win0_6.index t 0 = 0 ∧ win0_6.index t 1 = 0 := by decide +kernel
theorem size6 : ∀ t : Fin cfg0.N, win0_6.xsize (grid0.coords t) 0 = 8 ∧ win0_6.xsize (grid0.coords t) 1 = 128 := by decide +kernel

theorem last6 (t : Fin cfg0.N) (h7 : t.val = 7) : ((outsAt0 m c t.val t.isLt).1 : S8x128.Idx → EReal) = res6 m c := by
  obtain ⟨n, h⟩ := t
  obtain rfl : n = 7 := h7
  funext j
  rw [outs6 m c 7 h]
  exact sumL_last m c h j

theorem flushed6_eq (t : Fin cfg0.N) (hf : (cfg0.win 6).flush t = true) :
    (dats m 0 c).flushed 6 t = ((cfg0.win 6).blk t).view.read (Elt Ideal) (res6 m c) := by
  have h7 : t.val = 7 := by have := (flush0_6 t).mp hf; have := lt_N t; omega
  rw [flushed6]
  funext j
  rw [View.read_apply]
  refine (congrFun (last6 m c t h7) j).trans ?_
  rfl

theorem cover6 (i : S8x128.Idx) (t : Fin cfg0.N) : i ∈ ((View.whole main_v1_0).slice (win0_6.rect t)).set := by
  rw [View.set_slice_whole, Rect.mem_set_unit]
  intro a
  have h0 : (i 0 : Nat) < 8 := (i 0).isLt
  have h1 : (i 1 : Nat) < 128 := (i 1).isLt
  match a with
  | ⟨0, _⟩ => show win0_6.index t 0 * 8 ≤ (i 0 : Nat) ∧ (i 0 : Nat) < win0_6.index t 0 * 8 + win0_6.xsize (grid0.coords t) 0
              rw [(index6 t).1, (size6 t).1]; omega
  | ⟨1, _⟩ => show win0_6.index t 1 * 128 ≤ (i 1 : Nat) ∧ (i 1 : Nat) < win0_6.index t 1 * 128 + win0_6.xsize (grid0.coords t) 1
              rw [(index6 t).2, (size6 t).2]; omega

theorem final6 : (dats m 0 c).arrAt 6 cfg0.N = res6 m c :=
  (dats m 0 c).arrAt_eq_of_cover 6 (res6 m c) (flushed6_eq m c) fun i =>
    ⟨⟨7, by rw [show cfg0.N = 8 from N_0]; decide⟩, (flush0_6 _).mpr rfl, cover6 i _⟩

theorem index7 : ∀ t : Fin cfg0.N, win0_7.index t 0 = t.val ∧ win0_7.index t 1 = 0 := by decide +kernel
theorem size7 : ∀ t : Fin cfg0.N, win0_7.xsize (grid0.coords t) 0 = 512 ∧ win0_7.xsize (grid0.coords t) 1 = 1024 := by decide +kernel

theorem block7_apply (t : Fin cfg0.N) (p : Fin 512) (l : Fin 1024) :
    dy (F := Ideal) (iblk m c 0 t) (iblk m c 1 t) (iblk m c 2 t) (iblk m c 3 t) (iblk m c 4 t) (iblk m c 5 t) (ix2 p l)
      = res7 m c (ix2 (n0 := 4096) (n1 := 1024) (Tiles.row (tile t) p) l) := by
  rw [dy_apply, fn0, fn1, fn2, fn3, fn4, fn5]
  rfl

theorem flushed7_eq (t : Fin cfg0.N) (hf : (cfg0.win 7).flush t = true) :
    (dats m 0 c).flushed 7 t = ((cfg0.win 7).blk t).view.read (Elt Ideal) (res7 m c) := by
  rw [flushed7, outs7]
  funext j
  rw [View.read_apply]
  refine (congrArg (dy (F := Ideal) _ _ _ _ _ _) (eq_ix2 (n0 := 512) (n1 := 1024) j)).trans ((block7_apply m c t (j 0) (j 1)).trans ?_)
  show res7 m c _ = res7 m c _
  congr 1
  funext a
  apply Fin.ext
  match a with
  | ⟨0, _⟩ => show 512 * t.val + (j 0).val = win0_7.index t 0 * 512 + 1 * (j 0).val; rw [(index7 t).1]; omega
  | ⟨1, _⟩ => show (j 1).val = win0_7.index t 1 * 1024 + 1 * (j 1).val; rw [(index7 t).2]; omega

theorem cover7 (i : S4096x1024.Idx) (t : Fin cfg0.N) (ht : t.val = (i 0).val / 512) : i ∈ ((View.whole main_v1_1).slice (win0_7.rect t)).set := by
  rw [View.set_slice_whole, Rect.mem_set_unit]
  intro a
  have h0 : (i 0 : Nat) < 4096 := (i 0).isLt
  have h1 : (i 1 : Nat) < 1024 := (i 1).isLt
  match a with
  | ⟨0, _⟩ => show win0_7.index t 0 * 512 ≤ (i 0 : Nat) ∧ (i 0 : Nat) < win0_7.index t 0 * 512 + win0_7.xsize (grid0.coords t) 0
              rw [(index7 t).1, (size7 t).1]; omega
  | ⟨1, _⟩ => show win0_7.index t 1 * 1024 ≤ (i 1 : Nat) ∧ (i 1 : Nat) < win0_7.index t 1 * 1024 + win0_7.xsize (grid0.coords t) 1
              rw [(index7 t).2, (size7 t).2]; omega

theorem final7 : (dats m 0 c).arrAt 7 cfg0.N = res7 m c :=
  (dats m 0 c).arrAt_eq_of_cover 7 (res7 m c) (flushed7_eq m c) fun i =>
    ⟨⟨((i : S4096x1024.Idx) 0).val / 512, by rw [show cfg0.N = 8 from N_0]; exact Nat.div_lt_of_lt_mul ((i : S4096x1024.Idx) 0).isLt⟩, flush0_7 _, cover7 i _ rfl⟩

theorem index8 : ∀ t : Fin cfg0.N, win0_8.index t 0 = t.val ∧ win0_8.index t 1 = 0 := by decide +kernel
theorem size8 : ∀ t : Fin cfg0.N, win0_8.xsize (grid0.coords t) 0 = 512 ∧ win0_8.xsize (grid0.coords t) 1 = 1024 := by decide +kernel

theorem block8_apply (t : Fin cfg0.N) (p : Fin 512) (l : Fin 1024) :
    dcat (F := Ideal) (iblk m c 0 t) (iblk m c 1 t) (iblk m c 2 t) (iblk m c 3 t) (iblk m c 4 t) (iblk m c 5 t) (ix2 p l)
      = res8 m c (ix2 (n0 := 4096) (n1 := 1024) (Tiles.row (tile t) p) l) := by
  rw [dcat_apply, fn0, fn1, fn2, fn3, fn4, fn5]
  rfl

theorem flushed8_eq (t : Fin cfg0.N) (hf : (cfg0.win 8).flush t = true) :
    (dats m 0 c).flushed 8 t = ((cfg0.win 8).blk t).view.read (Elt Ideal) (res8 m c) := by
  rw [flushed8, outs8]
  funext j
  rw [View.read_apply]
  refine (congrArg (dcat (F := Ideal) _ _ _ _ _ _) (eq_ix2 (n0 := 512) (n1 := 1024) j)).trans ((block8_apply m c t (j 0) (j 1)).trans ?_)
  show res8 m c _ = res8 m c _
  congr 1
  funext a
  apply Fin.ext
  match a with
  | ⟨0, _⟩ => show 512 * t.val + (j 0).val = win0_8.index t 0 * 512 + 1 * (j 0).val; rw [(index8 t).1]; omega
  | ⟨1, _⟩ => show (j 1).val = win0_8.index t 1 * 1024 + 1 * (j 1).val; rw [(index8 t).2]; omega

theorem cover8 (i : S4096x1024.Idx) (t : Fin cfg0.N) (ht : t.val = (i 0).val / 512) : i ∈ ((View.whole main_v1_2).slice (win0_8.rect t)).set := by
  rw [View.set_slice_whole, Rect.mem_set_unit]
  intro a
  have h0 : (i 0 : Nat) < 4096 := (i 0).isLt
  have h1 : (i 1 : Nat) < 1024 := (i 1).isLt
  match a with
  | ⟨0, _⟩ => show win0_8.index t 0 * 512 ≤ (i 0 : Nat) ∧ (i 0 : Nat) < win0_8.index t 0 * 512 + win0_8.xsize (grid0.coords t) 0
              rw [(index8 t).1, (size8 t).1]; omega
  | ⟨1, _⟩ => show win0_8.index t 1 * 1024 ≤ (i 1 : Nat) ∧ (i 1 : Nat) < win0_8.index t 1 * 1024 + win0_8.xsize (grid0.coords t) 1
              rw [(index8 t).2, (size8 t).2]; omega

theorem final8 : (dats m 0 c).arrAt 8 cfg0.N = res8 m c :=
  (dats m 0 c).arrAt_eq_of_cover 8 (res8 m c) (flushed8_eq m c) fun i =>
    ⟨⟨((i : S4096x1024.Idx) 0).val / 512, by rw [show cfg0.N = 8 from N_0]; exact Nat.div_lt_of_lt_mul ((i : S4096x1024.Idx) 0).isLt⟩, flush0_8 _, cover8 i _ rfl⟩

theorem index9 : ∀ t : Fin cfg0.N, win0_9.index t 0 = 0 ∧ win0_9.index t 1 = 0 := by decide +kernel
theorem size9 : ∀ t : Fin cfg0.N, win0_9.xsize (grid0.coords t) 0 = 1 ∧ win0_9.xsize (grid0.coords t) 1 = 1024 := by decide +kernel

theorem last9 (t : Fin cfg0.N) (h7 : t.val = 7) : ((outsAt0 m c t.val t.isLt).2.2.2.1 : S1x1024.Idx → EReal) = res9 m c := by
  obtain ⟨n, h⟩ := t
  obtain rfl : n = 7 := h7
  funext j
  rw [outs9 m c 7 h]
  rw [eq_ix2 (n0 := 1) (n1 := 1024) j]
  exact sumG_last m c h _ _

theorem flushed9_eq (t : Fin cfg0.N) (hf : (cfg0.win 9).flush t = true) :
    (dats m 0 c).flushed 9 t = ((cfg0.win 9).blk t).view.read (Elt Ideal) (res9 m c) := by
  have h7 : t.val = 7 := by have := (flush0_9 t).mp hf; have := lt_N t; omega
  rw [flushed9]
  funext j
  rw [View.read_apply]
  refine (congrFun (last9 m c t h7) j).trans ?_
  show res9 m c _ = res9 m c _
  congr 1
  funext a
  apply Fin.ext
  match a with
  | ⟨0, _⟩ => show (j 0).val = win0_9.index t 0 * 1 + 1 * (j 0).val; rw [(index9 t).1]; omega
  | ⟨1, _⟩ => show (j 1).val = win0_9.index t 1 * 1024 + 1 * (j 1).val; rw [(index9 t).2]; omega

theorem cover9 (i : S1x1024.Idx) (t : Fin cfg0.N) : i ∈ ((View.whole main_v1_3).slice (win0_9.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_9.index t 0 * 1 ≤ (i 0 : Nat) ∧ (i 0 : Nat) < win0_9.index t 0 * 1 + win0_9.xsize (grid0.coords t) 0
              rw [(index9 t).1, (size9 t).1]; omega
  | ⟨1, _⟩ => show win0_9.index t 1 * 1024 ≤ (i 1 : Nat) ∧ (i 1 : Nat) < win0_9.index t 1 * 1024 + win0_9.xsize (grid0.coords t) 1
              rw [(index9 t).2, (size9 t).2]; omega

theorem final9 : (dats m 0 c).arrAt 9 cfg0.N = res9 m c :=
  (dats m 0 c).arrAt_eq_of_cover 9 (res9 m c) (flushed9_eq m c) fun i =>
    ⟨⟨7, by rw [show cfg0.N = 8 from N_0]; decide⟩, (flush0_9 _).mpr rfl, cover9 i _⟩

theorem index10 : ∀ t : Fin cfg0.N, win0_10.index t 0 = 0 ∧ win0_10.index t 1 = 0 := by decide +kernel
theorem size10 : ∀ t : Fin cfg0.N, win0_10.xsize (grid0.coords t) 0 = 1024 ∧ win0_10.xsize (grid0.coords t) 1 = 1024 := by decide +kernel

theorem last10 (t : Fin cfg0.N) (h7 : t.val = 7) : ((outsAt0 m c t.val t.isLt).2.2.2.2 : S1024x1024.Idx → EReal) = res10 m c := by
  obtain ⟨n, h⟩ := t
  obtain rfl : n = 7 := h7
  funext j
  rw [outs10 m c 7 h]
  rw [eq_ix2 (n0 := 1024) (n1 := 1024) j]
  exact sumW_last m c h _ _

theorem flushed10_eq (t : Fin cfg0.N) (hf : (cfg0.win 10).flush t = true) :
    (dats m 0 c).flushed 10 t = ((cfg0.win 10).blk t).view.read (Elt Ideal) (res10 m c) := by
  have h7 : t.val = 7 := by have := (flush0_10 t).mp hf; have := lt_N t; omega
  rw [flushed10]
  funext j
  rw [View.read_apply]
  refine (congrFun (last10 m c t h7) j).trans ?_
  show res10 m c _ = res10 m c _
  congr 1
  funext a
  apply Fin.ext
  match a with
  | ⟨0, _⟩ => show (j 0).val = win0_10.index t 0 * 1024 + 1 * (j 0).val; rw [(index10 t).1]; omega
  | ⟨1, _⟩ => show (j 1).val = win0_10.index t 1 * 1024 + 1 * (j 1).val; rw [(index10 t).2]; omega

theorem cover10 (i : S1024x1024.Idx) (t : Fin cfg0.N) : i ∈ ((View.whole main_v1_4).slice (win0_10.rect t)).set := by
  rw [View.set_slice_whole, Rect.mem_set_unit]
  intro a
  have h0 : (i 0 : Nat) < 1024 := (i 0).isLt
  have h1 : (i 1 : Nat) < 1024 := (i 1).isLt
  match a with
  | ⟨0, _⟩ => show win0_10.index t 0 * 1024 ≤ (i 0 : Nat) ∧ (i 0 : Nat) < win0_10.index t 0 * 1024 + win0_10.xsize (grid0.coords t) 0
              rw [(index10 t).1, (size10 t).1]; omega
  | ⟨1, _⟩ => show win0_10.index t 1 * 1024 ≤ (i 1 : Nat) ∧ (i 1 : Nat) < win0_10.index t 1 * 1024 + win0_10.xsize (grid0.coords t) 1
              rw [(index10 t).2, (size10 t).2]; omega

theorem final10 : (dats m 0 c).arrAt 10 cfg0.N = res10 m c :=
  (dats m 0 c).arrAt_eq_of_cover 10 (res10 m c) (flushed10_eq m c) fun i =>
    ⟨⟨7, by rw [show cfg0.N = 8 from N_0]; decide⟩, (flush0_10 _).mpr rfl, cover10 i _⟩

/-- The run, read: the five result arrays, the arguments unchanged. -/
theorem run : θ_run defs (onTc (τ := τ) (main (F := Ideal))) ⟨m, fun _ => 0, ρ⟩ fun r => ∀ c : Dev nD,
      r.2.mem ((c : Thread nD τ).loc main_v1_0) = res6 m c
      ∧ r.2.mem ((c : Thread nD τ).loc main_v1_1) = res7 m c
      ∧ r.2.mem ((c : Thread nD τ).loc main_v1_2) = res8 m c
      ∧ r.2.mem ((c : Thread nD τ).loc main_v1_3) = res9 m c
      ∧ r.2.mem ((c : Thread nD τ).loc main_v1_4) = res10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (run_blocks m ρ)

end Cert.OutKernelIdeal.Value

end
-- ==== Proof.OutEquation.lean ====
/- The reference's run of the output projection read at the formulas of `OutSpec`, and the equation of the two programs. -/
module

public import proofs.«01_k».proof.Defs
public import proofs.«01_k».proof.Proof.OutEntry
public import proofs.«01_k».proof.Proof.OutFinal
public import Idealize.ShloMosaic.Adequacy
public import Idealize.ShloMosaic.Init

@[expose] public section

noncomputable section

open Idealize.ShloMosaic Idealize.ShloMosaic.TcCoe Idealize.SL.Sem

namespace Cert.OutReferenceIdeal.Entry

open Cert.OutReferenceIdeal Cert.OutReferenceIdeal.Gen Cert.OutReferenceIdeal.Read

section

variable (x0 x1 : S4096x512.Idx → EReal) (x2 x3 : S4096x1024.Idx → EReal) (x4 : S1x1024.Idx → EReal) (x5 : S1024x1024.Idx → EReal)

/-- The formulas as arrays. -/
abbrev arrL : S8x128.Idx → EReal := fun j => OutSpec.loss (fn x0) (fn x1) (fn x2) (fn x3) (fn x4 0) (fn x5)
abbrev arrY : S4096x1024.Idx → EReal := fun j => OutSpec.dy (fn x0) (fn x1) (fn x2) (fn x3) (fn x4 0) (fn x5) (j 0) (j 1)
abbrev arrC : S4096x1024.Idx → EReal := fun j => OutSpec.dcat (fn x0) (fn x1) (fn x2) (fn x3) (fn x4 0) (fn x5) (j 0) (j 1)
abbrev arrG : S1x1024.Idx → EReal := fun j => OutSpec.dgate (fn x0) (fn x1) (fn x2) (fn x3) (fn x4 0) (fn x5) (j 1)
abbrev arrW : S1024x1024.Idx → EReal := fun j => OutSpec.dw (fn x0) (fn x1) (fn x2) (fn x3) (fn x4 0) (fn x5)
  ⟨(j 0).val / 512, Nat.div_lt_of_lt_mul (j 0).isLt⟩ ⟨(j 0).val % 512, Nat.mod_lt _ (by decide)⟩ (j 1)

end

/-- The reference's run ends with the formulas' arrays of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v30) = arrL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v19) = arrY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v31) = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v24) = arrG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v26) = arrW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans ((val_main_v30_eq _ _ _ _ _ _).trans (funext fun j => v30_entry _ _ _ _ _ _ j)),
      (h c).2.1.trans ((val_main_v19_eq _ _ _ _ _ _).trans (funext fun j => by
        rw [eq_ix2 (n0 := 4096) (n1 := 1024) j]; exact v19_entry _ _ _ _ _ _ _ _)),
      (h c).2.2.1.trans ((val_main_v31_eq _ _ _ _ _ _).trans (funext fun j => by
        rw [eq_ix2 (n0 := 4096) (n1 := 1024) j]; exact v31_entry _ _ _ _ _ _ _ _)),
      (h c).2.2.2.1.trans ((val_main_v24_eq _ _ _ _ _ _).trans (funext fun j => by
        rw [eq_ix2 (n0 := 1) (n1 := 1024) j]; exact v24_entry _ _ _ _ _ _ _ _)),
      (h c).2.2.2.2.1.trans ((val_main_v26_eq _ _ _ _ _ _).trans (funext fun j => by
        rw [eq_ix2 (n0 := 1024) (n1 := 1024) j]; exact v26_entry _ _ _ _ _ _ _ _)),
      (h c).2.2.2.2.2⟩) (Cert.OutReferenceIdeal.Value.run m ρ)

end Cert.OutReferenceIdeal.Entry

namespace Cert.Proof

/-- From agreeing arguments the two programs of the output projection end with equal results. -/
theorem algebraic_out : Cert.algebraic_OutKernelIdeal_OutReferenceIdeal (hOutKernelIdeal := Cert.OutKernelIdeal.Gen.facts) (hOutReferenceIdeal := Cert.OutReferenceIdeal.Gen.facts) :=
  fun m ρ m' ρ' _ hag =>
    ⟨Cert.OutKernelIdeal.Value.res6 m, Cert.OutKernelIdeal.Value.res7 m, Cert.OutKernelIdeal.Value.res8 m, Cert.OutKernelIdeal.Value.res9 m,
      Cert.OutKernelIdeal.Value.res10 m, Cert.OutKernelIdeal.Value.run m ρ,
      (θ_run _ _ _).mono (fun _ h c => by
        obtain ⟨e0, e1, e2, e3, e4, e5⟩ := hag c
        obtain ⟨h0, h1, h2, h3, h4, h5⟩ := h c
        rw [e0, e1, e2, e3, e4, e5] at h0 h1 h2 h3 h4
        exact ⟨h0, h1, h2, h3, h4, h5⟩) (Cert.OutReferenceIdeal.Entry.run m' ρ')⟩

/-- The reference's run leaves the arguments as they are; it declares no semaphore. -/
theorem reference_frame_out : Cert.quiescent_OutReferenceIdeal (hOutReferenceIdeal := Cert.OutReferenceIdeal.Gen.facts) := fun m ρ _ =>
  (θ_run _ _ _).mono (fun r h => ⟨fun c => (h c).2.2.2.2.2, Idealize.ShloMosaic.sem_eq_zero_of_no_sems (by decide) r.2⟩) (Cert.OutReferenceIdeal.Value.run m ρ)

end Cert.Proof

end
-- ==== Proof.DwSpec.lean ====
/- The formulas of the gradient of the input projection's weight: what the kernel and the reference both compute, as functions of row and
   column.  The weight's 3584 columns are those of five groups side by side: 1536 of the small units, then 512 each of the
   queries, the keys, the values and the gates. -/
module

public import Idealize.ShloMosaic.Lib.Pointwise

@[expose] public section

noncomputable section

namespace Cert.DwSpec

open Idealize.ShloMosaic

/-- Column `l` of block `j` among all the columns. -/
def colW (j : Fin 4) (l : Fin 896) : Fin 3584 := ⟨896 * j.val + l.val, by omega⟩

section

variable {R : ℕ} (z : Fin R → Fin 1536 → EReal) (q k v b : Fin R → Fin 512 → EReal)

/-- The five groups side by side. -/
def cols (r : Fin R) (c : Fin 3584) : EReal :=
  if h : c.val < 1536 then z r ⟨c.val, h⟩
  else if h : c.val < 2048 then q r ⟨c.val - 1536, by omega⟩
  else if h : c.val < 2560 then k r ⟨c.val - 2048, by omega⟩
  else if h : c.val < 3072 then v r ⟨c.val - 2560, by omega⟩
  else b r ⟨c.val - 3072, by omega⟩

theorem cols_z (r : Fin R) (c : Fin 3584) (l : Fin 1536) (h : c.val = l.val) : cols z q k v b r c = z r l := by
  unfold cols
  rw [dif_pos (by omega)]
  exact congrArg (z r) (Fin.ext h)
theorem cols_q (r : Fin R) (c : Fin 3584) (l : Fin 512) (h : c.val = 1536 + l.val) : cols z q k v b r c = q r l := by
  unfold cols
  rw [dif_neg (by omega), dif_pos (by omega)]
  exact congrArg (q r) (Fin.ext (by show c.val - 1536 = l.val; omega))
theorem cols_k (r : Fin R) (c : Fin 3584) (l : Fin 512) (h : c.val = 2048 + l.val) : cols z q k v b r c = k r l := by
  unfold cols
  rw [dif_neg (by omega), dif_neg (by omega), dif_pos (by omega)]
  exact congrArg (k r) (Fin.ext (by show c.val - 2048 = l.val; omega))
theorem cols_v (r : Fin R) (c : Fin 3584) (l : Fin 512) (h : c.val = 2560 + l.val) : cols z q k v b r c = v r l := by
  unfold cols
  rw [dif_neg (by omega), dif_neg (by omega), dif_neg (by omega), dif_pos (by omega)]
  exact congrArg (v r) (Fin.ext (by show c.val - 2560 = l.val; omega))
theorem cols_b (r : Fin R) (c : Fin 3584) (l : Fin 512) (h : c.val = 3072 + l.val) : cols z q k v b r c = b r l := by
  unfold cols
  rw [dif_neg (by omega), dif_neg (by omega), dif_neg (by omega), dif_neg (by omega)]
  exact congrArg (b r) (Fin.ext (by show c.val - 3072 = l.val; omega))

/-- The keys' and the values' groups of the context side by side, with zero in the other columns. -/
def ctxCols (r : Fin R) (c : Fin 3584) : EReal :=
  if h : 2048 ≤ c.val ∧ c.val < 2560 then k r ⟨c.val - 2048, by omega⟩
  else if h : 2560 ≤ c.val ∧ c.val < 3072 then v r ⟨c.val - 2560, by omega⟩
  else 0

theorem ctxCols_k (r : Fin R) (c : Fin 3584) (l : Fin 512) (h : c.val = 2048 + l.val) : ctxCols k v r c = k r l := by
  unfold ctxCols
  rw [dif_pos (by omega)]
  exact congrArg (k r) (Fin.ext (by show c.val - 2048 = l.val; omega))
theorem ctxCols_v (r : Fin R) (c : Fin 3584) (l : Fin 512) (h : c.val = 2560 + l.val) : ctxCols k v r c = v r l := by
  unfold ctxCols
  rw [dif_neg (by omega), dif_pos (by omega)]
  exact congrArg (v r) (Fin.ext (by show c.val - 2560 = l.val; omega))
theorem ctxCols_zero (r : Fin R) (c : Fin 3584) (h : c.val < 2048 ∨ 3072 ≤ c.val) : ctxCols k v r c = 0 := by
  unfold ctxCols
  rw [dif_neg (by omega), dif_neg (by omega)]

end

/-- The cotangent of the weight's entry at row `n` and column `c`, of the rows `h` and the cotangents `d` of their products. -/
def part {R : ℕ} (h : Fin R → Fin 1024 → EReal) (d : Fin R → Fin 3584 → EReal) (n : Fin 1024) (c : Fin 3584) : EReal := ∑ r, h r n * d r c

theorem part_ctx_zero {R : ℕ} (h : Fin R → Fin 1024 → EReal) (k v : Fin R → Fin 512 → EReal) (n : Fin 1024) (c : Fin 3584)
    (hc : c.val < 2048 ∨ 3072 ≤ c.val) : part h (ctxCols k v) n c = 0 := by
  unfold part
  refine Finset.sum_eq_zero fun r _ => ?_
  rw [ctxCols_zero k v r c hc, mul_zero]

/-- The cotangent of the weight: the context's part and the rows' part. -/
def dw (h : Fin 4096 → Fin 1024 → EReal) (z : Fin 4096 → Fin 1536 → EReal) (q k v b : Fin 4096 → Fin 512 → EReal)
    (hc : Fin 256 → Fin 1024 → EReal) (dk dv : Fin 256 → Fin 512 → EReal) (n : Fin 1024) (c : Fin 3584) : EReal :=
  part hc (ctxCols dk dv) n c + part h (cols z q k v b) n c

end Cert.DwSpec

end
-- ==== Proof.DwBlock.lean ====
/- What one grid point of the gradient of the input projection's weight adds to each piece of the result, read at an entry: a block of 256 rows. -/
module

public import proofs.«01_k».proof.Proof.DwSpec
public import proofs.«01_k».proof.Proof.Gen.DwKernelIdeal.Frame
public import Idealize.ShloMosaic.Lib.Pointwise.Index

@[expose] public section

noncomputable section

namespace Cert.DwKernelIdeal.Block

open Cert.DwKernelIdeal Cert.DwKernelIdeal.Gen Idealize.ShloMosaic

/-- A block as a function of row and column. -/
abbrev fn {n0 n1 : ℕ} (x : (⟨2, ![n0, n1]⟩ : Shape).Idx → EReal) : Fin n0 → Fin n1 → EReal := fun p l => x (ix2 p l)

/-! ## Each store's payload at an entry -/

section

variable (h : FVec Ideal S256x1024 .bf16)

theorem pay11_apply (a : FVec Ideal S1x1024x896 .f32) (d : FVec Ideal S256x896 .bf16) (n : Fin 1024) (l : Fin 896) :
    k0_pay11 (F := Ideal) h a d (ix3 0 n l) = a (ix3 0 n l) + ∑ r : Fin 256, h (ix2 r n) * d (ix2 r l) := by
  pointwise [k0_pay11, k0_pay10]
theorem pay12_apply (a : FVec Ideal S1x1024x640 .f32) (d : FVec Ideal S256x640 .bf16) (n : Fin 1024) (l : Fin 640) :
    k0_pay12 (F := Ideal) h a d (ix3 0 n l) = a (ix3 0 n l) + ∑ r : Fin 256, h (ix2 r n) * d (ix2 r l) := by
  pointwise [k0_pay12, k0_pay10]
theorem pay13_apply (a : FVec Ideal S1x1024x256 .f32) (d : FVec Ideal S256x256 .bf16) (n : Fin 1024) (l : Fin 256) :
    k0_pay14 (F := Ideal) (k0_pay13 h a d) (ix3 0 n l) = a (ix3 0 n l) + ∑ r : Fin 256, h (ix2 r n) * d (ix2 r l) := by
  pointwise [k0_pay14, k0_pay13, k0_pay10]
theorem pay15_apply (a : FVec Ideal S1x1024x256 .f32) (d : FVec Ideal S256x256 .bf16) (n : Fin 1024) (l : Fin 256) :
    k0_pay15 (F := Ideal) (k0_pay10 h) a d (ix3 0 n l) = a (ix3 0 n l) + ∑ r : Fin 256, h (ix2 r n) * d (ix2 r l) := by
  pointwise [k0_pay15, k0_pay10]
theorem pay16_apply (a : FVec Ideal S1x1024x512 .f32) (d : FVec Ideal S256x512 .bf16) (n : Fin 1024) (l : Fin 512) :
    k0_pay16 (F := Ideal) (k0_pay10 h) a d (ix3 0 n l) = a (ix3 0 n l) + ∑ r : Fin 256, h (ix2 r n) * d (ix2 r l) := by
  pointwise [k0_pay16, k0_pay10]
theorem pay17_apply (a : FVec Ideal S1x1024x128 .f32) (d : FVec Ideal S256x128 .bf16) (n : Fin 1024) (l : Fin 128) :
    k0_pay17 (F := Ideal) (k0_pay10 h) a d (ix3 0 n l) = a (ix3 0 n l) + ∑ r : Fin 256, h (ix2 r n) * d (ix2 r l) := by
  pointwise [k0_pay17, k0_pay10]
theorem pay1_apply (a : FVec Ideal S1x1024x384 .f32) (d : FVec Ideal S256x384 .bf16) (n : Fin 1024) (l : Fin 384) :
    k0_pay1 (F := Ideal) (k0_pay10 h) a d (ix3 0 n l) = a (ix3 0 n l) + ∑ r : Fin 256, h (ix2 r n) * d (ix2 r l) := by
  pointwise [k0_pay1, k0_pay10]
theorem pay2_apply (a : FVec Ideal S1x1024x512 .f32) (d : FVec Ideal S256x512 .bf16) (n : Fin 1024) (l : Fin 512) :
    k0_pay2 (F := Ideal) (k0_pay10 h) a d (ix3 0 n l) = a (ix3 0 n l) + ∑ r : Fin 256, h (ix2 r n) * d (ix2 r l) := by
  pointwise [k0_pay2, k0_pay10]
theorem pay5_apply (a : FVec Ideal S1x1024x512 .f32) (d : FVec Ideal S256x512 .f32) (n : Fin 1024) (l : Fin 512) :
    k0_pay5 (F := Ideal) h a d (ix3 0 n l) = a (ix3 0 n l) + ∑ r : Fin 256, h (ix2 r n) * d (ix2 r l) := by
  pointwise [k0_pay5, k0_pay4]
theorem pay6_apply (a : FVec Ideal S1x1024x128 .f32) (d : FVec Ideal S256x128 .f32) (n : Fin 1024) (l : Fin 128) :
    k0_pay6 (F := Ideal) h a d (ix3 0 n l) = a (ix3 0 n l) + ∑ r : Fin 256, h (ix2 r n) * d (ix2 r l) := by
  pointwise [k0_pay6, k0_pay4]
theorem pay9_apply (a : FVec Ideal S1x1024x384 .f32) (d : FVec Ideal S256x384 .f32) (n : Fin 1024) (l : Fin 384) :
    k0_pay9 (F := Ideal) (k0_pay7 a) (k0_pay8 h d) (ix3 0 n l) = a (ix3 0 n l) + ∑ r : Fin 256, h (ix2 r n) * d (ix2 r l) := by
  pointwise [k0_pay9, k0_pay7, k0_pay8, k0_pay4]
theorem pay3_apply (y : S4x1024x896.Idx) : k0_pay3 (F := Ideal) y = 0 := by
  show Ideal.ofBits .f32 0x00000000#32 = 0
  exact Ideal.ofBits_zero_f32

end

end Cert.DwKernelIdeal.Block

end
-- ==== Proof.DwCases.lean ====
/- Each case of the body of the gradient of the input projection's weight (the first grid point, the others) leaves in the result's
   buffer the block's value: the stores found by the generated run, read back.  Each store adds a product to one piece of the buffer. -/
module

public import proofs.«01_k».proof.Proof.Gen.DwKernelIdeal.Value
public import proofs.«01_k».proof.Proof.DwBlock
public import Idealize.ShloMosaic.Lib.Tactic
public import Idealize.ShloMosaic.Lib.Pipeline.ValueKit.Acc
public import Idealize.ShloMosaic.Lib.Pipeline.ReadBack

@[expose] public section

set_option maxRecDepth 16384

noncomputable section

open Idealize.ShloMosaic Idealize.ShloMosaic.TcCoe Idealize.SL.Sem

namespace Cert.DwKernelIdeal.Value

open Cert.DwKernelIdeal Cert.DwKernelIdeal.Gen Cert.DwKernelIdeal.Block

theorem hz2 : ∀ a : Fin 2, (![0, 0] : Fin 2 → Nat) a = 0 := by decide
theorem hz3 : ∀ a : Fin 3, (![0, 0, 0] : Fin 3 → Nat) a = 0 := by decide

/-! ## A store that adds to one piece -/

/-- The rectangle of columns `l0` to `l0 + w` of block `j`. -/
abbrev rect (j l0 w : ℕ) (inb : ∀ a : Fin 3, (![j, 0, l0] : Fin 3 → ℕ) a + (![1, 1024, w] : Fin 3 → ℕ) a ≤ S4x1024x896.size a) : Rect S4x1024x896 :=
  Rect.unit (s := S4x1024x896) ![j, 0, l0] ![1, 1024, w] inb

/-- A buffer with the entries of a function added in one piece. -/
def addOn (j l0 w : ℕ) (P : Fin 1024 → Fin 3584 → EReal) (X : S4x1024x896.Idx → EReal) : S4x1024x896.Idx → EReal := fun y =>
  X y + if (y 0).val = j ∧ l0 ≤ (y 2).val ∧ (y 2).val < l0 + w then P (y 1) (DwSpec.colW (y 0) (y 2)) else 0

/-- What a store holds, read at any entry of its rectangle. -/
theorem piece_apply (j l0 w : ℕ) (inb) (P : Fin 1024 → Fin 3584 → EReal) (X : S4x1024x896.Idx → EReal) (p : (rect j l0 w inb).shape.Idx → EReal)
    (hp : ∀ (n : Fin 1024) (l : Fin w) (c : Fin 3584), c.val = 896 * j + (l0 + l.val) →
      p (ix3 (n0 := 1) 0 n l) = X ((rect j l0 w inb).emb (ix3 (n0 := 1) 0 n l)) + P n c) (x : (rect j l0 w inb).shape.Idx) :
    p x = X ((rect j l0 w inb).emb x) + P ((rect j l0 w inb).emb x 1) (DwSpec.colW ((rect j l0 w inb).emb x 0) ((rect j l0 w inb).emb x 2)) := by
  have hx : x = ix3 (n0 := 1) (n1 := 1024) (n2 := w) 0 (x 1) (x 2) := by
    refine (eq_ix3 (n0 := 1) (n1 := 1024) (n2 := w) x).trans ?_
    exact congrArg (fun a : Fin 1 => ix3 (n0 := 1) (n1 := 1024) (n2 := w) a (x 1) (x 2)) (Subsingleton.elim _ _)
  have h0 : (x 0).val = 0 := by have h : (x 0).val < 1 := (x 0).isLt; omega
  have e1 : ((rect j l0 w inb).emb x 1 : Fin 1024) = x 1 := Fin.ext (by show 0 + 1 * (x 1).val = (x 1).val; omega)
  have key := hp (x 1) (x 2) (DwSpec.colW ((rect j l0 w inb).emb x 0) ((rect j l0 w inb).emb x 2))
    (by show 896 * (j + 1 * (x 0).val) + (l0 + 1 * (x 2).val) = 896 * j + (l0 + (x 2).val); omega)
  rw [← hx] at key
  rw [key, e1]

/-- The buffer after a store that adds a function to one piece. -/
theorem canon_step (j l0 w : ℕ) (inb) (P : Fin 1024 → Fin 3584 → EReal) (X : S4x1024x896.Idx → EReal) (p : (rect j l0 w inb).shape.Idx → EReal)
    (L : List (View.Piece (Elt Ideal) S4x1024x896 .f32)) (hX : View.canon L = X)
    (hp : ∀ (n : Fin 1024) (l : Fin w) (c : Fin 3584), c.val = 896 * j + (l0 + l.val) →
      p (ix3 (n0 := 1) 0 n l) = View.canon L ((rect j l0 w inb).emb (ix3 (n0 := 1) 0 n l)) + P n c) :
    View.canon ((⟨rect j l0 w inb, p⟩ : View.Piece (Elt Ideal) S4x1024x896 .f32) :: L) = addOn j l0 w P X := by
  subst hX
  funext y
  have hm : y ∈ (rect j l0 w inb).set ↔ ((y 0).val = j ∧ l0 ≤ (y 2).val ∧ (y 2).val < l0 + w) := by
    rw [Rect.mem_set_unit]
    refine ⟨fun h => ?_, fun h a => ?_⟩
    · have h0 : j ≤ (y 0).val ∧ (y 0).val < j + 1 := h 0
      have h2 : l0 ≤ (y 2).val ∧ (y 2).val < l0 + w := h 2
      omega
    · match a with
      | ⟨0, _⟩ => show j ≤ (y 0).val ∧ (y 0).val < j + 1; omega
      | ⟨1, _⟩ => show 0 ≤ (y 1).val ∧ (y 1).val < 0 + 1024; have h1 : (y 1).val < 1024 := (y 1).isLt; omega
      | ⟨2, _⟩ => show l0 ≤ (y 2).val ∧ (y 2).val < l0 + w; omega
  unfold addOn
  by_cases h : y ∈ (rect j l0 w inb).set
  · rw [if_pos (hm.mp h)]
    obtain ⟨x, rfl⟩ := (rect j l0 w inb).exists_idx_of_mem h
    refine (View.canon_cons_emb (rect j l0 w inb) p L x).trans ?_
    exact piece_apply j l0 w inb P (View.canon L) p hp x
  · rw [if_neg (fun h' => h (hm.mpr h'))]
    refine (View.canon_cons_of_not_mem (⟨rect j l0 w inb, p⟩ : View.Piece (Elt Ideal) S4x1024x896 .f32) L h).trans ?_
    exact (add_zero (M := EReal) (View.canon L y)).symm

/-- The eleven pieces' additions to zero: the context's part and the rows' part. -/
theorem addOn_all (M C : Fin 1024 → Fin 3584 → EReal) (hC : ∀ n (c : Fin 3584), c.val < 2048 ∨ 3072 ≤ c.val → C n c = 0) (Z : S4x1024x896.Idx → EReal)
    (hZ : ∀ y, Z y = 0) :
    addOn 3 384 512 M (addOn 3 0 384 M (addOn 2 768 128 M (addOn 2 256 512 M (addOn 2 0 256 M (addOn 1 640 256 M (addOn 1 0 640 M (addOn 0 0 896 M
      (addOn 3 0 384 C (addOn 2 768 128 C (addOn 2 256 512 C Z))))))))))
      = fun y => C (y 1) (DwSpec.colW (y 0) (y 2)) + M (y 1) (DwSpec.colW (y 0) (y 2)) := by
  funext y
  have h2 : (y 2).val < 896 := (y 2).isLt
  have h0 : (y 0).val < 4 := (y 0).isLt
  have hc := hC (y 1) (DwSpec.colW (y 0) (y 2))
  have hv : (DwSpec.colW (y 0) (y 2)).val = 896 * (y 0).val + (y 2).val := rfl
  rw [hv] at hc
  simp only [addOn, hZ]
  generalize M (y 1) (DwSpec.colW (y 0) (y 2)) = a at *
  generalize C (y 1) (DwSpec.colW (y 0) (y 2)) = b at *
  generalize (y 0).val = j at *
  generalize (y 2).val = l at *
  clear hv hC hZ
  have hj : j = 0 ∨ j = 1 ∨ j = 2 ∨ j = 3 := by omega
  rcases hj with rfl | rfl | rfl | rfl
  · rw [hc (by omega)]
    simp [h2]
  · rw [hc (by omega)]
    by_cases h : l < 640
    · simp [h, show ¬(640 ≤ l) by omega]
    · simp [h, show 640 ≤ l by omega, h2]
  · by_cases h : l < 256
    · rw [hc (by omega)]
      simp [h, show ¬(256 ≤ l) by omega, show ¬(768 ≤ l) by omega]
    · by_cases h' : l < 768
      · simp [h, h', show 256 ≤ l by omega, show ¬(768 ≤ l) by omega]
      · simp [h, h', show 768 ≤ l by omega, h2]
  · by_cases h : l < 384
    · simp [h, show ¬(384 ≤ l) by omega]
    · rw [hc (by omega)]
      simp [h, show 384 ≤ l by omega, h2]

/-! ## A group's columns among all the columns -/

section

variable (x1 : FVec Ideal S256x1536 .bf16) (x2 x3 x4 x5 : FVec Ideal S256x512 .bf16) (x7 x8 : FVec Ideal S256x512 .f32)

theorem ext2 {n0 n1 : ℕ} (x : (⟨2, ![n0, n1]⟩ : Shape).Idx → EReal) (i : (⟨2, ![n0, n1]⟩ : Shape).Idx) (r : Fin n0) (h : (i 0).val = r.val) :
    x i = fn x r (i 1) := by
  obtain rfl : i 0 = r := Fin.ext h
  exact congrArg x (eq_ix2 i)

theorem whole (x : FVec Ideal S256x1024 .bf16) (i : S256x1024.Idx) (r : Fin 256) (n : Fin 1024) (h : (i 0).val = r.val) (h1 : (i 1).val = n.val) :
    x i = fn x r n := by
  obtain rfl : i 1 = n := Fin.ext h1
  exact ext2 x i r h
theorem src_z (i : S256x1536.Idx) (r : Fin 256) (c : Fin 3584) (h : (i 0).val = r.val) (h1 : c.val = (i 1).val) :
    x1 i = DwSpec.cols (fn x1) (fn x2) (fn x3) (fn x4) (fn x5) r c := (ext2 x1 i r h).trans (DwSpec.cols_z _ _ _ _ _ r c (i 1) h1).symm
theorem src_q (i : S256x512.Idx) (r : Fin 256) (c : Fin 3584) (h : (i 0).val = r.val) (h1 : c.val = 1536 + (i 1).val) :
    x2 i = DwSpec.cols (fn x1) (fn x2) (fn x3) (fn x4) (fn x5) r c := (ext2 x2 i r h).trans (DwSpec.cols_q _ _ _ _ _ r c (i 1) h1).symm
theorem src_k (i : S256x512.Idx) (r : Fin 256) (c : Fin 3584) (h : (i 0).val = r.val) (h1 : c.val = 2048 + (i 1).val) :
    x3 i = DwSpec.cols (fn x1) (fn x2) (fn x3) (fn x4) (fn x5) r c := (ext2 x3 i r h).trans (DwSpec.cols_k _ _ _ _ _ r c (i 1) h1).symm
theorem src_v (i : S256x512.Idx) (r : Fin 256) (c : Fin 3584) (h : (i 0).val = r.val) (h1 : c.val = 2560 + (i 1).val) :
    x4 i = DwSpec.cols (fn x1) (fn x2) (fn x3) (fn x4) (fn x5) r c := (ext2 x4 i r h).trans (DwSpec.cols_v _ _ _ _ _ r c (i 1) h1).symm
theorem src_b (i : S256x512.Idx) (r : Fin 256) (c : Fin 3584) (h : (i 0).val = r.val) (h1 : c.val = 3072 + (i 1).val) :
    x5 i = DwSpec.cols (fn x1) (fn x2) (fn x3) (fn x4) (fn x5) r c := (ext2 x5 i r h).trans (DwSpec.cols_b _ _ _ _ _ r c (i 1) h1).symm
theorem ctx_k (i : S256x512.Idx) (r : Fin 256) (c : Fin 3584) (h : (i 0).val = r.val) (h1 : c.val = 2048 + (i 1).val) :
    x7 i = DwSpec.ctxCols (fn x7) (fn x8) r c := (ext2 x7 i r h).trans (DwSpec.ctxCols_k _ _ r c (i 1) h1).symm
theorem ctx_v (i : S256x512.Idx) (r : Fin 256) (c : Fin 3584) (h : (i 0).val = r.val) (h1 : c.val = 2560 + (i 1).val) :
    x8 i = DwSpec.ctxCols (fn x7) (fn x8) r c := (ext2 x8 i r h).trans (DwSpec.ctxCols_v _ _ r c (i 1) h1).symm

end

/-! ## The cases -/

variable (c : Dev nD) (i : grid0.Coords) (arg1 : Memref sig .tc .vmem S256x1024 .bf16) (harg1 : arg1.IsWhole) (arg2 : Memref sig .tc .vmem S256x1536 .bf16) (harg2 : arg2.IsWhole) (arg3 : Memref sig .tc .vmem S256x512 .bf16) (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .bf16) (harg6 : arg6.IsWhole) (arg7 : Memref sig .tc .vmem S256x1024 .bf16) (harg7 : arg7.IsWhole) (arg8 : Memref sig .tc .vmem S256x512 .f32) (harg8 : arg8.IsWhole)
  (arg9 : Memref sig .tc .vmem S256x512 .f32) (harg9 : arg9.IsWhole) (arg10 : Memref sig .tc .vmem S4x1024x896 .f32) (harg10 : arg10.IsWhole)
  (x0 : Vec Ideal S256x1024 .bf16) (x1 : Vec Ideal S256x1536 .bf16) (x2 x3 x4 x5 : Vec Ideal S256x512 .bf16) (x6 : Vec Ideal S256x1024 .bf16) (x7 x8 : Vec Ideal S256x512 .f32)

/-- The rows' part, of the block. -/
abbrev partM : Fin 1024 → Fin 3584 → EReal := DwSpec.part (fn x0) (DwSpec.cols (fn x1) (fn x2) (fn x3) (fn x4) (fn x5))
/-- The context's part. -/
abbrev partC : Fin 1024 → Fin 3584 → EReal := DwSpec.part (fn x6) (DwSpec.ctxCols (fn x7) (fn x8))

/-- The first grid point leaves the context's part and the block's part. -/
theorem out_A_9 (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 x6 x7 x8
      = fun y => partC x6 x7 x8 (y 1) (DwSpec.colW (y 0) (y 2)) + partM x0 x1 x2 x3 x4 x5 (y 1) (DwSpec.colW (y 0) (y 2)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6 x7 x8)]
  unfold kernelRun0_A
  dsimp only
  refine Eq.trans ?_ (addOn_all (partM x0 x1 x2 x3 x4 x5) (partC x6 x7 x8) (fun n k h => DwSpec.part_ctx_zero (fn x6) (fn x7) (fn x8) n k h)
    (k0_pay3 (F := Ideal)) pay3_apply)
  refine canon_step 3 384 512 _ (partM x0 x1 x2 x3 x4 x5) _ _ _ ?_ ?_
  rotate_left
  · intro n l k hk
    have hl := l.isLt
    unfold kernelRun0_A.sl.r_2 kernelRun0_A.sl.v61
    refine (pay2_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_b x1 x2 x3 x4 x5 _ r k (by show 0 + 1 * r.val = r.val; omega) (by show k.val = 3072 + (0 + 1 * l.val); omega)
  unfold kernelRun0_A.sl.H9_11
  refine canon_step 3 0 384 _ (partM x0 x1 x2 x3 x4 x5) _ _ _ ?_ ?_
  rotate_left
  · intro n l k hk
    have hl := l.isLt
    unfold kernelRun0_A.sl.r_2 kernelRun0_A.sl.v53
    refine (pay1_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_v x1 x2 x3 x4 x5 _ r k (by show 0 + 1 * r.val = r.val; omega) (by show k.val = 2560 + (128 + 1 * l.val); omega)
  unfold kernelRun0_A.sl.H9_10
  refine canon_step 2 768 128 _ (partM x0 x1 x2 x3 x4 x5) _ _ _ ?_ ?_
  rotate_left
  · intro n l k hk
    have hl := l.isLt
    unfold kernelRun0_A.sl.r_2 kernelRun0_A.sl.v45
    refine (pay17_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_v x1 x2 x3 x4 x5 _ r k (by show 0 + 1 * r.val = r.val; omega) (by show k.val = 2560 + (0 + 1 * l.val); omega)
  unfold kernelRun0_A.sl.H9_9
  refine canon_step 2 256 512 _ (partM x0 x1 x2 x3 x4 x5) _ _ _ ?_ ?_
  rotate_left
  · intro n l k hk
    have hl := l.isLt
    unfold kernelRun0_A.sl.r_2 kernelRun0_A.sl.v37
    refine (pay16_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_k x1 x2 x3 x4 x5 _ r k (by show 0 + 1 * r.val = r.val; omega) (by show k.val = 2048 + (0 + 1 * l.val); omega)
  unfold kernelRun0_A.sl.H9_8
  refine canon_step 2 0 256 _ (partM x0 x1 x2 x3 x4 x5) _ _ _ ?_ ?_
  rotate_left
  · intro n l k hk
    have hl := l.isLt
    unfold kernelRun0_A.sl.r_2 kernelRun0_A.sl.v29
    refine (pay15_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_q x1 x2 x3 x4 x5 _ r k (by show 0 + 1 * r.val = r.val; omega) (by show k.val = 1536 + (256 + 1 * l.val); omega)
  unfold kernelRun0_A.sl.H9_7
  refine canon_step 1 640 256 _ (partM x0 x1 x2 x3 x4 x5) _ _ _ ?_ ?_
  rotate_left
  · intro n l k hk
    have hl := l.isLt
    unfold kernelRun0_A.sl.r_3 kernelRun0_A.sl.v21
    refine (pay13_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_q x1 x2 x3 x4 x5 _ r k (by show 0 + 1 * r.val = r.val; omega) (by show k.val = 1536 + (0 + 1 * l.val); omega)
  unfold kernelRun0_A.sl.H9_6
  refine canon_step 1 0 640 _ (partM x0 x1 x2 x3 x4 x5) _ _ _ ?_ ?_
  rotate_left
  · intro n l k hk
    have hl := l.isLt
    unfold kernelRun0_A.sl.v13
    refine (pay12_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_z x1 x2 x3 x4 x5 _ r k (by show 0 + 1 * r.val = r.val; omega) (by show k.val = (896 + 1 * l.val); omega)
  unfold kernelRun0_A.sl.H9_5
  refine canon_step 0 0 896 _ (partM x0 x1 x2 x3 x4 x5) _ _ _ ?_ ?_
  rotate_left
  · intro n l k hk
    have hl := l.isLt
    unfold kernelRun0_A.sl.v5
    refine (pay11_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x0 _ r n (by show 0 + 1 * r.val = r.val; omega) (by show 0 + 1 * n.val = n.val; omega)) ?_)
    exact src_z x1 x2 x3 x4 x5 _ r k (by show 0 + 1 * r.val = r.val; omega) (by show k.val = (0 + 1 * l.val); omega)
  unfold kernelRun0_A.sl.H9_4
  refine canon_step 3 0 384 _ (partC x6 x7 x8) _ _ _ ?_ ?_
  rotate_left
  · intro n l k hk
    have hl := l.isLt
    unfold kernelRun0_A.sl.r kernelRun0_A.sl.r_1 kernelRun0_A.sl.v91
    refine (pay9_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x6 _ r n (by show 0 + 1 * r.val = r.val; omega) (by show 0 + 1 * n.val = n.val; omega)) ?_)
    exact ctx_v x7 x8 _ r k (by show 0 + 1 * r.val = r.val; omega) (by show k.val = 2560 + (128 + 1 * l.val); omega)
  unfold kernelRun0_A.sl.H9_3
  refine canon_step 2 768 128 _ (partC x6 x7 x8) _ _ _ ?_ ?_
  rotate_left
  · intro n l k hk
    have hl := l.isLt
    unfold kernelRun0_A.sl.v82
    refine (pay6_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x6 _ r n (by show 0 + 1 * r.val = r.val; omega) (by show 0 + 1 * n.val = n.val; omega)) ?_)
    exact ctx_v x7 x8 _ r k (by show 0 + 1 * r.val = r.val; omega) (by show k.val = 2560 + (0 + 1 * l.val); omega)
  unfold kernelRun0_A.sl.H9_2
  refine canon_step 2 256 512 _ (partC x6 x7 x8) _ _ _ ?_ ?_
  rotate_left
  · intro n l k hk
    have hl := l.isLt
    unfold kernelRun0_A.sl.v73
    refine (pay5_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (congrFun (View.readCov_eq_canon' _ _ _) _) (Finset.sum_congr rfl fun r _ => congrArg₂ (· * ·)
      (whole x6 _ r n (by show 0 + 1 * r.val = r.val; omega) (by show 0 + 1 * n.val = n.val; omega)) ?_)
    exact ctx_k x7 x8 _ r k (by show 0 + 1 * r.val = r.val; omega) (by show k.val = 2048 + (0 + 1 * l.val); omega)
  unfold kernelRun0_A.sl.H9_1
  exact View.canon_cons_unit_lit (S := S4x1024x896) _ _ _ hz3

/-- A later grid point adds the block's part. -/
theorem out_B_9 (hc0 : ¬cond0_0 i) (xo9 : Vec Ideal S4x1024x896 .f32) :
    out0_B_9 c i arg1 harg1 arg2 harg2 arg3 harg3 arg4 harg4 arg5 harg5 arg6 harg6 arg7 harg7 arg8 harg8 arg9 harg9 arg10 harg10 hc0 x0 x1 x2 x3 x4 x5 x6 x7 x8 xo9
      = fun y => xo9 y + partM x0 x1 x2 x3 x4 x5 (y 1) (DwSpec.colW (y 0) (y 2)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 x7 x8 xo9)]
  funext y
  have hcov := cover0_B_9 c i arg1 harg1 arg2 harg2 arg3 harg3 arg4 harg4 arg5 harg5 arg6 harg6 arg7 harg7 arg8 harg8 arg9 harg9 arg10 harg10 hc0 x0 x1 x2 x3 x4 x5 x6 x7 x8 xo9 y
  revert hcov
  unfold kernelRun0_B
  dsimp only
  intro hcov
  refine View.canon_append_of_piecesOf (fun y => xo9 y + partM x0 x1 x2 x3 x4 x5 (y 1) (DwSpec.colW (y 0) (y 2))) [] [_, _, _, _, _, _, _, _]
    ⟨?_, ?_, ?_, ?_, ?_, ?_, ?_, ?_, trivial⟩ y hcov
  · refine piece_apply 3 384 512 inb_S4x1024x896_S1x1024x512_3_0_384 (partM x0 x1 x2 x3 x4 x5) xo9 _ ?_
    intro n l k hk
    have hl := l.isLt
    unfold kernelRun0_B.sl.r kernelRun0_B.sl.v61
    refine (pay2_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_b x1 x2 x3 x4 x5 _ r k (by show 0 + 1 * r.val = r.val; omega) (by show k.val = 3072 + (0 + 1 * l.val); omega)
  · refine piece_apply 3 0 384 inb_S4x1024x896_S1x1024x384_3_0_0 (partM x0 x1 x2 x3 x4 x5) xo9 _ ?_
    intro n l k hk
    have hl := l.isLt
    unfold kernelRun0_B.sl.r kernelRun0_B.sl.v53
    refine (pay1_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_v x1 x2 x3 x4 x5 _ r k (by show 0 + 1 * r.val = r.val; omega) (by show k.val = 2560 + (128 + 1 * l.val); omega)
  · refine piece_apply 2 768 128 inb_S4x1024x896_S1x1024x128_2_0_768 (partM x0 x1 x2 x3 x4 x5) xo9 _ ?_
    intro n l k hk
    have hl := l.isLt
    unfold kernelRun0_B.sl.r kernelRun0_B.sl.v45
    refine (pay17_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_v x1 x2 x3 x4 x5 _ r k (by show 0 + 1 * r.val = r.val; omega) (by show k.val = 2560 + (0 + 1 * l.val); omega)
  · refine piece_apply 2 256 512 inb_S4x1024x896_S1x1024x512_2_0_256 (partM x0 x1 x2 x3 x4 x5) xo9 _ ?_
    intro n l k hk
    have hl := l.isLt
    unfold kernelRun0_B.sl.r kernelRun0_B.sl.v37
    refine (pay16_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_k x1 x2 x3 x4 x5 _ r k (by show 0 + 1 * r.val = r.val; omega) (by show k.val = 2048 + (0 + 1 * l.val); omega)
  · refine piece_apply 2 0 256 inb_S4x1024x896_S1x1024x256_2_0_0 (partM x0 x1 x2 x3 x4 x5) xo9 _ ?_
    intro n l k hk
    have hl := l.isLt
    unfold kernelRun0_B.sl.r kernelRun0_B.sl.v29
    refine (pay15_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_q x1 x2 x3 x4 x5 _ r k (by show 0 + 1 * r.val = r.val; omega) (by show k.val = 1536 + (256 + 1 * l.val); omega)
  · refine piece_apply 1 640 256 inb_S4x1024x896_S1x1024x256_1_0_640 (partM x0 x1 x2 x3 x4 x5) xo9 _ ?_
    intro n l k hk
    have hl := l.isLt
    unfold kernelRun0_B.sl.r_1 kernelRun0_B.sl.v21
    refine (pay13_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_q x1 x2 x3 x4 x5 _ r k (by show 0 + 1 * r.val = r.val; omega) (by show k.val = 1536 + (0 + 1 * l.val); omega)
  · refine piece_apply 1 0 640 inb_S4x1024x896_S1x1024x640_1_0_0 (partM x0 x1 x2 x3 x4 x5) xo9 _ ?_
    intro n l k hk
    have hl := l.isLt
    unfold kernelRun0_B.sl.v13
    refine (pay12_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_z x1 x2 x3 x4 x5 _ r k (by show 0 + 1 * r.val = r.val; omega) (by show k.val = (896 + 1 * l.val); omega)
  · refine piece_apply 0 0 896 inb_S4x1024x896_S1x1024x896_0_0_0 (partM x0 x1 x2 x3 x4 x5) xo9 _ ?_
    intro n l k hk
    have hl := l.isLt
    refine (pay11_apply _ _ _ n l).trans ?_
    simp only [View.readAt_eq_ld, harg1.read_unread, harg2.read_unread, harg3.read_unread, harg4.read_unread, harg5.read_unread, harg6.read_unread, harg7.read_unread, harg8.read_unread, harg9.read_unread, harg10.read_unread]
    refine congrArg₂ (· + ·) (rfl) (Finset.sum_congr rfl fun r _ => congrArg₂ (· * ·)
      (whole x0 _ r n (by show 0 + 1 * r.val = r.val; omega) (by show 0 + 1 * n.val = n.val; omega)) ?_)
    exact src_z x1 x2 x3 x4 x5 _ r k (by show 0 + 1 * r.val = r.val; omega) (by show k.val = (0 + 1 * l.val); omega)

end Cert.DwKernelIdeal.Value

end
-- ==== Proof.DwInput.lean ====
/- What a grid point's input blocks of the gradient of the input projection's weight hold, entry by entry, of the program's arguments,
   and sums over 4096 rows taken sixteen tiles of 256 rows at a time. -/
module

public import proofs.«01_k».proof.Proof.Gen.DwKernelIdeal.Value
public import Idealize.ShloMosaic.Lib.Pointwise

@[expose] public section

noncomputable section

open Idealize.ShloMosaic Idealize.ShloMosaic.TcCoe Idealize.SL.Sem

namespace Cert.DwTiles

/-- Row `p` of tile `t` among all the rows. -/
def row (t : Fin 16) (p : Fin 256) : Fin 4096 := ⟨256 * t.val + p.val, by omega⟩

/-- The sum over the tiles of the sums over a tile's rows is the sum over the rows. -/
theorem sum_rows (f : Fin 4096 → EReal) : ∑ t, ∑ p, f (row t p) = ∑ r, f r := by
  rw [← Fintype.sum_prod_type' (fun t p => f (row t p))]
  refine Finset.sum_bij' (fun i _ => row i.1 i.2) (fun r _ => (⟨r.val / 256, by omega⟩, ⟨r.val % 256, by omega⟩)) (fun _ _ => Finset.mem_univ _)
    (fun _ _ => Finset.mem_univ _) (fun i _ => ?_) (fun r _ => ?_) (fun _ _ => rfl)
  · obtain ⟨t, p⟩ := i
    refine Prod.ext (Fin.ext ?_) (Fin.ext ?_)
    · show (256 * t.val + p.val) / 256 = t.val; omega
    · show (256 * t.val + p.val) % 256 = p.val; omega
  · exact Fin.ext (by show 256 * (r.val / 256) + r.val % 256 = r.val; omega)

/-- A running sum from `z` that takes one term a point ends at `z` plus the sum over the sixteen points. -/
theorem sum_points {N : ℕ} (hN : N = 16) (z : EReal) (f : Fin 16 → EReal) (S : (n : ℕ) → n < N → EReal)
    (hz : ∀ h, S 0 h = z + f ⟨0, by omega⟩) (hs : ∀ n (h : n + 1 < N), S (n + 1) h = S n (Nat.lt_of_succ_lt h) + f ⟨n + 1, by omega⟩)
    (h : 15 < N) : S 15 h = z + ∑ t, f t := by
  have key : ∀ n (h : n < N), S n h = z + ∑ i ∈ Finset.range (n + 1), if h : i < 16 then f ⟨i, h⟩ else 0 := by
    intro n
    induction n with
    | zero =>
      intro h
      rw [hz, Finset.sum_range_succ, Finset.sum_range_zero, zero_add, dif_pos (by omega)]
    | succ n ih =>
      intro h
      rw [hs, ih, Finset.sum_range_succ _ (n + 1), dif_pos (by omega), add_assoc]
  rw [key 15 h, Finset.sum_range]
  exact congrArg (z + ·) (Finset.sum_congr rfl fun i _ => dif_pos i.isLt)

end Cert.DwTiles

namespace Cert.DwKernelIdeal.Value

open Cert.DwKernelIdeal Cert.DwKernelIdeal.Gen

variable (m : (ℓ : Loc nD τ sig) → Buf (Elt Ideal) ℓ)

theorem lt_N (t : Fin cfg0.N) : t.val < 16 := lt_of_lt_of_eq t.isLt N_0

/-- Point `t` as a tile. -/
abbrev tile (t : Fin cfg0.N) : Fin 16 := ⟨t.val, lt_N t⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel

/-- Entry `(p, l)` of point `t`'s block of the rows: row `p` of the tile, column `l`. -/
theorem iblk0_apply (c : Dev nD) (t : Fin cfg0.N) (p : Fin 256) (l : Fin 1024) :
    (iblk m c 0 t : Vec Ideal S256x1024 .bf16) (ix2 p l) = m ((c : Thread nD τ).loc main_arg0) (ix2 (n0 := 4096) (n1 := 1024) (DwTiles.row (tile t) p) l) := by
  rw [← V_main_arg0 m c]
  unfold iblk
  rw [View.read_apply]
  show V m c main_arg0 _ = V m c main_arg0 _
  congr 1
  funext a
  apply Fin.ext
  match a with
  | ⟨0, _⟩ => show win0_0.index t 0 * 256 + 1 * p.val = 256 * t.val + p.val; rw [(index0 t).1]; omega
  | ⟨1, _⟩ => show win0_0.index t 1 * 1024 + 1 * l.val = l.val; rw [(index0 t).2]; omega

/-- Entry `(p, l)` of point `t`'s block of the first group: row `p` of the tile, column `l`. -/
theorem iblk1_apply (c : Dev nD) (t : Fin cfg0.N) (p : Fin 256) (l : Fin 1536) :
    (iblk m c 1 t : Vec Ideal S256x1536 .bf16) (ix2 p l) = m ((c : Thread nD τ).loc main_arg1) (ix2 (n0 := 4096) (n1 := 1536) (DwTiles.row (tile t) p) l) := by
  rw [← V_main_arg1 m c]
  unfold iblk
  rw [View.read_apply]
  show V m c main_arg1 _ = V m c main_arg1 _
  congr 1
  funext a
  apply Fin.ext
  match a with
  | ⟨0, _⟩ => show win0_1.index t 0 * 256 + 1 * p.val = 256 * t.val + p.val; rw [(index1 t).1]; omega
  | ⟨1, _⟩ => show win0_1.index t 1 * 1536 + 1 * l.val = l.val; rw [(index1 t).2]; omega

/-- Entry `(p, l)` of point `t`'s block of the second group: row `p` of the tile, column `l`. -/
theorem iblk2_apply (c : Dev nD) (t : Fin cfg0.N) (p : Fin 256) (l : Fin 512) :
    (iblk m c 2 t : Vec Ideal S256x512 .bf16) (ix2 p l) = m ((c : Thread nD τ).loc main_arg2) (ix2 (n0 := 4096) (n1 := 512) (DwTiles.row (tile t) p) l) := by
  rw [← V_main_arg2 m c]
  unfold iblk
  rw [View.read_apply]
  show V m c main_arg2 _ = V m c main_arg2 _
  congr 1
  funext a
  apply Fin.ext
  match a with
  | ⟨0, _⟩ => show win0_2.index t 0 * 256 + 1 * p.val = 256 * t.val + p.val; rw [(index2 t).1]; omega
  | ⟨1, _⟩ => show win0_2.index t 1 * 512 + 1 * l.val = l.val; rw [(index2 t).2]; omega

/-- Entry `(p, l)` of point `t`'s block of the third group: row `p` of the tile, column `l`. -/
theorem iblk3_apply (c : Dev nD) (t : Fin cfg0.N) (p : Fin 256) (l : Fin 512) :
    (iblk m c 3 t : Vec Ideal S256x512 .bf16) (ix2 p l) = m ((c : Thread nD τ).loc main_arg3) (ix2 (n0 := 4096) (n1 := 512) (DwTiles.row (tile t) p) l) := by
  rw [← V_main_arg3 m c]
  unfold iblk
  rw [View.read_apply]
  show V m c main_arg3 _ = V m c main_arg3 _
  congr 1
  funext a
  apply Fin.ext
  match a with
  | ⟨0, _⟩ => show win0_3.index t 0 * 256 + 1 * p.val = 256 * t.val + p.val; rw [(index3 t).1]; omega
  | ⟨1, _⟩ => show win0_3.index t 1 * 512 + 1 * l.val = l.val; rw [(index3 t).2]; omega

/-- Entry `(p, l)` of point `t`'s block of the fourth group: row `p` of the tile, column `l`. -/
theorem iblk4_apply (c : Dev nD) (t : Fin cfg0.N) (p : Fin 256) (l : Fin 512) :
    (iblk m c 4 t : Vec Ideal S256x512 .bf16) (ix2 p l) = m ((c : Thread nD τ).loc main_arg4) (ix2 (n0 := 4096) (n1 := 512) (DwTiles.row (tile t) p) l) := by
  rw [← V_main_arg4 m c]
  unfold iblk
  rw [View.read_apply]
  show V m c main_arg4 _ = V m c main_arg4 _
  congr 1
  funext a
  apply Fin.ext
  match a with
  | ⟨0, _⟩ => show win0_4.index t 0 * 256 + 1 * p.val = 256 * t.val + p.val; rw [(index4 t).1]; omega
  | ⟨1, _⟩ => show win0_4.index t 1 * 512 + 1 * l.val = l.val; rw [(index4 t).2]; omega

/-- Entry `(p, l)` of point `t`'s block of the fifth group: row `p` of the tile, column `l`. -/
theorem iblk5_apply (c : Dev nD) (t : Fin cfg0.N) (p : Fin 256) (l : Fin 512) :
    (iblk m c 5 t : Vec Ideal S256x512 .bf16) (ix2 p l) = m ((c : Thread nD τ).loc main_arg5) (ix2 (n0 := 4096) (n1 := 512) (DwTiles.row (tile t) p) l) := by
  rw [← V_main_arg5 m c]
  unfold iblk
  rw [View.read_apply]
  show V m c main_arg5 _ = V m c main_arg5 _
  congr 1
  funext a
  apply Fin.ext
  match a with
  | ⟨0, _⟩ => show win0_5.index t 0 * 256 + 1 * p.val = 256 * t.val + p.val; rw [(index5 t).1]; omega
  | ⟨1, _⟩ => show win0_5.index t 1 * 512 + 1 * l.val = l.val; rw [(index5 t).2]; omega

/-- Every point's block of the context rows is the whole argument. -/
theorem iblk6_apply (c : Dev nD) (t : Fin cfg0.N) (p : Fin 256) (l : Fin 1024) :
    (iblk m c 6 t : Vec Ideal S256x1024 .bf16) (ix2 p l) = m ((c : Thread nD τ).loc main_arg6) (ix2 (n0 := 256) (n1 := 1024) p l) := by
  rw [← V_main_arg6 m c]
  unfold iblk
  rw [View.read_apply]
  show V m c main_arg6 _ = V m c main_arg6 _
  congr 1
  funext a
  apply Fin.ext
  match a with
  | ⟨0, _⟩ => show win0_6.index t 0 * 256 + 1 * p.val = p.val; rw [(index6 t).1]; omega
  | ⟨1, _⟩ => show win0_6.index t 1 * 1024 + 1 * l.val = l.val; rw [(index6 t).2]; omega

/-- Every point's block of the context keys' cotangent is the whole argument. -/
theorem iblk7_apply (c : Dev nD) (t : Fin cfg0.N) (p : Fin 256) (l : Fin 512) :
    (iblk m c 7 t : Vec Ideal S256x512 .f32) (ix2 p l) = m ((c : Thread nD τ).loc main_arg7) (ix2 (n0 := 256) (n1 := 512) p l) := by
  rw [← V_main_arg7 m c]
  unfold iblk
  rw [View.read_apply]
  show V m c main_arg7 _ = V m c main_arg7 _
  congr 1
  funext a
  apply Fin.ext
  match a with
  | ⟨0, _⟩ => show win0_7.index t 0 * 256 + 1 * p.val = p.val; rw [(index7 t).1]; omega
  | ⟨1, _⟩ => show win0_7.index t 1 * 512 + 1 * l.val = l.val; rw [(index7 t).2]; omega

/-- Every point's block of the context values' cotangent is the whole argument. -/
theorem iblk8_apply (c : Dev nD) (t : Fin cfg0.N) (p : Fin 256) (l : Fin 512) :
    (iblk m c 8 t : Vec Ideal S256x512 .f32) (ix2 p l) = m ((c : Thread nD τ).loc main_arg8) (ix2 (n0 := 256) (n1 := 512) p l) := by
  rw [← V_main_arg8 m c]
  unfold iblk
  rw [View.read_apply]
  show V m c main_arg8 _ = V m c main_arg8 _
  congr 1
  funext a
  apply Fin.ext
  match a with
  | ⟨0, _⟩ => show win0_8.index t 0 * 256 + 1 * p.val = p.val; rw [(index8 t).1]; omega
  | ⟨1, _⟩ => show win0_8.index t 1 * 512 + 1 * l.val = l.val; rw [(index8 t).2]; omega

end Cert.DwKernelIdeal.Value

end
-- ==== Proof.DwFinal.lean ====
/- The run of the gradient of the input projection's weight, read: the result array entry by entry over the extended reals, and the
   arguments unchanged. -/
module

public import proofs.«01_k».proof.Proof.DwCases
public import proofs.«01_k».proof.Proof.DwInput

@[expose] public section

noncomputable section

open Idealize.ShloMosaic Idealize.ShloMosaic.TcCoe Idealize.SL.Sem
open Idealize.ShloMosaic.Pipeline (Dat)

namespace Cert.DwKernelIdeal.Value

open Cert.DwKernelIdeal Cert.DwKernelIdeal.Gen Cert.DwKernelIdeal.Block

variable (m : (ℓ : Loc nD τ sig) → Buf (Elt Ideal) ℓ) (ρ : Dev nD → PrngReg) (c : Dev nD)

/-- The arguments as functions of row and column. -/
abbrev argH : Fin 4096 → Fin 1024 → EReal := fun r k => m ((c : Thread nD τ).loc main_arg0) (ix2 (n0 := 4096) (n1 := 1024) r k)
abbrev argZ : Fin 4096 → Fin 1536 → EReal := fun r k => m ((c : Thread nD τ).loc main_arg1) (ix2 (n0 := 4096) (n1 := 1536) r k)
abbrev argQ : Fin 4096 → Fin 512 → EReal := fun r k => m ((c : Thread nD τ).loc main_arg2) (ix2 (n0 := 4096) (n1 := 512) r k)
abbrev argK : Fin 4096 → Fin 512 → EReal := fun r k => m ((c : Thread nD τ).loc main_arg3) (ix2 (n0 := 4096) (n1 := 512) r k)
abbrev argV : Fin 4096 → Fin 512 → EReal := fun r k => m ((c : Thread nD τ).loc main_arg4) (ix2 (n0 := 4096) (n1 := 512) r k)
abbrev argB : Fin 4096 → Fin 512 → EReal := fun r k => m ((c : Thread nD τ).loc main_arg5) (ix2 (n0 := 4096) (n1 := 512) r k)
abbrev argC : Fin 256 → Fin 1024 → EReal := fun r k => m ((c : Thread nD τ).loc main_arg6) (ix2 (n0 := 256) (n1 := 1024) r k)
abbrev argDK : Fin 256 → Fin 512 → EReal := fun r k => m ((c : Thread nD τ).loc main_arg7) (ix2 (n0 := 256) (n1 := 512) r k)
abbrev argDV : Fin 256 → Fin 512 → EReal := fun r k => m ((c : Thread nD τ).loc main_arg8) (ix2 (n0 := 256) (n1 := 512) r k)

section

variable (t : Fin cfg0.N)

theorem fn0 : fn (iblk m c 0 t : Vec Ideal S256x1024 .bf16) = fun p => argH m c (DwTiles.row (tile t) p) := funext fun p => funext fun l => iblk0_apply m c t p l
theorem fn1 : fn (iblk m c 1 t : Vec Ideal S256x1536 .bf16) = fun p => argZ m c (DwTiles.row (tile t) p) := funext fun p => funext fun l => iblk1_apply m c t p l
theorem fn2 : fn (iblk m c 2 t : Vec Ideal S256x512 .bf16) = fun p => argQ m c (DwTiles.row (tile t) p) := funext fun p => funext fun l => iblk2_apply m c t p l
theorem fn3 : fn (iblk m c 3 t : Vec Ideal S256x512 .bf16) = fun p => argK m c (DwTiles.row (tile t) p) := funext fun p => funext fun l => iblk3_apply m c t p l
theorem fn4 : fn (iblk m c 4 t : Vec Ideal S256x512 .bf16) = fun p => argV m c (DwTiles.row (tile t) p) := funext fun p => funext fun l => iblk4_apply m c t p l
theorem fn5 : fn (iblk m c 5 t : Vec Ideal S256x512 .bf16) = fun p => argB m c (DwTiles.row (tile t) p) := funext fun p => funext fun l => iblk5_apply m c t p l
theorem fn6 : fn (iblk m c 6 t : Vec Ideal S256x1024 .bf16) = argC m c := funext fun p => funext fun l => iblk6_apply m c t p l
theorem fn7 : fn (iblk m c 7 t : Vec Ideal S256x512 .f32) = argDK m c := funext fun p => funext fun l => iblk7_apply m c t p l
theorem fn8 : fn (iblk m c 8 t : Vec Ideal S256x512 .f32) = argDV m c := funext fun p => funext fun l => iblk8_apply m c t p l

/-- The rows' part of tile `t`. -/
abbrev tilePart (t : Fin 16) : Fin 1024 → Fin 3584 → EReal :=
  DwSpec.part (fun p => argH m c (DwTiles.row t p)) fun p => DwSpec.cols (argZ m c) (argQ m c) (argK m c) (argV m c) (argB m c) (DwTiles.row t p)

theorem partM_eq : partM (iblk m c 0 t) (iblk m c 1 t) (iblk m c 2 t) (iblk m c 3 t) (iblk m c 4 t) (iblk m c 5 t) = tilePart m c (tile t) := by
  unfold partM
  rw [fn0, fn1, fn2, fn3, fn4, fn5]
  rfl

theorem partC_eq : partC (iblk m c 6 t) (iblk m c 7 t) (iblk m c 8 t) = DwSpec.part (argC m c) (DwSpec.ctxCols (argDK m c) (argDV m c)) := by
  unfold partC
  rw [fn6, fn7, fn8]

end

/-! ## The result array -/

/-- The weight's cotangent, in four blocks of 896 columns. -/
def res : Buf (Elt Ideal) ((c : Thread nD τ).loc main_v0) := fun j : S4x1024x896.Idx =>
  DwSpec.dw (argH m c) (argZ m c) (argQ m c) (argK m c) (argV m c) (argB m c) (argC m c) (argDK m c) (argDV m c) (j 1) (DwSpec.colW (j 0) (j 2))

/-- After the last point the result's buffer holds the weight's cotangent. -/
theorem outs_last (h : 15 < cfg0.N) (y : S4x1024x896.Idx) : (outsAt0 m c 15 h : S4x1024x896.Idx → EReal) y = res m c y := by
  refine (DwTiles.sum_points (N_0) (DwSpec.part (argC m c) (DwSpec.ctxCols (argDK m c) (argDV m c)) (y 1) (DwSpec.colW (y 0) (y 2)))
    (fun t => tilePart m c t (y 1) (DwSpec.colW (y 0) (y 2))) (fun k h => (outsAt0 m c k h : S4x1024x896.Idx → EReal) y) (fun h => ?_) (fun k h => ?_) h).trans ?_
  · show (outsAt0 m c 0 h : S4x1024x896.Idx → EReal) y = _
    rw [outsAt0_A m c ⟨0, h⟩ rfl, out_A_9]
    show partC _ _ _ _ _ + partM _ _ _ _ _ _ _ _ = _
    rw [partM_eq, partC_eq]
  · have hk : k + 1 < 16 := lt_N ⟨k + 1, h⟩
    show (outsAt0 m c (k + 1) h : S4x1024x896.Idx → EReal) y = _
    rw [outsAt0_B m c ⟨k + 1, h⟩ (by dsimp only; omega), out_B_9]
    show _ + partM _ _ _ _ _ _ _ _ = _
    rw [partM_eq]
    rfl
  · exact congrArg (DwSpec.part (argC m c) (DwSpec.ctxCols (argDK m c) (argDV m c)) (y 1) (DwSpec.colW (y 0) (y 2)) + ·)
      (DwTiles.sum_rows fun r => argH m c r (y 1) * DwSpec.cols (argZ m c) (argQ m c) (argK m c) (argV m c) (argB m c) r (DwSpec.colW (y 0) (y 2)))

theorem index9 : ∀ t : Fin cfg0.N, win0_9.index t 0 = 0 ∧ win0_9.index t 1 = 0 ∧ win0_9.index t 2 = 0 := by decide +kernel
theorem size9 : ∀ t : Fin cfg0.N, win0_9.xsize (grid0.coords t) 0 = 4 ∧ win0_9.xsize (grid0.coords t) 1 = 1024 ∧ win0_9.xsize (grid0.coords t) 2 = 896 := by
  decide +kernel

theorem last9 (t : Fin cfg0.N) (h15 : t.val = 15) : (outsAt0 m c t.val t.isLt : S4x1024x896.Idx → EReal) = res m c := by
  obtain ⟨n, h⟩ := t
  obtain rfl : n = 15 := h15
  exact funext fun y => outs_last m c h y

theorem flushed9_eq (t : Fin cfg0.N) (hf : (cfg0.win 9).flush t = true) :
    (dats m 0 c).flushed 9 t = ((cfg0.win 9).blk t).view.read (Elt Ideal) (res m c) := by
  have h15 : t.val = 15 := by have := (flush0_9 t).mp hf; have := lt_N t; omega
  rw [flushed9]
  funext j
  rw [View.read_apply]
  refine (congrFun (last9 m c t h15) j).trans ?_
  show res m c _ = res m c _
  congr 1
  funext a
  apply Fin.ext
  match a with
  | ⟨0, _⟩ => show (j 0).val = win0_9.index t 0 * 4 + 1 * (j 0).val; rw [(index9 t).1]; omega
  | ⟨1, _⟩ => show (j 1).val = win0_9.index t 1 * 1024 + 1 * (j 1).val; rw [(index9 t).2.1]; omega
  | ⟨2, _⟩ => show (j 2).val = win0_9.index t 2 * 896 + 1 * (j 2).val; rw [(index9 t).2.2]; omega

theorem cover9 (i : S4x1024x896.Idx) (t : Fin cfg0.N) : i ∈ ((View.whole main_v0).slice (win0_9.rect t)).set := by
  rw [View.set_slice_whole, Rect.mem_set_unit]
  intro a
  have h0 : (i 0 : Nat) < 4 := (i 0).isLt
  have h1 : (i 1 : Nat) < 1024 := (i 1).isLt
  have h2 : (i 2 : Nat) < 896 := (i 2).isLt
  match a with
  | ⟨0, _⟩ => show win0_9.index t 0 * 4 ≤ (i 0 : Nat) ∧ (i 0 : Nat) < win0_9.index t 0 * 4 + win0_9.xsize (grid0.coords t) 0
              rw [(index9 t).1, (size9 t).1]; omega
  | ⟨1, _⟩ => show win0_9.index t 1 * 1024 ≤ (i 1 : Nat) ∧ (i 1 : Nat) < win0_9.index t 1 * 1024 + win0_9.xsize (grid0.coords t) 1
              rw [(index9 t).2.1, (size9 t).2.1]; omega
  | ⟨2, _⟩ => show win0_9.index t 2 * 896 ≤ (i 2 : Nat) ∧ (i 2 : Nat) < win0_9.index t 2 * 896 + win0_9.xsize (grid0.coords t) 2
              rw [(index9 t).2.2, (size9 t).2.2]; omega

theorem final9 : (dats m 0 c).arrAt 9 cfg0.N = res m c :=
  (dats m 0 c).arrAt_eq_of_cover 9 (res m c) (flushed9_eq m c) fun i =>
    ⟨⟨15, by rw [show cfg0.N = 16 from N_0]; decide⟩, (flush0_9 _).mpr rfl, cover9 i _⟩

/-- The run, read: the result array, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2⟩) (run_blocks m ρ)

end Cert.DwKernelIdeal.Value

end
-- ==== Proof.DwEquation.lean ====
/- The reference of the gradient of the input projection's weight, read at an entry, and the equation of the two programs. -/
module

public import proofs.«01_k».proof.Defs
public import proofs.«01_k».proof.Proof.Gen.DwReferenceIdeal.Read
public import proofs.«01_k».proof.Proof.DwSpec
public import proofs.«01_k».proof.Proof.DwFinal
public import Idealize.ShloMosaic.Lib.KernelVsHost
public import Idealize.ShloMosaic.Adequacy
public import Idealize.ShloMosaic.Init

@[expose] public section

set_option maxHeartbeats 1000000

noncomputable section

open Idealize.ShloMosaic Idealize.ShloMosaic.TcCoe Idealize.SL.Sem

namespace Cert.DwReferenceIdeal.Entry

open Cert.DwReferenceIdeal Cert.DwReferenceIdeal.Gen Cert.DwReferenceIdeal.Read

/-- An array as a function of row and column. -/
abbrev fn {R C : ℕ} (x : Shape.Idx ⟨2, ![R, C]⟩ → EReal) : Fin R → Fin C → EReal := fun r c => x (ix2 r c)

variable (x0 : S4096x1024.Idx → EReal) (x1 : S4096x1536.Idx → EReal) (x2 x3 x4 x5 : S4096x512.Idx → EReal) (x6 : S256x1024.Idx → EReal) (x7 x8 : S256x512.Idx → EReal)

/-- The five groups side by side. -/
theorem v0_entry (r : Fin 4096) (k : Fin 3584) :
    val_main_v0 (F := Ideal) x1 x2 x3 x4 x5 (ix2 r k) = DwSpec.cols (fn x1) (fn x2) (fn x3) (fn x4) (fn x5) r k := by
  unfold val_main_v0
  by_cases hz : k.val < 1536
  · have hk := k.isLt
    rw [DwSpec.cols_z _ _ _ _ _ r k (⟨k.val - 0, by omega⟩ : Fin 1536) (by show k.val = (k.val - 0); omega)]
    exact concatenate_apply_piece (t := S4096x3584) 1 [⟨S4096x1536, x1⟩, ⟨S4096x512, x2⟩, ⟨S4096x512, x3⟩, ⟨S4096x512, x4⟩, ⟨S4096x512, x5⟩] _ (ix2 r k) 0
      (by show 0 < 5; decide) S4096x1536 x1 rfl rfl 0 rfl (ix2 r (⟨k.val - 0, by omega⟩ : Fin 1536))
      (fun b hb => match b with | ⟨0, _⟩ => rfl | ⟨1, _⟩ => absurd rfl hb) (by show 0 + (k.val - 0) = k.val; omega)
  by_cases hq : k.val < 2048
  · have hk := k.isLt
    rw [DwSpec.cols_q _ _ _ _ _ r k (⟨k.val - 1536, by omega⟩ : Fin 512) (by show k.val = 1536 + (k.val - 1536); omega)]
    exact concatenate_apply_piece (t := S4096x3584) 1 [⟨S4096x1536, x1⟩, ⟨S4096x512, x2⟩, ⟨S4096x512, x3⟩, ⟨S4096x512, x4⟩, ⟨S4096x512, x5⟩] _ (ix2 r k) 1
      (by show 1 < 5; decide) S4096x512 x2 rfl rfl 1536 rfl (ix2 r (⟨k.val - 1536, by omega⟩ : Fin 512))
      (fun b hb => match b with | ⟨0, _⟩ => rfl | ⟨1, _⟩ => absurd rfl hb) (by show 1536 + (k.val - 1536) = k.val; omega)
  by_cases hk : k.val < 2560
  · have hk := k.isLt
    rw [DwSpec.cols_k _ _ _ _ _ r k (⟨k.val - 2048, by omega⟩ : Fin 512) (by show k.val = 2048 + (k.val - 2048); omega)]
    exact concatenate_apply_piece (t := S4096x3584) 1 [⟨S4096x1536, x1⟩, ⟨S4096x512, x2⟩, ⟨S4096x512, x3⟩, ⟨S4096x512, x4⟩, ⟨S4096x512, x5⟩] _ (ix2 r k) 2
      (by show 2 < 5; decide) S4096x512 x3 rfl rfl 2048 rfl (ix2 r (⟨k.val - 2048, by omega⟩ : Fin 512))
      (fun b hb => match b with | ⟨0, _⟩ => rfl | ⟨1, _⟩ => absurd rfl hb) (by show 2048 + (k.val - 2048) = k.val; omega)
  by_cases hv : k.val < 3072
  · have hk := k.isLt
    rw [DwSpec.cols_v _ _ _ _ _ r k (⟨k.val - 2560, by omega⟩ : Fin 512) (by show k.val = 2560 + (k.val - 2560); omega)]
    exact concatenate_apply_piece (t := S4096x3584) 1 [⟨S4096x1536, x1⟩, ⟨S4096x512, x2⟩, ⟨S4096x512, x3⟩, ⟨S4096x512, x4⟩, ⟨S4096x512, x5⟩] _ (ix2 r k) 3
      (by show 3 < 5; decide) S4096x512 x4 rfl rfl 2560 rfl (ix2 r (⟨k.val - 2560, by omega⟩ : Fin 512))
      (fun b hb => match b with | ⟨0, _⟩ => rfl | ⟨1, _⟩ => absurd rfl hb) (by show 2560 + (k.val - 2560) = k.val; omega)
  have hk := k.isLt
  rw [DwSpec.cols_b _ _ _ _ _ r k (⟨k.val - 3072, by omega⟩ : Fin 512) (by show k.val = 3072 + (k.val - 3072); omega)]
  exact concatenate_apply_piece (t := S4096x3584) 1 [⟨S4096x1536, x1⟩, ⟨S4096x512, x2⟩, ⟨S4096x512, x3⟩, ⟨S4096x512, x4⟩, ⟨S4096x512, x5⟩] _ (ix2 r k) 4
    (by show 4 < 5; decide) S4096x512 x5 rfl rfl 3072 rfl (ix2 r (⟨k.val - 3072, by omega⟩ : Fin 512))
    (fun b hb => match b with | ⟨0, _⟩ => rfl | ⟨1, _⟩ => absurd rfl hb) (by show 3072 + (k.val - 3072) = k.val; omega)

/-- The context's two groups side by side. -/
theorem v2_entry (r : Fin 256) (l : Fin 1024) (k : Fin 3584) (h : k.val = 2048 + l.val) :
    val_main_v2 (F := Ideal) x7 x8 (ix2 r l) = DwSpec.ctxCols (fn x7) (fn x8) r k := by
  unfold val_main_v2
  have hl := l.isLt
  by_cases hk : l.val < 512
  · rw [DwSpec.ctxCols_k _ _ r k (⟨l.val, hk⟩ : Fin 512) h]
    exact concatenate_apply_piece (t := S256x1024) 1 [⟨S256x512, x7⟩, ⟨S256x512, x8⟩] _ (ix2 r l) 0
      (by show 0 < 2; decide) S256x512 x7 rfl rfl 0 rfl (ix2 r (⟨l.val, hk⟩ : Fin 512))
      (fun b hb => match b with | ⟨0, _⟩ => rfl | ⟨1, _⟩ => absurd rfl hb) (by show 0 + l.val = l.val; omega)
  · rw [DwSpec.ctxCols_v _ _ r k (⟨l.val - 512, by omega⟩ : Fin 512) (by show k.val = 2560 + (l.val - 512); omega)]
    exact concatenate_apply_piece (t := S256x1024) 1 [⟨S256x512, x7⟩, ⟨S256x512, x8⟩] _ (ix2 r l) 1
      (by show 1 < 2; decide) S256x512 x8 rfl rfl 512 rfl (ix2 r (⟨l.val - 512, by omega⟩ : Fin 512))
      (fun b hb => match b with | ⟨0, _⟩ => rfl | ⟨1, _⟩ => absurd rfl hb) (by show 512 + (l.val - 512) = l.val; omega)

theorem v10_entry (n l : Fin 1024) (k : Fin 3584) (h : k.val = 2048 + l.val) :
    val_main_v10 (F := Ideal) x6 x7 x8 (ix2 n l) = DwSpec.part (fn x6) (DwSpec.ctxCols (fn x7) (fn x8)) n k := by
  have e10 : idx_main_v10 (ix2 n l) = ix2 l n := funext fun a => match a with | ⟨0, _⟩ => rfl | ⟨1, _⟩ => rfl
  have el : ∀ r, lidx_main_v9 (ix2 l n) r = ix2 r l := fun r => funext fun a => match a with | ⟨0, _⟩ => rfl | ⟨1, _⟩ => rfl
  have er : ∀ r, ridx_main_v9 (ix2 l n) r = ix2 r n := fun r => funext fun a => match a with | ⟨0, _⟩ => rfl | ⟨1, _⟩ => rfl
  rw [val_main_v10_apply, e10, val_main_v9_apply]
  refine Finset.sum_congr rfl fun r _ => ?_
  rw [el, er, v2_entry x7 x8 r l k h, mul_comm]
  rfl

/-- The context's part, zero outside its columns. -/
theorem v11_entry (n : Fin 1024) (k : Fin 3584) :
    val_main_v11 (F := Ideal) x6 x7 x8 (ix2 n k) = DwSpec.part (fn x6) (DwSpec.ctxCols (fn x7) (fn x8)) n k := by
  have hk := k.isLt
  unfold val_main_v11
  by_cases h : 2048 ≤ k.val ∧ k.val < 3072
  · rw [← v10_entry x6 x7 x8 n (⟨k.val - 2048, by omega⟩ : Fin 1024) k (by show k.val = 2048 + (k.val - 2048); omega)]
    exact pad_apply_of_inside (t := S1024x3584) _ _ _ _ _ _ _ (ix2 n k) (ix2 n (⟨k.val - 2048, by omega⟩ : Fin 1024)) fun a => match a with
      | ⟨0, _⟩ => by show n.val = 0 + n.val * (0 + 1); omega
      | ⟨1, _⟩ => by show k.val = 2048 + (k.val - 2048) * (0 + 1); omega
  · rw [DwSpec.part_ctx_zero _ _ _ n k (by omega)]
    refine (pad_apply_of_not_inside (t := S1024x3584) _ _ _ _ _ _ _ (ix2 n k) (1 : Fin 2) ?_).trans Ideal.ofBits_zero_f32
    show ¬(2048 ≤ k.val ∧ (k.val - 2048) % (0 + 1) = 0 ∧ (k.val - 2048) / (0 + 1) < 1024)
    omega

/-- The rows' part. -/
theorem v13_entry (n : Fin 1024) (k : Fin 3584) :
    val_main_v13 (F := Ideal) x0 x1 x2 x3 x4 x5 (ix2 n k) = DwSpec.part (fn x0) (DwSpec.cols (fn x1) (fn x2) (fn x3) (fn x4) (fn x5)) n k := by
  have e13 : idx_main_v13 (ix2 n k) = ix2 k n := funext fun a => match a with | ⟨0, _⟩ => rfl | ⟨1, _⟩ => rfl
  have el : ∀ r, lidx_main_v12 (ix2 k n) r = ix2 r k := fun r => funext fun a => match a with | ⟨0, _⟩ => rfl | ⟨1, _⟩ => rfl
  have er : ∀ r, ridx_main_v12 (ix2 k n) r = ix2 r n := fun r => funext fun a => match a with | ⟨0, _⟩ => rfl | ⟨1, _⟩ => rfl
  have hv : ∀ r, val_main_v1 (F := Ideal) x1 x2 x3 x4 x5 (ix2 r k) = val_main_v0 (F := Ideal) x1 x2 x3 x4 x5 (ix2 r k) := fun _ => rfl
  rw [val_main_v13_apply, e13, val_main_v12_apply]
  refine Finset.sum_congr rfl fun r _ => ?_
  rw [el, er, hv, v0_entry, mul_comm]
  rfl

theorem v14_entry (n : Fin 1024) (k : Fin 3584) : val_main_v14 (F := Ideal) x0 x1 x2 x3 x4 x5 x6 x7 x8 (ix2 n k)
    = DwSpec.dw (fn x0) (fn x1) (fn x2) (fn x3) (fn x4) (fn x5) (fn x6) (fn x7) (fn x8) n k := by
  rw [val_main_v14_apply, v11_entry, v13_entry]
  rfl

theorem v19_entry (z : Fin 1) (n : Fin 1024) (l : Fin 896) : val_main_v19 (F := Ideal) x0 x1 x2 x3 x4 x5 x6 x7 x8 (ix3 z n l)
    = DwSpec.dw (fn x0) (fn x1) (fn x2) (fn x3) (fn x4) (fn x5) (fn x6) (fn x7) (fn x8) n (DwSpec.colW 0 l) := by
  have e : idx_main_v15 (idx_main_v19 (ix3 z n l)) = ix2 n (DwSpec.colW 0 l) := funext fun a => match a with
    | ⟨0, _⟩ => rfl
    | ⟨1, _⟩ => Fin.ext (by show l.val = 896 * 0 + l.val; omega)
  rw [val_main_v19_apply, val_main_v15_apply, e, v14_entry]
theorem v20_entry (z : Fin 1) (n : Fin 1024) (l : Fin 896) : val_main_v20 (F := Ideal) x0 x1 x2 x3 x4 x5 x6 x7 x8 (ix3 z n l)
    = DwSpec.dw (fn x0) (fn x1) (fn x2) (fn x3) (fn x4) (fn x5) (fn x6) (fn x7) (fn x8) n (DwSpec.colW 1 l) := by
  have e : idx_main_v16 (idx_main_v20 (ix3 z n l)) = ix2 n (DwSpec.colW 1 l) := funext fun a => match a with
    | ⟨0, _⟩ => rfl
    | ⟨1, _⟩ => Fin.ext (by show 896 + l.val = 896 * 1 + l.val; omega)
  rw [val_main_v20_apply, val_main_v16_apply, e, v14_entry]
theorem v21_entry (z : Fin 1) (n : Fin 1024) (l : Fin 896) : val_main_v21 (F := Ideal) x0 x1 x2 x3 x4 x5 x6 x7 x8 (ix3 z n l)
    = DwSpec.dw (fn x0) (fn x1) (fn x2) (fn x3) (fn x4) (fn x5) (fn x6) (fn x7) (fn x8) n (DwSpec.colW 2 l) := by
  have e : idx_main_v17 (idx_main_v21 (ix3 z n l)) = ix2 n (DwSpec.colW 2 l) := funext fun a => match a with
    | ⟨0, _⟩ => rfl
    | ⟨1, _⟩ => Fin.ext (by show 1792 + l.val = 896 * 2 + l.val; omega)
  rw [val_main_v21_apply, val_main_v17_apply, e, v14_entry]
theorem v22_entry (z : Fin 1) (n : Fin 1024) (l : Fin 896) : val_main_v22 (F := Ideal) x0 x1 x2 x3 x4 x5 x6 x7 x8 (ix3 z n l)
    = DwSpec.dw (fn x0) (fn x1) (fn x2) (fn x3) (fn x4) (fn x5) (fn x6) (fn x7) (fn x8) n (DwSpec.colW 3 l) := by
  have e : idx_main_v18 (idx_main_v22 (ix3 z n l)) = ix2 n (DwSpec.colW 3 l) := funext fun a => match a with
    | ⟨0, _⟩ => rfl
    | ⟨1, _⟩ => Fin.ext (by show 2688 + l.val = 896 * 3 + l.val; omega)
  rw [val_main_v22_apply, val_main_v18_apply, e, v14_entry]

/-- The weight's cotangent, in four blocks of 896 columns. -/
theorem v23_entry (j : Fin 4) (n : Fin 1024) (l : Fin 896) : val_main_v23 (F := Ideal) x0 x1 x2 x3 x4 x5 x6 x7 x8 (ix3 j n l)
    = DwSpec.dw (fn x0) (fn x1) (fn x2) (fn x3) (fn x4) (fn x5) (fn x6) (fn x7) (fn x8) n (DwSpec.colW j l) := by
  unfold val_main_v23
  match j with
  | ⟨0, _⟩ =>
    exact (concatenate_apply_piece (t := S4x1024x896) 0 [⟨S1x1024x896, val_main_v19 (F := Ideal) x0 x1 x2 x3 x4 x5 x6 x7 x8⟩, ⟨S1x1024x896, val_main_v20 (F := Ideal) x0 x1 x2 x3 x4 x5 x6 x7 x8⟩, ⟨S1x1024x896, val_main_v21 (F := Ideal) x0 x1 x2 x3 x4 x5 x6 x7 x8⟩, ⟨S1x1024x896, val_main_v22 (F := Ideal) x0 x1 x2 x3 x4 x5 x6 x7 x8⟩] _ (ix3 (0 : Fin 4) n l) 0
      (by show 0 < 4; decide) S1x1024x896 (val_main_v19 (F := Ideal) x0 x1 x2 x3 x4 x5 x6 x7 x8) rfl rfl 0 rfl (ix3 (0 : Fin 1) n l)
      (fun b hb => match b with | ⟨0, _⟩ => absurd rfl hb | ⟨1, _⟩ => rfl | ⟨2, _⟩ => rfl) rfl).trans (v19_entry x0 x1 x2 x3 x4 x5 x6 x7 x8 0 n l)
  | ⟨1, _⟩ =>
    exact (concatenate_apply_piece (t := S4x1024x896) 0 [⟨S1x1024x896, val_main_v19 (F := Ideal) x0 x1 x2 x3 x4 x5 x6 x7 x8⟩, ⟨S1x1024x896, val_main_v20 (F := Ideal) x0 x1 x2 x3 x4 x5 x6 x7 x8⟩, ⟨S1x1024x896, val_main_v21 (F := Ideal) x0 x1 x2 x3 x4 x5 x6 x7 x8⟩, ⟨S1x1024x896, val_main_v22 (F := Ideal) x0 x1 x2 x3 x4 x5 x6 x7 x8⟩] _ (ix3 (1 : Fin 4) n l) 1
      (by show 1 < 4; decide) S1x1024x896 (val_main_v20 (F := Ideal) x0 x1 x2 x3 x4 x5 x6 x7 x8) rfl rfl 1 rfl (ix3 (0 : Fin 1) n l)
      (fun b hb => match b with | ⟨0, _⟩ => absurd rfl hb | ⟨1, _⟩ => rfl | ⟨2, _⟩ => rfl) rfl).trans (v20_entry x0 x1 x2 x3 x4 x5 x6 x7 x8 0 n l)
  | ⟨2, _⟩ =>
    exact (concatenate_apply_piece (t := S4x1024x896) 0 [⟨S1x1024x896, val_main_v19 (F := Ideal) x0 x1 x2 x3 x4 x5 x6 x7 x8⟩, ⟨S1x1024x896, val_main_v20 (F := Ideal) x0 x1 x2 x3 x4 x5 x6 x7 x8⟩, ⟨S1x1024x896, val_main_v21 (F := Ideal) x0 x1 x2 x3 x4 x5 x6 x7 x8⟩, ⟨S1x1024x896, val_main_v22 (F := Ideal) x0 x1 x2 x3 x4 x5 x6 x7 x8⟩] _ (ix3 (2 : Fin 4) n l) 2
      (by show 2 < 4; decide) S1x1024x896 (val_main_v21 (F := Ideal) x0 x1 x2 x3 x4 x5 x6 x7 x8) rfl rfl 2 rfl (ix3 (0 : Fin 1) n l)
      (fun b hb => match b with | ⟨0, _⟩ => absurd rfl hb | ⟨1, _⟩ => rfl | ⟨2, _⟩ => rfl) rfl).trans (v21_entry x0 x1 x2 x3 x4 x5 x6 x7 x8 0 n l)
  | ⟨3, _⟩ =>
    exact (concatenate_apply_piece (t := S4x1024x896) 0 [⟨S1x1024x896, val_main_v19 (F := Ideal) x0 x1 x2 x3 x4 x5 x6 x7 x8⟩, ⟨S1x1024x896, val_main_v20 (F := Ideal) x0 x1 x2 x3 x4 x5 x6 x7 x8⟩, ⟨S1x1024x896, val_main_v21 (F := Ideal) x0 x1 x2 x3 x4 x5 x6 x7 x8⟩, ⟨S1x1024x896, val_main_v22 (F := Ideal) x0 x1 x2 x3 x4 x5 x6 x7 x8⟩] _ (ix3 (3 : Fin 4) n l) 3
      (by show 3 < 4; decide) S1x1024x896 (val_main_v22 (F := Ideal) x0 x1 x2 x3 x4 x5 x6 x7 x8) rfl rfl 3 rfl (ix3 (0 : Fin 1) n l)
      (fun b hb => match b with | ⟨0, _⟩ => absurd rfl hb | ⟨1, _⟩ => rfl | ⟨2, _⟩ => rfl) rfl).trans (v22_entry x0 x1 x2 x3 x4 x5 x6 x7 x8 0 n l)

/-- The formula as an array. -/
abbrev arr : S4x1024x896.Idx → EReal := fun j =>
  DwSpec.dw (fn x0) (fn x1) (fn x2) (fn x3) (fn x4) (fn x5) (fn x6) (fn x7) (fn x8) (j 1) (DwSpec.colW (j 0) (j 2))

/-- The reference's run ends with the formula's array of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(h c).1.trans ((val_main_v23_eq m c).trans (funext fun j => by
        rw [eq_ix3 (n0 := 4) (n1 := 1024) (n2 := 896) j]; exact v23_entry _ _ _ _ _ _ _ _ _ _ _ _)),
      (h c).2⟩) (Cert.DwReferenceIdeal.Value.run m ρ)

end Cert.DwReferenceIdeal.Entry

namespace Cert.Proof

/-- From agreeing arguments the two programs of the gradient of the input projection's weight end with equal results. -/
theorem algebraic_dw : Cert.algebraic_DwKernelIdeal_DwReferenceIdeal (hDwKernelIdeal := Cert.DwKernelIdeal.Gen.facts) (hDwReferenceIdeal := Cert.DwReferenceIdeal.Gen.facts) :=
  fun m ρ m' ρ' _ hag =>
    ⟨Cert.DwKernelIdeal.Value.res m,
      Cert.DwKernelIdeal.Value.run m ρ,
      (θ_run _ _ _).mono (fun _ h c => by
        obtain ⟨e0, e1, e2, e3, e4, e5, e6, e7, e8⟩ := hag c
        obtain ⟨h0, h1⟩ := h c
        rw [e0, e1, e2, e3, e4, e5, e6, e7, e8] at h0
        exact ⟨h0, h1⟩) (Cert.DwReferenceIdeal.Entry.run m' ρ')⟩

/-- The reference's run leaves the arguments as they are; it declares no semaphore. -/
theorem reference_frame_dw : Cert.quiescent_DwReferenceIdeal (hDwReferenceIdeal := Cert.DwReferenceIdeal.Gen.facts) := fun m ρ _ =>
  (θ_run _ _ _).mono (fun r h => ⟨fun c => (h c).2, Idealize.ShloMosaic.sem_eq_zero_of_no_sems (by decide) r.2⟩) (Cert.DwReferenceIdeal.Value.run m ρ)

end Cert.Proof

end
-- ==== Proof.CtxBlock.lean ====
/- The values of the gradient of the context tokens' modulated norm, operation by operation, at any float arithmetic: 256
   rows, the keys' and the values' cotangents, the weight in four blocks of 896 columns. -/
module

public import proofs.«01_k».proof.Proof.Gen.CtxKernelIdeal.Value

@[expose] public section

noncomputable section

namespace Cert.CtxKernelIdeal.Block

open Cert.CtxKernelIdeal Cert.CtxKernelIdeal.Gen Idealize.ShloMosaic

variable {F : FTy → Type} [FloatOps F]

theorem slices_v0 : S256x512.Slices ![0, 0] S256x128 := by decide
theorem slices_v128 : S256x512.Slices ![0, 128] S256x384 := by decide
theorem slices_w2_256 : S4x1024x896.Slices ![2, 0, 256] S1x1024x512 := by decide
theorem slices_w2_768 : S4x1024x896.Slices ![2, 0, 768] S1x1024x128 := by decide
theorem slices_w3_0 : S4x1024x896.Slices ![3, 0, 0] S1x1024x384 := by decide

/-- The products of the three pieces: a cotangent's columns with the weight's columns of the same numbers, which lie in two of
    its four blocks of 896 columns. -/
def prodK (k : FVec F S256x512 .f32) (w : FVec F S4x1024x896 .bf16) : FVec F S256x1024 .f32 :=
  matmul dot_S256x512_S1024x512_S256x1024_1_1_0_0_n_n none (truncf .bf16 k bitsLt_bf16_f32)
    (shapeCast S1024x512 (extractStridedSlice S1x1024x512 ![2, 0, 256] w slices_w2_256) shapeCasts_S1x1024x512_S1024x512) (constant S256x1024 .f32 0x00000000#32)
def prodV0 (v : FVec F S256x512 .f32) (w : FVec F S4x1024x896 .bf16) : FVec F S256x1024 .f32 :=
  matmul dot_S256x128_S1024x128_S256x1024_1_1_0_0_n_n none (truncf .bf16 (extractStridedSlice S256x128 ![0, 0] v slices_v0) bitsLt_bf16_f32)
    (shapeCast S1024x128 (extractStridedSlice S1x1024x128 ![2, 0, 768] w slices_w2_768) shapeCasts_S1x1024x128_S1024x128) (constant S256x1024 .f32 0x00000000#32)
def prodV1 (v : FVec F S256x512 .f32) (w : FVec F S4x1024x896 .bf16) : FVec F S256x1024 .f32 :=
  matmul dot_S256x384_S1024x384_S256x1024_1_1_0_0_n_n none (truncf .bf16 (extractStridedSlice S256x384 ![0, 128] v slices_v128) bitsLt_bf16_f32)
    (shapeCast S1024x384 (extractStridedSlice S1x1024x384 ![3, 0, 0] w slices_w3_0) shapeCasts_S1x1024x384_S1024x384) (constant S256x1024 .f32 0x00000000#32)
/-- The cotangent of the projection's input. -/
def dh (k v : FVec F S256x512 .f32) (w : FVec F S4x1024x896 .bf16) : FVec F S256x1024 .f32 := addf (addf (prodK k w) (prodV0 v w)) (prodV1 v w)

variable (d x : FVec F S256x1024 .f32) (s g : FVec F S1x1024 .f32)

/-- Each row's mean square plus the small constant. -/
def ms : FVec F S256x1 .f32 :=
  addf
    (divf (shapeCast S256x1 (multiReduction .add [1] S256 (mulf x x) 0x00000000#32 reduces_S256x1024_S256 (.inl rfl) rfl) shapeCasts_S256_S256x1)
      (broadcast S256x1 (Scalar.ofBits .f32 0x44800000#32)))
    (broadcast S256x1 (Scalar.ofBits .f32 0x358637BD#32))
/-- Its reciprocal square root. -/
def rs : FVec F S256x1 .f32 := rsqrt (ms x)
/-- The rows normalised. -/
def nrm : FVec F S256x1024 .f32 := mulf x (broadcastTo S256x1024 (rs x) broadcasts_S256x1_S256x1024)
/-- The rows normalised, times the gains. -/
def nrmG : FVec F S256x1024 .f32 := mulf (nrm x) (broadcastTo S256x1024 g broadcasts_S1x1024_S256x1024)
/-- One plus the scale. -/
def oneS : FVec F S1x1024 .f32 := addf (broadcast S1x1024 (Scalar.ofBits .f32 0x3F800000#32)) s
/-- The rows' sum. -/
def total : FVec F S1x1024 .f32 :=
  shapeCast S1x1024 (multiReduction .add [0] S1024 d 0x00000000#32 reduces_S256x1024_S1024 (.inl rfl) rfl) shapeCasts_S1024_S1x1024
/-- The scale's cotangent. -/
def dscale : FVec F S1x1024 .f32 := total (mulf (nrmG x g) d)
/-- The cotangent of the scaled rows. -/
def dng : FVec F S256x1024 .f32 := mulf d (broadcastTo S256x1024 (oneS s) broadcasts_S1x1024_S256x1024)
/-- The gains' cotangent. -/
def dgain : FVec F S1x1024 .f32 := total (mulf (nrm x) (dng d s))

end Cert.CtxKernelIdeal.Block

end
-- ==== Proof.CtxCases.lean ====
/- The body of the gradient of the context tokens' modulated norm leaves in each result's buffer its value: the stores found
   by the generated run, read back. -/
module

public import proofs.«01_k».proof.Proof.CtxBlock
public import Idealize.ShloMosaic.Lib.Tactic
public import Idealize.ShloMosaic.Lib.Pipeline.ValueKit.Acc
public import Idealize.ShloMosaic.Lib.Pipeline.ReadBack

@[expose] public section

set_option maxRecDepth 16384

noncomputable section

open Idealize.ShloMosaic Idealize.ShloMosaic.TcCoe Idealize.SL.Sem

namespace Cert.CtxKernelIdeal.Value

open Cert.CtxKernelIdeal Cert.CtxKernelIdeal.Gen Cert.CtxKernelIdeal.Block

variable {F : FTy → Type} [FloatOps F]

theorem hz2 : ∀ a : Fin 2, (![0, 0] : Fin 2 → Nat) a = 0 := by decide

variable (x0 x1 : Vec F S256x512 .f32) (x2 : Vec F S4x1024x896 .bf16) (x3 : Vec F S256x1024 .f32) (x4 x5 x6 : Vec F S1x1024 .f32)

/-- The shift's cotangent. -/
theorem out_7 : out0_7 x0 x1 x2 x3 x4 x5 x6 = total (dh x0 x1 x2) := by
  unfold out0_7 k0_pay7
  rw [View.canon_cons_unit_lit (S := S1x1024) _ _ _ hz2]
  simp only [View.ld_unit_lit' (S := S1x1024) _ _ hz2, View.ld_unit_lit' (S := S256x512) _ _ hz2, View.ld_unit_lit' (S := S256x1024) _ _ hz2]
  simp only [View.ld_unit]
  sl_kernel_rfl

/-- The scale's cotangent. -/
theorem out_8 : out0_8 x0 x1 x2 x3 x4 x5 x6 = dscale (dh x0 x1 x2) x3 x6 := by
  unfold out0_8 k0_pay7
  rw [View.canon_cons_unit_lit (S := S1x1024) _ _ _ hz2]
  simp only [View.ld_unit_lit' (S := S1x1024) _ _ hz2, View.ld_unit_lit' (S := S256x512) _ _ hz2, View.ld_unit_lit' (S := S256x1024) _ _ hz2]
  simp only [View.ld_unit]
  sl_kernel_rfl

/-- The gains' cotangent. -/
theorem out_9 : out0_9 x0 x1 x2 x3 x4 x5 x6 = dgain (dh x0 x1 x2) x3 x5 := by
  unfold out0_9 k0_pay7
  rw [View.canon_cons_unit_lit (S := S1x1024) _ _ _ hz2]
  simp only [View.ld_unit_lit' (S := S1x1024) _ _ hz2, View.ld_unit_lit' (S := S256x512) _ _ hz2, View.ld_unit_lit' (S := S256x1024) _ _ hz2]
  simp only [View.ld_unit]
  sl_kernel_rfl

end Cert.CtxKernelIdeal.Value

end
-- ==== Proof.CtxRead.lean ====
/- The gradient of the context tokens' modulated norm over the extended reals, in coordinates, and the kernel's values read at
   an entry. The parts of the modulated norm's gradient are those of `InSpec`. -/
module

public import proofs.«01_k».proof.Proof.InSpec
public import proofs.«01_k».proof.Proof.CtxBlock

@[expose] public section

noncomputable section

namespace Cert.CtxSpec

/-- Column `l` of half `o` of the 1024 columns. -/
def half (o : Fin 2) (l : Fin 512) : Fin 1024 := ⟨512 * o.val + l.val, by omega⟩
/-- Column `l` of the keys and values among all the columns. -/
def col (l : Fin 1024) : Fin 3584 := ⟨2048 + l.val, by omega⟩

/-- A sum over the 1024 columns, half by half. -/
theorem sum_half (f : Fin 1024 → EReal) : ∑ l, f l = (∑ l, f (half 0 l)) + ∑ l, f (half 1 l) := by
  refine (Fin.sum_univ_add (a := 512) (b := 512) f).trans (congrArg₂ (· + ·) ?_ ?_)
  · exact Finset.sum_congr rfl fun q _ => congrArg f (Fin.ext (by show q.val = 512 * 0 + q.val; omega))
  · exact Finset.sum_congr rfl fun q _ => congrArg f (Fin.ext (by show 512 + q.val = 512 * 1 + q.val; omega))

/-- The cotangent of the projection's input. -/
def dh (k v : Fin 256 → Fin 512 → EReal) (w : Fin 1024 → Fin 1024 → EReal) (r : Fin 256) (n : Fin 1024) : EReal :=
  (∑ l, k r l * w n (half 0 l)) + ∑ l, v r l * w n (half 1 l)

end Cert.CtxSpec

namespace Cert.CtxKernelIdeal.Block

open Cert.CtxKernelIdeal Cert.CtxKernelIdeal.Gen Idealize.ShloMosaic

/-- A block as a function of row and column. -/
abbrev fn {n0 n1 : ℕ} (x : (⟨2, ![n0, n1]⟩ : Shape).Idx → EReal) : Fin n0 → Fin n1 → EReal := fun p l => x (ix2 p l)

/-- The weight's columns for keys and values, 1024 from column 2048 on, out of its four blocks of 896. -/
abbrev fnC (w : S4x1024x896.Idx → EReal) : Fin 1024 → Fin 1024 → EReal := fun n l =>
  w (ix3 (n0 := 4) (n1 := 1024) (n2 := 896) ⟨(2048 + l.val) / 896, by omega⟩ n ⟨(2048 + l.val) % 896, Nat.mod_lt _ (by decide)⟩)

/-- Its entry at a column of a block. -/
theorem fnC_eq (w : S4x1024x896.Idx → EReal) (n k : Fin 1024) (j : Fin 4) (l : Fin 896) (h : 2048 + k.val = 896 * j.val + l.val) :
    fnC w n k = w (ix3 j n l) := by
  have hl := l.isLt
  have e0 : (⟨(2048 + k.val) / 896, by omega⟩ : Fin 4) = j := Fin.ext (by show (2048 + k.val) / 896 = j.val; omega)
  have e1 : (⟨(2048 + k.val) % 896, Nat.mod_lt _ (by decide)⟩ : Fin 896) = l := Fin.ext (by show (2048 + k.val) % 896 = l.val; omega)
  show w (ix3 _ n _) = _
  rw [e0, e1]

section

variable (k v : FVec Ideal S256x512 .f32) (w : FVec Ideal S4x1024x896 .bf16) (r : Fin 256) (n : Fin 1024)

theorem prodK_apply : prodK k w (ix2 r n) = ∑ l : Fin 512, k (ix2 r l) * fnC w n (CtxSpec.half 0 l) := by
  have e : ∀ l : Fin 512, fnC w n (CtxSpec.half 0 l) = w (ix3 2 n ⟨256 + l.val, by omega⟩) := fun l =>
    fnC_eq w n _ _ _ (by show 2048 + (512 * 0 + l.val) = 896 * 2 + (256 + l.val); omega)
  simp only [e]
  pointwise [prodK]
theorem prodV0_apply : prodV0 v w (ix2 r n) = ∑ l : Fin 128, v (ix2 r ⟨0 + l.val, by omega⟩) * fnC w n (CtxSpec.half 1 ⟨0 + l.val, by omega⟩) := by
  have e : ∀ l : Fin 128, fnC w n (CtxSpec.half 1 ⟨0 + l.val, by omega⟩) = w (ix3 2 n ⟨768 + l.val, by omega⟩) := fun l =>
    fnC_eq w n _ _ _ (by show 2048 + (512 * 1 + (0 + l.val)) = 896 * 2 + (768 + l.val); omega)
  simp only [e]
  pointwise [prodV0]
theorem prodV1_apply : prodV1 v w (ix2 r n) = ∑ l : Fin 384, v (ix2 r ⟨128 + l.val, by omega⟩) * fnC w n (CtxSpec.half 1 ⟨128 + l.val, by omega⟩) := by
  have e : ∀ l : Fin 384, fnC w n (CtxSpec.half 1 ⟨128 + l.val, by omega⟩) = w (ix3 3 n ⟨0 + l.val, by omega⟩) := fun l =>
    fnC_eq w n _ _ _ (by show 2048 + (512 * 1 + (128 + l.val)) = 896 * 3 + (0 + l.val); omega)
  simp only [e]
  pointwise [prodV1]

/-- A sum over 512 columns, its pieces one after the other. -/
theorem sum_pieces (f : Fin 512 → EReal) :
    (∑ l : Fin 128, f ⟨0 + l.val, by omega⟩) + (∑ l : Fin 384, f ⟨128 + l.val, by omega⟩) = ∑ l, f l := by
  refine Eq.symm ((Fin.sum_univ_add (a := 128) (b := 384) f).trans (congrArg₂ (· + ·) ?_ rfl))
  exact Finset.sum_congr rfl fun l _ => congrArg f (Fin.ext (by show l.val = 0 + l.val; omega))

theorem dh_apply : dh k v w (ix2 r n) = CtxSpec.dh (fn k) (fn v) (fnC w) r n := by
  show prodK k w (ix2 r n) + prodV0 v w (ix2 r n) + prodV1 v w (ix2 r n) = _
  rw [prodK_apply, prodV0_apply, prodV1_apply, add_assoc, sum_pieces fun l => v (ix2 r l) * fnC w n (CtxSpec.half 1 l)]
  rfl

end

theorem dh_fn (k v : FVec Ideal S256x512 .f32) (w : FVec Ideal S4x1024x896 .bf16) : fn (dh k v w) = CtxSpec.dh (fn k) (fn v) (fnC w) :=
  funext fun r => funext fun n => dh_apply k v w r n

variable (d x : FVec Ideal S256x1024 .f32) (s g : FVec Ideal S1x1024 .f32)

theorem ms_apply (r : Fin 256) (z : Fin 1) : ms x (ix2 r z) = InSpec.ms (fn x) r := by
  pointwise [ms, InSpec.ms]
theorem rs_apply (r : Fin 256) (z : Fin 1) : rs x (ix2 r z) = InSpec.rs (fn x) r := by
  pointwise [rs, ms_apply, InSpec.rs]
theorem nrm_apply (r : Fin 256) (n : Fin 1024) : nrm x (ix2 r n) = InSpec.nrm (fn x) r n := by
  pointwise [nrm, rs_apply, InSpec.nrm]
theorem nrmG_apply (r : Fin 256) (n : Fin 1024) : nrmG x g (ix2 r n) = InSpec.nrmG (fn x) (fn g 0) r n := by
  pointwise [nrmG, nrm_apply, InSpec.nrmG]
theorem total_apply (z : Fin 1) (n : Fin 1024) : total d (ix2 z n) = ∑ r, fn d r n := by
  pointwise [total]
theorem dscale_apply (z : Fin 1) (n : Fin 1024) : dscale d x g (ix2 z n) = InSpec.dscale (fn d) (fn x) (fn g 0) n := by
  pointwise [dscale, total_apply, nrmG_apply, InSpec.dscale]
theorem dng_apply (r : Fin 256) (n : Fin 1024) : dng d s (ix2 r n) = InSpec.dng (fn d) (fn s 0) r n := by
  pointwise [dng, oneS, InSpec.dng]
theorem dgain_apply (z : Fin 1) (n : Fin 1024) : dgain d x s (ix2 z n) = InSpec.dgain (fn d) (fn x) (fn s 0) n := by
  pointwise [dgain, total_apply, nrm_apply, dng_apply, InSpec.dgain]

end Cert.CtxKernelIdeal.Block

end
-- ==== Proof.CtxFinal.lean ====
/- The three result arrays of the gradient of the context tokens' modulated norm after the run: the formulas of the arguments. -/
module

public import proofs.«01_k».proof.Proof.CtxCases
public import proofs.«01_k».proof.Proof.CtxRead
public import Idealize.ShloMosaic.Lib.StableHlo.ReadAt

@[expose] public section

noncomputable section

open Idealize.ShloMosaic Idealize.ShloMosaic.TcCoe Idealize.SL.Sem
open Idealize.ShloMosaic.Pipeline (Dat)

namespace Cert.CtxKernelIdeal.Value

open Cert.CtxKernelIdeal Cert.CtxKernelIdeal.Gen Cert.CtxKernelIdeal.Block

variable (m : (ℓ : Loc nD τ sig) → Buf (Elt Ideal) ℓ) (ρ : Dev nD → PrngReg)

/-! ## What the input blocks hold -/

theorem index0 : ∀ t : Fin cfg0.N, win0_0.index t 0 = 0 ∧ win0_0.index t 1 = 0 := by decide +kernel

theorem iblk0_apply (c : Dev nD) (t : Fin cfg0.N) (p : Fin 256) (l : Fin 512) :
    (iblk m c 0 t : Vec Ideal S256x512 .f32) (ix2 p l) = m ((c : Thread nD τ).loc main_arg0) (ix2 (n0 := 256) (n1 := 512) p l) := by
  rw [← V_main_arg0 m c]
  unfold iblk
  rw [View.read_apply]
  show V m c main_arg0 _ = V m c main_arg0 _
  congr 1
  funext a
  apply Fin.ext
  match a with
  | ⟨0, _⟩ => show win0_0.index t 0 * 256 + 1 * p.val = p.val; rw [(index0 t).1]; omega
  | ⟨1, _⟩ => show win0_0.index t 1 * 512 + 1 * l.val = l.val; rw [(index0 t).2]; omega

theorem index1 : ∀ t : Fin cfg0.N, win0_1.index t 0 = 0 ∧ win0_1.index t 1 = 0 := by decide +kernel

theorem iblk1_apply (c : Dev nD) (t : Fin cfg0.N) (p : Fin 256) (l : Fin 512) :
    (iblk m c 1 t : Vec Ideal S256x512 .f32) (ix2 p l) = m ((c : Thread nD τ).loc main_arg1) (ix2 (n0 := 256) (n1 := 512) p l) := by
  rw [← V_main_arg1 m c]
  unfold iblk
  rw [View.read_apply]
  show V m c main_arg1 _ = V m c main_arg1 _
  congr 1
  funext a
  apply Fin.ext
  match a with
  | ⟨0, _⟩ => show win0_1.index t 0 * 256 + 1 * p.val = p.val; rw [(index1 t).1]; omega
  | ⟨1, _⟩ => show win0_1.index t 1 * 512 + 1 * l.val = l.val; rw [(index1 t).2]; omega

theorem index3 : ∀ t : Fin cfg0.N, win0_3.index t 0 = 0 ∧ win0_3.index t 1 = 0 := by decide +kernel

theorem iblk3_apply (c : Dev nD) (t : Fin cfg0.N) (p : Fin 256) (l : Fin 1024) :
    (iblk m c 3 t : Vec Ideal S256x1024 .f32) (ix2 p l) = m ((c : Thread nD τ).loc main_arg3) (ix2 (n0 := 256) (n1 := 1024) p l) := by
  rw [← V_main_arg3 m c]
  unfold iblk
  rw [View.read_apply]
  show V m c main_arg3 _ = V m c main_arg3 _
  congr 1
  funext a
  apply Fin.ext
  match a with
  | ⟨0, _⟩ => show win0_3.index t 0 * 256 + 1 * p.val = p.val; rw [(index3 t).1]; omega
  | ⟨1, _⟩ => show win0_3.index t 1 * 1024 + 1 * l.val = l.val; rw [(index3 t).2]; omega

theorem index5 : ∀ t : Fin cfg0.N, win0_5.index t 0 = 0 ∧ win0_5.index t 1 = 0 := by decide +kernel

theorem iblk5_apply (c : Dev nD) (t : Fin cfg0.N) (p : Fin 1) (l : Fin 1024) :
    (iblk m c 5 t : Vec Ideal S1x1024 .f32) (ix2 p l) = m ((c : Thread nD τ).loc main_arg5) (ix2 (n0 := 1) (n1 := 1024) p l) := by
  rw [← V_main_arg5 m c]
  unfold iblk
  rw [View.read_apply]
  show V m c main_arg5 _ = V m c main_arg5 _
  congr 1
  funext a
  apply Fin.ext
  match a with
  | ⟨0, _⟩ => show win0_5.index t 0 * 1 + 1 * p.val = p.val; rw [(index5 t).1]; omega
  | ⟨1, _⟩ => show win0_5.index t 1 * 1024 + 1 * l.val = l.val; rw [(index5 t).2]; omega

theorem index6 : ∀ t : Fin cfg0.N, win0_6.index t 0 = 0 ∧ win0_6.index t 1 = 0 := by decide +kernel

theorem iblk6_apply (c : Dev nD) (t : Fin cfg0.N) (p : Fin 1) (l : Fin 1024) :
    (iblk m c 6 t : Vec Ideal S1x1024 .f32) (ix2 p l) = m ((c : Thread nD τ).loc main_arg6) (ix2 (n0 := 1) (n1 := 1024) p l) := by
  rw [← V_main_arg6 m c]
  unfold iblk
  rw [View.read_apply]
  show V m c main_arg6 _ = V m c main_arg6 _
  congr 1
  funext a
  apply Fin.ext
  match a with
  | ⟨0, _⟩ => show win0_6.index t 0 * 1 + 1 * p.val = p.val; rw [(index6 t).1]; omega
  | ⟨1, _⟩ => show win0_6.index t 1 * 1024 + 1 * l.val = l.val; rw [(index6 t).2]; omega

theorem index2 : ∀ t : Fin cfg0.N, win0_2.index t 0 = 0 ∧ win0_2.index t 1 = 0 ∧ win0_2.index t 2 = 0 := by decide +kernel

/-- The host changes the weight's format, which over the extended reals changes nothing, and cuts its columns into four blocks. -/
theorem V_weight (c : Dev nD) (j : Fin 4) (n : Fin 1024) (l : Fin 896) (k : Fin 3584) (h : k.val = 896 * j.val + l.val) :
    (V m c main_v2 : Vec Ideal S4x1024x896 .bf16) (ix3 j n l) = m ((c : Thread nD τ).loc main_arg2) (ix2 (n0 := 1024) (n1 := 3584) n k) := by
  unfold V
  after_reads_at
  exact congrArg (fun k : Fin 3584 => m ((c : Thread nD τ).loc main_arg2) (ix2 (n0 := 1024) (n1 := 3584) n k))
    (Fin.ext (by show j.val * 896 + l.val = k.val; omega))

/-- The weight's block is the weight. -/
theorem iblk2_apply (c : Dev nD) (t : Fin cfg0.N) (j : Fin 4) (n : Fin 1024) (l : Fin 896) (k : Fin 3584) (h : k.val = 896 * j.val + l.val) :
    (iblk m c 2 t : Vec Ideal S4x1024x896 .bf16) (ix3 j n l) = m ((c : Thread nD τ).loc main_arg2) (ix2 (n0 := 1024) (n1 := 3584) n k) := by
  rw [← V_weight m c j n l k h]
  unfold iblk
  rw [View.read_apply]
  show V m c main_v2 _ = V m c main_v2 _
  congr 1
  funext a
  apply Fin.ext
  match a with
  | ⟨0, _⟩ => show win0_2.index t 0 * 4 + 1 * j.val = j.val; rw [(index2 t).1]; omega
  | ⟨1, _⟩ => show win0_2.index t 1 * 1024 + 1 * n.val = n.val; rw [(index2 t).2.1]; omega
  | ⟨2, _⟩ => show win0_2.index t 2 * 896 + 1 * l.val = l.val; rw [(index2 t).2.2]; omega

/-- Its columns for keys and values. -/
theorem block2_apply (c : Dev nD) (t : Fin cfg0.N) (n l : Fin 1024) :
    fnC (iblk m c 2 t : Vec Ideal S4x1024x896 .bf16) n l = m ((c : Thread nD τ).loc main_arg2) (ix2 (n0 := 1024) (n1 := 3584) n (CtxSpec.col l)) :=
  iblk2_apply m c t _ n _ (CtxSpec.col l) (by show 2048 + l.val = 896 * ((2048 + l.val) / 896) + (2048 + l.val) % 896; omega)

/-! ## The arguments as functions of row and column -/

section

variable (c : Dev nD)

/-- The keys' cotangent. -/
abbrev argK : Fin 256 → Fin 512 → EReal := fun p l => (m ((c : Thread nD τ).loc main_arg0) : S256x512.Idx → EReal) (ix2 p l)
/-- The values' cotangent. -/
abbrev argV : Fin 256 → Fin 512 → EReal := fun p l => (m ((c : Thread nD τ).loc main_arg1) : S256x512.Idx → EReal) (ix2 p l)
/-- The context tokens. -/
abbrev argX : Fin 256 → Fin 1024 → EReal := fun p l => (m ((c : Thread nD τ).loc main_arg3) : S256x1024.Idx → EReal) (ix2 p l)
/-- The weight's columns for keys and values. -/
abbrev argW : Fin 1024 → Fin 1024 → EReal := fun n l => (m ((c : Thread nD τ).loc main_arg2) : S1024x3584.Idx → EReal) (ix2 n (CtxSpec.col l))
/-- The scale. -/
abbrev argS : Fin 1024 → EReal := fun l => (m ((c : Thread nD τ).loc main_arg5) : S1x1024.Idx → EReal) (ix2 0 l)
/-- The gains. -/
abbrev argG : Fin 1024 → EReal := fun l => (m ((c : Thread nD τ).loc main_arg6) : S1x1024.Idx → EReal) (ix2 0 l)
/-- The cotangent of the projection's input. -/
abbrev argD : Fin 256 → Fin 1024 → EReal := CtxSpec.dh (argK m c) (argV m c) (argW m c)

variable (t : Fin cfg0.N)

theorem fn0 : fn (iblk m c 0 t : Vec Ideal S256x512 .f32) = argK m c := funext fun p => funext fun l => iblk0_apply m c t p l
theorem fn1 : fn (iblk m c 1 t : Vec Ideal S256x512 .f32) = argV m c := funext fun p => funext fun l => iblk1_apply m c t p l
theorem fn2 : fnC (iblk m c 2 t : Vec Ideal S4x1024x896 .bf16) = argW m c := funext fun p => funext fun l => block2_apply m c t p l
theorem fn3 : fn (iblk m c 3 t : Vec Ideal S256x1024 .f32) = argX m c := funext fun p => funext fun l => iblk3_apply m c t p l
theorem fn5 : fn (iblk m c 5 t : Vec Ideal S1x1024 .f32) 0 = argS m c := funext fun l => iblk5_apply m c t 0 l
theorem fn6 : fn (iblk m c 6 t : Vec Ideal S1x1024 .f32) 0 = argG m c := funext fun l => iblk6_apply m c t 0 l

/-! ## The result arrays -/

/-- The shift's cotangent. -/
def res7 : Buf (Elt Ideal) ((c : Thread nD τ).loc main_v3_0) := fun j : S1x1024.Idx => InSpec.dshift (argD m c) (j 1)
/-- The scale's cotangent. -/
def res8 : Buf (Elt Ideal) ((c : Thread nD τ).loc main_v3_1) := fun j : S1x1024.Idx => InSpec.dscale (argD m c) (argX m c) (argG m c) (j 1)
/-- The gains' cotangent. -/
def res9 : Buf (Elt Ideal) ((c : Thread nD τ).loc main_v3_2) := fun j : S1x1024.Idx => InSpec.dgain (argD m c) (argX m c) (argS m c) (j 1)

theorem index7 : ∀ t : Fin cfg0.N, win0_7.index t 0 = 0 ∧ win0_7.index t 1 = 0 := by decide +kernel
theorem size7 : ∀ t : Fin cfg0.N, win0_7.xsize (grid0.coords t) 0 = 1 ∧ win0_7.xsize (grid0.coords t) 1 = 1024 := by decide +kernel

theorem block7 (z : Fin 1) (n : Fin 1024) :
    total (F := Ideal) (dh (iblk m c 0 t : Vec Ideal S256x512 .f32) (iblk m c 1 t : Vec Ideal S256x512 .f32) (iblk m c 2 t : Vec Ideal S4x1024x896 .bf16)) (ix2 z n) = res7 m c (ix2 (n0 := 1) (n1 := 1024) z n) := by
  rw [total_apply, dh_fn, fn0, fn1, fn2]
  rfl

theorem flushed7_eq (hf : (cfg0.win 7).flush t = true) :
    (dats m 0 c).flushed 7 t = ((cfg0.win 7).blk t).view.read (Elt Ideal) (res7 m c) := by
  rw [flushed7, out_7]
  funext j
  rw [View.read_apply]
  refine (congrArg (total (F := Ideal) (dh (iblk m c 0 t : Vec Ideal S256x512 .f32) (iblk m c 1 t : Vec Ideal S256x512 .f32) (iblk m c 2 t : Vec Ideal S4x1024x896 .bf16))) (eq_ix2 (n0 := 1) (n1 := 1024) j)).trans ((block7 m c t (j 0) (j 1)).trans ?_)
  show res7 m c _ = res7 m c _
  congr 1
  funext a
  apply Fin.ext
  match a with
  | ⟨0, _⟩ => show (j 0).val = win0_7.index t 0 * 1 + 1 * (j 0).val; rw [(index7 t).1]; omega
  | ⟨1, _⟩ => show (j 1).val = win0_7.index t 1 * 1024 + 1 * (j 1).val; rw [(index7 t).2]; omega

theorem cover7 (i : S1x1024.Idx) : i ∈ ((View.whole main_v3_0).slice (win0_7.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_7.index t 0 * 1 ≤ (i 0 : Nat) ∧ (i 0 : Nat) < win0_7.index t 0 * 1 + win0_7.xsize (grid0.coords t) 0
              rw [(index7 t).1, (size7 t).1]; omega
  | ⟨1, _⟩ => show win0_7.index t 1 * 1024 ≤ (i 1 : Nat) ∧ (i 1 : Nat) < win0_7.index t 1 * 1024 + win0_7.xsize (grid0.coords t) 1
              rw [(index7 t).2, (size7 t).2]; omega

theorem flush7 : ∀ t : Fin cfg0.N, (cfg0.win 7).flush t = true := by decide +kernel

theorem final7 : (dats m 0 c).arrAt 7 cfg0.N = res7 m c :=
  (dats m 0 c).arrAt_eq_of_cover 7 (res7 m c) (fun t hf => flushed7_eq m c t hf) fun i =>
    ⟨⟨0, by decide⟩, flush0_7 _, cover7 ⟨0, by decide⟩ i⟩

theorem index8 : ∀ t : Fin cfg0.N, win0_8.index t 0 = 0 ∧ win0_8.index t 1 = 0 := by decide +kernel
theorem size8 : ∀ t : Fin cfg0.N, win0_8.xsize (grid0.coords t) 0 = 1 ∧ win0_8.xsize (grid0.coords t) 1 = 1024 := by decide +kernel

theorem block8 (z : Fin 1) (n : Fin 1024) :
    dscale (F := Ideal) (dh (iblk m c 0 t : Vec Ideal S256x512 .f32) (iblk m c 1 t : Vec Ideal S256x512 .f32) (iblk m c 2 t : Vec Ideal S4x1024x896 .bf16)) (iblk m c 3 t : Vec Ideal S256x1024 .f32) (iblk m c 6 t : Vec Ideal S1x1024 .f32) (ix2 z n) = res8 m c (ix2 (n0 := 1) (n1 := 1024) z n) := by
  rw [dscale_apply, dh_fn, fn0, fn1, fn2, fn3, fn6]
  rfl

theorem flushed8_eq (hf : (cfg0.win 8).flush t = true) :
    (dats m 0 c).flushed 8 t = ((cfg0.win 8).blk t).view.read (Elt Ideal) (res8 m c) := by
  rw [flushed8, out_8]
  funext j
  rw [View.read_apply]
  refine (congrArg (dscale (F := Ideal) (dh (iblk m c 0 t : Vec Ideal S256x512 .f32) (iblk m c 1 t : Vec Ideal S256x512 .f32) (iblk m c 2 t : Vec Ideal S4x1024x896 .bf16)) (iblk m c 3 t : Vec Ideal S256x1024 .f32) (iblk m c 6 t : Vec Ideal S1x1024 .f32)) (eq_ix2 (n0 := 1) (n1 := 1024) j)).trans ((block8 m c t (j 0) (j 1)).trans ?_)
  show res8 m c _ = res8 m c _
  congr 1
  funext a
  apply Fin.ext
  match a with
  | ⟨0, _⟩ => show (j 0).val = win0_8.index t 0 * 1 + 1 * (j 0).val; rw [(index8 t).1]; omega
  | ⟨1, _⟩ => show (j 1).val = win0_8.index t 1 * 1024 + 1 * (j 1).val; rw [(index8 t).2]; omega

theorem cover8 (i : S1x1024.Idx) : i ∈ ((View.whole main_v3_1).slice (win0_8.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_8.index t 0 * 1 ≤ (i 0 : Nat) ∧ (i 0 : Nat) < win0_8.index t 0 * 1 + win0_8.xsize (grid0.coords t) 0
              rw [(index8 t).1, (size8 t).1]; omega
  | ⟨1, _⟩ => show win0_8.index t 1 * 1024 ≤ (i 1 : Nat) ∧ (i 1 : Nat) < win0_8.index t 1 * 1024 + win0_8.xsize (grid0.coords t) 1
              rw [(index8 t).2, (size8 t).2]; omega

theorem flush8 : ∀ t : Fin cfg0.N, (cfg0.win 8).flush t = true := by decide +kernel

theorem final8 : (dats m 0 c).arrAt 8 cfg0.N = res8 m c :=
  (dats m 0 c).arrAt_eq_of_cover 8 (res8 m c) (fun t hf => flushed8_eq m c t hf) fun i =>
    ⟨⟨0, by decide⟩, flush0_8 _, cover8 ⟨0, by decide⟩ i⟩

theorem index9 : ∀ t : Fin cfg0.N, win0_9.index t 0 = 0 ∧ win0_9.index t 1 = 0 := by decide +kernel
theorem size9 : ∀ t : Fin cfg0.N, win0_9.xsize (grid0.coords t) 0 = 1 ∧ win0_9.xsize (grid0.coords t) 1 = 1024 := by decide +kernel

theorem block9 (z : Fin 1) (n : Fin 1024) :
    dgain (F := Ideal) (dh (iblk m c 0 t : Vec Ideal S256x512 .f32) (iblk m c 1 t : Vec Ideal S256x512 .f32) (iblk m c 2 t : Vec Ideal S4x1024x896 .bf16)) (iblk m c 3 t : Vec Ideal S256x1024 .f32) (iblk m c 5 t : Vec Ideal S1x1024 .f32) (ix2 z n) = res9 m c (ix2 (n0 := 1) (n1 := 1024) z n) := by
  rw [dgain_apply, dh_fn, fn0, fn1, fn2, fn3, fn5]
  rfl

theorem flushed9_eq (hf : (cfg0.win 9).flush t = true) :
    (dats m 0 c).flushed 9 t = ((cfg0.win 9).blk t).view.read (Elt Ideal) (res9 m c) := by
  rw [flushed9, out_9]
  funext j
  rw [View.read_apply]
  refine (congrArg (dgain (F := Ideal) (dh (iblk m c 0 t : Vec Ideal S256x512 .f32) (iblk m c 1 t : Vec Ideal S256x512 .f32) (iblk m c 2 t : Vec Ideal S4x1024x896 .bf16)) (iblk m c 3 t : Vec Ideal S256x1024 .f32) (iblk m c 5 t : Vec Ideal S1x1024 .f32)) (eq_ix2 (n0 := 1) (n1 := 1024) j)).trans ((block9 m c t (j 0) (j 1)).trans ?_)
  show res9 m c _ = res9 m c _
  congr 1
  funext a
  apply Fin.ext
  match a with
  | ⟨0, _⟩ => show (j 0).val = win0_9.index t 0 * 1 + 1 * (j 0).val; rw [(index9 t).1]; omega
  | ⟨1, _⟩ => show (j 1).val = win0_9.index t 1 * 1024 + 1 * (j 1).val; rw [(index9 t).2]; omega

theorem cover9 (i : S1x1024.Idx) : i ∈ ((View.whole main_v3_2).slice (win0_9.rect t)).set := by
  rw [View.set_slice_whole, Rect.mem_set_unit]
  intro a
  have h0 : (i 0 : Nat) < 1 := (i 0).isLt
  have h1 : (i 1 : Nat) < 1024 := (i 1).isLt
  match a with
  | ⟨0, _⟩ => show win0_9.index t 0 * 1 ≤ (i 0 : Nat) ∧ (i 0 : Nat) < win0_9.index t 0 * 1 + win0_9.xsize (grid0.coords t) 0
              rw [(index9 t).1, (size9 t).1]; omega
  | ⟨1, _⟩ => show win0_9.index t 1 * 1024 ≤ (i 1 : Nat) ∧ (i 1 : Nat) < win0_9.index t 1 * 1024 + win0_9.xsize (grid0.coords t) 1
              rw [(index9 t).2, (size9 t).2]; omega

theorem flush9 : ∀ t : Fin cfg0.N, (cfg0.win 9).flush t = true := by decide +kernel

theorem final9 : (dats m 0 c).arrAt 9 cfg0.N = res9 m c :=
  (dats m 0 c).arrAt_eq_of_cover 9 (res9 m c) (fun t hf => flushed9_eq m c t hf) fun i =>
    ⟨⟨0, by decide⟩, flush0_9 _, cover9 ⟨0, by decide⟩ i⟩

end

/-- The run ends with the formulas' arrays, the arguments unchanged. -/
theorem run : θ_run defs (onTc (τ := τ) (main (F := Ideal))) ⟨m, fun _ => 0, ρ⟩ fun r => ∀ c : Dev nD,
      r.2.mem ((c : Thread nD τ).loc main_v3_0) = res7 m c
      ∧ r.2.mem ((c : Thread nD τ).loc main_v3_1) = res8 m c
      ∧ r.2.mem ((c : Thread nD τ).loc main_v3_2) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (run_blocks m ρ)

end Cert.CtxKernelIdeal.Value

end
-- ==== Proof.CtxEquation.lean ====
/- The reference of the gradient of the context tokens' modulated norm, read at an entry, and the equation of the two programs. -/
module

public import proofs.«01_k».proof.Defs
public import proofs.«01_k».proof.Proof.Gen.CtxReferenceIdeal.Read
public import proofs.«01_k».proof.Proof.CtxFinal
public import Idealize.ShloMosaic.Adequacy
public import Idealize.ShloMosaic.Init

@[expose] public section

set_option maxHeartbeats 1000000

noncomputable section

open Idealize.ShloMosaic Idealize.ShloMosaic.TcCoe Idealize.SL.Sem

namespace Cert.CtxReferenceIdeal.Entry

open Cert.CtxReferenceIdeal Cert.CtxReferenceIdeal.Gen Cert.CtxReferenceIdeal.Read

/-- An array as a function of row and column. -/
abbrev fn {R C : ℕ} (x : Shape.Idx ⟨2, ![R, C]⟩ → EReal) : Fin R → Fin C → EReal := fun r c => x (ix2 r c)

section

variable (y0 y1 : S256x512.Idx → EReal)

theorem cat0 (h) (r : Fin 256) (l : Fin 512) :
    concatenate S256x1024 1 [⟨S256x512, y0⟩, ⟨S256x512, y1⟩] h (ix2 r (CtxSpec.half 0 l)) = y0 (ix2 r l) :=
  concatenate_apply_piece (t := S256x1024) 1 [⟨S256x512, y0⟩, ⟨S256x512, y1⟩] h (ix2 r (CtxSpec.half 0 l)) 0
    (by show 0 < 2; decide) S256x512 y0 rfl rfl 0 rfl (ix2 r l)
    (fun b hb => match b with | ⟨0, _⟩ => rfl | ⟨1, _⟩ => absurd rfl hb) (by show 0 + l.val = 512 * 0 + l.val; omega)
theorem cat1 (h) (r : Fin 256) (l : Fin 512) :
    concatenate S256x1024 1 [⟨S256x512, y0⟩, ⟨S256x512, y1⟩] h (ix2 r (CtxSpec.half 1 l)) = y1 (ix2 r l) :=
  concatenate_apply_piece (t := S256x1024) 1 [⟨S256x512, y0⟩, ⟨S256x512, y1⟩] h (ix2 r (CtxSpec.half 1 l)) 1
    (by show 1 < 2; decide) S256x512 y1 rfl rfl 512 rfl (ix2 r l)
    (fun b hb => match b with | ⟨0, _⟩ => rfl | ⟨1, _⟩ => absurd rfl hb) (by show 512 + l.val = 512 * 1 + l.val; omega)

end

/-- A sum from the constant zero. -/
theorem zero_sum (x : EReal) : FloatOps.ofBits (F := Ideal) .f32 0x00000000#32 + x = x := by
  show Ideal.ofBits .f32 0x00000000#32 + x = x
  rw [Ideal.ofBits_zero_f32, zero_add]

variable (x0 x1 : S256x512.Idx → EReal) (x2 : S1024x3584.Idx → EReal) (x3 : S256x1024.Idx → EReal) (x5 x6 : S1x1024.Idx → EReal)

/-- The cotangent of the projection's input. -/
abbrev D : Fin 256 → Fin 1024 → EReal := CtxSpec.dh (fn x0) (fn x1) fun n l => fn x2 n (CtxSpec.col l)

theorem v21_entry (r : Fin 256) (n : Fin 1024) : val_main_v21 (F := Ideal) x0 x1 x2 (ix2 r n) = D x0 x1 x2 r n := by
  rw [val_main_v21_apply, CtxSpec.sum_half]
  have el : ∀ k, lidx_main_v21 (ix2 r n) k = ix2 r k := fun k => funext fun a => match a with | ⟨0, _⟩ => rfl | ⟨1, _⟩ => rfl
  have er : ∀ k, ridx_main_v21 (ix2 r n) k = ix2 n k := fun k => funext fun a => match a with | ⟨0, _⟩ => rfl | ⟨1, _⟩ => rfl
  have es : ∀ k, idx_main_v18 (ix2 n k) = ix2 n (CtxSpec.col k) := fun k => funext fun a => match a with
    | ⟨0, _⟩ => Fin.ext (by show _ = n.val; simp)
    | ⟨1, _⟩ => Fin.ext (by show _ = 2048 + k.val; simp)
  simp only [el, er, val_main_v18_apply, es, val_main_v20, cat0, cat1]
  rfl

theorem v6_entry (r : Fin 256) (z : Fin 1) : val_main_v6 (F := Ideal) x3 (ix2 r z) = InSpec.ms (fn x3) r := by
  have e2 : idx_main_v2 (ix2 r z) = ix1 r := funext fun a => match a with | ⟨0, _⟩ => rfl
  have e1 : ∀ k, idx_main_v1 (ix1 r) k = ix2 r k := fun k => funext fun a => match a with | ⟨0, _⟩ => rfl | ⟨1, _⟩ => rfl
  rw [val_main_v6_apply, val_main_v4_apply, val_main_v2_apply, e2, val_main_v1_apply, val_main_v3_apply, val_main_v5_apply]
  simp only [e1, val_main_v0_apply, val_main_cst_apply, zero_sum, val_main_cst_0_apply, val_main_cst_1_apply]
  rfl

theorem v9_entry (r : Fin 256) (n : Fin 1024) : val_main_v9 (F := Ideal) x3 (ix2 r n) = InSpec.nrm (fn x3) r n := by
  have e : idx_main_v8 (ix2 r n) = ix2 r 0 := funext fun a => match a with | ⟨0, _⟩ => rfl | ⟨1, _⟩ => rfl
  rw [val_main_v9_apply, val_main_v8_apply, e, val_main_v7_apply, v6_entry]
  rfl

theorem v11_entry (r : Fin 256) (n : Fin 1024) : val_main_v11 (F := Ideal) x3 x6 (ix2 r n) = InSpec.nrmG (fn x3) (fn x6 0) r n := by
  have e : idx_main_v10 (ix2 r n) = ix2 0 n := funext fun a => match a with | ⟨0, _⟩ => rfl | ⟨1, _⟩ => rfl
  rw [val_main_v11_apply, v9_entry, val_main_v10_apply, e]
  rfl

theorem v28_entry (r : Fin 256) (n : Fin 1024) : val_main_v28 (F := Ideal) x0 x1 x2 x5 (ix2 r n) = InSpec.dng (D x0 x1 x2) (fn x5 0) r n := by
  have e : idx_main_v27 (ix2 r n) = ix2 0 n := funext fun a => match a with | ⟨0, _⟩ => rfl | ⟨1, _⟩ => rfl
  have e1 : ∀ x : EReal, FloatOps.addf (F := Ideal) (FloatOps.ofBits (F := Ideal) .f32 0x3F800000#32) x = 1 + x := fun x => by
    show Ideal.ofBits .f32 0x3F800000#32 + x = 1 + x
    rw [Ideal.ofBits_one_f32]
  rw [val_main_v28_apply, v21_entry, val_main_v27_apply, e, val_main_v13_apply, val_main_v12_apply, val_main_cst_2_apply, e1]
  rfl

/-- The shift's cotangent. -/
theorem v23_entry (z : Fin 1) (n : Fin 1024) : val_main_v23 (F := Ideal) x0 x1 x2 (ix2 z n) = InSpec.dshift (D x0 x1 x2) n := by
  have e2 : idx_main_v23 (ix2 z n) = ix1 n := funext fun a => match a with
    | ⟨0, _⟩ => Fin.ext (by show z.val * 1024 + n.val = n.val; have := z.isLt; omega)
  have e3 : ∀ r, idx_main_v22 (ix1 n) r = ix2 r n := fun r => funext fun a => match a with | ⟨0, _⟩ => rfl | ⟨1, _⟩ => rfl
  rw [val_main_v23_apply, e2, val_main_v22_apply]
  simp only [e3, v21_entry, val_main_cst_3_apply, zero_sum]
  rfl

/-- The scale's cotangent. -/
theorem v26_entry (z : Fin 1) (n : Fin 1024) : val_main_v26 (F := Ideal) x0 x1 x2 x3 x6 (ix2 z n) = InSpec.dscale (D x0 x1 x2) (fn x3) (fn x6 0) n := by
  have e2 : idx_main_v26 (ix2 z n) = ix1 n := funext fun a => match a with
    | ⟨0, _⟩ => Fin.ext (by show z.val * 1024 + n.val = n.val; have := z.isLt; omega)
  have e3 : ∀ r, idx_main_v25 (ix1 n) r = ix2 r n := fun r => funext fun a => match a with | ⟨0, _⟩ => rfl | ⟨1, _⟩ => rfl
  rw [val_main_v26_apply, e2, val_main_v25_apply]
  simp only [e3, val_main_v24_apply, v11_entry, v21_entry, val_main_cst_4_apply, zero_sum]
  rfl

/-- The gains' cotangent. -/
theorem v31_entry (z : Fin 1) (n : Fin 1024) : val_main_v31 (F := Ideal) x0 x1 x2 x3 x5 (ix2 z n) = InSpec.dgain (D x0 x1 x2) (fn x3) (fn x5 0) n := by
  have e2 : idx_main_v31 (ix2 z n) = ix1 n := funext fun a => match a with
    | ⟨0, _⟩ => Fin.ext (by show z.val * 1024 + n.val = n.val; have := z.isLt; omega)
  have e3 : ∀ r, idx_main_v30 (ix1 n) r = ix2 r n := fun r => funext fun a => match a with | ⟨0, _⟩ => rfl | ⟨1, _⟩ => rfl
  rw [val_main_v31_apply, e2, val_main_v30_apply]
  simp only [e3, val_main_v29_apply, v9_entry, v28_entry, val_main_cst_5_apply, zero_sum]
  rfl

/-! The formulas as arrays. -/

abbrev arrS : S1x1024.Idx → EReal := fun j => InSpec.dshift (D x0 x1 x2) (j 1)
abbrev arrC : S1x1024.Idx → EReal := fun j => InSpec.dscale (D x0 x1 x2) (fn x3) (fn x6 0) (j 1)
abbrev arrG : S1x1024.Idx → EReal := fun j => InSpec.dgain (D x0 x1 x2) (fn x3) (fn x5 0) (j 1)

/-- The reference's run ends with the formulas' arrays of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = arrS (m ((c : Thread nD τ).loc main_arg0)) (m ((c : Thread nD τ).loc main_arg1)) (m ((c : Thread nD τ).loc main_arg2))
      ∧ r.2.mem ((c : Thread nD τ).loc main_v26) = arrC (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c : Thread nD τ).loc main_v31) = arrG (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨(h c).1.trans ((val_main_v23_eq _ _ _).trans (funext fun j => by
        rw [eq_ix2 (n0 := 1) (n1 := 1024) j]; exact v23_entry _ _ _ _ _)),
      (h c).2.1.trans ((val_main_v26_eq _ _ _ _ _).trans (funext fun j => by
        rw [eq_ix2 (n0 := 1) (n1 := 1024) j]; exact v26_entry _ _ _ _ _ _ _)),
      (h c).2.2.1.trans ((val_main_v31_eq _ _ _ _ _).trans (funext fun j => by
        rw [eq_ix2 (n0 := 1) (n1 := 1024) j]; exact v31_entry _ _ _ _ _ _ _)),
      (h c).2.2.2⟩) (Cert.CtxReferenceIdeal.Value.run m ρ)

end Cert.CtxReferenceIdeal.Entry

namespace Cert.Proof

/-- From agreeing arguments the two programs of the gradient of the context tokens' modulated norm end with equal results. -/
theorem algebraic_ctx : Cert.algebraic_CtxKernelIdeal_CtxReferenceIdeal (hCtxKernelIdeal := Cert.CtxKernelIdeal.Gen.facts) (hCtxReferenceIdeal := Cert.CtxReferenceIdeal.Gen.facts) :=
  fun m ρ m' ρ' _ hag =>
    ⟨Cert.CtxKernelIdeal.Value.res7 m, Cert.CtxKernelIdeal.Value.res8 m, Cert.CtxKernelIdeal.Value.res9 m,
      Cert.CtxKernelIdeal.Value.run m ρ,
      (θ_run _ _ _).mono (fun _ h c => by
        obtain ⟨e0, e1, e2, e3, e4, e5, e6⟩ := hag c
        obtain ⟨h0, h1, h2, h3⟩ := h c
        rw [e0, e1, e2] at h0
        rw [e0, e1, e2, e3, e6] at h1
        rw [e0, e1, e2, e3, e5] at h2
        exact ⟨h0, h1, h2, h3⟩) (Cert.CtxReferenceIdeal.Entry.run m' ρ')⟩

/-- The reference's run leaves the arguments as they are; it declares no semaphore. -/
theorem reference_frame_ctx : Cert.quiescent_CtxReferenceIdeal (hCtxReferenceIdeal := Cert.CtxReferenceIdeal.Gen.facts) := fun m ρ _ =>
  (θ_run _ _ _).mono (fun r h => ⟨fun c => (h c).2.2.2, Idealize.ShloMosaic.sem_eq_zero_of_no_sems (by decide) r.2⟩) (Cert.CtxReferenceIdeal.Value.run m ρ)

end Cert.Proof

end
-- ==== Proof.AdamBig.lean ====
/- The optimiser's three large calls: the weights of the adaptive modulation, of the input and of the output projection.
   Each writes the step, the new first moment and the new second moment, entry by entry the formulas of the reference. -/
module

public import proofs.«01_k».proof.Defs
public import proofs.«01_k».proof.Proof.Gen.AdamInKernelIdeal.Value
public import proofs.«01_k».proof.Proof.Gen.AdamInReferenceIdeal.Read
public import proofs.«01_k».proof.Proof.Gen.AdamOutKernelIdeal.Value
public import proofs.«01_k».proof.Proof.Gen.AdamOutReferenceIdeal.Read
public import proofs.«01_k».proof.Proof.Gen.AdamAdaKernelIdeal.Value
public import proofs.«01_k».proof.Proof.Gen.AdamAdaReferenceIdeal.Read
public import Idealize.ShloMosaic.Adequacy
public import Idealize.ShloMosaic.Init

@[expose] public section

noncomputable section

open Idealize.ShloMosaic Idealize.ShloMosaic.TcCoe Idealize.SL.Sem

namespace Cert.Proof

/-- From agreeing weights, gradients and moments the two optimiser steps of the input projection end with equal results. -/
theorem algebraic_adam_in : Cert.algebraic_AdamInKernelIdeal_AdamInReferenceIdeal (hAdamInKernelIdeal := Cert.AdamInKernelIdeal.Gen.facts) (hAdamInReferenceIdeal := Cert.AdamInReferenceIdeal.Gen.facts) :=
  fun m ρ m' ρ' _ hag =>
    ⟨fun c => Cert.AdamInKernelIdeal.Value.G4 (m ((c : Thread Cert.AdamInKernelIdeal.nD Cert.AdamInKernelIdeal.τ).loc Cert.AdamInKernelIdeal.main_arg0)) (m ((c : Thread Cert.AdamInKernelIdeal.nD Cert.AdamInKernelIdeal.τ).loc Cert.AdamInKernelIdeal.main_arg1)) (m ((c : Thread Cert.AdamInKernelIdeal.nD Cert.AdamInKernelIdeal.τ).loc Cert.AdamInKernelIdeal.main_arg2)) (m ((c : Thread Cert.AdamInKernelIdeal.nD Cert.AdamInKernelIdeal.τ).loc Cert.AdamInKernelIdeal.main_arg3)),
      fun c => Cert.AdamInKernelIdeal.Value.G5 (m ((c : Thread Cert.AdamInKernelIdeal.nD Cert.AdamInKernelIdeal.τ).loc Cert.AdamInKernelIdeal.main_arg1)) (m ((c : Thread Cert.AdamInKernelIdeal.nD Cert.AdamInKernelIdeal.τ).loc Cert.AdamInKernelIdeal.main_arg2)),
      fun c => Cert.AdamInKernelIdeal.Value.G6 (m ((c : Thread Cert.AdamInKernelIdeal.nD Cert.AdamInKernelIdeal.τ).loc Cert.AdamInKernelIdeal.main_arg1)) (m ((c : Thread Cert.AdamInKernelIdeal.nD Cert.AdamInKernelIdeal.τ).loc Cert.AdamInKernelIdeal.main_arg3)), Cert.AdamInKernelIdeal.Value.run m ρ,
      (θ_run _ _ _).mono (fun _ h c => by
        obtain ⟨e0, e1, e2, e3⟩ := hag c
        obtain ⟨h0, h1, h2, h3⟩ := h c
        rw [Cert.AdamInReferenceIdeal.Read.val_main_v23_eq, e0, e1, e2, e3] at h0
        rw [Cert.AdamInReferenceIdeal.Read.val_main_v4_eq, e1, e2] at h1
        rw [Cert.AdamInReferenceIdeal.Read.val_main_v10_eq, e1, e3] at h2
        exact ⟨h0.trans (funext fun _ => rfl), h1.trans (funext fun _ => rfl), h2.trans (funext fun _ => rfl), h3⟩)
        (Cert.AdamInReferenceIdeal.Value.run m' ρ')⟩

/-- The reference's run leaves the arguments as they are; it declares no semaphore. -/
theorem reference_frame_adam_in : Cert.quiescent_AdamInReferenceIdeal (hAdamInReferenceIdeal := Cert.AdamInReferenceIdeal.Gen.facts) := fun m ρ _ =>
  (θ_run _ _ _).mono (fun r h => ⟨fun c => (h c).2.2.2, Idealize.ShloMosaic.sem_eq_zero_of_no_sems (by decide) r.2⟩) (Cert.AdamInReferenceIdeal.Value.run m ρ)

/-- From agreeing weights, gradients and moments the two optimiser steps of the output projection end with equal results. -/
theorem algebraic_adam_out : Cert.algebraic_AdamOutKernelIdeal_AdamOutReferenceIdeal (hAdamOutKernelIdeal := Cert.AdamOutKernelIdeal.Gen.facts) (hAdamOutReferenceIdeal := Cert.AdamOutReferenceIdeal.Gen.facts) :=
  fun m ρ m' ρ' _ hag =>
    ⟨fun c => Cert.AdamOutKernelIdeal.Value.G4 (m ((c : Thread Cert.AdamOutKernelIdeal.nD Cert.AdamOutKernelIdeal.τ).loc Cert.AdamOutKernelIdeal.main_arg0)) (m ((c : Thread Cert.AdamOutKernelIdeal.nD Cert.AdamOutKernelIdeal.τ).loc Cert.AdamOutKernelIdeal.main_arg1)) (m ((c : Thread Cert.AdamOutKernelIdeal.nD Cert.AdamOutKernelIdeal.τ).loc Cert.AdamOutKernelIdeal.main_arg2)) (m ((c : Thread Cert.AdamOutKernelIdeal.nD Cert.AdamOutKernelIdeal.τ).loc Cert.AdamOutKernelIdeal.main_arg3)),
      fun c => Cert.AdamOutKernelIdeal.Value.G5 (m ((c : Thread Cert.AdamOutKernelIdeal.nD Cert.AdamOutKernelIdeal.τ).loc Cert.AdamOutKernelIdeal.main_arg1)) (m ((c : Thread Cert.AdamOutKernelIdeal.nD Cert.AdamOutKernelIdeal.τ).loc Cert.AdamOutKernelIdeal.main_arg2)),
      fun c => Cert.AdamOutKernelIdeal.Value.G6 (m ((c : Thread Cert.AdamOutKernelIdeal.nD Cert.AdamOutKernelIdeal.τ).loc Cert.AdamOutKernelIdeal.main_arg1)) (m ((c : Thread Cert.AdamOutKernelIdeal.nD Cert.AdamOutKernelIdeal.τ).loc Cert.AdamOutKernelIdeal.main_arg3)), Cert.AdamOutKernelIdeal.Value.run m ρ,
      (θ_run _ _ _).mono (fun _ h c => by
        obtain ⟨e0, e1, e2, e3⟩ := hag c
        obtain ⟨h0, h1, h2, h3⟩ := h c
        rw [Cert.AdamOutReferenceIdeal.Read.val_main_v23_eq, e0, e1, e2, e3] at h0
        rw [Cert.AdamOutReferenceIdeal.Read.val_main_v4_eq, e1, e2] at h1
        rw [Cert.AdamOutReferenceIdeal.Read.val_main_v10_eq, e1, e3] at h2
        exact ⟨h0.trans (funext fun _ => rfl), h1.trans (funext fun _ => rfl), h2.trans (funext fun _ => rfl), h3⟩)
        (Cert.AdamOutReferenceIdeal.Value.run m' ρ')⟩

/-- The reference's run leaves the arguments as they are; it declares no semaphore. -/
theorem reference_frame_adam_out : Cert.quiescent_AdamOutReferenceIdeal (hAdamOutReferenceIdeal := Cert.AdamOutReferenceIdeal.Gen.facts) := fun m ρ _ =>
  (θ_run _ _ _).mono (fun r h => ⟨fun c => (h c).2.2.2, Idealize.ShloMosaic.sem_eq_zero_of_no_sems (by decide) r.2⟩) (Cert.AdamOutReferenceIdeal.Value.run m ρ)

/-- From agreeing weights, gradients and moments the two optimiser steps of the adaptive modulation end with equal results. -/
theorem algebraic_adam_ada : Cert.algebraic_AdamAdaKernelIdeal_AdamAdaReferenceIdeal (hAdamAdaKernelIdeal := Cert.AdamAdaKernelIdeal.Gen.facts) (hAdamAdaReferenceIdeal := Cert.AdamAdaReferenceIdeal.Gen.facts) :=
  fun m ρ m' ρ' _ hag =>
    ⟨fun c => Cert.AdamAdaKernelIdeal.Value.G4 (m ((c : Thread Cert.AdamAdaKernelIdeal.nD Cert.AdamAdaKernelIdeal.τ).loc Cert.AdamAdaKernelIdeal.main_arg0)) (m ((c : Thread Cert.AdamAdaKernelIdeal.nD Cert.AdamAdaKernelIdeal.τ).loc Cert.AdamAdaKernelIdeal.main_arg1)) (m ((c : Thread Cert.AdamAdaKernelIdeal.nD Cert.AdamAdaKernelIdeal.τ).loc Cert.AdamAdaKernelIdeal.main_arg2)) (m ((c : Thread Cert.AdamAdaKernelIdeal.nD Cert.AdamAdaKernelIdeal.τ).loc Cert.AdamAdaKernelIdeal.main_arg3)),
      fun c => Cert.AdamAdaKernelIdeal.Value.G5 (m ((c : Thread Cert.AdamAdaKernelIdeal.nD Cert.AdamAdaKernelIdeal.τ).loc Cert.AdamAdaKernelIdeal.main_arg1)) (m ((c : Thread Cert.AdamAdaKernelIdeal.nD Cert.AdamAdaKernelIdeal.τ).loc Cert.AdamAdaKernelIdeal.main_arg2)),
      fun c => Cert.AdamAdaKernelIdeal.Value.G6 (m ((c : Thread Cert.AdamAdaKernelIdeal.nD Cert.AdamAdaKernelIdeal.τ).loc Cert.AdamAdaKernelIdeal.main_arg1)) (m ((c : Thread Cert.AdamAdaKernelIdeal.nD Cert.AdamAdaKernelIdeal.τ).loc Cert.AdamAdaKernelIdeal.main_arg3)), Cert.AdamAdaKernelIdeal.Value.run m ρ,
      (θ_run _ _ _).mono (fun _ h c => by
        obtain ⟨e0, e1, e2, e3⟩ := hag c
        obtain ⟨h0, h1, h2, h3⟩ := h c
        rw [Cert.AdamAdaReferenceIdeal.Read.val_main_v23_eq, e0, e1, e2, e3] at h0
        rw [Cert.AdamAdaReferenceIdeal.Read.val_main_v4_eq, e1, e2] at h1
        rw [Cert.AdamAdaReferenceIdeal.Read.val_main_v10_eq, e1, e3] at h2
        exact ⟨h0.trans (funext fun _ => rfl), h1.trans (funext fun _ => rfl), h2.trans (funext fun _ => rfl), h3⟩)
        (Cert.AdamAdaReferenceIdeal.Value.run m' ρ')⟩

/-- The reference's run leaves the arguments as they are; it declares no semaphore. -/
theorem reference_frame_adam_ada : Cert.quiescent_AdamAdaReferenceIdeal (hAdamAdaReferenceIdeal := Cert.AdamAdaReferenceIdeal.Gen.facts) := fun m ρ _ =>
  (θ_run _ _ _).mono (fun r h => ⟨fun c => (h c).2.2.2, Idealize.ShloMosaic.sem_eq_zero_of_no_sems (by decide) r.2⟩) (Cert.AdamAdaReferenceIdeal.Value.run m ρ)

end Cert.Proof

end
-- ==== Proof.AdamSmallStep.lean ====
/- One step of the optimiser on an array of any shape: the new first moment, the new second moment and the step, and that
   a block loaded whole, put through one of them and stored whole leaves that value in the buffer. -/
module

public import Idealize.ShloMosaic.Lib.Pipeline.FrameBody
public import Idealize.ShloMosaic.Lib.Pipeline.Value

@[expose] public section

noncomputable section

namespace Cert.AdamSmall

open Idealize.ShloMosaic

variable {F : FTy → Type} [FloatOps F] {S : Shape}

/-- A constant at every entry. -/
abbrev all (S : Shape) (b : BitVec 32) : FVec F S .f32 := broadcast S (Scalar.ofBits .f32 b)
/-- The new first moment: nine tenths of the old one plus a tenth of the gradient. -/
def first (g m : FVec F S .f32) : FVec F S .f32 := addf (mulf (all S 0x3F666666#32) m) (mulf (all S 0x3DCCCCCD#32) g)
/-- The new second moment: 0.999 of the old one plus 0.001 of the gradient squared. -/
def second (g v : FVec F S .f32) : FVec F S .f32 :=
  addf (mulf (all S 0x3F7FBE77#32) v) (mulf (all S 0x3A83126F#32) (mulf g g))
/-- The step: the corrected first moment over the root of the corrected second, plus the decay, times minus the rate. -/
def step (w g m v : FVec F S .f32) : FVec F S .f32 :=
  mulf (all S 0xBA83126F#32)
    (addf (divf (divf (first g m) (all S 0x3F26BD02#32)) (addf (sqrt (divf (second g v) (all S 0x3C231ACC#32))) (all S 0x322BCC77#32)))
      (mulf (all S 0x3C23D70A#32) w))

variable {sig : RefSig} {κ : Kind} {sp : Space} (u : View sig κ sp S .f32) (f : u.ty.Contents (Elt F))
variable {o : Fin S.rank → ℕ} (h : o = fun _ => 0) (inb : ∀ a, o a + S.size a ≤ S.size a)

include h in
/-- A buffer stored whole reads the value stored. -/
theorem read_stored (y : Vec F S .f32) : u.read (Elt F) (u.writes (Elt F) f [⟨Rect.unit o S.size inb, y⟩]) = y := by
  refine (View.read_writes_eq_canon _ _ _ fun i => ⟨_, List.mem_cons_self, ?_⟩).trans (View.canon_unit_zero h inb y)
  subst h
  exact (Rect.mem_set_unit (inb := inb)).2 fun a => ⟨Nat.zero_le _, by simpa using (i a).isLt⟩

include h in
/-- The first moment of blocks loaded whole, stored whole. -/
theorem read_first (g m : Vec F S .f32) :
    u.read (Elt F) (u.writes (Elt F) f [⟨Rect.unit o S.size inb,
      first (S := S) (View.ld g (Rect.unit o S.size inb)) (View.ld m (Rect.unit o S.size inb))⟩]) = first g m := by
  rw [View.ld_unit_zero h inb g, View.ld_unit_zero h inb m]; exact read_stored u f h inb _

include h in
/-- The second moment of blocks loaded whole, stored whole. -/
theorem read_second (g v : Vec F S .f32) :
    u.read (Elt F) (u.writes (Elt F) f [⟨Rect.unit o S.size inb,
      second (S := S) (View.ld g (Rect.unit o S.size inb)) (View.ld v (Rect.unit o S.size inb))⟩]) = second g v := by
  rw [View.ld_unit_zero h inb g, View.ld_unit_zero h inb v]; exact read_stored u f h inb _

include h in
/-- The step of blocks loaded whole, stored whole. -/
theorem read_step (w g m v : Vec F S .f32) :
    u.read (Elt F) (u.writes (Elt F) f [⟨Rect.unit o S.size inb,
      step (S := S) (View.ld w (Rect.unit o S.size inb)) (View.ld g (Rect.unit o S.size inb)) (View.ld m (Rect.unit o S.size inb))
        (View.ld v (Rect.unit o S.size inb))⟩]) = step w g m v := by
  rw [View.ld_unit_zero h inb w, View.ld_unit_zero h inb g, View.ld_unit_zero h inb m, View.ld_unit_zero h inb v]
  exact read_stored u f h inb _

theorem zero2 : (![0, 0] : Fin 2 → ℕ) = fun _ => 0 := by decide

end Cert.AdamSmall

end
-- ==== Proof.AdamSmallRun.lean ====
/- The optimiser's call on the nine small weights, as compiled: its body on the staged blocks, the run, and what the
   run leaves in every array. -/
module

public import proofs.«01_k».proof.Proof.AdamSmallStep
public import proofs.«01_k».proof.Proof.Gen.AdamSmallKernel.Launch
public import proofs.«01_k».proof.Proof.Gen.AdamSmallKernel.Skeleton
public import proofs.«01_k».proof.Proof.Gen.AdamSmallKernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384
set_option maxHeartbeats 2000000

noncomputable section

namespace Cert.AdamSmallKernel.Small

open Cert.AdamSmallKernel Cert.AdamSmallKernel.Gen Cert.AdamSmall
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on staged blocks: it leaves the weights, gradients and moments as they were and, for each weight, the step, the
    new first moment and the new second moment in the three result buffers. -/
theorem body_wp (c : Dev nD) (E : Set ℕ)
    (a0 a1 a2 a3 a36 a37 a38 : Memref sig .tc .vmem S1x1024 .f32) (b0 : a0.IsWhole) (b1 : a1.IsWhole) (b2 : a2.IsWhole) (b3 : a3.IsWhole) (b36 : a36.IsWhole) (b37 : a37.IsWhole) (b38 : a38.IsWhole)
    (x0 x1 x2 x3 : Vec F S1x1024 .f32)
    (a4 a5 a6 a7 a39 a40 a41 : Memref sig .tc .vmem S1x3072 .f32) (b4 : a4.IsWhole) (b5 : a5.IsWhole) (b6 : a6.IsWhole) (b7 : a7.IsWhole) (b39 : a39.IsWhole) (b40 : a40.IsWhole) (b41 : a41.IsWhole)
    (x4 x5 x6 x7 : Vec F S1x3072 .f32)
    (a8 a9 a10 a11 a42 a43 a44 : Memref sig .tc .vmem S1x1024 .f32) (b8 : a8.IsWhole) (b9 : a9.IsWhole) (b10 : a10.IsWhole) (b11 : a11.IsWhole) (b42 : a42.IsWhole) (b43 : a43.IsWhole) (b44 : a44.IsWhole)
    (x8 x9 x10 x11 : Vec F S1x1024 .f32)
    (a12 a13 a14 a15 a45 a46 a47 : Memref sig .tc .vmem S1x512 .f32) (b12 : a12.IsWhole) (b13 : a13.IsWhole) (b14 : a14.IsWhole) (b15 : a15.IsWhole) (b45 : a45.IsWhole) (b46 : a46.IsWhole) (b47 : a47.IsWhole)
    (x12 x13 x14 x15 : Vec F S1x512 .f32)
    (a16 a17 a18 a19 a48 a49 a50 : Memref sig .tc .vmem S512x128 .f32) (b16 : a16.IsWhole) (b17 : a17.IsWhole) (b18 : a18.IsWhole) (b19 : a19.IsWhole) (b48 : a48.IsWhole) (b49 : a49.IsWhole) (b50 : a50.IsWhole)
    (x16 x17 x18 x19 : Vec F S512x128 .f32)
    (a20 a21 a22 a23 a51 a52 a53 : Memref sig .tc .vmem S4x128 .f32) (b20 : a20.IsWhole) (b21 : a21.IsWhole) (b22 : a22.IsWhole) (b23 : a23.IsWhole) (b51 : a51.IsWhole) (b52 : a52.IsWhole) (b53 : a53.IsWhole)
    (x20 x21 x22 x23 : Vec F S4x128 .f32)
    (a24 a25 a26 a27 a54 a55 a56 : Memref sig .tc .vmem S1x64 .f32) (b24 : a24.IsWhole) (b25 : a25.IsWhole) (b26 : a26.IsWhole) (b27 : a27.IsWhole) (b54 : a54.IsWhole) (b55 : a55.IsWhole) (b56 : a56.IsWhole)
    (x24 x25 x26 x27 : Vec F S1x64 .f32)
    (a28 a29 a30 a31 a57 a58 a59 : Memref sig .tc .vmem S1x64 .f32) (b28 : a28.IsWhole) (b29 : a29.IsWhole) (b30 : a30.IsWhole) (b31 : a31.IsWhole) (b57 : a57.IsWhole) (b58 : a58.IsWhole) (b59 : a59.IsWhole)
    (x28 x29 x30 x31 : Vec F S1x64 .f32)
    (a32 a33 a34 a35 a60 a61 a62 : Memref sig .tc .vmem S120x31 .f32) (b32 : a32.IsWhole) (b33 : a33.IsWhole) (b34 : a34.IsWhole) (b35 : a35.IsWhole) (b60 : a60.IsWhole) (b61 : a61.IsWhole) (b62 : a62.IsWhole)
    (x32 x33 x34 x35 : Vec F S120x31 .f32)
    (K : PUnit → sProp 𝕄) :
    iprop(owns (c : Thread nD τ) a0 fullShare x0 ∗ owns (c : Thread nD τ) a1 fullShare x1 ∗ owns (c : Thread nD τ) a2 fullShare x2 ∗
      owns (c : Thread nD τ) a3 fullShare x3 ∗ owns (c : Thread nD τ) a4 fullShare x4 ∗ owns (c : Thread nD τ) a5 fullShare x5 ∗
      owns (c : Thread nD τ) a6 fullShare x6 ∗ owns (c : Thread nD τ) a7 fullShare x7 ∗ owns (c : Thread nD τ) a8 fullShare x8 ∗
      owns (c : Thread nD τ) a9 fullShare x9 ∗ owns (c : Thread nD τ) a10 fullShare x10 ∗ owns (c : Thread nD τ) a11 fullShare x11 ∗
      owns (c : Thread nD τ) a12 fullShare x12 ∗ owns (c : Thread nD τ) a13 fullShare x13 ∗ owns (c : Thread nD τ) a14 fullShare x14 ∗
      owns (c : Thread nD τ) a15 fullShare x15 ∗ owns (c : Thread nD τ) a16 fullShare x16 ∗ owns (c : Thread nD τ) a17 fullShare x17 ∗
      owns (c : Thread nD τ) a18 fullShare x18 ∗ owns (c : Thread nD τ) a19 fullShare x19 ∗ owns (c : Thread nD τ) a20 fullShare x20 ∗
      owns (c : Thread nD τ) a21 fullShare x21 ∗ owns (c : Thread nD τ) a22 fullShare x22 ∗ owns (c : Thread nD τ) a23 fullShare x23 ∗
      owns (c : Thread nD τ) a24 fullShare x24 ∗ owns (c : Thread nD τ) a25 fullShare x25 ∗ owns (c : Thread nD τ) a26 fullShare x26 ∗
      owns (c : Thread nD τ) a27 fullShare x27 ∗ owns (c : Thread nD τ) a28 fullShare x28 ∗ owns (c : Thread nD τ) a29 fullShare x29 ∗
      owns (c : Thread nD τ) a30 fullShare x30 ∗ owns (c : Thread nD τ) a31 fullShare x31 ∗ owns (c : Thread nD τ) a32 fullShare x32 ∗
      owns (c : Thread nD τ) a33 fullShare x33 ∗ owns (c : Thread nD τ) a34 fullShare x34 ∗ owns (c : Thread nD τ) a35 fullShare x35 ∗
      (∃ d, owns (c : Thread nD τ) a36 fullShare d) ∗ (∃ d, owns (c : Thread nD τ) a37 fullShare d) ∗ (∃ d, owns (c : Thread nD τ) a38 fullShare d) ∗
      (∃ d, owns (c : Thread nD τ) a39 fullShare d) ∗ (∃ d, owns (c : Thread nD τ) a40 fullShare d) ∗ (∃ d, owns (c : Thread nD τ) a41 fullShare d) ∗
      (∃ d, owns (c : Thread nD τ) a42 fullShare d) ∗ (∃ d, owns (c : Thread nD τ) a43 fullShare d) ∗ (∃ d, owns (c : Thread nD τ) a44 fullShare d) ∗
      (∃ d, owns (c : Thread nD τ) a45 fullShare d) ∗ (∃ d, owns (c : Thread nD τ) a46 fullShare d) ∗ (∃ d, owns (c : Thread nD τ) a47 fullShare d) ∗
      (∃ d, owns (c : Thread nD τ) a48 fullShare d) ∗ (∃ d, owns (c : Thread nD τ) a49 fullShare d) ∗ (∃ d, owns (c : Thread nD τ) a50 fullShare d) ∗
      (∃ d, owns (c : Thread nD τ) a51 fullShare d) ∗ (∃ d, owns (c : Thread nD τ) a52 fullShare d) ∗ (∃ d, owns (c : Thread nD τ) a53 fullShare d) ∗
      (∃ d, owns (c : Thread nD τ) a54 fullShare d) ∗ (∃ d, owns (c : Thread nD τ) a55 fullShare d) ∗ (∃ d, owns (c : Thread nD τ) a56 fullShare d) ∗
      (∃ d, owns (c : Thread nD τ) a57 fullShare d) ∗ (∃ d, owns (c : Thread nD τ) a58 fullShare d) ∗ (∃ d, owns (c : Thread nD τ) a59 fullShare d) ∗
      (∃ d, owns (c : Thread nD τ) a60 fullShare d) ∗ (∃ d, owns (c : Thread nD τ) a61 fullShare d) ∗ (∃ d, owns (c : Thread nD τ) a62 fullShare d)
        ∗ (iprop(owns (c : Thread nD τ) a0 fullShare x0 ∗ owns (c : Thread nD τ) a1 fullShare x1 ∗ owns (c : Thread nD τ) a2 fullShare x2 ∗
          owns (c : Thread nD τ) a3 fullShare x3 ∗ owns (c : Thread nD τ) a4 fullShare x4 ∗ owns (c : Thread nD τ) a5 fullShare x5 ∗
          owns (c : Thread nD τ) a6 fullShare x6 ∗ owns (c : Thread nD τ) a7 fullShare x7 ∗ owns (c : Thread nD τ) a8 fullShare x8 ∗
          owns (c : Thread nD τ) a9 fullShare x9 ∗ owns (c : Thread nD τ) a10 fullShare x10 ∗ owns (c : Thread nD τ) a11 fullShare x11 ∗
          owns (c : Thread nD τ) a12 fullShare x12 ∗ owns (c : Thread nD τ) a13 fullShare x13 ∗ owns (c : Thread nD τ) a14 fullShare x14 ∗
          owns (c : Thread nD τ) a15 fullShare x15 ∗ owns (c : Thread nD τ) a16 fullShare x16 ∗ owns (c : Thread nD τ) a17 fullShare x17 ∗
          owns (c : Thread nD τ) a18 fullShare x18 ∗ owns (c : Thread nD τ) a19 fullShare x19 ∗ owns (c : Thread nD τ) a20 fullShare x20 ∗
          owns (c : Thread nD τ) a21 fullShare x21 ∗ owns (c : Thread nD τ) a22 fullShare x22 ∗ owns (c : Thread nD τ) a23 fullShare x23 ∗
          owns (c : Thread nD τ) a24 fullShare x24 ∗ owns (c : Thread nD τ) a25 fullShare x25 ∗ owns (c : Thread nD τ) a26 fullShare x26 ∗
          owns (c : Thread nD τ) a27 fullShare x27 ∗ owns (c : Thread nD τ) a28 fullShare x28 ∗ owns (c : Thread nD τ) a29 fullShare x29 ∗
          owns (c : Thread nD τ) a30 fullShare x30 ∗ owns (c : Thread nD τ) a31 fullShare x31 ∗ owns (c : Thread nD τ) a32 fullShare x32 ∗
          owns (c : Thread nD τ) a33 fullShare x33 ∗ owns (c : Thread nD τ) a34 fullShare x34 ∗ owns (c : Thread nD τ) a35 fullShare x35 ∗
          owns (c : Thread nD τ) a36 fullShare (step x0 x1 x2 x3) ∗ owns (c : Thread nD τ) a37 fullShare (first x1 x2) ∗
          owns (c : Thread nD τ) a38 fullShare (second x1 x3) ∗ owns (c : Thread nD τ) a39 fullShare (step x4 x5 x6 x7) ∗
          owns (c : Thread nD τ) a40 fullShare (first x5 x6) ∗ owns (c : Thread nD τ) a41 fullShare (second x5 x7) ∗
          owns (c : Thread nD τ) a42 fullShare (step x8 x9 x10 x11) ∗ owns (c : Thread nD τ) a43 fullShare (first x9 x10) ∗
          owns (c : Thread nD τ) a44 fullShare (second x9 x11) ∗ owns (c : Thread nD τ) a45 fullShare (step x12 x13 x14 x15) ∗
          owns (c : Thread nD τ) a46 fullShare (first x13 x14) ∗ owns (c : Thread nD τ) a47 fullShare (second x13 x15) ∗
          owns (c : Thread nD τ) a48 fullShare (step x16 x17 x18 x19) ∗ owns (c : Thread nD τ) a49 fullShare (first x17 x18) ∗
          owns (c : Thread nD τ) a50 fullShare (second x17 x19) ∗ owns (c : Thread nD τ) a51 fullShare (step x20 x21 x22 x23) ∗
          owns (c : Thread nD τ) a52 fullShare (first x21 x22) ∗ owns (c : Thread nD τ) a53 fullShare (second x21 x23) ∗
          owns (c : Thread nD τ) a54 fullShare (step x24 x25 x26 x27) ∗ owns (c : Thread nD τ) a55 fullShare (first x25 x26) ∗
          owns (c : Thread nD τ) a56 fullShare (second x25 x27) ∗ owns (c : Thread nD τ) a57 fullShare (step x28 x29 x30 x31) ∗
          owns (c : Thread nD τ) a58 fullShare (first x29 x30) ∗ owns (c : Thread nD τ) a59 fullShare (second x29 x31) ∗
          owns (c : Thread nD τ) a60 fullShare (step x32 x33 x34 x35) ∗ owns (c : Thread nD τ) a61 fullShare (first x33 x34) ∗
          owns (c : Thread nD τ) a62 fullShare (second x33 x35)) -∗ K ⟨⟩))
      ⊢ wp frame (wpE (defs₀ (F := F)) Variants.none c none) E (cc0_adamw_small a0 b0 a1 b1 a2 b2 a3 b3 a4 b4 a5 b5 a6 b6 a7 b7 a8 b8 a9 b9 a10 b10 a11 b11 a12 b12 a13 b13 a14 b14 a15 b15 a16 b16 a17 b17 a18 b18 a19 b19
        a20 b20 a21 b21 a22 b22 a23 b23 a24 b24 a25 b25 a26 b26 a27 b27 a28 b28 a29 b29 a30 b30 a31 b31 a32 b32 a33 b33 a34 b34 a35 b35 a36 b36
        a37 b37 a38 b38 a39 b39 a40 b40 a41 b41 a42 b42 a43 b43 a44 b44 a45 b45 a46 b46 a47 b47 a48 b48 a49 b49 a50 b50 a51 b51 a52 b52 a53 b53
        a54 b54 a55 b55 a56 b56 a57 b57 a58 b58 a59 b59 a60 b60 a61 b61 a62 b62) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩,
    ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩,
    ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩,
    ⟨%d36, %f36, -, H36⟩, ⟨%d37, %f37, -, H37⟩, ⟨%d38, %f38, -, H38⟩, ⟨%d39, %f39, -, H39⟩, ⟨%d40, %f40, -, H40⟩, ⟨%d41, %f41, -, H41⟩,
    ⟨%d42, %f42, -, H42⟩, ⟨%d43, %f43, -, H43⟩, ⟨%d44, %f44, -, H44⟩, ⟨%d45, %f45, -, H45⟩, ⟨%d46, %f46, -, H46⟩, ⟨%d47, %f47, -, H47⟩,
    ⟨%d48, %f48, -, H48⟩, ⟨%d49, %f49, -, H49⟩, ⟨%d50, %f50, -, H50⟩, ⟨%d51, %f51, -, H51⟩, ⟨%d52, %f52, -, H52⟩, ⟨%d53, %f53, -, H53⟩,
    ⟨%d54, %f54, -, H54⟩, ⟨%d55, %f55, -, H55⟩, ⟨%d56, %f56, -, H56⟩, ⟨%d57, %f57, -, H57⟩, ⟨%d58, %f58, -, H58⟩, ⟨%d59, %f59, -, H59⟩,
    ⟨%d60, %f60, -, H60⟩, ⟨%d61, %f61, -, H61⟩, ⟨%d62, %f62, -, H62⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists _; isplitr
    swap; · iexact H36
    ipureintro; exact read_step _ _ zero2 _ _ _ _ _
  isplitl [H37]
  · iexists _; isplitr
    swap; · iexact H37
    ipureintro; exact read_first _ _ zero2 _ _ _
  isplitl [H38]
  · iexists _; isplitr
    swap; · iexact H38
    ipureintro; exact read_second _ _ zero2 _ _ _
  isplitl [H39]
  · iexists _; isplitr
    swap; · iexact H39
    ipureintro; exact read_step _ _ zero2 _ _ _ _ _
  isplitl [H40]
  · iexists _; isplitr
    swap; · iexact H40
    ipureintro; exact read_first _ _ zero2 _ _ _
  isplitl [H41]
  · iexists _; isplitr
    swap; · iexact H41
    ipureintro; exact read_second _ _ zero2 _ _ _
  isplitl [H42]
  · iexists _; isplitr
    swap; · iexact H42
    ipureintro; exact read_step _ _ zero2 _ _ _ _ _
  isplitl [H43]
  · iexists _; isplitr
    swap; · iexact H43
    ipureintro; exact read_first _ _ zero2 _ _ _
  isplitl [H44]
  · iexists _; isplitr
    swap; · iexact H44
    ipureintro; exact read_second _ _ zero2 _ _ _
  isplitl [H45]
  · iexists _; isplitr
    swap; · iexact H45
    ipureintro; exact read_step _ _ zero2 _ _ _ _ _
  isplitl [H46]
  · iexists _; isplitr
    swap; · iexact H46
    ipureintro; exact read_first _ _ zero2 _ _ _
  isplitl [H47]
  · iexists _; isplitr
    swap; · iexact H47
    ipureintro; exact read_second _ _ zero2 _ _ _
  isplitl [H48]
  · iexists _; isplitr
    swap; · iexact H48
    ipureintro; exact read_step _ _ zero2 _ _ _ _ _
  isplitl [H49]
  · iexists _; isplitr
    swap; · iexact H49
    ipureintro; exact read_first _ _ zero2 _ _ _
  isplitl [H50]
  · iexists _; isplitr
    swap; · iexact H50
    ipureintro; exact read_second _ _ zero2 _ _ _
  isplitl [H51]
  · iexists _; isplitr
    swap; · iexact H51
    ipureintro; exact read_step _ _ zero2 _ _ _ _ _
  isplitl [H52]
  · iexists _; isplitr
    swap; · iexact H52
    ipureintro; exact read_first _ _ zero2 _ _ _
  isplitl [H53]
  · iexists _; isplitr
    swap; · iexact H53
    ipureintro; exact read_second _ _ zero2 _ _ _
  isplitl [H54]
  · iexists _; isplitr
    swap; · iexact H54
    ipureintro; exact read_step _ _ zero2 _ _ _ _ _
  isplitl [H55]
  · iexists _; isplitr
    swap; · iexact H55
    ipureintro; exact read_first _ _ zero2 _ _ _
  isplitl [H56]
  · iexists _; isplitr
    swap; · iexact H56
    ipureintro; exact read_second _ _ zero2 _ _ _
  isplitl [H57]
  · iexists _; isplitr
    swap; · iexact H57
    ipureintro; exact read_step _ _ zero2 _ _ _ _ _
  isplitl [H58]
  · iexists _; isplitr
    swap; · iexact H58
    ipureintro; exact read_first _ _ zero2 _ _ _
  isplitl [H59]
  · iexists _; isplitr
    swap; · iexact H59
    ipureintro; exact read_second _ _ zero2 _ _ _
  isplitl [H60]
  · iexists _; isplitr
    swap; · iexact H60
    ipureintro; exact read_step _ _ zero2 _ _ _ _ _
  isplitl [H61]
  · iexists _; isplitr
    swap; · iexact H61
    ipureintro; exact read_first _ _ zero2 _ _ _
  iexists _; isplitr
  swap; · iexact H62
  ipureintro; exact read_second _ _ zero2 _ _ _

variable (m : (ℓ : Loc nD τ sig) → Buf (Elt F) ℓ) (ρ : Dev nD → PrngReg)

/-- A core's buffers when the call starts. -/
abbrev V (c : Dev nD) (b : Ref sig .tc) : Buf (Elt F) ((c : Thread nD τ).loc b) := m ((c : Thread nD τ).loc b)

/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block: its array, read through the window. -/
def blkOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call's one point does to the staged blocks. -/
def dats (_ : Fin 1) (c : Dev nD) : Dat τ (Elt F) Unit ℕ (UR sig nD τ) ℕ cfg0 c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => blkOf m c 6 t
    | ⟨7, _⟩ => blkOf m c 7 t
    | ⟨8, _⟩ => blkOf m c 8 t
    | ⟨9, _⟩ => blkOf m c 9 t
    | ⟨10, _⟩ => blkOf m c 10 t
    | ⟨11, _⟩ => blkOf m c 11 t
    | ⟨12, _⟩ => blkOf m c 12 t
    | ⟨13, _⟩ => blkOf m c 13 t
    | ⟨14, _⟩ => blkOf m c 14 t
    | ⟨15, _⟩ => blkOf m c 15 t
    | ⟨16, _⟩ => blkOf m c 16 t
    | ⟨17, _⟩ => blkOf m c 17 t
    | ⟨18, _⟩ => blkOf m c 18 t
    | ⟨19, _⟩ => blkOf m c 19 t
    | ⟨20, _⟩ => blkOf m c 20 t
    | ⟨21, _⟩ => blkOf m c 21 t
    | ⟨22, _⟩ => blkOf m c 22 t
    | ⟨23, _⟩ => blkOf m c 23 t
    | ⟨24, _⟩ => blkOf m c 24 t
    | ⟨25, _⟩ => blkOf m c 25 t
    | ⟨26, _⟩ => blkOf m c 26 t
    | ⟨27, _⟩ => blkOf m c 27 t
    | ⟨28, _⟩ => blkOf m c 28 t
    | ⟨29, _⟩ => blkOf m c 29 t
    | ⟨30, _⟩ => blkOf m c 30 t
    | ⟨31, _⟩ => blkOf m c 31 t
    | ⟨32, _⟩ => blkOf m c 32 t
    | ⟨33, _⟩ => blkOf m c 33 t
    | ⟨34, _⟩ => blkOf m c 34 t
    | ⟨35, _⟩ => blkOf m c 35 t
    | ⟨36, _⟩ => step (blkOf m c 0 t) (blkOf m c 1 t) (blkOf m c 2 t) (blkOf m c 3 t)
    | ⟨37, _⟩ => first (blkOf m c 1 t) (blkOf m c 2 t)
    | ⟨38, _⟩ => second (blkOf m c 1 t) (blkOf m c 3 t)
    | ⟨39, _⟩ => step (blkOf m c 4 t) (blkOf m c 5 t) (blkOf m c 6 t) (blkOf m c 7 t)
    | ⟨40, _⟩ => first (blkOf m c 5 t) (blkOf m c 6 t)
    | ⟨41, _⟩ => second (blkOf m c 5 t) (blkOf m c 7 t)
    | ⟨42, _⟩ => step (blkOf m c 8 t) (blkOf m c 9 t) (blkOf m c 10 t) (blkOf m c 11 t)
    | ⟨43, _⟩ => first (blkOf m c 9 t) (blkOf m c 10 t)
    | ⟨44, _⟩ => second (blkOf m c 9 t) (blkOf m c 11 t)
    | ⟨45, _⟩ => step (blkOf m c 12 t) (blkOf m c 13 t) (blkOf m c 14 t) (blkOf m c 15 t)
    | ⟨46, _⟩ => first (blkOf m c 13 t) (blkOf m c 14 t)
    | ⟨47, _⟩ => second (blkOf m c 13 t) (blkOf m c 15 t)
    | ⟨48, _⟩ => step (blkOf m c 16 t) (blkOf m c 17 t) (blkOf m c 18 t) (blkOf m c 19 t)
    | ⟨49, _⟩ => first (blkOf m c 17 t) (blkOf m c 18 t)
    | ⟨50, _⟩ => second (blkOf m c 17 t) (blkOf m c 19 t)
    | ⟨51, _⟩ => step (blkOf m c 20 t) (blkOf m c 21 t) (blkOf m c 22 t) (blkOf m c 23 t)
    | ⟨52, _⟩ => first (blkOf m c 21 t) (blkOf m c 22 t)
    | ⟨53, _⟩ => second (blkOf m c 21 t) (blkOf m c 23 t)
    | ⟨54, _⟩ => step (blkOf m c 24 t) (blkOf m c 25 t) (blkOf m c 26 t) (blkOf m c 27 t)
    | ⟨55, _⟩ => first (blkOf m c 25 t) (blkOf m c 26 t)
    | ⟨56, _⟩ => second (blkOf m c 25 t) (blkOf m c 27 t)
    | ⟨57, _⟩ => step (blkOf m c 28 t) (blkOf m c 29 t) (blkOf m c 30 t) (blkOf m c 31 t)
    | ⟨58, _⟩ => first (blkOf m c 29 t) (blkOf m c 30 t)
    | ⟨59, _⟩ => second (blkOf m c 29 t) (blkOf m c 31 t)
    | ⟨60, _⟩ => step (blkOf m c 32 t) (blkOf m c 33 t) (blkOf m c 34 t) (blkOf m c 35 t)
    | ⟨61, _⟩ => first (blkOf m c 33 t) (blkOf m c 34 t)
    | ⟨62, _⟩ => second (blkOf m c 33 t) (blkOf m c 35 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block when the body starts, if the body leaves the block there. -/
theorem before_of (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = blkOf m c w t)
    (X : Fin cfg0.N → (cfg0.win w).block.Idx → Elt F (cfg0.win w).elt)
    (hfill : ∀ t d, (cfg0.win w).fill (cfg0.grid.coords t) d (blkOf m c w t) = X t) (t : Fin cfg0.N) (d) :
    (dats m 0 c).before w t d = X t :=
  ((dats m 0 c).before_in_eq_fetched w hw (fun _ => rfl) hclip
    (fun t => (hkeep t).trans (by unfold Dat.blockOf blkOf; rw [A_eq])) t d).trans
    (by refine .trans ?_ (hfill t d); unfold Dat.fetched Dat.blockOf blkOf; rw [A_eq])

/-! What each input's buffer holds before the body, and each result's after it. -/
theorem before0 (c : Dev nD) (t : Fin cfg0.N) (d) : (dats m 0 c).before 0 t d = blkOf m c 0 t :=
  before_of m c 0 rfl (fun _ _ _ => rfl) (fun t => by dsimp only [dats]) (blkOf m c 0) (fun _ _ => rfl) t d
theorem before1 (c : Dev nD) (t : Fin cfg0.N) (d) : (dats m 0 c).before 1 t d = blkOf m c 1 t :=
  before_of m c 1 rfl (fun _ _ _ => rfl) (fun t => by dsimp only [dats]) (blkOf m c 1) (fun _ _ => rfl) t d
theorem before2 (c : Dev nD) (t : Fin cfg0.N) (d) : (dats m 0 c).before 2 t d = blkOf m c 2 t :=
  before_of m c 2 rfl (fun _ _ _ => rfl) (fun t => by dsimp only [dats]) (blkOf m c 2) (fun _ _ => rfl) t d
theorem before3 (c : Dev nD) (t : Fin cfg0.N) (d) : (dats m 0 c).before 3 t d = blkOf m c 3 t :=
  before_of m c 3 rfl (fun _ _ _ => rfl) (fun t => by dsimp only [dats]) (blkOf m c 3) (fun _ _ => rfl) t d
theorem before4 (c : Dev nD) (t : Fin cfg0.N) (d) : (dats m 0 c).before 4 t d = blkOf m c 4 t :=
  before_of m c 4 rfl (fun _ _ _ => rfl) (fun t => by dsimp only [dats]) (blkOf m c 4) (fun _ _ => rfl) t d
theorem before5 (c : Dev nD) (t : Fin cfg0.N) (d) : (dats m 0 c).before 5 t d = blkOf m c 5 t :=
  before_of m c 5 rfl (fun _ _ _ => rfl) (fun t => by dsimp only [dats]) (blkOf m c 5) (fun _ _ => rfl) t d
theorem before6 (c : Dev nD) (t : Fin cfg0.N) (d) : (dats m 0 c).before 6 t d = blkOf m c 6 t :=
  before_of m c 6 rfl (fun _ _ _ => rfl) (fun t => by dsimp only [dats]) (blkOf m c 6) (fun _ _ => rfl) t d
theorem before7 (c : Dev nD) (t : Fin cfg0.N) (d) : (dats m 0 c).before 7 t d = blkOf m c 7 t :=
  before_of m c 7 rfl (fun _ _ _ => rfl) (fun t => by dsimp only [dats]) (blkOf m c 7) (fun _ _ => rfl) t d
theorem before8 (c : Dev nD) (t : Fin cfg0.N) (d) : (dats m 0 c).before 8 t d = blkOf m c 8 t :=
  before_of m c 8 rfl (fun _ _ _ => rfl) (fun t => by dsimp only [dats]) (blkOf m c 8) (fun _ _ => rfl) t d
theorem before9 (c : Dev nD) (t : Fin cfg0.N) (d) : (dats m 0 c).before 9 t d = blkOf m c 9 t :=
  before_of m c 9 rfl (fun _ _ _ => rfl) (fun t => by dsimp only [dats]) (blkOf m c 9) (fun _ _ => rfl) t d
theorem before10 (c : Dev nD) (t : Fin cfg0.N) (d) : (dats m 0 c).before 10 t d = blkOf m c 10 t :=
  before_of m c 10 rfl (fun _ _ _ => rfl) (fun t => by dsimp only [dats]) (blkOf m c 10) (fun _ _ => rfl) t d
theorem before11 (c : Dev nD) (t : Fin cfg0.N) (d) : (dats m 0 c).before 11 t d = blkOf m c 11 t :=
  before_of m c 11 rfl (fun _ _ _ => rfl) (fun t => by dsimp only [dats]) (blkOf m c 11) (fun _ _ => rfl) t d
theorem before12 (c : Dev nD) (t : Fin cfg0.N) (d) : (dats m 0 c).before 12 t d = blkOf m c 12 t :=
  before_of m c 12 rfl (fun _ _ _ => rfl) (fun t => by dsimp only [dats]) (blkOf m c 12) (fun _ _ => rfl) t d
theorem before13 (c : Dev nD) (t : Fin cfg0.N) (d) : (dats m 0 c).before 13 t d = blkOf m c 13 t :=
  before_of m c 13 rfl (fun _ _ _ => rfl) (fun t => by dsimp only [dats]) (blkOf m c 13) (fun _ _ => rfl) t d
theorem before14 (c : Dev nD) (t : Fin cfg0.N) (d) : (dats m 0 c).before 14 t d = blkOf m c 14 t :=
  before_of m c 14 rfl (fun _ _ _ => rfl) (fun t => by dsimp only [dats]) (blkOf m c 14) (fun _ _ => rfl) t d
theorem before15 (c : Dev nD) (t : Fin cfg0.N) (d) : (dats m 0 c).before 15 t d = blkOf m c 15 t :=
  before_of m c 15 rfl (fun _ _ _ => rfl) (fun t => by dsimp only [dats]) (blkOf m c 15) (fun _ _ => rfl) t d
theorem before16 (c : Dev nD) (t : Fin cfg0.N) (d) : (dats m 0 c).before 16 t d = blkOf m c 16 t :=
  before_of m c 16 rfl (fun _ _ _ => rfl) (fun t => by dsimp only [dats]) (blkOf m c 16) (fun _ _ => rfl) t d
theorem before17 (c : Dev nD) (t : Fin cfg0.N) (d) : (dats m 0 c).before 17 t d = blkOf m c 17 t :=
  before_of m c 17 rfl (fun _ _ _ => rfl) (fun t => by dsimp only [dats]) (blkOf m c 17) (fun _ _ => rfl) t d
theorem before18 (c : Dev nD) (t : Fin cfg0.N) (d) : (dats m 0 c).before 18 t d = blkOf m c 18 t :=
  before_of m c 18 rfl (fun _ _ _ => rfl) (fun t => by dsimp only [dats]) (blkOf m c 18) (fun _ _ => rfl) t d
theorem before19 (c : Dev nD) (t : Fin cfg0.N) (d) : (dats m 0 c).before 19 t d = blkOf m c 19 t :=
  before_of m c 19 rfl (fun _ _ _ => rfl) (fun t => by dsimp only [dats]) (blkOf m c 19) (fun _ _ => rfl) t d
theorem before20 (c : Dev nD) (t : Fin cfg0.N) (d) : (dats m 0 c).before 20 t d = blkOf m c 20 t :=
  before_of m c 20 rfl (fun _ _ _ => rfl) (fun t => by dsimp only [dats]) (blkOf m c 20) (fun _ _ => rfl) t d
theorem before21 (c : Dev nD) (t : Fin cfg0.N) (d) : (dats m 0 c).before 21 t d = blkOf m c 21 t :=
  before_of m c 21 rfl (fun _ _ _ => rfl) (fun t => by dsimp only [dats]) (blkOf m c 21) (fun _ _ => rfl) t d
theorem before22 (c : Dev nD) (t : Fin cfg0.N) (d) : (dats m 0 c).before 22 t d = blkOf m c 22 t :=
  before_of m c 22 rfl (fun _ _ _ => rfl) (fun t => by dsimp only [dats]) (blkOf m c 22) (fun _ _ => rfl) t d
theorem before23 (c : Dev nD) (t : Fin cfg0.N) (d) : (dats m 0 c).before 23 t d = blkOf m c 23 t :=
  before_of m c 23 rfl (fun _ _ _ => rfl) (fun t => by dsimp only [dats]) (blkOf m c 23) (fun _ _ => rfl) t d
theorem before24 (c : Dev nD) (t : Fin cfg0.N) (d) : (dats m 0 c).before 24 t d = blkOf m c 24 t :=
  before_of m c 24 rfl (fun _ _ _ => rfl) (fun t => by dsimp only [dats]) (blkOf m c 24) (fun _ _ => rfl) t d
theorem before25 (c : Dev nD) (t : Fin cfg0.N) (d) : (dats m 0 c).before 25 t d = blkOf m c 25 t :=
  before_of m c 25 rfl (fun _ _ _ => rfl) (fun t => by dsimp only [dats]) (blkOf m c 25) (fun _ _ => rfl) t d
theorem before26 (c : Dev nD) (t : Fin cfg0.N) (d) : (dats m 0 c).before 26 t d = blkOf m c 26 t :=
  before_of m c 26 rfl (fun _ _ _ => rfl) (fun t => by dsimp only [dats]) (blkOf m c 26) (fun _ _ => rfl) t d
theorem before27 (c : Dev nD) (t : Fin cfg0.N) (d) : (dats m 0 c).before 27 t d = blkOf m c 27 t :=
  before_of m c 27 rfl (fun _ _ _ => rfl) (fun t => by dsimp only [dats]) (blkOf m c 27) (fun _ _ => rfl) t d
theorem before28 (c : Dev nD) (t : Fin cfg0.N) (d) : (dats m 0 c).before 28 t d = blkOf m c 28 t :=
  before_of m c 28 rfl (fun _ _ _ => rfl) (fun t => by dsimp only [dats]) (blkOf m c 28) (fun _ _ => rfl) t d
theorem before29 (c : Dev nD) (t : Fin cfg0.N) (d) : (dats m 0 c).before 29 t d = blkOf m c 29 t :=
  before_of m c 29 rfl (fun _ _ _ => rfl) (fun t => by dsimp only [dats]) (blkOf m c 29) (fun _ _ => rfl) t d
theorem before30 (c : Dev nD) (t : Fin cfg0.N) (d) : (dats m 0 c).before 30 t d = blkOf m c 30 t :=
  before_of m c 30 rfl (fun _ _ _ => rfl) (fun t => by dsimp only [dats]) (blkOf m c 30) (fun _ _ => rfl) t d
theorem before31 (c : Dev nD) (t : Fin cfg0.N) (d) : (dats m 0 c).before 31 t d = blkOf m c 31 t :=
  before_of m c 31 rfl (fun _ _ _ => rfl) (fun t => by dsimp only [dats]) (blkOf m c 31) (fun _ _ => rfl) t d
theorem before32 (c : Dev nD) (t : Fin cfg0.N) (d) : (dats m 0 c).before 32 t d = blkOf m c 32 t :=
  before_of m c 32 rfl (fun _ _ _ => rfl) (fun t => by dsimp only [dats]) (blkOf m c 32) (fun _ _ => rfl) t d
theorem before33 (c : Dev nD) (t : Fin cfg0.N) (d) : (dats m 0 c).before 33 t d = blkOf m c 33 t :=
  before_of m c 33 rfl (fun _ _ _ => rfl) (fun t => by dsimp only [dats]) (blkOf m c 33) (fun _ _ => rfl) t d
theorem before34 (c : Dev nD) (t : Fin cfg0.N) (d) : (dats m 0 c).before 34 t d = blkOf m c 34 t :=
  before_of m c 34 rfl (fun _ _ _ => rfl) (fun t => by dsimp only [dats]) (blkOf m c 34) (fun _ _ => rfl) t d
theorem before35 (c : Dev nD) (t : Fin cfg0.N) (d) : (dats m 0 c).before 35 t d = blkOf m c 35 t :=
  before_of m c 35 rfl (fun _ _ _ => rfl) (fun t => by dsimp only [dats]) (blkOf m c 35) (fun _ _ => rfl) t d
theorem after0 (c : Dev nD) (t : Fin cfg0.N) : (dats m 0 c).after 0 t = blkOf m c 0 t := by dsimp only [dats]
theorem after1 (c : Dev nD) (t : Fin cfg0.N) : (dats m 0 c).after 1 t = blkOf m c 1 t := by dsimp only [dats]
theorem after2 (c : Dev nD) (t : Fin cfg0.N) : (dats m 0 c).after 2 t = blkOf m c 2 t := by dsimp only [dats]
theorem after3 (c : Dev nD) (t : Fin cfg0.N) : (dats m 0 c).after 3 t = blkOf m c 3 t := by dsimp only [dats]
theorem after4 (c : Dev nD) (t : Fin cfg0.N) : (dats m 0 c).after 4 t = blkOf m c 4 t := by dsimp only [dats]
theorem after5 (c : Dev nD) (t : Fin cfg0.N) : (dats m 0 c).after 5 t = blkOf m c 5 t := by dsimp only [dats]
theorem after6 (c : Dev nD) (t : Fin cfg0.N) : (dats m 0 c).after 6 t = blkOf m c 6 t := by dsimp only [dats]
theorem after7 (c : Dev nD) (t : Fin cfg0.N) : (dats m 0 c).after 7 t = blkOf m c 7 t := by dsimp only [dats]
theorem after8 (c : Dev nD) (t : Fin cfg0.N) : (dats m 0 c).after 8 t = blkOf m c 8 t := by dsimp only [dats]
theorem after9 (c : Dev nD) (t : Fin cfg0.N) : (dats m 0 c).after 9 t = blkOf m c 9 t := by dsimp only [dats]
theorem after10 (c : Dev nD) (t : Fin cfg0.N) : (dats m 0 c).after 10 t = blkOf m c 10 t := by dsimp only [dats]
theorem after11 (c : Dev nD) (t : Fin cfg0.N) : (dats m 0 c).after 11 t = blkOf m c 11 t := by dsimp only [dats]
theorem after12 (c : Dev nD) (t : Fin cfg0.N) : (dats m 0 c).after 12 t = blkOf m c 12 t := by dsimp only [dats]
theorem after13 (c : Dev nD) (t : Fin cfg0.N) : (dats m 0 c).after 13 t = blkOf m c 13 t := by dsimp only [dats]
theorem after14 (c : Dev nD) (t : Fin cfg0.N) : (dats m 0 c).after 14 t = blkOf m c 14 t := by dsimp only [dats]
theorem after15 (c : Dev nD) (t : Fin cfg0.N) : (dats m 0 c).after 15 t = blkOf m c 15 t := by dsimp only [dats]
theorem after16 (c : Dev nD) (t : Fin cfg0.N) : (dats m 0 c).after 16 t = blkOf m c 16 t := by dsimp only [dats]
theorem after17 (c : Dev nD) (t : Fin cfg0.N) : (dats m 0 c).after 17 t = blkOf m c 17 t := by dsimp only [dats]
theorem after18 (c : Dev nD) (t : Fin cfg0.N) : (dats m 0 c).after 18 t = blkOf m c 18 t := by dsimp only [dats]
theorem after19 (c : Dev nD) (t : Fin cfg0.N) : (dats m 0 c).after 19 t = blkOf m c 19 t := by dsimp only [dats]
theorem after20 (c : Dev nD) (t : Fin cfg0.N) : (dats m 0 c).after 20 t = blkOf m c 20 t := by dsimp only [dats]
theorem after21 (c : Dev nD) (t : Fin cfg0.N) : (dats m 0 c).after 21 t = blkOf m c 21 t := by dsimp only [dats]
theorem after22 (c : Dev nD) (t : Fin cfg0.N) : (dats m 0 c).after 22 t = blkOf m c 22 t := by dsimp only [dats]
theorem after23 (c : Dev nD) (t : Fin cfg0.N) : (dats m 0 c).after 23 t = blkOf m c 23 t := by dsimp only [dats]
theorem after24 (c : Dev nD) (t : Fin cfg0.N) : (dats m 0 c).after 24 t = blkOf m c 24 t := by dsimp only [dats]
theorem after25 (c : Dev nD) (t : Fin cfg0.N) : (dats m 0 c).after 25 t = blkOf m c 25 t := by dsimp only [dats]
theorem after26 (c : Dev nD) (t : Fin cfg0.N) : (dats m 0 c).after 26 t = blkOf m c 26 t := by dsimp only [dats]
theorem after27 (c : Dev nD) (t : Fin cfg0.N) : (dats m 0 c).after 27 t = blkOf m c 27 t := by dsimp only [dats]
theorem after28 (c : Dev nD) (t : Fin cfg0.N) : (dats m 0 c).after 28 t = blkOf m c 28 t := by dsimp only [dats]
theorem after29 (c : Dev nD) (t : Fin cfg0.N) : (dats m 0 c).after 29 t = blkOf m c 29 t := by dsimp only [dats]
theorem after30 (c : Dev nD) (t : Fin cfg0.N) : (dats m 0 c).after 30 t = blkOf m c 30 t := by dsimp only [dats]
theorem after31 (c : Dev nD) (t : Fin cfg0.N) : (dats m 0 c).after 31 t = blkOf m c 31 t := by dsimp only [dats]
theorem after32 (c : Dev nD) (t : Fin cfg0.N) : (dats m 0 c).after 32 t = blkOf m c 32 t := by dsimp only [dats]
theorem after33 (c : Dev nD) (t : Fin cfg0.N) : (dats m 0 c).after 33 t = blkOf m c 33 t := by dsimp only [dats]
theorem after34 (c : Dev nD) (t : Fin cfg0.N) : (dats m 0 c).after 34 t = blkOf m c 34 t := by dsimp only [dats]
theorem after35 (c : Dev nD) (t : Fin cfg0.N) : (dats m 0 c).after 35 t = blkOf m c 35 t := by dsimp only [dats]
theorem after36 (c : Dev nD) (t : Fin cfg0.N) : (dats m 0 c).after 36 t = step (blkOf m c 0 t) (blkOf m c 1 t) (blkOf m c 2 t) (blkOf m c 3 t) := by dsimp only [dats]
theorem after37 (c : Dev nD) (t : Fin cfg0.N) : (dats m 0 c).after 37 t = first (blkOf m c 1 t) (blkOf m c 2 t) := by dsimp only [dats]
theorem after38 (c : Dev nD) (t : Fin cfg0.N) : (dats m 0 c).after 38 t = second (blkOf m c 1 t) (blkOf m c 3 t) := by dsimp only [dats]
theorem after39 (c : Dev nD) (t : Fin cfg0.N) : (dats m 0 c).after 39 t = step (blkOf m c 4 t) (blkOf m c 5 t) (blkOf m c 6 t) (blkOf m c 7 t) := by dsimp only [dats]
theorem after40 (c : Dev nD) (t : Fin cfg0.N) : (dats m 0 c).after 40 t = first (blkOf m c 5 t) (blkOf m c 6 t) := by dsimp only [dats]
theorem after41 (c : Dev nD) (t : Fin cfg0.N) : (dats m 0 c).after 41 t = second (blkOf m c 5 t) (blkOf m c 7 t) := by dsimp only [dats]
theorem after42 (c : Dev nD) (t : Fin cfg0.N) : (dats m 0 c).after 42 t = step (blkOf m c 8 t) (blkOf m c 9 t) (blkOf m c 10 t) (blkOf m c 11 t) := by dsimp only [dats]
theorem after43 (c : Dev nD) (t : Fin cfg0.N) : (dats m 0 c).after 43 t = first (blkOf m c 9 t) (blkOf m c 10 t) := by dsimp only [dats]
theorem after44 (c : Dev nD) (t : Fin cfg0.N) : (dats m 0 c).after 44 t = second (blkOf m c 9 t) (blkOf m c 11 t) := by dsimp only [dats]
theorem after45 (c : Dev nD) (t : Fin cfg0.N) : (dats m 0 c).after 45 t = step (blkOf m c 12 t) (blkOf m c 13 t) (blkOf m c 14 t) (blkOf m c 15 t) := by dsimp only [dats]
theorem after46 (c : Dev nD) (t : Fin cfg0.N) : (dats m 0 c).after 46 t = first (blkOf m c 13 t) (blkOf m c 14 t) := by dsimp only [dats]
theorem after47 (c : Dev nD) (t : Fin cfg0.N) : (dats m 0 c).after 47 t = second (blkOf m c 13 t) (blkOf m c 15 t) := by dsimp only [dats]
theorem after48 (c : Dev nD) (t : Fin cfg0.N) : (dats m 0 c).after 48 t = step (blkOf m c 16 t) (blkOf m c 17 t) (blkOf m c 18 t) (blkOf m c 19 t) := by dsimp only [dats]
theorem after49 (c : Dev nD) (t : Fin cfg0.N) : (dats m 0 c).after 49 t = first (blkOf m c 17 t) (blkOf m c 18 t) := by dsimp only [dats]
theorem after50 (c : Dev nD) (t : Fin cfg0.N) : (dats m 0 c).after 50 t = second (blkOf m c 17 t) (blkOf m c 19 t) := by dsimp only [dats]
theorem after51 (c : Dev nD) (t : Fin cfg0.N) : (dats m 0 c).after 51 t = step (blkOf m c 20 t) (blkOf m c 21 t) (blkOf m c 22 t) (blkOf m c 23 t) := by dsimp only [dats]
theorem after52 (c : Dev nD) (t : Fin cfg0.N) : (dats m 0 c).after 52 t = first (blkOf m c 21 t) (blkOf m c 22 t) := by dsimp only [dats]
theorem after53 (c : Dev nD) (t : Fin cfg0.N) : (dats m 0 c).after 53 t = second (blkOf m c 21 t) (blkOf m c 23 t) := by dsimp only [dats]
theorem after54 (c : Dev nD) (t : Fin cfg0.N) : (dats m 0 c).after 54 t = step (blkOf m c 24 t) (blkOf m c 25 t) (blkOf m c 26 t) (blkOf m c 27 t) := by dsimp only [dats]
theorem after55 (c : Dev nD) (t : Fin cfg0.N) : (dats m 0 c).after 55 t = first (blkOf m c 25 t) (blkOf m c 26 t) := by dsimp only [dats]
theorem after56 (c : Dev nD) (t : Fin cfg0.N) : (dats m 0 c).after 56 t = second (blkOf m c 25 t) (blkOf m c 27 t) := by dsimp only [dats]
theorem after57 (c : Dev nD) (t : Fin cfg0.N) : (dats m 0 c).after 57 t = step (blkOf m c 28 t) (blkOf m c 29 t) (blkOf m c 30 t) (blkOf m c 31 t) := by dsimp only [dats]
theorem after58 (c : Dev nD) (t : Fin cfg0.N) : (dats m 0 c).after 58 t = first (blkOf m c 29 t) (blkOf m c 30 t) := by dsimp only [dats]
theorem after59 (c : Dev nD) (t : Fin cfg0.N) : (dats m 0 c).after 59 t = second (blkOf m c 29 t) (blkOf m c 31 t) := by dsimp only [dats]
theorem after60 (c : Dev nD) (t : Fin cfg0.N) : (dats m 0 c).after 60 t = step (blkOf m c 32 t) (blkOf m c 33 t) (blkOf m c 34 t) (blkOf m c 35 t) := by dsimp only [dats]
theorem after61 (c : Dev nD) (t : Fin cfg0.N) : (dats m 0 c).after 61 t = first (blkOf m c 33 t) (blkOf m c 34 t) := by dsimp only [dats]
theorem after62 (c : Dev nD) (t : Fin cfg0.N) : (dats m 0 c).after 62 t = second (blkOf m c 33 t) (blkOf m c 35 t) := by dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t))

/-- The body at the point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14,
    before15, before16, before17, before18, before19, before20, before21, before22, before23, before24, before25, before26, before27, before28,
    before29, before30, before31, before32, before33, before34, before35]
  simp only [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16,
    after17, after18, after19, after20, after21, after22, after23, after24, after25, after26, after27, after28, after29, after30, after31, after32,
    after33, after34, after35, after36, after37, after38, after39, after40, after41, after42, after43, after44, after45, after46, after47, after48,
    after49, after50, after51, after52, after53, after54, after55, after56, after57, after58, after59, after60, after61, after62]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩,
    ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩,
    ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩,
    ⟨%d56, H56⟩, ⟨%d57, H57⟩, ⟨%d58, H58⟩, ⟨%d59, H59⟩, ⟨%d60, H60⟩, ⟨%d61, H61⟩, ⟨%d62, H62⟩⟩
  iapply (body_wp c Set.univ
    _ _ _ _ _ _ _ _ _ _ _ _ _ _ (blkOf m c 0 t) (blkOf m c 1 t) (blkOf m c 2 t) (blkOf m c 3 t)
    _ _ _ _ _ _ _ _ _ _ _ _ _ _ (blkOf m c 4 t) (blkOf m c 5 t) (blkOf m c 6 t) (blkOf m c 7 t)
    _ _ _ _ _ _ _ _ _ _ _ _ _ _ (blkOf m c 8 t) (blkOf m c 9 t) (blkOf m c 10 t) (blkOf m c 11 t)
    _ _ _ _ _ _ _ _ _ _ _ _ _ _ (blkOf m c 12 t) (blkOf m c 13 t) (blkOf m c 14 t) (blkOf m c 15 t)
    _ _ _ _ _ _ _ _ _ _ _ _ _ _ (blkOf m c 16 t) (blkOf m c 17 t) (blkOf m c 18 t) (blkOf m c 19 t)
    _ _ _ _ _ _ _ _ _ _ _ _ _ _ (blkOf m c 20 t) (blkOf m c 21 t) (blkOf m c 22 t) (blkOf m c 23 t)
    _ _ _ _ _ _ _ _ _ _ _ _ _ _ (blkOf m c 24 t) (blkOf m c 25 t) (blkOf m c 26 t) (blkOf m c 27 t)
    _ _ _ _ _ _ _ _ _ _ _ _ _ _ (blkOf m c 28 t) (blkOf m c 29 t) (blkOf m c 30 t) (blkOf m c 31 t)
    _ _ _ _ _ _ _ _ _ _ _ _ _ _ (blkOf m c 32 t) (blkOf m c 33 t) (blkOf m c 34 t) (blkOf m c 35 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  iintro ⟨H0, H1, H2, H3, H4, H5, H6, H7, H8, H9, H10, H11, H12, H13, H14, H15, H16, H17, H18, H19, H20, H21, H22, H23, H24, H25, H26, H27, H28, H29, H30,
    H31, H32, H33, H34, H35, H36, H37, H38, H39, H40, H41, H42, H43, H44, H45, H46, H47, H48, H49, H50, H51, H52, H53, H54, H55, H56, H57, H58, H59,
    H60, H61, H62⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  iexact H62

theorem defs₀_row (t : Fin cfg0.N) : defs₀ (F := F) .tc cfg0.body (cfg0.bodyArgs t (cfg0.slots t)) = bodyAt0 t := by
  unfold defs₀; rw [Defs.onTc_tc]

/-- The body at the point, as the pipeline asks for it. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

set_option backward.isDefEq.respectTransparency.types false in
/-- Every run ends, with every array at what the point's results make of it and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- An input's array ends as it was. -/
theorem kept {r : PUnit × MemSt nD τ sig (Elt F)} (h : Pipeline.FramePost cfgs (dats m) 0 (V m) r) (c : Dev nD) (w : Fin cfg0.W)
    (hw : (cfg0.win w).isOut = false) : r.2.mem ((spec0 w).arr.view.loc (c.tc : Thread nD τ)) = V m c (Pipeline.arrRef spec0 w) :=
  ((h c).1 w).trans (((dats m 0 c).arrAt_in w hw _).trans (A_eq m c w))

end Cert.AdamSmallKernel.Small

end
-- ==== Proof.AdamSmallIdealRun.lean ====
/- The optimiser's call on the nine small weights, read over the ideal values: its body on the staged blocks, the run, and what the
   run leaves in every array. -/
module

public import proofs.«01_k».proof.Proof.AdamSmallStep
public import proofs.«01_k».proof.Proof.Gen.AdamSmallKernelIdeal.Launch
public import proofs.«01_k».proof.Proof.Gen.AdamSmallKernelIdeal.Skeleton
public import proofs.«01_k».proof.Proof.Gen.AdamSmallKernelIdeal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384
set_option maxHeartbeats 2000000

noncomputable section

namespace Cert.AdamSmallKernelIdeal.Small

open Cert.AdamSmallKernelIdeal Cert.AdamSmallKernelIdeal.Gen Cert.AdamSmall
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on staged blocks: it leaves the weights, gradients and moments as they were and, for each weight, the step, the
    new first moment and the new second moment in the three result buffers. -/
theorem body_wp (c : Dev nD) (E : Set ℕ)
    (a0 a1 a2 a3 a36 a37 a38 : Memref sig .tc .vmem S1x1024 .f32) (b0 : a0.IsWhole) (b1 : a1.IsWhole) (b2 : a2.IsWhole) (b3 : a3.IsWhole) (b36 : a36.IsWhole) (b37 : a37.IsWhole) (b38 : a38.IsWhole)
    (x0 x1 x2 x3 : Vec F S1x1024 .f32)
    (a4 a5 a6 a7 a39 a40 a41 : Memref sig .tc .vmem S1x3072 .f32) (b4 : a4.IsWhole) (b5 : a5.IsWhole) (b6 : a6.IsWhole) (b7 : a7.IsWhole) (b39 : a39.IsWhole) (b40 : a40.IsWhole) (b41 : a41.IsWhole)
    (x4 x5 x6 x7 : Vec F S1x3072 .f32)
    (a8 a9 a10 a11 a42 a43 a44 : Memref sig .tc .vmem S1x1024 .f32) (b8 : a8.IsWhole) (b9 : a9.IsWhole) (b10 : a10.IsWhole) (b11 : a11.IsWhole) (b42 : a42.IsWhole) (b43 : a43.IsWhole) (b44 : a44.IsWhole)
    (x8 x9 x10 x11 : Vec F S1x1024 .f32)
    (a12 a13 a14 a15 a45 a46 a47 : Memref sig .tc .vmem S1x512 .f32) (b12 : a12.IsWhole) (b13 : a13.IsWhole) (b14 : a14.IsWhole) (b15 : a15.IsWhole) (b45 : a45.IsWhole) (b46 : a46.IsWhole) (b47 : a47.IsWhole)
    (x12 x13 x14 x15 : Vec F S1x512 .f32)
    (a16 a17 a18 a19 a48 a49 a50 : Memref sig .tc .vmem S512x128 .f32) (b16 : a16.IsWhole) (b17 : a17.IsWhole) (b18 : a18.IsWhole) (b19 : a19.IsWhole) (b48 : a48.IsWhole) (b49 : a49.IsWhole) (b50 : a50.IsWhole)
    (x16 x17 x18 x19 : Vec F S512x128 .f32)
    (a20 a21 a22 a23 a51 a52 a53 : Memref sig .tc .vmem S4x128 .f32) (b20 : a20.IsWhole) (b21 : a21.IsWhole) (b22 : a22.IsWhole) (b23 : a23.IsWhole) (b51 : a51.IsWhole) (b52 : a52.IsWhole) (b53 : a53.IsWhole)
    (x20 x21 x22 x23 : Vec F S4x128 .f32)
    (a24 a25 a26 a27 a54 a55 a56 : Memref sig .tc .vmem S1x64 .f32) (b24 : a24.IsWhole) (b25 : a25.IsWhole) (b26 : a26.IsWhole) (b27 : a27.IsWhole) (b54 : a54.IsWhole) (b55 : a55.IsWhole) (b56 : a56.IsWhole)
    (x24 x25 x26 x27 : Vec F S1x64 .f32)
    (a28 a29 a30 a31 a57 a58 a59 : Memref sig .tc .vmem S1x64 .f32) (b28 : a28.IsWhole) (b29 : a29.IsWhole) (b30 : a30.IsWhole) (b31 : a31.IsWhole) (b57 : a57.IsWhole) (b58 : a58.IsWhole) (b59 : a59.IsWhole)
    (x28 x29 x30 x31 : Vec F S1x64 .f32)
    (a32 a33 a34 a35 a60 a61 a62 : Memref sig .tc .vmem S120x31 .f32) (b32 : a32.IsWhole) (b33 : a33.IsWhole) (b34 : a34.IsWhole) (b35 : a35.IsWhole) (b60 : a60.IsWhole) (b61 : a61.IsWhole) (b62 : a62.IsWhole)
    (x32 x33 x34 x35 : Vec F S120x31 .f32)
    (K : PUnit → sProp 𝕄) :
    iprop(owns (c : Thread nD τ) a0 fullShare x0 ∗ owns (c : Thread nD τ) a1 fullShare x1 ∗ owns (c : Thread nD τ) a2 fullShare x2 ∗
      owns (c : Thread nD τ) a3 fullShare x3 ∗ owns (c : Thread nD τ) a4 fullShare x4 ∗ owns (c : Thread nD τ) a5 fullShare x5 ∗
      owns (c : Thread nD τ) a6 fullShare x6 ∗ owns (c : Thread nD τ) a7 fullShare x7 ∗ owns (c : Thread nD τ) a8 fullShare x8 ∗
      owns (c : Thread nD τ) a9 fullShare x9 ∗ owns (c : Thread nD τ) a10 fullShare x10 ∗ owns (c : Thread nD τ) a11 fullShare x11 ∗
      owns (c : Thread nD τ) a12 fullShare x12 ∗ owns (c : Thread nD τ) a13 fullShare x13 ∗ owns (c : Thread nD τ) a14 fullShare x14 ∗
      owns (c : Thread nD τ) a15 fullShare x15 ∗ owns (c : Thread nD τ) a16 fullShare x16 ∗ owns (c : Thread nD τ) a17 fullShare x17 ∗
      owns (c : Thread nD τ) a18 fullShare x18 ∗ owns (c : Thread nD τ) a19 fullShare x19 ∗ owns (c : Thread nD τ) a20 fullShare x20 ∗
      owns (c : Thread nD τ) a21 fullShare x21 ∗ owns (c : Thread nD τ) a22 fullShare x22 ∗ owns (c : Thread nD τ) a23 fullShare x23 ∗
      owns (c : Thread nD τ) a24 fullShare x24 ∗ owns (c : Thread nD τ) a25 fullShare x25 ∗ owns (c : Thread nD τ) a26 fullShare x26 ∗
      owns (c : Thread nD τ) a27 fullShare x27 ∗ owns (c : Thread nD τ) a28 fullShare x28 ∗ owns (c : Thread nD τ) a29 fullShare x29 ∗
      owns (c : Thread nD τ) a30 fullShare x30 ∗ owns (c : Thread nD τ) a31 fullShare x31 ∗ owns (c : Thread nD τ) a32 fullShare x32 ∗
      owns (c : Thread nD τ) a33 fullShare x33 ∗ owns (c : Thread nD τ) a34 fullShare x34 ∗ owns (c : Thread nD τ) a35 fullShare x35 ∗
      (∃ d, owns (c : Thread nD τ) a36 fullShare d) ∗ (∃ d, owns (c : Thread nD τ) a37 fullShare d) ∗ (∃ d, owns (c : Thread nD τ) a38 fullShare d) ∗
      (∃ d, owns (c : Thread nD τ) a39 fullShare d) ∗ (∃ d, owns (c : Thread nD τ) a40 fullShare d) ∗ (∃ d, owns (c : Thread nD τ) a41 fullShare d) ∗
      (∃ d, owns (c : Thread nD τ) a42 fullShare d) ∗ (∃ d, owns (c : Thread nD τ) a43 fullShare d) ∗ (∃ d, owns (c : Thread nD τ) a44 fullShare d) ∗
      (∃ d, owns (c : Thread nD τ) a45 fullShare d) ∗ (∃ d, owns (c : Thread nD τ) a46 fullShare d) ∗ (∃ d, owns (c : Thread nD τ) a47 fullShare d) ∗
      (∃ d, owns (c : Thread nD τ) a48 fullShare d) ∗ (∃ d, owns (c : Thread nD τ) a49 fullShare d) ∗ (∃ d, owns (c : Thread nD τ) a50 fullShare d) ∗
      (∃ d, owns (c : Thread nD τ) a51 fullShare d) ∗ (∃ d, owns (c : Thread nD τ) a52 fullShare d) ∗ (∃ d, owns (c : Thread nD τ) a53 fullShare d) ∗
      (∃ d, owns (c : Thread nD τ) a54 fullShare d) ∗ (∃ d, owns (c : Thread nD τ) a55 fullShare d) ∗ (∃ d, owns (c : Thread nD τ) a56 fullShare d) ∗
      (∃ d, owns (c : Thread nD τ) a57 fullShare d) ∗ (∃ d, owns (c : Thread nD τ) a58 fullShare d) ∗ (∃ d, owns (c : Thread nD τ) a59 fullShare d) ∗
      (∃ d, owns (c : Thread nD τ) a60 fullShare d) ∗ (∃ d, owns (c : Thread nD τ) a61 fullShare d) ∗ (∃ d, owns (c : Thread nD τ) a62 fullShare d)
        ∗ (iprop(owns (c : Thread nD τ) a0 fullShare x0 ∗ owns (c : Thread nD τ) a1 fullShare x1 ∗ owns (c : Thread nD τ) a2 fullShare x2 ∗
          owns (c : Thread nD τ) a3 fullShare x3 ∗ owns (c : Thread nD τ) a4 fullShare x4 ∗ owns (c : Thread nD τ) a5 fullShare x5 ∗
          owns (c : Thread nD τ) a6 fullShare x6 ∗ owns (c : Thread nD τ) a7 fullShare x7 ∗ owns (c : Thread nD τ) a8 fullShare x8 ∗
          owns (c : Thread nD τ) a9 fullShare x9 ∗ owns (c : Thread nD τ) a10 fullShare x10 ∗ owns (c : Thread nD τ) a11 fullShare x11 ∗
          owns (c : Thread nD τ) a12 fullShare x12 ∗ owns (c : Thread nD τ) a13 fullShare x13 ∗ owns (c : Thread nD τ) a14 fullShare x14 ∗
          owns (c : Thread nD τ) a15 fullShare x15 ∗ owns (c : Thread nD τ) a16 fullShare x16 ∗ owns (c : Thread nD τ) a17 fullShare x17 ∗
          owns (c : Thread nD τ) a18 fullShare x18 ∗ owns (c : Thread nD τ) a19 fullShare x19 ∗ owns (c : Thread nD τ) a20 fullShare x20 ∗
          owns (c : Thread nD τ) a21 fullShare x21 ∗ owns (c : Thread nD τ) a22 fullShare x22 ∗ owns (c : Thread nD τ) a23 fullShare x23 ∗
          owns (c : Thread nD τ) a24 fullShare x24 ∗ owns (c : Thread nD τ) a25 fullShare x25 ∗ owns (c : Thread nD τ) a26 fullShare x26 ∗
          owns (c : Thread nD τ) a27 fullShare x27 ∗ owns (c : Thread nD τ) a28 fullShare x28 ∗ owns (c : Thread nD τ) a29 fullShare x29 ∗
          owns (c : Thread nD τ) a30 fullShare x30 ∗ owns (c : Thread nD τ) a31 fullShare x31 ∗ owns (c : Thread nD τ) a32 fullShare x32 ∗
          owns (c : Thread nD τ) a33 fullShare x33 ∗ owns (c : Thread nD τ) a34 fullShare x34 ∗ owns (c : Thread nD τ) a35 fullShare x35 ∗
          owns (c : Thread nD τ) a36 fullShare (step x0 x1 x2 x3) ∗ owns (c : Thread nD τ) a37 fullShare (first x1 x2) ∗
          owns (c : Thread nD τ) a38 fullShare (second x1 x3) ∗ owns (c : Thread nD τ) a39 fullShare (step x4 x5 x6 x7) ∗
          owns (c : Thread nD τ) a40 fullShare (first x5 x6) ∗ owns (c : Thread nD τ) a41 fullShare (second x5 x7) ∗
          owns (c : Thread nD τ) a42 fullShare (step x8 x9 x10 x11) ∗ owns (c : Thread nD τ) a43 fullShare (first x9 x10) ∗
          owns (c : Thread nD τ) a44 fullShare (second x9 x11) ∗ owns (c : Thread nD τ) a45 fullShare (step x12 x13 x14 x15) ∗
          owns (c : Thread nD τ) a46 fullShare (first x13 x14) ∗ owns (c : Thread nD τ) a47 fullShare (second x13 x15) ∗
          owns (c : Thread nD τ) a48 fullShare (step x16 x17 x18 x19) ∗ owns (c : Thread nD τ) a49 fullShare (first x17 x18) ∗
          owns (c : Thread nD τ) a50 fullShare (second x17 x19) ∗ owns (c : Thread nD τ) a51 fullShare (step x20 x21 x22 x23) ∗
          owns (c : Thread nD τ) a52 fullShare (first x21 x22) ∗ owns (c : Thread nD τ) a53 fullShare (second x21 x23) ∗
          owns (c : Thread nD τ) a54 fullShare (step x24 x25 x26 x27) ∗ owns (c : Thread nD τ) a55 fullShare (first x25 x26) ∗
          owns (c : Thread nD τ) a56 fullShare (second x25 x27) ∗ owns (c : Thread nD τ) a57 fullShare (step x28 x29 x30 x31) ∗
          owns (c : Thread nD τ) a58 fullShare (first x29 x30) ∗ owns (c : Thread nD τ) a59 fullShare (second x29 x31) ∗
          owns (c : Thread nD τ) a60 fullShare (step x32 x33 x34 x35) ∗ owns (c : Thread nD τ) a61 fullShare (first x33 x34) ∗
          owns (c : Thread nD τ) a62 fullShare (second x33 x35)) -∗ K ⟨⟩))
      ⊢ wp frame (wpE (defs₀ (F := F)) Variants.none c none) E (cc0_adamw_small a0 b0 a1 b1 a2 b2 a3 b3 a4 b4 a5 b5 a6 b6 a7 b7 a8 b8 a9 b9 a10 b10 a11 b11 a12 b12 a13 b13 a14 b14 a15 b15 a16 b16 a17 b17 a18 b18 a19 b19
        a20 b20 a21 b21 a22 b22 a23 b23 a24 b24 a25 b25 a26 b26 a27 b27 a28 b28 a29 b29 a30 b30 a31 b31 a32 b32 a33 b33 a34 b34 a35 b35 a36 b36
        a37 b37 a38 b38 a39 b39 a40 b40 a41 b41 a42 b42 a43 b43 a44 b44 a45 b45 a46 b46 a47 b47 a48 b48 a49 b49 a50 b50 a51 b51 a52 b52 a53 b53
        a54 b54 a55 b55 a56 b56 a57 b57 a58 b58 a59 b59 a60 b60 a61 b61 a62 b62) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩,
    ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩,
    ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩,
    ⟨%d36, %f36, -, H36⟩, ⟨%d37, %f37, -, H37⟩, ⟨%d38, %f38, -, H38⟩, ⟨%d39, %f39, -, H39⟩, ⟨%d40, %f40, -, H40⟩, ⟨%d41, %f41, -, H41⟩,
    ⟨%d42, %f42, -, H42⟩, ⟨%d43, %f43, -, H43⟩, ⟨%d44, %f44, -, H44⟩, ⟨%d45, %f45, -, H45⟩, ⟨%d46, %f46, -, H46⟩, ⟨%d47, %f47, -, H47⟩,
    ⟨%d48, %f48, -, H48⟩, ⟨%d49, %f49, -, H49⟩, ⟨%d50, %f50, -, H50⟩, ⟨%d51, %f51, -, H51⟩, ⟨%d52, %f52, -, H52⟩, ⟨%d53, %f53, -, H53⟩,
    ⟨%d54, %f54, -, H54⟩, ⟨%d55, %f55, -, H55⟩, ⟨%d56, %f56, -, H56⟩, ⟨%d57, %f57, -, H57⟩, ⟨%d58, %f58, -, H58⟩, ⟨%d59, %f59, -, H59⟩,
    ⟨%d60, %f60, -, H60⟩, ⟨%d61, %f61, -, H61⟩, ⟨%d62, %f62, -, H62⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists _; isplitr
    swap; · iexact H36
    ipureintro; exact read_step _ _ zero2 _ _ _ _ _
  isplitl [H37]
  · iexists _; isplitr
    swap; · iexact H37
    ipureintro; exact read_first _ _ zero2 _ _ _
  isplitl [H38]
  · iexists _; isplitr
    swap; · iexact H38
    ipureintro; exact read_second _ _ zero2 _ _ _
  isplitl [H39]
  · iexists _; isplitr
    swap; · iexact H39
    ipureintro; exact read_step _ _ zero2 _ _ _ _ _
  isplitl [H40]
  · iexists _; isplitr
    swap; · iexact H40
    ipureintro; exact read_first _ _ zero2 _ _ _
  isplitl [H41]
  · iexists _; isplitr
    swap; · iexact H41
    ipureintro; exact read_second _ _ zero2 _ _ _
  isplitl [H42]
  · iexists _; isplitr
    swap; · iexact H42
    ipureintro; exact read_step _ _ zero2 _ _ _ _ _
  isplitl [H43]
  · iexists _; isplitr
    swap; · iexact H43
    ipureintro; exact read_first _ _ zero2 _ _ _
  isplitl [H44]
  · iexists _; isplitr
    swap; · iexact H44
    ipureintro; exact read_second _ _ zero2 _ _ _
  isplitl [H45]
  · iexists _; isplitr
    swap; · iexact H45
    ipureintro; exact read_step _ _ zero2 _ _ _ _ _
  isplitl [H46]
  · iexists _; isplitr
    swap; · iexact H46
    ipureintro; exact read_first _ _ zero2 _ _ _
  isplitl [H47]
  · iexists _; isplitr
    swap; · iexact H47
    ipureintro; exact read_second _ _ zero2 _ _ _
  isplitl [H48]
  · iexists _; isplitr
    swap; · iexact H48
    ipureintro; exact read_step _ _ zero2 _ _ _ _ _
  isplitl [H49]
  · iexists _; isplitr
    swap; · iexact H49
    ipureintro; exact read_first _ _ zero2 _ _ _
  isplitl [H50]
  · iexists _; isplitr
    swap; · iexact H50
    ipureintro; exact read_second _ _ zero2 _ _ _
  isplitl [H51]
  · iexists _; isplitr
    swap; · iexact H51
    ipureintro; exact read_step _ _ zero2 _ _ _ _ _
  isplitl [H52]
  · iexists _; isplitr
    swap; · iexact H52
    ipureintro; exact read_first _ _ zero2 _ _ _
  isplitl [H53]
  · iexists _; isplitr
    swap; · iexact H53
    ipureintro; exact read_second _ _ zero2 _ _ _
  isplitl [H54]
  · iexists _; isplitr
    swap; · iexact H54
    ipureintro; exact read_step _ _ zero2 _ _ _ _ _
  isplitl [H55]
  · iexists _; isplitr
    swap; · iexact H55
    ipureintro; exact read_first _ _ zero2 _ _ _
  isplitl [H56]
  · iexists _; isplitr
    swap; · iexact H56
    ipureintro; exact read_second _ _ zero2 _ _ _
  isplitl [H57]
  · iexists _; isplitr
    swap; · iexact H57
    ipureintro; exact read_step _ _ zero2 _ _ _ _ _
  isplitl [H58]
  · iexists _; isplitr
    swap; · iexact H58
    ipureintro; exact read_first _ _ zero2 _ _ _
  isplitl [H59]
  · iexists _; isplitr
    swap; · iexact H59
    ipureintro; exact read_second _ _ zero2 _ _ _
  isplitl [H60]
  · iexists _; isplitr
    swap; · iexact H60
    ipureintro; exact read_step _ _ zero2 _ _ _ _ _
  isplitl [H61]
  · iexists _; isplitr
    swap; · iexact H61
    ipureintro; exact read_first _ _ zero2 _ _ _
  iexists _; isplitr
  swap; · iexact H62
  ipureintro; exact read_second _ _ zero2 _ _ _

variable (m : (ℓ : Loc nD τ sig) → Buf (Elt F) ℓ) (ρ : Dev nD → PrngReg)

/-- A core's buffers when the call starts. -/
abbrev V (c : Dev nD) (b : Ref sig .tc) : Buf (Elt F) ((c : Thread nD τ).loc b) := m ((c : Thread nD τ).loc b)

/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block: its array, read through the window. -/
def blkOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call's one point does to the staged blocks. -/
def dats (_ : Fin 1) (c : Dev nD) : Dat τ (Elt F) Unit ℕ (UR sig nD τ) ℕ cfg0 c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => blkOf m c 6 t
    | ⟨7, _⟩ => blkOf m c 7 t
    | ⟨8, _⟩ => blkOf m c 8 t
    | ⟨9, _⟩ => blkOf m c 9 t
    | ⟨10, _⟩ => blkOf m c 10 t
    | ⟨11, _⟩ => blkOf m c 11 t
    | ⟨12, _⟩ => blkOf m c 12 t
    | ⟨13, _⟩ => blkOf m c 13 t
    | ⟨14, _⟩ => blkOf m c 14 t
    | ⟨15, _⟩ => blkOf m c 15 t
    | ⟨16, _⟩ => blkOf m c 16 t
    | ⟨17, _⟩ => blkOf m c 17 t
    | ⟨18, _⟩ => blkOf m c 18 t
    | ⟨19, _⟩ => blkOf m c 19 t
    | ⟨20, _⟩ => blkOf m c 20 t
    | ⟨21, _⟩ => blkOf m c 21 t
    | ⟨22, _⟩ => blkOf m c 22 t
    | ⟨23, _⟩ => blkOf m c 23 t
    | ⟨24, _⟩ => blkOf m c 24 t
    | ⟨25, _⟩ => blkOf m c 25 t
    | ⟨26, _⟩ => blkOf m c 26 t
    | ⟨27, _⟩ => blkOf m c 27 t
    | ⟨28, _⟩ => blkOf m c 28 t
    | ⟨29, _⟩ => blkOf m c 29 t
    | ⟨30, _⟩ => blkOf m c 30 t
    | ⟨31, _⟩ => blkOf m c 31 t
    | ⟨32, _⟩ => blkOf m c 32 t
    | ⟨33, _⟩ => blkOf m c 33 t
    | ⟨34, _⟩ => blkOf m c 34 t
    | ⟨35, _⟩ => blkOf m c 35 t
    | ⟨36, _⟩ => step (blkOf m c 0 t) (blkOf m c 1 t) (blkOf m c 2 t) (blkOf m c 3 t)
    | ⟨37, _⟩ => first (blkOf m c 1 t) (blkOf m c 2 t)
    | ⟨38, _⟩ => second (blkOf m c 1 t) (blkOf m c 3 t)
    | ⟨39, _⟩ => step (blkOf m c 4 t) (blkOf m c 5 t) (blkOf m c 6 t) (blkOf m c 7 t)
    | ⟨40, _⟩ => first (blkOf m c 5 t) (blkOf m c 6 t)
    | ⟨41, _⟩ => second (blkOf m c 5 t) (blkOf m c 7 t)
    | ⟨42, _⟩ => step (blkOf m c 8 t) (blkOf m c 9 t) (blkOf m c 10 t) (blkOf m c 11 t)
    | ⟨43, _⟩ => first (blkOf m c 9 t) (blkOf m c 10 t)
    | ⟨44, _⟩ => second (blkOf m c 9 t) (blkOf m c 11 t)
    | ⟨45, _⟩ => step (blkOf m c 12 t) (blkOf m c 13 t) (blkOf m c 14 t) (blkOf m c 15 t)
    | ⟨46, _⟩ => first (blkOf m c 13 t) (blkOf m c 14 t)
    | ⟨47, _⟩ => second (blkOf m c 13 t) (blkOf m c 15 t)
    | ⟨48, _⟩ => step (blkOf m c 16 t) (blkOf m c 17 t) (blkOf m c 18 t) (blkOf m c 19 t)
    | ⟨49, _⟩ => first (blkOf m c 17 t) (blkOf m c 18 t)
    | ⟨50, _⟩ => second (blkOf m c 17 t) (blkOf m c 19 t)
    | ⟨51, _⟩ => step (blkOf m c 20 t) (blkOf m c 21 t) (blkOf m c 22 t) (blkOf m c 23 t)
    | ⟨52, _⟩ => first (blkOf m c 21 t) (blkOf m c 22 t)
    | ⟨53, _⟩ => second (blkOf m c 21 t) (blkOf m c 23 t)
    | ⟨54, _⟩ => step (blkOf m c 24 t) (blkOf m c 25 t) (blkOf m c 26 t) (blkOf m c 27 t)
    | ⟨55, _⟩ => first (blkOf m c 25 t) (blkOf m c 26 t)
    | ⟨56, _⟩ => second (blkOf m c 25 t) (blkOf m c 27 t)
    | ⟨57, _⟩ => step (blkOf m c 28 t) (blkOf m c 29 t) (blkOf m c 30 t) (blkOf m c 31 t)
    | ⟨58, _⟩ => first (blkOf m c 29 t) (blkOf m c 30 t)
    | ⟨59, _⟩ => second (blkOf m c 29 t) (blkOf m c 31 t)
    | ⟨60, _⟩ => step (blkOf m c 32 t) (blkOf m c 33 t) (blkOf m c 34 t) (blkOf m c 35 t)
    | ⟨61, _⟩ => first (blkOf m c 33 t) (blkOf m c 34 t)
    | ⟨62, _⟩ => second (blkOf m c 33 t) (blkOf m c 35 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block when the body starts, if the body leaves the block there. -/
theorem before_of (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = blkOf m c w t)
    (X : Fin cfg0.N → (cfg0.win w).block.Idx → Elt F (cfg0.win w).elt)
    (hfill : ∀ t d, (cfg0.win w).fill (cfg0.grid.coords t) d (blkOf m c w t) = X t) (t : Fin cfg0.N) (d) :
    (dats m 0 c).before w t d = X t :=
  ((dats m 0 c).before_in_eq_fetched w hw (fun _ => rfl) hclip
    (fun t => (hkeep t).trans (by unfold Dat.blockOf blkOf; rw [A_eq])) t d).trans
    (by refine .trans ?_ (hfill t d); unfold Dat.fetched Dat.blockOf blkOf; rw [A_eq])

/-! What each input's buffer holds before the body, and each result's after it. -/
theorem before0 (c : Dev nD) (t : Fin cfg0.N) (d) : (dats m 0 c).before 0 t d = blkOf m c 0 t :=
  before_of m c 0 rfl (fun _ _ _ => rfl) (fun t => by dsimp only [dats]) (blkOf m c 0) (fun _ _ => rfl) t d
theorem before1 (c : Dev nD) (t : Fin cfg0.N) (d) : (dats m 0 c).before 1 t d = blkOf m c 1 t :=
  before_of m c 1 rfl (fun _ _ _ => rfl) (fun t => by dsimp only [dats]) (blkOf m c 1) (fun _ _ => rfl) t d
theorem before2 (c : Dev nD) (t : Fin cfg0.N) (d) : (dats m 0 c).before 2 t d = blkOf m c 2 t :=
  before_of m c 2 rfl (fun _ _ _ => rfl) (fun t => by dsimp only [dats]) (blkOf m c 2) (fun _ _ => rfl) t d
theorem before3 (c : Dev nD) (t : Fin cfg0.N) (d) : (dats m 0 c).before 3 t d = blkOf m c 3 t :=
  before_of m c 3 rfl (fun _ _ _ => rfl) (fun t => by dsimp only [dats]) (blkOf m c 3) (fun _ _ => rfl) t d
theorem before4 (c : Dev nD) (t : Fin cfg0.N) (d) : (dats m 0 c).before 4 t d = blkOf m c 4 t :=
  before_of m c 4 rfl (fun _ _ _ => rfl) (fun t => by dsimp only [dats]) (blkOf m c 4) (fun _ _ => rfl) t d
theorem before5 (c : Dev nD) (t : Fin cfg0.N) (d) : (dats m 0 c).before 5 t d = blkOf m c 5 t :=
  before_of m c 5 rfl (fun _ _ _ => rfl) (fun t => by dsimp only [dats]) (blkOf m c 5) (fun _ _ => rfl) t d
theorem before6 (c : Dev nD) (t : Fin cfg0.N) (d) : (dats m 0 c).before 6 t d = blkOf m c 6 t :=
  before_of m c 6 rfl (fun _ _ _ => rfl) (fun t => by dsimp only [dats]) (blkOf m c 6) (fun _ _ => rfl) t d
theorem before7 (c : Dev nD) (t : Fin cfg0.N) (d) : (dats m 0 c).before 7 t d = blkOf m c 7 t :=
  before_of m c 7 rfl (fun _ _ _ => rfl) (fun t => by dsimp only [dats]) (blkOf m c 7) (fun _ _ => rfl) t d
theorem before8 (c : Dev nD) (t : Fin cfg0.N) (d) : (dats m 0 c).before 8 t d = blkOf m c 8 t :=
  before_of m c 8 rfl (fun _ _ _ => rfl) (fun t => by dsimp only [dats]) (blkOf m c 8) (fun _ _ => rfl) t d
theorem before9 (c : Dev nD) (t : Fin cfg0.N) (d) : (dats m 0 c).before 9 t d = blkOf m c 9 t :=
  before_of m c 9 rfl (fun _ _ _ => rfl) (fun t => by dsimp only [dats]) (blkOf m c 9) (fun _ _ => rfl) t d
theorem before10 (c : Dev nD) (t : Fin cfg0.N) (d) : (dats m 0 c).before 10 t d = blkOf m c 10 t :=
  before_of m c 10 rfl (fun _ _ _ => rfl) (fun t => by dsimp only [dats]) (blkOf m c 10) (fun _ _ => rfl) t d
theorem before11 (c : Dev nD) (t : Fin cfg0.N) (d) : (dats m 0 c).before 11 t d = blkOf m c 11 t :=
  before_of m c 11 rfl (fun _ _ _ => rfl) (fun t => by dsimp only [dats]) (blkOf m c 11) (fun _ _ => rfl) t d
theorem before12 (c : Dev nD) (t : Fin cfg0.N) (d) : (dats m 0 c).before 12 t d = blkOf m c 12 t :=
  before_of m c 12 rfl (fun _ _ _ => rfl) (fun t => by dsimp only [dats]) (blkOf m c 12) (fun _ _ => rfl) t d
theorem before13 (c : Dev nD) (t : Fin cfg0.N) (d) : (dats m 0 c).before 13 t d = blkOf m c 13 t :=
  before_of m c 13 rfl (fun _ _ _ => rfl) (fun t => by dsimp only [dats]) (blkOf m c 13) (fun _ _ => rfl) t d
theorem before14 (c : Dev nD) (t : Fin cfg0.N) (d) : (dats m 0 c).before 14 t d = blkOf m c 14 t :=
  before_of m c 14 rfl (fun _ _ _ => rfl) (fun t => by dsimp only [dats]) (blkOf m c 14) (fun _ _ => rfl) t d
theorem before15 (c : Dev nD) (t : Fin cfg0.N) (d) : (dats m 0 c).before 15 t d = blkOf m c 15 t :=
  before_of m c 15 rfl (fun _ _ _ => rfl) (fun t => by dsimp only [dats]) (blkOf m c 15) (fun _ _ => rfl) t d
theorem before16 (c : Dev nD) (t : Fin cfg0.N) (d) : (dats m 0 c).before 16 t d = blkOf m c 16 t :=
  before_of m c 16 rfl (fun _ _ _ => rfl) (fun t => by dsimp only [dats]) (blkOf m c 16) (fun _ _ => rfl) t d
theorem before17 (c : Dev nD) (t : Fin cfg0.N) (d) : (dats m 0 c).before 17 t d = blkOf m c 17 t :=
  before_of m c 17 rfl (fun _ _ _ => rfl) (fun t => by dsimp only [dats]) (blkOf m c 17) (fun _ _ => rfl) t d
theorem before18 (c : Dev nD) (t : Fin cfg0.N) (d) : (dats m 0 c).before 18 t d = blkOf m c 18 t :=
  before_of m c 18 rfl (fun _ _ _ => rfl) (fun t => by dsimp only [dats]) (blkOf m c 18) (fun _ _ => rfl) t d
theorem before19 (c : Dev nD) (t : Fin cfg0.N) (d) : (dats m 0 c).before 19 t d = blkOf m c 19 t :=
  before_of m c 19 rfl (fun _ _ _ => rfl) (fun t => by dsimp only [dats]) (blkOf m c 19) (fun _ _ => rfl) t d
theorem before20 (c : Dev nD) (t : Fin cfg0.N) (d) : (dats m 0 c).before 20 t d = blkOf m c 20 t :=
  before_of m c 20 rfl (fun _ _ _ => rfl) (fun t => by dsimp only [dats]) (blkOf m c 20) (fun _ _ => rfl) t d
theorem before21 (c : Dev nD) (t : Fin cfg0.N) (d) : (dats m 0 c).before 21 t d = blkOf m c 21 t :=
  before_of m c 21 rfl (fun _ _ _ => rfl) (fun t => by dsimp only [dats]) (blkOf m c 21) (fun _ _ => rfl) t d
theorem before22 (c : Dev nD) (t : Fin cfg0.N) (d) : (dats m 0 c).before 22 t d = blkOf m c 22 t :=
  before_of m c 22 rfl (fun _ _ _ => rfl) (fun t => by dsimp only [dats]) (blkOf m c 22) (fun _ _ => rfl) t d
theorem before23 (c : Dev nD) (t : Fin cfg0.N) (d) : (dats m 0 c).before 23 t d = blkOf m c 23 t :=
  before_of m c 23 rfl (fun _ _ _ => rfl) (fun t => by dsimp only [dats]) (blkOf m c 23) (fun _ _ => rfl) t d
theorem before24 (c : Dev nD) (t : Fin cfg0.N) (d) : (dats m 0 c).before 24 t d = blkOf m c 24 t :=
  before_of m c 24 rfl (fun _ _ _ => rfl) (fun t => by dsimp only [dats]) (blkOf m c 24) (fun _ _ => rfl) t d
theorem before25 (c : Dev nD) (t : Fin cfg0.N) (d) : (dats m 0 c).before 25 t d = blkOf m c 25 t :=
  before_of m c 25 rfl (fun _ _ _ => rfl) (fun t => by dsimp only [dats]) (blkOf m c 25) (fun _ _ => rfl) t d
theorem before26 (c : Dev nD) (t : Fin cfg0.N) (d) : (dats m 0 c).before 26 t d = blkOf m c 26 t :=
  before_of m c 26 rfl (fun _ _ _ => rfl) (fun t => by dsimp only [dats]) (blkOf m c 26) (fun _ _ => rfl) t d
theorem before27 (c : Dev nD) (t : Fin cfg0.N) (d) : (dats m 0 c).before 27 t d = blkOf m c 27 t :=
  before_of m c 27 rfl (fun _ _ _ => rfl) (fun t => by dsimp only [dats]) (blkOf m c 27) (fun _ _ => rfl) t d
theorem before28 (c : Dev nD) (t : Fin cfg0.N) (d) : (dats m 0 c).before 28 t d = blkOf m c 28 t :=
  before_of m c 28 rfl (fun _ _ _ => rfl) (fun t => by dsimp only [dats]) (blkOf m c 28) (fun _ _ => rfl) t d
theorem before29 (c : Dev nD) (t : Fin cfg0.N) (d) : (dats m 0 c).before 29 t d = blkOf m c 29 t :=
  before_of m c 29 rfl (fun _ _ _ => rfl) (fun t => by dsimp only [dats]) (blkOf m c 29) (fun _ _ => rfl) t d
theorem before30 (c : Dev nD) (t : Fin cfg0.N) (d) : (dats m 0 c).before 30 t d = blkOf m c 30 t :=
  before_of m c 30 rfl (fun _ _ _ => rfl) (fun t => by dsimp only [dats]) (blkOf m c 30) (fun _ _ => rfl) t d
theorem before31 (c : Dev nD) (t : Fin cfg0.N) (d) : (dats m 0 c).before 31 t d = blkOf m c 31 t :=
  before_of m c 31 rfl (fun _ _ _ => rfl) (fun t => by dsimp only [dats]) (blkOf m c 31) (fun _ _ => rfl) t d
theorem before32 (c : Dev nD) (t : Fin cfg0.N) (d) : (dats m 0 c).before 32 t d = blkOf m c 32 t :=
  before_of m c 32 rfl (fun _ _ _ => rfl) (fun t => by dsimp only [dats]) (blkOf m c 32) (fun _ _ => rfl) t d
theorem before33 (c : Dev nD) (t : Fin cfg0.N) (d) : (dats m 0 c).before 33 t d = blkOf m c 33 t :=
  before_of m c 33 rfl (fun _ _ _ => rfl) (fun t => by dsimp only [dats]) (blkOf m c 33) (fun _ _ => rfl) t d
theorem before34 (c : Dev nD) (t : Fin cfg0.N) (d) : (dats m 0 c).before 34 t d = blkOf m c 34 t :=
  before_of m c 34 rfl (fun _ _ _ => rfl) (fun t => by dsimp only [dats]) (blkOf m c 34) (fun _ _ => rfl) t d
theorem before35 (c : Dev nD) (t : Fin cfg0.N) (d) : (dats m 0 c).before 35 t d = blkOf m c 35 t :=
  before_of m c 35 rfl (fun _ _ _ => rfl) (fun t => by dsimp only [dats]) (blkOf m c 35) (fun _ _ => rfl) t d
theorem after0 (c : Dev nD) (t : Fin cfg0.N) : (dats m 0 c).after 0 t = blkOf m c 0 t := by dsimp only [dats]
theorem after1 (c : Dev nD) (t : Fin cfg0.N) : (dats m 0 c).after 1 t = blkOf m c 1 t := by dsimp only [dats]
theorem after2 (c : Dev nD) (t : Fin cfg0.N) : (dats m 0 c).after 2 t = blkOf m c 2 t := by dsimp only [dats]
theorem after3 (c : Dev nD) (t : Fin cfg0.N) : (dats m 0 c).after 3 t = blkOf m c 3 t := by dsimp only [dats]
theorem after4 (c : Dev nD) (t : Fin cfg0.N) : (dats m 0 c).after 4 t = blkOf m c 4 t := by dsimp only [dats]
theorem after5 (c : Dev nD) (t : Fin cfg0.N) : (dats m 0 c).after 5 t = blkOf m c 5 t := by dsimp only [dats]
theorem after6 (c : Dev nD) (t : Fin cfg0.N) : (dats m 0 c).after 6 t = blkOf m c 6 t := by dsimp only [dats]
theorem after7 (c : Dev nD) (t : Fin cfg0.N) : (dats m 0 c).after 7 t = blkOf m c 7 t := by dsimp only [dats]
theorem after8 (c : Dev nD) (t : Fin cfg0.N) : (dats m 0 c).after 8 t = blkOf m c 8 t := by dsimp only [dats]
theorem after9 (c : Dev nD) (t : Fin cfg0.N) : (dats m 0 c).after 9 t = blkOf m c 9 t := by dsimp only [dats]
theorem after10 (c : Dev nD) (t : Fin cfg0.N) : (dats m 0 c).after 10 t = blkOf m c 10 t := by dsimp only [dats]
theorem after11 (c : Dev nD) (t : Fin cfg0.N) : (dats m 0 c).after 11 t = blkOf m c 11 t := by dsimp only [dats]
theorem after12 (c : Dev nD) (t : Fin cfg0.N) : (dats m 0 c).after 12 t = blkOf m c 12 t := by dsimp only [dats]
theorem after13 (c : Dev nD) (t : Fin cfg0.N) : (dats m 0 c).after 13 t = blkOf m c 13 t := by dsimp only [dats]
theorem after14 (c : Dev nD) (t : Fin cfg0.N) : (dats m 0 c).after 14 t = blkOf m c 14 t := by dsimp only [dats]
theorem after15 (c : Dev nD) (t : Fin cfg0.N) : (dats m 0 c).after 15 t = blkOf m c 15 t := by dsimp only [dats]
theorem after16 (c : Dev nD) (t : Fin cfg0.N) : (dats m 0 c).after 16 t = blkOf m c 16 t := by dsimp only [dats]
theorem after17 (c : Dev nD) (t : Fin cfg0.N) : (dats m 0 c).after 17 t = blkOf m c 17 t := by dsimp only [dats]
theorem after18 (c : Dev nD) (t : Fin cfg0.N) : (dats m 0 c).after 18 t = blkOf m c 18 t := by dsimp only [dats]
theorem after19 (c : Dev nD) (t : Fin cfg0.N) : (dats m 0 c).after 19 t = blkOf m c 19 t := by dsimp only [dats]
theorem after20 (c : Dev nD) (t : Fin cfg0.N) : (dats m 0 c).after 20 t = blkOf m c 20 t := by dsimp only [dats]
theorem after21 (c : Dev nD) (t : Fin cfg0.N) : (dats m 0 c).after 21 t = blkOf m c 21 t := by dsimp only [dats]
theorem after22 (c : Dev nD) (t : Fin cfg0.N) : (dats m 0 c).after 22 t = blkOf m c 22 t := by dsimp only [dats]
theorem after23 (c : Dev nD) (t : Fin cfg0.N) : (dats m 0 c).after 23 t = blkOf m c 23 t := by dsimp only [dats]
theorem after24 (c : Dev nD) (t : Fin cfg0.N) : (dats m 0 c).after 24 t = blkOf m c 24 t := by dsimp only [dats]
theorem after25 (c : Dev nD) (t : Fin cfg0.N) : (dats m 0 c).after 25 t = blkOf m c 25 t := by dsimp only [dats]
theorem after26 (c : Dev nD) (t : Fin cfg0.N) : (dats m 0 c).after 26 t = blkOf m c 26 t := by dsimp only [dats]
theorem after27 (c : Dev nD) (t : Fin cfg0.N) : (dats m 0 c).after 27 t = blkOf m c 27 t := by dsimp only [dats]
theorem after28 (c : Dev nD) (t : Fin cfg0.N) : (dats m 0 c).after 28 t = blkOf m c 28 t := by dsimp only [dats]
theorem after29 (c : Dev nD) (t : Fin cfg0.N) : (dats m 0 c).after 29 t = blkOf m c 29 t := by dsimp only [dats]
theorem after30 (c : Dev nD) (t : Fin cfg0.N) : (dats m 0 c).after 30 t = blkOf m c 30 t := by dsimp only [dats]
theorem after31 (c : Dev nD) (t : Fin cfg0.N) : (dats m 0 c).after 31 t = blkOf m c 31 t := by dsimp only [dats]
theorem after32 (c : Dev nD) (t : Fin cfg0.N) : (dats m 0 c).after 32 t = blkOf m c 32 t := by dsimp only [dats]
theorem after33 (c : Dev nD) (t : Fin cfg0.N) : (dats m 0 c).after 33 t = blkOf m c 33 t := by dsimp only [dats]
theorem after34 (c : Dev nD) (t : Fin cfg0.N) : (dats m 0 c).after 34 t = blkOf m c 34 t := by dsimp only [dats]
theorem after35 (c : Dev nD) (t : Fin cfg0.N) : (dats m 0 c).after 35 t = blkOf m c 35 t := by dsimp only [dats]
theorem after36 (c : Dev nD) (t : Fin cfg0.N) : (dats m 0 c).after 36 t = step (blkOf m c 0 t) (blkOf m c 1 t) (blkOf m c 2 t) (blkOf m c 3 t) := by dsimp only [dats]
theorem after37 (c : Dev nD) (t : Fin cfg0.N) : (dats m 0 c).after 37 t = first (blkOf m c 1 t) (blkOf m c 2 t) := by dsimp only [dats]
theorem after38 (c : Dev nD) (t : Fin cfg0.N) : (dats m 0 c).after 38 t = second (blkOf m c 1 t) (blkOf m c 3 t) := by dsimp only [dats]
theorem after39 (c : Dev nD) (t : Fin cfg0.N) : (dats m 0 c).after 39 t = step (blkOf m c 4 t) (blkOf m c 5 t) (blkOf m c 6 t) (blkOf m c 7 t) := by dsimp only [dats]
theorem after40 (c : Dev nD) (t : Fin cfg0.N) : (dats m 0 c).after 40 t = first (blkOf m c 5 t) (blkOf m c 6 t) := by dsimp only [dats]
theorem after41 (c : Dev nD) (t : Fin cfg0.N) : (dats m 0 c).after 41 t = second (blkOf m c 5 t) (blkOf m c 7 t) := by dsimp only [dats]
theorem after42 (c : Dev nD) (t : Fin cfg0.N) : (dats m 0 c).after 42 t = step (blkOf m c 8 t) (blkOf m c 9 t) (blkOf m c 10 t) (blkOf m c 11 t) := by dsimp only [dats]
theorem after43 (c : Dev nD) (t : Fin cfg0.N) : (dats m 0 c).after 43 t = first (blkOf m c 9 t) (blkOf m c 10 t) := by dsimp only [dats]
theorem after44 (c : Dev nD) (t : Fin cfg0.N) : (dats m 0 c).after 44 t = second (blkOf m c 9 t) (blkOf m c 11 t) := by dsimp only [dats]
theorem after45 (c : Dev nD) (t : Fin cfg0.N) : (dats m 0 c).after 45 t = step (blkOf m c 12 t) (blkOf m c 13 t) (blkOf m c 14 t) (blkOf m c 15 t) := by dsimp only [dats]
theorem after46 (c : Dev nD) (t : Fin cfg0.N) : (dats m 0 c).after 46 t = first (blkOf m c 13 t) (blkOf m c 14 t) := by dsimp only [dats]
theorem after47 (c : Dev nD) (t : Fin cfg0.N) : (dats m 0 c).after 47 t = second (blkOf m c 13 t) (blkOf m c 15 t) := by dsimp only [dats]
theorem after48 (c : Dev nD) (t : Fin cfg0.N) : (dats m 0 c).after 48 t = step (blkOf m c 16 t) (blkOf m c 17 t) (blkOf m c 18 t) (blkOf m c 19 t) := by dsimp only [dats]
theorem after49 (c : Dev nD) (t : Fin cfg0.N) : (dats m 0 c).after 49 t = first (blkOf m c 17 t) (blkOf m c 18 t) := by dsimp only [dats]
theorem after50 (c : Dev nD) (t : Fin cfg0.N) : (dats m 0 c).after 50 t = second (blkOf m c 17 t) (blkOf m c 19 t) := by dsimp only [dats]
theorem after51 (c : Dev nD) (t : Fin cfg0.N) : (dats m 0 c).after 51 t = step (blkOf m c 20 t) (blkOf m c 21 t) (blkOf m c 22 t) (blkOf m c 23 t) := by dsimp only [dats]
theorem after52 (c : Dev nD) (t : Fin cfg0.N) : (dats m 0 c).after 52 t = first (blkOf m c 21 t) (blkOf m c 22 t) := by dsimp only [dats]
theorem after53 (c : Dev nD) (t : Fin cfg0.N) : (dats m 0 c).after 53 t = second (blkOf m c 21 t) (blkOf m c 23 t) := by dsimp only [dats]
theorem after54 (c : Dev nD) (t : Fin cfg0.N) : (dats m 0 c).after 54 t = step (blkOf m c 24 t) (blkOf m c 25 t) (blkOf m c 26 t) (blkOf m c 27 t) := by dsimp only [dats]
theorem after55 (c : Dev nD) (t : Fin cfg0.N) : (dats m 0 c).after 55 t = first (blkOf m c 25 t) (blkOf m c 26 t) := by dsimp only [dats]
theorem after56 (c : Dev nD) (t : Fin cfg0.N) : (dats m 0 c).after 56 t = second (blkOf m c 25 t) (blkOf m c 27 t) := by dsimp only [dats]
theorem after57 (c : Dev nD) (t : Fin cfg0.N) : (dats m 0 c).after 57 t = step (blkOf m c 28 t) (blkOf m c 29 t) (blkOf m c 30 t) (blkOf m c 31 t) := by dsimp only [dats]
theorem after58 (c : Dev nD) (t : Fin cfg0.N) : (dats m 0 c).after 58 t = first (blkOf m c 29 t) (blkOf m c 30 t) := by dsimp only [dats]
theorem after59 (c : Dev nD) (t : Fin cfg0.N) : (dats m 0 c).after 59 t = second (blkOf m c 29 t) (blkOf m c 31 t) := by dsimp only [dats]
theorem after60 (c : Dev nD) (t : Fin cfg0.N) : (dats m 0 c).after 60 t = step (blkOf m c 32 t) (blkOf m c 33 t) (blkOf m c 34 t) (blkOf m c 35 t) := by dsimp only [dats]
theorem after61 (c : Dev nD) (t : Fin cfg0.N) : (dats m 0 c).after 61 t = first (blkOf m c 33 t) (blkOf m c 34 t) := by dsimp only [dats]
theorem after62 (c : Dev nD) (t : Fin cfg0.N) : (dats m 0 c).after 62 t = second (blkOf m c 33 t) (blkOf m c 35 t) := by dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t))

/-- The body at the point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14,
    before15, before16, before17, before18, before19, before20, before21, before22, before23, before24, before25, before26, before27, before28,
    before29, before30, before31, before32, before33, before34, before35]
  simp only [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16,
    after17, after18, after19, after20, after21, after22, after23, after24, after25, after26, after27, after28, after29, after30, after31, after32,
    after33, after34, after35, after36, after37, after38, after39, after40, after41, after42, after43, after44, after45, after46, after47, after48,
    after49, after50, after51, after52, after53, after54, after55, after56, after57, after58, after59, after60, after61, after62]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩,
    ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩,
    ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩,
    ⟨%d56, H56⟩, ⟨%d57, H57⟩, ⟨%d58, H58⟩, ⟨%d59, H59⟩, ⟨%d60, H60⟩, ⟨%d61, H61⟩, ⟨%d62, H62⟩⟩
  iapply (body_wp c Set.univ
    _ _ _ _ _ _ _ _ _ _ _ _ _ _ (blkOf m c 0 t) (blkOf m c 1 t) (blkOf m c 2 t) (blkOf m c 3 t)
    _ _ _ _ _ _ _ _ _ _ _ _ _ _ (blkOf m c 4 t) (blkOf m c 5 t) (blkOf m c 6 t) (blkOf m c 7 t)
    _ _ _ _ _ _ _ _ _ _ _ _ _ _ (blkOf m c 8 t) (blkOf m c 9 t) (blkOf m c 10 t) (blkOf m c 11 t)
    _ _ _ _ _ _ _ _ _ _ _ _ _ _ (blkOf m c 12 t) (blkOf m c 13 t) (blkOf m c 14 t) (blkOf m c 15 t)
    _ _ _ _ _ _ _ _ _ _ _ _ _ _ (blkOf m c 16 t) (blkOf m c 17 t) (blkOf m c 18 t) (blkOf m c 19 t)
    _ _ _ _ _ _ _ _ _ _ _ _ _ _ (blkOf m c 20 t) (blkOf m c 21 t) (blkOf m c 22 t) (blkOf m c 23 t)
    _ _ _ _ _ _ _ _ _ _ _ _ _ _ (blkOf m c 24 t) (blkOf m c 25 t) (blkOf m c 26 t) (blkOf m c 27 t)
    _ _ _ _ _ _ _ _ _ _ _ _ _ _ (blkOf m c 28 t) (blkOf m c 29 t) (blkOf m c 30 t) (blkOf m c 31 t)
    _ _ _ _ _ _ _ _ _ _ _ _ _ _ (blkOf m c 32 t) (blkOf m c 33 t) (blkOf m c 34 t) (blkOf m c 35 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  iintro ⟨H0, H1, H2, H3, H4, H5, H6, H7, H8, H9, H10, H11, H12, H13, H14, H15, H16, H17, H18, H19, H20, H21, H22, H23, H24, H25, H26, H27, H28, H29, H30,
    H31, H32, H33, H34, H35, H36, H37, H38, H39, H40, H41, H42, H43, H44, H45, H46, H47, H48, H49, H50, H51, H52, H53, H54, H55, H56, H57, H58, H59,
    H60, H61, H62⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  iexact H62

theorem defs₀_row (t : Fin cfg0.N) : defs₀ (F := F) .tc cfg0.body (cfg0.bodyArgs t (cfg0.slots t)) = bodyAt0 t := by
  unfold defs₀; rw [Defs.onTc_tc]

/-- The body at the point, as the pipeline asks for it. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

set_option backward.isDefEq.respectTransparency.types false in
/-- Every run ends, with every array at what the point's results make of it and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- An input's array ends as it was. -/
theorem kept {r : PUnit × MemSt nD τ sig (Elt F)} (h : Pipeline.FramePost cfgs (dats m) 0 (V m) r) (c : Dev nD) (w : Fin cfg0.W)
    (hw : (cfg0.win w).isOut = false) : r.2.mem ((spec0 w).arr.view.loc (c.tc : Thread nD τ)) = V m c (Pipeline.arrRef spec0 w) :=
  ((h c).1 w).trans (((dats m 0 c).arrAt_in w hw _).trans (A_eq m c w))

/-- A window that is its whole array reads the array. -/
theorem blk_apply (c : Dev nD) (w : Fin cfg0.W) (t : Fin cfg0.N) (h0 : ∀ a, (cfg0.win w).index t a = 0)
    (y : ((cfg0.win w).xblock (cfg0.grid.coords t)).Idx) (a) : (((cfg0.win w).rect t).emb y a : ℕ) = y a :=
  Pipeline.Window.rect_emb_val_of_index_zero _ _ _ (h0 a) y

/-! Each input's block is its array. -/
theorem blk0 (c : Dev nD) (t : Fin cfg0.N) : blkOf m c 0 t = V m c main_arg0 :=
  funext fun j => congrArg (V m c main_arg0) (funext fun a => Fin.ext (blk_apply c 0 t (fun _ => rfl) j a))
theorem blk1 (c : Dev nD) (t : Fin cfg0.N) : blkOf m c 1 t = V m c main_arg1 :=
  funext fun j => congrArg (V m c main_arg1) (funext fun a => Fin.ext (blk_apply c 1 t (fun _ => rfl) j a))
theorem blk2 (c : Dev nD) (t : Fin cfg0.N) : blkOf m c 2 t = V m c main_arg2 :=
  funext fun j => congrArg (V m c main_arg2) (funext fun a => Fin.ext (blk_apply c 2 t (fun _ => rfl) j a))
theorem blk3 (c : Dev nD) (t : Fin cfg0.N) : blkOf m c 3 t = V m c main_arg3 :=
  funext fun j => congrArg (V m c main_arg3) (funext fun a => Fin.ext (blk_apply c 3 t (fun _ => rfl) j a))
theorem blk4 (c : Dev nD) (t : Fin cfg0.N) : blkOf m c 4 t = V m c main_arg4 :=
  funext fun j => congrArg (V m c main_arg4) (funext fun a => Fin.ext (blk_apply c 4 t (fun _ => rfl) j a))
theorem blk5 (c : Dev nD) (t : Fin cfg0.N) : blkOf m c 5 t = V m c main_arg5 :=
  funext fun j => congrArg (V m c main_arg5) (funext fun a => Fin.ext (blk_apply c 5 t (fun _ => rfl) j a))
theorem blk6 (c : Dev nD) (t : Fin cfg0.N) : blkOf m c 6 t = V m c main_arg6 :=
  funext fun j => congrArg (V m c main_arg6) (funext fun a => Fin.ext (blk_apply c 6 t (fun _ => rfl) j a))
theorem blk7 (c : Dev nD) (t : Fin cfg0.N) : blkOf m c 7 t = V m c main_arg7 :=
  funext fun j => congrArg (V m c main_arg7) (funext fun a => Fin.ext (blk_apply c 7 t (fun _ => rfl) j a))
theorem blk8 (c : Dev nD) (t : Fin cfg0.N) : blkOf m c 8 t = V m c main_arg8 :=
  funext fun j => congrArg (V m c main_arg8) (funext fun a => Fin.ext (blk_apply c 8 t (fun _ => rfl) j a))
theorem blk9 (c : Dev nD) (t : Fin cfg0.N) : blkOf m c 9 t = V m c main_arg9 :=
  funext fun j => congrArg (V m c main_arg9) (funext fun a => Fin.ext (blk_apply c 9 t (fun _ => rfl) j a))
theorem blk10 (c : Dev nD) (t : Fin cfg0.N) : blkOf m c 10 t = V m c main_arg10 :=
  funext fun j => congrArg (V m c main_arg10) (funext fun a => Fin.ext (blk_apply c 10 t (fun _ => rfl) j a))
theorem blk11 (c : Dev nD) (t : Fin cfg0.N) : blkOf m c 11 t = V m c main_arg11 :=
  funext fun j => congrArg (V m c main_arg11) (funext fun a => Fin.ext (blk_apply c 11 t (fun _ => rfl) j a))
theorem blk12 (c : Dev nD) (t : Fin cfg0.N) : blkOf m c 12 t = V m c main_arg12 :=
  funext fun j => congrArg (V m c main_arg12) (funext fun a => Fin.ext (blk_apply c 12 t (fun _ => rfl) j a))
theorem blk13 (c : Dev nD) (t : Fin cfg0.N) : blkOf m c 13 t = V m c main_arg13 :=
  funext fun j => congrArg (V m c main_arg13) (funext fun a => Fin.ext (blk_apply c 13 t (fun _ => rfl) j a))
theorem blk14 (c : Dev nD) (t : Fin cfg0.N) : blkOf m c 14 t = V m c main_arg14 :=
  funext fun j => congrArg (V m c main_arg14) (funext fun a => Fin.ext (blk_apply c 14 t (fun _ => rfl) j a))
theorem blk15 (c : Dev nD) (t : Fin cfg0.N) : blkOf m c 15 t = V m c main_arg15 :=
  funext fun j => congrArg (V m c main_arg15) (funext fun a => Fin.ext (blk_apply c 15 t (fun _ => rfl) j a))
theorem blk16 (c : Dev nD) (t : Fin cfg0.N) : blkOf m c 16 t = V m c main_arg16 :=
  funext fun j => congrArg (V m c main_arg16) (funext fun a => Fin.ext (blk_apply c 16 t (fun _ => rfl) j a))
theorem blk17 (c : Dev nD) (t : Fin cfg0.N) : blkOf m c 17 t = V m c main_arg17 :=
  funext fun j => congrArg (V m c main_arg17) (funext fun a => Fin.ext (blk_apply c 17 t (fun _ => rfl) j a))
theorem blk18 (c : Dev nD) (t : Fin cfg0.N) : blkOf m c 18 t = V m c main_arg18 :=
  funext fun j => congrArg (V m c main_arg18) (funext fun a => Fin.ext (blk_apply c 18 t (fun _ => rfl) j a))
theorem blk19 (c : Dev nD) (t : Fin cfg0.N) : blkOf m c 19 t = V m c main_arg19 :=
  funext fun j => congrArg (V m c main_arg19) (funext fun a => Fin.ext (blk_apply c 19 t (fun _ => rfl) j a))
theorem blk20 (c : Dev nD) (t : Fin cfg0.N) : blkOf m c 20 t = V m c main_arg20 :=
  funext fun j => congrArg (V m c main_arg20) (funext fun a => Fin.ext (blk_apply c 20 t (fun _ => rfl) j a))
theorem blk21 (c : Dev nD) (t : Fin cfg0.N) : blkOf m c 21 t = V m c main_arg21 :=
  funext fun j => congrArg (V m c main_arg21) (funext fun a => Fin.ext (blk_apply c 21 t (fun _ => rfl) j a))
theorem blk22 (c : Dev nD) (t : Fin cfg0.N) : blkOf m c 22 t = V m c main_arg22 :=
  funext fun j => congrArg (V m c main_arg22) (funext fun a => Fin.ext (blk_apply c 22 t (fun _ => rfl) j a))
theorem blk23 (c : Dev nD) (t : Fin cfg0.N) : blkOf m c 23 t = V m c main_arg23 :=
  funext fun j => congrArg (V m c main_arg23) (funext fun a => Fin.ext (blk_apply c 23 t (fun _ => rfl) j a))
theorem blk24 (c : Dev nD) (t : Fin cfg0.N) : blkOf m c 24 t = V m c main_arg24 :=
  funext fun j => congrArg (V m c main_arg24) (funext fun a => Fin.ext (blk_apply c 24 t (fun _ => rfl) j a))
theorem blk25 (c : Dev nD) (t : Fin cfg0.N) : blkOf m c 25 t = V m c main_arg25 :=
  funext fun j => congrArg (V m c main_arg25) (funext fun a => Fin.ext (blk_apply c 25 t (fun _ => rfl) j a))
theorem blk26 (c : Dev nD) (t : Fin cfg0.N) : blkOf m c 26 t = V m c main_arg26 :=
  funext fun j => congrArg (V m c main_arg26) (funext fun a => Fin.ext (blk_apply c 26 t (fun _ => rfl) j a))
theorem blk27 (c : Dev nD) (t : Fin cfg0.N) : blkOf m c 27 t = V m c main_arg27 :=
  funext fun j => congrArg (V m c main_arg27) (funext fun a => Fin.ext (blk_apply c 27 t (fun _ => rfl) j a))
theorem blk28 (c : Dev nD) (t : Fin cfg0.N) : blkOf m c 28 t = V m c main_arg28 :=
  funext fun j => congrArg (V m c main_arg28) (funext fun a => Fin.ext (blk_apply c 28 t (fun _ => rfl) j a))
theorem blk29 (c : Dev nD) (t : Fin cfg0.N) : blkOf m c 29 t = V m c main_arg29 :=
  funext fun j => congrArg (V m c main_arg29) (funext fun a => Fin.ext (blk_apply c 29 t (fun _ => rfl) j a))
theorem blk30 (c : Dev nD) (t : Fin cfg0.N) : blkOf m c 30 t = V m c main_arg30 :=
  funext fun j => congrArg (V m c main_arg30) (funext fun a => Fin.ext (blk_apply c 30 t (fun _ => rfl) j a))
theorem blk31 (c : Dev nD) (t : Fin cfg0.N) : blkOf m c 31 t = V m c main_arg31 :=
  funext fun j => congrArg (V m c main_arg31) (funext fun a => Fin.ext (blk_apply c 31 t (fun _ => rfl) j a))
theorem blk32 (c : Dev nD) (t : Fin cfg0.N) : blkOf m c 32 t = V m c main_arg32 :=
  funext fun j => congrArg (V m c main_arg32) (funext fun a => Fin.ext (blk_apply c 32 t (fun _ => rfl) j a))
theorem blk33 (c : Dev nD) (t : Fin cfg0.N) : blkOf m c 33 t = V m c main_arg33 :=
  funext fun j => congrArg (V m c main_arg33) (funext fun a => Fin.ext (blk_apply c 33 t (fun _ => rfl) j a))
theorem blk34 (c : Dev nD) (t : Fin cfg0.N) : blkOf m c 34 t = V m c main_arg34 :=
  funext fun j => congrArg (V m c main_arg34) (funext fun a => Fin.ext (blk_apply c 34 t (fun _ => rfl) j a))
theorem blk35 (c : Dev nD) (t : Fin cfg0.N) : blkOf m c 35 t = V m c main_arg35 :=
  funext fun j => congrArg (V m c main_arg35) (funext fun a => Fin.ext (blk_apply c 35 t (fun _ => rfl) j a))

/-! Each result's array after the call. -/
theorem arr36 (c : Dev nD) : (dats m 0 c).arrAt 36 cfg0.N = step (V m c main_arg0) (V m c main_arg1) (V m c main_arg2) (V m c main_arg3) := by
  refine (dats m 0 c).arrAt_eq_of_after_last 36 ⟨0, by decide⟩ (by decide +kernel) _ fun j => ?_
  rw [after36, blk0, blk1, blk2, blk3]; rfl
theorem arr37 (c : Dev nD) : (dats m 0 c).arrAt 37 cfg0.N = first (V m c main_arg1) (V m c main_arg2) := by
  refine (dats m 0 c).arrAt_eq_of_after_last 37 ⟨0, by decide⟩ (by decide +kernel) _ fun j => ?_
  rw [after37, blk1, blk2]; rfl
theorem arr38 (c : Dev nD) : (dats m 0 c).arrAt 38 cfg0.N = second (V m c main_arg1) (V m c main_arg3) := by
  refine (dats m 0 c).arrAt_eq_of_after_last 38 ⟨0, by decide⟩ (by decide +kernel) _ fun j => ?_
  rw [after38, blk1, blk3]; rfl
theorem arr39 (c : Dev nD) : (dats m 0 c).arrAt 39 cfg0.N = step (V m c main_arg4) (V m c main_arg5) (V m c main_arg6) (V m c main_arg7) := by
  refine (dats m 0 c).arrAt_eq_of_after_last 39 ⟨0, by decide⟩ (by decide +kernel) _ fun j => ?_
  rw [after39, blk4, blk5, blk6, blk7]; rfl
theorem arr40 (c : Dev nD) : (dats m 0 c).arrAt 40 cfg0.N = first (V m c main_arg5) (V m c main_arg6) := by
  refine (dats m 0 c).arrAt_eq_of_after_last 40 ⟨0, by decide⟩ (by decide +kernel) _ fun j => ?_
  rw [after40, blk5, blk6]; rfl
theorem arr41 (c : Dev nD) : (dats m 0 c).arrAt 41 cfg0.N = second (V m c main_arg5) (V m c main_arg7) := by
  refine (dats m 0 c).arrAt_eq_of_after_last 41 ⟨0, by decide⟩ (by decide +kernel) _ fun j => ?_
  rw [after41, blk5, blk7]; rfl
theorem arr42 (c : Dev nD) : (dats m 0 c).arrAt 42 cfg0.N = step (V m c main_arg8) (V m c main_arg9) (V m c main_arg10) (V m c main_arg11) := by
  refine (dats m 0 c).arrAt_eq_of_after_last 42 ⟨0, by decide⟩ (by decide +kernel) _ fun j => ?_
  rw [after42, blk8, blk9, blk10, blk11]; rfl
theorem arr43 (c : Dev nD) : (dats m 0 c).arrAt 43 cfg0.N = first (V m c main_arg9) (V m c main_arg10) := by
  refine (dats m 0 c).arrAt_eq_of_after_last 43 ⟨0, by decide⟩ (by decide +kernel) _ fun j => ?_
  rw [after43, blk9, blk10]; rfl
theorem arr44 (c : Dev nD) : (dats m 0 c).arrAt 44 cfg0.N = second (V m c main_arg9) (V m c main_arg11) := by
  refine (dats m 0 c).arrAt_eq_of_after_last 44 ⟨0, by decide⟩ (by decide +kernel) _ fun j => ?_
  rw [after44, blk9, blk11]; rfl
theorem arr45 (c : Dev nD) : (dats m 0 c).arrAt 45 cfg0.N = step (V m c main_arg12) (V m c main_arg13) (V m c main_arg14) (V m c main_arg15) := by
  refine (dats m 0 c).arrAt_eq_of_after_last 45 ⟨0, by decide⟩ (by decide +kernel) _ fun j => ?_
  rw [after45, blk12, blk13, blk14, blk15]; rfl
theorem arr46 (c : Dev nD) : (dats m 0 c).arrAt 46 cfg0.N = first (V m c main_arg13) (V m c main_arg14) := by
  refine (dats m 0 c).arrAt_eq_of_after_last 46 ⟨0, by decide⟩ (by decide +kernel) _ fun j => ?_
  rw [after46, blk13, blk14]; rfl
theorem arr47 (c : Dev nD) : (dats m 0 c).arrAt 47 cfg0.N = second (V m c main_arg13) (V m c main_arg15) := by
  refine (dats m 0 c).arrAt_eq_of_after_last 47 ⟨0, by decide⟩ (by decide +kernel) _ fun j => ?_
  rw [after47, blk13, blk15]; rfl
theorem arr48 (c : Dev nD) : (dats m 0 c).arrAt 48 cfg0.N = step (V m c main_arg16) (V m c main_arg17) (V m c main_arg18) (V m c main_arg19) := by
  refine (dats m 0 c).arrAt_eq_of_after_last 48 ⟨0, by decide⟩ (by decide +kernel) _ fun j => ?_
  rw [after48, blk16, blk17, blk18, blk19]; rfl
theorem arr49 (c : Dev nD) : (dats m 0 c).arrAt 49 cfg0.N = first (V m c main_arg17) (V m c main_arg18) := by
  refine (dats m 0 c).arrAt_eq_of_after_last 49 ⟨0, by decide⟩ (by decide +kernel) _ fun j => ?_
  rw [after49, blk17, blk18]; rfl
theorem arr50 (c : Dev nD) : (dats m 0 c).arrAt 50 cfg0.N = second (V m c main_arg17) (V m c main_arg19) := by
  refine (dats m 0 c).arrAt_eq_of_after_last 50 ⟨0, by decide⟩ (by decide +kernel) _ fun j => ?_
  rw [after50, blk17, blk19]; rfl
theorem arr51 (c : Dev nD) : (dats m 0 c).arrAt 51 cfg0.N = step (V m c main_arg20) (V m c main_arg21) (V m c main_arg22) (V m c main_arg23) := by
  refine (dats m 0 c).arrAt_eq_of_after_last 51 ⟨0, by decide⟩ (by decide +kernel) _ fun j => ?_
  rw [after51, blk20, blk21, blk22, blk23]; rfl
theorem arr52 (c : Dev nD) : (dats m 0 c).arrAt 52 cfg0.N = first (V m c main_arg21) (V m c main_arg22) := by
  refine (dats m 0 c).arrAt_eq_of_after_last 52 ⟨0, by decide⟩ (by decide +kernel) _ fun j => ?_
  rw [after52, blk21, blk22]; rfl
theorem arr53 (c : Dev nD) : (dats m 0 c).arrAt 53 cfg0.N = second (V m c main_arg21) (V m c main_arg23) := by
  refine (dats m 0 c).arrAt_eq_of_after_last 53 ⟨0, by decide⟩ (by decide +kernel) _ fun j => ?_
  rw [after53, blk21, blk23]; rfl
theorem arr54 (c : Dev nD) : (dats m 0 c).arrAt 54 cfg0.N = step (V m c main_arg24) (V m c main_arg25) (V m c main_arg26) (V m c main_arg27) := by
  refine (dats m 0 c).arrAt_eq_of_after_last 54 ⟨0, by decide⟩ (by decide +kernel) _ fun j => ?_
  rw [after54, blk24, blk25, blk26, blk27]; rfl
theorem arr55 (c : Dev nD) : (dats m 0 c).arrAt 55 cfg0.N = first (V m c main_arg25) (V m c main_arg26) := by
  refine (dats m 0 c).arrAt_eq_of_after_last 55 ⟨0, by decide⟩ (by decide +kernel) _ fun j => ?_
  rw [after55, blk25, blk26]; rfl
theorem arr56 (c : Dev nD) : (dats m 0 c).arrAt 56 cfg0.N = second (V m c main_arg25) (V m c main_arg27) := by
  refine (dats m 0 c).arrAt_eq_of_after_last 56 ⟨0, by decide⟩ (by decide +kernel) _ fun j => ?_
  rw [after56, blk25, blk27]; rfl
theorem arr57 (c : Dev nD) : (dats m 0 c).arrAt 57 cfg0.N = step (V m c main_arg28) (V m c main_arg29) (V m c main_arg30) (V m c main_arg31) := by
  refine (dats m 0 c).arrAt_eq_of_after_last 57 ⟨0, by decide⟩ (by decide +kernel) _ fun j => ?_
  rw [after57, blk28, blk29, blk30, blk31]; rfl
theorem arr58 (c : Dev nD) : (dats m 0 c).arrAt 58 cfg0.N = first (V m c main_arg29) (V m c main_arg30) := by
  refine (dats m 0 c).arrAt_eq_of_after_last 58 ⟨0, by decide⟩ (by decide +kernel) _ fun j => ?_
  rw [after58, blk29, blk30]; rfl
theorem arr59 (c : Dev nD) : (dats m 0 c).arrAt 59 cfg0.N = second (V m c main_arg29) (V m c main_arg31) := by
  refine (dats m 0 c).arrAt_eq_of_after_last 59 ⟨0, by decide⟩ (by decide +kernel) _ fun j => ?_
  rw [after59, blk29, blk31]; rfl
theorem arr60 (c : Dev nD) : (dats m 0 c).arrAt 60 cfg0.N = step (V m c main_arg32) (V m c main_arg33) (V m c main_arg34) (V m c main_arg35) := by
  refine (dats m 0 c).arrAt_eq_of_after_last 60 ⟨0, by decide⟩ (by decide +kernel) _ fun j => ?_
  rw [after60, blk32, blk33, blk34, blk35]; rfl
theorem arr61 (c : Dev nD) : (dats m 0 c).arrAt 61 cfg0.N = first (V m c main_arg33) (V m c main_arg34) := by
  refine (dats m 0 c).arrAt_eq_of_after_last 61 ⟨0, by decide⟩ (by decide +kernel) _ fun j => ?_
  rw [after61, blk33, blk34]; rfl
theorem arr62 (c : Dev nD) : (dats m 0 c).arrAt 62 cfg0.N = second (V m c main_arg33) (V m c main_arg35) := by
  refine (dats m 0 c).arrAt_eq_of_after_last 62 ⟨0, by decide⟩ (by decide +kernel) _ fun j => ?_
  rw [after62, blk33, blk35]; rfl

end Cert.AdamSmallKernelIdeal.Small

end
-- ==== Proof.AdamSmall.lean ====
/- The optimiser's call on the nine small weights. For each it writes the step, the new first moment and the new second
   moment, entry by entry the formulas of the reference. -/
module

public import proofs.«01_k».proof.Defs
public import proofs.«01_k».proof.Proof.AdamSmallRun
public import proofs.«01_k».proof.Proof.AdamSmallIdealRun
public import proofs.«01_k».proof.Proof.Gen.AdamSmallReferenceIdeal.Run
public import Idealize.ShloMosaic.Adequacy
public import Idealize.ShloMosaic.Init

@[expose] public section

set_option maxHeartbeats 2000000

noncomputable section

open Idealize.ShloMosaic Idealize.ShloMosaic.TcCoe Idealize.SL.Sem

open Cert.AdamSmall

namespace Cert.Proof

/-- An output's array ends as its window wrote it. -/
theorem ended {m} {r : PUnit × MemSt Cert.AdamSmallKernelIdeal.nD Cert.AdamSmallKernelIdeal.τ Cert.AdamSmallKernelIdeal.sig (Elt Ideal)}
    (h : Pipeline.FramePost Cert.AdamSmallKernelIdeal.cfgs (Cert.AdamSmallKernelIdeal.Small.dats m) 0 (Cert.AdamSmallKernelIdeal.Small.V m) r)
    (c : Dev Cert.AdamSmallKernelIdeal.nD) (w : Fin Cert.AdamSmallKernelIdeal.cfg0.W) {x} (hx : (Cert.AdamSmallKernelIdeal.Small.dats m 0 c).arrAt w Cert.AdamSmallKernelIdeal.cfg0.N = x) :
    r.2.mem ((Cert.AdamSmallKernelIdeal.spec0 w).arr.view.loc (c.tc : Thread Cert.AdamSmallKernelIdeal.nD Cert.AdamSmallKernelIdeal.τ)) = x :=
  ((h c).1 w).trans hx

section

variable {S : Shape} (hb : Cert.AdamSmallReferenceIdeal.S_.BroadcastsInDim S (![] : Fin 0 → Fin S.rank))

/-- A constant spread by the host. -/
abbrev spread (b : BitVec 32) : FVec Ideal S .f32 := broadcastInDim S ![] hb (constant Cert.AdamSmallReferenceIdeal.S_ .f32 b)

/-- The reference's new first moment. -/
theorem host_first (g m : FVec Ideal S .f32) :
    addf (mulf (spread hb 0x3F666666#32) m) (mulf (spread hb 0x3DCCCCCD#32) g) = first g m := funext fun _ => rfl
/-- Its new second moment. -/
theorem host_second (g v : FVec Ideal S .f32) :
    addf (mulf (spread hb 0x3F7FBE77#32) v) (mulf (spread hb 0x3A83126F#32) (mulf g g)) = second g v := funext fun _ => rfl
/-- Its step. -/
theorem host_step (w g m v : FVec Ideal S .f32) :
    mulf (spread hb 0xBA83126F#32)
      (addf (Host.divf (Host.divf (addf (mulf (spread hb 0x3F666666#32) m) (mulf (spread hb 0x3DCCCCCD#32) g)) (spread hb 0x3F26BD02#32))
          (addf (Host.sqrt (Host.divf (addf (mulf (spread hb 0x3F7FBE77#32) v) (mulf (spread hb 0x3A83126F#32) (mulf g g))) (spread hb 0x3C231ACC#32)))
            (spread hb 0x322BCC77#32)))
        (mulf (spread hb 0x3C23D70A#32) w)) = step w g m v := funext fun _ => rfl

theorem first_eq {g m g' m' : FVec Ideal S .f32} (hg : g = g') (hm : m = m') : first g m = first g' m' := by rw [hg, hm]
theorem second_eq {g v g' v' : FVec Ideal S .f32} (hg : g = g') (hv : v = v') : second g v = second g' v' := by rw [hg, hv]
theorem step_eq {w g m v w' g' m' v' : FVec Ideal S .f32} (hw : w = w') (hg : g = g') (hm : m = m') (hv : v = v') :
    step w g m v = step w' g' m' v' := by rw [hw, hg, hm, hv]

end

theorem both {a b c d : Prop} (h : a ∧ b) (f : a → c) (g : b → d) : c ∧ d := ⟨f h.1, g h.2⟩

/-- The compiled call ends with its inputs as they were and every counter at zero. -/
theorem frame_adam_small : Cert.quiescent_AdamSmallKernel (hAdamSmallKernel := Cert.AdamSmallKernel.Gen.facts) := fun m ρ _ =>
  (θ_run _ _ _).mono (fun r h => ⟨fun c => ⟨Cert.AdamSmallKernel.Small.kept h.1 c 0 rfl, Cert.AdamSmallKernel.Small.kept h.1 c 1 rfl, Cert.AdamSmallKernel.Small.kept h.1 c 2 rfl,
    Cert.AdamSmallKernel.Small.kept h.1 c 3 rfl, Cert.AdamSmallKernel.Small.kept h.1 c 4 rfl, Cert.AdamSmallKernel.Small.kept h.1 c 5 rfl,
    Cert.AdamSmallKernel.Small.kept h.1 c 6 rfl, Cert.AdamSmallKernel.Small.kept h.1 c 7 rfl, Cert.AdamSmallKernel.Small.kept h.1 c 8 rfl,
    Cert.AdamSmallKernel.Small.kept h.1 c 9 rfl, Cert.AdamSmallKernel.Small.kept h.1 c 10 rfl, Cert.AdamSmallKernel.Small.kept h.1 c 11 rfl,
    Cert.AdamSmallKernel.Small.kept h.1 c 12 rfl, Cert.AdamSmallKernel.Small.kept h.1 c 13 rfl, Cert.AdamSmallKernel.Small.kept h.1 c 14 rfl,
    Cert.AdamSmallKernel.Small.kept h.1 c 15 rfl, Cert.AdamSmallKernel.Small.kept h.1 c 16 rfl, Cert.AdamSmallKernel.Small.kept h.1 c 17 rfl,
    Cert.AdamSmallKernel.Small.kept h.1 c 18 rfl, Cert.AdamSmallKernel.Small.kept h.1 c 19 rfl, Cert.AdamSmallKernel.Small.kept h.1 c 20 rfl,
    Cert.AdamSmallKernel.Small.kept h.1 c 21 rfl, Cert.AdamSmallKernel.Small.kept h.1 c 22 rfl, Cert.AdamSmallKernel.Small.kept h.1 c 23 rfl,
    Cert.AdamSmallKernel.Small.kept h.1 c 24 rfl, Cert.AdamSmallKernel.Small.kept h.1 c 25 rfl, Cert.AdamSmallKernel.Small.kept h.1 c 26 rfl,
    Cert.AdamSmallKernel.Small.kept h.1 c 27 rfl, Cert.AdamSmallKernel.Small.kept h.1 c 28 rfl, Cert.AdamSmallKernel.Small.kept h.1 c 29 rfl,
    Cert.AdamSmallKernel.Small.kept h.1 c 30 rfl, Cert.AdamSmallKernel.Small.kept h.1 c 31 rfl, Cert.AdamSmallKernel.Small.kept h.1 c 32 rfl,
    Cert.AdamSmallKernel.Small.kept h.1 c 33 rfl, Cert.AdamSmallKernel.Small.kept h.1 c 34 rfl, Cert.AdamSmallKernel.Small.kept h.1 c 35 rfl⟩, h.2⟩)
    (Cert.AdamSmallKernel.Small.run m ρ)

/-- So does the call over the ideal values. -/
theorem frame_adam_small_ideal : Cert.quiescent_AdamSmallKernelIdeal (hAdamSmallKernelIdeal := Cert.AdamSmallKernelIdeal.Gen.facts) := fun m ρ _ =>
  (θ_run _ _ _).mono (fun r h => ⟨fun c => ⟨Cert.AdamSmallKernelIdeal.Small.kept h.1 c 0 rfl, Cert.AdamSmallKernelIdeal.Small.kept h.1 c 1 rfl,
    Cert.AdamSmallKernelIdeal.Small.kept h.1 c 2 rfl, Cert.AdamSmallKernelIdeal.Small.kept h.1 c 3 rfl,
    Cert.AdamSmallKernelIdeal.Small.kept h.1 c 4 rfl, Cert.AdamSmallKernelIdeal.Small.kept h.1 c 5 rfl,
    Cert.AdamSmallKernelIdeal.Small.kept h.1 c 6 rfl, Cert.AdamSmallKernelIdeal.Small.kept h.1 c 7 rfl,
    Cert.AdamSmallKernelIdeal.Small.kept h.1 c 8 rfl, Cert.AdamSmallKernelIdeal.Small.kept h.1 c 9 rfl,
    Cert.AdamSmallKernelIdeal.Small.kept h.1 c 10 rfl, Cert.AdamSmallKernelIdeal.Small.kept h.1 c 11 rfl,
    Cert.AdamSmallKernelIdeal.Small.kept h.1 c 12 rfl, Cert.AdamSmallKernelIdeal.Small.kept h.1 c 13 rfl,
    Cert.AdamSmallKernelIdeal.Small.kept h.1 c 14 rfl, Cert.AdamSmallKernelIdeal.Small.kept h.1 c 15 rfl,
    Cert.AdamSmallKernelIdeal.Small.kept h.1 c 16 rfl, Cert.AdamSmallKernelIdeal.Small.kept h.1 c 17 rfl,
    Cert.AdamSmallKernelIdeal.Small.kept h.1 c 18 rfl, Cert.AdamSmallKernelIdeal.Small.kept h.1 c 19 rfl,
    Cert.AdamSmallKernelIdeal.Small.kept h.1 c 20 rfl, Cert.AdamSmallKernelIdeal.Small.kept h.1 c 21 rfl,
    Cert.AdamSmallKernelIdeal.Small.kept h.1 c 22 rfl, Cert.AdamSmallKernelIdeal.Small.kept h.1 c 23 rfl,
    Cert.AdamSmallKernelIdeal.Small.kept h.1 c 24 rfl, Cert.AdamSmallKernelIdeal.Small.kept h.1 c 25 rfl,
    Cert.AdamSmallKernelIdeal.Small.kept h.1 c 26 rfl, Cert.AdamSmallKernelIdeal.Small.kept h.1 c 27 rfl,
    Cert.AdamSmallKernelIdeal.Small.kept h.1 c 28 rfl, Cert.AdamSmallKernelIdeal.Small.kept h.1 c 29 rfl,
    Cert.AdamSmallKernelIdeal.Small.kept h.1 c 30 rfl, Cert.AdamSmallKernelIdeal.Small.kept h.1 c 31 rfl,
    Cert.AdamSmallKernelIdeal.Small.kept h.1 c 32 rfl, Cert.AdamSmallKernelIdeal.Small.kept h.1 c 33 rfl,
    Cert.AdamSmallKernelIdeal.Small.kept h.1 c 34 rfl, Cert.AdamSmallKernelIdeal.Small.kept h.1 c 35 rfl⟩, h.2⟩)
    (Cert.AdamSmallKernelIdeal.Small.run m ρ)

section

open Cert.AdamSmallKernelIdeal Cert.AdamSmallKernelIdeal.Small

/-- What the kernel's run leaves: each weight's step and new moments, and the arguments as they were. -/
theorem kernel_ends {m} {r : PUnit × MemSt nD τ sig (Elt Ideal)} (h : Pipeline.FramePost cfgs (dats m) 0 (V m) r) (c : Dev nD) :
    r.2.mem ((c.tc : Thread nD τ).loc main_v0_0) = step (F := Ideal) (S := S1x1024) (V m c main_arg0) (V m c main_arg1) (V m c main_arg2) (V m c main_arg3) ∧
    r.2.mem ((c.tc : Thread nD τ).loc main_v0_1) = first (F := Ideal) (S := S1x1024) (V m c main_arg1) (V m c main_arg2) ∧
    r.2.mem ((c.tc : Thread nD τ).loc main_v0_2) = second (F := Ideal) (S := S1x1024) (V m c main_arg1) (V m c main_arg3) ∧
    r.2.mem ((c.tc : Thread nD τ).loc main_v0_3) = step (F := Ideal) (S := S1x3072) (V m c main_arg4) (V m c main_arg5) (V m c main_arg6) (V m c main_arg7) ∧
    r.2.mem ((c.tc : Thread nD τ).loc main_v0_4) = first (F := Ideal) (S := S1x3072) (V m c main_arg5) (V m c main_arg6) ∧
    r.2.mem ((c.tc : Thread nD τ).loc main_v0_5) = second (F := Ideal) (S := S1x3072) (V m c main_arg5) (V m c main_arg7) ∧
    r.2.mem ((c.tc : Thread nD τ).loc main_v0_6) = step (F := Ideal) (S := S1x1024) (V m c main_arg8) (V m c main_arg9) (V m c main_arg10) (V m c main_arg11) ∧
    r.2.mem ((c.tc : Thread nD τ).loc main_v0_7) = first (F := Ideal) (S := S1x1024) (V m c main_arg9) (V m c main_arg10) ∧
    r.2.mem ((c.tc : Thread nD τ).loc main_v0_8) = second (F := Ideal) (S := S1x1024) (V m c main_arg9) (V m c main_arg11) ∧
    r.2.mem ((c.tc : Thread nD τ).loc main_v0_9) = step (F := Ideal) (S := S1x512) (V m c main_arg12) (V m c main_arg13) (V m c main_arg14) (V m c main_arg15) ∧
    r.2.mem ((c.tc : Thread nD τ).loc main_v0_10) = first (F := Ideal) (S := S1x512) (V m c main_arg13) (V m c main_arg14) ∧
    r.2.mem ((c.tc : Thread nD τ).loc main_v0_11) = second (F := Ideal) (S := S1x512) (V m c main_arg13) (V m c main_arg15) ∧
    r.2.mem ((c.tc : Thread nD τ).loc main_v0_12) = step (F := Ideal) (S := S512x128) (V m c main_arg16) (V m c main_arg17) (V m c main_arg18) (V m c main_arg19) ∧
    r.2.mem ((c.tc : Thread nD τ).loc main_v0_13) = first (F := Ideal) (S := S512x128) (V m c main_arg17) (V m c main_arg18) ∧
    r.2.mem ((c.tc : Thread nD τ).loc main_v0_14) = second (F := Ideal) (S := S512x128) (V m c main_arg17) (V m c main_arg19) ∧
    r.2.mem ((c.tc : Thread nD τ).loc main_v0_15) = step (F := Ideal) (S := S4x128) (V m c main_arg20) (V m c main_arg21) (V m c main_arg22) (V m c main_arg23) ∧
    r.2.mem ((c.tc : Thread nD τ).loc main_v0_16) = first (F := Ideal) (S := S4x128) (V m c main_arg21) (V m c main_arg22) ∧
    r.2.mem ((c.tc : Thread nD τ).loc main_v0_17) = second (F := Ideal) (S := S4x128) (V m c main_arg21) (V m c main_arg23) ∧
    r.2.mem ((c.tc : Thread nD τ).loc main_v0_18) = step (F := Ideal) (S := S1x64) (V m c main_arg24) (V m c main_arg25) (V m c main_arg26) (V m c main_arg27) ∧
    r.2.mem ((c.tc : Thread nD τ).loc main_v0_19) = first (F := Ideal) (S := S1x64) (V m c main_arg25) (V m c main_arg26) ∧
    r.2.mem ((c.tc : Thread nD τ).loc main_v0_20) = second (F := Ideal) (S := S1x64) (V m c main_arg25) (V m c main_arg27) ∧
    r.2.mem ((c.tc : Thread nD τ).loc main_v0_21) = step (F := Ideal) (S := S1x64) (V m c main_arg28) (V m c main_arg29) (V m c main_arg30) (V m c main_arg31) ∧
    r.2.mem ((c.tc : Thread nD τ).loc main_v0_22) = first (F := Ideal) (S := S1x64) (V m c main_arg29) (V m c main_arg30) ∧
    r.2.mem ((c.tc : Thread nD τ).loc main_v0_23) = second (F := Ideal) (S := S1x64) (V m c main_arg29) (V m c main_arg31) ∧
    r.2.mem ((c.tc : Thread nD τ).loc main_v0_24) = step (F := Ideal) (S := S120x31) (V m c main_arg32) (V m c main_arg33) (V m c main_arg34) (V m c main_arg35) ∧
    r.2.mem ((c.tc : Thread nD τ).loc main_v0_25) = first (F := Ideal) (S := S120x31) (V m c main_arg33) (V m c main_arg34) ∧
    r.2.mem ((c.tc : Thread nD τ).loc main_v0_26) = second (F := Ideal) (S := S120x31) (V m c main_arg33) (V m c main_arg35) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11) ∧
    r.2.mem ((c.tc : Thread nD τ).loc main_arg12) = m ((c.tc : Thread nD τ).loc main_arg12) ∧
    r.2.mem ((c.tc : Thread nD τ).loc main_arg13) = m ((c.tc : Thread nD τ).loc main_arg13) ∧
    r.2.mem ((c.tc : Thread nD τ).loc main_arg14) = m ((c.tc : Thread nD τ).loc main_arg14) ∧
    r.2.mem ((c.tc : Thread nD τ).loc main_arg15) = m ((c.tc : Thread nD τ).loc main_arg15) ∧
    r.2.mem ((c.tc : Thread nD τ).loc main_arg16) = m ((c.tc : Thread nD τ).loc main_arg16) ∧
    r.2.mem ((c.tc : Thread nD τ).loc main_arg17) = m ((c.tc : Thread nD τ).loc main_arg17) ∧
    r.2.mem ((c.tc : Thread nD τ).loc main_arg18) = m ((c.tc : Thread nD τ).loc main_arg18) ∧
    r.2.mem ((c.tc : Thread nD τ).loc main_arg19) = m ((c.tc : Thread nD τ).loc main_arg19) ∧
    r.2.mem ((c.tc : Thread nD τ).loc main_arg20) = m ((c.tc : Thread nD τ).loc main_arg20) ∧
    r.2.mem ((c.tc : Thread nD τ).loc main_arg21) = m ((c.tc : Thread nD τ).loc main_arg21) ∧
    r.2.mem ((c.tc : Thread nD τ).loc main_arg22) = m ((c.tc : Thread nD τ).loc main_arg22) ∧
    r.2.mem ((c.tc : Thread nD τ).loc main_arg23) = m ((c.tc : Thread nD τ).loc main_arg23) ∧
    r.2.mem ((c.tc : Thread nD τ).loc main_arg24) = m ((c.tc : Thread nD τ).loc main_arg24) ∧
    r.2.mem ((c.tc : Thread nD τ).loc main_arg25) = m ((c.tc : Thread nD τ).loc main_arg25) ∧
    r.2.mem ((c.tc : Thread nD τ).loc main_arg26) = m ((c.tc : Thread nD τ).loc main_arg26) ∧
    r.2.mem ((c.tc : Thread nD τ).loc main_arg27) = m ((c.tc : Thread nD τ).loc main_arg27) ∧
    r.2.mem ((c.tc : Thread nD τ).loc main_arg28) = m ((c.tc : Thread nD τ).loc main_arg28) ∧
    r.2.mem ((c.tc : Thread nD τ).loc main_arg29) = m ((c.tc : Thread nD τ).loc main_arg29) ∧
    r.2.mem ((c.tc : Thread nD τ).loc main_arg30) = m ((c.tc : Thread nD τ).loc main_arg30) ∧
    r.2.mem ((c.tc : Thread nD τ).loc main_arg31) = m ((c.tc : Thread nD τ).loc main_arg31) ∧
    r.2.mem ((c.tc : Thread nD τ).loc main_arg32) = m ((c.tc : Thread nD τ).loc main_arg32) ∧
    r.2.mem ((c.tc : Thread nD τ).loc main_arg33) = m ((c.tc : Thread nD τ).loc main_arg33) ∧
    r.2.mem ((c.tc : Thread nD τ).loc main_arg34) = m ((c.tc : Thread nD τ).loc main_arg34) ∧
    r.2.mem ((c.tc : Thread nD τ).loc main_arg35) = m ((c.tc : Thread nD τ).loc main_arg35) :=
  ⟨ended h c 36 (arr36 c), ended h c 37 (arr37 c), ended h c 38 (arr38 c), ended h c 39 (arr39 c), ended h c 40 (arr40 c), ended h c 41 (arr41 c),
    ended h c 42 (arr42 c), ended h c 43 (arr43 c), ended h c 44 (arr44 c), ended h c 45 (arr45 c), ended h c 46 (arr46 c), ended h c 47 (arr47 c),
    ended h c 48 (arr48 c), ended h c 49 (arr49 c), ended h c 50 (arr50 c), ended h c 51 (arr51 c), ended h c 52 (arr52 c), ended h c 53 (arr53 c),
    ended h c 54 (arr54 c), ended h c 55 (arr55 c), ended h c 56 (arr56 c), ended h c 57 (arr57 c), ended h c 58 (arr58 c), ended h c 59 (arr59 c),
    ended h c 60 (arr60 c), ended h c 61 (arr61 c), ended h c 62 (arr62 c), kept h c 0 rfl, kept h c 1 rfl, kept h c 2 rfl, kept h c 3 rfl,
    kept h c 4 rfl, kept h c 5 rfl, kept h c 6 rfl, kept h c 7 rfl, kept h c 8 rfl, kept h c 9 rfl, kept h c 10 rfl, kept h c 11 rfl,
    kept h c 12 rfl, kept h c 13 rfl, kept h c 14 rfl, kept h c 15 rfl, kept h c 16 rfl, kept h c 17 rfl, kept h c 18 rfl, kept h c 19 rfl,
    kept h c 20 rfl, kept h c 21 rfl, kept h c 22 rfl, kept h c 23 rfl, kept h c 24 rfl, kept h c 25 rfl, kept h c 26 rfl, kept h c 27 rfl,
    kept h c 28 rfl, kept h c 29 rfl, kept h c 30 rfl, kept h c 31 rfl, kept h c 32 rfl, kept h c 33 rfl, kept h c 34 rfl, kept h c 35 rfl⟩

end

/-- From agreeing weights, gradients and moments the two optimiser steps of the nine small weights end with equal results. -/
theorem algebraic_adam_small : Cert.algebraic_AdamSmallKernelIdeal_AdamSmallReferenceIdeal (hAdamSmallKernelIdeal := Cert.AdamSmallKernelIdeal.Gen.facts) (hAdamSmallReferenceIdeal := Cert.AdamSmallReferenceIdeal.Gen.facts) :=
  fun m ρ m' ρ' _ hag =>
    ⟨fun c => step (F := Ideal) (S := Cert.AdamSmallKernelIdeal.S1x1024) (Cert.AdamSmallKernelIdeal.Small.V m c Cert.AdamSmallKernelIdeal.main_arg0) (Cert.AdamSmallKernelIdeal.Small.V m c Cert.AdamSmallKernelIdeal.main_arg1) (Cert.AdamSmallKernelIdeal.Small.V m c Cert.AdamSmallKernelIdeal.main_arg2) (Cert.AdamSmallKernelIdeal.Small.V m c Cert.AdamSmallKernelIdeal.main_arg3),
      fun c => first (F := Ideal) (S := Cert.AdamSmallKernelIdeal.S1x1024) (Cert.AdamSmallKernelIdeal.Small.V m c Cert.AdamSmallKernelIdeal.main_arg1) (Cert.AdamSmallKernelIdeal.Small.V m c Cert.AdamSmallKernelIdeal.main_arg2),
      fun c => second (F := Ideal) (S := Cert.AdamSmallKernelIdeal.S1x1024) (Cert.AdamSmallKernelIdeal.Small.V m c Cert.AdamSmallKernelIdeal.main_arg1) (Cert.AdamSmallKernelIdeal.Small.V m c Cert.AdamSmallKernelIdeal.main_arg3),
      fun c => step (F := Ideal) (S := Cert.AdamSmallKernelIdeal.S1x3072) (Cert.AdamSmallKernelIdeal.Small.V m c Cert.AdamSmallKernelIdeal.main_arg4) (Cert.AdamSmallKernelIdeal.Small.V m c Cert.AdamSmallKernelIdeal.main_arg5) (Cert.AdamSmallKernelIdeal.Small.V m c Cert.AdamSmallKernelIdeal.main_arg6) (Cert.AdamSmallKernelIdeal.Small.V m c Cert.AdamSmallKernelIdeal.main_arg7),
      fun c => first (F := Ideal) (S := Cert.AdamSmallKernelIdeal.S1x3072) (Cert.AdamSmallKernelIdeal.Small.V m c Cert.AdamSmallKernelIdeal.main_arg5) (Cert.AdamSmallKernelIdeal.Small.V m c Cert.AdamSmallKernelIdeal.main_arg6),
      fun c => second (F := Ideal) (S := Cert.AdamSmallKernelIdeal.S1x3072) (Cert.AdamSmallKernelIdeal.Small.V m c Cert.AdamSmallKernelIdeal.main_arg5) (Cert.AdamSmallKernelIdeal.Small.V m c Cert.AdamSmallKernelIdeal.main_arg7),
      fun c => step (F := Ideal) (S := Cert.AdamSmallKernelIdeal.S1x1024) (Cert.AdamSmallKernelIdeal.Small.V m c Cert.AdamSmallKernelIdeal.main_arg8) (Cert.AdamSmallKernelIdeal.Small.V m c Cert.AdamSmallKernelIdeal.main_arg9) (Cert.AdamSmallKernelIdeal.Small.V m c Cert.AdamSmallKernelIdeal.main_arg10) (Cert.AdamSmallKernelIdeal.Small.V m c Cert.AdamSmallKernelIdeal.main_arg11),
      fun c => first (F := Ideal) (S := Cert.AdamSmallKernelIdeal.S1x1024) (Cert.AdamSmallKernelIdeal.Small.V m c Cert.AdamSmallKernelIdeal.main_arg9) (Cert.AdamSmallKernelIdeal.Small.V m c Cert.AdamSmallKernelIdeal.main_arg10),
      fun c => second (F := Ideal) (S := Cert.AdamSmallKernelIdeal.S1x1024) (Cert.AdamSmallKernelIdeal.Small.V m c Cert.AdamSmallKernelIdeal.main_arg9) (Cert.AdamSmallKernelIdeal.Small.V m c Cert.AdamSmallKernelIdeal.main_arg11),
      fun c => step (F := Ideal) (S := Cert.AdamSmallKernelIdeal.S1x512) (Cert.AdamSmallKernelIdeal.Small.V m c Cert.AdamSmallKernelIdeal.main_arg12) (Cert.AdamSmallKernelIdeal.Small.V m c Cert.AdamSmallKernelIdeal.main_arg13) (Cert.AdamSmallKernelIdeal.Small.V m c Cert.AdamSmallKernelIdeal.main_arg14) (Cert.AdamSmallKernelIdeal.Small.V m c Cert.AdamSmallKernelIdeal.main_arg15),
      fun c => first (F := Ideal) (S := Cert.AdamSmallKernelIdeal.S1x512) (Cert.AdamSmallKernelIdeal.Small.V m c Cert.AdamSmallKernelIdeal.main_arg13) (Cert.AdamSmallKernelIdeal.Small.V m c Cert.AdamSmallKernelIdeal.main_arg14),
      fun c => second (F := Ideal) (S := Cert.AdamSmallKernelIdeal.S1x512) (Cert.AdamSmallKernelIdeal.Small.V m c Cert.AdamSmallKernelIdeal.main_arg13) (Cert.AdamSmallKernelIdeal.Small.V m c Cert.AdamSmallKernelIdeal.main_arg15),
      fun c => step (F := Ideal) (S := Cert.AdamSmallKernelIdeal.S512x128) (Cert.AdamSmallKernelIdeal.Small.V m c Cert.AdamSmallKernelIdeal.main_arg16) (Cert.AdamSmallKernelIdeal.Small.V m c Cert.AdamSmallKernelIdeal.main_arg17) (Cert.AdamSmallKernelIdeal.Small.V m c Cert.AdamSmallKernelIdeal.main_arg18) (Cert.AdamSmallKernelIdeal.Small.V m c Cert.AdamSmallKernelIdeal.main_arg19),
      fun c => first (F := Ideal) (S := Cert.AdamSmallKernelIdeal.S512x128) (Cert.AdamSmallKernelIdeal.Small.V m c Cert.AdamSmallKernelIdeal.main_arg17) (Cert.AdamSmallKernelIdeal.Small.V m c Cert.AdamSmallKernelIdeal.main_arg18),
      fun c => second (F := Ideal) (S := Cert.AdamSmallKernelIdeal.S512x128) (Cert.AdamSmallKernelIdeal.Small.V m c Cert.AdamSmallKernelIdeal.main_arg17) (Cert.AdamSmallKernelIdeal.Small.V m c Cert.AdamSmallKernelIdeal.main_arg19),
      fun c => step (F := Ideal) (S := Cert.AdamSmallKernelIdeal.S4x128) (Cert.AdamSmallKernelIdeal.Small.V m c Cert.AdamSmallKernelIdeal.main_arg20) (Cert.AdamSmallKernelIdeal.Small.V m c Cert.AdamSmallKernelIdeal.main_arg21) (Cert.AdamSmallKernelIdeal.Small.V m c Cert.AdamSmallKernelIdeal.main_arg22) (Cert.AdamSmallKernelIdeal.Small.V m c Cert.AdamSmallKernelIdeal.main_arg23),
      fun c => first (F := Ideal) (S := Cert.AdamSmallKernelIdeal.S4x128) (Cert.AdamSmallKernelIdeal.Small.V m c Cert.AdamSmallKernelIdeal.main_arg21) (Cert.AdamSmallKernelIdeal.Small.V m c Cert.AdamSmallKernelIdeal.main_arg22),
      fun c => second (F := Ideal) (S := Cert.AdamSmallKernelIdeal.S4x128) (Cert.AdamSmallKernelIdeal.Small.V m c Cert.AdamSmallKernelIdeal.main_arg21) (Cert.AdamSmallKernelIdeal.Small.V m c Cert.AdamSmallKernelIdeal.main_arg23),
      fun c => step (F := Ideal) (S := Cert.AdamSmallKernelIdeal.S1x64) (Cert.AdamSmallKernelIdeal.Small.V m c Cert.AdamSmallKernelIdeal.main_arg24) (Cert.AdamSmallKernelIdeal.Small.V m c Cert.AdamSmallKernelIdeal.main_arg25) (Cert.AdamSmallKernelIdeal.Small.V m c Cert.AdamSmallKernelIdeal.main_arg26) (Cert.AdamSmallKernelIdeal.Small.V m c Cert.AdamSmallKernelIdeal.main_arg27),
      fun c => first (F := Ideal) (S := Cert.AdamSmallKernelIdeal.S1x64) (Cert.AdamSmallKernelIdeal.Small.V m c Cert.AdamSmallKernelIdeal.main_arg25) (Cert.AdamSmallKernelIdeal.Small.V m c Cert.AdamSmallKernelIdeal.main_arg26),
      fun c => second (F := Ideal) (S := Cert.AdamSmallKernelIdeal.S1x64) (Cert.AdamSmallKernelIdeal.Small.V m c Cert.AdamSmallKernelIdeal.main_arg25) (Cert.AdamSmallKernelIdeal.Small.V m c Cert.AdamSmallKernelIdeal.main_arg27),
      fun c => step (F := Ideal) (S := Cert.AdamSmallKernelIdeal.S1x64) (Cert.AdamSmallKernelIdeal.Small.V m c Cert.AdamSmallKernelIdeal.main_arg28) (Cert.AdamSmallKernelIdeal.Small.V m c Cert.AdamSmallKernelIdeal.main_arg29) (Cert.AdamSmallKernelIdeal.Small.V m c Cert.AdamSmallKernelIdeal.main_arg30) (Cert.AdamSmallKernelIdeal.Small.V m c Cert.AdamSmallKernelIdeal.main_arg31),
      fun c => first (F := Ideal) (S := Cert.AdamSmallKernelIdeal.S1x64) (Cert.AdamSmallKernelIdeal.Small.V m c Cert.AdamSmallKernelIdeal.main_arg29) (Cert.AdamSmallKernelIdeal.Small.V m c Cert.AdamSmallKernelIdeal.main_arg30),
      fun c => second (F := Ideal) (S := Cert.AdamSmallKernelIdeal.S1x64) (Cert.AdamSmallKernelIdeal.Small.V m c Cert.AdamSmallKernelIdeal.main_arg29) (Cert.AdamSmallKernelIdeal.Small.V m c Cert.AdamSmallKernelIdeal.main_arg31),
      fun c => step (F := Ideal) (S := Cert.AdamSmallKernelIdeal.S120x31) (Cert.AdamSmallKernelIdeal.Small.V m c Cert.AdamSmallKernelIdeal.main_arg32) (Cert.AdamSmallKernelIdeal.Small.V m c Cert.AdamSmallKernelIdeal.main_arg33) (Cert.AdamSmallKernelIdeal.Small.V m c Cert.AdamSmallKernelIdeal.main_arg34) (Cert.AdamSmallKernelIdeal.Small.V m c Cert.AdamSmallKernelIdeal.main_arg35),
      fun c => first (F := Ideal) (S := Cert.AdamSmallKernelIdeal.S120x31) (Cert.AdamSmallKernelIdeal.Small.V m c Cert.AdamSmallKernelIdeal.main_arg33) (Cert.AdamSmallKernelIdeal.Small.V m c Cert.AdamSmallKernelIdeal.main_arg34),
      fun c => second (F := Ideal) (S := Cert.AdamSmallKernelIdeal.S120x31) (Cert.AdamSmallKernelIdeal.Small.V m c Cert.AdamSmallKernelIdeal.main_arg33) (Cert.AdamSmallKernelIdeal.Small.V m c Cert.AdamSmallKernelIdeal.main_arg35),
      (θ_run _ _ _).mono (fun r h c => kernel_ends h.1 c) (Cert.AdamSmallKernelIdeal.Small.run m ρ),
      (θ_run _ _ _).mono (fun r h c => by
        obtain ⟨e0, e1, e2, e3, e4, e5, e6, e7, e8, e9, e10, e11, e12, e13, e14, e15, e16, e17, e18, e19, e20, e21, e22, e23, e24, e25, e26, e27, e28, e29,
          e30, e31, e32, e33, e34, e35⟩ := hag c
        exact both (h c) (fun q => q.trans ((host_step _ _ _ _ _).trans (step_eq e0 e1 e2 e3))) fun h =>
          both h (fun q => q.trans ((host_first _ _ _).trans (first_eq e1 e2))) fun h =>
          both h (fun q => q.trans ((host_second _ _ _).trans (second_eq e1 e3))) fun h =>
          both h (fun q => q.trans ((host_step _ _ _ _ _).trans (step_eq e4 e5 e6 e7))) fun h =>
          both h (fun q => q.trans ((host_first _ _ _).trans (first_eq e5 e6))) fun h =>
          both h (fun q => q.trans ((host_second _ _ _).trans (second_eq e5 e7))) fun h =>
          both h (fun q => q.trans ((host_step _ _ _ _ _).trans (step_eq e8 e9 e10 e11))) fun h =>
          both h (fun q => q.trans ((host_first _ _ _).trans (first_eq e9 e10))) fun h =>
          both h (fun q => q.trans ((host_second _ _ _).trans (second_eq e9 e11))) fun h =>
          both h (fun q => q.trans ((host_step _ _ _ _ _).trans (step_eq e12 e13 e14 e15))) fun h =>
          both h (fun q => q.trans ((host_first _ _ _).trans (first_eq e13 e14))) fun h =>
          both h (fun q => q.trans ((host_second _ _ _).trans (second_eq e13 e15))) fun h =>
          both h (fun q => q.trans ((host_step _ _ _ _ _).trans (step_eq e16 e17 e18 e19))) fun h =>
          both h (fun q => q.trans ((host_first _ _ _).trans (first_eq e17 e18))) fun h =>
          both h (fun q => q.trans ((host_second _ _ _).trans (second_eq e17 e19))) fun h =>
          both h (fun q => q.trans ((host_step _ _ _ _ _).trans (step_eq e20 e21 e22 e23))) fun h =>
          both h (fun q => q.trans ((host_first _ _ _).trans (first_eq e21 e22))) fun h =>
          both h (fun q => q.trans ((host_second _ _ _).trans (second_eq e21 e23))) fun h =>
          both h (fun q => q.trans ((host_step _ _ _ _ _).trans (step_eq e24 e25 e26 e27))) fun h =>
          both h (fun q => q.trans ((host_first _ _ _).trans (first_eq e25 e26))) fun h =>
          both h (fun q => q.trans ((host_second _ _ _).trans (second_eq e25 e27))) fun h =>
          both h (fun q => q.trans ((host_step _ _ _ _ _).trans (step_eq e28 e29 e30 e31))) fun h =>
          both h (fun q => q.trans ((host_first _ _ _).trans (first_eq e29 e30))) fun h =>
          both h (fun q => q.trans ((host_second _ _ _).trans (second_eq e29 e31))) fun h =>
          both h (fun q => q.trans ((host_step _ _ _ _ _).trans (step_eq e32 e33 e34 e35))) fun h =>
          both h (fun q => q.trans ((host_first _ _ _).trans (first_eq e33 e34))) fun h =>
          both h (fun q => q.trans ((host_second _ _ _).trans (second_eq e33 e35))) fun h =>
          h)
        (Cert.AdamSmallReferenceIdeal.Value.run m' ρ')⟩

/-- The reference's run leaves the arguments as they are; it declares no semaphore. -/
theorem reference_frame_adam_small : Cert.quiescent_AdamSmallReferenceIdeal (hAdamSmallReferenceIdeal := Cert.AdamSmallReferenceIdeal.Gen.facts) := fun m ρ _ =>
  (θ_run _ _ _).mono (fun r h => ⟨fun c => (h c).2.2.2.2.2.2.2.2.2.2.2.2.2.2.2.2.2.2.2.2.2.2.2.2.2.2.2, Idealize.ShloMosaic.sem_eq_zero_of_no_sems (by decide) r.2⟩) (Cert.AdamSmallReferenceIdeal.Value.run m ρ)

end Cert.Proof

end
-- ==== Proof.GateBlock.lean ====
/- The forward gated unit: four chunks of 128 rows of a 512-row block, each in four groups of 128 columns. Each definition is one
   intermediate value of the kernel's body, at any float arithmetic. -/
module

public import proofs.«01_k».proof.Proof.Gen.GateKernelIdeal.Frame
public import Idealize.ShloMosaic.Lib.Tactic
public import Idealize.ShloMosaic.Lib.Pipeline.ValueKit.Acc
public import Idealize.ShloMosaic.Lib.Pointwise.Index

@[expose] public section

set_option maxRecDepth 16384

noncomputable section

open Idealize.ShloMosaic Idealize.ShloMosaic.TcCoe Idealize.SL.Sem

namespace Cert.GateKernelIdeal.Chunk

open Cert.GateKernelIdeal Cert.GateKernelIdeal.Gen

variable {F : FTy → Type} [FloatOps F]

/-! ## Elementwise: the erf form of gelu -/

/-- Half of the argument. -/
def half (x : FVec F S128x512 .f32) : FVec F S128x512 .f32 := mulf (broadcast S128x512 (Scalar.ofBits .f32 0x3F000000#32)) x
/-- The argument divided by the square root of two (a product with the rounded constant). -/
def arg (x : FVec F S128x512 .f32) : FVec F S128x512 .f32 := mulf x (broadcast S128x512 (Scalar.ofBits .f32 0x3F3504F3#32))
/-- One plus the error function of that argument. -/
def cdf (x : FVec F S128x512 .f32) : FVec F S128x512 .f32 :=
  addf (broadcast S128x512 (Scalar.ofBits .f32 0x3F800000#32)) (erf (arg x))
/-- gelu. -/
def gelu (x : FVec F S128x512 .f32) : FVec F S128x512 .f32 := mulf (half x) (cdf x)

/-! ## Group `g` of the operands -/

theorem slices_col : ∀ g : Fin 4, S128x512.Slices ![0, 128 * g.val] S128x128 := by decide
theorem slices_gain : ∀ g : Fin 4, S1x512.Slices ![0, 128 * g.val] S1x128 := by decide
theorem slices_mat : ∀ g : Fin 4, S4x128x128.Slices ![g.val, 0, 0] S1x128x128 := by decide

/-- The group's 128 columns. -/
def col (g : Fin 4) (x : FVec F S128x512 .f32) : FVec F S128x128 .f32 := extractStridedSlice S128x128 ![0, 128 * g.val] x (slices_col g)
/-- The group's gains. -/
def gain (g : Fin 4) (s : FVec F S1x512 .f32) : FVec F S1x128 .f32 := extractStridedSlice S1x128 ![0, 128 * g.val] s (slices_gain g)
/-- The group's matrix. -/
def mat (g : Fin 4) (w : FVec F S4x128x128 .f32) : FVec F S128x128 .f32 :=
  shapeCast S128x128 (extractStridedSlice S1x128x128 ![g.val, 0, 0] w (slices_mat g)) shapeCasts_S1x128x128_S128x128

/-! ## One group: `v` the second input after gelu, `u` the first after gelu, `a` the gate, `s` gains, `w` matrix, `b` bias -/

/-- The rows' mean square plus the small constant. -/
def meanSq (v : FVec F S128x128 .f32) : FVec F S128x1 .f32 :=
  addf (divf (shapeCast S128x1 (multiReduction .add [1] S128 (mulf v v) 0x00000000#32 reduces_S128x128_S128 (.inl rfl) rfl) shapeCasts_S128_S128x1)
      (broadcast S128x1 (Scalar.ofBits .f32 0x43000000#32)))
    (broadcast S128x1 (Scalar.ofBits .f32 0x358637BD#32))
/-- Its reciprocal square root. -/
def rs (v : FVec F S128x128 .f32) : FVec F S128x1 .f32 := rsqrt (meanSq v)
/-- The rows normalised. -/
def nrm (v : FVec F S128x128 .f32) : FVec F S128x128 .f32 := mulf v (broadcastTo S128x128 (rs v) broadcasts_S128x1_S128x128)
/-- The rows normalised and scaled. -/
def vn (v : FVec F S128x128 .f32) (s : FVec F S1x128 .f32) : FVec F S128x128 .f32 :=
  mulf (nrm v) (broadcastTo S128x128 s broadcasts_S1x128_S128x128)
/-- The rows mixed by the group's matrix, plus its bias. -/
def mix (v : FVec F S128x128 .f32) (s : FVec F S1x128 .f32) (w b : FVec F S128x128 .f32) : FVec F S128x128 .f32 :=
  addf (matmul dot_S128x128_S128x128_S128x128_1_0_0_1_n_n none (truncf .bf16 w bitsLt_bf16_f32) (truncf .bf16 (vn v s) bitsLt_bf16_f32)
    (constant S128x128 .f32 0x00000000#32)) b
/-- The mixed rows times `u`, gated by silu of `a`. -/
def gated (v : FVec F S128x128 .f32) (s : FVec F S1x128 .f32) (w b u a : FVec F S128x128 .f32) : FVec F S128x128 .f32 :=
  mulf (mulf u (mix v s w b)) (mulf a (logistic a))

/-- Four column groups side by side. -/
def cols (x : Fin 4 → FVec F S128x128 .f32) : FVec F S128x512 .f32 :=
  concatenate S128x512 1 [⟨S128x128, x 0⟩, ⟨S128x128, x 1⟩, ⟨S128x128, x 2⟩, ⟨S128x128, x 3⟩] concatenates_S128x128_S128x128_S128x128_S128x128_S128x512_d1

theorem slices_rows : ∀ k : Fin 4, S512x512.Slices ![128 * k.val, 0] S128x512 := by decide

/-- Chunk `k`: rows `128 k` to `128 k + 127` of a block. -/
def rows (k : Fin 4) (x : FVec F S512x512 .f32) : FVec F S128x512 .f32 := extractStridedSlice S128x512 ![128 * k.val, 0] x (slices_rows k)

variable (x0 x1 x2 : FVec F S512x512 .f32) (x3 : FVec F S1x512 .f32) (x4 x5 : FVec F S4x128x128 .f32)

/-- Chunk `k` of the result. -/
def slab (k : Fin 4) : FVec F S128x512 .f32 :=
  cols fun g => gated (col g (gelu (rows k x1))) (gain g x3) (mat g x4) (mat g (shapeCast S4x128x128 x5 shapeCasts_S4x128x128_S4x128x128))
    (col g (gelu (rows k x0))) (col g (rows k x2))

/-- The result's block: row `r` is row `r mod 128` of chunk `r / 128`. -/
def block : FVec F S512x512 .f32 := fun j =>
  slab x0 x1 x2 x3 x4 x5 ⟨(j 0).val / 128, Nat.div_lt_of_lt_mul (j 0).isLt⟩
    (ix2 (n0 := 128) (n1 := 512) ⟨(j 0).val % 128, Nat.mod_lt _ (by decide)⟩ (j 1))

theorem hz2 : ∀ a : Fin 2, (![0, 0] : Fin 2 → Nat) a = 0 := by decide
theorem hz3 : ∀ a : Fin 3, (![0, 0, 0] : Fin 3 → Nat) a = 0 := by decide

theorem inb_slab : ∀ (k : Fin 4) (a : Fin 2), (![128 * k.val, 0] : Fin 2 → Nat) a + S128x512.size a ≤ S512x512.size a := by decide

/-- The store of chunk `k`. -/
abbrev piece (s : Fin 4 → FVec F S128x512 .f32) (k : Fin 4) : View.Piece (Elt F) S512x512 .f32 :=
  ⟨Rect.unit ![128 * k.val, 0] S128x512.size (inb_slab k), s k⟩

/-- The four stores, last first. -/
abbrev pieces (s : Fin 4 → FVec F S128x512 .f32) : List (View.Piece (Elt F) S512x512 .f32) := [piece s 3, piece s 2, piece s 1, piece s 0]

/-- Entry `x` of chunk `k` is the block's entry at its place. -/
theorem block_piece (k : Fin 4) (x : S128x512.Idx) :
    slab x0 x1 x2 x3 x4 x5 k x = block x0 x1 x2 x3 x4 x5 ((Rect.unit (s := S512x512) ![128 * k.val, 0] S128x512.size (inb_slab k)).emb x) := by
  have h0 : (((Rect.unit (s := S512x512) ![128 * k.val, 0] S128x512.size (inb_slab k)).emb x) 0).val = 128 * k.val + (x 0).val :=
    congrArg (128 * k.val + ·) (Nat.one_mul _)
  have h1 : (((Rect.unit (s := S512x512) ![128 * k.val, 0] S128x512.size (inb_slab k)).emb x) 1).val = 0 + (x 1).val :=
    congrArg (0 + ·) (Nat.one_mul _)
  have e0 : (x 0).val < 128 := (x 0).isLt
  generalize (Rect.unit (s := S512x512) ![128 * k.val, 0] S128x512.size (inb_slab k)).emb x = y at h0 h1
  unfold block
  have hk : (⟨(y 0).val / 128, Nat.div_lt_of_lt_mul (y 0).isLt⟩ : Fin 4) = k := Fin.ext (by show (y 0).val / 128 = _; omega)
  rw [hk]
  congr 1
  funext a
  apply Fin.ext
  match a with
  | ⟨0, _⟩ => show (x 0).val = (y 0).val % 128; omega
  | ⟨1, _⟩ => show (x 1).val = (y 1).val; omega

/-- Four stores that are the four chunks leave the block. -/
theorem canon_pieces (L : List (View.Piece (Elt F) S512x512 .f32)) (hL : L = pieces (slab x0 x1 x2 x3 x4 x5)) (hc : ∀ y, ∃ pc ∈ L, y ∈ pc.1.set) :
    View.canon L = block x0 x1 x2 x3 x4 x5 := by
  subst hL
  funext y
  refine View.canon_apply_of_pieces _ _ (fun p hp x => ?_) y (hc y)
  simp only [List.mem_cons, List.not_mem_nil, or_false] at hp
  rcases hp with rfl | rfl | rfl | rfl
  · exact block_piece x0 x1 x2 x3 x4 x5 3 x
  · exact block_piece x0 x1 x2 x3 x4 x5 2 x
  · exact block_piece x0 x1 x2 x3 x4 x5 1 x
  · exact block_piece x0 x1 x2 x3 x4 x5 0 x

/-- A grid point leaves the block. -/
theorem out6 : out0_6 x0 x1 x2 x3 x4 x5 = block x0 x1 x2 x3 x4 x5 := by
  unfold out0_6
  refine canon_pieces x0 x1 x2 x3 x4 x5 _ ?_ (cover0_6 _ _ _ _)
  unfold k0_pay57 k0_pay56 k0_pay55 k0_pay54 k0_pay53 k0_pay52 k0_pay51 k0_pay50 k0_pay49 k0_pay48 k0_pay47 k0_pay46
  unfold r0_0 r0_1 r0_2 r0_3 r0_4 r0_5
  simp only [View.ld_unit_lit' (S := S1x512) _ _ hz2, View.ld_unit_lit' (S := S4x128x128) _ _ hz3]
  simp only [View.ld_unit]
  sl_kernel_rfl

end Cert.GateKernelIdeal.Chunk

end
-- ==== Proof.GateFinal.lean ====
/- The forward gated unit's result over the extended reals, entry by entry. -/
module

public import proofs.«01_k».proof.Proof.Gen.GateKernelIdeal.Value
public import proofs.«01_k».proof.Proof.GateBlock
public import proofs.«01_k».proof.Proof.Spec
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.GateSpec

variable (z : (⟨2, ![4096, 3584]⟩ : Shape).Idx → EReal) (sg : (⟨2, ![1, 512]⟩ : Shape).Idx → EReal)
  (ws : (⟨3, ![4, 128, 128]⟩ : Shape).Idx → EReal) (bs : (⟨2, ![4, 128]⟩ : Shape).Idx → EReal)

/-- The unit's result: the first input after gelu, times the mixed rows of the second, gated by silu of the third. -/
def y (n : Fin 32) (g : Fin 4) (p c : Fin 128) : EReal :=
  Spec.gu z n g p c * Spec.mix (Spec.gv z n g) (Spec.gw ws g) (Spec.gs sg g) (Spec.gb bs g) p c * (Spec.zg z n g p c * Ideal.logistic (Spec.zg z n g p c))

/-- As an array. -/
abbrev arr : (⟨2, ![4096, 512]⟩ : Shape).Idx → EReal := fun j =>
  y z sg ws bs ⟨(j 0).val / 128, by have : (j 0).val < 4096 := (j 0).isLt; omega⟩ ⟨(j 1).val / 128, by have : (j 1).val < 512 := (j 1).isLt; omega⟩
    ⟨(j 0).val % 128, by omega⟩ ⟨(j 1).val % 128, by omega⟩

end Cert.GateSpec

namespace Cert.GateKernelIdeal.Chunk

open Cert.GateKernelIdeal Cert.GateKernelIdeal.Gen

theorem gelu_apply (x : FVec Ideal S128x512 .f32) (j : S128x512.Idx) : gelu x j = Spec.gelu (x j) := by
  pointwise [gelu, half, cdf, arg, Spec.gelu, Spec.half, Spec.cdf, Spec.arg]
  rfl

variable (v u a : FVec Ideal S128x128 .f32) (s : FVec Ideal S1x128 .f32) (w b : FVec Ideal S128x128 .f32)

/-- A group's slab as a function of row and column. -/
abbrev fn (x : FVec Ideal S128x128 .f32) : Fin 128 → Fin 128 → EReal := fun p c => x (ix2 p c)

/-- A group's gains as a function of the column. -/
abbrev fn1 (x : FVec Ideal S1x128 .f32) : Fin 128 → EReal := fun c => x (ix2 0 c)

theorem meanSq_apply (p : Fin 128) (q : Fin 1) : meanSq v (ix2 p q) = Spec.ms (fn v) p := by
  pointwise [meanSq, Spec.ms]

theorem rs_apply (p : Fin 128) (q : Fin 1) : rs v (ix2 p q) = Spec.rs (fn v) p := by
  pointwise [rs, meanSq_apply, Spec.rs]

theorem nrm_apply (p c : Fin 128) : nrm v (ix2 p c) = Spec.nrm (fn v) p c := by
  pointwise [nrm, rs_apply, Spec.nrm]

theorem vn_apply (p c : Fin 128) : vn v s (ix2 p c) = Spec.vn (fn v) (fn1 s) p c := by
  pointwise [vn, nrm_apply, Spec.vn]

theorem mix_apply (b' : Fin 128 → EReal) (hb : ∀ p c, b (ix2 p c) = b' p) (p c : Fin 128) :
    mix v s w b (ix2 p c) = Spec.mix (fn v) (fn w) (fn1 s) b' p c := by
  pointwise [mix, vn_apply, hb, Spec.mix]

theorem gated_apply (b' : Fin 128 → EReal) (hb : ∀ p c, b (ix2 p c) = b' p) (p c : Fin 128) :
    gated v s w b u a (ix2 p c) = fn u p c * Spec.mix (fn v) (fn w) (fn1 s) b' p c * (fn a p c * Ideal.logistic (fn a p c)) := by
  pointwise [gated, mix_apply v s w b b' hb]

theorem cols_apply (x : Fin 4 → FVec Ideal S128x128 .f32) (p : Fin 128) (l : Fin 512) :
    cols x (ix2 p l) = x ⟨l.val / 128, by omega⟩ (ix2 p ⟨l.val % 128, by omega⟩) := by
  pointwise [cols]
  have hl : l.val < 512 := l.isLt
  have key : ∀ (g : Fin 4) (c : Fin 128), l.val = 128 * g.val + c.val →
      x ⟨l.val / 128, by omega⟩ (ix2 p ⟨l.val % 128, by omega⟩) = x g (ix2 p c) := fun g c h => by
    rw [show (⟨l.val / 128, by omega⟩ : Fin 4) = g from Fin.ext (by show l.val / 128 = _; omega),
      show (⟨l.val % 128, by omega⟩ : Fin 128) = c from Fin.ext (by show l.val % 128 = _; omega)]
  by_cases h1 : l.val < 128
  · simp only [h1, ↓reduceDIte]
    exact (key 0 ⟨l.val, h1⟩ (by show l.val = 128 * 0 + l.val; omega)).symm
  by_cases h2 : l.val < 256
  · have h2' : l.val - 128 < 128 := by omega
    simp only [h1, h2, h2', ↓reduceDIte]
    exact (key 1 ⟨l.val - 128, by omega⟩ (by show l.val = 128 * 1 + (l.val - 128); omega)).symm
  by_cases h3 : l.val < 384
  · have h2' : ¬ l.val - 128 < 128 := by omega
    have h3' : l.val - 128 - 128 < 128 := by omega
    simp only [h1, h2, h3, h2', h3', ↓reduceDIte]
    exact (key 2 ⟨l.val - 128 - 128, by omega⟩ (by show l.val = 128 * 2 + (l.val - 128 - 128); omega)).symm
  · have h2' : ¬ l.val - 128 < 128 := by omega
    have h3' : ¬ l.val - 128 - 128 < 128 := by omega
    simp only [h1, h2, h3, h2', h3', ↓reduceDIte]
    exact (key 3 ⟨l.val - 128 - 128 - 128, by omega⟩ (by show l.val = 128 * 3 + (l.val - 128 - 128 - 128); omega)).symm

end Cert.GateKernelIdeal.Chunk

namespace Cert.GateKernelIdeal.Value

open Cert.GateKernelIdeal Cert.GateKernelIdeal.Gen Cert.GateKernelIdeal.Chunk

section

variable {F : FTy → Type} [FloatOps F]
variable (m : (ℓ : Loc nD τ sig) → Buf (Elt F) ℓ)

theorem lt_N (t : Fin cfg0.N) : t.val < 8 := lt_of_lt_of_eq t.isLt N_0

theorem index0 : ∀ t : Fin cfg0.N, win0_0.index t 0 = t.val ∧ win0_0.index t 1 = 0 := by decide +kernel
theorem index1 : ∀ t : Fin cfg0.N, win0_1.index t 0 = t.val ∧ win0_1.index t 1 = 1 := by decide +kernel
theorem index2 : ∀ t : Fin cfg0.N, win0_2.index t 0 = t.val ∧ win0_2.index t 1 = 2 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 ∧ win0_4.index t 2 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = t.val ∧ win0_6.index t 1 = 0 := by decide +kernel

/-- Entry `(r, l)` of point `t`'s block of the first input: row `512 t + r`, column `l.val`. -/
theorem iblk0_apply (c : Dev nD) (t : Fin cfg0.N) (r l : Fin 512) :
    (iblk m c 0 t : Vec F S512x512 .f32) (ix2 r l)
      = m ((c : Thread nD τ).loc main_arg0) (ix2 (n0 := 4096) (n1 := 3584) ⟨512 * t.val + r.val, by have := lt_N t; omega⟩ ⟨l.val, by omega⟩) := by
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * l.val = l.val; rw [(index0 t).2]; omega

/-- Entry `(r, l)` of point `t`'s block of the second input: row `512 t + r`, column `512 + l.val`. -/
theorem iblk1_apply (c : Dev nD) (t : Fin cfg0.N) (r l : Fin 512) :
    (iblk m c 1 t : Vec F S512x512 .f32) (ix2 r l)
      = m ((c : Thread nD τ).loc main_arg0) (ix2 (n0 := 4096) (n1 := 3584) ⟨512 * t.val + r.val, by have := lt_N t; omega⟩ ⟨512 + l.val, by omega⟩) := by
  rw [← V_main_arg0 m c]
  unfold iblk
  rw [View.read_apply]
  show V m c main_arg0 _ = V m c main_arg0 _
  congr 1
  funext a
  apply Fin.ext
  match a with
  | ⟨0, _⟩ => show win0_1.index t 0 * 512 + 1 * r.val = 512 * t.val + r.val; rw [(index1 t).1]; omega
  | ⟨1, _⟩ => show win0_1.index t 1 * 512 + 1 * l.val = 512 + l.val; rw [(index1 t).2]; omega

/-- Entry `(r, l)` of point `t`'s block of the gate: row `512 t + r`, column `1024 + l.val`. -/
theorem iblk2_apply (c : Dev nD) (t : Fin cfg0.N) (r l : Fin 512) :
    (iblk m c 2 t : Vec F S512x512 .f32) (ix2 r l)
      = m ((c : Thread nD τ).loc main_arg0) (ix2 (n0 := 4096) (n1 := 3584) ⟨512 * t.val + r.val, by have := lt_N t; omega⟩ ⟨1024 + l.val, by omega⟩) := by
  rw [← V_main_arg0 m c]
  unfold iblk
  rw [View.read_apply]
  show V m c main_arg0 _ = V m c main_arg0 _
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * l.val = 1024 + l.val; rw [(index2 t).2]; omega

/-- The gains' block is the gains. -/
theorem iblk3_eq (c : Dev nD) (t : Fin cfg0.N) : (iblk m c 3 t : Vec F S1x512 .f32) = m ((c : Thread nD τ).loc main_arg1) := by
  rw [← V_main_arg1 m c]
  funext j
  unfold iblk
  rw [View.read_apply]
  show V m c main_arg1 _ = V m c main_arg1 _
  congr 1
  funext a
  apply Fin.ext
  match a with
  | ⟨0, _⟩ => show win0_3.index t 0 * 1 + 1 * (j 0).val = (j 0).val; rw [(index3 t).1]; omega
  | ⟨1, _⟩ => show win0_3.index t 1 * 512 + 1 * (j 1).val = (j 1).val; rw [(index3 t).2]; omega

/-- The mixing matrices' block is the matrices. -/
theorem iblk4_eq (c : Dev nD) (t : Fin cfg0.N) : (iblk m c 4 t : Vec F S4x128x128 .f32) = m ((c : Thread nD τ).loc main_arg2) := by
  rw [← V_main_arg2 m c]
  funext j
  unfold iblk
  rw [View.read_apply]
  show V m c main_arg2 _ = V m c main_arg2 _
  congr 1
  funext a
  apply Fin.ext
  match a with
  | ⟨0, _⟩ => show win0_4.index t 0 * 4 + 1 * (j 0).val = (j 0).val; rw [(index4 t).1]; omega
  | ⟨1, _⟩ => show win0_4.index t 1 * 128 + 1 * (j 1).val = (j 1).val; rw [(index4 t).2.1]; omega
  | ⟨2, _⟩ => show win0_4.index t 2 * 128 + 1 * (j 2).val = (j 2).val; rw [(index4 t).2.2]; omega

/-- The host repeats each bias along the columns. -/
theorem V_bias (c : Dev nD) (g : Fin 4) (p q : Fin 128) :
    (V m c main_v1 : Vec F S4x128x128 .f32) (ix3 g p q) = m ((c : Thread nD τ).loc main_arg3) (ix2 g p) := by
  unfold V
  after_reads_at

/-- The biases' block: the bias of group `g`'s row `p` in every column. -/
theorem iblk5_apply (c : Dev nD) (t : Fin cfg0.N) (g : Fin 4) (p q : Fin 128) :
    (iblk m c 5 t : Vec F S4x128x128 .f32) (ix3 g p q) = m ((c : Thread nD τ).loc main_arg3) (ix2 g p) := by
  rw [← V_bias m c g p q]
  unfold iblk
  rw [View.read_apply]
  show V m c main_v1 _ = V m c main_v1 _
  congr 1
  funext a
  apply Fin.ext
  match a with
  | ⟨0, _⟩ => show win0_5.index t 0 * 4 + 1 * g.val = g.val; rw [(index5 t).1]; omega
  | ⟨1, _⟩ => show win0_5.index t 1 * 128 + 1 * p.val = p.val; rw [(index5 t).2.1]; omega
  | ⟨2, _⟩ => show win0_5.index t 2 * 128 + 1 * q.val = q.val; rw [(index5 t).2.2]; omega

end

variable (m : (ℓ : Loc nD τ sig) → Buf (Elt Ideal) ℓ) (ρ : Dev nD → PrngReg)

/-- The arguments. -/
abbrev argZ (c : Dev nD) : S4096x3584.Idx → EReal := m ((c : Thread nD τ).loc main_arg0)
abbrev argS (c : Dev nD) : S1x512.Idx → EReal := m ((c : Thread nD τ).loc main_arg1)
abbrev argW (c : Dev nD) : S4x128x128.Idx → EReal := m ((c : Thread nD τ).loc main_arg2)
abbrev argB (c : Dev nD) : S4x128.Idx → EReal := m ((c : Thread nD τ).loc main_arg3)

/-- Chunk `k` of point `t` among all the chunks. -/
def chunk (t : Fin cfg0.N) (k : Fin 4) : Fin 32 := ⟨4 * t.val + k.val, by have := lt_N t; omega⟩

section

variable (c : Dev nD) (t : Fin cfg0.N) (k g : Fin 4)

/-- Group `g` of chunk `k` of the point's block of the first input. -/
theorem rows0_apply (p q : Fin 128) :
    rows (F := Ideal) k (iblk m c 0 t) (ix2 p ⟨128 * g.val + q.val, by omega⟩) = Spec.zu (argZ m c) (chunk t k) g p q := by
  pointwise [rows, iblk0_apply, Spec.zu, Spec.row, chunk]
  exact congrArg (fun r => (argZ m c) (ix2 r _)) (Fin.ext (by show 512 * t.val + (128 * k.val + p.val) = 128 * (4 * t.val + k.val) + p.val; omega))

/-- Group `g` of chunk `k` of the point's block of the second input. -/
theorem rows1_apply (p q : Fin 128) :
    rows (F := Ideal) k (iblk m c 1 t) (ix2 p ⟨128 * g.val + q.val, by omega⟩) = Spec.zv (argZ m c) (chunk t k) g p q := by
  pointwise [rows, iblk1_apply, Spec.zv, Spec.row, chunk]
  exact congrArg (fun r => (argZ m c) (ix2 r _)) (Fin.ext (by show 512 * t.val + (128 * k.val + p.val) = 128 * (4 * t.val + k.val) + p.val; omega))

/-- Group `g` of chunk `k` of the point's block of the gate. -/
theorem rows2_apply (p q : Fin 128) :
    rows (F := Ideal) k (iblk m c 2 t) (ix2 p ⟨128 * g.val + q.val, by omega⟩) = Spec.zg (argZ m c) (chunk t k) g p q := by
  pointwise [rows, iblk2_apply, Spec.zg, Spec.row, chunk]
  exact congrArg (fun r => (argZ m c) (ix2 r _)) (Fin.ext (by show 512 * t.val + (128 * k.val + p.val) = 128 * (4 * t.val + k.val) + p.val; omega))

theorem fn_gu : fn (col g (gelu (rows (F := Ideal) k (iblk m c 0 t)))) = Spec.gu (argZ m c) (chunk t k) g := by
  funext p q
  pointwise [fn, col, gelu_apply, rows0_apply, Spec.gu]

theorem fn_gv : fn (col g (gelu (rows (F := Ideal) k (iblk m c 1 t)))) = Spec.gv (argZ m c) (chunk t k) g := by
  funext p q
  pointwise [fn, col, gelu_apply, rows1_apply, Spec.gv]

theorem fn_zg : fn (col g (rows (F := Ideal) k (iblk m c 2 t))) = Spec.zg (argZ m c) (chunk t k) g := by
  funext p q
  pointwise [fn, col, rows2_apply]

theorem fn_gs : fn1 (gain g (iblk m c 3 t : FVec Ideal S1x512 .f32)) = Spec.gs (argS m c) g := by
  rw [iblk3_eq]
  funext q
  pointwise [fn1, gain, Spec.gs]

theorem fn_gw : fn (mat g (iblk m c 4 t : FVec Ideal S4x128x128 .f32)) = Spec.gw (argW m c) g := by
  rw [iblk4_eq]
  funext p q
  pointwise [fn, mat, Spec.gw]

/-- The biases' block. -/
abbrev x5 (m : (ℓ : Loc nD τ sig) → Buf (Elt Ideal) ℓ) (c : Dev nD) (t : Fin cfg0.N) : FVec Ideal S4x128x128 .f32 := iblk m c 5 t

theorem mat_gb (p q : Fin 128) : mat (F := Ideal) g (shapeCast S4x128x128 (x5 m c t) shapeCasts_S4x128x128_S4x128x128) (ix2 p q)
    = Spec.gb (argB m c) g p := by
  rw [shapeCast_self]
  pointwise [mat, x5, iblk5_apply, Spec.gb]

/-- Chunk `k` of the result's block. -/
theorem slab_apply (p : Fin 128) (l : Fin 512) :
    slab (F := Ideal) (iblk m c 0 t) (iblk m c 1 t) (iblk m c 2 t) (iblk m c 3 t) (iblk m c 4 t) (iblk m c 5 t) k (ix2 p l)
      = GateSpec.y (argZ m c) (argS m c) (argW m c) (argB m c) (chunk t k) ⟨l.val / 128, by omega⟩ p ⟨l.val % 128, by omega⟩ := by
  unfold slab
  rw [cols_apply, gated_apply _ _ _ _ _ _ (Spec.gb (argB m c) ⟨l.val / 128, by omega⟩) (mat_gb m c t ⟨l.val / 128, by omega⟩), fn_gv, fn_gu, fn_zg, fn_gw, fn_gs]
  rfl

end

variable (c : Dev nD)

/-- The result. -/
abbrev res (c : Dev nD) : S4096x512.Idx → EReal := GateSpec.arr (argZ m c) (argS m c) (argW m c) (argB m c)

theorem block_apply (t : Fin cfg0.N) (r l : Fin 512) :
    block (F := Ideal) (iblk m c 0 t) (iblk m c 1 t) (iblk m c 2 t) (iblk m c 3 t) (iblk m c 4 t) (iblk m c 5 t) (ix2 r l)
      = res m c (ix2 (n0 := 4096) (n1 := 512) ⟨512 * t.val + r.val, by have := lt_N t; omega⟩ l) := by
  refine (slab_apply m c t ⟨r.val / 128, by omega⟩ ⟨r.val % 128, by omega⟩ l).trans ?_
  show GateSpec.y _ _ _ _ _ _ _ _ = GateSpec.y _ _ _ _ _ _ _ _
  congr 1
  · exact Fin.ext (by show 4 * t.val + r.val / 128 = (512 * t.val + r.val) / 128; omega)
  · exact Fin.ext (by show r.val % 128 = (512 * t.val + r.val) % 128; omega)

theorem size6 : ∀ t : Fin cfg0.N, win0_6.xsize (grid0.coords t) 0 = 512 ∧ win0_6.xsize (grid0.coords t) 1 = 512 := by decide +kernel

theorem flushed6_eq (t : Fin cfg0.N) (_ : (cfg0.win 6).flush t = true) :
    (dats m 0 c).flushed 6 t = ((cfg0.win 6).blk t).view.read (Elt Ideal) (res m c) := by
  rw [flushed6, out6]
  funext j
  rw [View.read_apply]
  refine (congrArg (block (F := Ideal) _ _ _ _ _ _) (eq_ix2 (n0 := 512) (n1 := 512) j)).trans ((block_apply m c t (j 0) (j 1)).trans ?_)
  show res m c _ = res m c _
  congr 1
  funext a
  apply Fin.ext
  match a with
  | ⟨0, _⟩ => show 512 * t.val + (j 0).val = win0_6.index t 0 * 512 + 1 * (j 0).val; rw [(index6 t).1]; omega
  | ⟨1, _⟩ => show (j 1).val = win0_6.index t 1 * 512 + 1 * (j 1).val; rw [(index6 t).2]; omega

theorem cover6 (i : S4096x512.Idx) (t : Fin cfg0.N) (ht : t.val = (i 0).val / 512) : i ∈ ((View.whole main_v2).slice (win0_6.rect t)).set := by
  rw [View.set_slice_whole, Rect.mem_set_unit]
  intro a
  have h0 : (i 0 : Nat) < 4096 := (i 0).isLt
  have h1 : (i 1 : Nat) < 512 := (i 1).isLt
  match a with
  | ⟨0, _⟩ => show win0_6.index t 0 * 512 ≤ (i 0 : Nat) ∧ (i 0 : Nat) < win0_6.index t 0 * 512 + win0_6.xsize (grid0.coords t) 0
              rw [(index6 t).1, (size6 t).1]; omega
  | ⟨1, _⟩ => show win0_6.index t 1 * 512 ≤ (i 1 : Nat) ∧ (i 1 : Nat) < win0_6.index t 1 * 512 + win0_6.xsize (grid0.coords t) 1
              rw [(index6 t).2, (size6 t).2]; omega

/-- The result array. -/
theorem final6 : (dats m 0 c).arrAt 6 cfg0.N = res m c :=
  (dats m 0 c).arrAt_eq_of_cover 6 (res m c) (flushed6_eq m c) fun i =>
    ⟨⟨((i : S4096x512.Idx) 0).val / 512, by rw [show cfg0.N = 8 from N_0]; exact Nat.div_lt_of_lt_mul ((i : S4096x512.Idx) 0).isLt⟩, flush0_6 _, cover6 i _ rfl⟩

/-- The kernel's run ends with the formula's array of its arguments, which are unchanged. -/
theorem run : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final6 m c), (h c).2⟩) (run_blocks m ρ)

end Cert.GateKernelIdeal.Value

end
-- ==== Proof.GateEquation.lean ====
/- The reference of the forward gated unit, read at an entry, and the equation of the two programs. The reference's arrays come
   in two layouts: rows by columns, and chunk, row in the chunk, group, column in the group. -/
module

public import proofs.«01_k».proof.Defs
public import proofs.«01_k».proof.Proof.Gen.GateReferenceIdeal.Read
public import proofs.«01_k».proof.Proof.GateFinal
public import Idealize.ShloMosaic.Adequacy
public import Idealize.ShloMosaic.Init

@[expose] public section

set_option maxHeartbeats 1000000

noncomputable section

open Idealize.ShloMosaic Idealize.ShloMosaic.TcCoe Idealize.SL.Sem

namespace Cert.GateReferenceIdeal.Entry

open Cert.GateReferenceIdeal Cert.GateReferenceIdeal.Gen Cert.GateReferenceIdeal.Read

variable (z : S4096x3584.Idx → EReal) (sg : S1x512.Idx → EReal) (ws : S4x128x128.Idx → EReal) (bs : S4x128.Idx → EReal)

/-- Row `p` of chunk `n`, column `c` of group `g`, in the layout by rows. -/
abbrev flat (n : Fin 32) (g : Fin 4) (p c : Fin 128) : S1x4096x512.Idx := ix3 0 (Spec.row n p) ⟨128 * g.val + c.val, by omega⟩

/-- The layouts' reading of each other. -/
theorem flat_idx (n : Fin 32) (g : Fin 4) (p c : Fin 128) : idx_main_v21 (ix5 0 n p g c) = flat n g p c := by
  funext a
  match a with
  | ⟨0, _⟩ => rfl
  | ⟨1, _⟩ => exact Fin.ext (by show ((((0 * 32 + n.val) * 128 + p.val) * 4 + g.val) * 128 + c.val) / 512 % 4096 = 128 * n.val + p.val; omega)
  | ⟨2, _⟩ => exact Fin.ext (by show ((((0 * 32 + n.val) * 128 + p.val) * 4 + g.val) * 128 + c.val) % 512 = 128 * g.val + c.val; omega)
theorem five_idx (n : Fin 32) (g : Fin 4) (p c : Fin 128) : idx_main_v43 (flat n g p c) = ix5 0 n p g c := by
  funext a
  match a with
  | ⟨0, _⟩ => rfl
  | ⟨1, _⟩ => exact Fin.ext (by show ((0 * 4096 + (128 * n.val + p.val)) * 512 + (128 * g.val + c.val)) / 65536 % 32 = n.val; omega)
  | ⟨2, _⟩ => exact Fin.ext (by show ((0 * 4096 + (128 * n.val + p.val)) * 512 + (128 * g.val + c.val)) / 512 % 128 = p.val; omega)
  | ⟨3, _⟩ => exact Fin.ext (by show ((0 * 4096 + (128 * n.val + p.val)) * 512 + (128 * g.val + c.val)) / 128 % 4 = g.val; omega)
  | ⟨4, _⟩ => exact Fin.ext (by show ((0 * 4096 + (128 * n.val + p.val)) * 512 + (128 * g.val + c.val)) % 128 = c.val; omega)

/-- One minus the error function at the negated argument is one plus it at the argument. -/
theorem cdf_eq (x : EReal) : Ideal.erfc (-x * Ideal.ofBits .f32 0x3F3504F3#32) = Spec.cdf x := by
  rw [EReal.neg_mul, Ideal.erfc_neg]; rfl

theorem v3_flat (n : Fin 32) (g : Fin 4) (p c : Fin 128) : val_main_v3 (F := Ideal) z (flat n g p c) = Spec.zu z n g p c := by
  pointwise [val_main_v3, val_main_v0, Spec.zu]
theorem v4_flat (n : Fin 32) (g : Fin 4) (p c : Fin 128) : val_main_v4 (F := Ideal) z (flat n g p c) = Spec.zv z n g p c := by
  pointwise [val_main_v4, val_main_v1, Spec.zv]
theorem v5_flat (n : Fin 32) (g : Fin 4) (p c : Fin 128) : val_main_v5 (F := Ideal) z (flat n g p c) = Spec.zg z n g p c := by
  pointwise [val_main_v5, val_main_v2, Spec.zg]
theorem v13_flat (n : Fin 32) (g : Fin 4) (p c : Fin 128) : val_main_v13 (F := Ideal) z (flat n g p c) = Spec.gu z n g p c := by
  pointwise [val_main_v13, val_main_v8, val_main_v7, val_main_cst, val_main_v12, val_main_v11, val_main_v9, val_main_v10, val_main_cst_0, v3_flat, cdf_eq, Spec.gu, Spec.gelu, Spec.half]
theorem v20_flat (n : Fin 32) (g : Fin 4) (p c : Fin 128) : val_main_v20 (F := Ideal) z (flat n g p c) = Spec.gv z n g p c := by
  pointwise [val_main_v20, val_main_v15, val_main_v14, val_main_cst_1, val_main_v19, val_main_v18, val_main_v16, val_main_v17, val_main_cst_2, v4_flat, cdf_eq, Spec.gv, Spec.gelu, Spec.half]
theorem v21_five (n : Fin 32) (g : Fin 4) (p c : Fin 128) : val_main_v21 (F := Ideal) z (ix5 0 n p g c) = Spec.gv z n g p c :=
  (val_main_v21_apply (F := Ideal) z _).trans ((congrArg _ (flat_idx n g p c)).trans (v20_flat z n g p c))

/-! ## The rows' scale and the mixed rows -/

theorem v29_entry (n : Fin 32) (g : Fin 4) (p : Fin 128) (q : Fin 1) : val_main_v29 (F := Ideal) z (ix5 0 n p g q) = Spec.ms (Spec.gv z n g) p := by
  pointwise [val_main_v29, val_main_v27, val_main_v28, val_main_v26, val_main_v25, val_main_v24, val_main_v23, val_main_cst_3, val_main_cst_4, val_main_cst_5, v21_five, Spec.ms]
theorem v30_entry (n : Fin 32) (g : Fin 4) (p : Fin 128) (q : Fin 1) : val_main_v30 (F := Ideal) z (ix5 0 n p g q) = Spec.rs (Spec.gv z n g) p := by
  pointwise [val_main_v30, v29_entry, Spec.rs]
theorem v32_entry (n : Fin 32) (g : Fin 4) (p c : Fin 128) : val_main_v32 (F := Ideal) z (ix5 0 n p g c) = Spec.nrm (Spec.gv z n g) p c := by
  pointwise [val_main_v32, val_main_v31, v30_entry, v21_five, Spec.nrm]
theorem v22_entry (g : Fin 4) (c : Fin 128) : val_main_v22 (F := Ideal) sg (ix2 g c) = Spec.gs sg g c := by
  pointwise [val_main_v22, val_main_v6, Spec.gs, Nat.mul_comm]
theorem v35_entry (n : Fin 32) (g : Fin 4) (p c : Fin 128) : val_main_v35 (F := Ideal) z sg (ix5 0 n p g c) = Spec.vn (Spec.gv z n g) (Spec.gs sg g) p c := by
  pointwise [val_main_v35, val_main_v34, val_main_v33, v32_entry, v22_entry, Spec.vn]
theorem v42_entry (n : Fin 32) (g : Fin 4) (p c : Fin 128) :
    val_main_v42 (F := Ideal) z sg ws bs (ix5 0 n p g c) = Spec.mix (Spec.gv z n g) (Spec.gw ws g) (Spec.gs sg g) (Spec.gb bs g) p c := by
  pointwise [val_main_v42, val_main_v37, val_main_v36, val_main_v41, val_main_v40, val_main_v39, val_main_v38, v35_entry, Spec.mix, Spec.gw, Spec.gb]
  simp only [mul_comm]
theorem v43_flat (n : Fin 32) (g : Fin 4) (p c : Fin 128) :
    val_main_v43 (F := Ideal) z sg ws bs (flat n g p c) = Spec.mix (Spec.gv z n g) (Spec.gw ws g) (Spec.gs sg g) (Spec.gb bs g) p c :=
  (val_main_v43_apply (F := Ideal) z sg ws bs _).trans ((congrArg _ (five_idx n g p c)).trans (v42_entry z sg ws bs n g p c))

/-! ## The gate and the result -/

theorem v45_flat (n : Fin 32) (g : Fin 4) (p c : Fin 128) :
    val_main_v45 (F := Ideal) z (flat n g p c) = Spec.zg z n g p c * Ideal.logistic (Spec.zg z n g p c) := by
  pointwise [val_main_v45, val_main_call0_v5, val_main_call0_v4, val_main_call0_cst_0, val_main_call0_v3, val_main_call0_v2, val_main_call0_cst, val_main_call0_v1, val_main_call0_v0, v5_flat, Ideal.logistic]
theorem v46_flat (n : Fin 32) (g : Fin 4) (p c : Fin 128) :
    val_main_v46 (F := Ideal) z sg ws bs (flat n g p c) = GateSpec.y z sg ws bs n g p c := by
  pointwise [val_main_v46, val_main_v44, v13_flat, v43_flat, v45_flat, GateSpec.y]

/-- The reference's result. -/
theorem v47_entry (j : S4096x512.Idx) : val_main_v47 (F := Ideal) z sg ws bs j = GateSpec.arr z sg ws bs j := by
  have h0 : (j 0).val < 4096 := (j 0).isLt
  have h1 : (j 1).val < 512 := (j 1).isLt
  refine (val_main_v47_apply (F := Ideal) z sg ws bs j).trans ((congrArg _ ?_).trans
    (v46_flat z sg ws bs ⟨(j 0).val / 128, by omega⟩ ⟨(j 1).val / 128, by omega⟩ ⟨(j 0).val % 128, by omega⟩ ⟨(j 1).val % 128, by omega⟩))
  funext a
  match a with
  | ⟨0, _⟩ => exact Subsingleton.elim (α := Fin 1) _ _
  | ⟨1, _⟩ => exact Fin.ext (by show ((j 0).val * 512 + (j 1).val) / 512 % 4096 = 128 * ((j 0).val / 128) + (j 0).val % 128; omega)
  | ⟨2, _⟩ => exact Fin.ext (by show ((j 0).val * 512 + (j 1).val) % 512 = 128 * ((j 1).val / 128) + (j 1).val % 128; omega)

end Cert.GateReferenceIdeal.Entry

namespace Cert.Proof

/-- From agreeing arguments the two programs end with equal results. -/
theorem algebraic_gate : Cert.algebraic_GateKernelIdeal_GateReferenceIdeal (hGateKernelIdeal := Cert.GateKernelIdeal.Gen.facts)
    (hGateReferenceIdeal := Cert.GateReferenceIdeal.Gen.facts) :=
  fun m ρ m' ρ' _ hag =>
    ⟨Cert.GateKernelIdeal.Value.res m, Cert.GateKernelIdeal.Value.run m ρ,
      (θ_run _ _ _).mono (fun _ h c => by
        obtain ⟨e0, e1, e2, e3⟩ := hag c
        refine ⟨(h c).1.trans ((Cert.GateReferenceIdeal.Read.val_main_v47_eq m' c).trans (funext fun j => ?_)), (h c).2⟩
        refine (Cert.GateReferenceIdeal.Entry.v47_entry _ _ _ _ j).trans ?_
        rw [e0, e1, e2, e3]) (Cert.GateReferenceIdeal.Value.run m' ρ')⟩

/-- The reference's run leaves the arguments as they are; it declares no semaphore. -/
theorem reference_frame_gate : Cert.quiescent_GateReferenceIdeal (hGateReferenceIdeal := Cert.GateReferenceIdeal.Gen.facts) := fun m ρ _ =>
  (θ_run _ _ _).mono (fun r h => ⟨fun c => (h c).2, Idealize.ShloMosaic.sem_eq_zero_of_no_sems (by decide) r.2⟩) (Cert.GateReferenceIdeal.Value.run m ρ)

end Cert.Proof

end
-- ==== Proof.lean ====
/- The certificate's theorem: ten calls of one training step on one device, each against the derivative or the value
   of the plain formula. For each of the ten there is a kernel, its reading over the extended reals, and a
   reference over the extended reals:

   * `Kernel`, `KernelIdeal`, `ReferenceIdeal`: the gradient of the chunked spatial gating unit;
   * `InKernel`, `InKernelIdeal`, `InReferenceIdeal`: the gradient of the modulated norm and the input projection;
   * `OutKernel`, `OutKernelIdeal`, `OutReferenceIdeal`: the output projection with the loss and its gradient;
   * `DwKernel`, `DwKernelIdeal`, `DwReferenceIdeal`: the gradient of the input projection's weight;
   * `CtxKernel`, `CtxKernelIdeal`, `CtxReferenceIdeal`: the gradient of the context tokens' modulated norm;
   * `GateKernel`, `GateKernelIdeal`, `GateReferenceIdeal`: the chunked spatial gating unit;
   * `AdamIn…`, `AdamOut…`, `AdamAda…`: the optimiser's step of three weight matrices;
   * `AdamSmall…`: the optimiser's step of the nine small weights.

   Every program runs to its end without fault, leaves its arguments as they were and every semaphore counter at
   zero. Each kernel's ideal reading changes no operation, and computes what its reference computes. -/
module

public import proofs.«01_k».proof.Defs
public import proofs.«01_k».proof.Proof.Gen.KernelIdeal.Value
public import proofs.«01_k».proof.Proof.Gen.ReferenceIdeal.Read
public import proofs.«01_k».proof.Proof.Equation
public import proofs.«01_k».proof.Proof.InEquation
public import proofs.«01_k».proof.Proof.OutEquation
public import proofs.«01_k».proof.Proof.DwEquation
public import proofs.«01_k».proof.Proof.CtxEquation
public import proofs.«01_k».proof.Proof.AdamBig
public import proofs.«01_k».proof.Proof.AdamSmall
public import proofs.«01_k».proof.Proof.GateEquation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InKernelIdeal.Value
public import proofs.«01_k».proof.Proof.Gen.InReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.OutKernelIdeal.Value
public import proofs.«01_k».proof.Proof.Gen.OutReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.DwKernelIdeal.Value
public import proofs.«01_k».proof.Proof.Gen.DwReferenceIdeal.Read
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.CtxKernelIdeal.Value
public import proofs.«01_k».proof.Proof.Gen.CtxReferenceIdeal.Read
public import proofs.«01_k».proof.Proof.Gen.CtxKernel
public import proofs.«01_k».proof.Proof.Gen.CtxKernel.Skeleton
public import proofs.«01_k».proof.Proof.Gen.CtxKernel.Launch
public import proofs.«01_k».proof.Proof.Gen.CtxKernel.Points
public import proofs.«01_k».proof.Proof.Gen.CtxKernel.Frame
public import proofs.«01_k».proof.Proof.Gen.CtxKernelIdeal
public import proofs.«01_k».proof.Proof.Gen.CtxKernelIdeal.Skeleton
public import proofs.«01_k».proof.Proof.Gen.CtxKernelIdeal.Launch
public import proofs.«01_k».proof.Proof.Gen.CtxKernelIdeal.Points
public import proofs.«01_k».proof.Proof.Gen.CtxKernelIdeal.Frame
public import proofs.«01_k».proof.Proof.Gen.CtxReferenceIdeal
public import proofs.«01_k».proof.Proof.Gen.GateKernelIdeal.Value
public import proofs.«01_k».proof.Proof.Gen.GateReferenceIdeal.Read
public import proofs.«01_k».proof.Proof.Gen.AdamInKernelIdeal.Value
public import proofs.«01_k».proof.Proof.Gen.AdamInReferenceIdeal.Read
public import proofs.«01_k».proof.Proof.Gen.AdamOutKernelIdeal.Value
public import proofs.«01_k».proof.Proof.Gen.AdamOutReferenceIdeal.Read
public import proofs.«01_k».proof.Proof.Gen.AdamAdaKernelIdeal.Value
public import proofs.«01_k».proof.Proof.Gen.AdamAdaReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.AdamInKernel
public import proofs.«01_k».proof.Proof.Gen.AdamInKernel.Skeleton
public import proofs.«01_k».proof.Proof.Gen.AdamInKernel.Launch
public import proofs.«01_k».proof.Proof.Gen.AdamInKernel.Points
public import proofs.«01_k».proof.Proof.Gen.AdamInKernel.Frame
public import proofs.«01_k».proof.Proof.Gen.AdamInKernelIdeal
public import proofs.«01_k».proof.Proof.Gen.AdamInKernelIdeal.Skeleton
public import proofs.«01_k».proof.Proof.Gen.AdamInKernelIdeal.Launch
public import proofs.«01_k».proof.Proof.Gen.AdamInKernelIdeal.Points
public import proofs.«01_k».proof.Proof.Gen.AdamInKernelIdeal.Frame
public import proofs.«01_k».proof.Proof.Gen.AdamInReferenceIdeal
public import proofs.«01_k».proof.Proof.Gen.AdamOutKernel
public import proofs.«01_k».proof.Proof.Gen.AdamOutKernel.Skeleton
public import proofs.«01_k».proof.Proof.Gen.AdamOutKernel.Launch
public import proofs.«01_k».proof.Proof.Gen.AdamOutKernel.Points
public import proofs.«01_k».proof.Proof.Gen.AdamOutKernel.Frame
public import proofs.«01_k».proof.Proof.Gen.AdamOutKernelIdeal
public import proofs.«01_k».proof.Proof.Gen.AdamOutKernelIdeal.Skeleton
public import proofs.«01_k».proof.Proof.Gen.AdamOutKernelIdeal.Launch
public import proofs.«01_k».proof.Proof.Gen.AdamOutKernelIdeal.Points
public import proofs.«01_k».proof.Proof.Gen.AdamOutKernelIdeal.Frame
public import proofs.«01_k».proof.Proof.Gen.AdamOutReferenceIdeal
public import proofs.«01_k».proof.Proof.Gen.AdamAdaKernel
public import proofs.«01_k».proof.Proof.Gen.AdamAdaKernel.Skeleton
public import proofs.«01_k».proof.Proof.Gen.AdamAdaKernel.Launch
public import proofs.«01_k».proof.Proof.Gen.AdamAdaKernel.Points
public import proofs.«01_k».proof.Proof.Gen.AdamAdaKernel.Frame
public import proofs.«01_k».proof.Proof.Gen.AdamAdaKernelIdeal
public import proofs.«01_k».proof.Proof.Gen.AdamAdaKernelIdeal.Skeleton
public import proofs.«01_k».proof.Proof.Gen.AdamAdaKernelIdeal.Launch
public import proofs.«01_k».proof.Proof.Gen.AdamAdaKernelIdeal.Points
public import proofs.«01_k».proof.Proof.Gen.AdamAdaKernelIdeal.Frame
public import proofs.«01_k».proof.Proof.Gen.AdamAdaReferenceIdeal
public import proofs.«01_k».proof.Proof.Gen.AdamSmallKernel
public import proofs.«01_k».proof.Proof.Gen.AdamSmallKernel.Skeleton
public import proofs.«01_k».proof.Proof.Gen.AdamSmallKernel.Launch
public import proofs.«01_k».proof.Proof.Gen.AdamSmallKernel.Points
public import proofs.«01_k».proof.Proof.Gen.AdamSmallKernelIdeal
public import proofs.«01_k».proof.Proof.Gen.AdamSmallKernelIdeal.Skeleton
public import proofs.«01_k».proof.Proof.Gen.AdamSmallKernelIdeal.Launch
public import proofs.«01_k».proof.Proof.Gen.AdamSmallKernelIdeal.Points
public import proofs.«01_k».proof.Proof.Gen.AdamSmallReferenceIdeal.Read
public import proofs.«01_k».proof.Proof.Gen.AdamSmallReferenceIdeal
public import Idealize.ShloMosaic.Adequacy
public import Idealize.ShloMosaic.Init

@[expose] public section

noncomputable section

namespace Cert.Proof

open Idealize.ShloMosaic Idealize.SL.Sem Cert.Kernel

/-- The thirty frames, the ten idealizations (which rewrote nothing) and the ten value claims. -/
theorem claim : Cert.Claim :=
  ⟨Cert.Kernel.Gen.facts,
    Cert.KernelIdeal.Gen.facts,
    Cert.ReferenceIdeal.Gen.facts,
    Cert.InKernel.Gen.facts,
    Cert.InKernelIdeal.Gen.facts,
    Cert.InReferenceIdeal.Gen.facts,
    Cert.OutKernel.Gen.facts,
    Cert.OutKernelIdeal.Gen.facts,
    Cert.OutReferenceIdeal.Gen.facts,
    Cert.DwKernel.Gen.facts,
    Cert.DwKernelIdeal.Gen.facts,
    Cert.DwReferenceIdeal.Gen.facts,
    Cert.GateKernel.Gen.facts,
    Cert.GateKernelIdeal.Gen.facts,
    Cert.GateReferenceIdeal.Gen.facts,
    Cert.AdamInKernel.Gen.facts,
    Cert.AdamInKernelIdeal.Gen.facts,
    Cert.AdamInReferenceIdeal.Gen.facts,
    Cert.AdamOutKernel.Gen.facts,
    Cert.AdamOutKernelIdeal.Gen.facts,
    Cert.AdamOutReferenceIdeal.Gen.facts,
    Cert.AdamAdaKernel.Gen.facts,
    Cert.AdamAdaKernelIdeal.Gen.facts,
    Cert.AdamAdaReferenceIdeal.Gen.facts,
    Cert.AdamSmallKernel.Gen.facts,
    Cert.AdamSmallKernelIdeal.Gen.facts,
    Cert.AdamSmallReferenceIdeal.Gen.facts,
    Cert.CtxKernel.Gen.facts,
    Cert.CtxKernelIdeal.Gen.facts,
    Cert.CtxReferenceIdeal.Gen.facts,
    fun m ρ _ => Cert.Kernel.Gen.frame m ρ,
    fun m ρ _ => Cert.KernelIdeal.Gen.frame m ρ,
    reference_frame,
    fun m ρ _ => Cert.InKernel.Gen.frame m ρ,
    fun m ρ _ => Cert.InKernelIdeal.Gen.frame m ρ,
    reference_frame_in,
    fun m ρ _ => Cert.OutKernel.Gen.frame m ρ,
    fun m ρ _ => Cert.OutKernelIdeal.Gen.frame m ρ,
    reference_frame_out,
    fun m ρ _ => Cert.DwKernel.Gen.frame m ρ,
    fun m ρ _ => Cert.DwKernelIdeal.Gen.frame m ρ,
    reference_frame_dw,
    fun m ρ _ => Cert.GateKernel.Gen.frame m ρ,
    fun m ρ _ => Cert.GateKernelIdeal.Gen.frame m ρ,
    reference_frame_gate,
    fun m ρ _ => Cert.AdamInKernel.Gen.frame m ρ,
    fun m ρ _ => Cert.AdamInKernelIdeal.Gen.frame m ρ,
    reference_frame_adam_in,
    fun m ρ _ => Cert.AdamOutKernel.Gen.frame m ρ,
    fun m ρ _ => Cert.AdamOutKernelIdeal.Gen.frame m ρ,
    reference_frame_adam_out,
    fun m ρ _ => Cert.AdamAdaKernel.Gen.frame m ρ,
    fun m ρ _ => Cert.AdamAdaKernelIdeal.Gen.frame m ρ,
    reference_frame_adam_ada,
    frame_adam_small,
    frame_adam_small_ideal,
    reference_frame_adam_small,
    fun m ρ _ => Cert.CtxKernel.Gen.frame m ρ,
    fun m ρ _ => Cert.CtxKernelIdeal.Gen.frame m ρ,
    reference_frame_ctx,
    trivial, algebraic,
    trivial, algebraic_in,
    trivial, algebraic_out,
    trivial, algebraic_dw,
    trivial, algebraic_gate,
    trivial, algebraic_adam_in,
    trivial, algebraic_adam_out,
    trivial, algebraic_adam_ada,
    trivial, algebraic_adam_small,
    trivial, algebraic_ctx⟩

end Cert.Proof

end
